-- ==== Defs.lean ====
def Pre_Attention (m : (ℓ : Loc Cert.Attention.nD Cert.Attention.τ Cert.Attention.sig) → Buf (Elt Bits) ℓ) : Prop :=
  True

def Pre_AttentionIdeal (m : (ℓ : Loc Cert.AttentionIdeal.nD Cert.AttentionIdeal.τ Cert.AttentionIdeal.sig) → Buf (Elt Ideal) ℓ) : Prop :=
  True

def Pre_AttentionIdeal_finite [hPre_finite : Cert.Pre_finite.Facts] (m : (ℓ : Loc Cert.AttentionIdeal.nD Cert.AttentionIdeal.τ Cert.AttentionIdeal.sig) → Buf (Elt Ideal) ℓ) : Prop :=
  ∀ c : Dev Cert.AttentionIdeal.nD,
    (Cert.Pre_finite.fn (F := Ideal) (m ((c.tc : Thread Cert.AttentionIdeal.nD Cert.AttentionIdeal.τ).loc Cert.AttentionIdeal.main_arg0))) = (fun _ => 1#1)

def Pre_AttentionRefIdeal (m : (ℓ : Loc Cert.AttentionRefIdeal.nD Cert.AttentionRefIdeal.τ Cert.AttentionRefIdeal.sig) → Buf (Elt Ideal) ℓ) : Prop :=
  True

def Pre_AttentionRefIdeal_finite [hPre_finite : Cert.Pre_finite.Facts] (m : (ℓ : Loc Cert.AttentionRefIdeal.nD Cert.AttentionRefIdeal.τ Cert.AttentionRefIdeal.sig) → Buf (Elt Ideal) ℓ) : Prop :=
  ∀ c : Dev Cert.AttentionRefIdeal.nD,
    (Cert.Pre_finite.fn (F := Ideal) (m ((c.tc : Thread Cert.AttentionRefIdeal.nD Cert.AttentionRefIdeal.τ).loc Cert.AttentionRefIdeal.main_arg0))) = (fun _ => 1#1)

def Pre_Projection (m : (ℓ : Loc Cert.Projection.nD Cert.Projection.τ Cert.Projection.sig) → Buf (Elt Bits) ℓ) : Prop :=
  True

def Pre_ProjectionIdeal (m : (ℓ : Loc Cert.ProjectionIdeal.nD Cert.ProjectionIdeal.τ Cert.ProjectionIdeal.sig) → Buf (Elt Ideal) ℓ) : Prop :=
  True

def Pre_ProjectionRefIdeal (m : (ℓ : Loc Cert.ProjectionRefIdeal.nD Cert.ProjectionRefIdeal.τ Cert.ProjectionRefIdeal.sig) → Buf (Elt Ideal) ℓ) : Prop :=
  True

def Pre_Experts [hPre_schedule : Cert.Pre_schedule.Facts] (m : (ℓ : Loc Cert.Experts.nD Cert.Experts.τ Cert.Experts.sig) → Buf (Elt Bits) ℓ) : Prop :=
  ∀ c : Dev Cert.Experts.nD,
    (Cert.Pre_schedule.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6)) (m ((c.tc : Thread Cert.Experts.nD Cert.Experts.τ).loc Cert.Experts.main_arg7))) = (fun _ => 1#1)

def Pre_ExpertsIdeal [hPre_schedule : Cert.Pre_schedule.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_schedule.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_schedule [hPre_schedule : Cert.Pre_schedule.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_schedule.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6)) (m ((c.tc : Thread Cert.ExpertsRefIdeal.nD Cert.ExpertsRefIdeal.τ).loc Cert.ExpertsRefIdeal.main_arg7))) = (fun _ => 1#1)

def Pre_Experts1 [hPre_schedule : Cert.Pre_schedule.Facts] (m : (ℓ : Loc Cert.Experts1.nD Cert.Experts1.τ Cert.Experts1.sig) → Buf (Elt Bits) ℓ) : Prop :=
  ∀ c : Dev Cert.Experts1.nD,
    (Cert.Pre_schedule.fn (F := Bits) (m ((c.tc : Thread Cert.Experts1.nD Cert.Experts1.τ).loc Cert.Experts1.main_arg0)) (m ((c.tc : Thread Cert.Experts1.nD Cert.Experts1.τ).loc Cert.Experts1.main_arg1)) (m ((c.tc : Thread Cert.Experts1.nD Cert.Experts1.τ).loc Cert.Experts1.main_arg2)) (m ((c.tc : Thread Cert.Experts1.nD Cert.Experts1.τ).loc Cert.Experts1.main_arg3)) (m ((c.tc : Thread Cert.Experts1.nD Cert.Experts1.τ).loc Cert.Experts1.main_arg4)) (m ((c.tc : Thread Cert.Experts1.nD Cert.Experts1.τ).loc Cert.Experts1.main_arg5)) (m ((c.tc : Thread Cert.Experts1.nD Cert.Experts1.τ).loc Cert.Experts1.main_arg6)) (m ((c.tc : Thread Cert.Experts1.nD Cert.Experts1.τ).loc Cert.Experts1.main_arg7))) = (fun _ => 1#1)

def Pre_Experts1Ideal [hPre_schedule : Cert.Pre_schedule.Facts] (m : (ℓ : Loc Cert.Experts1Ideal.nD Cert.Experts1Ideal.τ Cert.Experts1Ideal.sig) → Buf (Elt Ideal) ℓ) : Prop :=
  ∀ c : Dev Cert.Experts1Ideal.nD,
    (Cert.Pre_schedule.fn (F := Ideal) (m ((c.tc : Thread Cert.Experts1Ideal.nD Cert.Experts1Ideal.τ).loc Cert.Experts1Ideal.main_arg0)) (m ((c.tc : Thread Cert.Experts1Ideal.nD Cert.Experts1Ideal.τ).loc Cert.Experts1Ideal.main_arg1)) (m ((c.tc : Thread Cert.Experts1Ideal.nD Cert.Experts1Ideal.τ).loc Cert.Experts1Ideal.main_arg2)) (m ((c.tc : Thread Cert.Experts1Ideal.nD Cert.Experts1Ideal.τ).loc Cert.Experts1Ideal.main_arg3)) (m ((c.tc : Thread Cert.Experts1Ideal.nD Cert.Experts1Ideal.τ).loc Cert.Experts1Ideal.main_arg4)) (m ((c.tc : Thread Cert.Experts1Ideal.nD Cert.Experts1Ideal.τ).loc Cert.Experts1Ideal.main_arg5)) (m ((c.tc : Thread Cert.Experts1Ideal.nD Cert.Experts1Ideal.τ).loc Cert.Experts1Ideal.main_arg6)) (m ((c.tc : Thread Cert.Experts1Ideal.nD Cert.Experts1Ideal.τ).loc Cert.Experts1Ideal.main_arg7))) = (fun _ => 1#1)

def Pre_Experts1RefIdeal (m : (ℓ : Loc Cert.Experts1RefIdeal.nD Cert.Experts1RefIdeal.τ Cert.Experts1RefIdeal.sig) → Buf (Elt Ideal) ℓ) : Prop :=
  True

def Pre_Experts1RefIdeal_schedule [hPre_schedule : Cert.Pre_schedule.Facts] (m : (ℓ : Loc Cert.Experts1RefIdeal.nD Cert.Experts1RefIdeal.τ Cert.Experts1RefIdeal.sig) → Buf (Elt Ideal) ℓ) : Prop :=
  ∀ c : Dev Cert.Experts1RefIdeal.nD,
    (Cert.Pre_schedule.fn (F := Ideal) (m ((c.tc : Thread Cert.Experts1RefIdeal.nD Cert.Experts1RefIdeal.τ).loc Cert.Experts1RefIdeal.main_arg0)) (m ((c.tc : Thread Cert.Experts1RefIdeal.nD Cert.Experts1RefIdeal.τ).loc Cert.Experts1RefIdeal.main_arg1)) (m ((c.tc : Thread Cert.Experts1RefIdeal.nD Cert.Experts1RefIdeal.τ).loc Cert.Experts1RefIdeal.main_arg2)) (m ((c.tc : Thread Cert.Experts1RefIdeal.nD Cert.Experts1RefIdeal.τ).loc Cert.Experts1RefIdeal.main_arg3)) (m ((c.tc : Thread Cert.Experts1RefIdeal.nD Cert.Experts1RefIdeal.τ).loc Cert.Experts1RefIdeal.main_arg4)) (m ((c.tc : Thread Cert.Experts1RefIdeal.nD Cert.Experts1RefIdeal.τ).loc Cert.Experts1RefIdeal.main_arg5)) (m ((c.tc : Thread Cert.Experts1RefIdeal.nD Cert.Experts1RefIdeal.τ).loc Cert.Experts1RefIdeal.main_arg6)) (m ((c.tc : Thread Cert.Experts1RefIdeal.nD Cert.Experts1RefIdeal.τ).loc Cert.Experts1RefIdeal.main_arg7))) = (fun _ => 1#1)

def Pre_Experts2 [hPre_schedule : Cert.Pre_schedule.Facts] (m : (ℓ : Loc Cert.Experts2.nD Cert.Experts2.τ Cert.Experts2.sig) → Buf (Elt Bits) ℓ) : Prop :=
  ∀ c : Dev Cert.Experts2.nD,
    (Cert.Pre_schedule.fn (F := Bits) (m ((c.tc : Thread Cert.Experts2.nD Cert.Experts2.τ).loc Cert.Experts2.main_arg0)) (m ((c.tc : Thread Cert.Experts2.nD Cert.Experts2.τ).loc Cert.Experts2.main_arg1)) (m ((c.tc : Thread Cert.Experts2.nD Cert.Experts2.τ).loc Cert.Experts2.main_arg2)) (m ((c.tc : Thread Cert.Experts2.nD Cert.Experts2.τ).loc Cert.Experts2.main_arg3)) (m ((c.tc : Thread Cert.Experts2.nD Cert.Experts2.τ).loc Cert.Experts2.main_arg4)) (m ((c.tc : Thread Cert.Experts2.nD Cert.Experts2.τ).loc Cert.Experts2.main_arg5)) (m ((c.tc : Thread Cert.Experts2.nD Cert.Experts2.τ).loc Cert.Experts2.main_arg6)) (m ((c.tc : Thread Cert.Experts2.nD Cert.Experts2.τ).loc Cert.Experts2.main_arg7))) = (fun _ => 1#1)

def Pre_Experts2Ideal [hPre_schedule : Cert.Pre_schedule.Facts] (m : (ℓ : Loc Cert.Experts2Ideal.nD Cert.Experts2Ideal.τ Cert.Experts2Ideal.sig) → Buf (Elt Ideal) ℓ) : Prop :=
  ∀ c : Dev Cert.Experts2Ideal.nD,
    (Cert.Pre_schedule.fn (F := Ideal) (m ((c.tc : Thread Cert.Experts2Ideal.nD Cert.Experts2Ideal.τ).loc Cert.Experts2Ideal.main_arg0)) (m ((c.tc : Thread Cert.Experts2Ideal.nD Cert.Experts2Ideal.τ).loc Cert.Experts2Ideal.main_arg1)) (m ((c.tc : Thread Cert.Experts2Ideal.nD Cert.Experts2Ideal.τ).loc Cert.Experts2Ideal.main_arg2)) (m ((c.tc : Thread Cert.Experts2Ideal.nD Cert.Experts2Ideal.τ).loc Cert.Experts2Ideal.main_arg3)) (m ((c.tc : Thread Cert.Experts2Ideal.nD Cert.Experts2Ideal.τ).loc Cert.Experts2Ideal.main_arg4)) (m ((c.tc : Thread Cert.Experts2Ideal.nD Cert.Experts2Ideal.τ).loc Cert.Experts2Ideal.main_arg5)) (m ((c.tc : Thread Cert.Experts2Ideal.nD Cert.Experts2Ideal.τ).loc Cert.Experts2Ideal.main_arg6)) (m ((c.tc : Thread Cert.Experts2Ideal.nD Cert.Experts2Ideal.τ).loc Cert.Experts2Ideal.main_arg7))) = (fun _ => 1#1)

def Pre_Experts2RefIdeal (m : (ℓ : Loc Cert.Experts2RefIdeal.nD Cert.Experts2RefIdeal.τ Cert.Experts2RefIdeal.sig) → Buf (Elt Ideal) ℓ) : Prop :=
  True

def Pre_Experts2RefIdeal_schedule [hPre_schedule : Cert.Pre_schedule.Facts] (m : (ℓ : Loc Cert.Experts2RefIdeal.nD Cert.Experts2RefIdeal.τ Cert.Experts2RefIdeal.sig) → Buf (Elt Ideal) ℓ) : Prop :=
  ∀ c : Dev Cert.Experts2RefIdeal.nD,
    (Cert.Pre_schedule.fn (F := Ideal) (m ((c.tc : Thread Cert.Experts2RefIdeal.nD Cert.Experts2RefIdeal.τ).loc Cert.Experts2RefIdeal.main_arg0)) (m ((c.tc : Thread Cert.Experts2RefIdeal.nD Cert.Experts2RefIdeal.τ).loc Cert.Experts2RefIdeal.main_arg1)) (m ((c.tc : Thread Cert.Experts2RefIdeal.nD Cert.Experts2RefIdeal.τ).loc Cert.Experts2RefIdeal.main_arg2)) (m ((c.tc : Thread Cert.Experts2RefIdeal.nD Cert.Experts2RefIdeal.τ).loc Cert.Experts2RefIdeal.main_arg3)) (m ((c.tc : Thread Cert.Experts2RefIdeal.nD Cert.Experts2RefIdeal.τ).loc Cert.Experts2RefIdeal.main_arg4)) (m ((c.tc : Thread Cert.Experts2RefIdeal.nD Cert.Experts2RefIdeal.τ).loc Cert.Experts2RefIdeal.main_arg5)) (m ((c.tc : Thread Cert.Experts2RefIdeal.nD Cert.Experts2RefIdeal.τ).loc Cert.Experts2RefIdeal.main_arg6)) (m ((c.tc : Thread Cert.Experts2RefIdeal.nD Cert.Experts2RefIdeal.τ).loc Cert.Experts2RefIdeal.main_arg7))) = (fun _ => 1#1)

def Pre_Experts3 [hPre_schedule : Cert.Pre_schedule.Facts] (m : (ℓ : Loc Cert.Experts3.nD Cert.Experts3.τ Cert.Experts3.sig) → Buf (Elt Bits) ℓ) : Prop :=
  ∀ c : Dev Cert.Experts3.nD,
    (Cert.Pre_schedule.fn (F := Bits) (m ((c.tc : Thread Cert.Experts3.nD Cert.Experts3.τ).loc Cert.Experts3.main_arg0)) (m ((c.tc : Thread Cert.Experts3.nD Cert.Experts3.τ).loc Cert.Experts3.main_arg1)) (m ((c.tc : Thread Cert.Experts3.nD Cert.Experts3.τ).loc Cert.Experts3.main_arg2)) (m ((c.tc : Thread Cert.Experts3.nD Cert.Experts3.τ).loc Cert.Experts3.main_arg3)) (m ((c.tc : Thread Cert.Experts3.nD Cert.Experts3.τ).loc Cert.Experts3.main_arg4)) (m ((c.tc : Thread Cert.Experts3.nD Cert.Experts3.τ).loc Cert.Experts3.main_arg5)) (m ((c.tc : Thread Cert.Experts3.nD Cert.Experts3.τ).loc Cert.Experts3.main_arg6)) (m ((c.tc : Thread Cert.Experts3.nD Cert.Experts3.τ).loc Cert.Experts3.main_arg7))) = (fun _ => 1#1)

def Pre_Experts3Ideal [hPre_schedule : Cert.Pre_schedule.Facts] (m : (ℓ : Loc Cert.Experts3Ideal.nD Cert.Experts3Ideal.τ Cert.Experts3Ideal.sig) → Buf (Elt Ideal) ℓ) : Prop :=
  ∀ c : Dev Cert.Experts3Ideal.nD,
    (Cert.Pre_schedule.fn (F := Ideal) (m ((c.tc : Thread Cert.Experts3Ideal.nD Cert.Experts3Ideal.τ).loc Cert.Experts3Ideal.main_arg0)) (m ((c.tc : Thread Cert.Experts3Ideal.nD Cert.Experts3Ideal.τ).loc Cert.Experts3Ideal.main_arg1)) (m ((c.tc : Thread Cert.Experts3Ideal.nD Cert.Experts3Ideal.τ).loc Cert.Experts3Ideal.main_arg2)) (m ((c.tc : Thread Cert.Experts3Ideal.nD Cert.Experts3Ideal.τ).loc Cert.Experts3Ideal.main_arg3)) (m ((c.tc : Thread Cert.Experts3Ideal.nD Cert.Experts3Ideal.τ).loc Cert.Experts3Ideal.main_arg4)) (m ((c.tc : Thread Cert.Experts3Ideal.nD Cert.Experts3Ideal.τ).loc Cert.Experts3Ideal.main_arg5)) (m ((c.tc : Thread Cert.Experts3Ideal.nD Cert.Experts3Ideal.τ).loc Cert.Experts3Ideal.main_arg6)) (m ((c.tc : Thread Cert.Experts3Ideal.nD Cert.Experts3Ideal.τ).loc Cert.Experts3Ideal.main_arg7))) = (fun _ => 1#1)

def Pre_Experts3RefIdeal (m : (ℓ : Loc Cert.Experts3RefIdeal.nD Cert.Experts3RefIdeal.τ Cert.Experts3RefIdeal.sig) → Buf (Elt Ideal) ℓ) : Prop :=
  True

def Pre_Experts3RefIdeal_schedule [hPre_schedule : Cert.Pre_schedule.Facts] (m : (ℓ : Loc Cert.Experts3RefIdeal.nD Cert.Experts3RefIdeal.τ Cert.Experts3RefIdeal.sig) → Buf (Elt Ideal) ℓ) : Prop :=
  ∀ c : Dev Cert.Experts3RefIdeal.nD,
    (Cert.Pre_schedule.fn (F := Ideal) (m ((c.tc : Thread Cert.Experts3RefIdeal.nD Cert.Experts3RefIdeal.τ).loc Cert.Experts3RefIdeal.main_arg0)) (m ((c.tc : Thread Cert.Experts3RefIdeal.nD Cert.Experts3RefIdeal.τ).loc Cert.Experts3RefIdeal.main_arg1)) (m ((c.tc : Thread Cert.Experts3RefIdeal.nD Cert.Experts3RefIdeal.τ).loc Cert.Experts3RefIdeal.main_arg2)) (m ((c.tc : Thread Cert.Experts3RefIdeal.nD Cert.Experts3RefIdeal.τ).loc Cert.Experts3RefIdeal.main_arg3)) (m ((c.tc : Thread Cert.Experts3RefIdeal.nD Cert.Experts3RefIdeal.τ).loc Cert.Experts3RefIdeal.main_arg4)) (m ((c.tc : Thread Cert.Experts3RefIdeal.nD Cert.Experts3RefIdeal.τ).loc Cert.Experts3RefIdeal.main_arg5)) (m ((c.tc : Thread Cert.Experts3RefIdeal.nD Cert.Experts3RefIdeal.τ).loc Cert.Experts3RefIdeal.main_arg6)) (m ((c.tc : Thread Cert.Experts3RefIdeal.nD Cert.Experts3RefIdeal.τ).loc Cert.Experts3RefIdeal.main_arg7))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_rows [hPre_finite_rows : Cert.Pre_finite_rows.Facts] (m : (ℓ : Loc Cert.RouterIdeal.nD Cert.RouterIdeal.τ Cert.RouterIdeal.sig) → Buf (Elt Ideal) ℓ) : Prop :=
  ∀ c : Dev Cert.RouterIdeal.nD,
    (Cert.Pre_finite_rows.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).1 = (fun _ => 1#1)
    ∧ (Cert.Pre_finite_rows.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2)) (m ((c.tc : Thread Cert.RouterIdeal.nD Cert.RouterIdeal.τ).loc Cert.RouterIdeal.main_arg3)) (m ((c.tc : Thread Cert.RouterIdeal.nD Cert.RouterIdeal.τ).loc Cert.RouterIdeal.main_arg4)) (m ((c.tc : Thread Cert.RouterIdeal.nD Cert.RouterIdeal.τ).loc Cert.RouterIdeal.main_arg5)) (m ((c.tc : Thread Cert.RouterIdeal.nD Cert.RouterIdeal.τ).loc Cert.RouterIdeal.main_arg6)) (m ((c.tc : Thread Cert.RouterIdeal.nD Cert.RouterIdeal.τ).loc Cert.RouterIdeal.main_arg7))).2 = (fun _ => 1#1)

def Pre_RouterRefIdeal (m : (ℓ : Loc Cert.RouterRefIdeal.nD Cert.RouterRefIdeal.τ Cert.RouterRefIdeal.sig) → Buf (Elt Ideal) ℓ) : Prop :=
  True

def Pre_RouterRefIdeal_finite_rows [hPre_finite_rows : Cert.Pre_finite_rows.Facts] (m : (ℓ : Loc Cert.RouterRefIdeal.nD Cert.RouterRefIdeal.τ Cert.RouterRefIdeal.sig) → Buf (Elt Ideal) ℓ) : Prop :=
  ∀ c : Dev Cert.RouterRefIdeal.nD,
    (Cert.Pre_finite_rows.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7))).1 = (fun _ => 1#1)
    ∧ (Cert.Pre_finite_rows.fn (F := Ideal) (m ((c.tc : Thread Cert.RouterRefIdeal.nD Cert.RouterRefIdeal.τ).loc Cert.RouterRefIdeal.main_arg0)) (m ((c.tc : Thread Cert.RouterRefIdeal.nD Cert.RouterRefIdeal.τ).loc Cert.RouterRefIdeal.main_arg1)) (m ((c.tc : Thread Cert.RouterRefIdeal.nD Cert.RouterRefIdeal.τ).loc Cert.RouterRefIdeal.main_arg2)) (m ((c.tc : Thread Cert.RouterRefIdeal.nD Cert.RouterRefIdeal.τ).loc Cert.RouterRefIdeal.main_arg3)) (m ((c.tc : Thread Cert.RouterRefIdeal.nD Cert.RouterRefIdeal.τ).loc Cert.RouterRefIdeal.main_arg4)) (m ((c.tc : Thread Cert.RouterRefIdeal.nD Cert.RouterRefIdeal.τ).loc Cert.RouterRefIdeal.main_arg5)) (m ((c.tc : Thread Cert.RouterRefIdeal.nD Cert.RouterRefIdeal.τ).loc Cert.RouterRefIdeal.main_arg6)) (m ((c.tc : Thread Cert.RouterRefIdeal.nD Cert.RouterRefIdeal.τ).loc Cert.RouterRefIdeal.main_arg7))).2 = (fun _ => 1#1)

def Pre_RowsCopy (m : (ℓ : Loc Cert.RowsCopy.nD Cert.RowsCopy.τ Cert.RowsCopy.sig) → Buf (Elt Bits) ℓ) : Prop :=
  True

def Pre_RowsCopyIdeal (m : (ℓ : Loc Cert.RowsCopyIdeal.nD Cert.RowsCopyIdeal.τ Cert.RowsCopyIdeal.sig) → Buf (Elt Ideal) ℓ) : Prop :=
  True

def Pre_RowsCopyRefIdeal (m : (ℓ : Loc Cert.RowsCopyRefIdeal.nD Cert.RowsCopyRefIdeal.τ Cert.RowsCopyRefIdeal.sig) → Buf (Elt Ideal) ℓ) : Prop :=
  True

def quiescent_Attention [hAttention : Cert.Attention.Facts] : Prop :=
  ∀ (m : (ℓ : Loc Cert.Attention.nD Cert.Attention.τ Cert.Attention.sig) → Buf (Elt Bits) ℓ) (g : Dev Cert.Attention.nD → PrngReg), Pre_Attention m →
    θ_run (Cert.Attention.defs (F := Bits)) (onTc (τ := Cert.Attention.τ) (Cert.Attention.main (F := Bits))) ⟨m, fun _ => 0, g⟩ (fun r => (∀ c : Dev Cert.Attention.nD,
      r.2.mem ((c.tc : Thread Cert.Attention.nD Cert.Attention.τ).loc Cert.Attention.main_arg0) = m ((c.tc : Thread Cert.Attention.nD Cert.Attention.τ).loc Cert.Attention.main_arg0))
      ∧ r.2.sem = fun _ => 0)

def quiescent_AttentionIdeal [hAttentionIdeal : Cert.AttentionIdeal.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionIdeal_pre_finite [hAttentionIdeal : Cert.AttentionIdeal.Facts] [hPre_finite : Cert.Pre_finite.Facts] : Prop :=
  ∀ (m : (ℓ : Loc Cert.AttentionIdeal.nD Cert.AttentionIdeal.τ Cert.AttentionIdeal.sig) → Buf (Elt Ideal) ℓ) (g : Dev Cert.AttentionIdeal.nD → PrngReg), Pre_AttentionIdeal_finite m →
    θ_run (Cert.AttentionIdeal.defs (F := Ideal)) (onTc (τ := Cert.AttentionIdeal.τ) (Cert.AttentionIdeal.main (F := Ideal))) ⟨m, fun _ => 0, g⟩ (fun r => (∀ c : Dev Cert.AttentionIdeal.nD,
      r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ r.2.sem = fun _ => 0)

def quiescent_AttentionRefIdeal [hAttentionRefIdeal : Cert.AttentionRefIdeal.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0))
      ∧ r.2.sem = fun _ => 0)

def quiescent_AttentionRefIdeal_pre_finite [hAttentionRefIdeal : Cert.AttentionRefIdeal.Facts] [hPre_finite : Cert.Pre_finite.Facts] : Prop :=
  ∀ (m : (ℓ : Loc Cert.AttentionRefIdeal.nD Cert.AttentionRefIdeal.τ Cert.AttentionRefIdeal.sig) → Buf (Elt Ideal) ℓ) (g : Dev Cert.AttentionRefIdeal.nD → PrngReg), Pre_AttentionRefIdeal_finite m →
    θ_run (Cert.AttentionRefIdeal.defs (F := Ideal)) (onTc (τ := Cert.AttentionRefIdeal.τ) (Cert.AttentionRefIdeal.main (F := Ideal))) ⟨m, fun _ => 0, g⟩ (fun r => (∀ c : Dev Cert.AttentionRefIdeal.nD,
      r.2.mem ((c.tc : Thread Cert.AttentionRefIdeal.nD Cert.AttentionRefIdeal.τ).loc Cert.AttentionRefIdeal.main_arg0) = m ((c.tc : Thread Cert.AttentionRefIdeal.nD Cert.AttentionRefIdeal.τ).loc Cert.AttentionRefIdeal.main_arg0))
      ∧ r.2.sem = fun _ => 0)

def quiescent_Projection [hProjection : Cert.Projection.Facts] : Prop :=
  ∀ (m : (ℓ : Loc Cert.Projection.nD Cert.Projection.τ Cert.Projection.sig) → Buf (Elt Bits) ℓ) (g : Dev Cert.Projection.nD → PrngReg), Pre_Projection m →
    θ_run (Cert.Projection.defs (F := Bits)) (onTc (τ := Cert.Projection.τ) (Cert.Projection.main (F := Bits))) ⟨m, fun _ => 0, g⟩ (fun r => (∀ c : Dev Cert.Projection.nD,
      r.2.mem ((c.tc : Thread Cert.Projection.nD Cert.Projection.τ).loc Cert.Projection.main_arg0) = m ((c.tc : Thread Cert.Projection.nD Cert.Projection.τ).loc Cert.Projection.main_arg0)
      ∧ r.2.mem ((c.tc : Thread Cert.Projection.nD Cert.Projection.τ).loc Cert.Projection.main_arg1) = m ((c.tc : Thread Cert.Projection.nD Cert.Projection.τ).loc Cert.Projection.main_arg1)
      ∧ r.2.mem ((c.tc : Thread Cert.Projection.nD Cert.Projection.τ).loc Cert.Projection.main_arg2) = m ((c.tc : Thread Cert.Projection.nD Cert.Projection.τ).loc Cert.Projection.main_arg2))
      ∧ r.2.sem = fun _ => 0)

def quiescent_ProjectionIdeal [hProjectionIdeal : Cert.ProjectionIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg), Pre_ProjectionIdeal m →
    θ_run (Cert.ProjectionIdeal.defs (F := Ideal)) (onTc (τ := Cert.ProjectionIdeal.τ) (Cert.ProjectionIdeal.main (F := Ideal))) ⟨m, fun _ => 0, g⟩ (fun r => (∀ c : Dev Cert.ProjectionIdeal.nD,
      r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
      ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
      ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ r.2.sem = fun _ => 0)

def quiescent_ProjectionRefIdeal [hProjectionRefIdeal : Cert.ProjectionRefIdeal.Facts] : Prop :=
  ∀ (m : (ℓ : Loc Cert.ProjectionRefIdeal.nD Cert.ProjectionRefIdeal.τ Cert.ProjectionRefIdeal.sig) → Buf (Elt Ideal) ℓ) (g : Dev Cert.ProjectionRefIdeal.nD → PrngReg), Pre_ProjectionRefIdeal m →
    θ_run (Cert.ProjectionRefIdeal.defs (F := Ideal)) (onTc (τ := Cert.ProjectionRefIdeal.τ) (Cert.ProjectionRefIdeal.main (F := Ideal))) ⟨m, fun _ => 0, g⟩ (fun r => (∀ c : Dev Cert.ProjectionRefIdeal.nD,
      r.2.mem ((c.tc : Thread Cert.ProjectionRefIdeal.nD Cert.ProjectionRefIdeal.τ).loc Cert.ProjectionRefIdeal.main_arg0) = m ((c.tc : Thread Cert.ProjectionRefIdeal.nD Cert.ProjectionRefIdeal.τ).loc Cert.ProjectionRefIdeal.main_arg0)
      ∧ r.2.mem ((c.tc : Thread Cert.ProjectionRefIdeal.nD Cert.ProjectionRefIdeal.τ).loc Cert.ProjectionRefIdeal.main_arg1) = m ((c.tc : Thread Cert.ProjectionRefIdeal.nD Cert.ProjectionRefIdeal.τ).loc Cert.ProjectionRefIdeal.main_arg1)
      ∧ r.2.mem ((c.tc : Thread Cert.ProjectionRefIdeal.nD Cert.ProjectionRefIdeal.τ).loc Cert.ProjectionRefIdeal.main_arg2) = m ((c.tc : Thread Cert.ProjectionRefIdeal.nD Cert.ProjectionRefIdeal.τ).loc Cert.ProjectionRefIdeal.main_arg2))
      ∧ r.2.sem = fun _ => 0)

def quiescent_Experts [hExperts : Cert.Experts.Facts] [hPre_schedule : Cert.Pre_schedule.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6)
      ∧ r.2.mem ((c.tc : Thread Cert.Experts.nD Cert.Experts.τ).loc Cert.Experts.main_arg7) = m ((c.tc : Thread Cert.Experts.nD Cert.Experts.τ).loc Cert.Experts.main_arg7))
      ∧ r.2.sem = fun _ => 0)

def quiescent_ExpertsIdeal [hExpertsIdeal : Cert.ExpertsIdeal.Facts] [hPre_schedule : Cert.Pre_schedule.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
      ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_ExpertsRefIdeal_pre_schedule [hExpertsRefIdeal : Cert.ExpertsRefIdeal.Facts] [hPre_schedule : Cert.Pre_schedule.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_schedule m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6)
      ∧ r.2.mem ((c.tc : Thread Cert.ExpertsRefIdeal.nD Cert.ExpertsRefIdeal.τ).loc Cert.ExpertsRefIdeal.main_arg7) = m ((c.tc : Thread Cert.ExpertsRefIdeal.nD Cert.ExpertsRefIdeal.τ).loc Cert.ExpertsRefIdeal.main_arg7))
      ∧ r.2.sem = fun _ => 0)

def quiescent_Experts1 [hExperts1 : Cert.Experts1.Facts] [hPre_schedule : Cert.Pre_schedule.Facts] : Prop :=
  ∀ (m : (ℓ : Loc Cert.Experts1.nD Cert.Experts1.τ Cert.Experts1.sig) → Buf (Elt Bits) ℓ) (g : Dev Cert.Experts1.nD → PrngReg), Pre_Experts1 m →
    θ_run (Cert.Experts1.defs (F := Bits)) (onTc (τ := Cert.Experts1.τ) (Cert.Experts1.main (F := Bits))) ⟨m, fun _ => 0, g⟩ (fun r => (∀ c : Dev Cert.Experts1.nD,
      r.2.mem ((c.tc : Thread Cert.Experts1.nD Cert.Experts1.τ).loc Cert.Experts1.main_arg0) = m ((c.tc : Thread Cert.Experts1.nD Cert.Experts1.τ).loc Cert.Experts1.main_arg0)
      ∧ r.2.mem ((c.tc : Thread Cert.Experts1.nD Cert.Experts1.τ).loc Cert.Experts1.main_arg1) = m ((c.tc : Thread Cert.Experts1.nD Cert.Experts1.τ).loc Cert.Experts1.main_arg1)
      ∧ r.2.mem ((c.tc : Thread Cert.Experts1.nD Cert.Experts1.τ).loc Cert.Experts1.main_arg2) = m ((c.tc : Thread Cert.Experts1.nD Cert.Experts1.τ).loc Cert.Experts1.main_arg2)
      ∧ r.2.mem ((c.tc : Thread Cert.Experts1.nD Cert.Experts1.τ).loc Cert.Experts1.main_arg3) = m ((c.tc : Thread Cert.Experts1.nD Cert.Experts1.τ).loc Cert.Experts1.main_arg3)
      ∧ r.2.mem ((c.tc : Thread Cert.Experts1.nD Cert.Experts1.τ).loc Cert.Experts1.main_arg4) = m ((c.tc : Thread Cert.Experts1.nD Cert.Experts1.τ).loc Cert.Experts1.main_arg4)
      ∧ r.2.mem ((c.tc : Thread Cert.Experts1.nD Cert.Experts1.τ).loc Cert.Experts1.main_arg5) = m ((c.tc : Thread Cert.Experts1.nD Cert.Experts1.τ).loc Cert.Experts1.main_arg5)
      ∧ r.2.mem ((c.tc : Thread Cert.Experts1.nD Cert.Experts1.τ).loc Cert.Experts1.main_arg6) = m ((c.tc : Thread Cert.Experts1.nD Cert.Experts1.τ).loc Cert.Experts1.main_arg6)
      ∧ r.2.mem ((c.tc : Thread Cert.Experts1.nD Cert.Experts1.τ).loc Cert.Experts1.main_arg7) = m ((c.tc : Thread Cert.Experts1.nD Cert.Experts1.τ).loc Cert.Experts1.main_arg7))
      ∧ r.2.sem = fun _ => 0)

def quiescent_Experts1Ideal [hExperts1Ideal : Cert.Experts1Ideal.Facts] [hPre_schedule : Cert.Pre_schedule.Facts] : Prop :=
  ∀ (m : (ℓ : Loc Cert.Experts1Ideal.nD Cert.Experts1Ideal.τ Cert.Experts1Ideal.sig) → Buf (Elt Ideal) ℓ) (g : Dev Cert.Experts1Ideal.nD → PrngReg), Pre_Experts1Ideal m →
    θ_run (Cert.Experts1Ideal.defs (F := Ideal)) (onTc (τ := Cert.Experts1Ideal.τ) (Cert.Experts1Ideal.main (F := Ideal))) ⟨m, fun _ => 0, g⟩ (fun r => (∀ c : Dev Cert.Experts1Ideal.nD,
      r.2.mem ((c.tc : Thread Cert.Experts1Ideal.nD Cert.Experts1Ideal.τ).loc Cert.Experts1Ideal.main_arg0) = m ((c.tc : Thread Cert.Experts1Ideal.nD Cert.Experts1Ideal.τ).loc Cert.Experts1Ideal.main_arg0)
      ∧ r.2.mem ((c.tc : Thread Cert.Experts1Ideal.nD Cert.Experts1Ideal.τ).loc Cert.Experts1Ideal.main_arg1) = m ((c.tc : Thread Cert.Experts1Ideal.nD Cert.Experts1Ideal.τ).loc Cert.Experts1Ideal.main_arg1)
      ∧ r.2.mem ((c.tc : Thread Cert.Experts1Ideal.nD Cert.Experts1Ideal.τ).loc Cert.Experts1Ideal.main_arg2) = m ((c.tc : Thread Cert.Experts1Ideal.nD Cert.Experts1Ideal.τ).loc Cert.Experts1Ideal.main_arg2)
      ∧ r.2.mem ((c.tc : Thread Cert.Experts1Ideal.nD Cert.Experts1Ideal.τ).loc Cert.Experts1Ideal.main_arg3) = m ((c.tc : Thread Cert.Experts1Ideal.nD Cert.Experts1Ideal.τ).loc Cert.Experts1Ideal.main_arg3)
      ∧ r.2.mem ((c.tc : Thread Cert.Experts1Ideal.nD Cert.Experts1Ideal.τ).loc Cert.Experts1Ideal.main_arg4) = m ((c.tc : Thread Cert.Experts1Ideal.nD Cert.Experts1Ideal.τ).loc Cert.Experts1Ideal.main_arg4)
      ∧ r.2.mem ((c.tc : Thread Cert.Experts1Ideal.nD Cert.Experts1Ideal.τ).loc Cert.Experts1Ideal.main_arg5) = m ((c.tc : Thread Cert.Experts1Ideal.nD Cert.Experts1Ideal.τ).loc Cert.Experts1Ideal.main_arg5)
      ∧ r.2.mem ((c.tc : Thread Cert.Experts1Ideal.nD Cert.Experts1Ideal.τ).loc Cert.Experts1Ideal.main_arg6) = m ((c.tc : Thread Cert.Experts1Ideal.nD Cert.Experts1Ideal.τ).loc Cert.Experts1Ideal.main_arg6)
      ∧ r.2.mem ((c.tc : Thread Cert.Experts1Ideal.nD Cert.Experts1Ideal.τ).loc Cert.Experts1Ideal.main_arg7) = m ((c.tc : Thread Cert.Experts1Ideal.nD Cert.Experts1Ideal.τ).loc Cert.Experts1Ideal.main_arg7))
      ∧ r.2.sem = fun _ => 0)

def quiescent_Experts1RefIdeal [hExperts1RefIdeal : Cert.Experts1RefIdeal.Facts] : Prop :=
  ∀ (m : (ℓ : Loc Cert.Experts1RefIdeal.nD Cert.Experts1RefIdeal.τ Cert.Experts1RefIdeal.sig) → Buf (Elt Ideal) ℓ) (g : Dev Cert.Experts1RefIdeal.nD → PrngReg), Pre_Experts1RefIdeal m →
    θ_run (Cert.Experts1RefIdeal.defs (F := Ideal)) (onTc (τ := Cert.Experts1RefIdeal.τ) (Cert.Experts1RefIdeal.main (F := Ideal))) ⟨m, fun _ => 0, g⟩ (fun r => (∀ c : Dev Cert.Experts1RefIdeal.nD,
      r.2.mem ((c.tc : Thread Cert.Experts1RefIdeal.nD Cert.Experts1RefIdeal.τ).loc Cert.Experts1RefIdeal.main_arg0) = m ((c.tc : Thread Cert.Experts1RefIdeal.nD Cert.Experts1RefIdeal.τ).loc Cert.Experts1RefIdeal.main_arg0)
      ∧ r.2.mem ((c.tc : Thread Cert.Experts1RefIdeal.nD Cert.Experts1RefIdeal.τ).loc Cert.Experts1RefIdeal.main_arg1) = m ((c.tc : Thread Cert.Experts1RefIdeal.nD Cert.Experts1RefIdeal.τ).loc Cert.Experts1RefIdeal.main_arg1)
      ∧ r.2.mem ((c.tc : Thread Cert.Experts1RefIdeal.nD Cert.Experts1RefIdeal.τ).loc Cert.Experts1RefIdeal.main_arg2) = m ((c.tc : Thread Cert.Experts1RefIdeal.nD Cert.Experts1RefIdeal.τ).loc Cert.Experts1RefIdeal.main_arg2)
      ∧ r.2.mem ((c.tc : Thread Cert.Experts1RefIdeal.nD Cert.Experts1RefIdeal.τ).loc Cert.Experts1RefIdeal.main_arg3) = m ((c.tc : Thread Cert.Experts1RefIdeal.nD Cert.Experts1RefIdeal.τ).loc Cert.Experts1RefIdeal.main_arg3)
      ∧ r.2.mem ((c.tc : Thread Cert.Experts1RefIdeal.nD Cert.Experts1RefIdeal.τ).loc Cert.Experts1RefIdeal.main_arg4) = m ((c.tc : Thread Cert.Experts1RefIdeal.nD Cert.Experts1RefIdeal.τ).loc Cert.Experts1RefIdeal.main_arg4)
      ∧ r.2.mem ((c.tc : Thread Cert.Experts1RefIdeal.nD Cert.Experts1RefIdeal.τ).loc Cert.Experts1RefIdeal.main_arg5) = m ((c.tc : Thread Cert.Experts1RefIdeal.nD Cert.Experts1RefIdeal.τ).loc Cert.Experts1RefIdeal.main_arg5)
      ∧ r.2.mem ((c.tc : Thread Cert.Experts1RefIdeal.nD Cert.Experts1RefIdeal.τ).loc Cert.Experts1RefIdeal.main_arg6) = m ((c.tc : Thread Cert.Experts1RefIdeal.nD Cert.Experts1RefIdeal.τ).loc Cert.Experts1RefIdeal.main_arg6)
      ∧ r.2.mem ((c.tc : Thread Cert.Experts1RefIdeal.nD Cert.Experts1RefIdeal.τ).loc Cert.Experts1RefIdeal.main_arg7) = m ((c.tc : Thread Cert.Experts1RefIdeal.nD Cert.Experts1RefIdeal.τ).loc Cert.Experts1RefIdeal.main_arg7))
      ∧ r.2.sem = fun _ => 0)

def quiescent_Experts1RefIdeal_pre_schedule [hExperts1RefIdeal : Cert.Experts1RefIdeal.Facts] [hPre_schedule : Cert.Pre_schedule.Facts] : Prop :=
  ∀ (m : (ℓ : Loc Cert.Experts1RefIdeal.nD Cert.Experts1RefIdeal.τ Cert.Experts1RefIdeal.sig) → Buf (Elt Ideal) ℓ) (g : Dev Cert.Experts1RefIdeal.nD → PrngReg), Pre_Experts1RefIdeal_schedule m →
    θ_run (Cert.Experts1RefIdeal.defs (F := Ideal)) (onTc (τ := Cert.Experts1RefIdeal.τ) (Cert.Experts1RefIdeal.main (F := Ideal))) ⟨m, fun _ => 0, g⟩ (fun r => (∀ c : Dev Cert.Experts1RefIdeal.nD,
      r.2.mem ((c.tc : Thread Cert.Experts1RefIdeal.nD Cert.Experts1RefIdeal.τ).loc Cert.Experts1RefIdeal.main_arg0) = m ((c.tc : Thread Cert.Experts1RefIdeal.nD Cert.Experts1RefIdeal.τ).loc Cert.Experts1RefIdeal.main_arg0)
      ∧ r.2.mem ((c.tc : Thread Cert.Experts1RefIdeal.nD Cert.Experts1RefIdeal.τ).loc Cert.Experts1RefIdeal.main_arg1) = m ((c.tc : Thread Cert.Experts1RefIdeal.nD Cert.Experts1RefIdeal.τ).loc Cert.Experts1RefIdeal.main_arg1)
      ∧ r.2.mem ((c.tc : Thread Cert.Experts1RefIdeal.nD Cert.Experts1RefIdeal.τ).loc Cert.Experts1RefIdeal.main_arg2) = m ((c.tc : Thread Cert.Experts1RefIdeal.nD Cert.Experts1RefIdeal.τ).loc Cert.Experts1RefIdeal.main_arg2)
      ∧ r.2.mem ((c.tc : Thread Cert.Experts1RefIdeal.nD Cert.Experts1RefIdeal.τ).loc Cert.Experts1RefIdeal.main_arg3) = m ((c.tc : Thread Cert.Experts1RefIdeal.nD Cert.Experts1RefIdeal.τ).loc Cert.Experts1RefIdeal.main_arg3)
      ∧ r.2.mem ((c.tc : Thread Cert.Experts1RefIdeal.nD Cert.Experts1RefIdeal.τ).loc Cert.Experts1RefIdeal.main_arg4) = m ((c.tc : Thread Cert.Experts1RefIdeal.nD Cert.Experts1RefIdeal.τ).loc Cert.Experts1RefIdeal.main_arg4)
      ∧ r.2.mem ((c.tc : Thread Cert.Experts1RefIdeal.nD Cert.Experts1RefIdeal.τ).loc Cert.Experts1RefIdeal.main_arg5) = m ((c.tc : Thread Cert.Experts1RefIdeal.nD Cert.Experts1RefIdeal.τ).loc Cert.Experts1RefIdeal.main_arg5)
      ∧ r.2.mem ((c.tc : Thread Cert.Experts1RefIdeal.nD Cert.Experts1RefIdeal.τ).loc Cert.Experts1RefIdeal.main_arg6) = m ((c.tc : Thread Cert.Experts1RefIdeal.nD Cert.Experts1RefIdeal.τ).loc Cert.Experts1RefIdeal.main_arg6)
      ∧ r.2.mem ((c.tc : Thread Cert.Experts1RefIdeal.nD Cert.Experts1RefIdeal.τ).loc Cert.Experts1RefIdeal.main_arg7) = m ((c.tc : Thread Cert.Experts1RefIdeal.nD Cert.Experts1RefIdeal.τ).loc Cert.Experts1RefIdeal.main_arg7))
      ∧ r.2.sem = fun _ => 0)

def quiescent_Experts2 [hExperts2 : Cert.Experts2.Facts] [hPre_schedule : Cert.Pre_schedule.Facts] : Prop :=
  ∀ (m : (ℓ : Loc Cert.Experts2.nD Cert.Experts2.τ Cert.Experts2.sig) → Buf (Elt Bits) ℓ) (g : Dev Cert.Experts2.nD → PrngReg), Pre_Experts2 m →
    θ_run (Cert.Experts2.defs (F := Bits)) (onTc (τ := Cert.Experts2.τ) (Cert.Experts2.main (F := Bits))) ⟨m, fun _ => 0, g⟩ (fun r => (∀ c : Dev Cert.Experts2.nD,
      r.2.mem ((c.tc : Thread Cert.Experts2.nD Cert.Experts2.τ).loc Cert.Experts2.main_arg0) = m ((c.tc : Thread Cert.Experts2.nD Cert.Experts2.τ).loc Cert.Experts2.main_arg0)
      ∧ r.2.mem ((c.tc : Thread Cert.Experts2.nD Cert.Experts2.τ).loc Cert.Experts2.main_arg1) = m ((c.tc : Thread Cert.Experts2.nD Cert.Experts2.τ).loc Cert.Experts2.main_arg1)
      ∧ r.2.mem ((c.tc : Thread Cert.Experts2.nD Cert.Experts2.τ).loc Cert.Experts2.main_arg2) = m ((c.tc : Thread Cert.Experts2.nD Cert.Experts2.τ).loc Cert.Experts2.main_arg2)
      ∧ r.2.mem ((c.tc : Thread Cert.Experts2.nD Cert.Experts2.τ).loc Cert.Experts2.main_arg3) = m ((c.tc : Thread Cert.Experts2.nD Cert.Experts2.τ).loc Cert.Experts2.main_arg3)
      ∧ r.2.mem ((c.tc : Thread Cert.Experts2.nD Cert.Experts2.τ).loc Cert.Experts2.main_arg4) = m ((c.tc : Thread Cert.Experts2.nD Cert.Experts2.τ).loc Cert.Experts2.main_arg4)
      ∧ r.2.mem ((c.tc : Thread Cert.Experts2.nD Cert.Experts2.τ).loc Cert.Experts2.main_arg5) = m ((c.tc : Thread Cert.Experts2.nD Cert.Experts2.τ).loc Cert.Experts2.main_arg5)
      ∧ r.2.mem ((c.tc : Thread Cert.Experts2.nD Cert.Experts2.τ).loc Cert.Experts2.main_arg6) = m ((c.tc : Thread Cert.Experts2.nD Cert.Experts2.τ).loc Cert.Experts2.main_arg6)
      ∧ r.2.mem ((c.tc : Thread Cert.Experts2.nD Cert.Experts2.τ).loc Cert.Experts2.main_arg7) = m ((c.tc : Thread Cert.Experts2.nD Cert.Experts2.τ).loc Cert.Experts2.main_arg7))
      ∧ r.2.sem = fun _ => 0)

def quiescent_Experts2Ideal [hExperts2Ideal : Cert.Experts2Ideal.Facts] [hPre_schedule : Cert.Pre_schedule.Facts] : Prop :=
  ∀ (m : (ℓ : Loc Cert.Experts2Ideal.nD Cert.Experts2Ideal.τ Cert.Experts2Ideal.sig) → Buf (Elt Ideal) ℓ) (g : Dev Cert.Experts2Ideal.nD → PrngReg), Pre_Experts2Ideal m →
    θ_run (Cert.Experts2Ideal.defs (F := Ideal)) (onTc (τ := Cert.Experts2Ideal.τ) (Cert.Experts2Ideal.main (F := Ideal))) ⟨m, fun _ => 0, g⟩ (fun r => (∀ c : Dev Cert.Experts2Ideal.nD,
      r.2.mem ((c.tc : Thread Cert.Experts2Ideal.nD Cert.Experts2Ideal.τ).loc Cert.Experts2Ideal.main_arg0) = m ((c.tc : Thread Cert.Experts2Ideal.nD Cert.Experts2Ideal.τ).loc Cert.Experts2Ideal.main_arg0)
      ∧ r.2.mem ((c.tc : Thread Cert.Experts2Ideal.nD Cert.Experts2Ideal.τ).loc Cert.Experts2Ideal.main_arg1) = m ((c.tc : Thread Cert.Experts2Ideal.nD Cert.Experts2Ideal.τ).loc Cert.Experts2Ideal.main_arg1)
      ∧ r.2.mem ((c.tc : Thread Cert.Experts2Ideal.nD Cert.Experts2Ideal.τ).loc Cert.Experts2Ideal.main_arg2) = m ((c.tc : Thread Cert.Experts2Ideal.nD Cert.Experts2Ideal.τ).loc Cert.Experts2Ideal.main_arg2)
      ∧ r.2.mem ((c.tc : Thread Cert.Experts2Ideal.nD Cert.Experts2Ideal.τ).loc Cert.Experts2Ideal.main_arg3) = m ((c.tc : Thread Cert.Experts2Ideal.nD Cert.Experts2Ideal.τ).loc Cert.Experts2Ideal.main_arg3)
      ∧ r.2.mem ((c.tc : Thread Cert.Experts2Ideal.nD Cert.Experts2Ideal.τ).loc Cert.Experts2Ideal.main_arg4) = m ((c.tc : Thread Cert.Experts2Ideal.nD Cert.Experts2Ideal.τ).loc Cert.Experts2Ideal.main_arg4)
      ∧ r.2.mem ((c.tc : Thread Cert.Experts2Ideal.nD Cert.Experts2Ideal.τ).loc Cert.Experts2Ideal.main_arg5) = m ((c.tc : Thread Cert.Experts2Ideal.nD Cert.Experts2Ideal.τ).loc Cert.Experts2Ideal.main_arg5)
      ∧ r.2.mem ((c.tc : Thread Cert.Experts2Ideal.nD Cert.Experts2Ideal.τ).loc Cert.Experts2Ideal.main_arg6) = m ((c.tc : Thread Cert.Experts2Ideal.nD Cert.Experts2Ideal.τ).loc Cert.Experts2Ideal.main_arg6)
      ∧ r.2.mem ((c.tc : Thread Cert.Experts2Ideal.nD Cert.Experts2Ideal.τ).loc Cert.Experts2Ideal.main_arg7) = m ((c.tc : Thread Cert.Experts2Ideal.nD Cert.Experts2Ideal.τ).loc Cert.Experts2Ideal.main_arg7))
      ∧ r.2.sem = fun _ => 0)

def quiescent_Experts2RefIdeal [hExperts2RefIdeal : Cert.Experts2RefIdeal.Facts] : Prop :=
  ∀ (m : (ℓ : Loc Cert.Experts2RefIdeal.nD Cert.Experts2RefIdeal.τ Cert.Experts2RefIdeal.sig) → Buf (Elt Ideal) ℓ) (g : Dev Cert.Experts2RefIdeal.nD → PrngReg), Pre_Experts2RefIdeal m →
    θ_run (Cert.Experts2RefIdeal.defs (F := Ideal)) (onTc (τ := Cert.Experts2RefIdeal.τ) (Cert.Experts2RefIdeal.main (F := Ideal))) ⟨m, fun _ => 0, g⟩ (fun r => (∀ c : Dev Cert.Experts2RefIdeal.nD,
      r.2.mem ((c.tc : Thread Cert.Experts2RefIdeal.nD Cert.Experts2RefIdeal.τ).loc Cert.Experts2RefIdeal.main_arg0) = m ((c.tc : Thread Cert.Experts2RefIdeal.nD Cert.Experts2RefIdeal.τ).loc Cert.Experts2RefIdeal.main_arg0)
      ∧ r.2.mem ((c.tc : Thread Cert.Experts2RefIdeal.nD Cert.Experts2RefIdeal.τ).loc Cert.Experts2RefIdeal.main_arg1) = m ((c.tc : Thread Cert.Experts2RefIdeal.nD Cert.Experts2RefIdeal.τ).loc Cert.Experts2RefIdeal.main_arg1)
      ∧ r.2.mem ((c.tc : Thread Cert.Experts2RefIdeal.nD Cert.Experts2RefIdeal.τ).loc Cert.Experts2RefIdeal.main_arg2) = m ((c.tc : Thread Cert.Experts2RefIdeal.nD Cert.Experts2RefIdeal.τ).loc Cert.Experts2RefIdeal.main_arg2)
      ∧ r.2.mem ((c.tc : Thread Cert.Experts2RefIdeal.nD Cert.Experts2RefIdeal.τ).loc Cert.Experts2RefIdeal.main_arg3) = m ((c.tc : Thread Cert.Experts2RefIdeal.nD Cert.Experts2RefIdeal.τ).loc Cert.Experts2RefIdeal.main_arg3)
      ∧ r.2.mem ((c.tc : Thread Cert.Experts2RefIdeal.nD Cert.Experts2RefIdeal.τ).loc Cert.Experts2RefIdeal.main_arg4) = m ((c.tc : Thread Cert.Experts2RefIdeal.nD Cert.Experts2RefIdeal.τ).loc Cert.Experts2RefIdeal.main_arg4)
      ∧ r.2.mem ((c.tc : Thread Cert.Experts2RefIdeal.nD Cert.Experts2RefIdeal.τ).loc Cert.Experts2RefIdeal.main_arg5) = m ((c.tc : Thread Cert.Experts2RefIdeal.nD Cert.Experts2RefIdeal.τ).loc Cert.Experts2RefIdeal.main_arg5)
      ∧ r.2.mem ((c.tc : Thread Cert.Experts2RefIdeal.nD Cert.Experts2RefIdeal.τ).loc Cert.Experts2RefIdeal.main_arg6) = m ((c.tc : Thread Cert.Experts2RefIdeal.nD Cert.Experts2RefIdeal.τ).loc Cert.Experts2RefIdeal.main_arg6)
      ∧ r.2.mem ((c.tc : Thread Cert.Experts2RefIdeal.nD Cert.Experts2RefIdeal.τ).loc Cert.Experts2RefIdeal.main_arg7) = m ((c.tc : Thread Cert.Experts2RefIdeal.nD Cert.Experts2RefIdeal.τ).loc Cert.Experts2RefIdeal.main_arg7))
      ∧ r.2.sem = fun _ => 0)

def quiescent_Experts2RefIdeal_pre_schedule [hExperts2RefIdeal : Cert.Experts2RefIdeal.Facts] [hPre_schedule : Cert.Pre_schedule.Facts] : Prop :=
  ∀ (m : (ℓ : Loc Cert.Experts2RefIdeal.nD Cert.Experts2RefIdeal.τ Cert.Experts2RefIdeal.sig) → Buf (Elt Ideal) ℓ) (g : Dev Cert.Experts2RefIdeal.nD → PrngReg), Pre_Experts2RefIdeal_schedule m →
    θ_run (Cert.Experts2RefIdeal.defs (F := Ideal)) (onTc (τ := Cert.Experts2RefIdeal.τ) (Cert.Experts2RefIdeal.main (F := Ideal))) ⟨m, fun _ => 0, g⟩ (fun r => (∀ c : Dev Cert.Experts2RefIdeal.nD,
      r.2.mem ((c.tc : Thread Cert.Experts2RefIdeal.nD Cert.Experts2RefIdeal.τ).loc Cert.Experts2RefIdeal.main_arg0) = m ((c.tc : Thread Cert.Experts2RefIdeal.nD Cert.Experts2RefIdeal.τ).loc Cert.Experts2RefIdeal.main_arg0)
      ∧ r.2.mem ((c.tc : Thread Cert.Experts2RefIdeal.nD Cert.Experts2RefIdeal.τ).loc Cert.Experts2RefIdeal.main_arg1) = m ((c.tc : Thread Cert.Experts2RefIdeal.nD Cert.Experts2RefIdeal.τ).loc Cert.Experts2RefIdeal.main_arg1)
      ∧ r.2.mem ((c.tc : Thread Cert.Experts2RefIdeal.nD Cert.Experts2RefIdeal.τ).loc Cert.Experts2RefIdeal.main_arg2) = m ((c.tc : Thread Cert.Experts2RefIdeal.nD Cert.Experts2RefIdeal.τ).loc Cert.Experts2RefIdeal.main_arg2)
      ∧ r.2.mem ((c.tc : Thread Cert.Experts2RefIdeal.nD Cert.Experts2RefIdeal.τ).loc Cert.Experts2RefIdeal.main_arg3) = m ((c.tc : Thread Cert.Experts2RefIdeal.nD Cert.Experts2RefIdeal.τ).loc Cert.Experts2RefIdeal.main_arg3)
      ∧ r.2.mem ((c.tc : Thread Cert.Experts2RefIdeal.nD Cert.Experts2RefIdeal.τ).loc Cert.Experts2RefIdeal.main_arg4) = m ((c.tc : Thread Cert.Experts2RefIdeal.nD Cert.Experts2RefIdeal.τ).loc Cert.Experts2RefIdeal.main_arg4)
      ∧ r.2.mem ((c.tc : Thread Cert.Experts2RefIdeal.nD Cert.Experts2RefIdeal.τ).loc Cert.Experts2RefIdeal.main_arg5) = m ((c.tc : Thread Cert.Experts2RefIdeal.nD Cert.Experts2RefIdeal.τ).loc Cert.Experts2RefIdeal.main_arg5)
      ∧ r.2.mem ((c.tc : Thread Cert.Experts2RefIdeal.nD Cert.Experts2RefIdeal.τ).loc Cert.Experts2RefIdeal.main_arg6) = m ((c.tc : Thread Cert.Experts2RefIdeal.nD Cert.Experts2RefIdeal.τ).loc Cert.Experts2RefIdeal.main_arg6)
      ∧ r.2.mem ((c.tc : Thread Cert.Experts2RefIdeal.nD Cert.Experts2RefIdeal.τ).loc Cert.Experts2RefIdeal.main_arg7) = m ((c.tc : Thread Cert.Experts2RefIdeal.nD Cert.Experts2RefIdeal.τ).loc Cert.Experts2RefIdeal.main_arg7))
      ∧ r.2.sem = fun _ => 0)

def quiescent_Experts3 [hExperts3 : Cert.Experts3.Facts] [hPre_schedule : Cert.Pre_schedule.Facts] : Prop :=
  ∀ (m : (ℓ : Loc Cert.Experts3.nD Cert.Experts3.τ Cert.Experts3.sig) → Buf (Elt Bits) ℓ) (g : Dev Cert.Experts3.nD → PrngReg), Pre_Experts3 m →
    θ_run (Cert.Experts3.defs (F := Bits)) (onTc (τ := Cert.Experts3.τ) (Cert.Experts3.main (F := Bits))) ⟨m, fun _ => 0, g⟩ (fun r => (∀ c : Dev Cert.Experts3.nD,
      r.2.mem ((c.tc : Thread Cert.Experts3.nD Cert.Experts3.τ).loc Cert.Experts3.main_arg0) = m ((c.tc : Thread Cert.Experts3.nD Cert.Experts3.τ).loc Cert.Experts3.main_arg0)
      ∧ r.2.mem ((c.tc : Thread Cert.Experts3.nD Cert.Experts3.τ).loc Cert.Experts3.main_arg1) = m ((c.tc : Thread Cert.Experts3.nD Cert.Experts3.τ).loc Cert.Experts3.main_arg1)
      ∧ r.2.mem ((c.tc : Thread Cert.Experts3.nD Cert.Experts3.τ).loc Cert.Experts3.main_arg2) = m ((c.tc : Thread Cert.Experts3.nD Cert.Experts3.τ).loc Cert.Experts3.main_arg2)
      ∧ r.2.mem ((c.tc : Thread Cert.Experts3.nD Cert.Experts3.τ).loc Cert.Experts3.main_arg3) = m ((c.tc : Thread Cert.Experts3.nD Cert.Experts3.τ).loc Cert.Experts3.main_arg3)
      ∧ r.2.mem ((c.tc : Thread Cert.Experts3.nD Cert.Experts3.τ).loc Cert.Experts3.main_arg4) = m ((c.tc : Thread Cert.Experts3.nD Cert.Experts3.τ).loc Cert.Experts3.main_arg4)
      ∧ r.2.mem ((c.tc : Thread Cert.Experts3.nD Cert.Experts3.τ).loc Cert.Experts3.main_arg5) = m ((c.tc : Thread Cert.Experts3.nD Cert.Experts3.τ).loc Cert.Experts3.main_arg5)
      ∧ r.2.mem ((c.tc : Thread Cert.Experts3.nD Cert.Experts3.τ).loc Cert.Experts3.main_arg6) = m ((c.tc : Thread Cert.Experts3.nD Cert.Experts3.τ).loc Cert.Experts3.main_arg6)
      ∧ r.2.mem ((c.tc : Thread Cert.Experts3.nD Cert.Experts3.τ).loc Cert.Experts3.main_arg7) = m ((c.tc : Thread Cert.Experts3.nD Cert.Experts3.τ).loc Cert.Experts3.main_arg7))
      ∧ r.2.sem = fun _ => 0)

def quiescent_Experts3Ideal [hExperts3Ideal : Cert.Experts3Ideal.Facts] [hPre_schedule : Cert.Pre_schedule.Facts] : Prop :=
  ∀ (m : (ℓ : Loc Cert.Experts3Ideal.nD Cert.Experts3Ideal.τ Cert.Experts3Ideal.sig) → Buf (Elt Ideal) ℓ) (g : Dev Cert.Experts3Ideal.nD → PrngReg), Pre_Experts3Ideal m →
    θ_run (Cert.Experts3Ideal.defs (F := Ideal)) (onTc (τ := Cert.Experts3Ideal.τ) (Cert.Experts3Ideal.main (F := Ideal))) ⟨m, fun _ => 0, g⟩ (fun r => (∀ c : Dev Cert.Experts3Ideal.nD,
      r.2.mem ((c.tc : Thread Cert.Experts3Ideal.nD Cert.Experts3Ideal.τ).loc Cert.Experts3Ideal.main_arg0) = m ((c.tc : Thread Cert.Experts3Ideal.nD Cert.Experts3Ideal.τ).loc Cert.Experts3Ideal.main_arg0)
      ∧ r.2.mem ((c.tc : Thread Cert.Experts3Ideal.nD Cert.Experts3Ideal.τ).loc Cert.Experts3Ideal.main_arg1) = m ((c.tc : Thread Cert.Experts3Ideal.nD Cert.Experts3Ideal.τ).loc Cert.Experts3Ideal.main_arg1)
      ∧ r.2.mem ((c.tc : Thread Cert.Experts3Ideal.nD Cert.Experts3Ideal.τ).loc Cert.Experts3Ideal.main_arg2) = m ((c.tc : Thread Cert.Experts3Ideal.nD Cert.Experts3Ideal.τ).loc Cert.Experts3Ideal.main_arg2)
      ∧ r.2.mem ((c.tc : Thread Cert.Experts3Ideal.nD Cert.Experts3Ideal.τ).loc Cert.Experts3Ideal.main_arg3) = m ((c.tc : Thread Cert.Experts3Ideal.nD Cert.Experts3Ideal.τ).loc Cert.Experts3Ideal.main_arg3)
      ∧ r.2.mem ((c.tc : Thread Cert.Experts3Ideal.nD Cert.Experts3Ideal.τ).loc Cert.Experts3Ideal.main_arg4) = m ((c.tc : Thread Cert.Experts3Ideal.nD Cert.Experts3Ideal.τ).loc Cert.Experts3Ideal.main_arg4)
      ∧ r.2.mem ((c.tc : Thread Cert.Experts3Ideal.nD Cert.Experts3Ideal.τ).loc Cert.Experts3Ideal.main_arg5) = m ((c.tc : Thread Cert.Experts3Ideal.nD Cert.Experts3Ideal.τ).loc Cert.Experts3Ideal.main_arg5)
      ∧ r.2.mem ((c.tc : Thread Cert.Experts3Ideal.nD Cert.Experts3Ideal.τ).loc Cert.Experts3Ideal.main_arg6) = m ((c.tc : Thread Cert.Experts3Ideal.nD Cert.Experts3Ideal.τ).loc Cert.Experts3Ideal.main_arg6)
      ∧ r.2.mem ((c.tc : Thread Cert.Experts3Ideal.nD Cert.Experts3Ideal.τ).loc Cert.Experts3Ideal.main_arg7) = m ((c.tc : Thread Cert.Experts3Ideal.nD Cert.Experts3Ideal.τ).loc Cert.Experts3Ideal.main_arg7))
      ∧ r.2.sem = fun _ => 0)

def quiescent_Experts3RefIdeal [hExperts3RefIdeal : Cert.Experts3RefIdeal.Facts] : Prop :=
  ∀ (m : (ℓ : Loc Cert.Experts3RefIdeal.nD Cert.Experts3RefIdeal.τ Cert.Experts3RefIdeal.sig) → Buf (Elt Ideal) ℓ) (g : Dev Cert.Experts3RefIdeal.nD → PrngReg), Pre_Experts3RefIdeal m →
    θ_run (Cert.Experts3RefIdeal.defs (F := Ideal)) (onTc (τ := Cert.Experts3RefIdeal.τ) (Cert.Experts3RefIdeal.main (F := Ideal))) ⟨m, fun _ => 0, g⟩ (fun r => (∀ c : Dev Cert.Experts3RefIdeal.nD,
      r.2.mem ((c.tc : Thread Cert.Experts3RefIdeal.nD Cert.Experts3RefIdeal.τ).loc Cert.Experts3RefIdeal.main_arg0) = m ((c.tc : Thread Cert.Experts3RefIdeal.nD Cert.Experts3RefIdeal.τ).loc Cert.Experts3RefIdeal.main_arg0)
      ∧ r.2.mem ((c.tc : Thread Cert.Experts3RefIdeal.nD Cert.Experts3RefIdeal.τ).loc Cert.Experts3RefIdeal.main_arg1) = m ((c.tc : Thread Cert.Experts3RefIdeal.nD Cert.Experts3RefIdeal.τ).loc Cert.Experts3RefIdeal.main_arg1)
      ∧ r.2.mem ((c.tc : Thread Cert.Experts3RefIdeal.nD Cert.Experts3RefIdeal.τ).loc Cert.Experts3RefIdeal.main_arg2) = m ((c.tc : Thread Cert.Experts3RefIdeal.nD Cert.Experts3RefIdeal.τ).loc Cert.Experts3RefIdeal.main_arg2)
      ∧ r.2.mem ((c.tc : Thread Cert.Experts3RefIdeal.nD Cert.Experts3RefIdeal.τ).loc Cert.Experts3RefIdeal.main_arg3) = m ((c.tc : Thread Cert.Experts3RefIdeal.nD Cert.Experts3RefIdeal.τ).loc Cert.Experts3RefIdeal.main_arg3)
      ∧ r.2.mem ((c.tc : Thread Cert.Experts3RefIdeal.nD Cert.Experts3RefIdeal.τ).loc Cert.Experts3RefIdeal.main_arg4) = m ((c.tc : Thread Cert.Experts3RefIdeal.nD Cert.Experts3RefIdeal.τ).loc Cert.Experts3RefIdeal.main_arg4)
      ∧ r.2.mem ((c.tc : Thread Cert.Experts3RefIdeal.nD Cert.Experts3RefIdeal.τ).loc Cert.Experts3RefIdeal.main_arg5) = m ((c.tc : Thread Cert.Experts3RefIdeal.nD Cert.Experts3RefIdeal.τ).loc Cert.Experts3RefIdeal.main_arg5)
      ∧ r.2.mem ((c.tc : Thread Cert.Experts3RefIdeal.nD Cert.Experts3RefIdeal.τ).loc Cert.Experts3RefIdeal.main_arg6) = m ((c.tc : Thread Cert.Experts3RefIdeal.nD Cert.Experts3RefIdeal.τ).loc Cert.Experts3RefIdeal.main_arg6)
      ∧ r.2.mem ((c.tc : Thread Cert.Experts3RefIdeal.nD Cert.Experts3RefIdeal.τ).loc Cert.Experts3RefIdeal.main_arg7) = m ((c.tc : Thread Cert.Experts3RefIdeal.nD Cert.Experts3RefIdeal.τ).loc Cert.Experts3RefIdeal.main_arg7))
      ∧ r.2.sem = fun _ => 0)

def quiescent_Experts3RefIdeal_pre_schedule [hExperts3RefIdeal : Cert.Experts3RefIdeal.Facts] [hPre_schedule : Cert.Pre_schedule.Facts] : Prop :=
  ∀ (m : (ℓ : Loc Cert.Experts3RefIdeal.nD Cert.Experts3RefIdeal.τ Cert.Experts3RefIdeal.sig) → Buf (Elt Ideal) ℓ) (g : Dev Cert.Experts3RefIdeal.nD → PrngReg), Pre_Experts3RefIdeal_schedule m →
    θ_run (Cert.Experts3RefIdeal.defs (F := Ideal)) (onTc (τ := Cert.Experts3RefIdeal.τ) (Cert.Experts3RefIdeal.main (F := Ideal))) ⟨m, fun _ => 0, g⟩ (fun r => (∀ c : Dev Cert.Experts3RefIdeal.nD,
      r.2.mem ((c.tc : Thread Cert.Experts3RefIdeal.nD Cert.Experts3RefIdeal.τ).loc Cert.Experts3RefIdeal.main_arg0) = m ((c.tc : Thread Cert.Experts3RefIdeal.nD Cert.Experts3RefIdeal.τ).loc Cert.Experts3RefIdeal.main_arg0)
      ∧ r.2.mem ((c.tc : Thread Cert.Experts3RefIdeal.nD Cert.Experts3RefIdeal.τ).loc Cert.Experts3RefIdeal.main_arg1) = m ((c.tc : Thread Cert.Experts3RefIdeal.nD Cert.Experts3RefIdeal.τ).loc Cert.Experts3RefIdeal.main_arg1)
      ∧ r.2.mem ((c.tc : Thread Cert.Experts3RefIdeal.nD Cert.Experts3RefIdeal.τ).loc Cert.Experts3RefIdeal.main_arg2) = m ((c.tc : Thread Cert.Experts3RefIdeal.nD Cert.Experts3RefIdeal.τ).loc Cert.Experts3RefIdeal.main_arg2)
      ∧ r.2.mem ((c.tc : Thread Cert.Experts3RefIdeal.nD Cert.Experts3RefIdeal.τ).loc Cert.Experts3RefIdeal.main_arg3) = m ((c.tc : Thread Cert.Experts3RefIdeal.nD Cert.Experts3RefIdeal.τ).loc Cert.Experts3RefIdeal.main_arg3)
      ∧ r.2.mem ((c.tc : Thread Cert.Experts3RefIdeal.nD Cert.Experts3RefIdeal.τ).loc Cert.Experts3RefIdeal.main_arg4) = m ((c.tc : Thread Cert.Experts3RefIdeal.nD Cert.Experts3RefIdeal.τ).loc Cert.Experts3RefIdeal.main_arg4)
      ∧ r.2.mem ((c.tc : Thread Cert.Experts3RefIdeal.nD Cert.Experts3RefIdeal.τ).loc Cert.Experts3RefIdeal.main_arg5) = m ((c.tc : Thread Cert.Experts3RefIdeal.nD Cert.Experts3RefIdeal.τ).loc Cert.Experts3RefIdeal.main_arg5)
      ∧ r.2.mem ((c.tc : Thread Cert.Experts3RefIdeal.nD Cert.Experts3RefIdeal.τ).loc Cert.Experts3RefIdeal.main_arg6) = m ((c.tc : Thread Cert.Experts3RefIdeal.nD Cert.Experts3RefIdeal.τ).loc Cert.Experts3RefIdeal.main_arg6)
      ∧ r.2.mem ((c.tc : Thread Cert.Experts3RefIdeal.nD Cert.Experts3RefIdeal.τ).loc Cert.Experts3RefIdeal.main_arg7) = m ((c.tc : Thread Cert.Experts3RefIdeal.nD Cert.Experts3RefIdeal.τ).loc Cert.Experts3RefIdeal.main_arg7))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2)
      ∧ r.2.mem ((c.tc : Thread Cert.Router.nD Cert.Router.τ).loc Cert.Router.main_arg3) = m ((c.tc : Thread Cert.Router.nD Cert.Router.τ).loc Cert.Router.main_arg3)
      ∧ r.2.mem ((c.tc : Thread Cert.Router.nD Cert.Router.τ).loc Cert.Router.main_arg4) = m ((c.tc : Thread Cert.Router.nD Cert.Router.τ).loc Cert.Router.main_arg4)
      ∧ r.2.mem ((c.tc : Thread Cert.Router.nD Cert.Router.τ).loc Cert.Router.main_arg5) = m ((c.tc : Thread Cert.Router.nD Cert.Router.τ).loc Cert.Router.main_arg5)
      ∧ r.2.mem ((c.tc : Thread Cert.Router.nD Cert.Router.τ).loc Cert.Router.main_arg6) = m ((c.tc : Thread Cert.Router.nD Cert.Router.τ).loc Cert.Router.main_arg6)
      ∧ r.2.mem ((c.tc : Thread Cert.Router.nD Cert.Router.τ).loc Cert.Router.main_arg7) = m ((c.tc : Thread Cert.Router.nD Cert.Router.τ).loc Cert.Router.main_arg7))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterIdeal_pre_finite_rows [hRouterIdeal : Cert.RouterIdeal.Facts] [hPre_finite_rows : Cert.Pre_finite_rows.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_rows m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
      ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
      ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
      ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
      ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
      ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ r.2.sem = fun _ => 0)

def quiescent_RouterRefIdeal [hRouterRefIdeal : Cert.RouterRefIdeal.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7))
      ∧ r.2.sem = fun _ => 0)

def quiescent_RouterRefIdeal_pre_finite_rows [hRouterRefIdeal : Cert.RouterRefIdeal.Facts] [hPre_finite_rows : Cert.Pre_finite_rows.Facts] : Prop :=
  ∀ (m : (ℓ : Loc Cert.RouterRefIdeal.nD Cert.RouterRefIdeal.τ Cert.RouterRefIdeal.sig) → Buf (Elt Ideal) ℓ) (g : Dev Cert.RouterRefIdeal.nD → PrngReg), Pre_RouterRefIdeal_finite_rows m →
    θ_run (Cert.RouterRefIdeal.defs (F := Ideal)) (onTc (τ := Cert.RouterRefIdeal.τ) (Cert.RouterRefIdeal.main (F := Ideal))) ⟨m, fun _ => 0, g⟩ (fun r => (∀ c : Dev Cert.RouterRefIdeal.nD,
      r.2.mem ((c.tc : Thread Cert.RouterRefIdeal.nD Cert.RouterRefIdeal.τ).loc Cert.RouterRefIdeal.main_arg0) = m ((c.tc : Thread Cert.RouterRefIdeal.nD Cert.RouterRefIdeal.τ).loc Cert.RouterRefIdeal.main_arg0)
      ∧ r.2.mem ((c.tc : Thread Cert.RouterRefIdeal.nD Cert.RouterRefIdeal.τ).loc Cert.RouterRefIdeal.main_arg1) = m ((c.tc : Thread Cert.RouterRefIdeal.nD Cert.RouterRefIdeal.τ).loc Cert.RouterRefIdeal.main_arg1)
      ∧ r.2.mem ((c.tc : Thread Cert.RouterRefIdeal.nD Cert.RouterRefIdeal.τ).loc Cert.RouterRefIdeal.main_arg2) = m ((c.tc : Thread Cert.RouterRefIdeal.nD Cert.RouterRefIdeal.τ).loc Cert.RouterRefIdeal.main_arg2)
      ∧ r.2.mem ((c.tc : Thread Cert.RouterRefIdeal.nD Cert.RouterRefIdeal.τ).loc Cert.RouterRefIdeal.main_arg3) = m ((c.tc : Thread Cert.RouterRefIdeal.nD Cert.RouterRefIdeal.τ).loc Cert.RouterRefIdeal.main_arg3)
      ∧ r.2.mem ((c.tc : Thread Cert.RouterRefIdeal.nD Cert.RouterRefIdeal.τ).loc Cert.RouterRefIdeal.main_arg4) = m ((c.tc : Thread Cert.RouterRefIdeal.nD Cert.RouterRefIdeal.τ).loc Cert.RouterRefIdeal.main_arg4)
      ∧ r.2.mem ((c.tc : Thread Cert.RouterRefIdeal.nD Cert.RouterRefIdeal.τ).loc Cert.RouterRefIdeal.main_arg5) = m ((c.tc : Thread Cert.RouterRefIdeal.nD Cert.RouterRefIdeal.τ).loc Cert.RouterRefIdeal.main_arg5)
      ∧ r.2.mem ((c.tc : Thread Cert.RouterRefIdeal.nD Cert.RouterRefIdeal.τ).loc Cert.RouterRefIdeal.main_arg6) = m ((c.tc : Thread Cert.RouterRefIdeal.nD Cert.RouterRefIdeal.τ).loc Cert.RouterRefIdeal.main_arg6)
      ∧ r.2.mem ((c.tc : Thread Cert.RouterRefIdeal.nD Cert.RouterRefIdeal.τ).loc Cert.RouterRefIdeal.main_arg7) = m ((c.tc : Thread Cert.RouterRefIdeal.nD Cert.RouterRefIdeal.τ).loc Cert.RouterRefIdeal.main_arg7))
      ∧ r.2.sem = fun _ => 0)

def quiescent_RowsCopy [hRowsCopy : Cert.RowsCopy.Facts] : Prop :=
  ∀ (m : (ℓ : Loc Cert.RowsCopy.nD Cert.RowsCopy.τ Cert.RowsCopy.sig) → Buf (Elt Bits) ℓ) (g : Dev Cert.RowsCopy.nD → PrngReg), Pre_RowsCopy m →
    θ_run (Cert.RowsCopy.defs (F := Bits)) (onTc (τ := Cert.RowsCopy.τ) (Cert.RowsCopy.main (F := Bits))) ⟨m, fun _ => 0, g⟩ (fun r => (∀ c : Dev Cert.RowsCopy.nD,
      r.2.mem ((c.tc : Thread Cert.RowsCopy.nD Cert.RowsCopy.τ).loc Cert.RowsCopy.main_arg0) = m ((c.tc : Thread Cert.RowsCopy.nD Cert.RowsCopy.τ).loc Cert.RowsCopy.main_arg0)
      ∧ r.2.mem ((c.tc : Thread Cert.RowsCopy.nD Cert.RowsCopy.τ).loc Cert.RowsCopy.main_arg1) = m ((c.tc : Thread Cert.RowsCopy.nD Cert.RowsCopy.τ).loc Cert.RowsCopy.main_arg1)
      ∧ r.2.mem ((c.tc : Thread Cert.RowsCopy.nD Cert.RowsCopy.τ).loc Cert.RowsCopy.main_arg2) = m ((c.tc : Thread Cert.RowsCopy.nD Cert.RowsCopy.τ).loc Cert.RowsCopy.main_arg2)
      ∧ r.2.mem ((c.tc : Thread Cert.RowsCopy.nD Cert.RowsCopy.τ).loc Cert.RowsCopy.main_arg3) = m ((c.tc : Thread Cert.RowsCopy.nD Cert.RowsCopy.τ).loc Cert.RowsCopy.main_arg3)
      ∧ r.2.mem ((c.tc : Thread Cert.RowsCopy.nD Cert.RowsCopy.τ).loc Cert.RowsCopy.main_arg4) = m ((c.tc : Thread Cert.RowsCopy.nD Cert.RowsCopy.τ).loc Cert.RowsCopy.main_arg4)
      ∧ r.2.mem ((c.tc : Thread Cert.RowsCopy.nD Cert.RowsCopy.τ).loc Cert.RowsCopy.main_arg5) = m ((c.tc : Thread Cert.RowsCopy.nD Cert.RowsCopy.τ).loc Cert.RowsCopy.main_arg5)
      ∧ r.2.mem ((c.tc : Thread Cert.RowsCopy.nD Cert.RowsCopy.τ).loc Cert.RowsCopy.main_arg6) = m ((c.tc : Thread Cert.RowsCopy.nD Cert.RowsCopy.τ).loc Cert.RowsCopy.main_arg6)
      ∧ r.2.mem ((c.tc : Thread Cert.RowsCopy.nD Cert.RowsCopy.τ).loc Cert.RowsCopy.main_arg7) = m ((c.tc : Thread Cert.RowsCopy.nD Cert.RowsCopy.τ).loc Cert.RowsCopy.main_arg7))
      ∧ r.2.sem = fun _ => 0)

def quiescent_RowsCopyIdeal [hRowsCopyIdeal : Cert.RowsCopyIdeal.Facts] : Prop :=
  ∀ (m : (ℓ : Loc Cert.RowsCopyIdeal.nD Cert.RowsCopyIdeal.τ Cert.RowsCopyIdeal.sig) → Buf (Elt Ideal) ℓ) (g : Dev Cert.RowsCopyIdeal.nD → PrngReg), Pre_RowsCopyIdeal m →
    θ_run (Cert.RowsCopyIdeal.defs (F := Ideal)) (onTc (τ := Cert.RowsCopyIdeal.τ) (Cert.RowsCopyIdeal.main (F := Ideal))) ⟨m, fun _ => 0, g⟩ (fun r => (∀ c : Dev Cert.RowsCopyIdeal.nD,
      r.2.mem ((c.tc : Thread Cert.RowsCopyIdeal.nD Cert.RowsCopyIdeal.τ).loc Cert.RowsCopyIdeal.main_arg0) = m ((c.tc : Thread Cert.RowsCopyIdeal.nD Cert.RowsCopyIdeal.τ).loc Cert.RowsCopyIdeal.main_arg0)
      ∧ r.2.mem ((c.tc : Thread Cert.RowsCopyIdeal.nD Cert.RowsCopyIdeal.τ).loc Cert.RowsCopyIdeal.main_arg1) = m ((c.tc : Thread Cert.RowsCopyIdeal.nD Cert.RowsCopyIdeal.τ).loc Cert.RowsCopyIdeal.main_arg1)
      ∧ r.2.mem ((c.tc : Thread Cert.RowsCopyIdeal.nD Cert.RowsCopyIdeal.τ).loc Cert.RowsCopyIdeal.main_arg2) = m ((c.tc : Thread Cert.RowsCopyIdeal.nD Cert.RowsCopyIdeal.τ).loc Cert.RowsCopyIdeal.main_arg2)
      ∧ r.2.mem ((c.tc : Thread Cert.RowsCopyIdeal.nD Cert.RowsCopyIdeal.τ).loc Cert.RowsCopyIdeal.main_arg3) = m ((c.tc : Thread Cert.RowsCopyIdeal.nD Cert.RowsCopyIdeal.τ).loc Cert.RowsCopyIdeal.main_arg3)
      ∧ r.2.mem ((c.tc : Thread Cert.RowsCopyIdeal.nD Cert.RowsCopyIdeal.τ).loc Cert.RowsCopyIdeal.main_arg4) = m ((c.tc : Thread Cert.RowsCopyIdeal.nD Cert.RowsCopyIdeal.τ).loc Cert.RowsCopyIdeal.main_arg4)
      ∧ r.2.mem ((c.tc : Thread Cert.RowsCopyIdeal.nD Cert.RowsCopyIdeal.τ).loc Cert.RowsCopyIdeal.main_arg5) = m ((c.tc : Thread Cert.RowsCopyIdeal.nD Cert.RowsCopyIdeal.τ).loc Cert.RowsCopyIdeal.main_arg5)
      ∧ r.2.mem ((c.tc : Thread Cert.RowsCopyIdeal.nD Cert.RowsCopyIdeal.τ).loc Cert.RowsCopyIdeal.main_arg6) = m ((c.tc : Thread Cert.RowsCopyIdeal.nD Cert.RowsCopyIdeal.τ).loc Cert.RowsCopyIdeal.main_arg6)
      ∧ r.2.mem ((c.tc : Thread Cert.RowsCopyIdeal.nD Cert.RowsCopyIdeal.τ).loc Cert.RowsCopyIdeal.main_arg7) = m ((c.tc : Thread Cert.RowsCopyIdeal.nD Cert.RowsCopyIdeal.τ).loc Cert.RowsCopyIdeal.main_arg7))
      ∧ r.2.sem = fun _ => 0)

def quiescent_RowsCopyRefIdeal [hRowsCopyRefIdeal : Cert.RowsCopyRefIdeal.Facts] : Prop :=
  ∀ (m : (ℓ : Loc Cert.RowsCopyRefIdeal.nD Cert.RowsCopyRefIdeal.τ Cert.RowsCopyRefIdeal.sig) → Buf (Elt Ideal) ℓ) (g : Dev Cert.RowsCopyRefIdeal.nD → PrngReg), Pre_RowsCopyRefIdeal m →
    θ_run (Cert.RowsCopyRefIdeal.defs (F := Ideal)) (onTc (τ := Cert.RowsCopyRefIdeal.τ) (Cert.RowsCopyRefIdeal.main (F := Ideal))) ⟨m, fun _ => 0, g⟩ (fun r => (∀ c : Dev Cert.RowsCopyRefIdeal.nD,
      r.2.mem ((c.tc : Thread Cert.RowsCopyRefIdeal.nD Cert.RowsCopyRefIdeal.τ).loc Cert.RowsCopyRefIdeal.main_arg0) = m ((c.tc : Thread Cert.RowsCopyRefIdeal.nD Cert.RowsCopyRefIdeal.τ).loc Cert.RowsCopyRefIdeal.main_arg0)
      ∧ r.2.mem ((c.tc : Thread Cert.RowsCopyRefIdeal.nD Cert.RowsCopyRefIdeal.τ).loc Cert.RowsCopyRefIdeal.main_arg1) = m ((c.tc : Thread Cert.RowsCopyRefIdeal.nD Cert.RowsCopyRefIdeal.τ).loc Cert.RowsCopyRefIdeal.main_arg1)
      ∧ r.2.mem ((c.tc : Thread Cert.RowsCopyRefIdeal.nD Cert.RowsCopyRefIdeal.τ).loc Cert.RowsCopyRefIdeal.main_arg2) = m ((c.tc : Thread Cert.RowsCopyRefIdeal.nD Cert.RowsCopyRefIdeal.τ).loc Cert.RowsCopyRefIdeal.main_arg2)
      ∧ r.2.mem ((c.tc : Thread Cert.RowsCopyRefIdeal.nD Cert.RowsCopyRefIdeal.τ).loc Cert.RowsCopyRefIdeal.main_arg3) = m ((c.tc : Thread Cert.RowsCopyRefIdeal.nD Cert.RowsCopyRefIdeal.τ).loc Cert.RowsCopyRefIdeal.main_arg3)
      ∧ r.2.mem ((c.tc : Thread Cert.RowsCopyRefIdeal.nD Cert.RowsCopyRefIdeal.τ).loc Cert.RowsCopyRefIdeal.main_arg4) = m ((c.tc : Thread Cert.RowsCopyRefIdeal.nD Cert.RowsCopyRefIdeal.τ).loc Cert.RowsCopyRefIdeal.main_arg4)
      ∧ r.2.mem ((c.tc : Thread Cert.RowsCopyRefIdeal.nD Cert.RowsCopyRefIdeal.τ).loc Cert.RowsCopyRefIdeal.main_arg5) = m ((c.tc : Thread Cert.RowsCopyRefIdeal.nD Cert.RowsCopyRefIdeal.τ).loc Cert.RowsCopyRefIdeal.main_arg5)
      ∧ r.2.mem ((c.tc : Thread Cert.RowsCopyRefIdeal.nD Cert.RowsCopyRefIdeal.τ).loc Cert.RowsCopyRefIdeal.main_arg6) = m ((c.tc : Thread Cert.RowsCopyRefIdeal.nD Cert.RowsCopyRefIdeal.τ).loc Cert.RowsCopyRefIdeal.main_arg6)
      ∧ r.2.mem ((c.tc : Thread Cert.RowsCopyRefIdeal.nD Cert.RowsCopyRefIdeal.τ).loc Cert.RowsCopyRefIdeal.main_arg7) = m ((c.tc : Thread Cert.RowsCopyRefIdeal.nD Cert.RowsCopyRefIdeal.τ).loc Cert.RowsCopyRefIdeal.main_arg7))
      ∧ r.2.sem = fun _ => 0)

def preserves_Attention_AttentionIdeal : Prop :=
  True

def algebraic_AttentionIdeal_AttentionRefIdeal_on_prompt_rows_pre_finite [hAttentionIdeal : Cert.AttentionIdeal.Facts] [hAttentionRefIdeal : Cert.AttentionRefIdeal.Facts] [hPre_finite : Cert.Pre_finite.Facts] [hOn_prompt_rows : Cert.On_prompt_rows.Facts] : Prop :=
  ∀ (m : (ℓ : Loc Cert.AttentionIdeal.nD Cert.AttentionIdeal.τ Cert.AttentionIdeal.sig) → Buf (Elt Ideal) ℓ) (g : Dev Cert.AttentionIdeal.nD → PrngReg)
    (m' : (ℓ : Loc Cert.AttentionRefIdeal.nD Cert.AttentionRefIdeal.τ Cert.AttentionRefIdeal.sig) → Buf (Elt Ideal) ℓ) (g' : Dev Cert.AttentionRefIdeal.nD → PrngReg), Pre_AttentionIdeal_finite m →
    (∀ c : Dev Cert.AttentionIdeal.nD,
      m' ((c.tc : Thread Cert.AttentionRefIdeal.nD Cert.AttentionRefIdeal.τ).loc Cert.AttentionRefIdeal.main_arg0) = m ((c.tc : Thread Cert.AttentionIdeal.nD Cert.AttentionIdeal.τ).loc Cert.AttentionIdeal.main_arg0)) →
    ∃ (v0 : (c : Dev Cert.AttentionIdeal.nD) → Buf (Elt Ideal) ((c.tc : Thread Cert.AttentionIdeal.nD Cert.AttentionIdeal.τ).loc Cert.AttentionIdeal.main_v0)),
      θ_run (Cert.AttentionIdeal.defs (F := Ideal)) (onTc (τ := Cert.AttentionIdeal.τ) (Cert.AttentionIdeal.main (F := Ideal))) ⟨m, fun _ => 0, g⟩ (fun r => ∀ c : Dev Cert.AttentionIdeal.nD,
          (∀ i : (⟨2, ![8448, 1024]⟩ : Shape).Idx, (Cert.On_prompt_rows.fn (F := Ideal) (m ((c.tc : Thread Cert.AttentionIdeal.nD Cert.AttentionIdeal.τ).loc Cert.AttentionIdeal.main_arg0))) i = 1#1 → r.2.mem ((c.tc : Thread Cert.AttentionIdeal.nD Cert.AttentionIdeal.τ).loc Cert.AttentionIdeal.main_v0) i = v0 c i)
          ∧ r.2.mem ((c.tc : Thread Cert.AttentionIdeal.nD Cert.AttentionIdeal.τ).loc Cert.AttentionIdeal.main_arg0) = m ((c.tc : Thread Cert.AttentionIdeal.nD Cert.AttentionIdeal.τ).loc Cert.AttentionIdeal.main_arg0))
      ∧ θ_run (Cert.AttentionRefIdeal.defs (F := Ideal)) (onTc (τ := Cert.AttentionRefIdeal.τ) (Cert.AttentionRefIdeal.main (F := Ideal))) ⟨m', fun _ => 0, g'⟩ (fun r => ∀ c : Dev Cert.AttentionRefIdeal.nD,
          (∀ i : (⟨2, ![8448, 1024]⟩ : Shape).Idx, (Cert.On_prompt_rows.fn (F := Ideal) (m ((c.tc : Thread Cert.AttentionIdeal.nD Cert.AttentionIdeal.τ).loc Cert.AttentionIdeal.main_arg0))) i = 1#1 → r.2.mem ((c.tc : Thread Cert.AttentionRefIdeal.nD Cert.AttentionRefIdeal.τ).loc Cert.AttentionRefIdeal.main_v25) i = v0 c i)
          ∧ r.2.mem ((c.tc : Thread Cert.AttentionRefIdeal.nD Cert.AttentionRefIdeal.τ).loc Cert.AttentionRefIdeal.main_arg0) = m' ((c.tc : Thread Cert.AttentionRefIdeal.nD Cert.AttentionRefIdeal.τ).loc Cert.AttentionRefIdeal.main_arg0))

def preserves_Projection_ProjectionIdeal : Prop :=
  True

def algebraic_ProjectionIdeal_ProjectionRefIdeal [hProjectionIdeal : Cert.ProjectionIdeal.Facts] [hProjectionRefIdeal : Cert.ProjectionRefIdeal.Facts] : Prop :=
  ∀ (m : (ℓ : Loc Cert.ProjectionIdeal.nD Cert.ProjectionIdeal.τ Cert.ProjectionIdeal.sig) → Buf (Elt Ideal) ℓ) (g : Dev Cert.ProjectionIdeal.nD → PrngReg)
    (m' : (ℓ : Loc Cert.ProjectionRefIdeal.nD Cert.ProjectionRefIdeal.τ Cert.ProjectionRefIdeal.sig) → Buf (Elt Ideal) ℓ) (g' : Dev Cert.ProjectionRefIdeal.nD → PrngReg), Pre_ProjectionIdeal m →
    (∀ c : Dev Cert.ProjectionIdeal.nD,
      m' ((c.tc : Thread Cert.ProjectionRefIdeal.nD Cert.ProjectionRefIdeal.τ).loc Cert.ProjectionRefIdeal.main_arg0) = m ((c.tc : Thread Cert.ProjectionIdeal.nD Cert.ProjectionIdeal.τ).loc Cert.ProjectionIdeal.main_arg0)
      ∧ m' ((c.tc : Thread Cert.ProjectionRefIdeal.nD Cert.ProjectionRefIdeal.τ).loc Cert.ProjectionRefIdeal.main_arg1) = m ((c.tc : Thread Cert.ProjectionIdeal.nD Cert.ProjectionIdeal.τ).loc Cert.ProjectionIdeal.main_arg1)
      ∧ m' ((c.tc : Thread Cert.ProjectionRefIdeal.nD Cert.ProjectionRefIdeal.τ).loc Cert.ProjectionRefIdeal.main_arg2) = m ((c.tc : Thread Cert.ProjectionIdeal.nD Cert.ProjectionIdeal.τ).loc Cert.ProjectionIdeal.main_arg2)) →
    ∃ (v0 : (c : Dev Cert.ProjectionIdeal.nD) → Buf (Elt Ideal) ((c.tc : Thread Cert.ProjectionIdeal.nD Cert.ProjectionIdeal.τ).loc Cert.ProjectionIdeal.main_v13)),
      θ_run (Cert.ProjectionIdeal.defs (F := Ideal)) (onTc (τ := Cert.ProjectionIdeal.τ) (Cert.ProjectionIdeal.main (F := Ideal))) ⟨m, fun _ => 0, g⟩ (fun r => ∀ c : Dev Cert.ProjectionIdeal.nD,
          r.2.mem ((c.tc : Thread Cert.ProjectionIdeal.nD Cert.ProjectionIdeal.τ).loc Cert.ProjectionIdeal.main_v13) = v0 c
          ∧ r.2.mem ((c.tc : Thread Cert.ProjectionIdeal.nD Cert.ProjectionIdeal.τ).loc Cert.ProjectionIdeal.main_arg0) = m ((c.tc : Thread Cert.ProjectionIdeal.nD Cert.ProjectionIdeal.τ).loc Cert.ProjectionIdeal.main_arg0)
          ∧ r.2.mem ((c.tc : Thread Cert.ProjectionIdeal.nD Cert.ProjectionIdeal.τ).loc Cert.ProjectionIdeal.main_arg1) = m ((c.tc : Thread Cert.ProjectionIdeal.nD Cert.ProjectionIdeal.τ).loc Cert.ProjectionIdeal.main_arg1)
          ∧ r.2.mem ((c.tc : Thread Cert.ProjectionIdeal.nD Cert.ProjectionIdeal.τ).loc Cert.ProjectionIdeal.main_arg2) = m ((c.tc : Thread Cert.ProjectionIdeal.nD Cert.ProjectionIdeal.τ).loc Cert.ProjectionIdeal.main_arg2))
      ∧ θ_run (Cert.ProjectionRefIdeal.defs (F := Ideal)) (onTc (τ := Cert.ProjectionRefIdeal.τ) (Cert.ProjectionRefIdeal.main (F := Ideal))) ⟨m', fun _ => 0, g'⟩ (fun r => ∀ c : Dev Cert.ProjectionRefIdeal.nD,
          r.2.mem ((c.tc : Thread Cert.ProjectionRefIdeal.nD Cert.ProjectionRefIdeal.τ).loc Cert.ProjectionRefIdeal.main_v15) = v0 c
          ∧ r.2.mem ((c.tc : Thread Cert.ProjectionRefIdeal.nD Cert.ProjectionRefIdeal.τ).loc Cert.ProjectionRefIdeal.main_arg0) = m' ((c.tc : Thread Cert.ProjectionRefIdeal.nD Cert.ProjectionRefIdeal.τ).loc Cert.ProjectionRefIdeal.main_arg0)
          ∧ r.2.mem ((c.tc : Thread Cert.ProjectionRefIdeal.nD Cert.ProjectionRefIdeal.τ).loc Cert.ProjectionRefIdeal.main_arg1) = m' ((c.tc : Thread Cert.ProjectionRefIdeal.nD Cert.ProjectionRefIdeal.τ).loc Cert.ProjectionRefIdeal.main_arg1)
          ∧ r.2.mem ((c.tc : Thread Cert.ProjectionRefIdeal.nD Cert.ProjectionRefIdeal.τ).loc Cert.ProjectionRefIdeal.main_arg2) = m' ((c.tc : Thread Cert.ProjectionRefIdeal.nD Cert.ProjectionRefIdeal.τ).loc Cert.ProjectionRefIdeal.main_arg2))

def preserves_Experts_ExpertsIdeal : Prop :=
  True

def algebraic_ExpertsIdeal_ExpertsRefIdeal_on_used_rows [hExpertsIdeal : Cert.ExpertsIdeal.Facts] [hExpertsRefIdeal : Cert.ExpertsRefIdeal.Facts] [hPre_schedule : Cert.Pre_schedule.Facts] [hOn_used_rows : Cert.On_used_rows.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)
      ∧ m' ((c.tc : Thread Cert.ExpertsRefIdeal.nD Cert.ExpertsRefIdeal.τ).loc Cert.ExpertsRefIdeal.main_arg7) = m ((c.tc : Thread Cert.ExpertsIdeal.nD Cert.ExpertsIdeal.τ).loc Cert.ExpertsIdeal.main_arg7)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          (∀ i : (⟨2, ![72960, 2048]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsIdeal.nD Cert.ExpertsIdeal.τ).loc Cert.ExpertsIdeal.main_v0) i = v0 c i)
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6)
          ∧ r.2.mem ((c.tc : Thread Cert.ExpertsIdeal.nD Cert.ExpertsIdeal.τ).loc Cert.ExpertsIdeal.main_arg7) = m ((c.tc : Thread Cert.ExpertsIdeal.nD Cert.ExpertsIdeal.τ).loc Cert.ExpertsIdeal.main_arg7))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          (∀ i : (⟨2, ![72960, 2048]⟩ : Shape).Idx, (Cert.On_used_rows.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6)) (m ((c.tc : Thread Cert.ExpertsIdeal.nD Cert.ExpertsIdeal.τ).loc Cert.ExpertsIdeal.main_arg7))) i = 1#1 → r.2.mem ((c.tc : Thread Cert.ExpertsRefIdeal.nD Cert.ExpertsRefIdeal.τ).loc Cert.ExpertsRefIdeal.main_v96) i = v0 c i)
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6)
          ∧ r.2.mem ((c.tc : Thread Cert.ExpertsRefIdeal.nD Cert.ExpertsRefIdeal.τ).loc Cert.ExpertsRefIdeal.main_arg7) = m' ((c.tc : Thread Cert.ExpertsRefIdeal.nD Cert.ExpertsRefIdeal.τ).loc Cert.ExpertsRefIdeal.main_arg7))

def preserves_Experts1_Experts1Ideal : Prop :=
  True

def algebraic_Experts1Ideal_Experts1RefIdeal_on_used_rows [hExperts1Ideal : Cert.Experts1Ideal.Facts] [hExperts1RefIdeal : Cert.Experts1RefIdeal.Facts] [hPre_schedule : Cert.Pre_schedule.Facts] [hOn_used_rows : Cert.On_used_rows.Facts] : Prop :=
  ∀ (m : (ℓ : Loc Cert.Experts1Ideal.nD Cert.Experts1Ideal.τ Cert.Experts1Ideal.sig) → Buf (Elt Ideal) ℓ) (g : Dev Cert.Experts1Ideal.nD → PrngReg)
    (m' : (ℓ : Loc Cert.Experts1RefIdeal.nD Cert.Experts1RefIdeal.τ Cert.Experts1RefIdeal.sig) → Buf (Elt Ideal) ℓ) (g' : Dev Cert.Experts1RefIdeal.nD → PrngReg), Pre_Experts1Ideal m →
    (∀ c : Dev Cert.Experts1Ideal.nD,
      m' ((c.tc : Thread Cert.Experts1RefIdeal.nD Cert.Experts1RefIdeal.τ).loc Cert.Experts1RefIdeal.main_arg0) = m ((c.tc : Thread Cert.Experts1Ideal.nD Cert.Experts1Ideal.τ).loc Cert.Experts1Ideal.main_arg0)
      ∧ m' ((c.tc : Thread Cert.Experts1RefIdeal.nD Cert.Experts1RefIdeal.τ).loc Cert.Experts1RefIdeal.main_arg1) = m ((c.tc : Thread Cert.Experts1Ideal.nD Cert.Experts1Ideal.τ).loc Cert.Experts1Ideal.main_arg1)
      ∧ m' ((c.tc : Thread Cert.Experts1RefIdeal.nD Cert.Experts1RefIdeal.τ).loc Cert.Experts1RefIdeal.main_arg2) = m ((c.tc : Thread Cert.Experts1Ideal.nD Cert.Experts1Ideal.τ).loc Cert.Experts1Ideal.main_arg2)
      ∧ m' ((c.tc : Thread Cert.Experts1RefIdeal.nD Cert.Experts1RefIdeal.τ).loc Cert.Experts1RefIdeal.main_arg3) = m ((c.tc : Thread Cert.Experts1Ideal.nD Cert.Experts1Ideal.τ).loc Cert.Experts1Ideal.main_arg3)
      ∧ m' ((c.tc : Thread Cert.Experts1RefIdeal.nD Cert.Experts1RefIdeal.τ).loc Cert.Experts1RefIdeal.main_arg4) = m ((c.tc : Thread Cert.Experts1Ideal.nD Cert.Experts1Ideal.τ).loc Cert.Experts1Ideal.main_arg4)
      ∧ m' ((c.tc : Thread Cert.Experts1RefIdeal.nD Cert.Experts1RefIdeal.τ).loc Cert.Experts1RefIdeal.main_arg5) = m ((c.tc : Thread Cert.Experts1Ideal.nD Cert.Experts1Ideal.τ).loc Cert.Experts1Ideal.main_arg5)
      ∧ m' ((c.tc : Thread Cert.Experts1RefIdeal.nD Cert.Experts1RefIdeal.τ).loc Cert.Experts1RefIdeal.main_arg6) = m ((c.tc : Thread Cert.Experts1Ideal.nD Cert.Experts1Ideal.τ).loc Cert.Experts1Ideal.main_arg6)
      ∧ m' ((c.tc : Thread Cert.Experts1RefIdeal.nD Cert.Experts1RefIdeal.τ).loc Cert.Experts1RefIdeal.main_arg7) = m ((c.tc : Thread Cert.Experts1Ideal.nD Cert.Experts1Ideal.τ).loc Cert.Experts1Ideal.main_arg7)) →
    ∃ (v0 : (c : Dev Cert.Experts1Ideal.nD) → Buf (Elt Ideal) ((c.tc : Thread Cert.Experts1Ideal.nD Cert.Experts1Ideal.τ).loc Cert.Experts1Ideal.main_v0)),
      θ_run (Cert.Experts1Ideal.defs (F := Ideal)) (onTc (τ := Cert.Experts1Ideal.τ) (Cert.Experts1Ideal.main (F := Ideal))) ⟨m, fun _ => 0, g⟩ (fun r => ∀ c : Dev Cert.Experts1Ideal.nD,
          (∀ i : (⟨2, ![72960, 2048]⟩ : Shape).Idx, (Cert.On_used_rows.fn (F := Ideal) (m ((c.tc : Thread Cert.Experts1Ideal.nD Cert.Experts1Ideal.τ).loc Cert.Experts1Ideal.main_arg0)) (m ((c.tc : Thread Cert.Experts1Ideal.nD Cert.Experts1Ideal.τ).loc Cert.Experts1Ideal.main_arg1)) (m ((c.tc : Thread Cert.Experts1Ideal.nD Cert.Experts1Ideal.τ).loc Cert.Experts1Ideal.main_arg2)) (m ((c.tc : Thread Cert.Experts1Ideal.nD Cert.Experts1Ideal.τ).loc Cert.Experts1Ideal.main_arg3)) (m ((c.tc : Thread Cert.Experts1Ideal.nD Cert.Experts1Ideal.τ).loc Cert.Experts1Ideal.main_arg4)) (m ((c.tc : Thread Cert.Experts1Ideal.nD Cert.Experts1Ideal.τ).loc Cert.Experts1Ideal.main_arg5)) (m ((c.tc : Thread Cert.Experts1Ideal.nD Cert.Experts1Ideal.τ).loc Cert.Experts1Ideal.main_arg6)) (m ((c.tc : Thread Cert.Experts1Ideal.nD Cert.Experts1Ideal.τ).loc Cert.Experts1Ideal.main_arg7))) i = 1#1 → r.2.mem ((c.tc : Thread Cert.Experts1Ideal.nD Cert.Experts1Ideal.τ).loc Cert.Experts1Ideal.main_v0) i = v0 c i)
          ∧ r.2.mem ((c.tc : Thread Cert.Experts1Ideal.nD Cert.Experts1Ideal.τ).loc Cert.Experts1Ideal.main_arg0) = m ((c.tc : Thread Cert.Experts1Ideal.nD Cert.Experts1Ideal.τ).loc Cert.Experts1Ideal.main_arg0)
          ∧ r.2.mem ((c.tc : Thread Cert.Experts1Ideal.nD Cert.Experts1Ideal.τ).loc Cert.Experts1Ideal.main_arg1) = m ((c.tc : Thread Cert.Experts1Ideal.nD Cert.Experts1Ideal.τ).loc Cert.Experts1Ideal.main_arg1)
          ∧ r.2.mem ((c.tc : Thread Cert.Experts1Ideal.nD Cert.Experts1Ideal.τ).loc Cert.Experts1Ideal.main_arg2) = m ((c.tc : Thread Cert.Experts1Ideal.nD Cert.Experts1Ideal.τ).loc Cert.Experts1Ideal.main_arg2)
          ∧ r.2.mem ((c.tc : Thread Cert.Experts1Ideal.nD Cert.Experts1Ideal.τ).loc Cert.Experts1Ideal.main_arg3) = m ((c.tc : Thread Cert.Experts1Ideal.nD Cert.Experts1Ideal.τ).loc Cert.Experts1Ideal.main_arg3)
          ∧ r.2.mem ((c.tc : Thread Cert.Experts1Ideal.nD Cert.Experts1Ideal.τ).loc Cert.Experts1Ideal.main_arg4) = m ((c.tc : Thread Cert.Experts1Ideal.nD Cert.Experts1Ideal.τ).loc Cert.Experts1Ideal.main_arg4)
          ∧ r.2.mem ((c.tc : Thread Cert.Experts1Ideal.nD Cert.Experts1Ideal.τ).loc Cert.Experts1Ideal.main_arg5) = m ((c.tc : Thread Cert.Experts1Ideal.nD Cert.Experts1Ideal.τ).loc Cert.Experts1Ideal.main_arg5)
          ∧ r.2.mem ((c.tc : Thread Cert.Experts1Ideal.nD Cert.Experts1Ideal.τ).loc Cert.Experts1Ideal.main_arg6) = m ((c.tc : Thread Cert.Experts1Ideal.nD Cert.Experts1Ideal.τ).loc Cert.Experts1Ideal.main_arg6)
          ∧ r.2.mem ((c.tc : Thread Cert.Experts1Ideal.nD Cert.Experts1Ideal.τ).loc Cert.Experts1Ideal.main_arg7) = m ((c.tc : Thread Cert.Experts1Ideal.nD Cert.Experts1Ideal.τ).loc Cert.Experts1Ideal.main_arg7))
      ∧ θ_run (Cert.Experts1RefIdeal.defs (F := Ideal)) (onTc (τ := Cert.Experts1RefIdeal.τ) (Cert.Experts1RefIdeal.main (F := Ideal))) ⟨m', fun _ => 0, g'⟩ (fun r => ∀ c : Dev Cert.Experts1RefIdeal.nD,
          (∀ i : (⟨2, ![72960, 2048]⟩ : Shape).Idx, (Cert.On_used_rows.fn (F := Ideal) (m ((c.tc : Thread Cert.Experts1Ideal.nD Cert.Experts1Ideal.τ).loc Cert.Experts1Ideal.main_arg0)) (m ((c.tc : Thread Cert.Experts1Ideal.nD Cert.Experts1Ideal.τ).loc Cert.Experts1Ideal.main_arg1)) (m ((c.tc : Thread Cert.Experts1Ideal.nD Cert.Experts1Ideal.τ).loc Cert.Experts1Ideal.main_arg2)) (m ((c.tc : Thread Cert.Experts1Ideal.nD Cert.Experts1Ideal.τ).loc Cert.Experts1Ideal.main_arg3)) (m ((c.tc : Thread Cert.Experts1Ideal.nD Cert.Experts1Ideal.τ).loc Cert.Experts1Ideal.main_arg4)) (m ((c.tc : Thread Cert.Experts1Ideal.nD Cert.Experts1Ideal.τ).loc Cert.Experts1Ideal.main_arg5)) (m ((c.tc : Thread Cert.Experts1Ideal.nD Cert.Experts1Ideal.τ).loc Cert.Experts1Ideal.main_arg6)) (m ((c.tc : Thread Cert.Experts1Ideal.nD Cert.Experts1Ideal.τ).loc Cert.Experts1Ideal.main_arg7))) i = 1#1 → r.2.mem ((c.tc : Thread Cert.Experts1RefIdeal.nD Cert.Experts1RefIdeal.τ).loc Cert.Experts1RefIdeal.main_v96) i = v0 c i)
          ∧ r.2.mem ((c.tc : Thread Cert.Experts1RefIdeal.nD Cert.Experts1RefIdeal.τ).loc Cert.Experts1RefIdeal.main_arg0) = m' ((c.tc : Thread Cert.Experts1RefIdeal.nD Cert.Experts1RefIdeal.τ).loc Cert.Experts1RefIdeal.main_arg0)
          ∧ r.2.mem ((c.tc : Thread Cert.Experts1RefIdeal.nD Cert.Experts1RefIdeal.τ).loc Cert.Experts1RefIdeal.main_arg1) = m' ((c.tc : Thread Cert.Experts1RefIdeal.nD Cert.Experts1RefIdeal.τ).loc Cert.Experts1RefIdeal.main_arg1)
          ∧ r.2.mem ((c.tc : Thread Cert.Experts1RefIdeal.nD Cert.Experts1RefIdeal.τ).loc Cert.Experts1RefIdeal.main_arg2) = m' ((c.tc : Thread Cert.Experts1RefIdeal.nD Cert.Experts1RefIdeal.τ).loc Cert.Experts1RefIdeal.main_arg2)
          ∧ r.2.mem ((c.tc : Thread Cert.Experts1RefIdeal.nD Cert.Experts1RefIdeal.τ).loc Cert.Experts1RefIdeal.main_arg3) = m' ((c.tc : Thread Cert.Experts1RefIdeal.nD Cert.Experts1RefIdeal.τ).loc Cert.Experts1RefIdeal.main_arg3)
          ∧ r.2.mem ((c.tc : Thread Cert.Experts1RefIdeal.nD Cert.Experts1RefIdeal.τ).loc Cert.Experts1RefIdeal.main_arg4) = m' ((c.tc : Thread Cert.Experts1RefIdeal.nD Cert.Experts1RefIdeal.τ).loc Cert.Experts1RefIdeal.main_arg4)
          ∧ r.2.mem ((c.tc : Thread Cert.Experts1RefIdeal.nD Cert.Experts1RefIdeal.τ).loc Cert.Experts1RefIdeal.main_arg5) = m' ((c.tc : Thread Cert.Experts1RefIdeal.nD Cert.Experts1RefIdeal.τ).loc Cert.Experts1RefIdeal.main_arg5)
          ∧ r.2.mem ((c.tc : Thread Cert.Experts1RefIdeal.nD Cert.Experts1RefIdeal.τ).loc Cert.Experts1RefIdeal.main_arg6) = m' ((c.tc : Thread Cert.Experts1RefIdeal.nD Cert.Experts1RefIdeal.τ).loc Cert.Experts1RefIdeal.main_arg6)
          ∧ r.2.mem ((c.tc : Thread Cert.Experts1RefIdeal.nD Cert.Experts1RefIdeal.τ).loc Cert.Experts1RefIdeal.main_arg7) = m' ((c.tc : Thread Cert.Experts1RefIdeal.nD Cert.Experts1RefIdeal.τ).loc Cert.Experts1RefIdeal.main_arg7))

def preserves_Experts2_Experts2Ideal : Prop :=
  True

def algebraic_Experts2Ideal_Experts2RefIdeal_on_used_rows [hExperts2Ideal : Cert.Experts2Ideal.Facts] [hExperts2RefIdeal : Cert.Experts2RefIdeal.Facts] [hPre_schedule : Cert.Pre_schedule.Facts] [hOn_used_rows : Cert.On_used_rows.Facts] : Prop :=
  ∀ (m : (ℓ : Loc Cert.Experts2Ideal.nD Cert.Experts2Ideal.τ Cert.Experts2Ideal.sig) → Buf (Elt Ideal) ℓ) (g : Dev Cert.Experts2Ideal.nD → PrngReg)
    (m' : (ℓ : Loc Cert.Experts2RefIdeal.nD Cert.Experts2RefIdeal.τ Cert.Experts2RefIdeal.sig) → Buf (Elt Ideal) ℓ) (g' : Dev Cert.Experts2RefIdeal.nD → PrngReg), Pre_Experts2Ideal m →
    (∀ c : Dev Cert.Experts2Ideal.nD,
      m' ((c.tc : Thread Cert.Experts2RefIdeal.nD Cert.Experts2RefIdeal.τ).loc Cert.Experts2RefIdeal.main_arg0) = m ((c.tc : Thread Cert.Experts2Ideal.nD Cert.Experts2Ideal.τ).loc Cert.Experts2Ideal.main_arg0)
      ∧ m' ((c.tc : Thread Cert.Experts2RefIdeal.nD Cert.Experts2RefIdeal.τ).loc Cert.Experts2RefIdeal.main_arg1) = m ((c.tc : Thread Cert.Experts2Ideal.nD Cert.Experts2Ideal.τ).loc Cert.Experts2Ideal.main_arg1)
      ∧ m' ((c.tc : Thread Cert.Experts2RefIdeal.nD Cert.Experts2RefIdeal.τ).loc Cert.Experts2RefIdeal.main_arg2) = m ((c.tc : Thread Cert.Experts2Ideal.nD Cert.Experts2Ideal.τ).loc Cert.Experts2Ideal.main_arg2)
      ∧ m' ((c.tc : Thread Cert.Experts2RefIdeal.nD Cert.Experts2RefIdeal.τ).loc Cert.Experts2RefIdeal.main_arg3) = m ((c.tc : Thread Cert.Experts2Ideal.nD Cert.Experts2Ideal.τ).loc Cert.Experts2Ideal.main_arg3)
      ∧ m' ((c.tc : Thread Cert.Experts2RefIdeal.nD Cert.Experts2RefIdeal.τ).loc Cert.Experts2RefIdeal.main_arg4) = m ((c.tc : Thread Cert.Experts2Ideal.nD Cert.Experts2Ideal.τ).loc Cert.Experts2Ideal.main_arg4)
      ∧ m' ((c.tc : Thread Cert.Experts2RefIdeal.nD Cert.Experts2RefIdeal.τ).loc Cert.Experts2RefIdeal.main_arg5) = m ((c.tc : Thread Cert.Experts2Ideal.nD Cert.Experts2Ideal.τ).loc Cert.Experts2Ideal.main_arg5)
      ∧ m' ((c.tc : Thread Cert.Experts2RefIdeal.nD Cert.Experts2RefIdeal.τ).loc Cert.Experts2RefIdeal.main_arg6) = m ((c.tc : Thread Cert.Experts2Ideal.nD Cert.Experts2Ideal.τ).loc Cert.Experts2Ideal.main_arg6)
      ∧ m' ((c.tc : Thread Cert.Experts2RefIdeal.nD Cert.Experts2RefIdeal.τ).loc Cert.Experts2RefIdeal.main_arg7) = m ((c.tc : Thread Cert.Experts2Ideal.nD Cert.Experts2Ideal.τ).loc Cert.Experts2Ideal.main_arg7)) →
    ∃ (v0 : (c : Dev Cert.Experts2Ideal.nD) → Buf (Elt Ideal) ((c.tc : Thread Cert.Experts2Ideal.nD Cert.Experts2Ideal.τ).loc Cert.Experts2Ideal.main_v0)),
      θ_run (Cert.Experts2Ideal.defs (F := Ideal)) (onTc (τ := Cert.Experts2Ideal.τ) (Cert.Experts2Ideal.main (F := Ideal))) ⟨m, fun _ => 0, g⟩ (fun r => ∀ c : Dev Cert.Experts2Ideal.nD,
          (∀ i : (⟨2, ![72960, 2048]⟩ : Shape).Idx, (Cert.On_used_rows.fn (F := Ideal) (m ((c.tc : Thread Cert.Experts2Ideal.nD Cert.Experts2Ideal.τ).loc Cert.Experts2Ideal.main_arg0)) (m ((c.tc : Thread Cert.Experts2Ideal.nD Cert.Experts2Ideal.τ).loc Cert.Experts2Ideal.main_arg1)) (m ((c.tc : Thread Cert.Experts2Ideal.nD Cert.Experts2Ideal.τ).loc Cert.Experts2Ideal.main_arg2)) (m ((c.tc : Thread Cert.Experts2Ideal.nD Cert.Experts2Ideal.τ).loc Cert.Experts2Ideal.main_arg3)) (m ((c.tc : Thread Cert.Experts2Ideal.nD Cert.Experts2Ideal.τ).loc Cert.Experts2Ideal.main_arg4)) (m ((c.tc : Thread Cert.Experts2Ideal.nD Cert.Experts2Ideal.τ).loc Cert.Experts2Ideal.main_arg5)) (m ((c.tc : Thread Cert.Experts2Ideal.nD Cert.Experts2Ideal.τ).loc Cert.Experts2Ideal.main_arg6)) (m ((c.tc : Thread Cert.Experts2Ideal.nD Cert.Experts2Ideal.τ).loc Cert.Experts2Ideal.main_arg7))) i = 1#1 → r.2.mem ((c.tc : Thread Cert.Experts2Ideal.nD Cert.Experts2Ideal.τ).loc Cert.Experts2Ideal.main_v0) i = v0 c i)
          ∧ r.2.mem ((c.tc : Thread Cert.Experts2Ideal.nD Cert.Experts2Ideal.τ).loc Cert.Experts2Ideal.main_arg0) = m ((c.tc : Thread Cert.Experts2Ideal.nD Cert.Experts2Ideal.τ).loc Cert.Experts2Ideal.main_arg0)
          ∧ r.2.mem ((c.tc : Thread Cert.Experts2Ideal.nD Cert.Experts2Ideal.τ).loc Cert.Experts2Ideal.main_arg1) = m ((c.tc : Thread Cert.Experts2Ideal.nD Cert.Experts2Ideal.τ).loc Cert.Experts2Ideal.main_arg1)
          ∧ r.2.mem ((c.tc : Thread Cert.Experts2Ideal.nD Cert.Experts2Ideal.τ).loc Cert.Experts2Ideal.main_arg2) = m ((c.tc : Thread Cert.Experts2Ideal.nD Cert.Experts2Ideal.τ).loc Cert.Experts2Ideal.main_arg2)
          ∧ r.2.mem ((c.tc : Thread Cert.Experts2Ideal.nD Cert.Experts2Ideal.τ).loc Cert.Experts2Ideal.main_arg3) = m ((c.tc : Thread Cert.Experts2Ideal.nD Cert.Experts2Ideal.τ).loc Cert.Experts2Ideal.main_arg3)
          ∧ r.2.mem ((c.tc : Thread Cert.Experts2Ideal.nD Cert.Experts2Ideal.τ).loc Cert.Experts2Ideal.main_arg4) = m ((c.tc : Thread Cert.Experts2Ideal.nD Cert.Experts2Ideal.τ).loc Cert.Experts2Ideal.main_arg4)
          ∧ r.2.mem ((c.tc : Thread Cert.Experts2Ideal.nD Cert.Experts2Ideal.τ).loc Cert.Experts2Ideal.main_arg5) = m ((c.tc : Thread Cert.Experts2Ideal.nD Cert.Experts2Ideal.τ).loc Cert.Experts2Ideal.main_arg5)
          ∧ r.2.mem ((c.tc : Thread Cert.Experts2Ideal.nD Cert.Experts2Ideal.τ).loc Cert.Experts2Ideal.main_arg6) = m ((c.tc : Thread Cert.Experts2Ideal.nD Cert.Experts2Ideal.τ).loc Cert.Experts2Ideal.main_arg6)
          ∧ r.2.mem ((c.tc : Thread Cert.Experts2Ideal.nD Cert.Experts2Ideal.τ).loc Cert.Experts2Ideal.main_arg7) = m ((c.tc : Thread Cert.Experts2Ideal.nD Cert.Experts2Ideal.τ).loc Cert.Experts2Ideal.main_arg7))
      ∧ θ_run (Cert.Experts2RefIdeal.defs (F := Ideal)) (onTc (τ := Cert.Experts2RefIdeal.τ) (Cert.Experts2RefIdeal.main (F := Ideal))) ⟨m', fun _ => 0, g'⟩ (fun r => ∀ c : Dev Cert.Experts2RefIdeal.nD,
          (∀ i : (⟨2, ![72960, 2048]⟩ : Shape).Idx, (Cert.On_used_rows.fn (F := Ideal) (m ((c.tc : Thread Cert.Experts2Ideal.nD Cert.Experts2Ideal.τ).loc Cert.Experts2Ideal.main_arg0)) (m ((c.tc : Thread Cert.Experts2Ideal.nD Cert.Experts2Ideal.τ).loc Cert.Experts2Ideal.main_arg1)) (m ((c.tc : Thread Cert.Experts2Ideal.nD Cert.Experts2Ideal.τ).loc Cert.Experts2Ideal.main_arg2)) (m ((c.tc : Thread Cert.Experts2Ideal.nD Cert.Experts2Ideal.τ).loc Cert.Experts2Ideal.main_arg3)) (m ((c.tc : Thread Cert.Experts2Ideal.nD Cert.Experts2Ideal.τ).loc Cert.Experts2Ideal.main_arg4)) (m ((c.tc : Thread Cert.Experts2Ideal.nD Cert.Experts2Ideal.τ).loc Cert.Experts2Ideal.main_arg5)) (m ((c.tc : Thread Cert.Experts2Ideal.nD Cert.Experts2Ideal.τ).loc Cert.Experts2Ideal.main_arg6)) (m ((c.tc : Thread Cert.Experts2Ideal.nD Cert.Experts2Ideal.τ).loc Cert.Experts2Ideal.main_arg7))) i = 1#1 → r.2.mem ((c.tc : Thread Cert.Experts2RefIdeal.nD Cert.Experts2RefIdeal.τ).loc Cert.Experts2RefIdeal.main_v96) i = v0 c i)
          ∧ r.2.mem ((c.tc : Thread Cert.Experts2RefIdeal.nD Cert.Experts2RefIdeal.τ).loc Cert.Experts2RefIdeal.main_arg0) = m' ((c.tc : Thread Cert.Experts2RefIdeal.nD Cert.Experts2RefIdeal.τ).loc Cert.Experts2RefIdeal.main_arg0)
          ∧ r.2.mem ((c.tc : Thread Cert.Experts2RefIdeal.nD Cert.Experts2RefIdeal.τ).loc Cert.Experts2RefIdeal.main_arg1) = m' ((c.tc : Thread Cert.Experts2RefIdeal.nD Cert.Experts2RefIdeal.τ).loc Cert.Experts2RefIdeal.main_arg1)
          ∧ r.2.mem ((c.tc : Thread Cert.Experts2RefIdeal.nD Cert.Experts2RefIdeal.τ).loc Cert.Experts2RefIdeal.main_arg2) = m' ((c.tc : Thread Cert.Experts2RefIdeal.nD Cert.Experts2RefIdeal.τ).loc Cert.Experts2RefIdeal.main_arg2)
          ∧ r.2.mem ((c.tc : Thread Cert.Experts2RefIdeal.nD Cert.Experts2RefIdeal.τ).loc Cert.Experts2RefIdeal.main_arg3) = m' ((c.tc : Thread Cert.Experts2RefIdeal.nD Cert.Experts2RefIdeal.τ).loc Cert.Experts2RefIdeal.main_arg3)
          ∧ r.2.mem ((c.tc : Thread Cert.Experts2RefIdeal.nD Cert.Experts2RefIdeal.τ).loc Cert.Experts2RefIdeal.main_arg4) = m' ((c.tc : Thread Cert.Experts2RefIdeal.nD Cert.Experts2RefIdeal.τ).loc Cert.Experts2RefIdeal.main_arg4)
          ∧ r.2.mem ((c.tc : Thread Cert.Experts2RefIdeal.nD Cert.Experts2RefIdeal.τ).loc Cert.Experts2RefIdeal.main_arg5) = m' ((c.tc : Thread Cert.Experts2RefIdeal.nD Cert.Experts2RefIdeal.τ).loc Cert.Experts2RefIdeal.main_arg5)
          ∧ r.2.mem ((c.tc : Thread Cert.Experts2RefIdeal.nD Cert.Experts2RefIdeal.τ).loc Cert.Experts2RefIdeal.main_arg6) = m' ((c.tc : Thread Cert.Experts2RefIdeal.nD Cert.Experts2RefIdeal.τ).loc Cert.Experts2RefIdeal.main_arg6)
          ∧ r.2.mem ((c.tc : Thread Cert.Experts2RefIdeal.nD Cert.Experts2RefIdeal.τ).loc Cert.Experts2RefIdeal.main_arg7) = m' ((c.tc : Thread Cert.Experts2RefIdeal.nD Cert.Experts2RefIdeal.τ).loc Cert.Experts2RefIdeal.main_arg7))

def preserves_Experts3_Experts3Ideal : Prop :=
  True

def algebraic_Experts3Ideal_Experts3RefIdeal_on_used_rows [hExperts3Ideal : Cert.Experts3Ideal.Facts] [hExperts3RefIdeal : Cert.Experts3RefIdeal.Facts] [hPre_schedule : Cert.Pre_schedule.Facts] [hOn_used_rows : Cert.On_used_rows.Facts] : Prop :=
  ∀ (m : (ℓ : Loc Cert.Experts3Ideal.nD Cert.Experts3Ideal.τ Cert.Experts3Ideal.sig) → Buf (Elt Ideal) ℓ) (g : Dev Cert.Experts3Ideal.nD → PrngReg)
    (m' : (ℓ : Loc Cert.Experts3RefIdeal.nD Cert.Experts3RefIdeal.τ Cert.Experts3RefIdeal.sig) → Buf (Elt Ideal) ℓ) (g' : Dev Cert.Experts3RefIdeal.nD → PrngReg), Pre_Experts3Ideal m →
    (∀ c : Dev Cert.Experts3Ideal.nD,
      m' ((c.tc : Thread Cert.Experts3RefIdeal.nD Cert.Experts3RefIdeal.τ).loc Cert.Experts3RefIdeal.main_arg0) = m ((c.tc : Thread Cert.Experts3Ideal.nD Cert.Experts3Ideal.τ).loc Cert.Experts3Ideal.main_arg0)
      ∧ m' ((c.tc : Thread Cert.Experts3RefIdeal.nD Cert.Experts3RefIdeal.τ).loc Cert.Experts3RefIdeal.main_arg1) = m ((c.tc : Thread Cert.Experts3Ideal.nD Cert.Experts3Ideal.τ).loc Cert.Experts3Ideal.main_arg1)
      ∧ m' ((c.tc : Thread Cert.Experts3RefIdeal.nD Cert.Experts3RefIdeal.τ).loc Cert.Experts3RefIdeal.main_arg2) = m ((c.tc : Thread Cert.Experts3Ideal.nD Cert.Experts3Ideal.τ).loc Cert.Experts3Ideal.main_arg2)
      ∧ m' ((c.tc : Thread Cert.Experts3RefIdeal.nD Cert.Experts3RefIdeal.τ).loc Cert.Experts3RefIdeal.main_arg3) = m ((c.tc : Thread Cert.Experts3Ideal.nD Cert.Experts3Ideal.τ).loc Cert.Experts3Ideal.main_arg3)
      ∧ m' ((c.tc : Thread Cert.Experts3RefIdeal.nD Cert.Experts3RefIdeal.τ).loc Cert.Experts3RefIdeal.main_arg4) = m ((c.tc : Thread Cert.Experts3Ideal.nD Cert.Experts3Ideal.τ).loc Cert.Experts3Ideal.main_arg4)
      ∧ m' ((c.tc : Thread Cert.Experts3RefIdeal.nD Cert.Experts3RefIdeal.τ).loc Cert.Experts3RefIdeal.main_arg5) = m ((c.tc : Thread Cert.Experts3Ideal.nD Cert.Experts3Ideal.τ).loc Cert.Experts3Ideal.main_arg5)
      ∧ m' ((c.tc : Thread Cert.Experts3RefIdeal.nD Cert.Experts3RefIdeal.τ).loc Cert.Experts3RefIdeal.main_arg6) = m ((c.tc : Thread Cert.Experts3Ideal.nD Cert.Experts3Ideal.τ).loc Cert.Experts3Ideal.main_arg6)
      ∧ m' ((c.tc : Thread Cert.Experts3RefIdeal.nD Cert.Experts3RefIdeal.τ).loc Cert.Experts3RefIdeal.main_arg7) = m ((c.tc : Thread Cert.Experts3Ideal.nD Cert.Experts3Ideal.τ).loc Cert.Experts3Ideal.main_arg7)) →
    ∃ (v0 : (c : Dev Cert.Experts3Ideal.nD) → Buf (Elt Ideal) ((c.tc : Thread Cert.Experts3Ideal.nD Cert.Experts3Ideal.τ).loc Cert.Experts3Ideal.main_v0)),
      θ_run (Cert.Experts3Ideal.defs (F := Ideal)) (onTc (τ := Cert.Experts3Ideal.τ) (Cert.Experts3Ideal.main (F := Ideal))) ⟨m, fun _ => 0, g⟩ (fun r => ∀ c : Dev Cert.Experts3Ideal.nD,
          (∀ i : (⟨2, ![72960, 2048]⟩ : Shape).Idx, (Cert.On_used_rows.fn (F := Ideal) (m ((c.tc : Thread Cert.Experts3Ideal.nD Cert.Experts3Ideal.τ).loc Cert.Experts3Ideal.main_arg0)) (m ((c.tc : Thread Cert.Experts3Ideal.nD Cert.Experts3Ideal.τ).loc Cert.Experts3Ideal.main_arg1)) (m ((c.tc : Thread Cert.Experts3Ideal.nD Cert.Experts3Ideal.τ).loc Cert.Experts3Ideal.main_arg2)) (m ((c.tc : Thread Cert.Experts3Ideal.nD Cert.Experts3Ideal.τ).loc Cert.Experts3Ideal.main_arg3)) (m ((c.tc : Thread Cert.Experts3Ideal.nD Cert.Experts3Ideal.τ).loc Cert.Experts3Ideal.main_arg4)) (m ((c.tc : Thread Cert.Experts3Ideal.nD Cert.Experts3Ideal.τ).loc Cert.Experts3Ideal.main_arg5)) (m ((c.tc : Thread Cert.Experts3Ideal.nD Cert.Experts3Ideal.τ).loc Cert.Experts3Ideal.main_arg6)) (m ((c.tc : Thread Cert.Experts3Ideal.nD Cert.Experts3Ideal.τ).loc Cert.Experts3Ideal.main_arg7))) i = 1#1 → r.2.mem ((c.tc : Thread Cert.Experts3Ideal.nD Cert.Experts3Ideal.τ).loc Cert.Experts3Ideal.main_v0) i = v0 c i)
          ∧ r.2.mem ((c.tc : Thread Cert.Experts3Ideal.nD Cert.Experts3Ideal.τ).loc Cert.Experts3Ideal.main_arg0) = m ((c.tc : Thread Cert.Experts3Ideal.nD Cert.Experts3Ideal.τ).loc Cert.Experts3Ideal.main_arg0)
          ∧ r.2.mem ((c.tc : Thread Cert.Experts3Ideal.nD Cert.Experts3Ideal.τ).loc Cert.Experts3Ideal.main_arg1) = m ((c.tc : Thread Cert.Experts3Ideal.nD Cert.Experts3Ideal.τ).loc Cert.Experts3Ideal.main_arg1)
          ∧ r.2.mem ((c.tc : Thread Cert.Experts3Ideal.nD Cert.Experts3Ideal.τ).loc Cert.Experts3Ideal.main_arg2) = m ((c.tc : Thread Cert.Experts3Ideal.nD Cert.Experts3Ideal.τ).loc Cert.Experts3Ideal.main_arg2)
          ∧ r.2.mem ((c.tc : Thread Cert.Experts3Ideal.nD Cert.Experts3Ideal.τ).loc Cert.Experts3Ideal.main_arg3) = m ((c.tc : Thread Cert.Experts3Ideal.nD Cert.Experts3Ideal.τ).loc Cert.Experts3Ideal.main_arg3)
          ∧ r.2.mem ((c.tc : Thread Cert.Experts3Ideal.nD Cert.Experts3Ideal.τ).loc Cert.Experts3Ideal.main_arg4) = m ((c.tc : Thread Cert.Experts3Ideal.nD Cert.Experts3Ideal.τ).loc Cert.Experts3Ideal.main_arg4)
          ∧ r.2.mem ((c.tc : Thread Cert.Experts3Ideal.nD Cert.Experts3Ideal.τ).loc Cert.Experts3Ideal.main_arg5) = m ((c.tc : Thread Cert.Experts3Ideal.nD Cert.Experts3Ideal.τ).loc Cert.Experts3Ideal.main_arg5)
          ∧ r.2.mem ((c.tc : Thread Cert.Experts3Ideal.nD Cert.Experts3Ideal.τ).loc Cert.Experts3Ideal.main_arg6) = m ((c.tc : Thread Cert.Experts3Ideal.nD Cert.Experts3Ideal.τ).loc Cert.Experts3Ideal.main_arg6)
          ∧ r.2.mem ((c.tc : Thread Cert.Experts3Ideal.nD Cert.Experts3Ideal.τ).loc Cert.Experts3Ideal.main_arg7) = m ((c.tc : Thread Cert.Experts3Ideal.nD Cert.Experts3Ideal.τ).loc Cert.Experts3Ideal.main_arg7))
      ∧ θ_run (Cert.Experts3RefIdeal.defs (F := Ideal)) (onTc (τ := Cert.Experts3RefIdeal.τ) (Cert.Experts3RefIdeal.main (F := Ideal))) ⟨m', fun _ => 0, g'⟩ (fun r => ∀ c : Dev Cert.Experts3RefIdeal.nD,
          (∀ i : (⟨2, ![72960, 2048]⟩ : Shape).Idx, (Cert.On_used_rows.fn (F := Ideal) (m ((c.tc : Thread Cert.Experts3Ideal.nD Cert.Experts3Ideal.τ).loc Cert.Experts3Ideal.main_arg0)) (m ((c.tc : Thread Cert.Experts3Ideal.nD Cert.Experts3Ideal.τ).loc Cert.Experts3Ideal.main_arg1)) (m ((c.tc : Thread Cert.Experts3Ideal.nD Cert.Experts3Ideal.τ).loc Cert.Experts3Ideal.main_arg2)) (m ((c.tc : Thread Cert.Experts3Ideal.nD Cert.Experts3Ideal.τ).loc Cert.Experts3Ideal.main_arg3)) (m ((c.tc : Thread Cert.Experts3Ideal.nD Cert.Experts3Ideal.τ).loc Cert.Experts3Ideal.main_arg4)) (m ((c.tc : Thread Cert.Experts3Ideal.nD Cert.Experts3Ideal.τ).loc Cert.Experts3Ideal.main_arg5)) (m ((c.tc : Thread Cert.Experts3Ideal.nD Cert.Experts3Ideal.τ).loc Cert.Experts3Ideal.main_arg6)) (m ((c.tc : Thread Cert.Experts3Ideal.nD Cert.Experts3Ideal.τ).loc Cert.Experts3Ideal.main_arg7))) i = 1#1 → r.2.mem ((c.tc : Thread Cert.Experts3RefIdeal.nD Cert.Experts3RefIdeal.τ).loc Cert.Experts3RefIdeal.main_v96) i = v0 c i)
          ∧ r.2.mem ((c.tc : Thread Cert.Experts3RefIdeal.nD Cert.Experts3RefIdeal.τ).loc Cert.Experts3RefIdeal.main_arg0) = m' ((c.tc : Thread Cert.Experts3RefIdeal.nD Cert.Experts3RefIdeal.τ).loc Cert.Experts3RefIdeal.main_arg0)
          ∧ r.2.mem ((c.tc : Thread Cert.Experts3RefIdeal.nD Cert.Experts3RefIdeal.τ).loc Cert.Experts3RefIdeal.main_arg1) = m' ((c.tc : Thread Cert.Experts3RefIdeal.nD Cert.Experts3RefIdeal.τ).loc Cert.Experts3RefIdeal.main_arg1)
          ∧ r.2.mem ((c.tc : Thread Cert.Experts3RefIdeal.nD Cert.Experts3RefIdeal.τ).loc Cert.Experts3RefIdeal.main_arg2) = m' ((c.tc : Thread Cert.Experts3RefIdeal.nD Cert.Experts3RefIdeal.τ).loc Cert.Experts3RefIdeal.main_arg2)
          ∧ r.2.mem ((c.tc : Thread Cert.Experts3RefIdeal.nD Cert.Experts3RefIdeal.τ).loc Cert.Experts3RefIdeal.main_arg3) = m' ((c.tc : Thread Cert.Experts3RefIdeal.nD Cert.Experts3RefIdeal.τ).loc Cert.Experts3RefIdeal.main_arg3)
          ∧ r.2.mem ((c.tc : Thread Cert.Experts3RefIdeal.nD Cert.Experts3RefIdeal.τ).loc Cert.Experts3RefIdeal.main_arg4) = m' ((c.tc : Thread Cert.Experts3RefIdeal.nD Cert.Experts3RefIdeal.τ).loc Cert.Experts3RefIdeal.main_arg4)
          ∧ r.2.mem ((c.tc : Thread Cert.Experts3RefIdeal.nD Cert.Experts3RefIdeal.τ).loc Cert.Experts3RefIdeal.main_arg5) = m' ((c.tc : Thread Cert.Experts3RefIdeal.nD Cert.Experts3RefIdeal.τ).loc Cert.Experts3RefIdeal.main_arg5)
          ∧ r.2.mem ((c.tc : Thread Cert.Experts3RefIdeal.nD Cert.Experts3RefIdeal.τ).loc Cert.Experts3RefIdeal.main_arg6) = m' ((c.tc : Thread Cert.Experts3RefIdeal.nD Cert.Experts3RefIdeal.τ).loc Cert.Experts3RefIdeal.main_arg6)
          ∧ r.2.mem ((c.tc : Thread Cert.Experts3RefIdeal.nD Cert.Experts3RefIdeal.τ).loc Cert.Experts3RefIdeal.main_arg7) = m' ((c.tc : Thread Cert.Experts3RefIdeal.nD Cert.Experts3RefIdeal.τ).loc Cert.Experts3RefIdeal.main_arg7))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)) →
    ∃ (v0 : (c : Dev Cert.OutProjIdeal.nD) → Buf (Elt Ideal) ((c.tc : Thread Cert.OutProjIdeal.nD Cert.OutProjIdeal.τ).loc Cert.OutProjIdeal.main_v11_0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v28) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7))

def preserves_Router_RouterIdeal : Prop :=
  True

def algebraic_RouterIdeal_RouterRefIdeal_pre_finite_rows [hRouterIdeal : Cert.RouterIdeal.Facts] [hRouterRefIdeal : Cert.RouterRefIdeal.Facts] [hPre_finite_rows : Cert.Pre_finite_rows.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterRefIdeal.nD Cert.RouterRefIdeal.τ Cert.RouterRefIdeal.sig) → Buf (Elt Ideal) ℓ) (g' : Dev Cert.RouterRefIdeal.nD → PrngReg), Pre_RouterIdeal_finite_rows m →
    (∀ c : Dev Cert.RouterIdeal.nD,
      m' ((c.tc : Thread Cert.RouterRefIdeal.nD Cert.RouterRefIdeal.τ).loc Cert.RouterRefIdeal.main_arg0) = m ((c.tc : Thread Cert.RouterIdeal.nD Cert.RouterIdeal.τ).loc Cert.RouterIdeal.main_arg0)
      ∧ m' ((c.tc : Thread Cert.RouterRefIdeal.nD Cert.RouterRefIdeal.τ).loc Cert.RouterRefIdeal.main_arg1) = m ((c.tc : Thread Cert.RouterIdeal.nD Cert.RouterIdeal.τ).loc Cert.RouterIdeal.main_arg1)
      ∧ m' ((c.tc : Thread Cert.RouterRefIdeal.nD Cert.RouterRefIdeal.τ).loc Cert.RouterRefIdeal.main_arg2) = m ((c.tc : Thread Cert.RouterIdeal.nD Cert.RouterIdeal.τ).loc Cert.RouterIdeal.main_arg2)
      ∧ m' ((c.tc : Thread Cert.RouterRefIdeal.nD Cert.RouterRefIdeal.τ).loc Cert.RouterRefIdeal.main_arg3) = m ((c.tc : Thread Cert.RouterIdeal.nD Cert.RouterIdeal.τ).loc Cert.RouterIdeal.main_arg3)
      ∧ m' ((c.tc : Thread Cert.RouterRefIdeal.nD Cert.RouterRefIdeal.τ).loc Cert.RouterRefIdeal.main_arg4) = m ((c.tc : Thread Cert.RouterIdeal.nD Cert.RouterIdeal.τ).loc Cert.RouterIdeal.main_arg4)
      ∧ m' ((c.tc : Thread Cert.RouterRefIdeal.nD Cert.RouterRefIdeal.τ).loc Cert.RouterRefIdeal.main_arg5) = m ((c.tc : Thread Cert.RouterIdeal.nD Cert.RouterIdeal.τ).loc Cert.RouterIdeal.main_arg5)
      ∧ m' ((c.tc : Thread Cert.RouterRefIdeal.nD Cert.RouterRefIdeal.τ).loc Cert.RouterRefIdeal.main_arg6) = m ((c.tc : Thread Cert.RouterIdeal.nD Cert.RouterIdeal.τ).loc Cert.RouterIdeal.main_arg6)
      ∧ m' ((c.tc : Thread Cert.RouterRefIdeal.nD Cert.RouterRefIdeal.τ).loc Cert.RouterRefIdeal.main_arg7) = m ((c.tc : Thread Cert.RouterIdeal.nD Cert.RouterIdeal.τ).loc Cert.RouterIdeal.main_arg7)) →
    ∃ (v0 : (c : Dev Cert.RouterIdeal.nD) → Buf (Elt Ideal) ((c.tc : Thread Cert.RouterIdeal.nD Cert.RouterIdeal.τ).loc Cert.RouterIdeal.main_v11_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v11_2) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2)
          ∧ r.2.mem ((c.tc : Thread Cert.RouterIdeal.nD Cert.RouterIdeal.τ).loc Cert.RouterIdeal.main_arg3) = m ((c.tc : Thread Cert.RouterIdeal.nD Cert.RouterIdeal.τ).loc Cert.RouterIdeal.main_arg3)
          ∧ r.2.mem ((c.tc : Thread Cert.RouterIdeal.nD Cert.RouterIdeal.τ).loc Cert.RouterIdeal.main_arg4) = m ((c.tc : Thread Cert.RouterIdeal.nD Cert.RouterIdeal.τ).loc Cert.RouterIdeal.main_arg4)
          ∧ r.2.mem ((c.tc : Thread Cert.RouterIdeal.nD Cert.RouterIdeal.τ).loc Cert.RouterIdeal.main_arg5) = m ((c.tc : Thread Cert.RouterIdeal.nD Cert.RouterIdeal.τ).loc Cert.RouterIdeal.main_arg5)
          ∧ r.2.mem ((c.tc : Thread Cert.RouterIdeal.nD Cert.RouterIdeal.τ).loc Cert.RouterIdeal.main_arg6) = m ((c.tc : Thread Cert.RouterIdeal.nD Cert.RouterIdeal.τ).loc Cert.RouterIdeal.main_arg6)
          ∧ r.2.mem ((c.tc : Thread Cert.RouterIdeal.nD Cert.RouterIdeal.τ).loc Cert.RouterIdeal.main_arg7) = m ((c.tc : Thread Cert.RouterIdeal.nD Cert.RouterIdeal.τ).loc Cert.RouterIdeal.main_arg7))
      ∧ θ_run (Cert.RouterRefIdeal.defs (F := Ideal)) (onTc (τ := Cert.RouterRefIdeal.τ) (Cert.RouterRefIdeal.main (F := Ideal))) ⟨m', fun _ => 0, g'⟩ (fun r => ∀ c : Dev Cert.RouterRefIdeal.nD,
          r.2.mem ((c.tc : Thread Cert.RouterRefIdeal.nD Cert.RouterRefIdeal.τ).loc Cert.RouterRefIdeal.main_v33) = v0 c
          ∧ r.2.mem ((c.tc : Thread Cert.RouterRefIdeal.nD Cert.RouterRefIdeal.τ).loc Cert.RouterRefIdeal.main_arg0) = m' ((c.tc : Thread Cert.RouterRefIdeal.nD Cert.RouterRefIdeal.τ).loc Cert.RouterRefIdeal.main_arg0)
          ∧ r.2.mem ((c.tc : Thread Cert.RouterRefIdeal.nD Cert.RouterRefIdeal.τ).loc Cert.RouterRefIdeal.main_arg1) = m' ((c.tc : Thread Cert.RouterRefIdeal.nD Cert.RouterRefIdeal.τ).loc Cert.RouterRefIdeal.main_arg1)
          ∧ r.2.mem ((c.tc : Thread Cert.RouterRefIdeal.nD Cert.RouterRefIdeal.τ).loc Cert.RouterRefIdeal.main_arg2) = m' ((c.tc : Thread Cert.RouterRefIdeal.nD Cert.RouterRefIdeal.τ).loc Cert.RouterRefIdeal.main_arg2)
          ∧ r.2.mem ((c.tc : Thread Cert.RouterRefIdeal.nD Cert.RouterRefIdeal.τ).loc Cert.RouterRefIdeal.main_arg3) = m' ((c.tc : Thread Cert.RouterRefIdeal.nD Cert.RouterRefIdeal.τ).loc Cert.RouterRefIdeal.main_arg3)
          ∧ r.2.mem ((c.tc : Thread Cert.RouterRefIdeal.nD Cert.RouterRefIdeal.τ).loc Cert.RouterRefIdeal.main_arg4) = m' ((c.tc : Thread Cert.RouterRefIdeal.nD Cert.RouterRefIdeal.τ).loc Cert.RouterRefIdeal.main_arg4)
          ∧ r.2.mem ((c.tc : Thread Cert.RouterRefIdeal.nD Cert.RouterRefIdeal.τ).loc Cert.RouterRefIdeal.main_arg5) = m' ((c.tc : Thread Cert.RouterRefIdeal.nD Cert.RouterRefIdeal.τ).loc Cert.RouterRefIdeal.main_arg5)
          ∧ r.2.mem ((c.tc : Thread Cert.RouterRefIdeal.nD Cert.RouterRefIdeal.τ).loc Cert.RouterRefIdeal.main_arg6) = m' ((c.tc : Thread Cert.RouterRefIdeal.nD Cert.RouterRefIdeal.τ).loc Cert.RouterRefIdeal.main_arg6)
          ∧ r.2.mem ((c.tc : Thread Cert.RouterRefIdeal.nD Cert.RouterRefIdeal.τ).loc Cert.RouterRefIdeal.main_arg7) = m' ((c.tc : Thread Cert.RouterRefIdeal.nD Cert.RouterRefIdeal.τ).loc Cert.RouterRefIdeal.main_arg7))

def preserves_RowsCopy_RowsCopyIdeal : Prop :=
  True

def algebraic_RowsCopyIdeal_RowsCopyRefIdeal_on_written_rows [hRowsCopyIdeal : Cert.RowsCopyIdeal.Facts] [hRowsCopyRefIdeal : Cert.RowsCopyRefIdeal.Facts] [hOn_written_rows : Cert.On_written_rows.Facts] : Prop :=
  ∀ (m : (ℓ : Loc Cert.RowsCopyIdeal.nD Cert.RowsCopyIdeal.τ Cert.RowsCopyIdeal.sig) → Buf (Elt Ideal) ℓ) (g : Dev Cert.RowsCopyIdeal.nD → PrngReg)
    (m' : (ℓ : Loc Cert.RowsCopyRefIdeal.nD Cert.RowsCopyRefIdeal.τ Cert.RowsCopyRefIdeal.sig) → Buf (Elt Ideal) ℓ) (g' : Dev Cert.RowsCopyRefIdeal.nD → PrngReg), Pre_RowsCopyIdeal m →
    (∀ c : Dev Cert.RowsCopyIdeal.nD,
      m' ((c.tc : Thread Cert.RowsCopyRefIdeal.nD Cert.RowsCopyRefIdeal.τ).loc Cert.RowsCopyRefIdeal.main_arg0) = m ((c.tc : Thread Cert.RowsCopyIdeal.nD Cert.RowsCopyIdeal.τ).loc Cert.RowsCopyIdeal.main_arg0)
      ∧ m' ((c.tc : Thread Cert.RowsCopyRefIdeal.nD Cert.RowsCopyRefIdeal.τ).loc Cert.RowsCopyRefIdeal.main_arg1) = m ((c.tc : Thread Cert.RowsCopyIdeal.nD Cert.RowsCopyIdeal.τ).loc Cert.RowsCopyIdeal.main_arg1)
      ∧ m' ((c.tc : Thread Cert.RowsCopyRefIdeal.nD Cert.RowsCopyRefIdeal.τ).loc Cert.RowsCopyRefIdeal.main_arg2) = m ((c.tc : Thread Cert.RowsCopyIdeal.nD Cert.RowsCopyIdeal.τ).loc Cert.RowsCopyIdeal.main_arg2)
      ∧ m' ((c.tc : Thread Cert.RowsCopyRefIdeal.nD Cert.RowsCopyRefIdeal.τ).loc Cert.RowsCopyRefIdeal.main_arg3) = m ((c.tc : Thread Cert.RowsCopyIdeal.nD Cert.RowsCopyIdeal.τ).loc Cert.RowsCopyIdeal.main_arg3)
      ∧ m' ((c.tc : Thread Cert.RowsCopyRefIdeal.nD Cert.RowsCopyRefIdeal.τ).loc Cert.RowsCopyRefIdeal.main_arg4) = m ((c.tc : Thread Cert.RowsCopyIdeal.nD Cert.RowsCopyIdeal.τ).loc Cert.RowsCopyIdeal.main_arg4)
      ∧ m' ((c.tc : Thread Cert.RowsCopyRefIdeal.nD Cert.RowsCopyRefIdeal.τ).loc Cert.RowsCopyRefIdeal.main_arg5) = m ((c.tc : Thread Cert.RowsCopyIdeal.nD Cert.RowsCopyIdeal.τ).loc Cert.RowsCopyIdeal.main_arg5)
      ∧ m' ((c.tc : Thread Cert.RowsCopyRefIdeal.nD Cert.RowsCopyRefIdeal.τ).loc Cert.RowsCopyRefIdeal.main_arg6) = m ((c.tc : Thread Cert.RowsCopyIdeal.nD Cert.RowsCopyIdeal.τ).loc Cert.RowsCopyIdeal.main_arg6)
      ∧ m' ((c.tc : Thread Cert.RowsCopyRefIdeal.nD Cert.RowsCopyRefIdeal.τ).loc Cert.RowsCopyRefIdeal.main_arg7) = m ((c.tc : Thread Cert.RowsCopyIdeal.nD Cert.RowsCopyIdeal.τ).loc Cert.RowsCopyIdeal.main_arg7)) →
    ∃ (v0 : (c : Dev Cert.RowsCopyIdeal.nD) → Buf (Elt Ideal) ((c.tc : Thread Cert.RowsCopyIdeal.nD Cert.RowsCopyIdeal.τ).loc Cert.RowsCopyIdeal.main_v11_1)),
      θ_run (Cert.RowsCopyIdeal.defs (F := Ideal)) (onTc (τ := Cert.RowsCopyIdeal.τ) (Cert.RowsCopyIdeal.main (F := Ideal))) ⟨m, fun _ => 0, g⟩ (fun r => ∀ c : Dev Cert.RowsCopyIdeal.nD,
          (∀ i : (⟨2, ![16896, 2048]⟩ : Shape).Idx, (Cert.On_written_rows.fn (F := Ideal) (m ((c.tc : Thread Cert.RowsCopyIdeal.nD Cert.RowsCopyIdeal.τ).loc Cert.RowsCopyIdeal.main_arg0)) (m ((c.tc : Thread Cert.RowsCopyIdeal.nD Cert.RowsCopyIdeal.τ).loc Cert.RowsCopyIdeal.main_arg1)) (m ((c.tc : Thread Cert.RowsCopyIdeal.nD Cert.RowsCopyIdeal.τ).loc Cert.RowsCopyIdeal.main_arg2)) (m ((c.tc : Thread Cert.RowsCopyIdeal.nD Cert.RowsCopyIdeal.τ).loc Cert.RowsCopyIdeal.main_arg3)) (m ((c.tc : Thread Cert.RowsCopyIdeal.nD Cert.RowsCopyIdeal.τ).loc Cert.RowsCopyIdeal.main_arg4)) (m ((c.tc : Thread Cert.RowsCopyIdeal.nD Cert.RowsCopyIdeal.τ).loc Cert.RowsCopyIdeal.main_arg5)) (m ((c.tc : Thread Cert.RowsCopyIdeal.nD Cert.RowsCopyIdeal.τ).loc Cert.RowsCopyIdeal.main_arg6)) (m ((c.tc : Thread Cert.RowsCopyIdeal.nD Cert.RowsCopyIdeal.τ).loc Cert.RowsCopyIdeal.main_arg7))) i = 1#1 → r.2.mem ((c.tc : Thread Cert.RowsCopyIdeal.nD Cert.RowsCopyIdeal.τ).loc Cert.RowsCopyIdeal.main_v11_1) i = v0 c i)
          ∧ r.2.mem ((c.tc : Thread Cert.RowsCopyIdeal.nD Cert.RowsCopyIdeal.τ).loc Cert.RowsCopyIdeal.main_arg0) = m ((c.tc : Thread Cert.RowsCopyIdeal.nD Cert.RowsCopyIdeal.τ).loc Cert.RowsCopyIdeal.main_arg0)
          ∧ r.2.mem ((c.tc : Thread Cert.RowsCopyIdeal.nD Cert.RowsCopyIdeal.τ).loc Cert.RowsCopyIdeal.main_arg1) = m ((c.tc : Thread Cert.RowsCopyIdeal.nD Cert.RowsCopyIdeal.τ).loc Cert.RowsCopyIdeal.main_arg1)
          ∧ r.2.mem ((c.tc : Thread Cert.RowsCopyIdeal.nD Cert.RowsCopyIdeal.τ).loc Cert.RowsCopyIdeal.main_arg2) = m ((c.tc : Thread Cert.RowsCopyIdeal.nD Cert.RowsCopyIdeal.τ).loc Cert.RowsCopyIdeal.main_arg2)
          ∧ r.2.mem ((c.tc : Thread Cert.RowsCopyIdeal.nD Cert.RowsCopyIdeal.τ).loc Cert.RowsCopyIdeal.main_arg3) = m ((c.tc : Thread Cert.RowsCopyIdeal.nD Cert.RowsCopyIdeal.τ).loc Cert.RowsCopyIdeal.main_arg3)
          ∧ r.2.mem ((c.tc : Thread Cert.RowsCopyIdeal.nD Cert.RowsCopyIdeal.τ).loc Cert.RowsCopyIdeal.main_arg4) = m ((c.tc : Thread Cert.RowsCopyIdeal.nD Cert.RowsCopyIdeal.τ).loc Cert.RowsCopyIdeal.main_arg4)
          ∧ r.2.mem ((c.tc : Thread Cert.RowsCopyIdeal.nD Cert.RowsCopyIdeal.τ).loc Cert.RowsCopyIdeal.main_arg5) = m ((c.tc : Thread Cert.RowsCopyIdeal.nD Cert.RowsCopyIdeal.τ).loc Cert.RowsCopyIdeal.main_arg5)
          ∧ r.2.mem ((c.tc : Thread Cert.RowsCopyIdeal.nD Cert.RowsCopyIdeal.τ).loc Cert.RowsCopyIdeal.main_arg6) = m ((c.tc : Thread Cert.RowsCopyIdeal.nD Cert.RowsCopyIdeal.τ).loc Cert.RowsCopyIdeal.main_arg6)
          ∧ r.2.mem ((c.tc : Thread Cert.RowsCopyIdeal.nD Cert.RowsCopyIdeal.τ).loc Cert.RowsCopyIdeal.main_arg7) = m ((c.tc : Thread Cert.RowsCopyIdeal.nD Cert.RowsCopyIdeal.τ).loc Cert.RowsCopyIdeal.main_arg7))
      ∧ θ_run (Cert.RowsCopyRefIdeal.defs (F := Ideal)) (onTc (τ := Cert.RowsCopyRefIdeal.τ) (Cert.RowsCopyRefIdeal.main (F := Ideal))) ⟨m', fun _ => 0, g'⟩ (fun r => ∀ c : Dev Cert.RowsCopyRefIdeal.nD,
          (∀ i : (⟨2, ![16896, 2048]⟩ : Shape).Idx, (Cert.On_written_rows.fn (F := Ideal) (m ((c.tc : Thread Cert.RowsCopyIdeal.nD Cert.RowsCopyIdeal.τ).loc Cert.RowsCopyIdeal.main_arg0)) (m ((c.tc : Thread Cert.RowsCopyIdeal.nD Cert.RowsCopyIdeal.τ).loc Cert.RowsCopyIdeal.main_arg1)) (m ((c.tc : Thread Cert.RowsCopyIdeal.nD Cert.RowsCopyIdeal.τ).loc Cert.RowsCopyIdeal.main_arg2)) (m ((c.tc : Thread Cert.RowsCopyIdeal.nD Cert.RowsCopyIdeal.τ).loc Cert.RowsCopyIdeal.main_arg3)) (m ((c.tc : Thread Cert.RowsCopyIdeal.nD Cert.RowsCopyIdeal.τ).loc Cert.RowsCopyIdeal.main_arg4)) (m ((c.tc : Thread Cert.RowsCopyIdeal.nD Cert.RowsCopyIdeal.τ).loc Cert.RowsCopyIdeal.main_arg5)) (m ((c.tc : Thread Cert.RowsCopyIdeal.nD Cert.RowsCopyIdeal.τ).loc Cert.RowsCopyIdeal.main_arg6)) (m ((c.tc : Thread Cert.RowsCopyIdeal.nD Cert.RowsCopyIdeal.τ).loc Cert.RowsCopyIdeal.main_arg7))) i = 1#1 → r.2.mem ((c.tc : Thread Cert.RowsCopyRefIdeal.nD Cert.RowsCopyRefIdeal.τ).loc Cert.RowsCopyRefIdeal.main_v30) i = v0 c i)
          ∧ r.2.mem ((c.tc : Thread Cert.RowsCopyRefIdeal.nD Cert.RowsCopyRefIdeal.τ).loc Cert.RowsCopyRefIdeal.main_arg0) = m' ((c.tc : Thread Cert.RowsCopyRefIdeal.nD Cert.RowsCopyRefIdeal.τ).loc Cert.RowsCopyRefIdeal.main_arg0)
          ∧ r.2.mem ((c.tc : Thread Cert.RowsCopyRefIdeal.nD Cert.RowsCopyRefIdeal.τ).loc Cert.RowsCopyRefIdeal.main_arg1) = m' ((c.tc : Thread Cert.RowsCopyRefIdeal.nD Cert.RowsCopyRefIdeal.τ).loc Cert.RowsCopyRefIdeal.main_arg1)
          ∧ r.2.mem ((c.tc : Thread Cert.RowsCopyRefIdeal.nD Cert.RowsCopyRefIdeal.τ).loc Cert.RowsCopyRefIdeal.main_arg2) = m' ((c.tc : Thread Cert.RowsCopyRefIdeal.nD Cert.RowsCopyRefIdeal.τ).loc Cert.RowsCopyRefIdeal.main_arg2)
          ∧ r.2.mem ((c.tc : Thread Cert.RowsCopyRefIdeal.nD Cert.RowsCopyRefIdeal.τ).loc Cert.RowsCopyRefIdeal.main_arg3) = m' ((c.tc : Thread Cert.RowsCopyRefIdeal.nD Cert.RowsCopyRefIdeal.τ).loc Cert.RowsCopyRefIdeal.main_arg3)
          ∧ r.2.mem ((c.tc : Thread Cert.RowsCopyRefIdeal.nD Cert.RowsCopyRefIdeal.τ).loc Cert.RowsCopyRefIdeal.main_arg4) = m' ((c.tc : Thread Cert.RowsCopyRefIdeal.nD Cert.RowsCopyRefIdeal.τ).loc Cert.RowsCopyRefIdeal.main_arg4)
          ∧ r.2.mem ((c.tc : Thread Cert.RowsCopyRefIdeal.nD Cert.RowsCopyRefIdeal.τ).loc Cert.RowsCopyRefIdeal.main_arg5) = m' ((c.tc : Thread Cert.RowsCopyRefIdeal.nD Cert.RowsCopyRefIdeal.τ).loc Cert.RowsCopyRefIdeal.main_arg5)
          ∧ r.2.mem ((c.tc : Thread Cert.RowsCopyRefIdeal.nD Cert.RowsCopyRefIdeal.τ).loc Cert.RowsCopyRefIdeal.main_arg6) = m' ((c.tc : Thread Cert.RowsCopyRefIdeal.nD Cert.RowsCopyRefIdeal.τ).loc Cert.RowsCopyRefIdeal.main_arg6)
          ∧ r.2.mem ((c.tc : Thread Cert.RowsCopyRefIdeal.nD Cert.RowsCopyRefIdeal.τ).loc Cert.RowsCopyRefIdeal.main_arg7) = m' ((c.tc : Thread Cert.RowsCopyRefIdeal.nD Cert.RowsCopyRefIdeal.τ).loc Cert.RowsCopyRefIdeal.main_arg7))

def Claim : Prop :=
  ∃ (hAttention : Cert.Attention.Facts) (hAttentionIdeal : Cert.AttentionIdeal.Facts) (hAttentionRefIdeal : Cert.AttentionRefIdeal.Facts) (hProjection : Cert.Projection.Facts) (hProjectionIdeal : Cert.ProjectionIdeal.Facts) (hProjectionRefIdeal : Cert.ProjectionRefIdeal.Facts) (hExperts : Cert.Experts.Facts) (hExpertsIdeal : Cert.ExpertsIdeal.Facts) (hExpertsRefIdeal : Cert.ExpertsRefIdeal.Facts) (hExperts1 : Cert.Experts1.Facts) (hExperts1Ideal : Cert.Experts1Ideal.Facts) (hExperts1RefIdeal : Cert.Experts1RefIdeal.Facts) (hExperts2 : Cert.Experts2.Facts) (hExperts2Ideal : Cert.Experts2Ideal.Facts) (hExperts2RefIdeal : Cert.Experts2RefIdeal.Facts) (hExperts3 : Cert.Experts3.Facts) (hExperts3Ideal : Cert.Experts3Ideal.Facts) (hExperts3RefIdeal : Cert.Experts3RefIdeal.Facts) (hOutProj : Cert.OutProj.Facts) (hOutProjIdeal : Cert.OutProjIdeal.Facts) (hOutProjRefIdeal : Cert.OutProjRefIdeal.Facts) (hRouter : Cert.Router.Facts) (hRouterIdeal : Cert.RouterIdeal.Facts) (hRouterRefIdeal : Cert.RouterRefIdeal.Facts) (hRowsCopy : Cert.RowsCopy.Facts) (hRowsCopyIdeal : Cert.RowsCopyIdeal.Facts) (hRowsCopyRefIdeal : Cert.RowsCopyRefIdeal.Facts) (hPre_finite : Cert.Pre_finite.Facts) (hPre_schedule : Cert.Pre_schedule.Facts) (hPre_finite_rows : Cert.Pre_finite_rows.Facts) (hOn_prompt_rows : Cert.On_prompt_rows.Facts) (hOn_used_rows : Cert.On_used_rows.Facts) (hOn_written_rows : Cert.On_written_rows.Facts),
    quiescent_Attention (hAttention := hAttention)
    ∧ quiescent_AttentionIdeal (hAttentionIdeal := hAttentionIdeal)
    ∧ quiescent_AttentionIdeal_pre_finite (hAttentionIdeal := hAttentionIdeal) (hPre_finite := hPre_finite)
    ∧ quiescent_AttentionRefIdeal (hAttentionRefIdeal := hAttentionRefIdeal)
    ∧ quiescent_AttentionRefIdeal_pre_finite (hAttentionRefIdeal := hAttentionRefIdeal) (hPre_finite := hPre_finite)
    ∧ quiescent_Projection (hProjection := hProjection)
    ∧ quiescent_ProjectionIdeal (hProjectionIdeal := hProjectionIdeal)
    ∧ quiescent_ProjectionRefIdeal (hProjectionRefIdeal := hProjectionRefIdeal)
    ∧ quiescent_Experts (hExperts := hExperts) (hPre_schedule := hPre_schedule)
    ∧ quiescent_ExpertsIdeal (hExpertsIdeal := hExpertsIdeal) (hPre_schedule := hPre_schedule)
    ∧ quiescent_ExpertsRefIdeal (hExpertsRefIdeal := hExpertsRefIdeal)
    ∧ quiescent_ExpertsRefIdeal_pre_schedule (hExpertsRefIdeal := hExpertsRefIdeal) (hPre_schedule := hPre_schedule)
    ∧ quiescent_Experts1 (hExperts1 := hExperts1) (hPre_schedule := hPre_schedule)
    ∧ quiescent_Experts1Ideal (hExperts1Ideal := hExperts1Ideal) (hPre_schedule := hPre_schedule)
    ∧ quiescent_Experts1RefIdeal (hExperts1RefIdeal := hExperts1RefIdeal)
    ∧ quiescent_Experts1RefIdeal_pre_schedule (hExperts1RefIdeal := hExperts1RefIdeal) (hPre_schedule := hPre_schedule)
    ∧ quiescent_Experts2 (hExperts2 := hExperts2) (hPre_schedule := hPre_schedule)
    ∧ quiescent_Experts2Ideal (hExperts2Ideal := hExperts2Ideal) (hPre_schedule := hPre_schedule)
    ∧ quiescent_Experts2RefIdeal (hExperts2RefIdeal := hExperts2RefIdeal)
    ∧ quiescent_Experts2RefIdeal_pre_schedule (hExperts2RefIdeal := hExperts2RefIdeal) (hPre_schedule := hPre_schedule)
    ∧ quiescent_Experts3 (hExperts3 := hExperts3) (hPre_schedule := hPre_schedule)
    ∧ quiescent_Experts3Ideal (hExperts3Ideal := hExperts3Ideal) (hPre_schedule := hPre_schedule)
    ∧ quiescent_Experts3RefIdeal (hExperts3RefIdeal := hExperts3RefIdeal)
    ∧ quiescent_Experts3RefIdeal_pre_schedule (hExperts3RefIdeal := hExperts3RefIdeal) (hPre_schedule := hPre_schedule)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Router (hRouter := hRouter)
    ∧ quiescent_RouterIdeal (hRouterIdeal := hRouterIdeal)
    ∧ quiescent_RouterIdeal_pre_finite_rows (hRouterIdeal := hRouterIdeal) (hPre_finite_rows := hPre_finite_rows)
    ∧ quiescent_RouterRefIdeal (hRouterRefIdeal := hRouterRefIdeal)
    ∧ quiescent_RouterRefIdeal_pre_finite_rows (hRouterRefIdeal := hRouterRefIdeal) (hPre_finite_rows := hPre_finite_rows)
    ∧ quiescent_RowsCopy (hRowsCopy := hRowsCopy)
    ∧ quiescent_RowsCopyIdeal (hRowsCopyIdeal := hRowsCopyIdeal)
    ∧ quiescent_RowsCopyRefIdeal (hRowsCopyRefIdeal := hRowsCopyRefIdeal)
    ∧ preserves_Attention_AttentionIdeal
    ∧ algebraic_AttentionIdeal_AttentionRefIdeal_on_prompt_rows_pre_finite (hAttentionIdeal := hAttentionIdeal) (hAttentionRefIdeal := hAttentionRefIdeal) (hPre_finite := hPre_finite) (hOn_prompt_rows := hOn_prompt_rows)
    ∧ preserves_Projection_ProjectionIdeal
    ∧ algebraic_ProjectionIdeal_ProjectionRefIdeal (hProjectionIdeal := hProjectionIdeal) (hProjectionRefIdeal := hProjectionRefIdeal)
    ∧ preserves_Experts_ExpertsIdeal
    ∧ algebraic_ExpertsIdeal_ExpertsRefIdeal_on_used_rows (hExpertsIdeal := hExpertsIdeal) (hExpertsRefIdeal := hExpertsRefIdeal) (hPre_schedule := hPre_schedule) (hOn_used_rows := hOn_used_rows)
    ∧ preserves_Experts1_Experts1Ideal
    ∧ algebraic_Experts1Ideal_Experts1RefIdeal_on_used_rows (hExperts1Ideal := hExperts1Ideal) (hExperts1RefIdeal := hExperts1RefIdeal) (hPre_schedule := hPre_schedule) (hOn_used_rows := hOn_used_rows)
    ∧ preserves_Experts2_Experts2Ideal
    ∧ algebraic_Experts2Ideal_Experts2RefIdeal_on_used_rows (hExperts2Ideal := hExperts2Ideal) (hExperts2RefIdeal := hExperts2RefIdeal) (hPre_schedule := hPre_schedule) (hOn_used_rows := hOn_used_rows)
    ∧ preserves_Experts3_Experts3Ideal
    ∧ algebraic_Experts3Ideal_Experts3RefIdeal_on_used_rows (hExperts3Ideal := hExperts3Ideal) (hExperts3RefIdeal := hExperts3RefIdeal) (hPre_schedule := hPre_schedule) (hOn_used_rows := hOn_used_rows)
    ∧ preserves_OutProj_OutProjIdeal
    ∧ algebraic_OutProjIdeal_OutProjRefIdeal (hOutProjIdeal := hOutProjIdeal) (hOutProjRefIdeal := hOutProjRefIdeal)
    ∧ preserves_Router_RouterIdeal
    ∧ algebraic_RouterIdeal_RouterRefIdeal_pre_finite_rows (hRouterIdeal := hRouterIdeal) (hRouterRefIdeal := hRouterRefIdeal) (hPre_finite_rows := hPre_finite_rows)
    ∧ preserves_RowsCopy_RowsCopyIdeal
    ∧ algebraic_RowsCopyIdeal_RowsCopyRefIdeal_on_written_rows (hRowsCopyIdeal := hRowsCopyIdeal) (hRowsCopyRefIdeal := hRowsCopyRefIdeal) (hOn_written_rows := hOn_written_rows)
-- ==== On_prompt_rows.lean ====
abbrev S8448x6272 : Shape := ⟨2, ![8448, 6272]⟩
abbrev S8448x1024 : Shape := ⟨2, ![8448, 1024]⟩
abbrev S_ : Shape := ⟨0, ![]⟩

class Facts : Prop where
  bcast_S_S8448x1024 : S_.BroadcastsInDim S8448x1024 (![] : Fin 0 → Fin S8448x1024.rank)

variable [Facts]

def fn {F : FTy → Type} [FloatOps F] (main_arg0 : FVec F S8448x6272 .f32) : IVec S8448x1024 1 :=
  let main_v0 : IVec S8448x1024 32 := iotaInDim S8448x1024 32 0
  let main_c : IVec S_ 32 := constantI S_ 32 8192#32
  let main_v1 : IVec S8448x1024 32 := broadcastInDim S8448x1024 ![] bcast_S_S8448x1024 main_c
  let main_v2 : IVec S8448x1024 1 := cmpi .slt main_v0 main_v1
  main_v2
-- ==== On_used_rows.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S57x1x1x1 : Shape := ⟨4, ![57, 1, 1, 1]⟩
abbrev S57x5x256x2048 : Shape := ⟨4, ![57, 5, 256, 2048]⟩

class Facts : Prop where
  bcast_S57_S57x1x1x1_0 : S57.BroadcastsInDim S57x1x1x1 (![0] : Fin 1 → Fin S57x1x1x1.rank)
  bcast_S57x1x1x1_S57x5x256x2048_0_1_2_3 : S57x1x1x1.BroadcastsInDim S57x5x256x2048 (![0, 1, 2, 3] : Fin 4 → Fin S57x5x256x2048.rank)
  shapeCasts_S57x5x256x2048_S72960x2048 : S57x5x256x2048.ShapeCasts S72960x2048

variable [Facts]

def fn {F : FTy → Type} [FloatOps F] (main_arg0 : IVec S57 32) (main_arg1 : IVec S57 32) (main_arg2 : IVec S57 32) (main_arg3 : FVec F S72960x2048 .bf16) (main_arg4 : FVec F S4x32x2048x4096 .f32) (main_arg5 : FVec F S4x32x1x4096 .f32) (main_arg6 : FVec F S4x32x2048x2048 .f32) (main_arg7 : FVec F S4x32x1x2048 .f32) : IVec S72960x2048 1 :=
  let main_v0 : IVec S57x1x1x1 32 := broadcastInDim S57x1x1x1 ![0] bcast_S57_S57x1x1x1_0 main_arg1
  let main_v1 : IVec S57x5x256x2048 32 := broadcastInDim S57x5x256x2048 ![0, 1, 2, 3] bcast_S57x1x1x1_S57x5x256x2048_0_1_2_3 main_v0
  let main_v2 : IVec S57x5x256x2048 32 := iotaInDim S57x5x256x2048 32 1
  let main_v3 : IVec S57x5x256x2048 1 := cmpi .slt main_v2 main_v1
  let main_v4 : IVec S72960x2048 1 := shapeCast S72960x2048 main_v3 shapeCasts_S57x5x256x2048_S72960x2048
  main_v4
-- ==== On_written_rows.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S16896x2048 : Shape := ⟨2, ![16896, 2048]⟩
abbrev S_ : Shape := ⟨0, ![]⟩

class Facts : Prop where
  bcast_S_S16896x2048 : S_.BroadcastsInDim S16896x2048 (![] : Fin 0 → Fin S16896x2048.rank)

variable [Facts]

def fn {F : FTy → Type} [FloatOps F] (main_arg0 : FVec F S8448x1024 .f32) (main_arg1 : FVec F S8448x1024 .f32) (main_arg2 : FVec F S8448x2048 .f32) (main_arg3 : FVec F S2048x2048 .f32) (main_arg4 : FVec F S2048 .f32) (main_arg5 : FVec F S2048 .f32) (main_arg6 : FVec F S2048x32 .f32) (main_arg7 : FVec F S32 .f32) : IVec S16896x2048 1 :=
  let main_v0 : IVec S16896x2048 32 := iotaInDim S16896x2048 32 0
  let main_c : IVec S_ 32 := constantI S_ 32 8448#32
  let main_v1 : IVec S16896x2048 32 := broadcastInDim S16896x2048 ![] bcast_S_S16896x2048 main_c
  let main_v2 : IVec S16896x2048 1 := cmpi .slt main_v0 main_v1
  main_v2
-- ==== Pre_finite.lean ====
abbrev S8448x6272 : Shape := ⟨2, ![8448, 6272]⟩
abbrev S8192x2048 : Shape := ⟨2, ![8192, 2048]⟩
abbrev S_ : Shape := ⟨0, ![]⟩

class Facts : Prop where
  slices_S8448x6272_S8192x2048_0_0 : S8448x6272.Slices ![0, 0] S8192x2048
  bcast_S_S8192x2048 : S_.BroadcastsInDim S8192x2048 (![] : Fin 0 → Fin S8192x2048.rank)

variable [Facts]

def fn {F : FTy → Type} [FloatOps F] (main_arg0 : FVec F S8448x6272 .f32) : IVec S8192x2048 1 :=
  let main_v0 : FVec F S8192x2048 .f32 := (extractStridedSlice S8192x2048 ![0, 0] · slices_S8448x6272_S8192x2048_0_0) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  main_v3
-- ==== Pre_finite_rows.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S8448 : Shape := ⟨1, ![8448]⟩
abbrev S8448x1 : Shape := ⟨2, ![8448, 1]⟩
abbrev S1x2048 : Shape := ⟨2, ![1, 2048]⟩

class Facts : Prop where
  concatenates_S8448x1024_S8448x1024_S8448x2048_d1 : Shape.Concatenates [S8448x1024, S8448x1024] S8448x2048 1
  bcast_S_S8448x2048 : S_.BroadcastsInDim S8448x2048 (![] : Fin 0 → Fin S8448x2048.rank)
  reducesTo_S8448x2048_S8448_d1 : S8448x2048.ReducesTo [1] S8448
  h_S_ : 0 < S_.numel
  bcast_S8448_S8448x1_0 : S8448.BroadcastsInDim S8448x1 (![0] : Fin 1 → Fin S8448x1.rank)
  bcast_S_S8448x1 : S_.BroadcastsInDim S8448x1 (![] : Fin 0 → Fin S8448x1.rank)
  bcast_S8448x1_S8448x2048_0_1 : S8448x1.BroadcastsInDim S8448x2048 (![0, 1] : Fin 2 → Fin S8448x2048.rank)
  bcast_S2048_S1x2048_1 : S2048.BroadcastsInDim S1x2048 (![1] : Fin 1 → Fin S1x2048.rank)
  bcast_S1x2048_S8448x2048_0_1 : S1x2048.BroadcastsInDim S8448x2048 (![0, 1] : Fin 2 → Fin S8448x2048.rank)
  bcast_S_S2048x32 : S_.BroadcastsInDim S2048x32 (![] : Fin 0 → Fin S2048x32.rank)
  dot_S8448x2048_S2048x2048_S8448x2048_1_0_0_1_n_n_wf : DotDims.WF S8448x2048 S2048x2048 S8448x2048 [1] [0] [0] [1] [] []

variable [Facts]

def dot_S8448x2048_S2048x2048_S8448x2048_1_0_0_1_n_n : DotDims S8448x2048 S2048x2048 S8448x2048 where
  lhsContracting := [1]
  rhsContracting := [0]
  lhsNonContracting := [0]
  rhsNonContracting := [1]
  lhsBatch := []
  rhsBatch := []
  wf := dot_S8448x2048_S2048x2048_S8448x2048_1_0_0_1_n_n_wf
def fn_part1 {F : FTy → Type} [FloatOps F] (main_arg4 : FVec F S2048 .f32) (main_arg5 : FVec F S2048 .f32) (main_arg6 : FVec F S2048x32 .f32) (main_v15 : FVec F S8448x1 .f32) (main_v17 : FVec F S8448x2048 .f32) (main_cst_4 : FVec F S_ .f32) : IVec S8448x2048 1 × IVec S2048x32 1 :=
  let main_v18 : FVec F S8448x1 .f32 := broadcastInDim S8448x1 ![] bcast_S_S8448x1 main_cst_4
  let main_v19 : FVec F S8448x1 .f32 := addf main_v15 main_v18
  let main_v20 : FVec F S8448x1 .f32 := Host.rsqrt main_v19
  let main_v21 : FVec F S8448x2048 .f32 := broadcastInDim S8448x2048 ![0, 1] bcast_S8448x1_S8448x2048_0_1 main_v20
  let main_v22 : FVec F S8448x2048 .f32 := mulf main_v17 main_v21
  let main_v23 : FVec F S1x2048 .f32 := broadcastInDim S1x2048 ![1] bcast_S2048_S1x2048_1 main_arg4
  let main_v24 : FVec F S8448x2048 .f32 := broadcastInDim S8448x2048 ![0, 1] bcast_S1x2048_S8448x2048_0_1 main_v23
  let main_v25 : FVec F S8448x2048 .f32 := mulf main_v22 main_v24
  let main_v26 : FVec F S1x2048 .f32 := broadcastInDim S1x2048 ![1] bcast_S2048_S1x2048_1 main_arg5
  let main_v27 : FVec F S8448x2048 .f32 := broadcastInDim S8448x2048 ![0, 1] bcast_S1x2048_S8448x2048_0_1 main_v26
  let main_v28 : FVec F S8448x2048 .f32 := addf main_v25 main_v27
  let main_v29 : FVec F S8448x2048 .f32 := Host.absf main_v28
  let main_cst_5 : FVec F S_ .f32 := constant S_ .f32 0x7F800000#32
  let main_v30 : FVec F S8448x2048 .f32 := broadcastInDim S8448x2048 ![] bcast_S_S8448x2048 main_cst_5
  let main_v31 : IVec S8448x2048 1 := cmpf .olt main_v29 main_v30
  let main_v32 : FVec F S2048x32 .f32 := Host.absf main_arg6
  let main_cst_6 : FVec F S_ .f32 := constant S_ .f32 0x7F800000#32
  let main_v33 : FVec F S2048x32 .f32 := broadcastInDim S2048x32 ![] bcast_S_S2048x32 main_cst_6
  let main_v34 : IVec S2048x32 1 := cmpf .olt main_v32 main_v33
  (main_v31, main_v34)

def fn {F : FTy → Type} [FloatOps F] (main_arg0 : FVec F S8448x1024 .f32) (main_arg1 : FVec F S8448x1024 .f32) (main_arg2 : FVec F S8448x2048 .f32) (main_arg3 : FVec F S2048x2048 .f32) (main_arg4 : FVec F S2048 .f32) (main_arg5 : FVec F S2048 .f32) (main_arg6 : FVec F S2048x32 .f32) (main_arg7 : FVec F S32 .f32) : IVec S8448x2048 1 × IVec S2048x32 1 :=
  let main_v0 : FVec F S8448x2048 .f32 := (fun a b => concatenate S8448x2048 1 [⟨S8448x1024, a⟩, ⟨S8448x1024, b⟩] concatenates_S8448x1024_S8448x1024_S8448x2048_d1) main_arg0 main_arg1
  let main_v1 : FVec F S8448x2048 .f32 := (fun l r => Host.dotGeneral dot_S8448x2048_S2048x2048_S8448x2048_1_0_0_1_n_n none l r) main_v0 main_arg3
  let main_cst : FVec F S_ .f32 := constant S_ .f32 0x3FD744FD#32
  let main_v2 : FVec F S8448x2048 .f32 := broadcastInDim S8448x2048 ![] bcast_S_S8448x2048 main_cst
  let main_v3 : FVec F S8448x2048 .f32 := mulf main_v2 main_arg2
  let main_v4 : FVec F S8448x2048 .f32 := addf main_v3 main_v1
  let main_cst_0 : FVec F S_ .f32 := constant S_ .f32 0x00000000#32
  let main_v5 : FVec F S8448 .f32 := (fun x v => Host.reduceAdd x v reducesTo_S8448x2048_S8448_d1 h_S_) main_v4 main_cst_0
  let main_v6 : FVec F S8448x1 .f32 := broadcastInDim S8448x1 ![0] bcast_S8448_S8448x1_0 main_v5
  let main_cst_1 : FVec F S_ .f32 := constant S_ .f32 0x45000000#32
  let main_v7 : FVec F S8448x1 .f32 := broadcastInDim S8448x1 ![] bcast_S_S8448x1 main_cst_1
  let main_v8 : FVec F S8448x1 .f32 := Host.divf main_v6 main_v7
  let main_v9 : FVec F S8448x2048 .f32 := broadcastInDim S8448x2048 ![0, 1] bcast_S8448x1_S8448x2048_0_1 main_v8
  let main_v10 : FVec F S8448x2048 .f32 := subf main_v4 main_v9
  let main_v11 : FVec F S8448x2048 .f32 := mulf main_v10 main_v10
  let main_cst_2 : FVec F S_ .f32 := constant S_ .f32 0x00000000#32
  let main_v12 : FVec F S8448 .f32 := (fun x v => Host.reduceAdd x v reducesTo_S8448x2048_S8448_d1 h_S_) main_v11 main_cst_2
  let main_v13 : FVec F S8448x1 .f32 := broadcastInDim S8448x1 ![0] bcast_S8448_S8448x1_0 main_v12
  let main_cst_3 : FVec F S_ .f32 := constant S_ .f32 0x45000000#32
  let main_v14 : FVec F S8448x1 .f32 := broadcastInDim S8448x1 ![] bcast_S_S8448x1 main_cst_3
  let main_v15 : FVec F S8448x1 .f32 := Host.divf main_v13 main_v14
  let main_v16 : FVec F S8448x2048 .f32 := broadcastInDim S8448x2048 ![0, 1] bcast_S8448x1_S8448x2048_0_1 main_v8
  let main_v17 : FVec F S8448x2048 .f32 := subf main_v4 main_v16
  let main_cst_4 : FVec F S_ .f32 := constant S_ .f32 0x3727C5AC#32
  fn_part1 (F := F) main_arg4 main_arg5 main_arg6 main_v15 main_v17 main_cst_4
-- ==== Pre_schedule.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S_ : Shape := ⟨0, ![]⟩
abbrev S1 : Shape := ⟨1, ![1]⟩
abbrev S56 : Shape := ⟨1, ![56]⟩

class Facts : Prop where
  bcast_S_S57 : S_.BroadcastsInDim S57 (![] : Fin 0 → Fin S57.rank)
  slices_S57_S1_0 : S57.Slices ![0] S1
  slices_S57_S56_0 : S57.Slices ![0] S56
  concatenates_S1_S56_S57_d0 : Shape.Concatenates [S1, S56] S57 0

variable [Facts]

def fn_where {F : FTy → Type} [FloatOps F] (arg0 : IVec S57 1) (arg1 : IVec S57 1) (arg2 : IVec S57 1) : IVec S57 1 :=
  let v0 : IVec S57 1 := select arg0 arg1 arg2
  v0

def fn {F : FTy → Type} [FloatOps F] (main_arg0 : IVec S57 32) (main_arg1 : IVec S57 32) (main_arg2 : IVec S57 32) (main_arg3 : FVec F S72960x2048 .bf16) (main_arg4 : FVec F S4x32x2048x4096 .f32) (main_arg5 : FVec F S4x32x1x4096 .f32) (main_arg6 : FVec F S4x32x2048x2048 .f32) (main_arg7 : FVec F S4x32x1x2048 .f32) : IVec S57 1 :=
  let main_v0 : IVec S57 32 := iotaInDim S57 32 0
  let main_c : IVec S_ 32 := constantI S_ 32 0#32
  let main_v1 : IVec S57 32 := broadcastInDim S57 ![] bcast_S_S57 main_c
  let main_v2 : IVec S57 1 := cmpi .sge main_arg0 main_v1
  let main_c_0 : IVec S_ 32 := constantI S_ 32 32#32
  let main_v3 : IVec S57 32 := broadcastInDim S57 ![] bcast_S_S57 main_c_0
  let main_v4 : IVec S57 1 := cmpi .slt main_arg0 main_v3
  let main_v5 : IVec S57 1 := andi main_v2 main_v4
  let main_v6 : IVec S1 32 := (extractStridedSlice S1 ![0] · slices_S57_S1_0) main_arg2
  let main_v7 : IVec S56 32 := (extractStridedSlice S56 ![0] · slices_S57_S56_0) main_arg2
  let main_v8 : IVec S57 32 := (fun a b => concatenate S57 0 [⟨S1, a⟩, ⟨S56, b⟩] concatenates_S1_S56_S57_d0) main_v6 main_v7
  let main_c_1 : IVec S_ 32 := constantI S_ 32 0#32
  let main_v9 : IVec S57 32 := broadcastInDim S57 ![] bcast_S_S57 main_c_1
  let main_v10 : IVec S57 1 := cmpi .sgt main_arg1 main_v9
  let main_v11 : IVec S57 1 := cmpi .eq main_arg2 main_v0
  let main_v12 : IVec S57 1 := cmpi .eq main_arg2 main_v8
  let main_c_2 : IVec S_ 32 := constantI S_ 32 0#32
  let main_v13 : IVec S57 32 := broadcastInDim S57 ![] bcast_S_S57 main_c_2
  let main_v14 : IVec S57 1 := cmpi .sgt main_v0 main_v13
  let main_v15 : IVec S57 1 := andi main_v12 main_v14
  let main_v16 : IVec S57 1 := fn_where (F := F) main_v10 main_v11 main_v15
  let main_v17 : IVec S57 1 := andi main_v5 main_v16
  main_v17
-- ==== Attention.lean ====
abbrev S8448x6272 : Shape := ⟨2, ![8448, 6272]⟩
abbrev S8448x1024 : Shape := ⟨2, ![8448, 1024]⟩
abbrev S256x256 : Shape := ⟨2, ![256, 256]⟩
abbrev S4096x256 : Shape := ⟨2, ![4096, 256]⟩
abbrev S256x128 : Shape := ⟨2, ![256, 128]⟩
abbrev S256x1 : Shape := ⟨2, ![256, 1]⟩

abbrev nBuf : Space → Nat
  | .hbm => 2
  | .vmem => 10
  | .smem => 0
  | _ => 0

abbrev bufTy : (tb : Table) → Fin (tcTables nBuf tb) → BufTy
  | .hbm, ⟨0, _⟩ => ⟨S8448x6272, .f32⟩
  | .hbm, ⟨1, _⟩ => ⟨S8448x1024, .f32⟩
  | .local _ .vmem, ⟨0, _⟩ => ⟨S256x256, .f32⟩
  | .local _ .vmem, ⟨1, _⟩ => ⟨S256x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S256x256, .f32⟩
  | .local _ .vmem, ⟨7, _⟩ => ⟨S256x256, .f32⟩
  | .local _ .vmem, ⟨8, _⟩ => ⟨S4096x256, .bf16⟩
  | .local _ .vmem, ⟨9, _⟩ => ⟨S4096x256, .bf16⟩
  | _, _ => ⟨S8448x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 16], ![false, false, false]⟩

def k0_mult1 (i : grid0.Coords) : BitVec 32 :=
  let arg2 : BitVec 32 := BitVec.ofNat 32 (i 2).val
  let c256_i32 : BitVec 32 := 256#32
  let v23 : BitVec 32 := Scalar.muli arg2 c256_i32
  v23
def k0_off1 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v25 : Index := Scalar.indexCast v24
  let c0_8 : Index := 0#32
  ![v25.toNat, 0]
def k0_off2 (i : grid0.Coords) : Fin 2 → Nat :=
  let arg2 : BitVec 32 := BitVec.ofNat 32 (i 2).val
  let c256_i32 : BitVec 32 := 256#32
  let v23 : BitVec 32 := Scalar.muli arg2 c256_i32
  let v24 : BitVec 32 := v23
  let v60 : Index := Scalar.indexCast v24
  let c128_19 : Index := 128#32
  ![v60.toNat, 128]
@[reducible] def k0_t1_loop (i : grid0.Coords) : Scf.Loop 32 :=
  let c0_i32_30 : BitVec 32 := 0#32
  let arg2 : BitVec 32 := BitVec.ofNat 32 (i 2).val
  let v95 : BitVec 32 := Scalar.subi arg2 c0_i32_30
  let c1_i32 : BitVec 32 := 1#32
  let v97 : BitVec 32 := Scalar.divsi v95 c1_i32
  let v98 : BitVec 32 := Scalar.muli v97 c1_i32
  let v99 : BitVec 32 := Scalar.addi c0_i32_30 v98
  let c1_i32_31 : BitVec 32 := 1#32
  ⟨c0_i32_30, v99, c1_i32_31⟩
def k0_mult2 (i : grid0.Coords) (k0_t1 : Fin (k0_t1_loop i).trips) : BitVec 32 :=
  let arg2 : BitVec 32 := BitVec.ofNat 32 (i 2).val
  let c1_i32_37 : BitVec 32 := 1#32
  let v104 : BitVec 32 := Scalar.subi arg2 c1_i32_37
  let c0_i32_30 : BitVec 32 := 0#32
  let c1_i32_31 : BitVec 32 := 1#32
  let arg9 : BitVec 32 := Scf.iv c0_i32_30 c1_i32_31 k0_t1
  let v105 : BitVec 32 := Scalar.subi v104 arg9
  let c256_i32_38 : BitVec 32 := 256#32
  let v106 : BitVec 32 := Scalar.muli v105 c256_i32_38
  v106
def k0_off3 (i : grid0.Coords) (k0_t1 : Fin (k0_t1_loop i).trips) : Fin 2 → Nat :=
  let arg2 : BitVec 32 := BitVec.ofNat 32 (i 2).val
  let c1_i32_37 : BitVec 32 := 1#32
  let v104 : BitVec 32 := Scalar.subi arg2 c1_i32_37
  let c0_i32_30 : BitVec 32 := 0#32
  let c1_i32_31 : BitVec 32 := 1#32
  let arg9 : BitVec 32 := Scf.iv c0_i32_30 c1_i32_31 k0_t1
  let v105 : BitVec 32 := Scalar.subi v104 arg9
  let c256_i32_38 : BitVec 32 := 256#32
  let v106 : BitVec 32 := Scalar.muli v105 c256_i32_38
  let v107 : BitVec 32 := v106
  let v108 : Index := Scalar.indexCast v107
  let c0_39 : Index := 0#32
  ![v108.toNat, 0]
def k0_off4 (i : grid0.Coords) (k0_t1 : Fin (k0_t1_loop i).trips) : Fin 2 → Nat :=
  let arg2 : BitVec 32 := BitVec.ofNat 32 (i 2).val
  let c1_i32_37 : BitVec 32 := 1#32
  let v104 : BitVec 32 := Scalar.subi arg2 c1_i32_37
  let c0_i32_30 : BitVec 32 := 0#32
  let c1_i32_31 : BitVec 32 := 1#32
  let arg9 : BitVec 32 := Scf.iv c0_i32_30 c1_i32_31 k0_t1
  let v105 : BitVec 32 := Scalar.subi v104 arg9
  let c256_i32_38 : BitVec 32 := 256#32
  let v106 : BitVec 32 := Scalar.muli v105 c256_i32_38
  let v107 : BitVec 32 := v106
  let v139 : Index := Scalar.indexCast v107
  let c128_48 : Index := 128#32
  ![v139.toNat, 128]
@[reducible] def k0_t2_loop (i : grid0.Coords) : Scf.Loop 32 :=
  let c0_i32_30 : BitVec 32 := 0#32
  let arg2 : BitVec 32 := BitVec.ofNat 32 (i 2).val
  let v95 : BitVec 32 := Scalar.subi arg2 c0_i32_30
  let c1_i32 : BitVec 32 := 1#32
  let v97 : BitVec 32 := Scalar.divsi v95 c1_i32
  let v98 : BitVec 32 := Scalar.muli v97 c1_i32
  let v99 : BitVec 32 := Scalar.addi c0_i32_30 v98
  let v96 : BitVec 32 := Scalar.addi c0_i32_30 v95
  let c1_i32_32 : BitVec 32 := 1#32
  ⟨v99, v96, c1_i32_32⟩
def k0_mult3 (i : grid0.Coords) (k0_t2 : Fin (k0_t2_loop i).trips) : BitVec 32 :=
  let arg2 : BitVec 32 := BitVec.ofNat 32 (i 2).val
  let c1_i32_37 : BitVec 32 := 1#32
  let v104 : BitVec 32 := Scalar.subi arg2 c1_i32_37
  let c0_i32_30 : BitVec 32 := 0#32
  let v95 : BitVec 32 := Scalar.subi arg2 c0_i32_30
  let c1_i32 : BitVec 32 := 1#32
  let v97 : BitVec 32 := Scalar.divsi v95 c1_i32
  let v98 : BitVec 32 := Scalar.muli v97 c1_i32
  let v99 : BitVec 32 := Scalar.addi c0_i32_30 v98
  let c1_i32_32 : BitVec 32 := 1#32
  let arg9 : BitVec 32 := Scf.iv v99 c1_i32_32 k0_t2
  let v105 : BitVec 32 := Scalar.subi v104 arg9
  let c256_i32_38 : BitVec 32 := 256#32
  let v106 : BitVec 32 := Scalar.muli v105 c256_i32_38
  v106
def k0_off5 (i : grid0.Coords) (k0_t2 : Fin (k0_t2_loop i).trips) : Fin 2 → Nat :=
  let arg2 : BitVec 32 := BitVec.ofNat 32 (i 2).val
  let c1_i32_37 : BitVec 32 := 1#32
  let v104 : BitVec 32 := Scalar.subi arg2 c1_i32_37
  let c0_i32_30 : BitVec 32 := 0#32
  let v95 : BitVec 32 := Scalar.subi arg2 c0_i32_30
  let c1_i32 : BitVec 32 := 1#32
  let v97 : BitVec 32 := Scalar.divsi v95 c1_i32
  let v98 : BitVec 32 := Scalar.muli v97 c1_i32
  let v99 : BitVec 32 := Scalar.addi c0_i32_30 v98
  let c1_i32_32 : BitVec 32 := 1#32
  let arg9 : BitVec 32 := Scf.iv v99 c1_i32_32 k0_t2
  let v105 : BitVec 32 := Scalar.subi v104 arg9
  let c256_i32_38 : BitVec 32 := 256#32
  let v106 : BitVec 32 := Scalar.muli v105 c256_i32_38
  let v107 : BitVec 32 := v106
  let v108 : Index := Scalar.indexCast v107
  let c0_39 : Index := 0#32
  ![v108.toNat, 0]
def k0_off6 (i : grid0.Coords) (k0_t2 : Fin (k0_t2_loop i).trips) : Fin 2 → Nat :=
  let arg2 : BitVec 32 := BitVec.ofNat 32 (i 2).val
  let c1_i32_37 : BitVec 32 := 1#32
  let v104 : BitVec 32 := Scalar.subi arg2 c1_i32_37
  let c0_i32_30 : BitVec 32 := 0#32
  let v95 : BitVec 32 := Scalar.subi arg2 c0_i32_30
  let c1_i32 : BitVec 32 := 1#32
  let v97 : BitVec 32 := Scalar.divsi v95 c1_i32
  let v98 : BitVec 32 := Scalar.muli v97 c1_i32
  let v99 : BitVec 32 := Scalar.addi c0_i32_30 v98
  let c1_i32_32 : BitVec 32 := 1#32
  let arg9 : BitVec 32 := Scf.iv v99 c1_i32_32 k0_t2
  let v105 : BitVec 32 := Scalar.subi v104 arg9
  let c256_i32_38 : BitVec 32 := 256#32
  let v106 : BitVec 32 := Scalar.muli v105 c256_i32_38
  let v107 : BitVec 32 := v106
  let v139 : Index := Scalar.indexCast v107
  let c128_48 : Index := 128#32
  ![v139.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttentionRefIdeal.lean ====
abbrev S8448x6272 : Shape := ⟨2, ![8448, 6272]⟩
abbrev S8192x1024 : Shape := ⟨2, ![8192, 1024]⟩
abbrev S2x4096x8x128 : Shape := ⟨4, ![2, 4096, 8, 128]⟩
abbrev S4096 : Shape := ⟨1, ![4096]⟩
abbrev S2x8x4096x4096 : Shape := ⟨4, ![2, 8, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S2x8x128x4096 : Shape := ⟨4, ![2, 8, 128, 4096]⟩
abbrev S256x1024 : Shape := ⟨2, ![256, 1024]⟩
abbrev S8448x1024 : Shape := ⟨2, ![8448, 1024]⟩

abbrev nBuf : Space → Nat
  | .hbm => 52
  | .vmem => 0
  | .smem => 0
  | _ => 0

abbrev bufTy : (tb : Table) → Fin (tcTables nBuf tb) → BufTy
  | .hbm, ⟨0, _⟩ => ⟨S8448x6272, .f32⟩
  | .hbm, ⟨1, _⟩ => ⟨S8192x1024, .f32⟩
  | .hbm, ⟨2, _⟩ => ⟨S2x4096x8x128, .f32⟩
  | .hbm, ⟨3, _⟩ => ⟨S8192x1024, .f32⟩
  | .hbm, ⟨4, _⟩ => ⟨S2x4096x8x128, .f32⟩
  | .hbm, ⟨5, _⟩ => ⟨S8192x1024, .f32⟩
  | .hbm, ⟨6, _⟩ => ⟨S2x4096x8x128, .f32⟩
  | .hbm, ⟨7, _⟩ => ⟨S4096, .i32⟩
  | .hbm, ⟨8, _⟩ => ⟨S2x8x4096x4096, .f32⟩
  | .hbm, ⟨9, _⟩ => ⟨S_, .f32⟩
  | .hbm, ⟨10, _⟩ => ⟨S2x8x4096x4096, .f32⟩
  | .hbm, ⟨11, _⟩ => ⟨S2x8x4096x4096, .f32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S2x8x4096x4096, .f32⟩
  | .hbm, ⟨19, _⟩ => ⟨S2x8x4096x4096, .f32⟩
  | .hbm, ⟨20, _⟩ => ⟨S2x8x4096x4096, .f32⟩
  | .hbm, ⟨21, _⟩ => ⟨S2x8x4096x4096, .f32⟩
  | .hbm, ⟨22, _⟩ => ⟨S2x8x4096x4096, .i1⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .f32⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S_, .f32⟩
  | .hbm, ⟨32, _⟩ => ⟨S_, .f32⟩
  | .hbm, ⟨33, _⟩ => ⟨S2x8x4096x4096, .i1⟩
  | .hbm, ⟨34, _⟩ => ⟨S2x8x4096x4096, .f32⟩
  | .hbm, ⟨35, _⟩ => ⟨S2x8x4096x4096, .f32⟩
  | .hbm, ⟨36, _⟩ => ⟨S_, .f32⟩
  | .hbm, ⟨37, _⟩ => ⟨S_, .f32⟩
  | .hbm, ⟨38, _⟩ => ⟨S2x8x4096x4096, .f32⟩
  | .hbm, ⟨39, _⟩ => ⟨S2x8x4096x4096, .f32⟩
  | .hbm, ⟨40, _⟩ => ⟨S_, .f32⟩
  | .hbm, ⟨41, _⟩ => ⟨S_, .f32⟩
  | .hbm, ⟨42, _⟩ => ⟨S2x8x4096x4096, .i1⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S2x8x128x4096, .f32⟩
  | .hbm, ⟨47, _⟩ => ⟨S2x4096x8x128, .f32⟩
  | .hbm, ⟨48, _⟩ => ⟨S8192x1024, .f32⟩
  | .hbm, ⟨49, _⟩ => ⟨S_, .f32⟩
  | .hbm, ⟨50, _⟩ => ⟨S256x1024, .f32⟩
  | .hbm, ⟨51, _⟩ => ⟨S8448x1024, .f32⟩
  | _, _ => ⟨S8448x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v15 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_cst_1 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_2 : Ref sig .tc := ⟨.hbm, 49, rfl⟩
abbrev main_v24 : Ref sig .tc := ⟨.hbm, 50, rfl⟩
abbrev main_v25 : Ref sig .tc := ⟨.hbm, 51, rfl⟩

abbrev nD : Nat := 1
abbrev τ : Topo := Topo.v7x

variable {F : FTy → Type} [FloatOps F]
-- ==== Projection.lean ====
abbrev S8448x2048 : Shape := ⟨2, ![8448, 2048]⟩
abbrev S2048x6160 : Shape := ⟨2, ![2048, 6160]⟩
abbrev S2048 : Shape := ⟨1, ![2048]⟩
abbrev S2048x1024 : Shape := ⟨2, ![2048, 1024]⟩
abbrev S2048x16 : Shape := ⟨2, ![2048, 16]⟩
abbrev S_ : Shape := ⟨0, ![]⟩
abbrev S2048x112 : Shape := ⟨2, ![2048, 112]⟩
abbrev S2048x6272 : Shape := ⟨2, ![2048, 6272]⟩
abbrev S4224 : Shape := ⟨1, ![4224]⟩
abbrev S6272 : Shape := ⟨1, ![6272]⟩
abbrev S1x6272 : Shape := ⟨2, ![1, 6272]⟩
abbrev S8448x6272 : Shape := ⟨2, ![8448, 6272]⟩
abbrev S768x2048 : Shape := ⟨2, ![768, 2048]⟩
abbrev S2048x896 : Shape := ⟨2, ![2048, 896]⟩
abbrev S1x896 : Shape := ⟨2, ![1, 896]⟩
abbrev S768x896 : Shape := ⟨2, ![768, 896]⟩

abbrev nBuf : Space → Nat
  | .hbm => 19
  | .vmem => 9
  | .smem => 0
  | _ => 0

abbrev bufTy : (tb : Table) → Fin (tcTables nBuf tb) → BufTy
  | .hbm, ⟨0, _⟩ => ⟨S8448x2048, .f32⟩
  | .hbm, ⟨1, _⟩ => ⟨S2048x6160, .f32⟩
  | .hbm, ⟨2, _⟩ => ⟨S2048, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x16, .f32⟩
  | .hbm, ⟨10, _⟩ => ⟨S_, .f32⟩
  | .hbm, ⟨11, _⟩ => ⟨S2048x112, .f32⟩
  | .hbm, ⟨12, _⟩ => ⟨S2048x6272, .f32⟩
  | .hbm, ⟨13, _⟩ => ⟨S2048x6272, .bf16⟩
  | .hbm, ⟨14, _⟩ => ⟨S_, .f32⟩
  | .hbm, ⟨15, _⟩ => ⟨S4224, .f32⟩
  | .hbm, ⟨16, _⟩ => ⟨S6272, .f32⟩
  | .hbm, ⟨17, _⟩ => ⟨S1x6272, .f32⟩
  | .hbm, ⟨18, _⟩ => ⟨S8448x6272, .f32⟩
  | .local _ .vmem, ⟨0, _⟩ => ⟨S768x2048, .f32⟩
  | .local _ .vmem, ⟨1, _⟩ => ⟨S768x2048, .f32⟩
  | .local _ .vmem, ⟨2, _⟩ => ⟨S2048x896, .bf16⟩
  | .local _ .vmem, ⟨3, _⟩ => ⟨S2048x896, .bf16⟩
  | .local _ .vmem, ⟨4, _⟩ => ⟨S1x896, .f32⟩
  | .local _ .vmem, ⟨5, _⟩ => ⟨S1x896, .f32⟩
  | .local _ .vmem, ⟨6, _⟩ => ⟨S768x896, .f32⟩
  | .local _ .vmem, ⟨7, _⟩ => ⟨S768x896, .f32⟩
  | .local _ .vmem, ⟨8, _⟩ => ⟨S768x2048, .bf16⟩
  | _, _ => ⟨S8448x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S768x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjectionRefIdeal.lean ====
abbrev S8448x2048 : Shape := ⟨2, ![8448, 2048]⟩
abbrev S2048x6160 : Shape := ⟨2, ![2048, 6160]⟩
abbrev S2048 : Shape := ⟨1, ![2048]⟩
abbrev S8448x6160 : Shape := ⟨2, ![8448, 6160]⟩
abbrev S8448x3072 : Shape := ⟨2, ![8448, 3072]⟩
abbrev S8448x16 : Shape := ⟨2, ![8448, 16]⟩
abbrev S8448x1024 : Shape := ⟨2, ![8448, 1024]⟩
abbrev S1024 : Shape := ⟨1, ![1024]⟩
abbrev S1x1024 : Shape := ⟨2, ![1, 1024]⟩
abbrev S_ : Shape := ⟨0, ![]⟩
abbrev S8448x112 : Shape := ⟨2, ![8448, 112]⟩
abbrev S8448x6272 : Shape := ⟨2, ![8448, 6272]⟩

abbrev nBuf : Space → Nat
  | .hbm => 20
  | .vmem => 0
  | .smem => 0
  | _ => 0

abbrev bufTy : (tb : Table) → Fin (tcTables nBuf tb) → BufTy
  | .hbm, ⟨0, _⟩ => ⟨S8448x2048, .f32⟩
  | .hbm, ⟨1, _⟩ => ⟨S2048x6160, .f32⟩
  | .hbm, ⟨2, _⟩ => ⟨S2048, .f32⟩
  | .hbm, ⟨3, _⟩ => ⟨S8448x6160, .f32⟩
  | .hbm, ⟨4, _⟩ => ⟨S8448x3072, .f32⟩
  | .hbm, ⟨5, _⟩ => ⟨S8448x16, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S1024, .f32⟩
  | .hbm, ⟨10, _⟩ => ⟨S1x1024, .f32⟩
  | .hbm, ⟨11, _⟩ => ⟨S8448x1024, .f32⟩
  | .hbm, ⟨12, _⟩ => ⟨S8448x1024, .f32⟩
  | .hbm, ⟨13, _⟩ => ⟨S1024, .f32⟩
  | .hbm, ⟨14, _⟩ => ⟨S1x1024, .f32⟩
  | .hbm, ⟨15, _⟩ => ⟨S8448x1024, .f32⟩
  | .hbm, ⟨16, _⟩ => ⟨S8448x1024, .f32⟩
  | .hbm, ⟨17, _⟩ => ⟨S_, .f32⟩
  | .hbm, ⟨18, _⟩ => ⟨S8448x112, .f32⟩
  | .hbm, ⟨19, _⟩ => ⟨S8448x6272, .f32⟩
  | _, _ => ⟨S8448x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Experts.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1280x2048 : Shape := ⟨2, ![1280, 2048]⟩
abbrev S1 : Shape := ⟨1, ![1]⟩
abbrev S1x1x2048x512 : Shape := ⟨4, ![1, 1, 2048, 512]⟩
abbrev S1x1x1x512 : Shape := ⟨4, ![1, 1, 1, 512]⟩
abbrev S1x1x512x2048 : Shape := ⟨4, ![1, 1, 512, 2048]⟩
abbrev S1x1x1x2048 : Shape := ⟨4, ![1, 1, 1, 2048]⟩
abbrev S2048x512 : Shape := ⟨2, ![2048, 512]⟩
abbrev S512x2048 : Shape := ⟨2, ![512, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩

abbrev nBuf : Space → Nat
  | .hbm => 6
  | .vmem => 18
  | .smem => 3
  | _ => 0

abbrev bufTy : (tb : Table) → Fin (tcTables nBuf tb) → BufTy
  | .hbm, ⟨0, _⟩ => ⟨S72960x2048, .bf16⟩
  | .hbm, ⟨1, _⟩ => ⟨S4x32x2048x4096, .f32⟩
  | .hbm, ⟨2, _⟩ => ⟨S4x32x1x4096, .f32⟩
  | .hbm, ⟨3, _⟩ => ⟨S4x32x2048x2048, .f32⟩
  | .hbm, ⟨4, _⟩ => ⟨S4x32x1x2048, .f32⟩
  | .hbm, ⟨5, _⟩ => ⟨S72960x2048, .bf16⟩
  | .local _ .vmem, ⟨0, _⟩ => ⟨S1280x2048, .bf16⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x512x2048, .f32⟩
  | .local _ .vmem, ⟨10, _⟩ => ⟨S1x1x512x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1280x2048, .bf16⟩
  | .local _ .vmem, ⟨14, _⟩ => ⟨S2048x512, .bf16⟩
  | .local _ .vmem, ⟨15, _⟩ => ⟨S2048x512, .bf16⟩
  | .local _ .vmem, ⟨16, _⟩ => ⟨S512x2048, .bf16⟩
  | .local _ .vmem, ⟨17, _⟩ => ⟨S1280x2048, .f32⟩
  | .local _ .smem, ⟨0, _⟩ => ⟨S57, .i32⟩
  | .local _ .smem, ⟨1, _⟩ => ⟨S57, .i32⟩
  | .local _ .smem, ⟨2, _⟩ => ⟨S57, .i32⟩
  | _, _ => ⟨S72960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![57, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) (v1 : BitVec 32) : BitVec 1 :=
  let c0_i32_6 : BitVec 32 := 0#32
  let v14 : BitVec 1 := Scalar.cmpi .sgt v1 c0_i32_6
  let arg1 : BitVec 32 := BitVec.ofNat 32 (i 1).val
  let c3_i32 : BitVec 32 := 3#32
  let v2 : BitVec 1 := Scalar.cmpi .eq arg1 c3_i32
  let v15 : BitVec 1 := Scalar.andi v14 v2
  let v16 : BitVec 32 := Scalar.extui v15
  let c0_i32_7 : BitVec 32 := 0#32
  let v17 : BitVec 1 := Scalar.cmpi .ne v16 c0_i32_7
  v17

def k0_cond5 (i : grid0.Coords) (v1 : BitVec 32) : BitVec 1 :=
  let c0_i32_8 : BitVec 32 := 0#32
  let v18 : BitVec 1 := Scalar.cmpi .sle v1 c0_i32_8
  let c0_i32_9 : BitVec 32 := 0#32
  let v19 : BitVec 1 := Scalar.cmpi .sgt v1 c0_i32_9
  let v20 : BitVec 1 := Scalar.andi v18 v19
  let arg1 : BitVec 32 := BitVec.ofNat 32 (i 1).val
  let c3_i32 : BitVec 32 := 3#32
  let v2 : BitVec 1 := Scalar.cmpi .eq arg1 c3_i32
  let v21 : BitVec 1 := Scalar.andi v20 v2
  let v22 : BitVec 32 := Scalar.extui v21
  let c0_i32_10 : BitVec 32 := 0#32
  let v23 : BitVec 1 := Scalar.cmpi .ne v22 c0_i32_10
  v23

def k0_cond8 (i : grid0.Coords) (v1 : BitVec 32) : BitVec 1 :=
  let c1_i32_15 : BitVec 32 := 1#32
  let v32 : BitVec 1 := Scalar.cmpi .sgt v1 c1_i32_15
  let arg1 : BitVec 32 := BitVec.ofNat 32 (i 1).val
  let c3_i32 : BitVec 32 := 3#32
  let v2 : BitVec 1 := Scalar.cmpi .eq arg1 c3_i32
  let v33 : BitVec 1 := Scalar.andi v32 v2
  let v34 : BitVec 32 := Scalar.extui v33
  let c0_i32_16 : BitVec 32 := 0#32
  let v35 : BitVec 1 := Scalar.cmpi .ne v34 c0_i32_16
  v35

def k0_cond9 (i : grid0.Coords) (v1 : BitVec 32) : BitVec 1 :=
  let c1_i32_17 : BitVec 32 := 1#32
  let v36 : BitVec 1 := Scalar.cmpi .sle v1 c1_i32_17
  let c0_i32_18 : BitVec 32 := 0#32
  let v37 : BitVec 1 := Scalar.cmpi .sgt v1 c0_i32_18
  let v38 : BitVec 1 := Scalar.andi v36 v37
  let arg1 : BitVec 32 := BitVec.ofNat 32 (i 1).val
  let c3_i32 : BitVec 32 := 3#32
  let v2 : BitVec 1 := Scalar.cmpi .eq arg1 c3_i32
  let v39 : BitVec 1 := Scalar.andi v38 v2
  let v40 : BitVec 32 := Scalar.extui v39
  let c0_i32_19 : BitVec 32 := 0#32
  let v41 : BitVec 1 := Scalar.cmpi .ne v40 c0_i32_19
  v41

def k0_cond12 (i : grid0.Coords) (v1 : BitVec 32) : BitVec 1 :=
  let c2_i32_24 : BitVec 32 := 2#32
  let v50 : BitVec 1 := Scalar.cmpi .sgt v1 c2_i32_24
  let arg1 : BitVec 32 := BitVec.ofNat 32 (i 1).val
  let c3_i32 : BitVec 32 := 3#32
  let v2 : BitVec 1 := Scalar.cmpi .eq arg1 c3_i32
  let v51 : BitVec 1 := Scalar.andi v50 v2
  let v52 : BitVec 32 := Scalar.extui v51
  let c0_i32_25 : BitVec 32 := 0#32
  let v53 : BitVec 1 := Scalar.cmpi .ne v52 c0_i32_25
  v53

def k0_cond13 (i : grid0.Coords) (v1 : BitVec 32) : BitVec 1 :=
  let c2_i32_26 : BitVec 32 := 2#32
  let v54 : BitVec 1 := Scalar.cmpi .sle v1 c2_i32_26
  let c0_i32_27 : BitVec 32 := 0#32
  let v55 : BitVec 1 := Scalar.cmpi .sgt v1 c0_i32_27
  let v56 : BitVec 1 := Scalar.andi v54 v55
  let arg1 : BitVec 32 := BitVec.ofNat 32 (i 1).val
  let c3_i32 : BitVec 32 := 3#32
  let v2 : BitVec 1 := Scalar.cmpi .eq arg1 c3_i32
  let v57 : BitVec 1 := Scalar.andi v56 v2
  let v58 : BitVec 32 := Scalar.extui v57
  let c0_i32_28 : BitVec 32 := 0#32
  let v59 : BitVec 1 := Scalar.cmpi .ne v58 c0_i32_28
  v59

def k0_cond16 (i : grid0.Coords) (v1 : BitVec 32) : BitVec 1 :=
  let c3_i32_34 : BitVec 32 := 3#32
  let v68 : BitVec 1 := Scalar.cmpi .sgt v1 c3_i32_34
  let arg1 : BitVec 32 := BitVec.ofNat 32 (i 1).val
  let c3_i32 : BitVec 32 := 3#32
  let v2 : BitVec 1 := Scalar.cmpi .eq arg1 c3_i32
  let v69 : BitVec 1 := Scalar.andi v68 v2
  let v70 : BitVec 32 := Scalar.extui v69
  let c0_i32_35 : BitVec 32 := 0#32
  let v71 : BitVec 1 := Scalar.cmpi .ne v70 c0_i32_35
  v71

def k0_cond17 (i : grid0.Coords) (v1 : BitVec 32) : BitVec 1 :=
  let c3_i32_36 : BitVec 32 := 3#32
  let v72 : BitVec 1 := Scalar.cmpi .sle v1 c3_i32_36
  let c0_i32_37 : BitVec 32 := 0#32
  let v73 : BitVec 1 := Scalar.cmpi .sgt v1 c0_i32_37
  let v74 : BitVec 1 := Scalar.andi v72 v73
  let arg1 : BitVec 32 := BitVec.ofNat 32 (i 1).val
  let c3_i32 : BitVec 32 := 3#32
  let v2 : BitVec 1 := Scalar.cmpi .eq arg1 c3_i32
  let v75 : BitVec 1 := Scalar.andi v74 v2
  let v76 : BitVec 32 := Scalar.extui v75
  let c0_i32_38 : BitVec 32 := 0#32
  let v77 : BitVec 1 := Scalar.cmpi .ne v76 c0_i32_38
  v77

def k0_cond20 (i : grid0.Coords) (v1 : BitVec 32) : BitVec 1 :=
  let c4_i32_43 : BitVec 32 := 4#32
  let v86 : BitVec 1 := Scalar.cmpi .sgt v1 c4_i32_43
  let arg1 : BitVec 32 := BitVec.ofNat 32 (i 1).val
  let c3_i32 : BitVec 32 := 3#32
  let v2 : BitVec 1 := Scalar.cmpi .eq arg1 c3_i32
  let v87 : BitVec 1 := Scalar.andi v86 v2
  let v88 : BitVec 32 := Scalar.extui v87
  let c0_i32_44 : BitVec 32 := 0#32
  let v89 : BitVec 1 := Scalar.cmpi .ne v88 c0_i32_44
  v89

def k0_cond21 (i : grid0.Coords) (v1 : BitVec 32) : BitVec 1 :=
  let c4_i32_45 : BitVec 32 := 4#32
  let v90 : BitVec 1 := Scalar.cmpi .sle v1 c4_i32_45
  let c0_i32_46 : BitVec 32 := 0#32
  let v91 : BitVec 1 := Scalar.cmpi .sgt v1 c0_i32_46
  let v92 : BitVec 1 := Scalar.andi v90 v91
  let arg1 : BitVec 32 := BitVec.ofNat 32 (i 1).val
  let c3_i32 : BitVec 32 := 3#32
  let v2 : BitVec 1 := Scalar.cmpi .eq arg1 c3_i32
  let v93 : BitVec 1 := Scalar.andi v92 v2
  let v94 : BitVec 32 := Scalar.extui v93
  let c0_i32_47 : BitVec 32 := 0#32
  let v95 : BitVec 1 := Scalar.cmpi .ne v94 c0_i32_47
  v95

def cc0_transform_0 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_2 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_3 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  let c0_i32_2 : BitVec 32 := 0#32
  ![c0_i32_0.toNat, v1.toNat, c0_i32_1.toNat, v5.toNat]

def cc0_transform_4 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c0_i32_0 : BitVec 32 := 0#32
  let c0_i32_1 : BitVec 32 := 0#32
  let c0_i32_2 : BitVec 32 := 0#32
  ![c0_i32_0.toNat, v1.toNat, c0_i32_1.toNat, v6.toNat]

def cc0_transform_5 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  let c0_i32_2 : BitVec 32 := 0#32
  ![c0_i32_0.toNat, v1.toNat, v5.toNat, c0_i32_1.toNat]

def cc0_transform_6 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_7 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S1280x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1280x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== ExpertsRefIdeal.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1x32x2048x4096 : Shape := ⟨4, ![1, 32, 2048, 4096]⟩
abbrev S32x2048x4096 : Shape := ⟨3, ![32, 2048, 4096]⟩
abbrev S1x32x1x4096 : Shape := ⟨4, ![1, 32, 1, 4096]⟩
abbrev S32x4096 : Shape := ⟨2, ![32, 4096]⟩
abbrev S1x32x2048x2048 : Shape := ⟨4, ![1, 32, 2048, 2048]⟩
abbrev S32x2048x2048 : Shape := ⟨3, ![32, 2048, 2048]⟩
abbrev S1x32x1x2048 : Shape := ⟨4, ![1, 32, 1, 2048]⟩
abbrev S32x2048 : Shape := ⟨2, ![32, 2048]⟩
abbrev S57x1280x2048 : Shape := ⟨3, ![57, 1280, 2048]⟩
abbrev S_ : Shape := ⟨0, ![]⟩
abbrev S57x1 : Shape := ⟨2, ![57, 1]⟩
abbrev S57x3 : Shape := ⟨2, ![57, 3]⟩
abbrev S57x1x2048x4096 : Shape := ⟨4, ![57, 1, 2048, 4096]⟩
abbrev S57x2048x4096 : Shape := ⟨3, ![57, 2048, 4096]⟩
abbrev S57x1280x4096 : Shape := ⟨3, ![57, 1280, 4096]⟩
abbrev S57x2 : Shape := ⟨2, ![57, 2]⟩
abbrev S57x1x4096 : Shape := ⟨3, ![57, 1, 4096]⟩
abbrev S57x4096 : Shape := ⟨2, ![57, 4096]⟩
abbrev S57x1x2048x2048 : Shape := ⟨4, ![57, 1, 2048, 2048]⟩
abbrev S57x2048x2048 : Shape := ⟨3, ![57, 2048, 2048]⟩
abbrev S57x1x2048 : Shape := ⟨3, ![57, 1, 2048]⟩
abbrev S57x2048 : Shape := ⟨2, ![57, 2048]⟩

abbrev nBuf : Space → Nat
  | .hbm => 155
  | .vmem => 0
  | .smem => 0
  | _ => 0

abbrev hbmTy0_0 (i : Nat) : BufTy := match i % 128 with
  | 0 => ⟨S57, .i32⟩
  | 1 => ⟨S57, .i32⟩
  | 2 => ⟨S57, .i32⟩
  | 3 => ⟨S72960x2048, .bf16⟩
  | 4 => ⟨S4x32x2048x4096, .f32⟩
  | 5 => ⟨S4x32x1x4096, .f32⟩
  | 6 => ⟨S4x32x2048x2048, .f32⟩
  | 7 => ⟨S4x32x1x2048, .f32⟩
  | 8 => ⟨S1x32x2048x4096, .f32⟩
  | 9 => ⟨S32x2048x4096, .f32⟩
  | 10 => ⟨S1x32x1x4096, .f32⟩
  | 11 => ⟨S32x4096, .f32⟩
  | 12 => ⟨S1x32x2048x2048, .f32⟩
  | 13 => ⟨S32x2048x2048, .f32⟩
  | 14 => ⟨S1x32x1x2048, .f32⟩
  | 15 => ⟨S32x2048, .f32⟩
  | 16 => ⟨S72960x2048, .f32⟩
  | 17 => ⟨S57x1280x2048, .f32⟩
  | 18 => ⟨S_, .i32⟩
  | 19 => ⟨S57, .i32⟩
  | 20 => ⟨S57, .i1⟩
  | 21 => ⟨S_, .i32⟩
  | 22 => ⟨S57, .i32⟩
  | 23 => ⟨S57, .i32⟩
  | 24 => ⟨S57, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S57x1, .i32⟩
  | 42 => ⟨S57x1, .i32⟩
  | 43 => ⟨S57x1, .i32⟩
  | 44 => ⟨S57x3, .i32⟩
  | 45 => ⟨S57x1x2048x4096, .f32⟩
  | 46 => ⟨S57x2048x4096, .f32⟩
  | 47 => ⟨S57x1280x4096, .f32⟩
  | 48 => ⟨S_, .i32⟩
  | 49 => ⟨S57, .i32⟩
  | 50 => ⟨S57, .i1⟩
  | 51 => ⟨S_, .i32⟩
  | 52 => ⟨S57, .i32⟩
  | 53 => ⟨S57, .i32⟩
  | 54 => ⟨S57, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S57x1, .i32⟩
  | 64 => ⟨S57x1, .i32⟩
  | 65 => ⟨S57x2, .i32⟩
  | 66 => ⟨S57x1x4096, .f32⟩
  | 67 => ⟨S57x4096, .f32⟩
  | 68 => ⟨S57x1x4096, .f32⟩
  | 69 => ⟨S57x1280x4096, .f32⟩
  | 70 => ⟨S57x1280x4096, .f32⟩
  | 71 => ⟨S57x1280x2048, .f32⟩
  | 72 => ⟨S_, .f32⟩
  | 73 => ⟨S57x1280x2048, .f32⟩
  | 74 => ⟨S57x1280x2048, .f32⟩
  | 75 => ⟨S57x1280x2048, .f32⟩
  | 76 => ⟨S_, .f32⟩
  | 77 => ⟨S_, .f32⟩
  | 78 => ⟨S_, .f32⟩
  | 79 => ⟨S57x1280x2048, .f32⟩
  | 80 => ⟨S57x1280x2048, .f32⟩
  | 81 => ⟨S_, .f32⟩
  | 82 => ⟨S57x1280x2048, .f32⟩
  | 83 => ⟨S57x1280x2048, .f32⟩
  | 84 => ⟨S_, .f32⟩
  | 85 => ⟨S57x1280x2048, .f32⟩
  | 86 => ⟨S57x1280x2048, .f32⟩
  | 87 => ⟨S57x1280x2048, .f32⟩
  | 88 => ⟨S57x1280x2048, .f32⟩
  | 89 => ⟨S_, .f32⟩
  | 90 => ⟨S57x1280x2048, .f32⟩
  | 91 => ⟨S57x1280x2048, .f32⟩
  | 92 => ⟨S_, .f32⟩
  | 93 => ⟨S57x1280x2048, .f32⟩
  | 94 => ⟨S57x1280x2048, .f32⟩
  | 95 => ⟨S57x1280x2048, .f32⟩
  | 96 => ⟨S_, .f32⟩
  | 97 => ⟨S57x1280x2048, .f32⟩
  | 98 => ⟨S57x1280x2048, .f32⟩
  | 99 => ⟨S57x1280x2048, .f32⟩
  | 100 => ⟨S_, .i32⟩
  | 101 => ⟨S57, .i32⟩
  | 102 => ⟨S57, .i1⟩
  | 103 => ⟨S_, .i32⟩
  | 104 => ⟨S57, .i32⟩
  | 105 => ⟨S57, .i32⟩
  | 106 => ⟨S57, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S57x1, .i32⟩
  | 124 => ⟨S57x1, .i32⟩
  | 125 => ⟨S57x1, .i32⟩
  | 126 => ⟨S57x3, .i32⟩
  | 127 => ⟨S57x1x2048x2048, .f32⟩
  | _ => ⟨S57, .i32⟩

abbrev hbmTy0_1 (i : Nat) : BufTy := match i % 128 with
  | 0 => ⟨S57x2048x2048, .f32⟩
  | 1 => ⟨S57x1280x2048, .f32⟩
  | 2 => ⟨S_, .i32⟩
  | 3 => ⟨S57, .i32⟩
  | 4 => ⟨S57, .i1⟩
  | 5 => ⟨S_, .i32⟩
  | 6 => ⟨S57, .i32⟩
  | 7 => ⟨S57, .i32⟩
  | 8 => ⟨S57, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S57x1, .i32⟩
  | 18 => ⟨S57x1, .i32⟩
  | 19 => ⟨S57x2, .i32⟩
  | 20 => ⟨S57x1x2048, .f32⟩
  | 21 => ⟨S57x2048, .f32⟩
  | 22 => ⟨S57x1x2048, .f32⟩
  | 23 => ⟨S57x1280x2048, .f32⟩
  | 24 => ⟨S57x1280x2048, .f32⟩
  | 25 => ⟨S72960x2048, .f32⟩
  | 26 => ⟨S72960x2048, .bf16⟩
  | _ => ⟨S57, .i32⟩

abbrev hbmTy (i : Nat) : BufTy := match i / 128 with
  | 0 => hbmTy0_0 i
  | 1 => hbmTy0_1 i
  | _ => ⟨S57, .i32⟩

abbrev bufTy : (tb : Table) → Fin (tcTables nBuf tb) → BufTy
  | .hbm, ⟨i, _⟩ => hbmTy i
  | _, _ => ⟨S57, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_c_2 : Ref sig .tc := ⟨.hbm, 26, rfl⟩
abbrev main_v15 : Ref sig .tc := ⟨.hbm, 27, rfl⟩
abbrev main_c_3 : Ref sig .tc := ⟨.hbm, 28, rfl⟩
abbrev main_c_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_c_7 : Ref sig .tc := ⟨.hbm, 34, rfl⟩
abbrev main_v18 : Ref sig .tc := ⟨.hbm, 35, rfl⟩
abbrev main_c_8 : Ref sig .tc := ⟨.hbm, 36, rfl⟩
abbrev main_c_9 : Ref sig .tc := ⟨.hbm, 37, rfl⟩
abbrev main_v19 : Ref sig .tc := ⟨.hbm, 38, rfl⟩
abbrev main_c_10 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_13 : Ref sig .tc := ⟨.hbm, 55, rfl⟩
abbrev main_c_14 : Ref sig .tc := ⟨.hbm, 56, rfl⟩
abbrev main_v33 : Ref sig .tc := ⟨.hbm, 57, rfl⟩
abbrev main_c_15 : Ref sig .tc := ⟨.hbm, 58, rfl⟩
abbrev main_c_16 : Ref sig .tc := ⟨.hbm, 59, rfl⟩
abbrev main_v34 : Ref sig .tc := ⟨.hbm, 60, rfl⟩
abbrev main_c_17 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_cst_19 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v48 : Ref sig .tc := ⟨.hbm, 83, rfl⟩
abbrev main_cst_20 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_21 : Ref sig .tc := ⟨.hbm, 89, rfl⟩
abbrev main_v53 : Ref sig .tc := ⟨.hbm, 90, rfl⟩
abbrev main_v54 : Ref sig .tc := ⟨.hbm, 91, rfl⟩
abbrev main_cst_22 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_23 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_26 : Ref sig .tc := ⟨.hbm, 107, rfl⟩
abbrev main_c_27 : Ref sig .tc := ⟨.hbm, 108, rfl⟩
abbrev main_v66 : Ref sig .tc := ⟨.hbm, 109, rfl⟩
abbrev main_c_28 : Ref sig .tc := ⟨.hbm, 110, rfl⟩
abbrev main_c_29 : Ref sig .tc := ⟨.hbm, 111, rfl⟩
abbrev main_v67 : Ref sig .tc := ⟨.hbm, 112, rfl⟩
abbrev main_c_30 : Ref sig .tc := ⟨.hbm, 113, rfl⟩
abbrev main_v68 : Ref sig .tc := ⟨.hbm, 114, rfl⟩
abbrev main_c_31 : Ref sig .tc := ⟨.hbm, 115, rfl⟩
abbrev main_c_32 : Ref sig .tc := ⟨.hbm, 116, rfl⟩
abbrev main_v69 : Ref sig .tc := ⟨.hbm, 117, rfl⟩
abbrev main_c_33 : Ref sig .tc := ⟨.hbm, 118, rfl⟩
abbrev main_c_34 : Ref sig .tc := ⟨.hbm, 119, rfl⟩
abbrev main_v70 : Ref sig .tc := ⟨.hbm, 120, rfl⟩
abbrev main_c_35 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_36 : Ref sig .tc := ⟨.hbm, 130, rfl⟩
abbrev main_v79 : Ref sig .tc := ⟨.hbm, 131, rfl⟩
abbrev main_v80 : Ref sig .tc := ⟨.hbm, 132, rfl⟩
abbrev main_c_37 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_38 : Ref sig .tc := ⟨.hbm, 137, rfl⟩
abbrev main_c_39 : Ref sig .tc := ⟨.hbm, 138, rfl⟩
abbrev main_v84 : Ref sig .tc := ⟨.hbm, 139, rfl⟩
abbrev main_c_40 : Ref sig .tc := ⟨.hbm, 140, rfl⟩
abbrev main_c_41 : Ref sig .tc := ⟨.hbm, 141, rfl⟩
abbrev main_v85 : Ref sig .tc := ⟨.hbm, 142, rfl⟩
abbrev main_c_42 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]
-- ==== Experts1.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1280x2048 : Shape := ⟨2, ![1280, 2048]⟩
abbrev S1 : Shape := ⟨1, ![1]⟩
abbrev S1x1x2048x512 : Shape := ⟨4, ![1, 1, 2048, 512]⟩
abbrev S1x1x1x512 : Shape := ⟨4, ![1, 1, 1, 512]⟩
abbrev S1x1x512x2048 : Shape := ⟨4, ![1, 1, 512, 2048]⟩
abbrev S1x1x1x2048 : Shape := ⟨4, ![1, 1, 1, 2048]⟩
abbrev S2048x512 : Shape := ⟨2, ![2048, 512]⟩
abbrev S512x2048 : Shape := ⟨2, ![512, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩

abbrev nBuf : Space → Nat
  | .hbm => 6
  | .vmem => 18
  | .smem => 3
  | _ => 0

abbrev bufTy : (tb : Table) → Fin (tcTables nBuf tb) → BufTy
  | .hbm, ⟨0, _⟩ => ⟨S72960x2048, .bf16⟩
  | .hbm, ⟨1, _⟩ => ⟨S4x32x2048x4096, .f32⟩
  | .hbm, ⟨2, _⟩ => ⟨S4x32x1x4096, .f32⟩
  | .hbm, ⟨3, _⟩ => ⟨S4x32x2048x2048, .f32⟩
  | .hbm, ⟨4, _⟩ => ⟨S4x32x1x2048, .f32⟩
  | .hbm, ⟨5, _⟩ => ⟨S72960x2048, .bf16⟩
  | .local _ .vmem, ⟨0, _⟩ => ⟨S1280x2048, .bf16⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x512x2048, .f32⟩
  | .local _ .vmem, ⟨10, _⟩ => ⟨S1x1x512x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1280x2048, .bf16⟩
  | .local _ .vmem, ⟨14, _⟩ => ⟨S2048x512, .bf16⟩
  | .local _ .vmem, ⟨15, _⟩ => ⟨S2048x512, .bf16⟩
  | .local _ .vmem, ⟨16, _⟩ => ⟨S512x2048, .bf16⟩
  | .local _ .vmem, ⟨17, _⟩ => ⟨S1280x2048, .f32⟩
  | .local _ .smem, ⟨0, _⟩ => ⟨S57, .i32⟩
  | .local _ .smem, ⟨1, _⟩ => ⟨S57, .i32⟩
  | .local _ .smem, ⟨2, _⟩ => ⟨S57, .i32⟩
  | _, _ => ⟨S72960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![57, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) (v1 : BitVec 32) : BitVec 1 :=
  let c0_i32_6 : BitVec 32 := 0#32
  let v14 : BitVec 1 := Scalar.cmpi .sgt v1 c0_i32_6
  let arg1 : BitVec 32 := BitVec.ofNat 32 (i 1).val
  let c3_i32 : BitVec 32 := 3#32
  let v2 : BitVec 1 := Scalar.cmpi .eq arg1 c3_i32
  let v15 : BitVec 1 := Scalar.andi v14 v2
  let v16 : BitVec 32 := Scalar.extui v15
  let c0_i32_7 : BitVec 32 := 0#32
  let v17 : BitVec 1 := Scalar.cmpi .ne v16 c0_i32_7
  v17

def k0_cond5 (i : grid0.Coords) (v1 : BitVec 32) : BitVec 1 :=
  let c0_i32_8 : BitVec 32 := 0#32
  let v18 : BitVec 1 := Scalar.cmpi .sle v1 c0_i32_8
  let c0_i32_9 : BitVec 32 := 0#32
  let v19 : BitVec 1 := Scalar.cmpi .sgt v1 c0_i32_9
  let v20 : BitVec 1 := Scalar.andi v18 v19
  let arg1 : BitVec 32 := BitVec.ofNat 32 (i 1).val
  let c3_i32 : BitVec 32 := 3#32
  let v2 : BitVec 1 := Scalar.cmpi .eq arg1 c3_i32
  let v21 : BitVec 1 := Scalar.andi v20 v2
  let v22 : BitVec 32 := Scalar.extui v21
  let c0_i32_10 : BitVec 32 := 0#32
  let v23 : BitVec 1 := Scalar.cmpi .ne v22 c0_i32_10
  v23

def k0_cond8 (i : grid0.Coords) (v1 : BitVec 32) : BitVec 1 :=
  let c1_i32_15 : BitVec 32 := 1#32
  let v32 : BitVec 1 := Scalar.cmpi .sgt v1 c1_i32_15
  let arg1 : BitVec 32 := BitVec.ofNat 32 (i 1).val
  let c3_i32 : BitVec 32 := 3#32
  let v2 : BitVec 1 := Scalar.cmpi .eq arg1 c3_i32
  let v33 : BitVec 1 := Scalar.andi v32 v2
  let v34 : BitVec 32 := Scalar.extui v33
  let c0_i32_16 : BitVec 32 := 0#32
  let v35 : BitVec 1 := Scalar.cmpi .ne v34 c0_i32_16
  v35

def k0_cond9 (i : grid0.Coords) (v1 : BitVec 32) : BitVec 1 :=
  let c1_i32_17 : BitVec 32 := 1#32
  let v36 : BitVec 1 := Scalar.cmpi .sle v1 c1_i32_17
  let c0_i32_18 : BitVec 32 := 0#32
  let v37 : BitVec 1 := Scalar.cmpi .sgt v1 c0_i32_18
  let v38 : BitVec 1 := Scalar.andi v36 v37
  let arg1 : BitVec 32 := BitVec.ofNat 32 (i 1).val
  let c3_i32 : BitVec 32 := 3#32
  let v2 : BitVec 1 := Scalar.cmpi .eq arg1 c3_i32
  let v39 : BitVec 1 := Scalar.andi v38 v2
  let v40 : BitVec 32 := Scalar.extui v39
  let c0_i32_19 : BitVec 32 := 0#32
  let v41 : BitVec 1 := Scalar.cmpi .ne v40 c0_i32_19
  v41

def k0_cond12 (i : grid0.Coords) (v1 : BitVec 32) : BitVec 1 :=
  let c2_i32_24 : BitVec 32 := 2#32
  let v50 : BitVec 1 := Scalar.cmpi .sgt v1 c2_i32_24
  let arg1 : BitVec 32 := BitVec.ofNat 32 (i 1).val
  let c3_i32 : BitVec 32 := 3#32
  let v2 : BitVec 1 := Scalar.cmpi .eq arg1 c3_i32
  let v51 : BitVec 1 := Scalar.andi v50 v2
  let v52 : BitVec 32 := Scalar.extui v51
  let c0_i32_25 : BitVec 32 := 0#32
  let v53 : BitVec 1 := Scalar.cmpi .ne v52 c0_i32_25
  v53

def k0_cond13 (i : grid0.Coords) (v1 : BitVec 32) : BitVec 1 :=
  let c2_i32_26 : BitVec 32 := 2#32
  let v54 : BitVec 1 := Scalar.cmpi .sle v1 c2_i32_26
  let c0_i32_27 : BitVec 32 := 0#32
  let v55 : BitVec 1 := Scalar.cmpi .sgt v1 c0_i32_27
  let v56 : BitVec 1 := Scalar.andi v54 v55
  let arg1 : BitVec 32 := BitVec.ofNat 32 (i 1).val
  let c3_i32 : BitVec 32 := 3#32
  let v2 : BitVec 1 := Scalar.cmpi .eq arg1 c3_i32
  let v57 : BitVec 1 := Scalar.andi v56 v2
  let v58 : BitVec 32 := Scalar.extui v57
  let c0_i32_28 : BitVec 32 := 0#32
  let v59 : BitVec 1 := Scalar.cmpi .ne v58 c0_i32_28
  v59

def k0_cond16 (i : grid0.Coords) (v1 : BitVec 32) : BitVec 1 :=
  let c3_i32_34 : BitVec 32 := 3#32
  let v68 : BitVec 1 := Scalar.cmpi .sgt v1 c3_i32_34
  let arg1 : BitVec 32 := BitVec.ofNat 32 (i 1).val
  let c3_i32 : BitVec 32 := 3#32
  let v2 : BitVec 1 := Scalar.cmpi .eq arg1 c3_i32
  let v69 : BitVec 1 := Scalar.andi v68 v2
  let v70 : BitVec 32 := Scalar.extui v69
  let c0_i32_35 : BitVec 32 := 0#32
  let v71 : BitVec 1 := Scalar.cmpi .ne v70 c0_i32_35
  v71

def k0_cond17 (i : grid0.Coords) (v1 : BitVec 32) : BitVec 1 :=
  let c3_i32_36 : BitVec 32 := 3#32
  let v72 : BitVec 1 := Scalar.cmpi .sle v1 c3_i32_36
  let c0_i32_37 : BitVec 32 := 0#32
  let v73 : BitVec 1 := Scalar.cmpi .sgt v1 c0_i32_37
  let v74 : BitVec 1 := Scalar.andi v72 v73
  let arg1 : BitVec 32 := BitVec.ofNat 32 (i 1).val
  let c3_i32 : BitVec 32 := 3#32
  let v2 : BitVec 1 := Scalar.cmpi .eq arg1 c3_i32
  let v75 : BitVec 1 := Scalar.andi v74 v2
  let v76 : BitVec 32 := Scalar.extui v75
  let c0_i32_38 : BitVec 32 := 0#32
  let v77 : BitVec 1 := Scalar.cmpi .ne v76 c0_i32_38
  v77

def k0_cond20 (i : grid0.Coords) (v1 : BitVec 32) : BitVec 1 :=
  let c4_i32_43 : BitVec 32 := 4#32
  let v86 : BitVec 1 := Scalar.cmpi .sgt v1 c4_i32_43
  let arg1 : BitVec 32 := BitVec.ofNat 32 (i 1).val
  let c3_i32 : BitVec 32 := 3#32
  let v2 : BitVec 1 := Scalar.cmpi .eq arg1 c3_i32
  let v87 : BitVec 1 := Scalar.andi v86 v2
  let v88 : BitVec 32 := Scalar.extui v87
  let c0_i32_44 : BitVec 32 := 0#32
  let v89 : BitVec 1 := Scalar.cmpi .ne v88 c0_i32_44
  v89

def k0_cond21 (i : grid0.Coords) (v1 : BitVec 32) : BitVec 1 :=
  let c4_i32_45 : BitVec 32 := 4#32
  let v90 : BitVec 1 := Scalar.cmpi .sle v1 c4_i32_45
  let c0_i32_46 : BitVec 32 := 0#32
  let v91 : BitVec 1 := Scalar.cmpi .sgt v1 c0_i32_46
  let v92 : BitVec 1 := Scalar.andi v90 v91
  let arg1 : BitVec 32 := BitVec.ofNat 32 (i 1).val
  let c3_i32 : BitVec 32 := 3#32
  let v2 : BitVec 1 := Scalar.cmpi .eq arg1 c3_i32
  let v93 : BitVec 1 := Scalar.andi v92 v2
  let v94 : BitVec 32 := Scalar.extui v93
  let c0_i32_47 : BitVec 32 := 0#32
  let v95 : BitVec 1 := Scalar.cmpi .ne v94 c0_i32_47
  v95

def cc0_transform_0 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c1_i32 : BitVec 32 := 1#32
  let c0_i32_0 : BitVec 32 := 0#32
  let c0_i32_1 : BitVec 32 := 0#32
  ![c1_i32.toNat, v1.toNat, c0_i32_0.toNat, v5.toNat]

def cc0_transform_2 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c1_i32 : BitVec 32 := 1#32
  let c0_i32_0 : BitVec 32 := 0#32
  let c0_i32_1 : BitVec 32 := 0#32
  ![c1_i32.toNat, v1.toNat, c0_i32_0.toNat, v6.toNat]

def cc0_transform_3 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c1_i32 : BitVec 32 := 1#32
  let c0_i32_0 : BitVec 32 := 0#32
  let c0_i32_1 : BitVec 32 := 0#32
  ![c1_i32.toNat, v1.toNat, c0_i32_0.toNat, v5.toNat]

def cc0_transform_4 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c1_i32 : BitVec 32 := 1#32
  let c0_i32_0 : BitVec 32 := 0#32
  let c0_i32_1 : BitVec 32 := 0#32
  ![c1_i32.toNat, v1.toNat, c0_i32_0.toNat, v6.toNat]

def cc0_transform_5 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c1_i32 : BitVec 32 := 1#32
  let c0_i32_0 : BitVec 32 := 0#32
  let c0_i32_1 : BitVec 32 := 0#32
  ![c1_i32.toNat, v1.toNat, v5.toNat, c0_i32_0.toNat]

def cc0_transform_6 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let c1_i32 : BitVec 32 := 1#32
  let c0_i32 : BitVec 32 := 0#32
  let c0_i32_0 : BitVec 32 := 0#32
  let c0_i32_1 : BitVec 32 := 0#32
  ![c1_i32.toNat, v1.toNat, c0_i32.toNat, c0_i32_0.toNat]

def cc0_transform_7 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S1280x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1280x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Experts1RefIdeal.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1x32x2048x4096 : Shape := ⟨4, ![1, 32, 2048, 4096]⟩
abbrev S32x2048x4096 : Shape := ⟨3, ![32, 2048, 4096]⟩
abbrev S1x32x1x4096 : Shape := ⟨4, ![1, 32, 1, 4096]⟩
abbrev S32x4096 : Shape := ⟨2, ![32, 4096]⟩
abbrev S1x32x2048x2048 : Shape := ⟨4, ![1, 32, 2048, 2048]⟩
abbrev S32x2048x2048 : Shape := ⟨3, ![32, 2048, 2048]⟩
abbrev S1x32x1x2048 : Shape := ⟨4, ![1, 32, 1, 2048]⟩
abbrev S32x2048 : Shape := ⟨2, ![32, 2048]⟩
abbrev S57x1280x2048 : Shape := ⟨3, ![57, 1280, 2048]⟩
abbrev S_ : Shape := ⟨0, ![]⟩
abbrev S57x1 : Shape := ⟨2, ![57, 1]⟩
abbrev S57x3 : Shape := ⟨2, ![57, 3]⟩
abbrev S57x1x2048x4096 : Shape := ⟨4, ![57, 1, 2048, 4096]⟩
abbrev S57x2048x4096 : Shape := ⟨3, ![57, 2048, 4096]⟩
abbrev S57x1280x4096 : Shape := ⟨3, ![57, 1280, 4096]⟩
abbrev S57x2 : Shape := ⟨2, ![57, 2]⟩
abbrev S57x1x4096 : Shape := ⟨3, ![57, 1, 4096]⟩
abbrev S57x4096 : Shape := ⟨2, ![57, 4096]⟩
abbrev S57x1x2048x2048 : Shape := ⟨4, ![57, 1, 2048, 2048]⟩
abbrev S57x2048x2048 : Shape := ⟨3, ![57, 2048, 2048]⟩
abbrev S57x1x2048 : Shape := ⟨3, ![57, 1, 2048]⟩
abbrev S57x2048 : Shape := ⟨2, ![57, 2048]⟩

abbrev nBuf : Space → Nat
  | .hbm => 155
  | .vmem => 0
  | .smem => 0
  | _ => 0

abbrev hbmTy0_0 (i : Nat) : BufTy := match i % 128 with
  | 0 => ⟨S57, .i32⟩
  | 1 => ⟨S57, .i32⟩
  | 2 => ⟨S57, .i32⟩
  | 3 => ⟨S72960x2048, .bf16⟩
  | 4 => ⟨S4x32x2048x4096, .f32⟩
  | 5 => ⟨S4x32x1x4096, .f32⟩
  | 6 => ⟨S4x32x2048x2048, .f32⟩
  | 7 => ⟨S4x32x1x2048, .f32⟩
  | 8 => ⟨S1x32x2048x4096, .f32⟩
  | 9 => ⟨S32x2048x4096, .f32⟩
  | 10 => ⟨S1x32x1x4096, .f32⟩
  | 11 => ⟨S32x4096, .f32⟩
  | 12 => ⟨S1x32x2048x2048, .f32⟩
  | 13 => ⟨S32x2048x2048, .f32⟩
  | 14 => ⟨S1x32x1x2048, .f32⟩
  | 15 => ⟨S32x2048, .f32⟩
  | 16 => ⟨S72960x2048, .f32⟩
  | 17 => ⟨S57x1280x2048, .f32⟩
  | 18 => ⟨S_, .i32⟩
  | 19 => ⟨S57, .i32⟩
  | 20 => ⟨S57, .i1⟩
  | 21 => ⟨S_, .i32⟩
  | 22 => ⟨S57, .i32⟩
  | 23 => ⟨S57, .i32⟩
  | 24 => ⟨S57, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S57x1, .i32⟩
  | 42 => ⟨S57x1, .i32⟩
  | 43 => ⟨S57x1, .i32⟩
  | 44 => ⟨S57x3, .i32⟩
  | 45 => ⟨S57x1x2048x4096, .f32⟩
  | 46 => ⟨S57x2048x4096, .f32⟩
  | 47 => ⟨S57x1280x4096, .f32⟩
  | 48 => ⟨S_, .i32⟩
  | 49 => ⟨S57, .i32⟩
  | 50 => ⟨S57, .i1⟩
  | 51 => ⟨S_, .i32⟩
  | 52 => ⟨S57, .i32⟩
  | 53 => ⟨S57, .i32⟩
  | 54 => ⟨S57, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S57x1, .i32⟩
  | 64 => ⟨S57x1, .i32⟩
  | 65 => ⟨S57x2, .i32⟩
  | 66 => ⟨S57x1x4096, .f32⟩
  | 67 => ⟨S57x4096, .f32⟩
  | 68 => ⟨S57x1x4096, .f32⟩
  | 69 => ⟨S57x1280x4096, .f32⟩
  | 70 => ⟨S57x1280x4096, .f32⟩
  | 71 => ⟨S57x1280x2048, .f32⟩
  | 72 => ⟨S_, .f32⟩
  | 73 => ⟨S57x1280x2048, .f32⟩
  | 74 => ⟨S57x1280x2048, .f32⟩
  | 75 => ⟨S57x1280x2048, .f32⟩
  | 76 => ⟨S_, .f32⟩
  | 77 => ⟨S_, .f32⟩
  | 78 => ⟨S_, .f32⟩
  | 79 => ⟨S57x1280x2048, .f32⟩
  | 80 => ⟨S57x1280x2048, .f32⟩
  | 81 => ⟨S_, .f32⟩
  | 82 => ⟨S57x1280x2048, .f32⟩
  | 83 => ⟨S57x1280x2048, .f32⟩
  | 84 => ⟨S_, .f32⟩
  | 85 => ⟨S57x1280x2048, .f32⟩
  | 86 => ⟨S57x1280x2048, .f32⟩
  | 87 => ⟨S57x1280x2048, .f32⟩
  | 88 => ⟨S57x1280x2048, .f32⟩
  | 89 => ⟨S_, .f32⟩
  | 90 => ⟨S57x1280x2048, .f32⟩
  | 91 => ⟨S57x1280x2048, .f32⟩
  | 92 => ⟨S_, .f32⟩
  | 93 => ⟨S57x1280x2048, .f32⟩
  | 94 => ⟨S57x1280x2048, .f32⟩
  | 95 => ⟨S57x1280x2048, .f32⟩
  | 96 => ⟨S_, .f32⟩
  | 97 => ⟨S57x1280x2048, .f32⟩
  | 98 => ⟨S57x1280x2048, .f32⟩
  | 99 => ⟨S57x1280x2048, .f32⟩
  | 100 => ⟨S_, .i32⟩
  | 101 => ⟨S57, .i32⟩
  | 102 => ⟨S57, .i1⟩
  | 103 => ⟨S_, .i32⟩
  | 104 => ⟨S57, .i32⟩
  | 105 => ⟨S57, .i32⟩
  | 106 => ⟨S57, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S57x1, .i32⟩
  | 124 => ⟨S57x1, .i32⟩
  | 125 => ⟨S57x1, .i32⟩
  | 126 => ⟨S57x3, .i32⟩
  | 127 => ⟨S57x1x2048x2048, .f32⟩
  | _ => ⟨S57, .i32⟩

abbrev hbmTy0_1 (i : Nat) : BufTy := match i % 128 with
  | 0 => ⟨S57x2048x2048, .f32⟩
  | 1 => ⟨S57x1280x2048, .f32⟩
  | 2 => ⟨S_, .i32⟩
  | 3 => ⟨S57, .i32⟩
  | 4 => ⟨S57, .i1⟩
  | 5 => ⟨S_, .i32⟩
  | 6 => ⟨S57, .i32⟩
  | 7 => ⟨S57, .i32⟩
  | 8 => ⟨S57, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S57x1, .i32⟩
  | 18 => ⟨S57x1, .i32⟩
  | 19 => ⟨S57x2, .i32⟩
  | 20 => ⟨S57x1x2048, .f32⟩
  | 21 => ⟨S57x2048, .f32⟩
  | 22 => ⟨S57x1x2048, .f32⟩
  | 23 => ⟨S57x1280x2048, .f32⟩
  | 24 => ⟨S57x1280x2048, .f32⟩
  | 25 => ⟨S72960x2048, .f32⟩
  | 26 => ⟨S72960x2048, .bf16⟩
  | _ => ⟨S57, .i32⟩

abbrev hbmTy (i : Nat) : BufTy := match i / 128 with
  | 0 => hbmTy0_0 i
  | 1 => hbmTy0_1 i
  | _ => ⟨S57, .i32⟩

abbrev bufTy : (tb : Table) → Fin (tcTables nBuf tb) → BufTy
  | .hbm, ⟨i, _⟩ => hbmTy i
  | _, _ => ⟨S57, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_c_2 : Ref sig .tc := ⟨.hbm, 26, rfl⟩
abbrev main_v15 : Ref sig .tc := ⟨.hbm, 27, rfl⟩
abbrev main_c_3 : Ref sig .tc := ⟨.hbm, 28, rfl⟩
abbrev main_c_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_c_7 : Ref sig .tc := ⟨.hbm, 34, rfl⟩
abbrev main_v18 : Ref sig .tc := ⟨.hbm, 35, rfl⟩
abbrev main_c_8 : Ref sig .tc := ⟨.hbm, 36, rfl⟩
abbrev main_c_9 : Ref sig .tc := ⟨.hbm, 37, rfl⟩
abbrev main_v19 : Ref sig .tc := ⟨.hbm, 38, rfl⟩
abbrev main_c_10 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_13 : Ref sig .tc := ⟨.hbm, 55, rfl⟩
abbrev main_c_14 : Ref sig .tc := ⟨.hbm, 56, rfl⟩
abbrev main_v33 : Ref sig .tc := ⟨.hbm, 57, rfl⟩
abbrev main_c_15 : Ref sig .tc := ⟨.hbm, 58, rfl⟩
abbrev main_c_16 : Ref sig .tc := ⟨.hbm, 59, rfl⟩
abbrev main_v34 : Ref sig .tc := ⟨.hbm, 60, rfl⟩
abbrev main_c_17 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_cst_19 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v48 : Ref sig .tc := ⟨.hbm, 83, rfl⟩
abbrev main_cst_20 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_21 : Ref sig .tc := ⟨.hbm, 89, rfl⟩
abbrev main_v53 : Ref sig .tc := ⟨.hbm, 90, rfl⟩
abbrev main_v54 : Ref sig .tc := ⟨.hbm, 91, rfl⟩
abbrev main_cst_22 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_23 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_26 : Ref sig .tc := ⟨.hbm, 107, rfl⟩
abbrev main_c_27 : Ref sig .tc := ⟨.hbm, 108, rfl⟩
abbrev main_v66 : Ref sig .tc := ⟨.hbm, 109, rfl⟩
abbrev main_c_28 : Ref sig .tc := ⟨.hbm, 110, rfl⟩
abbrev main_c_29 : Ref sig .tc := ⟨.hbm, 111, rfl⟩
abbrev main_v67 : Ref sig .tc := ⟨.hbm, 112, rfl⟩
abbrev main_c_30 : Ref sig .tc := ⟨.hbm, 113, rfl⟩
abbrev main_v68 : Ref sig .tc := ⟨.hbm, 114, rfl⟩
abbrev main_c_31 : Ref sig .tc := ⟨.hbm, 115, rfl⟩
abbrev main_c_32 : Ref sig .tc := ⟨.hbm, 116, rfl⟩
abbrev main_v69 : Ref sig .tc := ⟨.hbm, 117, rfl⟩
abbrev main_c_33 : Ref sig .tc := ⟨.hbm, 118, rfl⟩
abbrev main_c_34 : Ref sig .tc := ⟨.hbm, 119, rfl⟩
abbrev main_v70 : Ref sig .tc := ⟨.hbm, 120, rfl⟩
abbrev main_c_35 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_36 : Ref sig .tc := ⟨.hbm, 130, rfl⟩
abbrev main_v79 : Ref sig .tc := ⟨.hbm, 131, rfl⟩
abbrev main_v80 : Ref sig .tc := ⟨.hbm, 132, rfl⟩
abbrev main_c_37 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_38 : Ref sig .tc := ⟨.hbm, 137, rfl⟩
abbrev main_c_39 : Ref sig .tc := ⟨.hbm, 138, rfl⟩
abbrev main_v84 : Ref sig .tc := ⟨.hbm, 139, rfl⟩
abbrev main_c_40 : Ref sig .tc := ⟨.hbm, 140, rfl⟩
abbrev main_c_41 : Ref sig .tc := ⟨.hbm, 141, rfl⟩
abbrev main_v85 : Ref sig .tc := ⟨.hbm, 142, rfl⟩
abbrev main_c_42 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]
-- ==== Experts2.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1280x2048 : Shape := ⟨2, ![1280, 2048]⟩
abbrev S1 : Shape := ⟨1, ![1]⟩
abbrev S1x1x2048x512 : Shape := ⟨4, ![1, 1, 2048, 512]⟩
abbrev S1x1x1x512 : Shape := ⟨4, ![1, 1, 1, 512]⟩
abbrev S1x1x512x2048 : Shape := ⟨4, ![1, 1, 512, 2048]⟩
abbrev S1x1x1x2048 : Shape := ⟨4, ![1, 1, 1, 2048]⟩
abbrev S2048x512 : Shape := ⟨2, ![2048, 512]⟩
abbrev S512x2048 : Shape := ⟨2, ![512, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩

abbrev nBuf : Space → Nat
  | .hbm => 6
  | .vmem => 18
  | .smem => 3
  | _ => 0

abbrev bufTy : (tb : Table) → Fin (tcTables nBuf tb) → BufTy
  | .hbm, ⟨0, _⟩ => ⟨S72960x2048, .bf16⟩
  | .hbm, ⟨1, _⟩ => ⟨S4x32x2048x4096, .f32⟩
  | .hbm, ⟨2, _⟩ => ⟨S4x32x1x4096, .f32⟩
  | .hbm, ⟨3, _⟩ => ⟨S4x32x2048x2048, .f32⟩
  | .hbm, ⟨4, _⟩ => ⟨S4x32x1x2048, .f32⟩
  | .hbm, ⟨5, _⟩ => ⟨S72960x2048, .bf16⟩
  | .local _ .vmem, ⟨0, _⟩ => ⟨S1280x2048, .bf16⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x512x2048, .f32⟩
  | .local _ .vmem, ⟨10, _⟩ => ⟨S1x1x512x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1280x2048, .bf16⟩
  | .local _ .vmem, ⟨14, _⟩ => ⟨S2048x512, .bf16⟩
  | .local _ .vmem, ⟨15, _⟩ => ⟨S2048x512, .bf16⟩
  | .local _ .vmem, ⟨16, _⟩ => ⟨S512x2048, .bf16⟩
  | .local _ .vmem, ⟨17, _⟩ => ⟨S1280x2048, .f32⟩
  | .local _ .smem, ⟨0, _⟩ => ⟨S57, .i32⟩
  | .local _ .smem, ⟨1, _⟩ => ⟨S57, .i32⟩
  | .local _ .smem, ⟨2, _⟩ => ⟨S57, .i32⟩
  | _, _ => ⟨S72960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![57, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) (v1 : BitVec 32) : BitVec 1 :=
  let c0_i32_6 : BitVec 32 := 0#32
  let v14 : BitVec 1 := Scalar.cmpi .sgt v1 c0_i32_6
  let arg1 : BitVec 32 := BitVec.ofNat 32 (i 1).val
  let c3_i32 : BitVec 32 := 3#32
  let v2 : BitVec 1 := Scalar.cmpi .eq arg1 c3_i32
  let v15 : BitVec 1 := Scalar.andi v14 v2
  let v16 : BitVec 32 := Scalar.extui v15
  let c0_i32_7 : BitVec 32 := 0#32
  let v17 : BitVec 1 := Scalar.cmpi .ne v16 c0_i32_7
  v17

def k0_cond5 (i : grid0.Coords) (v1 : BitVec 32) : BitVec 1 :=
  let c0_i32_8 : BitVec 32 := 0#32
  let v18 : BitVec 1 := Scalar.cmpi .sle v1 c0_i32_8
  let c0_i32_9 : BitVec 32 := 0#32
  let v19 : BitVec 1 := Scalar.cmpi .sgt v1 c0_i32_9
  let v20 : BitVec 1 := Scalar.andi v18 v19
  let arg1 : BitVec 32 := BitVec.ofNat 32 (i 1).val
  let c3_i32 : BitVec 32 := 3#32
  let v2 : BitVec 1 := Scalar.cmpi .eq arg1 c3_i32
  let v21 : BitVec 1 := Scalar.andi v20 v2
  let v22 : BitVec 32 := Scalar.extui v21
  let c0_i32_10 : BitVec 32 := 0#32
  let v23 : BitVec 1 := Scalar.cmpi .ne v22 c0_i32_10
  v23

def k0_cond8 (i : grid0.Coords) (v1 : BitVec 32) : BitVec 1 :=
  let c1_i32_15 : BitVec 32 := 1#32
  let v32 : BitVec 1 := Scalar.cmpi .sgt v1 c1_i32_15
  let arg1 : BitVec 32 := BitVec.ofNat 32 (i 1).val
  let c3_i32 : BitVec 32 := 3#32
  let v2 : BitVec 1 := Scalar.cmpi .eq arg1 c3_i32
  let v33 : BitVec 1 := Scalar.andi v32 v2
  let v34 : BitVec 32 := Scalar.extui v33
  let c0_i32_16 : BitVec 32 := 0#32
  let v35 : BitVec 1 := Scalar.cmpi .ne v34 c0_i32_16
  v35

def k0_cond9 (i : grid0.Coords) (v1 : BitVec 32) : BitVec 1 :=
  let c1_i32_17 : BitVec 32 := 1#32
  let v36 : BitVec 1 := Scalar.cmpi .sle v1 c1_i32_17
  let c0_i32_18 : BitVec 32 := 0#32
  let v37 : BitVec 1 := Scalar.cmpi .sgt v1 c0_i32_18
  let v38 : BitVec 1 := Scalar.andi v36 v37
  let arg1 : BitVec 32 := BitVec.ofNat 32 (i 1).val
  let c3_i32 : BitVec 32 := 3#32
  let v2 : BitVec 1 := Scalar.cmpi .eq arg1 c3_i32
  let v39 : BitVec 1 := Scalar.andi v38 v2
  let v40 : BitVec 32 := Scalar.extui v39
  let c0_i32_19 : BitVec 32 := 0#32
  let v41 : BitVec 1 := Scalar.cmpi .ne v40 c0_i32_19
  v41

def k0_cond12 (i : grid0.Coords) (v1 : BitVec 32) : BitVec 1 :=
  let c2_i32_24 : BitVec 32 := 2#32
  let v50 : BitVec 1 := Scalar.cmpi .sgt v1 c2_i32_24
  let arg1 : BitVec 32 := BitVec.ofNat 32 (i 1).val
  let c3_i32 : BitVec 32 := 3#32
  let v2 : BitVec 1 := Scalar.cmpi .eq arg1 c3_i32
  let v51 : BitVec 1 := Scalar.andi v50 v2
  let v52 : BitVec 32 := Scalar.extui v51
  let c0_i32_25 : BitVec 32 := 0#32
  let v53 : BitVec 1 := Scalar.cmpi .ne v52 c0_i32_25
  v53

def k0_cond13 (i : grid0.Coords) (v1 : BitVec 32) : BitVec 1 :=
  let c2_i32_26 : BitVec 32 := 2#32
  let v54 : BitVec 1 := Scalar.cmpi .sle v1 c2_i32_26
  let c0_i32_27 : BitVec 32 := 0#32
  let v55 : BitVec 1 := Scalar.cmpi .sgt v1 c0_i32_27
  let v56 : BitVec 1 := Scalar.andi v54 v55
  let arg1 : BitVec 32 := BitVec.ofNat 32 (i 1).val
  let c3_i32 : BitVec 32 := 3#32
  let v2 : BitVec 1 := Scalar.cmpi .eq arg1 c3_i32
  let v57 : BitVec 1 := Scalar.andi v56 v2
  let v58 : BitVec 32 := Scalar.extui v57
  let c0_i32_28 : BitVec 32 := 0#32
  let v59 : BitVec 1 := Scalar.cmpi .ne v58 c0_i32_28
  v59

def k0_cond16 (i : grid0.Coords) (v1 : BitVec 32) : BitVec 1 :=
  let c3_i32_34 : BitVec 32 := 3#32
  let v68 : BitVec 1 := Scalar.cmpi .sgt v1 c3_i32_34
  let arg1 : BitVec 32 := BitVec.ofNat 32 (i 1).val
  let c3_i32 : BitVec 32 := 3#32
  let v2 : BitVec 1 := Scalar.cmpi .eq arg1 c3_i32
  let v69 : BitVec 1 := Scalar.andi v68 v2
  let v70 : BitVec 32 := Scalar.extui v69
  let c0_i32_35 : BitVec 32 := 0#32
  let v71 : BitVec 1 := Scalar.cmpi .ne v70 c0_i32_35
  v71

def k0_cond17 (i : grid0.Coords) (v1 : BitVec 32) : BitVec 1 :=
  let c3_i32_36 : BitVec 32 := 3#32
  let v72 : BitVec 1 := Scalar.cmpi .sle v1 c3_i32_36
  let c0_i32_37 : BitVec 32 := 0#32
  let v73 : BitVec 1 := Scalar.cmpi .sgt v1 c0_i32_37
  let v74 : BitVec 1 := Scalar.andi v72 v73
  let arg1 : BitVec 32 := BitVec.ofNat 32 (i 1).val
  let c3_i32 : BitVec 32 := 3#32
  let v2 : BitVec 1 := Scalar.cmpi .eq arg1 c3_i32
  let v75 : BitVec 1 := Scalar.andi v74 v2
  let v76 : BitVec 32 := Scalar.extui v75
  let c0_i32_38 : BitVec 32 := 0#32
  let v77 : BitVec 1 := Scalar.cmpi .ne v76 c0_i32_38
  v77

def k0_cond20 (i : grid0.Coords) (v1 : BitVec 32) : BitVec 1 :=
  let c4_i32_43 : BitVec 32 := 4#32
  let v86 : BitVec 1 := Scalar.cmpi .sgt v1 c4_i32_43
  let arg1 : BitVec 32 := BitVec.ofNat 32 (i 1).val
  let c3_i32 : BitVec 32 := 3#32
  let v2 : BitVec 1 := Scalar.cmpi .eq arg1 c3_i32
  let v87 : BitVec 1 := Scalar.andi v86 v2
  let v88 : BitVec 32 := Scalar.extui v87
  let c0_i32_44 : BitVec 32 := 0#32
  let v89 : BitVec 1 := Scalar.cmpi .ne v88 c0_i32_44
  v89

def k0_cond21 (i : grid0.Coords) (v1 : BitVec 32) : BitVec 1 :=
  let c4_i32_45 : BitVec 32 := 4#32
  let v90 : BitVec 1 := Scalar.cmpi .sle v1 c4_i32_45
  let c0_i32_46 : BitVec 32 := 0#32
  let v91 : BitVec 1 := Scalar.cmpi .sgt v1 c0_i32_46
  let v92 : BitVec 1 := Scalar.andi v90 v91
  let arg1 : BitVec 32 := BitVec.ofNat 32 (i 1).val
  let c3_i32 : BitVec 32 := 3#32
  let v2 : BitVec 1 := Scalar.cmpi .eq arg1 c3_i32
  let v93 : BitVec 1 := Scalar.andi v92 v2
  let v94 : BitVec 32 := Scalar.extui v93
  let c0_i32_47 : BitVec 32 := 0#32
  let v95 : BitVec 1 := Scalar.cmpi .ne v94 c0_i32_47
  v95

def cc0_transform_0 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c2_i32 : BitVec 32 := 2#32
  let c0_i32_0 : BitVec 32 := 0#32
  let c0_i32_1 : BitVec 32 := 0#32
  ![c2_i32.toNat, v1.toNat, c0_i32_0.toNat, v5.toNat]

def cc0_transform_2 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c2_i32 : BitVec 32 := 2#32
  let c0_i32_0 : BitVec 32 := 0#32
  let c0_i32_1 : BitVec 32 := 0#32
  ![c2_i32.toNat, v1.toNat, c0_i32_0.toNat, v6.toNat]

def cc0_transform_3 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c2_i32 : BitVec 32 := 2#32
  let c0_i32_0 : BitVec 32 := 0#32
  let c0_i32_1 : BitVec 32 := 0#32
  ![c2_i32.toNat, v1.toNat, c0_i32_0.toNat, v5.toNat]

def cc0_transform_4 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c2_i32 : BitVec 32 := 2#32
  let c0_i32_0 : BitVec 32 := 0#32
  let c0_i32_1 : BitVec 32 := 0#32
  ![c2_i32.toNat, v1.toNat, c0_i32_0.toNat, v6.toNat]

def cc0_transform_5 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c2_i32 : BitVec 32 := 2#32
  let c0_i32_0 : BitVec 32 := 0#32
  let c0_i32_1 : BitVec 32 := 0#32
  ![c2_i32.toNat, v1.toNat, v5.toNat, c0_i32_0.toNat]

def cc0_transform_6 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let c2_i32 : BitVec 32 := 2#32
  let c0_i32 : BitVec 32 := 0#32
  let c0_i32_0 : BitVec 32 := 0#32
  let c0_i32_1 : BitVec 32 := 0#32
  ![c2_i32.toNat, v1.toNat, c0_i32.toNat, c0_i32_0.toNat]

def cc0_transform_7 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S1280x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1280x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Experts2RefIdeal.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1x32x2048x4096 : Shape := ⟨4, ![1, 32, 2048, 4096]⟩
abbrev S32x2048x4096 : Shape := ⟨3, ![32, 2048, 4096]⟩
abbrev S1x32x1x4096 : Shape := ⟨4, ![1, 32, 1, 4096]⟩
abbrev S32x4096 : Shape := ⟨2, ![32, 4096]⟩
abbrev S1x32x2048x2048 : Shape := ⟨4, ![1, 32, 2048, 2048]⟩
abbrev S32x2048x2048 : Shape := ⟨3, ![32, 2048, 2048]⟩
abbrev S1x32x1x2048 : Shape := ⟨4, ![1, 32, 1, 2048]⟩
abbrev S32x2048 : Shape := ⟨2, ![32, 2048]⟩
abbrev S57x1280x2048 : Shape := ⟨3, ![57, 1280, 2048]⟩
abbrev S_ : Shape := ⟨0, ![]⟩
abbrev S57x1 : Shape := ⟨2, ![57, 1]⟩
abbrev S57x3 : Shape := ⟨2, ![57, 3]⟩
abbrev S57x1x2048x4096 : Shape := ⟨4, ![57, 1, 2048, 4096]⟩
abbrev S57x2048x4096 : Shape := ⟨3, ![57, 2048, 4096]⟩
abbrev S57x1280x4096 : Shape := ⟨3, ![57, 1280, 4096]⟩
abbrev S57x2 : Shape := ⟨2, ![57, 2]⟩
abbrev S57x1x4096 : Shape := ⟨3, ![57, 1, 4096]⟩
abbrev S57x4096 : Shape := ⟨2, ![57, 4096]⟩
abbrev S57x1x2048x2048 : Shape := ⟨4, ![57, 1, 2048, 2048]⟩
abbrev S57x2048x2048 : Shape := ⟨3, ![57, 2048, 2048]⟩
abbrev S57x1x2048 : Shape := ⟨3, ![57, 1, 2048]⟩
abbrev S57x2048 : Shape := ⟨2, ![57, 2048]⟩

abbrev nBuf : Space → Nat
  | .hbm => 155
  | .vmem => 0
  | .smem => 0
  | _ => 0

abbrev hbmTy0_0 (i : Nat) : BufTy := match i % 128 with
  | 0 => ⟨S57, .i32⟩
  | 1 => ⟨S57, .i32⟩
  | 2 => ⟨S57, .i32⟩
  | 3 => ⟨S72960x2048, .bf16⟩
  | 4 => ⟨S4x32x2048x4096, .f32⟩
  | 5 => ⟨S4x32x1x4096, .f32⟩
  | 6 => ⟨S4x32x2048x2048, .f32⟩
  | 7 => ⟨S4x32x1x2048, .f32⟩
  | 8 => ⟨S1x32x2048x4096, .f32⟩
  | 9 => ⟨S32x2048x4096, .f32⟩
  | 10 => ⟨S1x32x1x4096, .f32⟩
  | 11 => ⟨S32x4096, .f32⟩
  | 12 => ⟨S1x32x2048x2048, .f32⟩
  | 13 => ⟨S32x2048x2048, .f32⟩
  | 14 => ⟨S1x32x1x2048, .f32⟩
  | 15 => ⟨S32x2048, .f32⟩
  | 16 => ⟨S72960x2048, .f32⟩
  | 17 => ⟨S57x1280x2048, .f32⟩
  | 18 => ⟨S_, .i32⟩
  | 19 => ⟨S57, .i32⟩
  | 20 => ⟨S57, .i1⟩
  | 21 => ⟨S_, .i32⟩
  | 22 => ⟨S57, .i32⟩
  | 23 => ⟨S57, .i32⟩
  | 24 => ⟨S57, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S57x1, .i32⟩
  | 42 => ⟨S57x1, .i32⟩
  | 43 => ⟨S57x1, .i32⟩
  | 44 => ⟨S57x3, .i32⟩
  | 45 => ⟨S57x1x2048x4096, .f32⟩
  | 46 => ⟨S57x2048x4096, .f32⟩
  | 47 => ⟨S57x1280x4096, .f32⟩
  | 48 => ⟨S_, .i32⟩
  | 49 => ⟨S57, .i32⟩
  | 50 => ⟨S57, .i1⟩
  | 51 => ⟨S_, .i32⟩
  | 52 => ⟨S57, .i32⟩
  | 53 => ⟨S57, .i32⟩
  | 54 => ⟨S57, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S57x1, .i32⟩
  | 64 => ⟨S57x1, .i32⟩
  | 65 => ⟨S57x2, .i32⟩
  | 66 => ⟨S57x1x4096, .f32⟩
  | 67 => ⟨S57x4096, .f32⟩
  | 68 => ⟨S57x1x4096, .f32⟩
  | 69 => ⟨S57x1280x4096, .f32⟩
  | 70 => ⟨S57x1280x4096, .f32⟩
  | 71 => ⟨S57x1280x2048, .f32⟩
  | 72 => ⟨S_, .f32⟩
  | 73 => ⟨S57x1280x2048, .f32⟩
  | 74 => ⟨S57x1280x2048, .f32⟩
  | 75 => ⟨S57x1280x2048, .f32⟩
  | 76 => ⟨S_, .f32⟩
  | 77 => ⟨S_, .f32⟩
  | 78 => ⟨S_, .f32⟩
  | 79 => ⟨S57x1280x2048, .f32⟩
  | 80 => ⟨S57x1280x2048, .f32⟩
  | 81 => ⟨S_, .f32⟩
  | 82 => ⟨S57x1280x2048, .f32⟩
  | 83 => ⟨S57x1280x2048, .f32⟩
  | 84 => ⟨S_, .f32⟩
  | 85 => ⟨S57x1280x2048, .f32⟩
  | 86 => ⟨S57x1280x2048, .f32⟩
  | 87 => ⟨S57x1280x2048, .f32⟩
  | 88 => ⟨S57x1280x2048, .f32⟩
  | 89 => ⟨S_, .f32⟩
  | 90 => ⟨S57x1280x2048, .f32⟩
  | 91 => ⟨S57x1280x2048, .f32⟩
  | 92 => ⟨S_, .f32⟩
  | 93 => ⟨S57x1280x2048, .f32⟩
  | 94 => ⟨S57x1280x2048, .f32⟩
  | 95 => ⟨S57x1280x2048, .f32⟩
  | 96 => ⟨S_, .f32⟩
  | 97 => ⟨S57x1280x2048, .f32⟩
  | 98 => ⟨S57x1280x2048, .f32⟩
  | 99 => ⟨S57x1280x2048, .f32⟩
  | 100 => ⟨S_, .i32⟩
  | 101 => ⟨S57, .i32⟩
  | 102 => ⟨S57, .i1⟩
  | 103 => ⟨S_, .i32⟩
  | 104 => ⟨S57, .i32⟩
  | 105 => ⟨S57, .i32⟩
  | 106 => ⟨S57, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S57x1, .i32⟩
  | 124 => ⟨S57x1, .i32⟩
  | 125 => ⟨S57x1, .i32⟩
  | 126 => ⟨S57x3, .i32⟩
  | 127 => ⟨S57x1x2048x2048, .f32⟩
  | _ => ⟨S57, .i32⟩

abbrev hbmTy0_1 (i : Nat) : BufTy := match i % 128 with
  | 0 => ⟨S57x2048x2048, .f32⟩
  | 1 => ⟨S57x1280x2048, .f32⟩
  | 2 => ⟨S_, .i32⟩
  | 3 => ⟨S57, .i32⟩
  | 4 => ⟨S57, .i1⟩
  | 5 => ⟨S_, .i32⟩
  | 6 => ⟨S57, .i32⟩
  | 7 => ⟨S57, .i32⟩
  | 8 => ⟨S57, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S57x1, .i32⟩
  | 18 => ⟨S57x1, .i32⟩
  | 19 => ⟨S57x2, .i32⟩
  | 20 => ⟨S57x1x2048, .f32⟩
  | 21 => ⟨S57x2048, .f32⟩
  | 22 => ⟨S57x1x2048, .f32⟩
  | 23 => ⟨S57x1280x2048, .f32⟩
  | 24 => ⟨S57x1280x2048, .f32⟩
  | 25 => ⟨S72960x2048, .f32⟩
  | 26 => ⟨S72960x2048, .bf16⟩
  | _ => ⟨S57, .i32⟩

abbrev hbmTy (i : Nat) : BufTy := match i / 128 with
  | 0 => hbmTy0_0 i
  | 1 => hbmTy0_1 i
  | _ => ⟨S57, .i32⟩

abbrev bufTy : (tb : Table) → Fin (tcTables nBuf tb) → BufTy
  | .hbm, ⟨i, _⟩ => hbmTy i
  | _, _ => ⟨S57, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_c_2 : Ref sig .tc := ⟨.hbm, 26, rfl⟩
abbrev main_v15 : Ref sig .tc := ⟨.hbm, 27, rfl⟩
abbrev main_c_3 : Ref sig .tc := ⟨.hbm, 28, rfl⟩
abbrev main_c_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_c_7 : Ref sig .tc := ⟨.hbm, 34, rfl⟩
abbrev main_v18 : Ref sig .tc := ⟨.hbm, 35, rfl⟩
abbrev main_c_8 : Ref sig .tc := ⟨.hbm, 36, rfl⟩
abbrev main_c_9 : Ref sig .tc := ⟨.hbm, 37, rfl⟩
abbrev main_v19 : Ref sig .tc := ⟨.hbm, 38, rfl⟩
abbrev main_c_10 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_13 : Ref sig .tc := ⟨.hbm, 55, rfl⟩
abbrev main_c_14 : Ref sig .tc := ⟨.hbm, 56, rfl⟩
abbrev main_v33 : Ref sig .tc := ⟨.hbm, 57, rfl⟩
abbrev main_c_15 : Ref sig .tc := ⟨.hbm, 58, rfl⟩
abbrev main_c_16 : Ref sig .tc := ⟨.hbm, 59, rfl⟩
abbrev main_v34 : Ref sig .tc := ⟨.hbm, 60, rfl⟩
abbrev main_c_17 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_cst_19 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v48 : Ref sig .tc := ⟨.hbm, 83, rfl⟩
abbrev main_cst_20 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_21 : Ref sig .tc := ⟨.hbm, 89, rfl⟩
abbrev main_v53 : Ref sig .tc := ⟨.hbm, 90, rfl⟩
abbrev main_v54 : Ref sig .tc := ⟨.hbm, 91, rfl⟩
abbrev main_cst_22 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_23 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_26 : Ref sig .tc := ⟨.hbm, 107, rfl⟩
abbrev main_c_27 : Ref sig .tc := ⟨.hbm, 108, rfl⟩
abbrev main_v66 : Ref sig .tc := ⟨.hbm, 109, rfl⟩
abbrev main_c_28 : Ref sig .tc := ⟨.hbm, 110, rfl⟩
abbrev main_c_29 : Ref sig .tc := ⟨.hbm, 111, rfl⟩
abbrev main_v67 : Ref sig .tc := ⟨.hbm, 112, rfl⟩
abbrev main_c_30 : Ref sig .tc := ⟨.hbm, 113, rfl⟩
abbrev main_v68 : Ref sig .tc := ⟨.hbm, 114, rfl⟩
abbrev main_c_31 : Ref sig .tc := ⟨.hbm, 115, rfl⟩
abbrev main_c_32 : Ref sig .tc := ⟨.hbm, 116, rfl⟩
abbrev main_v69 : Ref sig .tc := ⟨.hbm, 117, rfl⟩
abbrev main_c_33 : Ref sig .tc := ⟨.hbm, 118, rfl⟩
abbrev main_c_34 : Ref sig .tc := ⟨.hbm, 119, rfl⟩
abbrev main_v70 : Ref sig .tc := ⟨.hbm, 120, rfl⟩
abbrev main_c_35 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_36 : Ref sig .tc := ⟨.hbm, 130, rfl⟩
abbrev main_v79 : Ref sig .tc := ⟨.hbm, 131, rfl⟩
abbrev main_v80 : Ref sig .tc := ⟨.hbm, 132, rfl⟩
abbrev main_c_37 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_38 : Ref sig .tc := ⟨.hbm, 137, rfl⟩
abbrev main_c_39 : Ref sig .tc := ⟨.hbm, 138, rfl⟩
abbrev main_v84 : Ref sig .tc := ⟨.hbm, 139, rfl⟩
abbrev main_c_40 : Ref sig .tc := ⟨.hbm, 140, rfl⟩
abbrev main_c_41 : Ref sig .tc := ⟨.hbm, 141, rfl⟩
abbrev main_v85 : Ref sig .tc := ⟨.hbm, 142, rfl⟩
abbrev main_c_42 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]
-- ==== Experts3.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1280x2048 : Shape := ⟨2, ![1280, 2048]⟩
abbrev S1 : Shape := ⟨1, ![1]⟩
abbrev S1x1x2048x512 : Shape := ⟨4, ![1, 1, 2048, 512]⟩
abbrev S1x1x1x512 : Shape := ⟨4, ![1, 1, 1, 512]⟩
abbrev S1x1x512x2048 : Shape := ⟨4, ![1, 1, 512, 2048]⟩
abbrev S1x1x1x2048 : Shape := ⟨4, ![1, 1, 1, 2048]⟩
abbrev S2048x512 : Shape := ⟨2, ![2048, 512]⟩
abbrev S512x2048 : Shape := ⟨2, ![512, 2048]⟩
abbrev S1x2048 : Shape := ⟨2, ![1, 2048]⟩
abbrev S256x2048 : Shape := ⟨2, ![256, 2048]⟩
abbrev S256x512 : Shape := ⟨2, ![256, 512]⟩
abbrev S1x512 : Shape := ⟨2, ![1, 512]⟩

abbrev nBuf : Space → Nat
  | .hbm => 6
  | .vmem => 18
  | .smem => 3
  | _ => 0

abbrev bufTy : (tb : Table) → Fin (tcTables nBuf tb) → BufTy
  | .hbm, ⟨0, _⟩ => ⟨S72960x2048, .bf16⟩
  | .hbm, ⟨1, _⟩ => ⟨S4x32x2048x4096, .f32⟩
  | .hbm, ⟨2, _⟩ => ⟨S4x32x1x4096, .f32⟩
  | .hbm, ⟨3, _⟩ => ⟨S4x32x2048x2048, .f32⟩
  | .hbm, ⟨4, _⟩ => ⟨S4x32x1x2048, .f32⟩
  | .hbm, ⟨5, _⟩ => ⟨S72960x2048, .bf16⟩
  | .local _ .vmem, ⟨0, _⟩ => ⟨S1280x2048, .bf16⟩
  | .local _ .vmem, ⟨1, _⟩ => ⟨S1x1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x1x2048x512, .f32⟩
  | .local _ .vmem, ⟨5, _⟩ => ⟨S1x1x1x512, .f32⟩
  | .local _ .vmem, ⟨6, _⟩ => ⟨S1x1x1x512, .f32⟩
  | .local _ .vmem, ⟨7, _⟩ => ⟨S1x1x1x512, .f32⟩
  | .local _ .vmem, ⟨8, _⟩ => ⟨S1x1x1x512, .f32⟩
  | .local _ .vmem, ⟨9, _⟩ => ⟨S1x1x512x2048, .f32⟩
  | .local _ .vmem, ⟨10, _⟩ => ⟨S1x1x512x2048, .f32⟩
  | .local _ .vmem, ⟨11, _⟩ => ⟨S1x1x1x2048, .f32⟩
  | .local _ .vmem, ⟨12, _⟩ => ⟨S1x1x1x2048, .f32⟩
  | .local _ .vmem, ⟨13, _⟩ => ⟨S1280x2048, .bf16⟩
  | .local _ .vmem, ⟨14, _⟩ => ⟨S2048x512, .bf16⟩
  | .local _ .vmem, ⟨15, _⟩ => ⟨S2048x512, .bf16⟩
  | .local _ .vmem, ⟨16, _⟩ => ⟨S512x2048, .bf16⟩
  | .local _ .vmem, ⟨17, _⟩ => ⟨S1280x2048, .f32⟩
  | .local _ .smem, ⟨0, _⟩ => ⟨S57, .i32⟩
  | .local _ .smem, ⟨1, _⟩ => ⟨S57, .i32⟩
  | .local _ .smem, ⟨2, _⟩ => ⟨S57, .i32⟩
  | _, _ => ⟨S72960x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![57, 4], ![false, false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) (v1 : BitVec 32) : BitVec 1 :=
  let c0_i32_6 : BitVec 32 := 0#32
  let v14 : BitVec 1 := Scalar.cmpi .sgt v1 c0_i32_6
  let arg1 : BitVec 32 := BitVec.ofNat 32 (i 1).val
  let c3_i32 : BitVec 32 := 3#32
  let v2 : BitVec 1 := Scalar.cmpi .eq arg1 c3_i32
  let v15 : BitVec 1 := Scalar.andi v14 v2
  let v16 : BitVec 32 := Scalar.extui v15
  let c0_i32_7 : BitVec 32 := 0#32
  let v17 : BitVec 1 := Scalar.cmpi .ne v16 c0_i32_7
  v17

def k0_cond5 (i : grid0.Coords) (v1 : BitVec 32) : BitVec 1 :=
  let c0_i32_8 : BitVec 32 := 0#32
  let v18 : BitVec 1 := Scalar.cmpi .sle v1 c0_i32_8
  let c0_i32_9 : BitVec 32 := 0#32
  let v19 : BitVec 1 := Scalar.cmpi .sgt v1 c0_i32_9
  let v20 : BitVec 1 := Scalar.andi v18 v19
  let arg1 : BitVec 32 := BitVec.ofNat 32 (i 1).val
  let c3_i32 : BitVec 32 := 3#32
  let v2 : BitVec 1 := Scalar.cmpi .eq arg1 c3_i32
  let v21 : BitVec 1 := Scalar.andi v20 v2
  let v22 : BitVec 32 := Scalar.extui v21
  let c0_i32_10 : BitVec 32 := 0#32
  let v23 : BitVec 1 := Scalar.cmpi .ne v22 c0_i32_10
  v23

def k0_cond8 (i : grid0.Coords) (v1 : BitVec 32) : BitVec 1 :=
  let c1_i32_15 : BitVec 32 := 1#32
  let v32 : BitVec 1 := Scalar.cmpi .sgt v1 c1_i32_15
  let arg1 : BitVec 32 := BitVec.ofNat 32 (i 1).val
  let c3_i32 : BitVec 32 := 3#32
  let v2 : BitVec 1 := Scalar.cmpi .eq arg1 c3_i32
  let v33 : BitVec 1 := Scalar.andi v32 v2
  let v34 : BitVec 32 := Scalar.extui v33
  let c0_i32_16 : BitVec 32 := 0#32
  let v35 : BitVec 1 := Scalar.cmpi .ne v34 c0_i32_16
  v35

def k0_cond9 (i : grid0.Coords) (v1 : BitVec 32) : BitVec 1 :=
  let c1_i32_17 : BitVec 32 := 1#32
  let v36 : BitVec 1 := Scalar.cmpi .sle v1 c1_i32_17
  let c0_i32_18 : BitVec 32 := 0#32
  let v37 : BitVec 1 := Scalar.cmpi .sgt v1 c0_i32_18
  let v38 : BitVec 1 := Scalar.andi v36 v37
  let arg1 : BitVec 32 := BitVec.ofNat 32 (i 1).val
  let c3_i32 : BitVec 32 := 3#32
  let v2 : BitVec 1 := Scalar.cmpi .eq arg1 c3_i32
  let v39 : BitVec 1 := Scalar.andi v38 v2
  let v40 : BitVec 32 := Scalar.extui v39
  let c0_i32_19 : BitVec 32 := 0#32
  let v41 : BitVec 1 := Scalar.cmpi .ne v40 c0_i32_19
  v41

def k0_cond12 (i : grid0.Coords) (v1 : BitVec 32) : BitVec 1 :=
  let c2_i32_24 : BitVec 32 := 2#32
  let v50 : BitVec 1 := Scalar.cmpi .sgt v1 c2_i32_24
  let arg1 : BitVec 32 := BitVec.ofNat 32 (i 1).val
  let c3_i32 : BitVec 32 := 3#32
  let v2 : BitVec 1 := Scalar.cmpi .eq arg1 c3_i32
  let v51 : BitVec 1 := Scalar.andi v50 v2
  let v52 : BitVec 32 := Scalar.extui v51
  let c0_i32_25 : BitVec 32 := 0#32
  let v53 : BitVec 1 := Scalar.cmpi .ne v52 c0_i32_25
  v53

def k0_cond13 (i : grid0.Coords) (v1 : BitVec 32) : BitVec 1 :=
  let c2_i32_26 : BitVec 32 := 2#32
  let v54 : BitVec 1 := Scalar.cmpi .sle v1 c2_i32_26
  let c0_i32_27 : BitVec 32 := 0#32
  let v55 : BitVec 1 := Scalar.cmpi .sgt v1 c0_i32_27
  let v56 : BitVec 1 := Scalar.andi v54 v55
  let arg1 : BitVec 32 := BitVec.ofNat 32 (i 1).val
  let c3_i32 : BitVec 32 := 3#32
  let v2 : BitVec 1 := Scalar.cmpi .eq arg1 c3_i32
  let v57 : BitVec 1 := Scalar.andi v56 v2
  let v58 : BitVec 32 := Scalar.extui v57
  let c0_i32_28 : BitVec 32 := 0#32
  let v59 : BitVec 1 := Scalar.cmpi .ne v58 c0_i32_28
  v59

def k0_cond16 (i : grid0.Coords) (v1 : BitVec 32) : BitVec 1 :=
  let c3_i32_34 : BitVec 32 := 3#32
  let v68 : BitVec 1 := Scalar.cmpi .sgt v1 c3_i32_34
  let arg1 : BitVec 32 := BitVec.ofNat 32 (i 1).val
  let c3_i32 : BitVec 32 := 3#32
  let v2 : BitVec 1 := Scalar.cmpi .eq arg1 c3_i32
  let v69 : BitVec 1 := Scalar.andi v68 v2
  let v70 : BitVec 32 := Scalar.extui v69
  let c0_i32_35 : BitVec 32 := 0#32
  let v71 : BitVec 1 := Scalar.cmpi .ne v70 c0_i32_35
  v71

def k0_cond17 (i : grid0.Coords) (v1 : BitVec 32) : BitVec 1 :=
  let c3_i32_36 : BitVec 32 := 3#32
  let v72 : BitVec 1 := Scalar.cmpi .sle v1 c3_i32_36
  let c0_i32_37 : BitVec 32 := 0#32
  let v73 : BitVec 1 := Scalar.cmpi .sgt v1 c0_i32_37
  let v74 : BitVec 1 := Scalar.andi v72 v73
  let arg1 : BitVec 32 := BitVec.ofNat 32 (i 1).val
  let c3_i32 : BitVec 32 := 3#32
  let v2 : BitVec 1 := Scalar.cmpi .eq arg1 c3_i32
  let v75 : BitVec 1 := Scalar.andi v74 v2
  let v76 : BitVec 32 := Scalar.extui v75
  let c0_i32_38 : BitVec 32 := 0#32
  let v77 : BitVec 1 := Scalar.cmpi .ne v76 c0_i32_38
  v77

def k0_cond20 (i : grid0.Coords) (v1 : BitVec 32) : BitVec 1 :=
  let c4_i32_43 : BitVec 32 := 4#32
  let v86 : BitVec 1 := Scalar.cmpi .sgt v1 c4_i32_43
  let arg1 : BitVec 32 := BitVec.ofNat 32 (i 1).val
  let c3_i32 : BitVec 32 := 3#32
  let v2 : BitVec 1 := Scalar.cmpi .eq arg1 c3_i32
  let v87 : BitVec 1 := Scalar.andi v86 v2
  let v88 : BitVec 32 := Scalar.extui v87
  let c0_i32_44 : BitVec 32 := 0#32
  let v89 : BitVec 1 := Scalar.cmpi .ne v88 c0_i32_44
  v89

def k0_cond21 (i : grid0.Coords) (v1 : BitVec 32) : BitVec 1 :=
  let c4_i32_45 : BitVec 32 := 4#32
  let v90 : BitVec 1 := Scalar.cmpi .sle v1 c4_i32_45
  let c0_i32_46 : BitVec 32 := 0#32
  let v91 : BitVec 1 := Scalar.cmpi .sgt v1 c0_i32_46
  let v92 : BitVec 1 := Scalar.andi v90 v91
  let arg1 : BitVec 32 := BitVec.ofNat 32 (i 1).val
  let c3_i32 : BitVec 32 := 3#32
  let v2 : BitVec 1 := Scalar.cmpi .eq arg1 c3_i32
  let v93 : BitVec 1 := Scalar.andi v92 v2
  let v94 : BitVec 32 := Scalar.extui v93
  let c0_i32_47 : BitVec 32 := 0#32
  let v95 : BitVec 1 := Scalar.cmpi .ne v94 c0_i32_47
  v95

def cc0_transform_0 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c3_i32_0 : BitVec 32 := 3#32
  let c0_i32_1 : BitVec 32 := 0#32
  let c0_i32_2 : BitVec 32 := 0#32
  ![c3_i32_0.toNat, v1.toNat, c0_i32_1.toNat, v5.toNat]

def cc0_transform_2 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c3_i32_0 : BitVec 32 := 3#32
  let c0_i32_1 : BitVec 32 := 0#32
  let c0_i32_2 : BitVec 32 := 0#32
  ![c3_i32_0.toNat, v1.toNat, c0_i32_1.toNat, v6.toNat]

def cc0_transform_3 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c3_i32_0 : BitVec 32 := 3#32
  let c0_i32_1 : BitVec 32 := 0#32
  let c0_i32_2 : BitVec 32 := 0#32
  ![c3_i32_0.toNat, v1.toNat, c0_i32_1.toNat, v5.toNat]

def cc0_transform_4 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi c4_i32 v5
  let c3_i32_0 : BitVec 32 := 3#32
  let c0_i32_1 : BitVec 32 := 0#32
  let c0_i32_2 : BitVec 32 := 0#32
  ![c3_i32_0.toNat, v1.toNat, c0_i32_1.toNat, v6.toNat]

def cc0_transform_5 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let v2 : Index := Scalar.indexCast arg0
  let v3 : BitVec 32 := pf.at 1 (Rect.unit (s := S57) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c3_i32_0 : BitVec 32 := 3#32
  let c0_i32_1 : BitVec 32 := 0#32
  let c0_i32_2 : BitVec 32 := 0#32
  ![c3_i32_0.toNat, v1.toNat, v5.toNat, c0_i32_1.toNat]

def cc0_transform_6 (k0_off1_inb : ∀ i : grid0.Coords, ∀ a, (k0_off1 i) a + S1.size a ≤ S57.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S57) ![v0.toNat] S1.size (k0_off1_inb i)) numel1_S1
  let c3_i32 : BitVec 32 := 3#32
  let c0_i32 : BitVec 32 := 0#32
  let c0_i32_0 : BitVec 32 := 0#32
  let c0_i32_1 : BitVec 32 := 0#32
  ![c3_i32.toNat, v1.toNat, c0_i32.toNat, c0_i32_0.toNat]

def cc0_transform_7 (k0_off1_inb : ∀ i : grid0.Coords, ∀ a, (k0_off1 i) a + S1.size a ≤ S57.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S57) ![v0.toNat] S1.size (k0_off1_inb i)) numel1_S1
  let c0_i32 : BitVec 32 := 0#32
  let c0_i32_0 : BitVec 32 := 0#32
  ![v1.toNat, c0_i32.toNat]

abbrev stage0_0 : Fin 1 → Memref sig .tc .vmem S1280x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1280x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Experts3RefIdeal.lean ====
abbrev S57 : Shape := ⟨1, ![57]⟩
abbrev S72960x2048 : Shape := ⟨2, ![72960, 2048]⟩
abbrev S4x32x2048x4096 : Shape := ⟨4, ![4, 32, 2048, 4096]⟩
abbrev S4x32x1x4096 : Shape := ⟨4, ![4, 32, 1, 4096]⟩
abbrev S4x32x2048x2048 : Shape := ⟨4, ![4, 32, 2048, 2048]⟩
abbrev S4x32x1x2048 : Shape := ⟨4, ![4, 32, 1, 2048]⟩
abbrev S1x32x2048x4096 : Shape := ⟨4, ![1, 32, 2048, 4096]⟩
abbrev S32x2048x4096 : Shape := ⟨3, ![32, 2048, 4096]⟩
abbrev S1x32x1x4096 : Shape := ⟨4, ![1, 32, 1, 4096]⟩
abbrev S32x4096 : Shape := ⟨2, ![32, 4096]⟩
abbrev S1x32x2048x2048 : Shape := ⟨4, ![1, 32, 2048, 2048]⟩
abbrev S32x2048x2048 : Shape := ⟨3, ![32, 2048, 2048]⟩
abbrev S1x32x1x2048 : Shape := ⟨4, ![1, 32, 1, 2048]⟩
abbrev S32x2048 : Shape := ⟨2, ![32, 2048]⟩
abbrev S57x1280x2048 : Shape := ⟨3, ![57, 1280, 2048]⟩
abbrev S_ : Shape := ⟨0, ![]⟩
abbrev S57x1 : Shape := ⟨2, ![57, 1]⟩
abbrev S57x3 : Shape := ⟨2, ![57, 3]⟩
abbrev S57x1x2048x4096 : Shape := ⟨4, ![57, 1, 2048, 4096]⟩
abbrev S57x2048x4096 : Shape := ⟨3, ![57, 2048, 4096]⟩
abbrev S57x1280x4096 : Shape := ⟨3, ![57, 1280, 4096]⟩
abbrev S57x2 : Shape := ⟨2, ![57, 2]⟩
abbrev S57x1x4096 : Shape := ⟨3, ![57, 1, 4096]⟩
abbrev S57x4096 : Shape := ⟨2, ![57, 4096]⟩
abbrev S57x1x2048x2048 : Shape := ⟨4, ![57, 1, 2048, 2048]⟩
abbrev S57x2048x2048 : Shape := ⟨3, ![57, 2048, 2048]⟩
abbrev S57x1x2048 : Shape := ⟨3, ![57, 1, 2048]⟩
abbrev S57x2048 : Shape := ⟨2, ![57, 2048]⟩

abbrev nBuf : Space → Nat
  | .hbm => 155
  | .vmem => 0
  | .smem => 0
  | _ => 0

abbrev hbmTy0_0 (i : Nat) : BufTy := match i % 128 with
  | 0 => ⟨S57, .i32⟩
  | 1 => ⟨S57, .i32⟩
  | 2 => ⟨S57, .i32⟩
  | 3 => ⟨S72960x2048, .bf16⟩
  | 4 => ⟨S4x32x2048x4096, .f32⟩
  | 5 => ⟨S4x32x1x4096, .f32⟩
  | 6 => ⟨S4x32x2048x2048, .f32⟩
  | 7 => ⟨S4x32x1x2048, .f32⟩
  | 8 => ⟨S1x32x2048x4096, .f32⟩
  | 9 => ⟨S32x2048x4096, .f32⟩
  | 10 => ⟨S1x32x1x4096, .f32⟩
  | 11 => ⟨S32x4096, .f32⟩
  | 12 => ⟨S1x32x2048x2048, .f32⟩
  | 13 => ⟨S32x2048x2048, .f32⟩
  | 14 => ⟨S1x32x1x2048, .f32⟩
  | 15 => ⟨S32x2048, .f32⟩
  | 16 => ⟨S72960x2048, .f32⟩
  | 17 => ⟨S57x1280x2048, .f32⟩
  | 18 => ⟨S_, .i32⟩
  | 19 => ⟨S57, .i32⟩
  | 20 => ⟨S57, .i1⟩
  | 21 => ⟨S_, .i32⟩
  | 22 => ⟨S57, .i32⟩
  | 23 => ⟨S57, .i32⟩
  | 24 => ⟨S57, .i32⟩
  | 25 => ⟨S_, .i32⟩
  | 26 => ⟨S_, .i32⟩
  | 27 => ⟨S_, .i1⟩
  | 28 => ⟨S_, .i32⟩
  | 29 => ⟨S_, .i32⟩
  | 30 => ⟨S_, .i32⟩
  | 31 => ⟨S_, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S57x1, .i32⟩
  | 42 => ⟨S57x1, .i32⟩
  | 43 => ⟨S57x1, .i32⟩
  | 44 => ⟨S57x3, .i32⟩
  | 45 => ⟨S57x1x2048x4096, .f32⟩
  | 46 => ⟨S57x2048x4096, .f32⟩
  | 47 => ⟨S57x1280x4096, .f32⟩
  | 48 => ⟨S_, .i32⟩
  | 49 => ⟨S57, .i32⟩
  | 50 => ⟨S57, .i1⟩
  | 51 => ⟨S_, .i32⟩
  | 52 => ⟨S57, .i32⟩
  | 53 => ⟨S57, .i32⟩
  | 54 => ⟨S57, .i32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S_, .i32⟩
  | 62 => ⟨S_, .i32⟩
  | 63 => ⟨S57x1, .i32⟩
  | 64 => ⟨S57x1, .i32⟩
  | 65 => ⟨S57x2, .i32⟩
  | 66 => ⟨S57x1x4096, .f32⟩
  | 67 => ⟨S57x4096, .f32⟩
  | 68 => ⟨S57x1x4096, .f32⟩
  | 69 => ⟨S57x1280x4096, .f32⟩
  | 70 => ⟨S57x1280x4096, .f32⟩
  | 71 => ⟨S57x1280x2048, .f32⟩
  | 72 => ⟨S_, .f32⟩
  | 73 => ⟨S57x1280x2048, .f32⟩
  | 74 => ⟨S57x1280x2048, .f32⟩
  | 75 => ⟨S57x1280x2048, .f32⟩
  | 76 => ⟨S_, .f32⟩
  | 77 => ⟨S_, .f32⟩
  | 78 => ⟨S_, .f32⟩
  | 79 => ⟨S57x1280x2048, .f32⟩
  | 80 => ⟨S57x1280x2048, .f32⟩
  | 81 => ⟨S_, .f32⟩
  | 82 => ⟨S57x1280x2048, .f32⟩
  | 83 => ⟨S57x1280x2048, .f32⟩
  | 84 => ⟨S_, .f32⟩
  | 85 => ⟨S57x1280x2048, .f32⟩
  | 86 => ⟨S57x1280x2048, .f32⟩
  | 87 => ⟨S57x1280x2048, .f32⟩
  | 88 => ⟨S57x1280x2048, .f32⟩
  | 89 => ⟨S_, .f32⟩
  | 90 => ⟨S57x1280x2048, .f32⟩
  | 91 => ⟨S57x1280x2048, .f32⟩
  | 92 => ⟨S_, .f32⟩
  | 93 => ⟨S57x1280x2048, .f32⟩
  | 94 => ⟨S57x1280x2048, .f32⟩
  | 95 => ⟨S57x1280x2048, .f32⟩
  | 96 => ⟨S_, .f32⟩
  | 97 => ⟨S57x1280x2048, .f32⟩
  | 98 => ⟨S57x1280x2048, .f32⟩
  | 99 => ⟨S57x1280x2048, .f32⟩
  | 100 => ⟨S_, .i32⟩
  | 101 => ⟨S57, .i32⟩
  | 102 => ⟨S57, .i1⟩
  | 103 => ⟨S_, .i32⟩
  | 104 => ⟨S57, .i32⟩
  | 105 => ⟨S57, .i32⟩
  | 106 => ⟨S57, .i32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S_, .i32⟩
  | 123 => ⟨S57x1, .i32⟩
  | 124 => ⟨S57x1, .i32⟩
  | 125 => ⟨S57x1, .i32⟩
  | 126 => ⟨S57x3, .i32⟩
  | 127 => ⟨S57x1x2048x2048, .f32⟩
  | _ => ⟨S57, .i32⟩

abbrev hbmTy0_1 (i : Nat) : BufTy := match i % 128 with
  | 0 => ⟨S57x2048x2048, .f32⟩
  | 1 => ⟨S57x1280x2048, .f32⟩
  | 2 => ⟨S_, .i32⟩
  | 3 => ⟨S57, .i32⟩
  | 4 => ⟨S57, .i1⟩
  | 5 => ⟨S_, .i32⟩
  | 6 => ⟨S57, .i32⟩
  | 7 => ⟨S57, .i32⟩
  | 8 => ⟨S57, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S57x1, .i32⟩
  | 18 => ⟨S57x1, .i32⟩
  | 19 => ⟨S57x2, .i32⟩
  | 20 => ⟨S57x1x2048, .f32⟩
  | 21 => ⟨S57x2048, .f32⟩
  | 22 => ⟨S57x1x2048, .f32⟩
  | 23 => ⟨S57x1280x2048, .f32⟩
  | 24 => ⟨S57x1280x2048, .f32⟩
  | 25 => ⟨S72960x2048, .f32⟩
  | 26 => ⟨S72960x2048, .bf16⟩
  | _ => ⟨S57, .i32⟩

abbrev hbmTy (i : Nat) : BufTy := match i / 128 with
  | 0 => hbmTy0_0 i
  | 1 => hbmTy0_1 i
  | _ => ⟨S57, .i32⟩

abbrev bufTy : (tb : Table) → Fin (tcTables nBuf tb) → BufTy
  | .hbm, ⟨i, _⟩ => hbmTy i
  | _, _ => ⟨S57, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_c_2 : Ref sig .tc := ⟨.hbm, 26, rfl⟩
abbrev main_v15 : Ref sig .tc := ⟨.hbm, 27, rfl⟩
abbrev main_c_3 : Ref sig .tc := ⟨.hbm, 28, rfl⟩
abbrev main_c_4 : Ref sig .tc := ⟨.hbm, 29, rfl⟩
abbrev main_v16 : Ref sig .tc := ⟨.hbm, 30, rfl⟩
abbrev main_c_5 : Ref sig .tc := ⟨.hbm, 31, rfl⟩
abbrev main_v17 : Ref sig .tc := ⟨.hbm, 32, rfl⟩
abbrev main_c_6 : Ref sig .tc := ⟨.hbm, 33, rfl⟩
abbrev main_c_7 : Ref sig .tc := ⟨.hbm, 34, rfl⟩
abbrev main_v18 : Ref sig .tc := ⟨.hbm, 35, rfl⟩
abbrev main_c_8 : Ref sig .tc := ⟨.hbm, 36, rfl⟩
abbrev main_c_9 : Ref sig .tc := ⟨.hbm, 37, rfl⟩
abbrev main_v19 : Ref sig .tc := ⟨.hbm, 38, rfl⟩
abbrev main_c_10 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_11 : Ref sig .tc := ⟨.hbm, 48, rfl⟩
abbrev main_v28 : Ref sig .tc := ⟨.hbm, 49, rfl⟩
abbrev main_v29 : Ref sig .tc := ⟨.hbm, 50, rfl⟩
abbrev main_c_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_13 : Ref sig .tc := ⟨.hbm, 55, rfl⟩
abbrev main_c_14 : Ref sig .tc := ⟨.hbm, 56, rfl⟩
abbrev main_v33 : Ref sig .tc := ⟨.hbm, 57, rfl⟩
abbrev main_c_15 : Ref sig .tc := ⟨.hbm, 58, rfl⟩
abbrev main_c_16 : Ref sig .tc := ⟨.hbm, 59, rfl⟩
abbrev main_v34 : Ref sig .tc := ⟨.hbm, 60, rfl⟩
abbrev main_c_17 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_18 : Ref sig .tc := ⟨.hbm, 76, rfl⟩
abbrev main_cst_19 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_v48 : Ref sig .tc := ⟨.hbm, 83, rfl⟩
abbrev main_cst_20 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_21 : Ref sig .tc := ⟨.hbm, 89, rfl⟩
abbrev main_v53 : Ref sig .tc := ⟨.hbm, 90, rfl⟩
abbrev main_v54 : Ref sig .tc := ⟨.hbm, 91, rfl⟩
abbrev main_cst_22 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_23 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_c_24 : Ref sig .tc := ⟨.hbm, 100, rfl⟩
abbrev main_v61 : Ref sig .tc := ⟨.hbm, 101, rfl⟩
abbrev main_v62 : Ref sig .tc := ⟨.hbm, 102, rfl⟩
abbrev main_c_25 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_c_26 : Ref sig .tc := ⟨.hbm, 107, rfl⟩
abbrev main_c_27 : Ref sig .tc := ⟨.hbm, 108, rfl⟩
abbrev main_v66 : Ref sig .tc := ⟨.hbm, 109, rfl⟩
abbrev main_c_28 : Ref sig .tc := ⟨.hbm, 110, rfl⟩
abbrev main_c_29 : Ref sig .tc := ⟨.hbm, 111, rfl⟩
abbrev main_v67 : Ref sig .tc := ⟨.hbm, 112, rfl⟩
abbrev main_c_30 : Ref sig .tc := ⟨.hbm, 113, rfl⟩
abbrev main_v68 : Ref sig .tc := ⟨.hbm, 114, rfl⟩
abbrev main_c_31 : Ref sig .tc := ⟨.hbm, 115, rfl⟩
abbrev main_c_32 : Ref sig .tc := ⟨.hbm, 116, rfl⟩
abbrev main_v69 : Ref sig .tc := ⟨.hbm, 117, rfl⟩
abbrev main_c_33 : Ref sig .tc := ⟨.hbm, 118, rfl⟩
abbrev main_c_34 : Ref sig .tc := ⟨.hbm, 119, rfl⟩
abbrev main_v70 : Ref sig .tc := ⟨.hbm, 120, rfl⟩
abbrev main_c_35 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_c_36 : Ref sig .tc := ⟨.hbm, 130, rfl⟩
abbrev main_v79 : Ref sig .tc := ⟨.hbm, 131, rfl⟩
abbrev main_v80 : Ref sig .tc := ⟨.hbm, 132, rfl⟩
abbrev main_c_37 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_c_38 : Ref sig .tc := ⟨.hbm, 137, rfl⟩
abbrev main_c_39 : Ref sig .tc := ⟨.hbm, 138, rfl⟩
abbrev main_v84 : Ref sig .tc := ⟨.hbm, 139, rfl⟩
abbrev main_c_40 : Ref sig .tc := ⟨.hbm, 140, rfl⟩
abbrev main_c_41 : Ref sig .tc := ⟨.hbm, 141, rfl⟩
abbrev main_v85 : Ref sig .tc := ⟨.hbm, 142, rfl⟩
abbrev main_c_42 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩

abbrev nD : Nat := 1
abbrev τ : Topo := Topo.v7x

variable {F : FTy → Type} [FloatOps F]
-- ==== OutProj.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S2048x256 : Shape := ⟨2, ![2048, 256]⟩
abbrev S1x2048 : Shape := ⟨2, ![1, 2048]⟩
abbrev S16896x2048 : Shape := ⟨2, ![16896, 2048]⟩
abbrev S8448x128 : Shape := ⟨2, ![8448, 128]⟩
abbrev S256x1024 : Shape := ⟨2, ![256, 1024]⟩
abbrev S256x2048 : Shape := ⟨2, ![256, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 26
  | .vmem => 17
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S2048x128, .f32⟩
  | .hbm, ⟨13, _⟩ => ⟨S2048x128, .f32⟩
  | .hbm, ⟨14, _⟩ => ⟨S2048x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S2048x256, .bf16⟩
  | .hbm, ⟨20, _⟩ => ⟨S2048x2048, .bf16⟩
  | .hbm, ⟨21, _⟩ => ⟨S1x2048, .f32⟩
  | .hbm, ⟨22, _⟩ => ⟨S1x2048, .f32⟩
  | .hbm, ⟨23, _⟩ => ⟨S8448x2048, .f32⟩
  | .hbm, ⟨24, _⟩ => ⟨S16896x2048, .bf16⟩
  | .hbm, ⟨25, _⟩ => ⟨S8448x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x128, .f32⟩
  | .local _ .vmem, ⟨16, _⟩ => ⟨S256x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutProjRefIdeal.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S8448 : Shape := ⟨1, ![8448]⟩
abbrev S8448x1 : Shape := ⟨2, ![8448, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S8448x2048, .f32⟩
  | .hbm, ⟨9, _⟩ => ⟨S8448x2048, .f32⟩
  | .hbm, ⟨10, _⟩ => ⟨S_, .f32⟩
  | .hbm, ⟨11, _⟩ => ⟨S8448x2048, .f32⟩
  | .hbm, ⟨12, _⟩ => ⟨S8448x2048, .f32⟩
  | .hbm, ⟨13, _⟩ => ⟨S8448x2048, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x2048, .f32⟩
  | .hbm, ⟨36, _⟩ => ⟨S8448x2048, .f32⟩
  | .hbm, ⟨37, _⟩ => ⟨S1x2048, .f32⟩
  | .hbm, ⟨38, _⟩ => ⟨S8448x2048, .f32⟩
  | .hbm, ⟨39, _⟩ => ⟨S8448x2048, .f32⟩
  | .hbm, ⟨40, _⟩ => ⟨S1x2048, .f32⟩
  | .hbm, ⟨41, _⟩ => ⟨S8448x2048, .f32⟩
  | .hbm, ⟨42, _⟩ => ⟨S8448x2048, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Router.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S2048x256 : Shape := ⟨2, ![2048, 256]⟩
abbrev S1x2048 : Shape := ⟨2, ![1, 2048]⟩
abbrev S16896x2048 : Shape := ⟨2, ![16896, 2048]⟩
abbrev S8448x128 : Shape := ⟨2, ![8448, 128]⟩
abbrev S256x1024 : Shape := ⟨2, ![256, 1024]⟩
abbrev S256x2048 : Shape := ⟨2, ![256, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 26
  | .vmem => 17
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S2048x128, .f32⟩
  | .hbm, ⟨13, _⟩ => ⟨S2048x128, .f32⟩
  | .hbm, ⟨14, _⟩ => ⟨S2048x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S2048x256, .bf16⟩
  | .hbm, ⟨20, _⟩ => ⟨S2048x2048, .bf16⟩
  | .hbm, ⟨21, _⟩ => ⟨S1x2048, .f32⟩
  | .hbm, ⟨22, _⟩ => ⟨S1x2048, .f32⟩
  | .hbm, ⟨23, _⟩ => ⟨S8448x2048, .f32⟩
  | .hbm, ⟨24, _⟩ => ⟨S16896x2048, .bf16⟩
  | .hbm, ⟨25, _⟩ => ⟨S8448x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x128, .f32⟩
  | .local _ .vmem, ⟨16, _⟩ => ⟨S256x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RouterRefIdeal.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S8448x32 : Shape := ⟨2, ![8448, 32]⟩
abbrev S1x32 : Shape := ⟨2, ![1, 32]⟩
abbrev S8448x128 : Shape := ⟨2, ![8448, 128]⟩

abbrev nBuf : Space → Nat
  | .hbm => 50
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S8448x2048, .f32⟩
  | .hbm, ⟨9, _⟩ => ⟨S8448x2048, .f32⟩
  | .hbm, ⟨10, _⟩ => ⟨S_, .f32⟩
  | .hbm, ⟨11, _⟩ => ⟨S8448x2048, .f32⟩
  | .hbm, ⟨12, _⟩ => ⟨S8448x2048, .f32⟩
  | .hbm, ⟨13, _⟩ => ⟨S8448x2048, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x2048, .f32⟩
  | .hbm, ⟨36, _⟩ => ⟨S8448x2048, .f32⟩
  | .hbm, ⟨37, _⟩ => ⟨S1x2048, .f32⟩
  | .hbm, ⟨38, _⟩ => ⟨S8448x2048, .f32⟩
  | .hbm, ⟨39, _⟩ => ⟨S8448x2048, .f32⟩
  | .hbm, ⟨40, _⟩ => ⟨S1x2048, .f32⟩
  | .hbm, ⟨41, _⟩ => ⟨S8448x2048, .f32⟩
  | .hbm, ⟨42, _⟩ => ⟨S8448x2048, .f32⟩
  | .hbm, ⟨43, _⟩ => ⟨S8448x32, .f32⟩
  | .hbm, ⟨44, _⟩ => ⟨S1x32, .f32⟩
  | .hbm, ⟨45, _⟩ => ⟨S8448x32, .f32⟩
  | .hbm, ⟨46, _⟩ => ⟨S8448x32, .f32⟩
  | .hbm, ⟨47, _⟩ => ⟨S_, .i32⟩
  | .hbm, ⟨48, _⟩ => ⟨S_, .f32⟩
  | .hbm, ⟨49, _⟩ => ⟨S8448x128, .f32⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c : Ref sig .tc := ⟨.hbm, 47, rfl⟩
abbrev main_call0_v0 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== RowsCopy.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S2048x128 : Shape := ⟨2, ![2048, 128]⟩
abbrev S128 : Shape := ⟨1, ![128]⟩
abbrev S1x128 : Shape := ⟨2, ![1, 128]⟩
abbrev S2048x256 : Shape := ⟨2, ![2048, 256]⟩
abbrev S1x2048 : Shape := ⟨2, ![1, 2048]⟩
abbrev S16896x2048 : Shape := ⟨2, ![16896, 2048]⟩
abbrev S8448x128 : Shape := ⟨2, ![8448, 128]⟩
abbrev S256x1024 : Shape := ⟨2, ![256, 1024]⟩
abbrev S256x2048 : Shape := ⟨2, ![256, 2048]⟩
abbrev S256x128 : Shape := ⟨2, ![256, 128]⟩
abbrev S1024x2048 : Shape := ⟨2, ![1024, 2048]⟩
abbrev S256 : Shape := ⟨1, ![256]⟩
abbrev S256x1 : Shape := ⟨2, ![256, 1]⟩
abbrev S256x256 : Shape := ⟨2, ![256, 256]⟩

abbrev nBuf : Space → Nat
  | .hbm => 26
  | .vmem => 17
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x128, .bf16⟩
  | .hbm, ⟨12, _⟩ => ⟨S2048x128, .f32⟩
  | .hbm, ⟨13, _⟩ => ⟨S2048x128, .f32⟩
  | .hbm, ⟨14, _⟩ => ⟨S2048x128, .bf16⟩
  | .hbm, ⟨15, _⟩ => ⟨S_, .i32⟩
  | .hbm, ⟨16, _⟩ => ⟨S_, .f32⟩
  | .hbm, ⟨17, _⟩ => ⟨S128, .f32⟩
  | .hbm, ⟨18, _⟩ => ⟨S1x128, .f32⟩
  | .hbm, ⟨19, _⟩ => ⟨S2048x256, .bf16⟩
  | .hbm, ⟨20, _⟩ => ⟨S2048x2048, .bf16⟩
  | .hbm, ⟨21, _⟩ => ⟨S1x2048, .f32⟩
  | .hbm, ⟨22, _⟩ => ⟨S1x2048, .f32⟩
  | .hbm, ⟨23, _⟩ => ⟨S8448x2048, .f32⟩
  | .hbm, ⟨24, _⟩ => ⟨S16896x2048, .bf16⟩
  | .hbm, ⟨25, _⟩ => ⟨S8448x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S2048x256, .bf16⟩
  | .local _ .vmem, ⟨10, _⟩ => ⟨S1x128, .f32⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x128, .f32⟩
  | .local _ .vmem, ⟨16, _⟩ => ⟨S256x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_call1_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev main_v11_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RowsCopyRefIdeal.lean ====
abbrev S8448x1024 : Shape := ⟨2, ![8448, 1024]⟩
abbrev S8448x2048 : Shape := ⟨2, ![8448, 2048]⟩
abbrev S2048x2048 : Shape := ⟨2, ![2048, 2048]⟩
abbrev S2048 : Shape := ⟨1, ![2048]⟩
abbrev S2048x32 : Shape := ⟨2, ![2048, 32]⟩
abbrev S32 : Shape := ⟨1, ![32]⟩
abbrev S_ : Shape := ⟨0, ![]⟩
abbrev S8448 : Shape := ⟨1, ![8448]⟩
abbrev S8448x1 : Shape := ⟨2, ![8448, 1]⟩
abbrev S1x2048 : Shape := ⟨2, ![1, 2048]⟩
abbrev S16896x2048 : Shape := ⟨2, ![16896, 2048]⟩

abbrev nBuf : Space → Nat
  | .hbm => 47
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x2048, .f32⟩
  | .hbm, ⟨3, _⟩ => ⟨S2048x2048, .f32⟩
  | .hbm, ⟨4, _⟩ => ⟨S2048, .f32⟩
  | .hbm, ⟨5, _⟩ => ⟨S2048, .f32⟩
  | .hbm, ⟨6, _⟩ => ⟨S2048x32, .f32⟩
  | .hbm, ⟨7, _⟩ => ⟨S32, .f32⟩
  | .hbm, ⟨8, _⟩ => ⟨S8448x2048, .f32⟩
  | .hbm, ⟨9, _⟩ => ⟨S8448x2048, .f32⟩
  | .hbm, ⟨10, _⟩ => ⟨S_, .f32⟩
  | .hbm, ⟨11, _⟩ => ⟨S8448x2048, .f32⟩
  | .hbm, ⟨12, _⟩ => ⟨S8448x2048, .f32⟩
  | .hbm, ⟨13, _⟩ => ⟨S8448x2048, .f32⟩
  | .hbm, ⟨14, _⟩ => ⟨S_, .f32⟩
  | .hbm, ⟨15, _⟩ => ⟨S8448, .f32⟩
  | .hbm, ⟨16, _⟩ => ⟨S8448x1, .f32⟩
  | .hbm, ⟨17, _⟩ => ⟨S_, .f32⟩
  | .hbm, ⟨18, _⟩ => ⟨S8448x1, .f32⟩
  | .hbm, ⟨19, _⟩ => ⟨S8448x1, .f32⟩
  | .hbm, ⟨20, _⟩ => ⟨S8448x2048, .f32⟩
  | .hbm, ⟨21, _⟩ => ⟨S8448x2048, .f32⟩
  | .hbm, ⟨22, _⟩ => ⟨S8448x2048, .f32⟩
  | .hbm, ⟨23, _⟩ => ⟨S_, .f32⟩
  | .hbm, ⟨24, _⟩ => ⟨S8448, .f32⟩
  | .hbm, ⟨25, _⟩ => ⟨S8448x1, .f32⟩
  | .hbm, ⟨26, _⟩ => ⟨S_, .f32⟩
  | .hbm, ⟨27, _⟩ => ⟨S8448x1, .f32⟩
  | .hbm, ⟨28, _⟩ => ⟨S8448x1, .f32⟩
  | .hbm, ⟨29, _⟩ => ⟨S8448x2048, .f32⟩
  | .hbm, ⟨30, _⟩ => ⟨S8448x2048, .f32⟩
  | .hbm, ⟨31, _⟩ => ⟨S_, .f32⟩
  | .hbm, ⟨32, _⟩ => ⟨S8448x1, .f32⟩
  | .hbm, ⟨33, _⟩ => ⟨S8448x1, .f32⟩
  | .hbm, ⟨34, _⟩ => ⟨S8448x1, .f32⟩
  | .hbm, ⟨35, _⟩ => ⟨S8448x2048, .f32⟩
  | .hbm, ⟨36, _⟩ => ⟨S8448x2048, .f32⟩
  | .hbm, ⟨37, _⟩ => ⟨S1x2048, .f32⟩
  | .hbm, ⟨38, _⟩ => ⟨S8448x2048, .f32⟩
  | .hbm, ⟨39, _⟩ => ⟨S8448x2048, .f32⟩
  | .hbm, ⟨40, _⟩ => ⟨S1x2048, .f32⟩
  | .hbm, ⟨41, _⟩ => ⟨S8448x2048, .f32⟩
  | .hbm, ⟨42, _⟩ => ⟨S8448x2048, .f32⟩
  | .hbm, ⟨43, _⟩ => ⟨S8448x2048, .bf16⟩
  | .hbm, ⟨44, _⟩ => ⟨S_, .i32⟩
  | .hbm, ⟨45, _⟩ => ⟨S_, .bf16⟩
  | .hbm, ⟨46, _⟩ => ⟨S16896x2048, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_call0_v0 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Proof.Experts.Spec.lean ====
module

public import Idealize.ShloMosaic.Lib.Pointwise
public import Idealize.ShloMosaic.PureOps.Ideal

@[expose] public section

noncomputable section

namespace Cert.Moe

open Idealize.ShloMosaic
open scoped BigOperators

abbrev SX : Shape := ⟨2, ![72960, 2048]⟩
abbrev SWU : Shape := ⟨4, ![4, 32, 2048, 4096]⟩
abbrev SBU : Shape := ⟨4, ![4, 32, 1, 4096]⟩
abbrev SWD : Shape := ⟨4, ![4, 32, 2048, 2048]⟩
abbrev SBD : Shape := ⟨4, ![4, 32, 1, 2048]⟩

/-- Seven, its negative, one, and the constant of the activation. -/
def c7 : EReal := FloatOps.ofBits (F := Ideal) .f32 0x40E00000#32
def cm7 : EReal := FloatOps.ofBits (F := Ideal) .f32 0xC0E00000#32
def c1 : EReal := FloatOps.ofBits (F := Ideal) .f32 0x3F800000#32
def ca : EReal := FloatOps.ofBits (F := Ideal) .f32 0x3FD9DB23#32

/-- The activation of a gate and its other factor. -/
def act (g u : EReal) : EReal :=
  (min c7 (max cm7 u) + c1) * (min g c7 * Ideal.div c1 (c1 + Ideal.exp (-(ca * min g c7))))

/-- A stack of arrays with the one at layer `l` in the place of each. -/
def lay {n1 n2 n3 : ℕ} (l : Fin 4) (f : (⟨4, ![4, n1, n2, n3]⟩ : Shape).Idx → EReal) : (⟨4, ![4, n1, n2, n3]⟩ : Shape).Idx → EReal :=
  fun i => f (ix4 l (i 1) (i 2) (i 3))
theorem lay_apply {n1 n2 n3 : ℕ} (l : Fin 4) (f : (⟨4, ![4, n1, n2, n3]⟩ : Shape).Idx → EReal) (x : Fin 4) (e : Fin n1) (d : Fin n2) (j : Fin n3) :
    lay l f (ix4 x e d j) = f (ix4 l e d j) := rfl

variable (X : SX.Idx → EReal) (WU : SWU.Idx → EReal) (BU : SBU.Idx → EReal) (WD : SWD.Idx → EReal) (BD : SBD.Idx → EReal) (e : Fin 32)

/-- The first product of a row, with its bias. -/
def up (R : Fin 72960) (j : Fin 4096) : EReal := (∑ d : Fin 2048, X (ix2 R d) * WU (ix4 0 e d j)) + BU (ix4 0 e 0 j)

/-- A row's hidden activations. -/
def hid (R : Fin 72960) (j : Fin 2048) : EReal :=
  act (up X WU BU e R ⟨j.val, by have := j.isLt; omega⟩) (up X WU BU e R ⟨2048 + j.val, by have := j.isLt; omega⟩)

/-- One of the four parts of the second product. -/
def part (R : Fin 72960) (q : Fin 2048) (c : Fin 4) : EReal :=
  ∑ j : Fin 512, hid X WU BU e R ⟨512 * c.val + j.val, by have := j.isLt; have := c.isLt; omega⟩
    * WD (ix4 0 e ⟨512 * c.val + j.val, by have := j.isLt; have := c.isLt; omega⟩ q)

/-- The expert's result. -/
def res (R : Fin 72960) (q : Fin 2048) : EReal := (∑ j : Fin 2048, hid X WU BU e R j * WD (ix4 0 e j q)) + BD (ix4 0 e 0 q)

/-- A sum over 2048 columns is the sum over four runs of 512. -/
theorem sum_parts (f : Fin 2048 → EReal) :
    (∑ j : Fin 2048, f j) = ∑ c : Fin 4, ∑ j : Fin 512, f ⟨512 * c.val + j.val, by have := j.isLt; have := c.isLt; omega⟩ := by
  rw [← Fintype.sum_prod_type', ← (finProdFinEquiv (m := 4) (n := 512)).sum_comp]
  refine Finset.sum_congr rfl fun p _ => congrArg f (Fin.ext ?_)
  show p.2.val + 512 * p.1.val = 512 * p.1.val + p.2.val
  omega

theorem regroup (b a0 a1 a2 a3 : EReal) : b + a0 + a1 + a2 + a3 = a0 + a1 + a2 + a3 + b := by
  rw [add_comm b a0, add_right_comm a0 b a1, add_right_comm (a0 + a1) b a2, add_right_comm (a0 + a1 + a2) b a3]

/-- The parts added one by one to the bias give the result. -/
theorem res_parts (R : Fin 72960) (q : Fin 2048) :
    BD (ix4 0 e 0 q) + part X WU BU WD e R q 0 + part X WU BU WD e R q 1 + part X WU BU WD e R q 2 + part X WU BU WD e R q 3
      = res X WU BU WD BD e R q := by
  unfold res
  rw [sum_parts, Fin.sum_univ_four]
  exact regroup _ _ _ _ _

end Cert.Moe
end
-- ==== Proof.ExpertsIdeal.Blocks.lean ====
module

public import proofs.«01_k».proof.Proof.Gen.ExpertsIdeal.Launch
public import proofs.«01_k».proof.Proof.Gen.ExpertsIdeal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal.Gen

variable {F : FTy → Type} [FloatOps F]

local notation "𝕄" => MT nD τ sig Unit (Elt F) ℕ (UR sig nD τ) ℕ

/-! ## The body, one group of statements at a time

The kernel works on five blocks of 256 rows. Per block it has four guarded stretches: start the sum from the bias,
add one chunk's contribution, write the sum out, write zeros. Before them a guarded stretch copies the weights. -/

/-- Rows `o … o+255` lie in the tile. -/
abbrev Inb (o : ℕ) : Prop := ∀ a, (![o, 0] : Fin 2 → Nat) a + S256x2048.size a ≤ S1280x2048.size a
/-- The rectangle of those rows. -/
abbrev rows (o : ℕ) (inb : Inb o) : Rect S1280x2048 := Rect.unit (s := S1280x2048) ![o, 0] S256x2048.size inb

/-- The weights' copies, narrowed. -/
def copyW (p : BitVec 1) (arg6 : Memref sig .tc .vmem S1x1x2048x512 .f32) (arg7 : Memref sig .tc .vmem S1x1x2048x512 .f32) (arg10 : Memref sig .tc .vmem S1x1x512x2048 .f32)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) :
    Prog (TpuEff nD τ sig (Elt F) Λ₀ .tc) PUnit := do
  if p = 1#1 then do
    let v96 : Vec F S1x1x2048x512 .f32 ← Prog.lift (.load arg6 (Rect.unit (s := S1x1x2048x512) ![0, 0, 0, 0] S1x1x2048x512.size inb_S1x1x2048x512_S1x1x2048x512_0_0_0_0).toLoadRect (View.loadsAt_vmem h_S1x1x2048x512))
    let v99 : Vec F S2048x512 .bf16 ← Prog.lift (.load arg13 (Rect.unit (s := S2048x512) ![0, 0] S2048x512.size inb_S2048x512_S2048x512_0_0).toLoadRect (View.loadsAt_vmem h_S2048x512))
    Prog.lift (.store arg13 (Rect.unit (s := S2048x512) ![0, 0] S2048x512.size inb_S2048x512_S2048x512_0_0) (k0_pay13 v96) Finset.univ (View.stores_vmem h_S2048x512 (harg13.storeExact_slice rfl _ packedbf16_S2048x512_S2048x512_0_0) (fun _ => rfl)) (.inl rfl))
    let v102 : Vec F S1x1x2048x512 .f32 ← Prog.lift (.load arg7 (Rect.unit (s := S1x1x2048x512) ![0, 0, 0, 0] S1x1x2048x512.size inb_S1x1x2048x512_S1x1x2048x512_0_0_0_0).toLoadRect (View.loadsAt_vmem h_S1x1x2048x512))
    let v105 : Vec F S2048x512 .bf16 ← Prog.lift (.load arg14 (Rect.unit (s := S2048x512) ![0, 0] S2048x512.size inb_S2048x512_S2048x512_0_0).toLoadRect (View.loadsAt_vmem h_S2048x512))
    Prog.lift (.store arg14 (Rect.unit (s := S2048x512) ![0, 0] S2048x512.size inb_S2048x512_S2048x512_0_0) (k0_pay14 v102) Finset.univ (View.stores_vmem h_S2048x512 (harg14.storeExact_slice rfl _ packedbf16_S2048x512_S2048x512_0_0) (fun _ => rfl)) (.inl rfl))
    let v108 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
    let v111 : Vec F S512x2048 .bf16 ← Prog.lift (.load arg15 (Rect.unit (s := S512x2048) ![0, 0] S512x2048.size inb_S512x2048_S512x2048_0_0).toLoadRect (View.loadsAt_vmem h_S512x2048))
    Prog.lift (.store arg15 (Rect.unit (s := S512x2048) ![0, 0] S512x2048.size inb_S512x2048_S512x2048_0_0) (k0_pay15 v108) Finset.univ (View.stores_vmem h_S512x2048 (harg15.storeExact_slice rfl _ packedbf16_S512x2048_S512x2048_0_0) (fun _ => rfl)) (.inl rfl))
    pure ⟨⟩
  else do
    pure ⟨⟩

/-- The sum started from the bias. -/
def blkInit (p : BitVec 1) (o : ℕ) (inb : Inb o) (arg11 : Memref sig .tc .vmem S1x1x1x2048 .f32) (arg16 : Memref sig .tc .vmem S1280x2048 .f32) :
    Prog (TpuEff nD τ sig (Elt F) Λ₀ .tc) PUnit := do
  if p = 1#1 then do
    let v96 : Vec F S1x1x1x2048 .f32 ← Prog.lift (.load arg11 (Rect.unit (s := S1x1x1x2048) ![0, 0, 0, 0] S1x1x1x2048.size inb_S1x1x1x2048_S1x1x1x2048_0_0_0_0).toLoadRect (View.loadsAt_vmem h_S1x1x1x2048))
    let v100 : Vec F S256x2048 .f32 ← Prog.lift (.load arg16 (rows o inb).toLoadRect (View.loadsAt_vmem h_S256x2048))
    Prog.lift (.store arg16 (rows o inb) (k0_pay4 v96) Finset.univ (View.stores_vmem_bits_univ h_S256x2048 rfl) (.inl rfl))
    pure ⟨⟩
  else do
    pure ⟨⟩

/-- One chunk's contribution added. -/
def blkAdd (p : BitVec 1) (o : ℕ) (inb : Inb o) (arg5 : Memref sig .tc .vmem S1280x2048 .bf16) (arg8 : Memref sig .tc .vmem S1x1x1x512 .f32) (arg9 : Memref sig .tc .vmem S1x1x1x512 .f32)
    (arg13 : Memref sig .tc .vmem S2048x512 .bf16) (arg14 : Memref sig .tc .vmem S2048x512 .bf16) (arg15 : Memref sig .tc .vmem S512x2048 .bf16) (arg16 : Memref sig .tc .vmem S1280x2048 .f32) :
    Prog (TpuEff nD τ sig (Elt F) Λ₀ .tc) PUnit := do
  if p = 1#1 then do
    let v96 : Vec F S256x2048 .bf16 ← Prog.lift (.load arg5 (rows o inb).toLoadRect (View.loadsAt_vmem h_S256x2048))
    let v97 : Vec F S2048x512 .bf16 ← Prog.lift (.load arg13 (Rect.unit (s := S2048x512) ![0, 0] S2048x512.size inb_S2048x512_S2048x512_0_0).toLoadRect (View.loadsAt_vmem h_S2048x512))
    let v99 : Vec F S1x1x1x512 .f32 ← Prog.lift (.load arg8 (Rect.unit (s := S1x1x1x512) ![0, 0, 0, 0] S1x1x1x512.size inb_S1x1x1x512_S1x1x1x512_0_0_0_0).toLoadRect (View.loadsAt_vmem h_S1x1x1x512))
    let v105 : Vec F S2048x512 .bf16 ← Prog.lift (.load arg14 (Rect.unit (s := S2048x512) ![0, 0] S2048x512.size inb_S2048x512_S2048x512_0_0).toLoadRect (View.loadsAt_vmem h_S2048x512))
    let v107 : Vec F S1x1x1x512 .f32 ← Prog.lift (.load arg9 (Rect.unit (s := S1x1x1x512) ![0, 0, 0, 0] S1x1x1x512.size inb_S1x1x1x512_S1x1x1x512_0_0_0_0).toLoadRect (View.loadsAt_vmem h_S1x1x1x512))
    let v128 : Vec F S256x2048 .f32 ← Prog.lift (.load arg16 (rows o inb).toLoadRect (View.loadsAt_vmem h_S256x2048))
    let v130 : Vec F S512x2048 .bf16 ← Prog.lift (.load arg15 (Rect.unit (s := S512x2048) ![0, 0] S512x2048.size inb_S512x2048_S512x2048_0_0).toLoadRect (View.loadsAt_vmem h_S512x2048))
    let v133 : Vec F S256x2048 .f32 ← Prog.lift (.load arg16 (rows o inb).toLoadRect (View.loadsAt_vmem h_S256x2048))
    Prog.lift (.store arg16 (rows o inb) (k0_pay1 v128 (k0_pay8 v96 v97 v99 v105 v107) v130) Finset.univ (View.stores_vmem_bits_univ h_S256x2048 rfl) (.inl rfl))
    pure ⟨⟩
  else do
    pure ⟨⟩

/-- The sum written out. -/
def blkOut (p : BitVec 1) (o : ℕ) (inb : Inb o) (pk : (rows o inb).PackedRows (EltTy.packing .bf16)) (arg12 : Memref sig .tc .vmem S1280x2048 .bf16) (harg12 : arg12.IsWhole) (arg16 : Memref sig .tc .vmem S1280x2048 .f32) :
    Prog (TpuEff nD τ sig (Elt F) Λ₀ .tc) PUnit := do
  if _h : p = 1#1 then do
    let v96 : Vec F S256x2048 .f32 ← Prog.lift (.load arg16 (rows o inb).toLoadRect (View.loadsAt_vmem h_S256x2048))
    let v98 : Vec F S256x2048 .bf16 ← Prog.lift (.load arg12 (rows o inb).toLoadRect (View.loadsAt_vmem h_S256x2048))
    Prog.lift (.store arg12 (rows o inb) (k0_pay2 v96) Finset.univ (View.stores_vmem h_S256x2048 (harg12.storeExact_slice rfl _ pk) (fun _ => rfl)) (.inl rfl))
    pure ⟨⟩
  else do
    pure ⟨⟩

/-- Zeros written out. -/
def blkZero (p : BitVec 1) (o : ℕ) (inb : Inb o) (pk : (rows o inb).PackedRows (EltTy.packing .bf16)) (arg12 : Memref sig .tc .vmem S1280x2048 .bf16) (harg12 : arg12.IsWhole) :
    Prog (TpuEff nD τ sig (Elt F) Λ₀ .tc) PUnit := do
  if _h : p = 1#1 then do
    let v97 : Vec F S256x2048 .bf16 ← Prog.lift (.load arg12 (rows o inb).toLoadRect (View.loadsAt_vmem h_S256x2048))
    Prog.lift (.store arg12 (rows o inb) (k0_pay3 (F := F)) Finset.univ (View.stores_vmem h_S256x2048 (harg12.storeExact_slice rfl _ pk) (fun _ => rfl)) (.inl rfl))
    pure ⟨⟩
  else do
    pure ⟨⟩

/-- The guards, from the group's count of used blocks `v1` and the block's number `k`. -/
def pIn (v1 k : BitVec 32) : BitVec 1 := Scalar.cmpi .ne (Scalar.extui (Scalar.cmpi .sgt v1 k)) 0#32
def pInit (i : grid0.Coords) (v1 k : BitVec 32) : BitVec 1 := Scalar.cmpi .ne (Scalar.extui (Scalar.andi (Scalar.cmpi .sgt v1 k) (Scalar.cmpi .eq (BitVec.ofNat 32 (i 1).val) 0#32))) 0#32
def pOut (i : grid0.Coords) (v1 k : BitVec 32) : BitVec 1 := Scalar.cmpi .ne (Scalar.extui (Scalar.andi (Scalar.cmpi .sgt v1 k) (Scalar.cmpi .eq (BitVec.ofNat 32 (i 1).val) 3#32))) 0#32
def pZero (i : grid0.Coords) (v1 k : BitVec 32) : BitVec 1 := Scalar.cmpi .ne (Scalar.extui (Scalar.andi (Scalar.andi (Scalar.cmpi .sle v1 k) (Scalar.cmpi .sgt v1 0#32)) (Scalar.cmpi .eq (BitVec.ofNat 32 (i 1).val) 3#32))) 0#32

/-- `copyW`, then the rest. -/
def copyWK {α : Type} (p : BitVec 1) (arg6 : Memref sig .tc .vmem S1x1x2048x512 .f32) (arg7 : Memref sig .tc .vmem S1x1x2048x512 .f32) (arg10 : Memref sig .tc .vmem S1x1x512x2048 .f32)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (rest : Prog (TpuEff nD τ sig (Elt F) Λ₀ .tc) α) :
    Prog (TpuEff nD τ sig (Elt F) Λ₀ .tc) α := do
  if p = 1#1 then do
    let v96 : Vec F S1x1x2048x512 .f32 ← Prog.lift (.load arg6 (Rect.unit (s := S1x1x2048x512) ![0, 0, 0, 0] S1x1x2048x512.size inb_S1x1x2048x512_S1x1x2048x512_0_0_0_0).toLoadRect (View.loadsAt_vmem h_S1x1x2048x512))
    let v99 : Vec F S2048x512 .bf16 ← Prog.lift (.load arg13 (Rect.unit (s := S2048x512) ![0, 0] S2048x512.size inb_S2048x512_S2048x512_0_0).toLoadRect (View.loadsAt_vmem h_S2048x512))
    Prog.lift (.store arg13 (Rect.unit (s := S2048x512) ![0, 0] S2048x512.size inb_S2048x512_S2048x512_0_0) (k0_pay13 v96) Finset.univ (View.stores_vmem h_S2048x512 (harg13.storeExact_slice rfl _ packedbf16_S2048x512_S2048x512_0_0) (fun _ => rfl)) (.inl rfl))
    let v102 : Vec F S1x1x2048x512 .f32 ← Prog.lift (.load arg7 (Rect.unit (s := S1x1x2048x512) ![0, 0, 0, 0] S1x1x2048x512.size inb_S1x1x2048x512_S1x1x2048x512_0_0_0_0).toLoadRect (View.loadsAt_vmem h_S1x1x2048x512))
    let v105 : Vec F S2048x512 .bf16 ← Prog.lift (.load arg14 (Rect.unit (s := S2048x512) ![0, 0] S2048x512.size inb_S2048x512_S2048x512_0_0).toLoadRect (View.loadsAt_vmem h_S2048x512))
    Prog.lift (.store arg14 (Rect.unit (s := S2048x512) ![0, 0] S2048x512.size inb_S2048x512_S2048x512_0_0) (k0_pay14 v102) Finset.univ (View.stores_vmem h_S2048x512 (harg14.storeExact_slice rfl _ packedbf16_S2048x512_S2048x512_0_0) (fun _ => rfl)) (.inl rfl))
    let v108 : Vec F S1x1x512x2048 .f32 ← Prog.lift (.load arg10 (Rect.unit (s := S1x1x512x2048) ![0, 0, 0, 0] S1x1x512x2048.size inb_S1x1x512x2048_S1x1x512x2048_0_0_0_0).toLoadRect (View.loadsAt_vmem h_S1x1x512x2048))
    let v111 : Vec F S512x2048 .bf16 ← Prog.lift (.load arg15 (Rect.unit (s := S512x2048) ![0, 0] S512x2048.size inb_S512x2048_S512x2048_0_0).toLoadRect (View.loadsAt_vmem h_S512x2048))
    Prog.lift (.store arg15 (Rect.unit (s := S512x2048) ![0, 0] S512x2048.size inb_S512x2048_S512x2048_0_0) (k0_pay15 v108) Finset.univ (View.stores_vmem h_S512x2048 (harg15.storeExact_slice rfl _ packedbf16_S512x2048_S512x2048_0_0) (fun _ => rfl)) (.inl rfl))
    rest
  else rest
theorem copyWK_eq {α : Type} (p : BitVec 1) (arg6 : Memref sig .tc .vmem S1x1x2048x512 .f32) (arg7 : Memref sig .tc .vmem S1x1x2048x512 .f32) (arg10 : Memref sig .tc .vmem S1x1x512x2048 .f32)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (rest : Prog (TpuEff nD τ sig (Elt F) Λ₀ .tc) α) :
    copyWK p arg6 arg7 arg10 arg13 harg13 arg14 harg14 arg15 harg15 rest = copyW p arg6 arg7 arg10 arg13 harg13 arg14 harg14 arg15 harg15 >>= fun _ => rest := by
  unfold copyWK copyW
  split <;> rfl
theorem copyWK_bind {α β : Type} (p : BitVec 1) (arg6 : Memref sig .tc .vmem S1x1x2048x512 .f32) (arg7 : Memref sig .tc .vmem S1x1x2048x512 .f32) (arg10 : Memref sig .tc .vmem S1x1x512x2048 .f32)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (rest : Prog (TpuEff nD τ sig (Elt F) Λ₀ .tc) α) (f : α → Prog (TpuEff nD τ sig (Elt F) Λ₀ .tc) β) :
    (copyWK p arg6 arg7 arg10 arg13 harg13 arg14 harg14 arg15 harg15 rest >>= f) = copyWK p arg6 arg7 arg10 arg13 harg13 arg14 harg14 arg15 harg15 (rest >>= f) := by
  rw [copyWK_eq, copyWK_eq, bind_assoc]

/-- `blkInit`, then the rest. -/
def blkInitK {α : Type} (p : BitVec 1) (o : ℕ) (inb : Inb o) (arg11 : Memref sig .tc .vmem S1x1x1x2048 .f32) (arg16 : Memref sig .tc .vmem S1280x2048 .f32) (rest : Prog (TpuEff nD τ sig (Elt F) Λ₀ .tc) α) :
    Prog (TpuEff nD τ sig (Elt F) Λ₀ .tc) α := do
  if p = 1#1 then do
    let v96 : Vec F S1x1x1x2048 .f32 ← Prog.lift (.load arg11 (Rect.unit (s := S1x1x1x2048) ![0, 0, 0, 0] S1x1x1x2048.size inb_S1x1x1x2048_S1x1x1x2048_0_0_0_0).toLoadRect (View.loadsAt_vmem h_S1x1x1x2048))
    let v100 : Vec F S256x2048 .f32 ← Prog.lift (.load arg16 (rows o inb).toLoadRect (View.loadsAt_vmem h_S256x2048))
    Prog.lift (.store arg16 (rows o inb) (k0_pay4 v96) Finset.univ (View.stores_vmem_bits_univ h_S256x2048 rfl) (.inl rfl))
    rest
  else rest
theorem blkInitK_eq {α : Type} (p : BitVec 1) (o : ℕ) (inb : Inb o) (arg11 : Memref sig .tc .vmem S1x1x1x2048 .f32) (arg16 : Memref sig .tc .vmem S1280x2048 .f32) (rest : Prog (TpuEff nD τ sig (Elt F) Λ₀ .tc) α) :
    blkInitK p o inb arg11 arg16 rest = blkInit p o inb arg11 arg16 >>= fun _ => rest := by
  unfold blkInitK blkInit
  split <;> rfl
theorem blkInitK_bind {α β : Type} (p : BitVec 1) (o : ℕ) (inb : Inb o) (arg11 : Memref sig .tc .vmem S1x1x1x2048 .f32) (arg16 : Memref sig .tc .vmem S1280x2048 .f32) (rest : Prog (TpuEff nD τ sig (Elt F) Λ₀ .tc) α) (f : α → Prog (TpuEff nD τ sig (Elt F) Λ₀ .tc) β) :
    (blkInitK p o inb arg11 arg16 rest >>= f) = blkInitK p o inb arg11 arg16 (rest >>= f) := by
  rw [blkInitK_eq, blkInitK_eq, bind_assoc]

/-- `blkAdd`, then the rest. -/
def blkAddK {α : Type} (p : BitVec 1) (o : ℕ) (inb : Inb o) (arg5 : Memref sig .tc .vmem S1280x2048 .bf16) (arg8 : Memref sig .tc .vmem S1x1x1x512 .f32) (arg9 : Memref sig .tc .vmem S1x1x1x512 .f32)
    (arg13 : Memref sig .tc .vmem S2048x512 .bf16) (arg14 : Memref sig .tc .vmem S2048x512 .bf16) (arg15 : Memref sig .tc .vmem S512x2048 .bf16) (arg16 : Memref sig .tc .vmem S1280x2048 .f32) (rest : Prog (TpuEff nD τ sig (Elt F) Λ₀ .tc) α) :
    Prog (TpuEff nD τ sig (Elt F) Λ₀ .tc) α := do
  if p = 1#1 then do
    let v96 : Vec F S256x2048 .bf16 ← Prog.lift (.load arg5 (rows o inb).toLoadRect (View.loadsAt_vmem h_S256x2048))
    let v97 : Vec F S2048x512 .bf16 ← Prog.lift (.load arg13 (Rect.unit (s := S2048x512) ![0, 0] S2048x512.size inb_S2048x512_S2048x512_0_0).toLoadRect (View.loadsAt_vmem h_S2048x512))
    let v99 : Vec F S1x1x1x512 .f32 ← Prog.lift (.load arg8 (Rect.unit (s := S1x1x1x512) ![0, 0, 0, 0] S1x1x1x512.size inb_S1x1x1x512_S1x1x1x512_0_0_0_0).toLoadRect (View.loadsAt_vmem h_S1x1x1x512))
    let v105 : Vec F S2048x512 .bf16 ← Prog.lift (.load arg14 (Rect.unit (s := S2048x512) ![0, 0] S2048x512.size inb_S2048x512_S2048x512_0_0).toLoadRect (View.loadsAt_vmem h_S2048x512))
    let v107 : Vec F S1x1x1x512 .f32 ← Prog.lift (.load arg9 (Rect.unit (s := S1x1x1x512) ![0, 0, 0, 0] S1x1x1x512.size inb_S1x1x1x512_S1x1x1x512_0_0_0_0).toLoadRect (View.loadsAt_vmem h_S1x1x1x512))
    let v128 : Vec F S256x2048 .f32 ← Prog.lift (.load arg16 (rows o inb).toLoadRect (View.loadsAt_vmem h_S256x2048))
    let v130 : Vec F S512x2048 .bf16 ← Prog.lift (.load arg15 (Rect.unit (s := S512x2048) ![0, 0] S512x2048.size inb_S512x2048_S512x2048_0_0).toLoadRect (View.loadsAt_vmem h_S512x2048))
    let v133 : Vec F S256x2048 .f32 ← Prog.lift (.load arg16 (rows o inb).toLoadRect (View.loadsAt_vmem h_S256x2048))
    Prog.lift (.store arg16 (rows o inb) (k0_pay1 v128 (k0_pay8 v96 v97 v99 v105 v107) v130) Finset.univ (View.stores_vmem_bits_univ h_S256x2048 rfl) (.inl rfl))
    rest
  else rest
theorem blkAddK_eq {α : Type} (p : BitVec 1) (o : ℕ) (inb : Inb o) (arg5 : Memref sig .tc .vmem S1280x2048 .bf16) (arg8 : Memref sig .tc .vmem S1x1x1x512 .f32) (arg9 : Memref sig .tc .vmem S1x1x1x512 .f32)
    (arg13 : Memref sig .tc .vmem S2048x512 .bf16) (arg14 : Memref sig .tc .vmem S2048x512 .bf16) (arg15 : Memref sig .tc .vmem S512x2048 .bf16) (arg16 : Memref sig .tc .vmem S1280x2048 .f32) (rest : Prog (TpuEff nD τ sig (Elt F) Λ₀ .tc) α) :
    blkAddK p o inb arg5 arg8 arg9 arg13 arg14 arg15 arg16 rest = blkAdd p o inb arg5 arg8 arg9 arg13 arg14 arg15 arg16 >>= fun _ => rest := by
  unfold blkAddK blkAdd
  split <;> rfl
theorem blkAddK_bind {α β : Type} (p : BitVec 1) (o : ℕ) (inb : Inb o) (arg5 : Memref sig .tc .vmem S1280x2048 .bf16) (arg8 : Memref sig .tc .vmem S1x1x1x512 .f32) (arg9 : Memref sig .tc .vmem S1x1x1x512 .f32)
    (arg13 : Memref sig .tc .vmem S2048x512 .bf16) (arg14 : Memref sig .tc .vmem S2048x512 .bf16) (arg15 : Memref sig .tc .vmem S512x2048 .bf16) (arg16 : Memref sig .tc .vmem S1280x2048 .f32) (rest : Prog (TpuEff nD τ sig (Elt F) Λ₀ .tc) α) (f : α → Prog (TpuEff nD τ sig (Elt F) Λ₀ .tc) β) :
    (blkAddK p o inb arg5 arg8 arg9 arg13 arg14 arg15 arg16 rest >>= f) = blkAddK p o inb arg5 arg8 arg9 arg13 arg14 arg15 arg16 (rest >>= f) := by
  rw [blkAddK_eq, blkAddK_eq, bind_assoc]

/-- `blkOut`, then the rest. -/
def blkOutK {α : Type} (p : BitVec 1) (o : ℕ) (inb : Inb o) (pk : (rows o inb).PackedRows (EltTy.packing .bf16)) (arg12 : Memref sig .tc .vmem S1280x2048 .bf16) (harg12 : arg12.IsWhole) (arg16 : Memref sig .tc .vmem S1280x2048 .f32) (rest : Prog (TpuEff nD τ sig (Elt F) Λ₀ .tc) α) :
    Prog (TpuEff nD τ sig (Elt F) Λ₀ .tc) α := do
  if _h : p = 1#1 then do
    let v96 : Vec F S256x2048 .f32 ← Prog.lift (.load arg16 (rows o inb).toLoadRect (View.loadsAt_vmem h_S256x2048))
    let v98 : Vec F S256x2048 .bf16 ← Prog.lift (.load arg12 (rows o inb).toLoadRect (View.loadsAt_vmem h_S256x2048))
    Prog.lift (.store arg12 (rows o inb) (k0_pay2 v96) Finset.univ (View.stores_vmem h_S256x2048 (harg12.storeExact_slice rfl _ pk) (fun _ => rfl)) (.inl rfl))
    rest
  else rest
theorem blkOutK_eq {α : Type} (p : BitVec 1) (o : ℕ) (inb : Inb o) (pk : (rows o inb).PackedRows (EltTy.packing .bf16)) (arg12 : Memref sig .tc .vmem S1280x2048 .bf16) (harg12 : arg12.IsWhole) (arg16 : Memref sig .tc .vmem S1280x2048 .f32) (rest : Prog (TpuEff nD τ sig (Elt F) Λ₀ .tc) α) :
    blkOutK p o inb pk arg12 harg12 arg16 rest = blkOut p o inb pk arg12 harg12 arg16 >>= fun _ => rest := by
  unfold blkOutK blkOut
  split <;> rfl
theorem blkOutK_bind {α β : Type} (p : BitVec 1) (o : ℕ) (inb : Inb o) (pk : (rows o inb).PackedRows (EltTy.packing .bf16)) (arg12 : Memref sig .tc .vmem S1280x2048 .bf16) (harg12 : arg12.IsWhole) (arg16 : Memref sig .tc .vmem S1280x2048 .f32) (rest : Prog (TpuEff nD τ sig (Elt F) Λ₀ .tc) α) (f : α → Prog (TpuEff nD τ sig (Elt F) Λ₀ .tc) β) :
    (blkOutK p o inb pk arg12 harg12 arg16 rest >>= f) = blkOutK p o inb pk arg12 harg12 arg16 (rest >>= f) := by
  rw [blkOutK_eq, blkOutK_eq, bind_assoc]

/-- `blkZero`, then the rest. -/
def blkZeroK {α : Type} (p : BitVec 1) (o : ℕ) (inb : Inb o) (pk : (rows o inb).PackedRows (EltTy.packing .bf16)) (arg12 : Memref sig .tc .vmem S1280x2048 .bf16) (harg12 : arg12.IsWhole) (rest : Prog (TpuEff nD τ sig (Elt F) Λ₀ .tc) α) :
    Prog (TpuEff nD τ sig (Elt F) Λ₀ .tc) α := do
  if _h : p = 1#1 then do
    let v97 : Vec F S256x2048 .bf16 ← Prog.lift (.load arg12 (rows o inb).toLoadRect (View.loadsAt_vmem h_S256x2048))
    Prog.lift (.store arg12 (rows o inb) (k0_pay3 (F := F)) Finset.univ (View.stores_vmem h_S256x2048 (harg12.storeExact_slice rfl _ pk) (fun _ => rfl)) (.inl rfl))
    rest
  else rest
theorem blkZeroK_eq {α : Type} (p : BitVec 1) (o : ℕ) (inb : Inb o) (pk : (rows o inb).PackedRows (EltTy.packing .bf16)) (arg12 : Memref sig .tc .vmem S1280x2048 .bf16) (harg12 : arg12.IsWhole) (rest : Prog (TpuEff nD τ sig (Elt F) Λ₀ .tc) α) :
    blkZeroK p o inb pk arg12 harg12 rest = blkZero p o inb pk arg12 harg12 >>= fun _ => rest := by
  unfold blkZeroK blkZero
  split <;> rfl
theorem blkZeroK_bind {α β : Type} (p : BitVec 1) (o : ℕ) (inb : Inb o) (pk : (rows o inb).PackedRows (EltTy.packing .bf16)) (arg12 : Memref sig .tc .vmem S1280x2048 .bf16) (harg12 : arg12.IsWhole) (rest : Prog (TpuEff nD τ sig (Elt F) Λ₀ .tc) α) (f : α → Prog (TpuEff nD τ sig (Elt F) Λ₀ .tc) β) :
    (blkZeroK p o inb pk arg12 harg12 rest >>= f) = blkZeroK p o inb pk arg12 harg12 (rest >>= f) := by
  rw [blkZeroK_eq, blkZeroK_eq, bind_assoc]

set_option maxHeartbeats 4000000 in
set_option maxRecDepth 65536 in
theorem part6_eq (i : grid0.Coords) (arg2 : Memref sig .tc .smem S57 .i32) (harg2 : arg2.IsWhole) (arg3 : Memref sig .tc .smem S57 .i32) (harg3 : arg3.IsWhole) (arg4 : Memref sig .tc .smem S57 .i32) (harg4 : arg4.IsWhole) (arg5 : Memref sig .tc .vmem S1280x2048 .bf16) (harg5 : arg5.IsWhole) (arg6 : Memref sig .tc .vmem S1x1x2048x512 .f32) (harg6 : arg6.IsWhole) (arg7 : Memref sig .tc .vmem S1x1x2048x512 .f32) (harg7 : arg7.IsWhole) (arg8 : Memref sig .tc .vmem S1x1x1x512 .f32) (harg8 : arg8.IsWhole) (arg9 : Memref sig .tc .vmem S1x1x1x512 .f32) (harg9 : arg9.IsWhole) (arg10 : Memref sig .tc .vmem S1x1x512x2048 .f32) (harg10 : arg10.IsWhole) (arg11 : Memref sig .tc .vmem S1x1x1x2048 .f32) (harg11 : arg11.IsWhole) (arg12 : Memref sig .tc .vmem S1280x2048 .bf16) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (arg16 : Memref sig .tc .vmem S1280x2048 .f32) (harg16 : arg16.IsWhole) :
    k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (smemLoad arg3 (Rect.unit (s := S57) (k0_off1 i) S1.size (k0_off1_inb i)) numel1_S1 rfl >>= fun v1 =>
        copyWK (pIn v1 0#32) arg6 arg7 arg10 arg13 harg13 arg14 harg14 arg15 harg15 <|
        blkInitK (pInit i v1 0#32) 0 inb_S1280x2048_S256x2048_0_0 arg11 arg16 <|
        blkAddK (pIn v1 0#32) 0 inb_S1280x2048_S256x2048_0_0 arg5 arg8 arg9 arg13 arg14 arg15 arg16 <|
        blkOutK (pOut i v1 0#32) 0 inb_S1280x2048_S256x2048_0_0 packedbf16_S1280x2048_S256x2048_0_0 arg12 harg12 arg16 <|
        blkZeroK (pZero i v1 0#32) 0 inb_S1280x2048_S256x2048_0_0 packedbf16_S1280x2048_S256x2048_0_0 arg12 harg12 <|
        blkInitK (pInit i v1 1#32) 256 inb_S1280x2048_S256x2048_256_0 arg11 arg16 <|
        blkAddK (pIn v1 1#32) 256 inb_S1280x2048_S256x2048_256_0 arg5 arg8 arg9 arg13 arg14 arg15 arg16 <|
        pure ⟨BitVec.ofNat 32 (i 1).val, v1, Scalar.cmpi .eq (BitVec.ofNat 32 (i 1).val) 3#32, 1#32⟩) := by
  rw [k0_part6_eq_skeleton]
  rfl

set_option maxHeartbeats 4000000 in
set_option maxRecDepth 65536 in
theorem part7_eq (i : grid0.Coords) (arg2 : Memref sig .tc .smem S57 .i32) (harg2 : arg2.IsWhole) (arg3 : Memref sig .tc .smem S57 .i32) (harg3 : arg3.IsWhole) (arg4 : Memref sig .tc .smem S57 .i32) (harg4 : arg4.IsWhole) (arg5 : Memref sig .tc .vmem S1280x2048 .bf16) (harg5 : arg5.IsWhole) (arg6 : Memref sig .tc .vmem S1x1x2048x512 .f32) (harg6 : arg6.IsWhole) (arg7 : Memref sig .tc .vmem S1x1x2048x512 .f32) (harg7 : arg7.IsWhole) (arg8 : Memref sig .tc .vmem S1x1x1x512 .f32) (harg8 : arg8.IsWhole) (arg9 : Memref sig .tc .vmem S1x1x1x512 .f32) (harg9 : arg9.IsWhole) (arg10 : Memref sig .tc .vmem S1x1x512x2048 .f32) (harg10 : arg10.IsWhole) (arg11 : Memref sig .tc .vmem S1x1x1x2048 .f32) (harg11 : arg11.IsWhole) (arg12 : Memref sig .tc .vmem S1280x2048 .bf16) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (arg16 : Memref sig .tc .vmem S1280x2048 .f32) (harg16 : arg16.IsWhole) (v1 : BitVec 32) :
    k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 (BitVec.ofNat 32 (i 1).val) v1 (Scalar.cmpi .eq (BitVec.ofNat 32 (i 1).val) 3#32) 1#32
      = (blkOutK (pOut i v1 1#32) 256 inb_S1280x2048_S256x2048_256_0 packedbf16_S1280x2048_S256x2048_256_0 arg12 harg12 arg16 <|
        blkZeroK (pZero i v1 1#32) 256 inb_S1280x2048_S256x2048_256_0 packedbf16_S1280x2048_S256x2048_256_0 arg12 harg12 <|
        blkInitK (pInit i v1 2#32) 512 inb_S1280x2048_S256x2048_512_0 arg11 arg16 <|
        blkAddK (pIn v1 2#32) 512 inb_S1280x2048_S256x2048_512_0 arg5 arg8 arg9 arg13 arg14 arg15 arg16 <|
        blkOutK (pOut i v1 2#32) 512 inb_S1280x2048_S256x2048_512_0 packedbf16_S1280x2048_S256x2048_512_0 arg12 harg12 arg16 <|
        blkZeroK (pZero i v1 2#32) 512 inb_S1280x2048_S256x2048_512_0 packedbf16_S1280x2048_S256x2048_512_0 arg12 harg12 <|
        blkInitK (pInit i v1 3#32) 768 inb_S1280x2048_S256x2048_768_0 arg11 arg16 <|
        pure (Scalar.extui (Scalar.cmpi .sgt v1 3#32))) := by
  rw [k0_part7_eq_skeleton]
  rfl

set_option maxHeartbeats 4000000 in
set_option maxRecDepth 65536 in
/-- The body is those groups in order. -/
theorem body_eq (i : grid0.Coords) (arg2 : Memref sig .tc .smem S57 .i32) (harg2 : arg2.IsWhole) (arg3 : Memref sig .tc .smem S57 .i32) (harg3 : arg3.IsWhole) (arg4 : Memref sig .tc .smem S57 .i32) (harg4 : arg4.IsWhole) (arg5 : Memref sig .tc .vmem S1280x2048 .bf16) (harg5 : arg5.IsWhole) (arg6 : Memref sig .tc .vmem S1x1x2048x512 .f32) (harg6 : arg6.IsWhole) (arg7 : Memref sig .tc .vmem S1x1x2048x512 .f32) (harg7 : arg7.IsWhole) (arg8 : Memref sig .tc .vmem S1x1x1x512 .f32) (harg8 : arg8.IsWhole) (arg9 : Memref sig .tc .vmem S1x1x1x512 .f32) (harg9 : arg9.IsWhole) (arg10 : Memref sig .tc .vmem S1x1x512x2048 .f32) (harg10 : arg10.IsWhole) (arg11 : Memref sig .tc .vmem S1x1x1x2048 .f32) (harg11 : arg11.IsWhole) (arg12 : Memref sig .tc .vmem S1280x2048 .bf16) (harg12 : arg12.IsWhole) (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (arg16 : Memref sig .tc .vmem S1280x2048 .f32) (harg16 : arg16.IsWhole) :
    cc0_moe_experts (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16
      = (smemLoad arg3 (Rect.unit (s := S57) (k0_off1 i) S1.size (k0_off1_inb i)) numel1_S1 rfl >>= fun v1 =>
        copyWK (pIn v1 0#32) arg6 arg7 arg10 arg13 harg13 arg14 harg14 arg15 harg15 <|
        blkInitK (pInit i v1 0#32) 0 inb_S1280x2048_S256x2048_0_0 arg11 arg16 <|
        blkAddK (pIn v1 0#32) 0 inb_S1280x2048_S256x2048_0_0 arg5 arg8 arg9 arg13 arg14 arg15 arg16 <|
        blkOutK (pOut i v1 0#32) 0 inb_S1280x2048_S256x2048_0_0 packedbf16_S1280x2048_S256x2048_0_0 arg12 harg12 arg16 <|
        blkZeroK (pZero i v1 0#32) 0 inb_S1280x2048_S256x2048_0_0 packedbf16_S1280x2048_S256x2048_0_0 arg12 harg12 <|
        blkInitK (pInit i v1 1#32) 256 inb_S1280x2048_S256x2048_256_0 arg11 arg16 <|
        blkAddK (pIn v1 1#32) 256 inb_S1280x2048_S256x2048_256_0 arg5 arg8 arg9 arg13 arg14 arg15 arg16 <|
        blkOutK (pOut i v1 1#32) 256 inb_S1280x2048_S256x2048_256_0 packedbf16_S1280x2048_S256x2048_256_0 arg12 harg12 arg16 <|
        blkZeroK (pZero i v1 1#32) 256 inb_S1280x2048_S256x2048_256_0 packedbf16_S1280x2048_S256x2048_256_0 arg12 harg12 <|
        blkInitK (pInit i v1 2#32) 512 inb_S1280x2048_S256x2048_512_0 arg11 arg16 <|
        blkAddK (pIn v1 2#32) 512 inb_S1280x2048_S256x2048_512_0 arg5 arg8 arg9 arg13 arg14 arg15 arg16 <|
        blkOutK (pOut i v1 2#32) 512 inb_S1280x2048_S256x2048_512_0 packedbf16_S1280x2048_S256x2048_512_0 arg12 harg12 arg16 <|
        blkZeroK (pZero i v1 2#32) 512 inb_S1280x2048_S256x2048_512_0 packedbf16_S1280x2048_S256x2048_512_0 arg12 harg12 <|
        blkInitK (pInit i v1 3#32) 768 inb_S1280x2048_S256x2048_768_0 arg11 arg16 <|
        blkAddK (pIn v1 3#32) 768 inb_S1280x2048_S256x2048_768_0 arg5 arg8 arg9 arg13 arg14 arg15 arg16 <|
        blkOutK (pOut i v1 3#32) 768 inb_S1280x2048_S256x2048_768_0 packedbf16_S1280x2048_S256x2048_768_0 arg12 harg12 arg16 <|
        blkZeroK (pZero i v1 3#32) 768 inb_S1280x2048_S256x2048_768_0 packedbf16_S1280x2048_S256x2048_768_0 arg12 harg12 <|
        blkInitK (pInit i v1 4#32) 1024 inb_S1280x2048_S256x2048_1024_0 arg11 arg16 <|
        blkAddK (pIn v1 4#32) 1024 inb_S1280x2048_S256x2048_1024_0 arg5 arg8 arg9 arg13 arg14 arg15 arg16 <|
        blkOutK (pOut i v1 4#32) 1024 inb_S1280x2048_S256x2048_1024_0 packedbf16_S1280x2048_S256x2048_1024_0 arg12 harg12 arg16 <|
        blkZeroK (pZero i v1 4#32) 1024 inb_S1280x2048_S256x2048_1024_0 packedbf16_S1280x2048_S256x2048_1024_0 arg12 harg12 <|
        pure ⟨⟩) := by
  rw [cc0_moe_experts_eq_skeleton]
  unfold cc0_moe_experts_skel
  rw [part6_eq]
  simp only [copyWK_bind, blkInitK_bind, blkAddK_bind, blkOutK_bind, blkZeroK_bind, bind_assoc, pure_bind, part7_eq]
  rfl

end Cert.ExpertsIdeal.Hand

end
-- ==== Proof.ExpertsIdeal.Runs.lean ====
module

public import proofs.«01_k».proof.Proof.ExpertsIdeal.Blocks
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.VecWindow
public import Idealize.ShloMosaic.Lib.Tactic
public import Idealize.ShloMosaic.Lib.WordCmp

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal.Gen

variable {F : FTy → Type} [FloatOps F]

local notation "𝕄" => MT nD τ sig Unit (Elt F) ℕ (UR sig nD τ) ℕ

/-! ## What each group leaves

Each group run once and for all: every buffer it reads comes back as it was, the one it writes comes back with the
rows put in, or untouched when the guard is off. -/

/-- `A` with the 256 rows from `o` replaced. -/
abbrev setRows {e : EltTy} (o : ℕ) (A : Vec F S1280x2048 e) (w : Vec F S256x2048 e) : Vec F S1280x2048 e :=
  VecWindow.put (s := S1280x2048) A ![o, 0] S256x2048.size w
/-- The 256 rows of `A` from `o`. -/
abbrev getRows {e : EltTy} (o : ℕ) (inb : Inb o) (A : Vec F S1280x2048 e) : Vec F S256x2048 e :=
  VecWindow.window (s := S1280x2048) A ![o, 0] S256x2048.size inb

theorem blkInit_run (c : Dev nD) (p : BitVec 1) (o : ℕ) (inb : Inb o) (arg11 : Memref sig .tc .vmem S1x1x1x2048 .f32) (harg11 : arg11.IsWhole) (arg16 : Memref sig .tc .vmem S1280x2048 .f32) (harg16 : arg16.IsWhole)
    (bd : Vec F S1x1x1x2048 .f32) (A : Vec F S1280x2048 .f32) (E : Set ℕ) (K : PUnit → sProp 𝕄) :
    iprop(owns (c : Thread nD τ) arg11 fullShare bd ∗ owns (c : Thread nD τ) arg16 fullShare A
      ∗ (iprop(owns (c : Thread nD τ) arg11 fullShare bd ∗ owns (c : Thread nD τ) arg16 fullShare (if p = 1#1 then setRows o A (k0_pay4 bd) else A)) -∗ K ⟨⟩))
    ⊢ wp frame (wpE (defs₀ (F := F)) Variants.none c none) E (blkInit (F := F) p o inb arg11 arg16) K := by
  unfold blkInit owns
  by_cases hp : p = 1#1
  · simp only [if_pos hp]
    iintro ⟨⟨%f0, %hf0, H0⟩, ⟨%f1, %hf1, H1⟩, Hk⟩
    sl_exec
    sl_step
    iapply Hk
    isplitl [H0]
    · iexists _; isplitr; · ipureintro; exact hf0
      iexact H0
    iexists _; isplitr
    swap; · iexact H1
    ipureintro
    rw [View.read_writes_cons_put _ _ _ _ _ rfl, View.writes_nil, hf1]
    exact congrArg (fun w => setRows o A (k0_pay4 w)) ((View.readAt_full _ _ _).trans hf0)
  · simp only [if_neg hp]
    iintro ⟨H0, H1, Hk⟩
    sl_step
    iapply Hk
    isplitl [H0]
    · iexact H0
    iexact H1

theorem blkAdd_run (c : Dev nD) (p : BitVec 1) (o : ℕ) (inb : Inb o) (arg5 : Memref sig .tc .vmem S1280x2048 .bf16) (harg5 : arg5.IsWhole) (arg8 : Memref sig .tc .vmem S1x1x1x512 .f32) (harg8 : arg8.IsWhole) (arg9 : Memref sig .tc .vmem S1x1x1x512 .f32) (harg9 : arg9.IsWhole)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole) (arg16 : Memref sig .tc .vmem S1280x2048 .f32) (harg16 : arg16.IsWhole)
    (x : Vec F S1280x2048 .bf16) (bg bu : Vec F S1x1x1x512 .f32) (wg wu : Vec F S2048x512 .bf16) (wd : Vec F S512x2048 .bf16) (A : Vec F S1280x2048 .f32) (E : Set ℕ) (K : PUnit → sProp 𝕄) :
    iprop(owns (c : Thread nD τ) arg5 fullShare x ∗ owns (c : Thread nD τ) arg8 fullShare bg ∗ owns (c : Thread nD τ) arg9 fullShare bu
      ∗ owns (c : Thread nD τ) arg13 fullShare wg ∗ owns (c : Thread nD τ) arg14 fullShare wu ∗ owns (c : Thread nD τ) arg15 fullShare wd ∗ owns (c : Thread nD τ) arg16 fullShare A
      ∗ (iprop(owns (c : Thread nD τ) arg5 fullShare x ∗ owns (c : Thread nD τ) arg8 fullShare bg ∗ owns (c : Thread nD τ) arg9 fullShare bu
        ∗ owns (c : Thread nD τ) arg13 fullShare wg ∗ owns (c : Thread nD τ) arg14 fullShare wu ∗ owns (c : Thread nD τ) arg15 fullShare wd
        ∗ owns (c : Thread nD τ) arg16 fullShare (if p = 1#1 then setRows o A (k0_pay1 (getRows o inb A) (k0_pay8 (getRows o inb x) wg bg wu bu) wd) else A)) -∗ K ⟨⟩))
    ⊢ wp frame (wpE (defs₀ (F := F)) Variants.none c none) E (blkAdd (F := F) p o inb arg5 arg8 arg9 arg13 arg14 arg15 arg16) K := by
  unfold blkAdd owns
  by_cases hp : p = 1#1
  · simp only [if_pos hp]
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; · ipureintro; exact hf5
      iexact H5
    iexists _; isplitr
    swap; · iexact H6
    ipureintro
    rw [View.read_writes_cons_put _ _ _ _ _ rfl, View.writes_nil, hf6]
    have e0 := View.readAt_unit (Val := Elt F) arg5.view f0 inb rfl inb
    have e6 := View.readAt_unit (Val := Elt F) arg16.view f6 inb rfl inb
    rw [hf0] at e0
    rw [hf6] at e6
    have e1 := (View.readAt_full (Val := Elt F) arg8.view f1 inb_S1x1x1x512_S1x1x1x512_0_0_0_0).trans hf1
    have e2 := (View.readAt_full (Val := Elt F) arg9.view f2 inb_S1x1x1x512_S1x1x1x512_0_0_0_0).trans hf2
    have e3 := (View.readAt_full (Val := Elt F) arg13.view f3 inb_S2048x512_S2048x512_0_0).trans hf3
    have e4 := (View.readAt_full (Val := Elt F) arg14.view f4 inb_S2048x512_S2048x512_0_0).trans hf4
    have e5 := (View.readAt_full (Val := Elt F) arg15.view f5 inb_S512x2048_S512x2048_0_0).trans hf5
    exact congrArg (setRows o A) (congr (congr (congrArg k0_pay1 e6) (congr (congr (congr (congr (congrArg k0_pay8 e0) e3) e1) e4) e2)) e5)
  · simp only [if_neg hp]
    iintro ⟨H0, H1, H2, H3, H4, H5, H6, Hk⟩
    sl_step
    iapply Hk
    isplitl [H0]; · iexact H0
    isplitl [H1]; · iexact H1
    isplitl [H2]; · iexact H2
    isplitl [H3]; · iexact H3
    isplitl [H4]; · iexact H4
    isplitl [H5]; · iexact H5
    iexact H6

theorem blkOut_run (c : Dev nD) (p : BitVec 1) (o : ℕ) (inb : Inb o) (pk : (rows o inb).PackedRows (EltTy.packing .bf16)) (arg12 : Memref sig .tc .vmem S1280x2048 .bf16) (harg12 : arg12.IsWhole) (arg16 : Memref sig .tc .vmem S1280x2048 .f32) (harg16 : arg16.IsWhole)
    (y : Vec F S1280x2048 .bf16) (A : Vec F S1280x2048 .f32) (E : Set ℕ) (K : PUnit → sProp 𝕄) :
    iprop(owns (c : Thread nD τ) arg12 fullShare y ∗ owns (c : Thread nD τ) arg16 fullShare A
      ∗ (iprop(owns (c : Thread nD τ) arg12 fullShare (if p = 1#1 then setRows o y (k0_pay2 (getRows o inb A)) else y) ∗ owns (c : Thread nD τ) arg16 fullShare A) -∗ K ⟨⟩))
    ⊢ wp frame (wpE (defs₀ (F := F)) Variants.none c none) E (blkOut (F := F) p o inb pk arg12 harg12 arg16) K := by
  unfold blkOut owns
  by_cases hp : p = 1#1
  · simp only [dif_pos hp, if_pos hp]
    iintro ⟨⟨%f0, %hf0, H0⟩, ⟨%f1, %hf1, H1⟩, Hk⟩
    sl_exec
    sl_step
    iapply Hk
    isplitl [H0]
    · iexists _; isplitr
      swap; · iexact H0
      ipureintro
      rw [View.read_writes_cons_put _ _ _ _ _ rfl, View.writes_nil, hf0]
      have e1 := View.readAt_unit (Val := Elt F) arg16.view f1 inb rfl inb
      rw [hf1] at e1
      exact congrArg (fun w => setRows o y (k0_pay2 w)) e1
    iexists _; isplitr; · ipureintro; exact hf1
    iexact H1
  · simp only [dif_neg hp, if_neg hp]
    iintro ⟨H0, H1, Hk⟩
    sl_step
    iapply Hk
    isplitl [H0]; · iexact H0
    iexact H1

theorem blkZero_run (c : Dev nD) (p : BitVec 1) (o : ℕ) (inb : Inb o) (pk : (rows o inb).PackedRows (EltTy.packing .bf16)) (arg12 : Memref sig .tc .vmem S1280x2048 .bf16) (harg12 : arg12.IsWhole)
    (y : Vec F S1280x2048 .bf16) (E : Set ℕ) (K : PUnit → sProp 𝕄) :
    iprop(owns (c : Thread nD τ) arg12 fullShare y
      ∗ (iprop(owns (c : Thread nD τ) arg12 fullShare (if p = 1#1 then setRows o y (k0_pay3 (F := F)) else y)) -∗ K ⟨⟩))
    ⊢ wp frame (wpE (defs₀ (F := F)) Variants.none c none) E (blkZero (F := F) p o inb pk arg12 harg12) K := by
  unfold blkZero owns
  by_cases hp : p = 1#1
  · simp only [dif_pos hp, if_pos hp]
    iintro ⟨⟨%f0, %hf0, H0⟩, Hk⟩
    sl_exec
    sl_step
    iapply Hk
    iexists _; isplitr
    swap; · iexact H0
    ipureintro
    rw [View.read_writes_cons_put _ _ _ _ _ rfl, View.writes_nil, hf0]
  · simp only [dif_neg hp, if_neg hp]
    iintro ⟨H0, Hk⟩
    sl_step
    iapply Hk
    iexact H0

theorem copyW_run (c : Dev nD) (p : BitVec 1) (arg6 : Memref sig .tc .vmem S1x1x2048x512 .f32) (harg6 : arg6.IsWhole) (arg7 : Memref sig .tc .vmem S1x1x2048x512 .f32) (harg7 : arg7.IsWhole) (arg10 : Memref sig .tc .vmem S1x1x512x2048 .f32) (harg10 : arg10.IsWhole)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole)
    (ug uu : Vec F S1x1x2048x512 .f32) (ud : Vec F S1x1x512x2048 .f32) (wg wu : Vec F S2048x512 .bf16) (wd : Vec F S512x2048 .bf16) (E : Set ℕ) (K : PUnit → sProp 𝕄) :
    iprop(owns (c : Thread nD τ) arg6 fullShare ug ∗ owns (c : Thread nD τ) arg7 fullShare uu ∗ owns (c : Thread nD τ) arg10 fullShare ud
      ∗ owns (c : Thread nD τ) arg13 fullShare wg ∗ owns (c : Thread nD τ) arg14 fullShare wu ∗ owns (c : Thread nD τ) arg15 fullShare wd
      ∗ (iprop(owns (c : Thread nD τ) arg6 fullShare ug ∗ owns (c : Thread nD τ) arg7 fullShare uu ∗ owns (c : Thread nD τ) arg10 fullShare ud
        ∗ owns (c : Thread nD τ) arg13 fullShare (if p = 1#1 then k0_pay13 ug else wg) ∗ owns (c : Thread nD τ) arg14 fullShare (if p = 1#1 then k0_pay14 uu else wu) ∗ owns (c : Thread nD τ) arg15 fullShare (if p = 1#1 then k0_pay15 ud else wd)) -∗ K ⟨⟩))
    ⊢ wp frame (wpE (defs₀ (F := F)) Variants.none c none) E (copyW (F := F) p arg6 arg7 arg10 arg13 harg13 arg14 harg14 arg15 harg15) K := by
  unfold copyW owns
  by_cases hp : p = 1#1
  · simp only [if_pos hp]
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr
      swap; · iexact H3
      ipureintro
      exact (View.read_writes_full _ _ _ _ _).trans (congrArg k0_pay13 ((View.readAt_full (Val := Elt F) arg6.view f0 inb_S1x1x2048x512_S1x1x2048x512_0_0_0_0).trans hf0))
    isplitl [H4]
    · iexists _; isplitr
      swap; · iexact H4
      ipureintro
      exact (View.read_writes_full _ _ _ _ _).trans (congrArg k0_pay14 ((View.readAt_full (Val := Elt F) arg7.view f1 inb_S1x1x2048x512_S1x1x2048x512_0_0_0_0).trans hf1))
    iexists _; isplitr
    swap; · iexact H5
    ipureintro
    exact (View.read_writes_full _ _ _ _ _).trans (congrArg k0_pay15 ((View.readAt_full (Val := Elt F) arg10.view f2 inb_S1x1x512x2048_S1x1x512x2048_0_0_0_0).trans hf2))
  · simp only [if_neg hp]
    iintro ⟨H0, H1, H2, H3, H4, H5, Hk⟩
    sl_step
    iapply Hk
    isplitl [H0]; · iexact H0
    isplitl [H1]; · iexact H1
    isplitl [H2]; · iexact H2
    isplitl [H3]; · iexact H3
    isplitl [H4]; · iexact H4
    iexact H5

end Cert.ExpertsIdeal.Hand

end
-- ==== Proof.ExpertsIdeal.Body.lean ====
module

public import proofs.«01_k».proof.Proof.ExpertsIdeal.Runs

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal.Gen

variable {F : FTy → Type} [FloatOps F]

local notation "𝕄" => MT nD τ sig Unit (Elt F) ℕ (UR sig nD τ) ℕ

/-! ## One block, and the whole body -/

/-- The sums after a block's turn. -/
def accStep (i : grid0.Coords) (v1 k : BitVec 32) (o : ℕ) (inb : Inb o) (x : Vec F S1280x2048 .bf16) (wg : Vec F S2048x512 .bf16) (bg : Vec F S1x1x1x512 .f32)
    (wu : Vec F S2048x512 .bf16) (bu : Vec F S1x1x1x512 .f32) (wd : Vec F S512x2048 .bf16) (bd : Vec F S1x1x1x2048 .f32) (A : Vec F S1280x2048 .f32) : Vec F S1280x2048 .f32 :=
  if pIn v1 k = 1#1 then
    setRows o (if pInit i v1 k = 1#1 then setRows o A (k0_pay4 bd) else A)
      (k0_pay1 (getRows o inb (if pInit i v1 k = 1#1 then setRows o A (k0_pay4 bd) else A)) (k0_pay8 (getRows o inb x) wg bg wu bu) wd)
  else (if pInit i v1 k = 1#1 then setRows o A (k0_pay4 bd) else A)

/-- The output tile after a block's turn, from the sums it then finds. -/
def outStep (i : grid0.Coords) (v1 k : BitVec 32) (o : ℕ) (inb : Inb o) (A : Vec F S1280x2048 .f32) (y : Vec F S1280x2048 .bf16) : Vec F S1280x2048 .bf16 :=
  if pZero i v1 k = 1#1 then setRows o (if pOut i v1 k = 1#1 then setRows o y (k0_pay2 (getRows o inb A)) else y) (k0_pay3 (F := F))
  else (if pOut i v1 k = 1#1 then setRows o y (k0_pay2 (getRows o inb A)) else y)

theorem block_run (c : Dev nD) (i : grid0.Coords) (v1 k : BitVec 32) (o : ℕ) (inb : Inb o) (pk : (rows o inb).PackedRows (EltTy.packing .bf16))
    (arg5 : Memref sig .tc .vmem S1280x2048 .bf16) (harg5 : arg5.IsWhole) (arg8 : Memref sig .tc .vmem S1x1x1x512 .f32) (harg8 : arg8.IsWhole) (arg9 : Memref sig .tc .vmem S1x1x1x512 .f32) (harg9 : arg9.IsWhole)
    (arg11 : Memref sig .tc .vmem S1x1x1x2048 .f32) (harg11 : arg11.IsWhole) (arg12 : Memref sig .tc .vmem S1280x2048 .bf16) (harg12 : arg12.IsWhole)
    (arg13 : Memref sig .tc .vmem S2048x512 .bf16) (harg13 : arg13.IsWhole) (arg14 : Memref sig .tc .vmem S2048x512 .bf16) (harg14 : arg14.IsWhole) (arg15 : Memref sig .tc .vmem S512x2048 .bf16) (harg15 : arg15.IsWhole)
    (arg16 : Memref sig .tc .vmem S1280x2048 .f32) (harg16 : arg16.IsWhole)
    (x : Vec F S1280x2048 .bf16) (bg bu : Vec F S1x1x1x512 .f32) (bd : Vec F S1x1x1x2048 .f32) (y : Vec F S1280x2048 .bf16) (wg wu : Vec F S2048x512 .bf16) (wd : Vec F S512x2048 .bf16) (A : Vec F S1280x2048 .f32)
    (E : Set ℕ) (rest : Prog (TpuEff nD τ sig (Elt F) Λ₀ .tc) PUnit) (K : PUnit → sProp 𝕄) :
    iprop(owns (c : Thread nD τ) arg5 fullShare x ∗ owns (c : Thread nD τ) arg8 fullShare bg ∗ owns (c : Thread nD τ) arg9 fullShare bu ∗ owns (c : Thread nD τ) arg11 fullShare bd ∗ owns (c : Thread nD τ) arg12 fullShare y
      ∗ owns (c : Thread nD τ) arg13 fullShare wg ∗ owns (c : Thread nD τ) arg14 fullShare wu ∗ owns (c : Thread nD τ) arg15 fullShare wd ∗ owns (c : Thread nD τ) arg16 fullShare A
      ∗ (iprop(owns (c : Thread nD τ) arg5 fullShare x ∗ owns (c : Thread nD τ) arg8 fullShare bg ∗ owns (c : Thread nD τ) arg9 fullShare bu ∗ owns (c : Thread nD τ) arg11 fullShare bd
          ∗ owns (c : Thread nD τ) arg12 fullShare (outStep i v1 k o inb (accStep i v1 k o inb x wg bg wu bu wd bd A) y)
          ∗ owns (c : Thread nD τ) arg13 fullShare wg ∗ owns (c : Thread nD τ) arg14 fullShare wu ∗ owns (c : Thread nD τ) arg15 fullShare wd
          ∗ owns (c : Thread nD τ) arg16 fullShare (accStep i v1 k o inb x wg bg wu bu wd bd A))
          -∗ wp frame (wpE (defs₀ (F := F)) Variants.none c none) E rest K))
    ⊢ wp frame (wpE (defs₀ (F := F)) Variants.none c none) E
        (blkInitK (pInit i v1 k) o inb arg11 arg16 <| blkAddK (pIn v1 k) o inb arg5 arg8 arg9 arg13 arg14 arg15 arg16 <|
          blkOutK (pOut i v1 k) o inb pk arg12 harg12 arg16 <| blkZeroK (pZero i v1 k) o inb pk arg12 harg12 rest) K := by
  rw [blkInitK_eq, blkAddK_eq, blkOutK_eq, blkZeroK_eq]
  iintro ⟨H5, H8, H9, H11, H12, H13, H14, H15, H16, Hk⟩
  rw [wp_bind_eq]
  iapply (blkInit_run c (pInit i v1 k) o inb arg11 harg11 arg16 harg16 bd A E _)
  isplitl [H11]; · iexact H11
  isplitl [H16]; · iexact H16
  iintro ⟨H11, H16⟩
  rw [wp_bind_eq]
  iapply (blkAdd_run c (pIn v1 k) o inb arg5 harg5 arg8 harg8 arg9 harg9 arg13 harg13 arg14 harg14 arg15 harg15 arg16 harg16 x bg bu wg wu wd _ E _)
  isplitl [H5]; · iexact H5
  isplitl [H8]; · iexact H8
  isplitl [H9]; · iexact H9
  isplitl [H13]; · iexact H13
  isplitl [H14]; · iexact H14
  isplitl [H15]; · iexact H15
  isplitl [H16]; · iexact H16
  iintro ⟨H5, H8, H9, H13, H14, H15, H16⟩
  rw [wp_bind_eq]
  iapply (blkOut_run c (pOut i v1 k) o inb pk arg12 harg12 arg16 harg16 y _ E _)
  isplitl [H12]; · iexact H12
  isplitl [H16]; · iexact H16
  iintro ⟨H12, H16⟩
  rw [wp_bind_eq]
  iapply (blkZero_run c (pZero i v1 k) o inb pk arg12 harg12 _ E _)
  isplitl [H12]; · iexact H12
  iintro H12
  iapply Hk
  isplitl [H5]; · iexact H5
  isplitl [H8]; · iexact H8
  isplitl [H9]; · iexact H9
  isplitl [H11]; · iexact H11
  isplitl [H12]; · iexact H12
  isplitl [H13]; · iexact H13
  isplitl [H14]; · iexact H14
  isplitl [H15]; · iexact H15
  iexact H16

/-- The sums after block 0's turn. -/
def acc0 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) : Vec F S1280x2048 .f32 :=
  accStep i v1 0#32 0 inb_S1280x2048_S256x2048_0_0 x wg bg wu bu wd bd A
/-- The sums after block 1's turn. -/
def acc1 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) : Vec F S1280x2048 .f32 :=
  accStep i v1 1#32 256 inb_S1280x2048_S256x2048_256_0 x wg bg wu bu wd bd (acc0 i v1 x wg bg wu bu wd bd A)
/-- The sums after block 2's turn. -/
def acc2 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) : Vec F S1280x2048 .f32 :=
  accStep i v1 2#32 512 inb_S1280x2048_S256x2048_512_0 x wg bg wu bu wd bd (acc1 i v1 x wg bg wu bu wd bd A)
/-- The sums after block 3's turn. -/
def acc3 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) : Vec F S1280x2048 .f32 :=
  accStep i v1 3#32 768 inb_S1280x2048_S256x2048_768_0 x wg bg wu bu wd bd (acc2 i v1 x wg bg wu bu wd bd A)
/-- The sums after block 4's turn. -/
def acc4 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) : Vec F S1280x2048 .f32 :=
  accStep i v1 4#32 1024 inb_S1280x2048_S256x2048_1024_0 x wg bg wu bu wd bd (acc3 i v1 x wg bg wu bu wd bd A)
/-- The output tile after block 0's turn. -/
def out0 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) (y : Vec F S1280x2048 .bf16) : Vec F S1280x2048 .bf16 :=
  outStep i v1 0#32 0 inb_S1280x2048_S256x2048_0_0 (acc0 i v1 x wg bg wu bu wd bd A) y
/-- The output tile after block 1's turn. -/
def out1 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) (y : Vec F S1280x2048 .bf16) : Vec F S1280x2048 .bf16 :=
  outStep i v1 1#32 256 inb_S1280x2048_S256x2048_256_0 (acc1 i v1 x wg bg wu bu wd bd A) (out0 i v1 x wg bg wu bu wd bd A y)
/-- The output tile after block 2's turn. -/
def out2 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) (y : Vec F S1280x2048 .bf16) : Vec F S1280x2048 .bf16 :=
  outStep i v1 2#32 512 inb_S1280x2048_S256x2048_512_0 (acc2 i v1 x wg bg wu bu wd bd A) (out1 i v1 x wg bg wu bu wd bd A y)
/-- The output tile after block 3's turn. -/
def out3 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) (y : Vec F S1280x2048 .bf16) : Vec F S1280x2048 .bf16 :=
  outStep i v1 3#32 768 inb_S1280x2048_S256x2048_768_0 (acc3 i v1 x wg bg wu bu wd bd A) (out2 i v1 x wg bg wu bu wd bd A y)
/-- The output tile after block 4's turn. -/
def out4 (i : grid0.Coords) (v1 : BitVec 32) (x : Vec F S1280x2048 .bf16) (wg : Vec F S2048x512 .bf16) (bg : Vec F S1x1x1x512 .f32) (wu : Vec F S2048x512 .bf16) (bu : Vec F S1x1x1x512 .f32) (wd : Vec F S512x2048 .bf16) (bd : Vec F S1x1x1x2048 .f32) (A : Vec F S1280x2048 .f32) (y : Vec F S1280x2048 .bf16) : Vec F S1280x2048 .bf16 :=
  outStep i v1 4#32 1024 inb_S1280x2048_S256x2048_1024_0 (acc4 i v1 x wg bg wu bu wd bd A) (out3 i v1 x wg bg wu bu wd bd A y)

/-- A weight's copy: made in a used group, else whatever it was. -/
abbrev copied {s : Shape} (v1 : BitVec 32) (new old : Vec F s .bf16) : Vec F s .bf16 := if pIn v1 0#32 = 1#1 then new else old

/-- Each table as the body is handed it. -/
abbrev tbM0_0 : Memref sig .tc .smem S57 .i32 := Memref.whole main_arg0
abbrev tbM0_1 : Memref sig .tc .smem S57 .i32 := Memref.whole main_arg1
abbrev tbM0_2 : Memref sig .tc .smem S57 .i32 := Memref.whole main_arg2
/-- A table's buffer, and the half of it the body holds. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The table word the body reads: the group's count of used blocks. -/
abbrev word (c : Dev nD) (i : grid0.Coords) (xt1 : TbBuf0 (F := F) c tbM0_1) : BitVec 32 :=
  tbM0_1.view.readAt (Elt F) (Rect.unit (s := S57) (k0_off1 i) S1.size (k0_off1_inb i)).toLoadRect xt1 (Shape.Idx.first (numel1_S1.symm ▸ Nat.one_pos))

theorem word_run (c : Dev nD) (i : grid0.Coords) (xt1 : TbBuf0 (F := F) c tbM0_1) (E : Set ℕ) (K : Elt F .i32 → sProp 𝕄) :
    iprop(tbPt0 c tbM0_1 xt1 ∗ (tbPt0 c tbM0_1 xt1 -∗ K (word c i xt1)))
    ⊢ wp frame (wpE (defs₀ (F := F)) Variants.none c none) E
        (smemLoad tbM0_1 (Rect.unit (s := S57) (k0_off1 i) S1.size (k0_off1_inb i)) numel1_S1 rfl : Prog (TpuEff nD τ sig (Elt F) Λ₀ .tc) (Elt F .i32)) K := by
  iintro ⟨HT, Hk⟩
  sl_exec
  sl_step
  iapply Hk
  iexact HT

set_option maxHeartbeats 4000000 in
theorem body_run (c : Dev nD) (i : grid0.Coords) (arg2 : Memref sig .tc .smem S57 .i32) (harg2 : arg2.IsWhole) (arg4 : Memref sig .tc .smem S57 .i32) (harg4 : arg4.IsWhole)
    (arg5 : Memref sig .tc .vmem S1280x2048 .bf16) (harg5 : arg5.IsWhole)
    (arg6 : Memref sig .tc .vmem S1x1x2048x512 .f32) (harg6 : arg6.IsWhole)
    (arg7 : Memref sig .tc .vmem S1x1x2048x512 .f32) (harg7 : arg7.IsWhole)
    (arg8 : Memref sig .tc .vmem S1x1x1x512 .f32) (harg8 : arg8.IsWhole)
    (arg9 : Memref sig .tc .vmem S1x1x1x512 .f32) (harg9 : arg9.IsWhole)
    (arg10 : Memref sig .tc .vmem S1x1x512x2048 .f32) (harg10 : arg10.IsWhole)
    (arg11 : Memref sig .tc .vmem S1x1x1x2048 .f32) (harg11 : arg11.IsWhole)
    (arg12 : Memref sig .tc .vmem S1280x2048 .bf16) (harg12 : arg12.IsWhole)
    (arg13 : Memref sig .tc .vmem S2048x512 .bf16) (harg13 : arg13.IsWhole)
    (arg14 : Memref sig .tc .vmem S2048x512 .bf16) (harg14 : arg14.IsWhole)
    (arg15 : Memref sig .tc .vmem S512x2048 .bf16) (harg15 : arg15.IsWhole)
    (arg16 : Memref sig .tc .vmem S1280x2048 .f32) (harg16 : arg16.IsWhole)
    (x : Vec F S1280x2048 .bf16) (ug : Vec F S1x1x2048x512 .f32) (uu : Vec F S1x1x2048x512 .f32) (bg : Vec F S1x1x1x512 .f32) (bu : Vec F S1x1x1x512 .f32) (ud : Vec F S1x1x512x2048 .f32) (bd : Vec F S1x1x1x2048 .f32) (y : Vec F S1280x2048 .bf16) (wg : Vec F S2048x512 .bf16) (wu : Vec F S2048x512 .bf16) (wd : Vec F S512x2048 .bf16) (A : Vec F S1280x2048 .f32) (xt1 : TbBuf0 (F := F) c tbM0_1) (E : Set ℕ) (K : PUnit → sProp 𝕄) :
    iprop(owns (c : Thread nD τ) arg5 fullShare x ∗ owns (c : Thread nD τ) arg6 fullShare ug ∗ owns (c : Thread nD τ) arg7 fullShare uu ∗ owns (c : Thread nD τ) arg8 fullShare bg ∗ owns (c : Thread nD τ) arg9 fullShare bu ∗ owns (c : Thread nD τ) arg10 fullShare ud ∗ owns (c : Thread nD τ) arg11 fullShare bd ∗ owns (c : Thread nD τ) arg12 fullShare y ∗ owns (c : Thread nD τ) arg13 fullShare wg ∗ owns (c : Thread nD τ) arg14 fullShare wu ∗ owns (c : Thread nD τ) arg15 fullShare wd ∗ owns (c : Thread nD τ) arg16 fullShare A ∗ tbPt0 c tbM0_1 xt1
      ∗ (iprop(owns (c : Thread nD τ) arg5 fullShare x ∗ owns (c : Thread nD τ) arg6 fullShare ug ∗ owns (c : Thread nD τ) arg7 fullShare uu ∗ owns (c : Thread nD τ) arg8 fullShare bg ∗ owns (c : Thread nD τ) arg9 fullShare bu ∗ owns (c : Thread nD τ) arg10 fullShare ud ∗ owns (c : Thread nD τ) arg11 fullShare bd ∗ owns (c : Thread nD τ) arg12 fullShare (out4 i (word c i xt1) x (copied (word c i xt1) (k0_pay13 ug) wg) bg (copied (word c i xt1) (k0_pay14 uu) wu) bu (copied (word c i xt1) (k0_pay15 ud) wd) bd A y) ∗ owns (c : Thread nD τ) arg13 fullShare (copied (word c i xt1) (k0_pay13 ug) wg) ∗ owns (c : Thread nD τ) arg14 fullShare (copied (word c i xt1) (k0_pay14 uu) wu) ∗ owns (c : Thread nD τ) arg15 fullShare (copied (word c i xt1) (k0_pay15 ud) wd) ∗ owns (c : Thread nD τ) arg16 fullShare (acc4 i (word c i xt1) x (copied (word c i xt1) (k0_pay13 ug) wg) bg (copied (word c i xt1) (k0_pay14 uu) wu) bu (copied (word c i xt1) (k0_pay15 ud) wd) bd A) ∗ tbPt0 c tbM0_1 xt1) -∗ K ⟨⟩))
    ⊢ wp frame (wpE (defs₀ (F := F)) Variants.none c none) E (cc0_moe_experts (F := F) i arg2 harg2 tbM0_1 (Memref.isWhole_whole _) arg4 harg4 arg5 harg5 arg6 harg6 arg7 harg7 arg8 harg8 arg9 harg9 arg10 harg10 arg11 harg11 arg12 harg12 arg13 harg13 arg14 harg14 arg15 harg15 arg16 harg16) K := by
  rw [body_eq]
  iintro ⟨H5, H6, H7, H8, H9, H10, H11, H12, H13, H14, H15, H16, HT, Hk⟩
  rw [wp_bind_eq]
  iapply (word_run c i xt1 E _)
  isplitl [HT]; · iexact HT
  iintro HT
  simp only [copyWK_eq, wp_bind_eq]
  iapply (copyW_run c (pIn (word c i xt1) 0#32) arg6 harg6 arg7 harg7 arg10 harg10 arg13 harg13 arg14 harg14 arg15 harg15 ug uu ud wg wu wd E _)
  isplitl [H6]; · iexact H6
  isplitl [H7]; · iexact H7
  isplitl [H10]; · iexact H10
  isplitl [H13]; · iexact H13
  isplitl [H14]; · iexact H14
  isplitl [H15]; · iexact H15
  iintro ⟨H6, H7, H10, H13, H14, H15⟩
  iapply (block_run c i (word c i xt1) 0#32 0 inb_S1280x2048_S256x2048_0_0 packedbf16_S1280x2048_S256x2048_0_0 arg5 harg5 arg8 harg8 arg9 harg9 arg11 harg11 arg12 harg12 arg13 harg13 arg14 harg14 arg15 harg15 arg16 harg16 x bg bu bd _ _ _ _ _ E _ K)
  isplitl [H5]; · iexact H5
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H5, H8, H9, H11, H12, H13, H14, H15, H16⟩
  iapply (block_run c i (word c i xt1) 1#32 256 inb_S1280x2048_S256x2048_256_0 packedbf16_S1280x2048_S256x2048_256_0 arg5 harg5 arg8 harg8 arg9 harg9 arg11 harg11 arg12 harg12 arg13 harg13 arg14 harg14 arg15 harg15 arg16 harg16 x bg bu bd _ _ _ _ _ E _ K)
  isplitl [H5]; · iexact H5
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H5, H8, H9, H11, H12, H13, H14, H15, H16⟩
  iapply (block_run c i (word c i xt1) 2#32 512 inb_S1280x2048_S256x2048_512_0 packedbf16_S1280x2048_S256x2048_512_0 arg5 harg5 arg8 harg8 arg9 harg9 arg11 harg11 arg12 harg12 arg13 harg13 arg14 harg14 arg15 harg15 arg16 harg16 x bg bu bd _ _ _ _ _ E _ K)
  isplitl [H5]; · iexact H5
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H5, H8, H9, H11, H12, H13, H14, H15, H16⟩
  iapply (block_run c i (word c i xt1) 3#32 768 inb_S1280x2048_S256x2048_768_0 packedbf16_S1280x2048_S256x2048_768_0 arg5 harg5 arg8 harg8 arg9 harg9 arg11 harg11 arg12 harg12 arg13 harg13 arg14 harg14 arg15 harg15 arg16 harg16 x bg bu bd _ _ _ _ _ E _ K)
  isplitl [H5]; · iexact H5
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H5, H8, H9, H11, H12, H13, H14, H15, H16⟩
  iapply (block_run c i (word c i xt1) 4#32 1024 inb_S1280x2048_S256x2048_1024_0 packedbf16_S1280x2048_S256x2048_1024_0 arg5 harg5 arg8 harg8 arg9 harg9 arg11 harg11 arg12 harg12 arg13 harg13 arg14 harg14 arg15 harg15 arg16 harg16 x bg bu bd _ _ _ _ _ E _ K)
  isplitl [H5]; · iexact H5
  isplitl [H8]; · iexact H8
  isplitl [H9]; · iexact H9
  isplitl [H11]; · iexact H11
  isplitl [H12]; · iexact H12
  isplitl [H13]; · iexact H13
  isplitl [H14]; · iexact H14
  isplitl [H15]; · iexact H15
  isplitl [H16]; · iexact H16
  iintro ⟨H5, H8, H9, H11, H12, H13, H14, H15, H16⟩
  sl_step
  iapply Hk
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  iexact HT

end Cert.ExpertsIdeal.Hand

end
-- ==== Proof.ExpertsIdeal.Model.lean ====
module

public import proofs.«01_k».proof.Proof.ExpertsIdeal.Body

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ExpertsIdeal.Gen

variable {F : FTy → Type} [FloatOps F]

local notation "𝕄" => MT nD τ sig Unit (Elt F) ℕ (UR sig nD τ) ℕ

/-! ## What a point does to each block of rows

Facts about tiles alone: a block's turn changes that block's rows and no others. -/

/-- Block `k` is used by a group of `v` blocks. -/
abbrev used (v : BitVec 32) (k : ℕ) : Prop := (k : ℤ) < v.toInt

theorem slt_iff (v : BitVec 32) (k : ℕ) (hk : k < 5) : BitVec.slt (BitVec.ofNat 32 k) v = true ↔ used v k := by
  rw [BitVec.slt_iff_toInt_lt, WordCmp.toInt_ofNat_of_lt (by omega)]

theorem ne_iff : ∀ b : BitVec 1, IntOp.cmpi .ne (b.setWidth 32) 0#32 = 1#1 ↔ b = 1#1 := by decide
theorem and_iff : ∀ a b : BitVec 1, IntOp.andi a b = 1#1 ↔ a = 1#1 ∧ b = 1#1 := by decide
theorem ofBool_iff : ∀ b : Bool, BitVec.ofBool b = 1#1 ↔ b = true := by decide

theorem sgt_iff (v : BitVec 32) (k : ℕ) (hk : k < 5) : IntOp.cmpi .sgt v (BitVec.ofNat 32 k) = 1#1 ↔ used v k :=
  (ofBool_iff _).trans (slt_iff v k hk)

theorem pIn_iff (v : BitVec 32) (k : ℕ) (hk : k < 5) : pIn v (BitVec.ofNat 32 k) = 1#1 ↔ used v k :=
  (ne_iff _).trans (sgt_iff v k hk)

theorem eq_iff (i : grid0.Coords) (j : ℕ) (hj : j < 4) : IntOp.cmpi .eq (BitVec.ofNat 32 (i 1).val) (BitVec.ofNat 32 j) = 1#1 ↔ (i 1).val = j := by
  have h4 : (i 1).val < 4 := (i 1).isLt
  refine (ofBool_iff _).trans (beq_iff_eq.trans ⟨fun h => ?_, fun h => by rw [h]⟩)
  have := congrArg BitVec.toNat h
  rwa [WordCmp.toNat_ofNat_of_lt (by omega), WordCmp.toNat_ofNat_of_lt (by omega)] at this

theorem pInit_iff (i : grid0.Coords) (v : BitVec 32) (k : ℕ) (hk : k < 5) : pInit i v (BitVec.ofNat 32 k) = 1#1 ↔ used v k ∧ (i 1).val = 0 :=
  (ne_iff _).trans ((and_iff _ _).trans (and_congr (sgt_iff v k hk) (eq_iff i 0 (by omega))))

theorem pOut_iff (i : grid0.Coords) (v : BitVec 32) (k : ℕ) (hk : k < 5) : pOut i v (BitVec.ofNat 32 k) = 1#1 ↔ used v k ∧ (i 1).val = 3 :=
  (ne_iff _).trans ((and_iff _ _).trans (and_congr (sgt_iff v k hk) (eq_iff i 3 (by omega))))

theorem sle_iff (v : BitVec 32) (k : ℕ) (hk : k < 5) : IntOp.cmpi .sle v (BitVec.ofNat 32 k) = 1#1 ↔ ¬ used v k := by
  refine (ofBool_iff _).trans ?_
  show BitVec.sle v (BitVec.ofNat 32 k) = true ↔ _
  rw [BitVec.sle_iff_toInt_le, WordCmp.toInt_ofNat_of_lt (by omega)]; exact not_lt.symm

theorem pZero_iff (i : grid0.Coords) (v : BitVec 32) (k : ℕ) (hk : k < 5) : pZero i v (BitVec.ofNat 32 k) = 1#1 ↔ (¬ used v k ∧ used v 0) ∧ (i 1).val = 3 :=
  (ne_iff _).trans ((and_iff _ _).trans (and_congr ((and_iff _ _).trans (and_congr (sle_iff v k hk) (sgt_iff v 0 (by omega)))) (eq_iff i 3 (by omega))))

/-- Block `k`'s rows lie in the tile. -/
theorem inbAt (k : Fin 5) : Inb (256 * k.val) := by
  have := k.isLt
  intro a
  fin_cases a
  · show 256 * k.val + 256 ≤ 1280; omega
  · exact le_refl _

/-- Block `k` of a tile. -/
abbrev blkOf {e : EltTy} (k : Fin 5) (A : Vec F S1280x2048 e) : Vec F S256x2048 e := getRows (256 * k.val) (inbAt k) A

theorem blkOf_set_same {e : EltTy} (k : Fin 5) (A : Vec F S1280x2048 e) (w : Vec F S256x2048 e) : blkOf k (setRows (256 * k.val) A w) = w :=
  VecWindow.window_put_same (s := S1280x2048) A _ _ (inbAt k) w
theorem blkOf_set_other {e : EltTy} (k j : Fin 5) (h : k ≠ j) (A : Vec F S1280x2048 e) (w : Vec F S256x2048 e) : blkOf k (setRows (256 * j.val) A w) = blkOf k A := by
  refine VecWindow.window_put_of_disjoint (s := S1280x2048) A _ _ _ _ (inbAt k) w 0 ?_
  have : k.val ≠ j.val := fun e => h (Fin.ext e)
  show 256 * k.val + 256 ≤ 256 * j.val ∨ 256 * j.val + 256 ≤ 256 * k.val
  omega

/-- A place in a block. -/
def at2 (r : Fin 256) (q : Fin 2048) : S256x2048.Idx := fun a => match a with | ⟨0, _⟩ => r | ⟨1, _⟩ => q

/-- Tiles with the same blocks are the same. -/
theorem blk_ext {e : EltTy} (A B : Vec F S1280x2048 e) (h : ∀ k : Fin 5, blkOf k A = blkOf k B) : A = B := by
  funext x
  have h0 : (x 0).val < 1280 := (x 0).isLt
  have hk : (x 0).val / 256 < 5 := by omega
  have hj : (x 0).val % 256 < 256 := Nat.mod_lt _ (by omega)
  have := congrFun (h ⟨(x 0).val / 256, hk⟩) (at2 ⟨(x 0).val % 256, hj⟩ (x 1))
  have ex : (rows (256 * ((x 0).val / 256)) (inbAt ⟨(x 0).val / 256, hk⟩)).emb (at2 ⟨(x 0).val % 256, hj⟩ (x 1)) = x := by
    funext a
    apply Fin.ext
    fin_cases a
    · show 256 * ((x 0).val / 256) + 1 * ((x 0).val % 256) = (x 0).val; omega
    · show 0 + 1 * (x 1).val = (x 1).val; omega
  have e2 : A ((rows (256 * ((x 0).val / 256)) (inbAt ⟨(x 0).val / 256, hk⟩)).emb (at2 ⟨(x 0).val % 256, hj⟩ (x 1)))
      = B ((rows (256 * ((x 0).val / 256)) (inbAt ⟨(x 0).val / 256, hk⟩)).emb (at2 ⟨(x 0).val % 256, hj⟩ (x 1))) := this
  rwa [ex] at e2

/-- A used block's sums after a point, from the sums it found. -/
def newRows (i : grid0.Coords) (k : Fin 5) (x : Vec F S1280x2048 .bf16) (wg : Vec F S2048x512 .bf16) (bg : Vec F S1x1x1x512 .f32)
    (wu : Vec F S2048x512 .bf16) (bu : Vec F S1x1x1x512 .f32) (wd : Vec F S512x2048 .bf16) (bd : Vec F S1x1x1x2048 .f32) (prev : Vec F S256x2048 .f32) : Vec F S256x2048 .f32 :=
  k0_pay1 (if (i 1).val = 0 then k0_pay4 bd else prev) (k0_pay8 (blkOf k x) wg bg wu bu) wd

variable (i : grid0.Coords) (v : BitVec 32) (x : Vec F S1280x2048 .bf16) (wg : Vec F S2048x512 .bf16) (bg : Vec F S1x1x1x512 .f32)
    (wu : Vec F S2048x512 .bf16) (bu : Vec F S1x1x1x512 .f32) (wd : Vec F S512x2048 .bf16) (bd : Vec F S1x1x1x2048 .f32)

theorem accStep_same (k : Fin 5) (hu : used v k.val) (A : Vec F S1280x2048 .f32) :
    blkOf k (accStep i v (BitVec.ofNat 32 k.val) (256 * k.val) (inbAt k) x wg bg wu bu wd bd A) = newRows i k x wg bg wu bu wd bd (blkOf k A) := by
  unfold accStep newRows
  rw [if_pos ((pIn_iff v k.val k.isLt).2 hu), blkOf_set_same]
  by_cases hc : (i 1).val = 0
  · rw [if_pos ((pInit_iff i v k.val k.isLt).2 ⟨hu, hc⟩), if_pos hc]
    exact congrArg (fun w => k0_pay1 w _ _) (blkOf_set_same k A _)
  · rw [if_neg (fun h => hc ((pInit_iff i v k.val k.isLt).1 h).2), if_neg hc]

theorem accStep_other (k j : Fin 5) (h : k ≠ j) (A : Vec F S1280x2048 .f32) :
    blkOf k (accStep i v (BitVec.ofNat 32 j.val) (256 * j.val) (inbAt j) x wg bg wu bu wd bd A) = blkOf k A := by
  unfold accStep
  split <;> split <;> simp only [blkOf_set_other k j h]

theorem outStep_other (k j : Fin 5) (h : k ≠ j) (A : Vec F S1280x2048 .f32) (y : Vec F S1280x2048 .bf16) :
    blkOf k (outStep i v (BitVec.ofNat 32 j.val) (256 * j.val) (inbAt j) A y) = blkOf k y := by
  unfold outStep
  split <;> split <;> simp only [blkOf_set_other k j h]

theorem outStep_off (k : Fin 5) (h : ¬ (used v 0 ∧ (i 1).val = 3)) (A : Vec F S1280x2048 .f32) (y : Vec F S1280x2048 .bf16) :
    outStep i v (BitVec.ofNat 32 k.val) (256 * k.val) (inbAt k) A y = y := by
  unfold outStep
  rw [if_neg (fun e => h ((fun (z : (¬ used v k.val ∧ used v 0) ∧ (i 1).val = 3) => ⟨z.1.2, z.2⟩) ((pZero_iff i v k.val k.isLt).1 e))),
    if_neg (fun e => h ((fun (z : used v k.val ∧ (i 1).val = 3) => ⟨lt_of_le_of_lt (show ((0 : ℕ) : ℤ) ≤ (k.val : ℤ) by omega) z.1, z.2⟩) ((pOut_iff i v k.val k.isLt).1 e)))]

theorem outStep_same (k : Fin 5) (h0 : used v 0) (hc : (i 1).val = 3) (A : Vec F S1280x2048 .f32) (y : Vec F S1280x2048 .bf16) :
    blkOf k (outStep i v (BitVec.ofNat 32 k.val) (256 * k.val) (inbAt k) A y) = if used v k.val then k0_pay2 (blkOf k A) else k0_pay3 (F := F) := by
  unfold outStep
  by_cases hu : used v k.val
  · rw [if_neg (fun e => ((pZero_iff i v k.val k.isLt).1 e).1.1 hu), if_pos ((pOut_iff i v k.val k.isLt).2 ⟨hu, hc⟩), blkOf_set_same, if_pos hu]
  · rw [if_pos ((pZero_iff i v k.val k.isLt).2 ⟨⟨hu, h0⟩, hc⟩), blkOf_set_same, if_neg hu]

/-- The point's sums, block by block. -/
theorem acc4_blk (k : Fin 5) (hu : used v k.val) (A : Vec F S1280x2048 .f32) :
    blkOf k (acc4 i v x wg bg wu bu wd bd A) = newRows i k x wg bg wu bu wd bd (blkOf k A) := by
  have S := accStep_same i v x wg bg wu bu wd bd
  have O := accStep_other i v x wg bg wu bu wd bd
  fin_cases k
  · exact (O 0 4 (by decide) _).trans <| (O 0 3 (by decide) _).trans <| (O 0 2 (by decide) _).trans <| (O 0 1 (by decide) _).trans <| S 0 hu A
  · exact (O 1 4 (by decide) _).trans <| (O 1 3 (by decide) _).trans <| (O 1 2 (by decide) _).trans <| (S 1 hu _).trans <| congrArg _ (O 1 0 (by decide) A)
  · exact (O 2 4 (by decide) _).trans <| (O 2 3 (by decide) _).trans <| (S 2 hu _).trans <| congrArg _ <| (O 2 1 (by decide) _).trans (O 2 0 (by decide) A)
  · exact (O 3 4 (by decide) _).trans <| (S 3 hu _).trans <| congrArg _ <| (O 3 2 (by decide) _).trans <| (O 3 1 (by decide) _).trans (O 3 0 (by decide) A)
  · exact (S 4 hu _).trans <| congrArg _ <| (O 4 3 (by decide) _).trans <| (O 4 2 (by decide) _).trans <| (O 4 1 (by decide) _).trans (O 4 0 (by decide) A)

/-- A point that writes nothing out leaves the output tile. -/
theorem out4_off (h : ¬ (used v 0 ∧ (i 1).val = 3)) (A : Vec F S1280x2048 .f32) (y : Vec F S1280x2048 .bf16) : out4 i v x wg bg wu bu wd bd A y = y := by
  have O := outStep_off (F := F) i v
  exact (O 4 h _ _).trans <| (O 3 h _ _).trans <| (O 2 h _ _).trans <| (O 1 h _ _).trans <| O 0 h _ _

/-- A point that does write leaves every block of it new: the sums of the used ones, zeros in the others. -/
theorem out4_blk (k : Fin 5) (h0 : used v 0) (hc : (i 1).val = 3) (A : Vec F S1280x2048 .f32) (y : Vec F S1280x2048 .bf16) :
    blkOf k (out4 i v x wg bg wu bu wd bd A y) = if used v k.val then k0_pay2 (newRows i k x wg bg wu bu wd bd (blkOf k A)) else k0_pay3 (F := F) := by
  have O := outStep_other (F := F) i v
  have S := outStep_same (F := F) i v
  have R : ∀ (B : Vec F S1280x2048 .f32), (used v k.val → blkOf k B = newRows i k x wg bg wu bu wd bd (blkOf k A)) →
      (if used v k.val then k0_pay2 (blkOf k B) else k0_pay3 (F := F)) = if used v k.val then k0_pay2 (newRows i k x wg bg wu bu wd bd (blkOf k A)) else k0_pay3 (F := F) := fun B hB => by
    by_cases hu : used v k.val
    · rw [if_pos hu, if_pos hu, hB hu]
    · rw [if_neg hu, if_neg hu]
  have P := accStep_same i v x wg bg wu bu wd bd
  have Q := accStep_other i v x wg bg wu bu wd bd
  fin_cases k
  · exact (O 0 4 (by decide) _ _).trans <| (O 0 3 (by decide) _ _).trans <| (O 0 2 (by decide) _ _).trans <| (O 0 1 (by decide) _ _).trans <| (S 0 h0 hc _ _).trans <| R _ fun hu => P 0 hu A
  · exact (O 1 4 (by decide) _ _).trans <| (O 1 3 (by decide) _ _).trans <| (O 1 2 (by decide) _ _).trans <| (S 1 h0 hc _ _).trans <| R _ fun hu => (P 1 hu _).trans <| congrArg _ (Q 1 0 (by decide) A)
  · exact (O 2 4 (by decide) _ _).trans <| (O 2 3 (by decide) _ _).trans <| (S 2 h0 hc _ _).trans <| R _ fun hu => (P 2 hu _).trans <| congrArg _ <| (Q 2 1 (by decide) _).trans (Q 2 0 (by decide) A)
  · exact (O 3 4 (by decide) _ _).trans <| (S 3 h0 hc _ _).trans <| R _ fun hu => (P 3 hu _).trans <| congrArg _ <| (Q 3 2 (by decide) _).trans <| (Q 3 1 (by decide) _).trans (Q 3 0 (by decide) A)
  · exact (S 4 h0 hc _ _).trans <| R _ fun hu => (P 4 hu _).trans <| congrArg _ <| (Q 4 3 (by decide) _).trans <| (Q 4 2 (by decide) _).trans <| (Q 4 1 (by decide) _).trans (Q 4 0 (by decide) A)

/-- A tile from its blocks. -/
def tileOf {e : EltTy} (f : Fin 5 → Vec F S256x2048 e) : Vec F S1280x2048 e :=
  fun y => f ⟨(y 0).val / 256, by have : (y 0).val < 1280 := (y 0).isLt; omega⟩ (at2 ⟨(y 0).val % 256, Nat.mod_lt _ (by omega)⟩ (y 1))

theorem blkOf_tileOf {e : EltTy} (f : Fin 5 → Vec F S256x2048 e) (k : Fin 5) : blkOf k (tileOf f) = f k := by
  funext j
  have hk := k.isLt
  have hj : (j 0).val < 256 := (j 0).isLt
  show tileOf f ((rows (256 * k.val) (inbAt k)).emb j) = f k j
  unfold tileOf
  have e0 : ((rows (256 * k.val) (inbAt k)).emb j 0).val = 256 * k.val + (j 0).val := by show 256 * k.val + 1 * (j 0).val = _; omega
  have e1 : ((rows (256 * k.val) (inbAt k)).emb j 1).val = (j 1).val := by show 0 + 1 * (j 1).val = _; omega
  refine congr (congrArg f (Fin.ext ?_)) (funext fun a => ?_)
  · show ((rows (256 * k.val) (inbAt k)).emb j 0).val / 256 = k.val; omega
  · apply Fin.ext
    fin_cases a
    · show ((rows (256 * k.val) (inbAt k)).emb j 0).val % 256 = (j 0).val; omega
    · show ((rows (256 * k.val) (inbAt k)).emb j 1).val = (j 1).val; omega

end Cert.ExpertsIdeal.Hand

end
-- ==== Proof.ExpertsIdeal.Points.lean ====
module

public import proofs.«01_k».proof.Proof.Experts.Spec
public import proofs.«01_k».proof.Proof.ExpertsIdeal.Model
public import Idealize.ShloMosaic.Lib.MatmulPlain
public import Idealize.ShloMosaic.Lib.ValueLayout
public import Idealize.ShloMosaic.Lib.Pipeline.Value

@[expose] public section

set_option maxRecDepth 16384

noncomputable section

namespace Cert.ExpertsIdeal.Hand

open Idealize.ShloMosaic Idealize.ShloMosaic.TcCoe
open Cert.ExpertsIdeal.Gen Cert.Moe
open scoped BigOperators

/-! ## A point's blocks, entry by entry -/

/-- A product with its bias along the rows. -/
theorem lin_apply (x : FVec Ideal S256x2048 .bf16) (w : FVec Ideal S2048x512 .bf16) (b : Vec Ideal S1x1x1x512 .f32) (r : Fin 256) (j : Fin 512) :
    addf (F := Ideal) (matmul (F := Ideal) dot_S256x2048_S2048x512_S256x512_1_0_0_1_n_n none x w (constant (F := Ideal) S256x512 .f32 0x00000000#32))
      (broadcastTo S256x512 (shapeCast S1x512 b shapeCasts_S1x1x1x512_S1x512) broadcasts_S1x512_S256x512) (ix2 r j)
      = (∑ d : Fin 2048, (x (ix2 r d) : EReal) * w (ix2 d j)) + b (ix4 0 0 0 j) := by
  refine congrArg₂ (· + ·) ?_ ?_
  · refine (Ideal.matmul_plain_apply (M := 256) (K := 2048) (N := 512) none x w (constant (F := Ideal) S256x512 .f32 0x00000000#32) r j).trans ?_
    exact (congrArg (· + _) Ideal.ofBits_zero_f32).trans (zero_add _)
  · refine (ValueIdx.broadcastTo_1b_ab_apply _ broadcasts_S1x512_S256x512 r j).trans ?_
    refine shapeCast_apply b shapeCasts_S1x1x1x512_S1x512 _ (ix4 0 0 0 j) ?_
    rw [Shape.rowMajor_val_four, Shape.rowMajor_val_two]
    show ((0 * 1 + 0) * 1 + 0) * 512 + j.val = 0 * 512 + j.val
    omega

theorem zero_sub_word (y : EReal) : (FloatOps.ofBits (F := Ideal) .f32 0x00000000#32 : EReal) - y = -y := by
  rw [show (FloatOps.ofBits (F := Ideal) .f32 0x00000000#32 : EReal) = 0 from Ideal.ofBits_zero_f32, zero_sub]

/-- The hidden activations of a block of rows. -/
theorem hidden_apply (x : Vec Ideal S256x2048 .bf16) (wg : Vec Ideal S2048x512 .bf16) (bg : Vec Ideal S1x1x1x512 .f32) (wu : Vec Ideal S2048x512 .bf16)
    (bu : Vec Ideal S1x1x1x512 .f32) (r : Fin 256) (j : Fin 512) :
    (k0_pay8 (F := Ideal) x wg bg wu bu (ix2 r j) : EReal)
      = act ((∑ d : Fin 2048, (x (ix2 r d) : EReal) * wg (ix2 d j)) + bg (ix4 0 0 0 j)) ((∑ d : Fin 2048, (x (ix2 r d) : EReal) * wu (ix2 d j)) + bu (ix4 0 0 0 j)) := by
  rw [← lin_apply x wg bg r j, ← lin_apply x wu bu r j]
  unfold act
  rw [← zero_sub_word]
  rfl

/-- The second product's part added to the sums so far. -/
theorem addPart_apply (a : Vec Ideal S256x2048 .f32) (h : Vec Ideal S256x512 .bf16) (w : Vec Ideal S512x2048 .bf16) (r : Fin 256) (q : Fin 2048) :
    (k0_pay1 (F := Ideal) a h w (ix2 r q) : EReal) = a (ix2 r q) + ∑ j : Fin 512, (h (ix2 r j) : EReal) * w (ix2 j q) := by
  unfold k0_pay1
  rw [shapeCast_self]
  refine congrArg ((a (ix2 r q) : EReal) + ·) ?_
  refine (Ideal.matmul_plain_apply (M := 256) (K := 512) (N := 2048) none h w (constant (F := Ideal) S256x2048 .f32 0x00000000#32) r q).trans ?_
  exact (congrArg (· + _) Ideal.ofBits_zero_f32).trans (zero_add _)

/-- The sums start at the second bias. -/
theorem start_apply (b : Vec Ideal S1x1x1x2048 .f32) (r : Fin 256) (q : Fin 2048) : (k0_pay4 (F := Ideal) b (ix2 r q) : EReal) = b (ix4 0 0 0 q) := by
  unfold k0_pay4
  simp only [shapeCast_self]
  refine (ValueIdx.broadcastTo_1b_ab_apply _ _ r q).trans ?_
  refine shapeCast_apply b _ _ (ix4 0 0 0 q) ?_
  rw [Shape.rowMajor_val_four, Shape.rowMajor_val_two]
  show ((0 * 1 + 0) * 1 + 0) * 2048 + q.val = 0 * 2048 + q.val
  omega

/-- The weights' copies, entry by entry. -/
theorem copyG_apply (w : Vec Ideal S1x1x2048x512 .f32) (d : Fin 2048) (j : Fin 512) : (k0_pay13 (F := Ideal) w (ix2 d j) : EReal) = w (ix4 0 0 d j) := by
  unfold k0_pay13
  rw [shapeCast_self]
  refine shapeCast_apply w _ _ (ix4 0 0 d j) ?_
  rw [Shape.rowMajor_val_four, Shape.rowMajor_val_two]
  show ((0 * 1 + 0) * 2048 + d.val) * 512 + j.val = d.val * 512 + j.val
  omega
theorem copyU_apply (w : Vec Ideal S1x1x2048x512 .f32) (d : Fin 2048) (j : Fin 512) : (k0_pay14 (F := Ideal) w (ix2 d j) : EReal) = w (ix4 0 0 d j) := by
  unfold k0_pay14
  rw [shapeCast_self]
  refine shapeCast_apply w _ _ (ix4 0 0 d j) ?_
  rw [Shape.rowMajor_val_four, Shape.rowMajor_val_two]
  show ((0 * 1 + 0) * 2048 + d.val) * 512 + j.val = d.val * 512 + j.val
  omega
theorem copyD_apply (w : Vec Ideal S1x1x512x2048 .f32) (j : Fin 512) (q : Fin 2048) : (k0_pay15 (F := Ideal) w (ix2 j q) : EReal) = w (ix4 0 0 j q) := by
  unfold k0_pay15
  rw [shapeCast_self]
  refine shapeCast_apply w _ _ (ix4 0 0 j q) ?_
  rw [Shape.rowMajor_val_four, Shape.rowMajor_val_two]
  show ((0 * 1 + 0) * 512 + j.val) * 2048 + q.val = j.val * 2048 + q.val
  omega

/-- A block's rows in its tile. -/
theorem blk_apply {e : EltTy} (k : Fin 5) (A : Vec Ideal S1280x2048 e) (r : Fin 256) (d : Fin 2048) (q : Fin 1280) (hq : q.val = 256 * k.val + r.val) :
    blkOf k A (ix2 r d) = A (ix2 q d) := by
  show A ((rows (256 * k.val) (inbAt k)).emb (ix2 r d)) = _
  refine congrArg A (funext fun a => Fin.ext ?_)
  match a with
  | ⟨0, _⟩ => show 256 * k.val + 1 * r.val = q.val; omega
  | ⟨1, _⟩ => show 0 + 1 * d.val = d.val; omega

/-- A point's step, entry by entry. -/
theorem newRows_apply (i : grid0.Coords) (k : Fin 5) (x : Vec Ideal S1280x2048 .bf16) (wg : Vec Ideal S1x1x2048x512 .f32) (bg : Vec Ideal S1x1x1x512 .f32)
    (wu : Vec Ideal S1x1x2048x512 .f32) (bu : Vec Ideal S1x1x1x512 .f32) (wd : Vec Ideal S1x1x512x2048 .f32) (bd : Vec Ideal S1x1x1x2048 .f32)
    (prev : Vec Ideal S256x2048 .f32) (r : Fin 256) (q : Fin 2048) (p : Fin 1280) (hp : p.val = 256 * k.val + r.val) :
    (newRows i k x (k0_pay13 wg) bg (k0_pay14 wu) bu (k0_pay15 wd) bd prev (ix2 r q) : EReal)
      = (if (i 1).val = 0 then (bd (ix4 0 0 0 q) : EReal) else prev (ix2 r q))
        + ∑ j : Fin 512, act ((∑ d : Fin 2048, (x (ix2 p d) : EReal) * wg (ix4 0 0 d j)) + bg (ix4 0 0 0 j))
            ((∑ d : Fin 2048, (x (ix2 p d) : EReal) * wu (ix4 0 0 d j)) + bu (ix4 0 0 0 j)) * (wd (ix4 0 0 j q) : EReal) := by
  unfold newRows
  rw [addPart_apply]
  refine congrArg₂ (· + ·) ?_ (Finset.sum_congr rfl fun j _ => ?_)
  · by_cases h : (i 1).val = 0
    · rw [if_pos h, if_pos h, start_apply]
    · rw [if_neg h, if_neg h]
  · rw [hidden_apply, copyD_apply]
    simp only [copyG_apply, copyU_apply, blk_apply k x r _ p hp]

end Cert.ExpertsIdeal.Hand
end
-- ==== Proof.ExpertsIdeal.Layer.lean ====
module

public import proofs.«01_k».proof.Proof.Gen.ExpertsIdeal
public import proofs.«01_k».proof.Proof.Gen.ExpertsIdeal.Launch

@[expose] public section

noncomputable section

namespace Cert.ExpertsIdeal.Hand

open Idealize.ShloMosaic Idealize.ShloMosaic.TcCoe Idealize.SL.Sem
open Cert.ExpertsIdeal.Gen

/-! The experts' call at each of the four layers. The four calls run one body on one set of windows; the index maps of the six windows on
    the stacks of weights differ in their first coordinate, the layer. The proof is made once, for a layer `l`; the printed programs
    are the instances. -/

variable {F : FTy → Type} [FloatOps F] (l : Fin 4)

/-- A window's place in a stack of weights, at layer `l`. -/
def atL (f : grid0.Coords → Fin 4 → ℕ) (i : grid0.Coords) : Fin 4 → ℕ := ![l.val, f i 1, f i 2, f i 3]

theorem atL_congr {f : grid0.Coords → Fin 4 → ℕ} {i j : grid0.Coords} (h : f i = f j) : atL l f i = atL l f j :=
  congrArg (fun v : Fin 4 → ℕ => (![l.val, v 1, v 2, v 3] : Fin 4 → ℕ)) h

/-- The windows' index maps at layer `l`. -/
abbrev ixL (pf : pre0.Contents (Elt F)) : (w : Fin 8) → grid0.Coords → Fin (spec0 w).shape.rank → Nat := fun
  | 0 => cc0_transform_0 k0_off1_inb numel1_S1 pf
  | 1 => atL l (cc0_transform_1 k0_off1_inb numel1_S1 pf)
  | 2 => atL l (cc0_transform_2 k0_off1_inb numel1_S1 pf)
  | 3 => atL l (cc0_transform_3 k0_off1_inb numel1_S1 pf)
  | 4 => atL l (cc0_transform_4 k0_off1_inb numel1_S1 pf)
  | 5 => atL l (cc0_transform_5 k0_off1_inb numel1_S1 pf)
  | 6 => atL l (cc0_transform_6 k0_off1_inb numel1_S1 pf)
  | 7 => cc0_transform_7 k0_off1_inb numel1_S1 pf
  | ⟨_ + 8, h⟩ => absurd h (Nat.not_lt.2 (Nat.le_add_left _ _))

/-- They do not depend on the axes they do not read. -/
theorem hreadsL (pf : pre0.Contents (Elt F)) : ∀ w (i i' : grid0.Coords), (∀ a, (spec0 w).reads a = true → i a = i' a) → ixL l pf w i = ixL l pf w i' := fun
  | 0 => hreads0_0 pf
  | 1 => fun i i' h => atL_congr l (hreads0_1 pf i i' h)
  | 2 => fun i i' h => atL_congr l (hreads0_2 pf i i' h)
  | 3 => fun i i' h => atL_congr l (hreads0_3 pf i i' h)
  | 4 => fun i i' h => atL_congr l (hreads0_4 pf i i' h)
  | 5 => fun i i' h => atL_congr l (hreads0_5 pf i i' h)
  | 6 => fun i i' h => atL_congr l (hreads0_6 pf i i' h)
  | 7 => hreads0_7 pf
  | ⟨_ + 8, h⟩ => absurd h (Nat.not_lt.2 (Nat.le_add_left _ _))

/-- Every block of the weights and of the rows lies in its array. -/
def okL (pf : pre0.Contents (Elt F)) : Prop :=
  (∀ i : grid0.Coords, ∃ h : (∀ a, (cc0_transform_0 k0_off1_inb numel1_S1 pf i a + 1) * S1280x2048.size a ≤ S72960x2048.size a), EltTy.bits .bf16 = 32 ∨ (Rect.block (s := S72960x2048) S1280x2048.size (cc0_transform_0 k0_off1_inb numel1_S1 pf i) h).WholeWords (EltTy.packing .bf16)) ∧
  (∀ i : grid0.Coords, ∃ h : (∀ a, (atL l (cc0_transform_1 k0_off1_inb numel1_S1 pf) i a + 1) * S1x1x2048x512.size a ≤ S4x32x2048x4096.size a), EltTy.bits .f32 = 32 ∨ (Rect.block (s := S4x32x2048x4096) S1x1x2048x512.size (atL l (cc0_transform_1 k0_off1_inb numel1_S1 pf) i) h).WholeWords (EltTy.packing .f32)) ∧
  (∀ i : grid0.Coords, ∃ h : (∀ a, (atL l (cc0_transform_2 k0_off1_inb numel1_S1 pf) i a + 1) * S1x1x2048x512.size a ≤ S4x32x2048x4096.size a), EltTy.bits .f32 = 32 ∨ (Rect.block (s := S4x32x2048x4096) S1x1x2048x512.size (atL l (cc0_transform_2 k0_off1_inb numel1_S1 pf) i) h).WholeWords (EltTy.packing .f32)) ∧
  (∀ i : grid0.Coords, ∃ h : (∀ a, (atL l (cc0_transform_3 k0_off1_inb numel1_S1 pf) i a + 1) * S1x1x1x512.size a ≤ S4x32x1x4096.size a), EltTy.bits .f32 = 32 ∨ (Rect.block (s := S4x32x1x4096) S1x1x1x512.size (atL l (cc0_transform_3 k0_off1_inb numel1_S1 pf) i) h).WholeWords (EltTy.packing .f32)) ∧
  (∀ i : grid0.Coords, ∃ h : (∀ a, (atL l (cc0_transform_4 k0_off1_inb numel1_S1 pf) i a + 1) * S1x1x1x512.size a ≤ S4x32x1x4096.size a), EltTy.bits .f32 = 32 ∨ (Rect.block (s := S4x32x1x4096) S1x1x1x512.size (atL l (cc0_transform_4 k0_off1_inb numel1_S1 pf) i) h).WholeWords (EltTy.packing .f32)) ∧
  (∀ i : grid0.Coords, ∃ h : (∀ a, (atL l (cc0_transform_5 k0_off1_inb numel1_S1 pf) i a + 1) * S1x1x512x2048.size a ≤ S4x32x2048x2048.size a), EltTy.bits .f32 = 32 ∨ (Rect.block (s := S4x32x2048x2048) S1x1x512x2048.size (atL l (cc0_transform_5 k0_off1_inb numel1_S1 pf) i) h).WholeWords (EltTy.packing .f32)) ∧
  (∀ i : grid0.Coords, ∃ h : (∀ a, (atL l (cc0_transform_6 k0_off1_inb numel1_S1 pf) i a + 1) * S1x1x1x2048.size a ≤ S4x32x1x2048.size a), EltTy.bits .f32 = 32 ∨ (Rect.block (s := S4x32x1x2048) S1x1x1x2048.size (atL l (cc0_transform_6 k0_off1_inb numel1_S1 pf) i) h).WholeWords (EltTy.packing .f32)) ∧
  (∀ i : grid0.Coords, ∃ h : (∀ a, (cc0_transform_7 k0_off1_inb numel1_S1 pf i a + 1) * S1280x2048.size a ≤ S72960x2048.size a), EltTy.bits .bf16 = 32 ∨ (Rect.block (s := S72960x2048) S1280x2048.size (cc0_transform_7 k0_off1_inb numel1_S1 pf i) h).WholeWords (EltTy.packing .bf16))

instance (pf : pre0.Contents (Elt F)) : Decidable (okL l pf) := decidable_of_iff' _ (Iff.of_eq (okL.eq_1 l pf))

theorem hinbL (pf : pre0.Contents (Elt F)) (hok : okL l pf) : ∀ w (i : grid0.Coords) a, (ixL l pf w i a + 1) * (spec0 w).size a ≤ (spec0 w).shape.size a := fun
  | 0 => fun i a => (hok.1 i).elim fun h _ => h a
  | 1 => fun i a => (hok.2.1 i).elim fun h _ => h a
  | 2 => fun i a => (hok.2.2.1 i).elim fun h _ => h a
  | 3 => fun i a => (hok.2.2.2.1 i).elim fun h _ => h a
  | 4 => fun i a => (hok.2.2.2.2.1 i).elim fun h _ => h a
  | 5 => fun i a => (hok.2.2.2.2.2.1 i).elim fun h _ => h a
  | 6 => fun i a => (hok.2.2.2.2.2.2.1 i).elim fun h _ => h a
  | 7 => fun i a => (hok.2.2.2.2.2.2.2 i).elim fun h _ => h a
  | ⟨_ + 8, h⟩ => absurd h (Nat.not_lt.2 (Nat.le_add_left _ _))

theorem hwxL (pf : pre0.Contents (Elt F)) (hok : okL l pf) : ∀ w (i : grid0.Coords),
    (spec0 w).elt.bits = 32 ∨ (Rect.block (spec0 w).size (ixL l pf w i) (hinbL l pf hok w i)).WholeWords (spec0 w).elt.packing := fun
  | 0 => fun i => (hok.1 i).elim fun _ h => h
  | 1 => fun i => (hok.2.1 i).elim fun _ h => h
  | 2 => fun i => (hok.2.2.1 i).elim fun _ h => h
  | 3 => fun i => (hok.2.2.2.1 i).elim fun _ h => h
  | 4 => fun i => (hok.2.2.2.2.1 i).elim fun _ h => h
  | 5 => fun i => (hok.2.2.2.2.2.1 i).elim fun _ h => h
  | 6 => fun i => (hok.2.2.2.2.2.2.1 i).elim fun _ h => h
  | 7 => fun i => (hok.2.2.2.2.2.2.2 i).elim fun _ h => h
  | ⟨_ + 8, h⟩ => absurd h (Nat.not_lt.2 (Nat.le_add_left _ _))

/-- The call at layer `l` as a pipeline, and its program. -/
abbrev pcfgL : Pipeline.PCfg sig Λ₀ (Elt F) :=
  Pipeline.PCfg.ofSpecs pre0 grid0 hrank0 (fun _ => grid0.bound) (fun _ _ _ => rfl)
    8 spec0 hcount0 harr0 (ixL l) (hreadsL l) (okL l) (hinbL l) (hwxL l) 0 (fun _ _ t s => (t, s)) (fun pf => idle0 pf)
abbrev cfgL (a : (pcfgL (F := F) l).Adm) : Pipeline.Cfg sig Λ₀ := (pcfgL l).at a
abbrev pcfgsL : Fin 1 → Pipeline.PCfg sig Λ₀ (Elt F) := fun _ => pcfgL l
def defsL : Defs nD τ sig (Elt F) (Pipeline.Sig Λ₀ (Fin 1) fun p => (pcfgsL (F := F) l p).Adm) := Pipeline.defs (pcfgsL l) defs₀
def mainL : Dev nD → Prog (TpuEff nD τ sig (Elt F) (Pipeline.Sig Λ₀ (Fin 1) fun p => (pcfgsL (F := F) l p).Adm) .tc) PUnit := fun _ => do
  Prog.lift (.customCall (Pipeline.entry 0) ())
  pure ⟨⟩

theorem mainL_chain (c : Dev nD) : mainL (F := F) l c = (Pipeline.chain
  [ Prog.lift (.customCall (Pipeline.entry 0) ()) ] : Prog (TpuEff nD τ sig (Elt F) (Pipeline.Sig Λ₀ (Fin 1) fun p => (pcfgsL (F := F) l p).Adm) .tc) PUnit) := rfl

/-- The layout facts of the launch, which no layer enters. -/
theorem launchL : Pipeline.PLaunchFacts₀ (nD := nD) (τ := τ) (pcfgsL (F := F) l) 0 :=
  ⟨fun a => Pipeline.cellOf_injective_of_table (Pipeline.pin (pcfgsL (F := F) l) a) semTab
      (fun | 0 => rfl | ⟨_ + 1, h⟩ => absurd h (Nat.not_lt.2 (Nat.le_add_left _ _))) semsDistinct semsDisjoint,
    winFacts₀0, sharedIn0, preFacts0, block_pos0, arr_whole0, stage_whole0⟩

end Cert.ExpertsIdeal.Hand

end
-- ==== Proof.ExpertsIdeal.Setup.lean ====
module

public import proofs.«01_k».proof.Proof.ExpertsIdeal.Model
public import proofs.«01_k».proof.Proof.ExpertsIdeal.Layer

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable {l : Fin 4} (m : (ℓ : Loc nD τ sig) → Buf (Elt F) ℓ) (ρ : Dev nD → PrngReg)

/-! ## What the call finds

No host code runs before the call, so it finds the memory as it was. -/

/-- A buffer as the call finds it. -/
abbrev V (c : Dev nD) (b : Ref sig .tc) : Buf (Elt F) ((c : Thread nD τ).loc b) := m ((c : Thread nD τ).loc b)

set_option maxHeartbeats 800000 in
theorem hmain (𝒱₀ : Variants) : Pipeline.HMainP (Ix := Unit) (Name := ℕ) (U := UR sig nD τ) (Lvl := ℕ) (pcfgsL l) 0 defs₀ 𝒱₀ m (mainL (F := F) l) (V m) :=
  Pipeline.hmainP_region (pcfgsL l) 0 defs₀ 𝒱₀ m (mainL l) fun c => (mainL_chain l c).trans rfl

/-- The tables' contents. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
variable (l) in
/-- Every block the tables select lies inside its array. -/
abbrev Ok : Prop := okL (F := F) l (tbl m)
abbrev adm (hO : Ok l m) : (pcfgL (F := F) l).Adm := ⟨tbl m, hO⟩
abbrev cfgM (hO : Ok l m) : Pipeline.Cfg sig Λ₀ := cfgL l (adm m hO)

/-- The halves of the tables that the body holds. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- Window `w`'s block at a point, as the call finds it. -/
def iblk (hO : Ok l m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok l m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok l m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok l m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok l m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok l m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok l m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok l m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The blocks, by name -/

/-- The tokens' rows. -/
abbrev xB (hO : Ok l m) (c : Dev nD) (t : Fin grid0.N) : Vec F S1280x2048 .bf16 := iblk m hO c 0 t
/-- The gate's weights. -/
abbrev ugB (hO : Ok l m) (c : Dev nD) (t : Fin grid0.N) : Vec F S1x1x2048x512 .f32 := iblk m hO c 1 t
/-- The other factor's weights. -/
abbrev uuB (hO : Ok l m) (c : Dev nD) (t : Fin grid0.N) : Vec F S1x1x2048x512 .f32 := iblk m hO c 2 t
/-- The gate's bias. -/
abbrev bgB (hO : Ok l m) (c : Dev nD) (t : Fin grid0.N) : Vec F S1x1x1x512 .f32 := iblk m hO c 3 t
/-- The other factor's bias. -/
abbrev buB (hO : Ok l m) (c : Dev nD) (t : Fin grid0.N) : Vec F S1x1x1x512 .f32 := iblk m hO c 4 t
/-- The second weights. -/
abbrev udB (hO : Ok l m) (c : Dev nD) (t : Fin grid0.N) : Vec F S1x1x512x2048 .f32 := iblk m hO c 5 t
/-- The second bias. -/
abbrev bdB (hO : Ok l m) (c : Dev nD) (t : Fin grid0.N) : Vec F S1x1x1x2048 .f32 := iblk m hO c 6 t
abbrev ms0_0 (hO : Ok l m) (t : Fin (cfgM m hO).N) : Memref sig .tc .vmem S1280x2048 .bf16 := spec0_0.stage ((cfgM m hO).slots t 0)
abbrev hs0_0 (hO : Ok l m) (t : Fin (cfgM m hO).N) : (ms0_0 m hO t).IsWhole := hstage0_0 (((cfgM m hO).slots t 0).cast nbuf0_0)
abbrev ms0_1 (hO : Ok l m) (t : Fin (cfgM m hO).N) : Memref sig .tc .vmem S1x1x2048x512 .f32 := spec0_1.stage ((cfgM m hO).slots t 1)
abbrev hs0_1 (hO : Ok l m) (t : Fin (cfgM m hO).N) : (ms0_1 m hO t).IsWhole := hstage0_1 (((cfgM m hO).slots t 1).cast nbuf0_1)
abbrev ms0_2 (hO : Ok l m) (t : Fin (cfgM m hO).N) : Memref sig .tc .vmem S1x1x2048x512 .f32 := spec0_2.stage ((cfgM m hO).slots t 2)
abbrev hs0_2 (hO : Ok l m) (t : Fin (cfgM m hO).N) : (ms0_2 m hO t).IsWhole := hstage0_2 (((cfgM m hO).slots t 2).cast nbuf0_2)
abbrev ms0_3 (hO : Ok l m) (t : Fin (cfgM m hO).N) : Memref sig .tc .vmem S1x1x1x512 .f32 := spec0_3.stage ((cfgM m hO).slots t 3)
abbrev hs0_3 (hO : Ok l m) (t : Fin (cfgM m hO).N) : (ms0_3 m hO t).IsWhole := hstage0_3 (((cfgM m hO).slots t 3).cast nbuf0_3)
abbrev ms0_4 (hO : Ok l m) (t : Fin (cfgM m hO).N) : Memref sig .tc .vmem S1x1x1x512 .f32 := spec0_4.stage ((cfgM m hO).slots t 4)
abbrev hs0_4 (hO : Ok l m) (t : Fin (cfgM m hO).N) : (ms0_4 m hO t).IsWhole := hstage0_4 (((cfgM m hO).slots t 4).cast nbuf0_4)
abbrev ms0_5 (hO : Ok l m) (t : Fin (cfgM m hO).N) : Memref sig .tc .vmem S1x1x512x2048 .f32 := spec0_5.stage ((cfgM m hO).slots t 5)
abbrev hs0_5 (hO : Ok l m) (t : Fin (cfgM m hO).N) : (ms0_5 m hO t).IsWhole := hstage0_5 (((cfgM m hO).slots t 5).cast nbuf0_5)
abbrev ms0_6 (hO : Ok l m) (t : Fin (cfgM m hO).N) : Memref sig .tc .vmem S1x1x1x2048 .f32 := spec0_6.stage ((cfgM m hO).slots t 6)
abbrev hs0_6 (hO : Ok l m) (t : Fin (cfgM m hO).N) : (ms0_6 m hO t).IsWhole := hstage0_6 (((cfgM m hO).slots t 6).cast nbuf0_6)
abbrev ms0_7 (hO : Ok l m) (t : Fin (cfgM m hO).N) : Memref sig .tc .vmem S1280x2048 .bf16 := spec0_7.stage ((cfgM m hO).slots t 7)
abbrev hs0_7 (hO : Ok l m) (t : Fin (cfgM m hO).N) : (ms0_7 m hO t).IsWhole := hstage0_7 (((cfgM m hO).slots t 7).cast nbuf0_7)
abbrev scM0_0 : Memref sig .tc .vmem S2048x512 .bf16 := Memref.whole cc0_scratch0
abbrev scM0_1 : Memref sig .tc .vmem S2048x512 .bf16 := Memref.whole cc0_scratch1
abbrev scM0_2 : Memref sig .tc .vmem S512x2048 .bf16 := Memref.whole cc0_scratch2
abbrev scM0_3 : Memref sig .tc .vmem S1280x2048 .f32 := Memref.whole cc0_scratch3

/-- The body at a point. -/
abbrev bodyAt0 (hO : Ok l m) (t : Fin (cfgM m hO).N) : Prog (TpuEff nD τ sig (Elt F) Λ₀ .tc) PUnit :=
  cc0_moe_experts (grid0.coords t) tbM0_0 (Memref.isWhole_whole _) tbM0_1 (Memref.isWhole_whole _) tbM0_2 (Memref.isWhole_whole _) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) scM0_2 (Memref.isWhole_whole _) scM0_3 (Memref.isWhole_whole _)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

theorem defs₀_row (hO : Ok l m) (t : Fin (cfgM m hO).N) :
    defs₀ (F := F) .tc (cfgM m hO).body ((cfgM m hO).bodyArgs t ((cfgM m hO).slots t)) = bodyAt0 m hO t := by
  unfold defs₀; rw [Defs.onTc_tc]

/-! ## The values -/

/-- A group's count of used blocks. -/
def nW (s : Fin 57) : BitVec 32 := tbl m 1 (fun a => match a with | ⟨0, _⟩ => s)
/-- A group's row tile. -/
def gW (s : Fin 57) : BitVec 32 := tbl m 2 (fun a => match a with | ⟨0, _⟩ => s)
/-- A group's expert. -/
def eW (s : Fin 57) : BitVec 32 := tbl m 0 (fun a => match a with | ⟨0, _⟩ => s)

/-- The group of a point. -/
def grp (t : Fin grid0.N) : Fin 57 := ⟨t.val / 4, by have := t.isLt; have := N_0; omega⟩

theorem coord0 (t : Fin grid0.N) : (grid0.coords t 0).val = t.val / 4 := by
  have ht : t.val < 228 := Nat.lt_of_lt_of_eq t.isLt N_0
  have e0 : (grid0.coords t 0).val = t.val / 4 % 57 := Pipeline.Grid.coords_val t 0 (by decide) rfl
  omega
theorem coord1 (t : Fin grid0.N) : (grid0.coords t 1).val = t.val % 4 := by
  have e1 : (grid0.coords t 1).val = t.val / 1 % 4 := Pipeline.Grid.coords_val t 1 (by decide) rfl
  omega

theorem off1_val (t : Fin grid0.N) : k0_off1 (grid0.coords t) 0 = t.val / 4 := by
  have ht : t.val < 228 := Nat.lt_of_lt_of_eq t.isLt N_0
  show (Scalar.indexCast (BitVec.ofNat 32 (grid0.coords t 0).val)).toNat = _
  rw [coord0]
  exact WordCmp.toNat_ofNat_of_lt (by omega)

theorem word_eq (c : Dev nD) (t : Fin grid0.N) : word c (grid0.coords t) (tbl m 1) = nW m (grp t) := by
  refine congrArg (tbl m 1) (funext fun a => Fin.ext ?_)
  fin_cases a
  show k0_off1 (grid0.coords t) 0 + 1 * 0 = t.val / 4
  rw [off1_val]; omega

theorem atD_eq (t : Fin grid0.N) : (tbl m).atD 1 (k0_off1 (grid0.coords t)) = nW m (grp t) := by
  have h : ∀ a, k0_off1 (grid0.coords t) a + 1 ≤ S57.size a := fun a => by
    have ht : t.val < 228 := Nat.lt_of_lt_of_eq t.isLt N_0
    fin_cases a
    show k0_off1 (grid0.coords t) 0 + 1 ≤ 57
    rw [off1_val]; omega
  refine (dif_pos h).trans (congrArg (tbl m 1) (funext fun a => Fin.ext ?_))
  fin_cases a
  exact off1_val t

/-- The words the index maps read. -/
theorem at2_eq (t : Fin grid0.N) : (tbl m).at 2 (Rect.unit (s := S57) (k0_off1 (grid0.coords t)) S1.size (k0_off1_inb (grid0.coords t))) numel1_S1 = gW m (grp t) := by
  refine congrArg (tbl m 2) (funext fun a => Fin.ext ?_)
  fin_cases a
  show k0_off1 (grid0.coords t) 0 + 1 * 0 = t.val / 4
  rw [off1_val]; omega
theorem at1_eq (t : Fin grid0.N) : (tbl m).at 1 (Rect.unit (s := S57) (k0_off1 (grid0.coords t)) S1.size (k0_off1_inb (grid0.coords t))) numel1_S1 = nW m (grp t) := by
  refine congrArg (tbl m 1) (funext fun a => Fin.ext ?_)
  fin_cases a
  show k0_off1 (grid0.coords t) 0 + 1 * 0 = t.val / 4
  rw [off1_val]; omega
theorem at0_eq (t : Fin grid0.N) : (tbl m).at 0 (Rect.unit (s := S57) (k0_off1 (grid0.coords t)) S1.size (k0_off1_inb (grid0.coords t))) numel1_S1 = eW m (grp t) := by
  refine congrArg (tbl m 0) (funext fun a => Fin.ext ?_)
  fin_cases a
  show k0_off1 (grid0.coords t) 0 + 1 * 0 = t.val / 4
  rw [off1_val]; omega

/-- One point's step of a used block's sums. -/
def ptRows (hO : Ok l m) (c : Dev nD) (t : Fin grid0.N) (k : Fin 5) (prev : Vec F S256x2048 .f32) : Vec F S256x2048 .f32 :=
  newRows (grid0.coords t) k (xB m hO c t) (k0_pay13 (ugB m hO c t)) (bgB m hO c t) (k0_pay14 (uuB m hO c t)) (buB m hO c t) (k0_pay15 (udB m hO c t)) (bdB m hO c t) prev

/-- A used block's sums after each point of its group. -/
def accAt (hO : Ok l m) (c : Dev nD) : (n : ℕ) → n < grid0.N → Fin 5 → Vec F S256x2048 .f32
  | 0, h, k => ptRows m hO c ⟨0, h⟩ k (k0_pay4 (bdB m hO c ⟨0, h⟩))
  | n + 1, h, k => ptRows m hO c ⟨n + 1, h⟩ k (accAt hO c n (Nat.lt_of_succ_lt h) k)

theorem ptRows_first (hO : Ok l m) (c : Dev nD) (t : Fin grid0.N) (k : Fin 5) (h : t.val % 4 = 0) (p q : Vec F S256x2048 .f32) :
    ptRows m hO c t k p = ptRows m hO c t k q := by
  unfold ptRows newRows
  rw [if_pos ((coord1 t).trans h), if_pos ((coord1 t).trans h)]

theorem accAt_eq (hO : Ok l m) (c : Dev nD) (t : Fin grid0.N) (k : Fin 5) (p : Vec F S256x2048 .f32)
    (h : ∀ h0 : t.val % 4 ≠ 0, p = accAt m hO c (t.val - 1) (lt_of_le_of_lt (Nat.sub_le _ _) t.isLt) k) : ptRows m hO c t k p = accAt m hO c t.val t.isLt k := by
  obtain ⟨n, hn⟩ := t
  cases n with
  | zero => exact ptRows_first m hO c _ k rfl _ _
  | succ n =>
    by_cases h0 : (n + 1) % 4 = 0
    · exact ptRows_first m hO c _ k h0 _ _
    · rw [h h0]; rfl

/-- A used group's tile, written at its last point. -/
def tile (hO : Ok l m) (c : Dev nD) (s : Fin 57) : Vec F S1280x2048 .bf16 :=
  tileOf fun k => if used (nW m s) k.val then k0_pay2 (accAt m hO c (4 * s.val + 3) (by have := s.isLt; have := N_0; omega) k) else k0_pay3 (F := F)

/-- What the output buffer holds at the end of a group: its own tile, or the last used group's before it. -/
def aft (hO : Ok l m) (c : Dev nD) : (s : ℕ) → s < 57 → Vec F S1280x2048 .bf16
  | 0, h => tile m hO c ⟨0, h⟩
  | s + 1, h => if used (nW m ⟨s + 1, h⟩) 0 then tile m hO c ⟨s + 1, h⟩ else aft hO c s (Nat.lt_of_succ_lt h)

/-! ## The schedule -/

variable (l) in
/-- What the schedule promises: its blocks lie inside, a used group works on the row tile of its own number, and an
unused one names the tile of the group before. -/
structure Sched : Prop where
  ok : Ok l m
  own : ∀ s : Fin 57, used (nW m s) 0 → gW m s = BitVec.ofNat 32 s.val
  keep : ∀ s : Fin 57, ¬ used (nW m s) 0 → ∃ h : 0 < s.val, gW m s = gW m ⟨s.val - 1, by omega⟩
  expert : ∀ s : Fin 57, (eW m s).toNat < 32

theorem index7 (hO : Ok l m) (t : Fin grid0.N) : ((cfgM m hO).win 7).index t = ![(gW m (grp t)).toNat, 0] := by
  show cc0_transform_7 k0_off1_inb numel1_S1 (tbl m) (grid0.coords t) = _
  rw [← at2_eq m t]
  rfl

/-- The output window is idle exactly where nothing is written out. -/
theorem idle7 (hO : Ok l m) (t : Fin grid0.N) : (cfgM m hO).idle 7 ((cfgM m hO).grid.coords t) = true ↔ ¬ (used (nW m (grp t)) 0 ∧ t.val % 4 = 3) := by
  have e : (cfgM m hO).idle 7 ((cfgM m hO).grid.coords t) = idle0 (tbl m) 7 (grid0.coords t) := rfl
  rw [e]
  unfold idle0
  dsimp only
  rw [atD_eq, ← coord1 t]
  generalize nW m (grp t) = v
  generalize grid0.coords t = i
  have O : ∀ k : Fin 5, ¬ (used v 0 ∧ (i 1).val = 3) → ¬ pOut i v (BitVec.ofNat 32 k.val) = 1#1 := fun k h e =>
    h ((fun (z : used v k.val ∧ (i 1).val = 3) => ⟨lt_of_le_of_lt (show ((0 : ℕ) : ℤ) ≤ (k.val : ℤ) by omega) z.1, z.2⟩) ((pOut_iff i v k.val k.isLt).1 e))
  have Z : ∀ k : Fin 5, ¬ (used v 0 ∧ (i 1).val = 3) → ¬ pZero i v (BitVec.ofNat 32 k.val) = 1#1 := fun k h e =>
    h ((fun (z : (¬ used v k.val ∧ used v 0) ∧ (i 1).val = 3) => ⟨z.1.2, z.2⟩) ((pZero_iff i v k.val k.isLt).1 e))
  have B : ∀ b : BitVec 1, ¬ b = 1#1 → (!(b == 1#1)) = true := by decide
  constructor
  · intro h hl
    have h4 : k0_cond4 i v = 1#1 := (pOut_iff i v 0 (by omega)).2 hl
    rw [h4] at h
    simp at h
  · intro h
    have E := fun (k : Fin 5) => B _ (O k h)
    have G := fun (k : Fin 5) => B _ (Z k h)
    rw [show (!(k0_cond4 i v == 1#1)) = true from E 0, show (!(k0_cond5 i v == 1#1)) = true from G 0,
      show (!(k0_cond8 i v == 1#1)) = true from E 1, show (!(k0_cond9 i v == 1#1)) = true from G 1,
      show (!(k0_cond12 i v == 1#1)) = true from E 2, show (!(k0_cond13 i v == 1#1)) = true from G 2,
      show (!(k0_cond16 i v == 1#1)) = true from E 3, show (!(k0_cond17 i v == 1#1)) = true from G 3,
      show (!(k0_cond20 i v == 1#1)) = true from E 4, show (!(k0_cond21 i v == 1#1)) = true from G 4]
    rfl

/-- The output block is written back only at the last point of a group. -/
theorem flush7 (hO : Ok l m) (t : Fin grid0.N) (h : t.val % 4 ≠ 3) : ((cfgM m hO).win 7).flush t = false := by
  have ht : t.val < 228 := Nat.lt_of_lt_of_eq t.isLt N_0
  have hN : grid0.N = 228 := N_0
  unfold Pipeline.Window.flush
  have h1 : ¬ (t.val + 1 = grid0.N) := by omega
  have h2 : ¬ ∃ h : t.val + 1 < grid0.N, ((cfgM m hO).win 7).index ⟨t.val + 1, h⟩ ≠ ((cfgM m hO).win 7).index t := by
    rintro ⟨h', hne⟩
    refine hne ?_
    rw [index7, index7, show grp ⟨t.val + 1, h'⟩ = grp t from Fin.ext (show (t.val + 1) / 4 = t.val / 4 by omega)]
  simp only [h1, h2, decide_false, Bool.or_false, Bool.and_false]

theorem flush7_keep (hO : Ok l m) (t u : Fin grid0.N) (hu : t.val = u.val + 1) (hg : gW m (grp t) = gW m (grp u)) : ((cfgM m hO).win 7).flush u = false := by
  have ht : t.val < 228 := Nat.lt_of_lt_of_eq t.isLt N_0
  have hN : grid0.N = 228 := N_0
  unfold Pipeline.Window.flush
  have h1 : ¬ (u.val + 1 = grid0.N) := by omega
  have h2 : ¬ ∃ h : u.val + 1 < grid0.N, ((cfgM m hO).win 7).index ⟨u.val + 1, h⟩ ≠ ((cfgM m hO).win 7).index u := by
    rintro ⟨h', hne⟩
    refine hne ?_
    rw [index7, index7, show (⟨u.val + 1, h'⟩ : Fin grid0.N) = t from Fin.ext hu.symm, hg]
  simp only [h1, h2, decide_false, Bool.or_false, Bool.and_false]

end Cert.ExpertsIdeal.Hand

end
-- ==== Proof.ExpertsIdeal.Frame.lean ====
module

public import proofs.«01_k».proof.Proof.ExpertsIdeal.Setup

@[expose] public section

set_option maxRecDepth 16384

noncomputable section

namespace Cert.ExpertsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ExpertsIdeal.Gen

variable {F : FTy → Type} [FloatOps F]

local notation "𝕄" => MT nD τ sig Unit (Elt F) ℕ (UR sig nD τ) ℕ

variable {l : Fin 4} (m : (ℓ : Loc nD τ sig) → Buf (Elt F) ℓ) (ρ : Dev nD → PrngReg)

/-! ## The pipeline's data -/

/-- A fact about the sums that every point keeps: in the middle of a group, each used block holds its sums so far. -/
def Inv (hO : Ok l m) (c : Dev nD) (n : ℕ) (A : Vec F S1280x2048 .f32) : Prop :=
  n % 4 ≠ 0 → ∀ (h : n < grid0.N) (k : Fin 5), used (nW m (grp ⟨n, h⟩)) k.val → blkOf k A = accAt m hO c (n - 1) (lt_of_le_of_lt (Nat.sub_le _ _) h) k

/-- The invariant between points. -/
def PhiS (hO : Ok l m) (c : Dev nD) (n : ℕ) : sProp 𝕄 :=
  iprop(iprop(iprop((∃ d, owns (c : Thread nD τ) scM0_0 fullShare d) ∗ (∃ d, owns (c : Thread nD τ) scM0_1 fullShare d) ∗ (∃ d, owns (c : Thread nD τ) scM0_2 fullShare d)
    ∗ (∃ A, ⌜Inv m hO c n A⌝ ∗ owns (c : Thread nD τ) scM0_3 fullShare A)) ∗ (∃ r, prngReg c r)) ∗ Pipeline.ΦT pre0 (tbl m) c)

def dats (hO : Ok l m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => aft m hO c (grp t).val (grp t).isLt
  Φ t := PhiS m hO c t.val
  q w := Pipeline.shareOf spec0 w
  owed _ := 0

theorem A_eq (hO : Ok l m) (c : Dev nD) (w : Fin (cfgM m hO).W) : (dats m hO 0 c).A w = V m c (Pipeline.arrRef spec0 w) := by
  dsimp only [dats]

theorem after0_0 (hO : Ok l m) (c : Dev nD) (t : Fin (cfgM m hO).N) : (dats m hO 0 c).after 0 t = iblk m hO c 0 t := by dsimp only [dats]; try rfl
theorem after0_1 (hO : Ok l m) (c : Dev nD) (t : Fin (cfgM m hO).N) : (dats m hO 0 c).after 1 t = iblk m hO c 1 t := by dsimp only [dats]; try rfl
theorem after0_2 (hO : Ok l m) (c : Dev nD) (t : Fin (cfgM m hO).N) : (dats m hO 0 c).after 2 t = iblk m hO c 2 t := by dsimp only [dats]; try rfl
theorem after0_3 (hO : Ok l m) (c : Dev nD) (t : Fin (cfgM m hO).N) : (dats m hO 0 c).after 3 t = iblk m hO c 3 t := by dsimp only [dats]; try rfl
theorem after0_4 (hO : Ok l m) (c : Dev nD) (t : Fin (cfgM m hO).N) : (dats m hO 0 c).after 4 t = iblk m hO c 4 t := by dsimp only [dats]; try rfl
theorem after0_5 (hO : Ok l m) (c : Dev nD) (t : Fin (cfgM m hO).N) : (dats m hO 0 c).after 5 t = iblk m hO c 5 t := by dsimp only [dats]; try rfl
theorem after0_6 (hO : Ok l m) (c : Dev nD) (t : Fin (cfgM m hO).N) : (dats m hO 0 c).after 6 t = iblk m hO c 6 t := by dsimp only [dats]; try rfl
theorem after0_7 (hO : Ok l m) (c : Dev nD) (t : Fin (cfgM m hO).N) : (dats m hO 0 c).after 7 t = aft m hO c (grp t).val (grp t).isLt := by dsimp only [dats]; try rfl
theorem before0_0 (hO : Ok l m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok l m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok l m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok l m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok l m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok l m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok l m) (c : Dev nD) (t : Fin (cfgM m hO).N) (d) : (dats m hO 0 c).before 6 t d = iblk m hO c 6 t :=
  before0_6_of m hO (dats m hO 0 c) (A_eq m hO c 6) (after0_6 m hO c) t d

theorem aft_used (hO : Ok l m) (c : Dev nD) (s : Fin 57) (h : used (nW m s) 0) : aft m hO c s.val s.isLt = tile m hO c s := by
  obtain ⟨n, hn⟩ := s
  cases n with
  | zero => rfl
  | succ n => exact if_pos h

theorem aft_keep (hO : Ok l m) (c : Dev nD) (s u : Fin 57) (hu : s.val = u.val + 1) (h : ¬ used (nW m s) 0) : aft m hO c s.val s.isLt = aft m hO c u.val u.isLt := by
  obtain ⟨n, hn⟩ := s
  obtain ⟨k, hk⟩ := u
  obtain rfl : n = k + 1 := hu
  exact if_neg h

/-- In an unused group the output buffer already holds what it is to hold at the group's end. -/
theorem before7 (hS : Sched l m) (c : Dev nD) (d) : ∀ (n : ℕ) (t : Fin grid0.N), t.val = n → ¬ used (nW m (grp t)) 0 →
    (dats m hS.ok 0 c).before 7 t d = aft m hS.ok c (grp t).val (grp t).isLt := by
  intro n
  induction n with
  | zero =>
    intro t ht hu
    obtain ⟨h0, -⟩ := hS.keep (grp t) hu
    have : (grp t).val = t.val / 4 := rfl
    omega
  | succ n ih =>
    intro t ht hu
    obtain ⟨h0, hg⟩ := hS.keep (grp t) hu
    have hgv : (grp t).val = t.val / 4 := rfl
    have hlt := t.isLt
    have key : ∀ u : Fin grid0.N, u.val = n → gW m (grp t) = gW m (grp u) ∧ (dats m hS.ok 0 c).left 7 u d = aft m hS.ok c (grp t).val (grp t).isLt := by
      intro u hu'
      have huv : (grp u).val = u.val / 4 := rfl
      have hA : (grp t = grp u) ∨ (t.val % 4 = 0 ∧ (grp t).val = (grp u).val + 1) := by
        by_cases h4 : t.val % 4 = 0
        · right; exact ⟨h4, by omega⟩
        · left; exact Fin.ext (by omega)
      constructor
      · rcases hA with e | ⟨h4, e⟩
        · rw [e]
        · rw [hg]; exact congrArg (gW m) (Fin.ext (show (grp t).val - 1 = (grp u).val by omega))
      · have hk : ¬ used (nW m (grp u)) 0 → aft m hS.ok c (grp u).val (grp u).isLt = aft m hS.ok c (grp t).val (grp t).isLt := fun _ => by
          rcases hA with e | ⟨h4, e⟩
          · rw [e]
          · exact (aft_keep m hS.ok c _ _ e hu).symm
        unfold Dat.left
        cases hi : (cfgM m hS.ok).idle 7 ((cfgM m hS.ok).grid.coords u)
        · have hl : used (nW m (grp u)) 0 ∧ u.val % 4 = 3 := by
            by_contra hn
            rw [(idle7 m hS.ok u).2 hn] at hi
            exact Bool.noConfusion hi
          rcases hA with e | ⟨h4, e⟩
          · exact absurd (e ▸ hl.1) hu
          · exact (after0_7 m hS.ok c u).trans (aft_keep m hS.ok c _ _ e hu).symm
        · have hn := (idle7 m hS.ok u).1 hi
          have hnu : ¬ used (nW m (grp u)) 0 := fun h => by
            rcases hA with e | ⟨h4, e⟩
            · exact hu (e ▸ h)
            · exact hn ⟨h, by omega⟩
          exact (ih u hu' hnu).trans (hk hnu)
    have hn : n < grid0.N := by omega
    have K := key ⟨n, hn⟩ rfl
    have e : (⟨t.val - 1, Nat.lt_of_le_of_lt (Nat.sub_le _ _) t.isLt⟩ : Fin grid0.N) = ⟨n, hn⟩ := Fin.ext (by show t.val - 1 = n; omega)
    have hb := (dats m hS.ok 0 c).before_of_pos 7 t (by omega) rfl d
    rw [hb, if_neg (by
      have := flush7_keep m hS.ok t ⟨n, hn⟩ (by show t.val = n + 1; omega) K.1
      rw [show (⟨t.val - 1, Nat.lt_of_le_of_lt (Nat.sub_le _ _) t.isLt⟩ : Fin (cfgM m hS.ok).N) = ⟨n, hn⟩ from e, this]
      exact Bool.false_ne_true)]
    rw [show (⟨t.val - 1, Nat.lt_of_le_of_lt (Nat.sub_le _ _) t.isLt⟩ : Fin (cfgM m hS.ok).N) = ⟨n, hn⟩ from e]
    exact K.2

/-- A point keeps the invariant. -/
theorem inv_step (hO : Ok l m) (c : Dev nD) (t : Fin grid0.N) (A : Vec F S1280x2048 .f32) (hA : Inv m hO c t.val A) (v : BitVec 32) (hv : v = nW m (grp t))
    (wg wu : Vec F S2048x512 .bf16) (wd : Vec F S512x2048 .bf16) :
    Inv m hO c (t.val + 1) (acc4 (grid0.coords t) v (xB m hO c t) (copied v (k0_pay13 (ugB m hO c t)) wg) (bgB m hO c t) (copied v (k0_pay14 (uuB m hO c t)) wu) (buB m hO c t) (copied v (k0_pay15 (udB m hO c t)) wd) (bdB m hO c t) A) := by
  subst hv
  intro h4 h k hu
  have hg : grp ⟨t.val + 1, h⟩ = grp t := Fin.ext (show (t.val + 1) / 4 = t.val / 4 by omega)
  rw [hg] at hu
  have h0 : pIn (nW m (grp t)) 0#32 = 1#1 := (pIn_iff _ 0 (by omega)).2 (lt_of_le_of_lt (show ((0 : ℕ) : ℤ) ≤ (k.val : ℤ) by omega) hu)
  rw [acc4_blk _ _ _ _ _ _ _ _ _ k hu]
  simp only [copied, if_pos h0]
  exact accAt_eq m hO c t k _ fun h0 => hA h0 t.isLt k hu

/-- What a writing point leaves is the group's tile. -/
theorem out_step (hO : Ok l m) (c : Dev nD) (t : Fin grid0.N) (A : Vec F S1280x2048 .f32) (hA : Inv m hO c t.val A) (v : BitVec 32) (hv : v = nW m (grp t))
    (hl : used (nW m (grp t)) 0 ∧ t.val % 4 = 3) (wg wu : Vec F S2048x512 .bf16) (wd : Vec F S512x2048 .bf16) (y : Vec F S1280x2048 .bf16) :
    out4 (grid0.coords t) v (xB m hO c t) (copied v (k0_pay13 (ugB m hO c t)) wg) (bgB m hO c t) (copied v (k0_pay14 (uuB m hO c t)) wu) (buB m hO c t) (copied v (k0_pay15 (udB m hO c t)) wd) (bdB m hO c t) A y
      = aft m hO c (grp t).val (grp t).isLt := by
  subst hv
  rw [aft_used m hO c _ hl.1]
  have h0 : pIn (nW m (grp t)) 0#32 = 1#1 := (pIn_iff _ 0 (by omega)).2 hl.1
  refine blk_ext _ _ fun k => ?_
  rw [out4_blk _ _ _ _ _ _ _ _ _ k hl.1 ((coord1 t).trans hl.2)]
  unfold tile
  rw [blkOf_tileOf]
  simp only [copied, if_pos h0]
  by_cases hu : used (nW m (grp t)) k.val
  · rw [if_pos hu, if_pos hu]
    refine congrArg k0_pay2 ?_
    refine (accAt_eq m hO c t k _ fun h0 => hA h0 t.isLt k hu).trans ?_
    have e : t.val = 4 * (grp t).val + 3 := by have : (grp t).val = t.val / 4 := rfl; omega
    exact congr (congrArg (fun (p : {n : ℕ // n < grid0.N}) => accAt m hO c p.1 p.2) (Subtype.ext e : (⟨t.val, t.isLt⟩ : {n : ℕ // n < grid0.N}) = ⟨4 * (grp t).val + 3, e ▸ t.isLt⟩)) rfl
  · rw [if_neg hu, if_neg hu]

/-! ## The body obligation -/

/-- What a point leaves in the output's buffer, by whether it is idle there and whether the block is copied back. -/
def post7 (hO : Ok l m) (c : Dev nD) (t : Fin (cfgM m hO).N) (b f : Bool) : sProp 𝕄 :=
  match b with
  | true => match f with
    | false => iprop(∃ d, owns (c : Thread nD τ) (ms0_7 m hO t) fullShare ((dats m hO 0 c).before 7 t d))
    | true => owns (c : Thread nD τ) (ms0_7 m hO t) fullShare ((dats m hO 0 c).after 7 t)
  | false => owns (c : Thread nD τ) (ms0_7 m hO t) fullShare ((dats m hO 0 c).after 7 t)

theorem post7_intro (hS : Sched l m) (c : Dev nD) (t : Fin (cfgM m hS.ok).N) (A : Vec F S1280x2048 .f32) (hA : Inv m hS.ok c t.val A) (v : BitVec 32) (hv : v = nW m (grp t)) (b f : Bool)
    (hb : b = true ↔ ¬ (used (nW m (grp t)) 0 ∧ t.val % 4 = 3)) (hf : t.val % 4 ≠ 3 → f = false) (wg wu : Vec F S2048x512 .bf16) (wd : Vec F S512x2048 .bf16) (d) (y : Vec F S1280x2048 .bf16) (hy : y = (dats m hS.ok 0 c).before 7 t d) :
    owns (c : Thread nD τ) (ms0_7 m hS.ok t) fullShare (out4 (grid0.coords t) v (xB m hS.ok c t) (copied v (k0_pay13 (ugB m hS.ok c t)) wg) (bgB m hS.ok c t) (copied v (k0_pay14 (uuB m hS.ok c t)) wu) (buB m hS.ok c t) (copied v (k0_pay15 (udB m hS.ok c t)) wd) (bdB m hS.ok c t) A y)
      ⊢ post7 m hS.ok c t b f := by
  cases b
  · have hl : used (nW m (grp t)) 0 ∧ t.val % 4 = 3 := by
      by_contra hn
      exact Bool.noConfusion (hb.2 hn)
    show _ ⊢ owns (c : Thread nD τ) (ms0_7 m hS.ok t) fullShare ((dats m hS.ok 0 c).after 7 t)
    rw [out_step m hS.ok c t A hA v hv hl wg wu wd y, after0_7]
  · have hl := hb.1 rfl
    rw [out4_off _ _ _ _ _ _ _ _ _ (by rw [hv, coord1]; exact hl)]
    rw [hy]
    cases f
    · show _ ⊢ iprop(∃ d, owns (c : Thread nD τ) (ms0_7 m hS.ok t) fullShare ((dats m hS.ok 0 c).before 7 t d))
      iintro H; iexists d; iexact H
    · have hu : ¬ used (nW m (grp t)) 0 := fun h => hl ⟨h, by_contra fun h3 => Bool.noConfusion (hf h3)⟩
      show _ ⊢ owns (c : Thread nD τ) (ms0_7 m hS.ok t) fullShare ((dats m hS.ok 0 c).after 7 t)
      rw [before7 m hS c d t.val t rfl hu, after0_7]

def bodyPre (hO : Ok l m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok l m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ post7 m hO c t ((cfgM m hO).idle 7 ((cfgM m hO).grid.coords t)) (((cfgM m hO).win 7).flush t))

set_option maxHeartbeats 4000000 in
theorem sound_body (hS : Sched l m) (c : Dev nD) (t : Fin (cfgM m hS.ok).N) :
    bodyPre m hS.ok c t ⊢ wp frame (wpE (defs₀ (F := F)) Variants.none c none) Set.univ (bodyAt0 m hS.ok t) (fun _ => bodyPost m hS.ok c t) := by
  unfold bodyPre bodyPost bodyAt0
  simp only [before0_0, before0_1, before0_2, before0_3, before0_4, before0_5, before0_6]
  rw [show (dats m hS.ok 0 c).owesAt () t.succ = (dats m hS.ok 0 c).owesAt () t.castSucc from rfl,
    after0_0, after0_1, after0_2, after0_3, after0_4, after0_5, after0_6]
  rw [show (dats m hS.ok 0 c).Φ t.castSucc = PhiS m hS.ok c t.val from rfl, show (dats m hS.ok 0 c).Φ t.succ = PhiS m hS.ok c (t.val + 1) from rfl]
  unfold PhiS
  rw [PhiT0_eq]
  iintro ⟨⟨⟨⟨⟨%wg, HS0⟩, ⟨%wu, HS1⟩, ⟨%wd, HS2⟩, ⟨%A, %hA, HS3⟩⟩, Hg⟩, HT0, HT1, HT2⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_run c (grid0.coords t) tbM0_0 (Memref.isWhole_whole _) tbM0_2 (Memref.isWhole_whole _)
    (ms0_0 m hS.ok t) (hs0_0 m hS.ok t)    (ms0_1 m hS.ok t) (hs0_1 m hS.ok t)    (ms0_2 m hS.ok t) (hs0_2 m hS.ok t)    (ms0_3 m hS.ok t) (hs0_3 m hS.ok t)    (ms0_4 m hS.ok t) (hs0_4 m hS.ok t)    (ms0_5 m hS.ok t) (hs0_5 m hS.ok t)    (ms0_6 m hS.ok t) (hs0_6 m hS.ok t)    (ms0_7 m hS.ok t) (hs0_7 m hS.ok t)
    scM0_0 (Memref.isWhole_whole _) scM0_1 (Memref.isWhole_whole _) scM0_2 (Memref.isWhole_whole _) scM0_3 (Memref.isWhole_whole _)
    (xB m hS.ok c t) (ugB m hS.ok c t) (uuB m hS.ok c t) (bgB m hS.ok c t) (buB m hS.ok c t) (udB m hS.ok c t) (bdB m hS.ok c t) ((dats m hS.ok 0 c).before 7 t d7) wg wu wd A (tbl m 1) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HT1]; · iexact HT1
  iintro ⟨H0, H1, H2, H3, H4, H5, H6, H7, HS0, HS1, HS2, HS3, HT1⟩
  isplitl [HS0 HS1 HS2 HS3 Hg HT0 HT1 HT2]
  · isplitl [HS0 HS1 HS2 HS3 Hg]
    · isplitl [HS0 HS1 HS2 HS3]
      · isplitl [HS0]; · iexists _; iexact HS0
        isplitl [HS1]; · iexists _; iexact HS1
        isplitl [HS2]; · iexists _; iexact HS2
        iexists _; isplitr
        swap; · iexact HS3
        ipureintro
        exact inv_step m hS.ok c t A hA _ (word_eq m c t) wg wu wd
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (post7_intro m hS c t A hA _ (word_eq m c t) _ _ (idle7 m hS.ok t) (flush7 m hS.ok t) wg wu wd d7 _ rfl)
  iexact H7

theorem body_obligation (hS : Sched l m) (c : Dev nD) : BodyObligation (dats (F := F) m hS.ok 0 c) (defs₀ (F := F)) Variants.none () Set.univ := fun t => by
  rw [bigSep_W0, bigSep_W0, defs₀_row m hS.ok]
  exact triple_restated (sound_body m hS c t) rfl .rfl fun _ => .rfl

theorem hin (hO : Ok l m) (c : Dev nD) : iprop(Pipeline.ΦA spec0 c ∗ Pipeline.ΦT pre0 (tbl m) c) ⊢ (dats m hO 0 c).Φ 0 := by
  rw [show (dats m hO 0 c).Φ 0 = PhiS m hO c 0 from rfl, PhiA0_eq]
  unfold PhiS
  iintro ⟨⟨⟨HS0, HS1, HS2, ⟨%A, HS3⟩⟩, Hg⟩, HT⟩
  isplitl [HS0 HS1 HS2 HS3 Hg]
  · isplitl [HS0 HS1 HS2 HS3]
    · isplitl [HS0]; · iexact HS0
      isplitl [HS1]; · iexact HS1
      isplitl [HS2]; · iexact HS2
      iexists A; isplitr
      · ipureintro; exact fun h => absurd rfl h
      iexact HS3
    iexact Hg
  iexact HT

theorem hout (hO : Ok l m) (c : Dev nD) : (dats m hO 0 c).Φ (Fin.last (cfgM m hO).N) ⊢ Pipeline.ΦA spec0 c := by
  rw [show (dats m hO 0 c).Φ (Fin.last (cfgM m hO).N) = PhiS m hO c (cfgM m hO).N from rfl, PhiA0_eq]
  unfold PhiS
  iintro ⟨⟨⟨HS0, HS1, HS2, ⟨%A, -, HS3⟩⟩, Hg⟩, -⟩
  isplitl [HS0 HS1 HS2 HS3]
  · isplitl [HS0]; · iexact HS0
    isplitl [HS1]; · iexact HS1
    isplitl [HS2]; · iexact HS2
    iexists A; iexact HS3
  iexact Hg

/-! ## The run -/

set_option backward.isDefEq.respectTransparency.types false in
theorem run_main_quiescent (hS : Sched l m) : θ_run (defsL l) (onTc (τ := τ) (mainL (F := F) l)) (s₀ m ρ) (fun r => (Pipeline.FramePost (Pipeline.pin (pcfgsL l) fun _ => adm m hS.ok) (dats m hS.ok) 0 (V m)) r ∧ r.2.sem = fun _ => 0) :=
  Pipeline.θ_run_frameP_track_shared (Q' := _) (pcfgsL l) (fun _ => adm m hS.ok) (dats m hS.ok) (0 : Fin 1) (launchL l) defs₀ Variants.none m ρ (mainL l)
    (hbody := fun c => (body_obligation m hS c).loose) (hq := fun _ _ _ => rfl)
    (howed := fun _ _ => rfl) (V := V m) (hmain := hmain m Variants.none) (hA := A_eq m hS.ok) (hpf := V_pre m)
    (hin := hin m hS.ok) (hout := hout m hS.ok)

/-- The call ends, leaving its operands as they were and no transfer under way. -/
theorem frame (hS : Sched l m) : θ_run (defsL l) (onTc (τ := τ) (mainL (F := F) l)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run (defsL l) _ _).mono (fun _ h => ⟨fun c => ⟨
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m hS.ok 0 c).arrAt_in 0 rfl _).trans (A_eq m hS.ok c 0)),
      ((h.1 c).1 1).trans (((dats m hS.ok 0 c).arrAt_in 1 rfl _).trans (A_eq m hS.ok c 1)),
      ((h.1 c).1 3).trans (((dats m hS.ok 0 c).arrAt_in 3 rfl _).trans (A_eq m hS.ok c 3)),
      ((h.1 c).1 5).trans (((dats m hS.ok 0 c).arrAt_in 5 rfl _).trans (A_eq m hS.ok c 5)),
      ((h.1 c).1 6).trans (((dats m hS.ok 0 c).arrAt_in 6 rfl _).trans (A_eq m hS.ok c 6))⟩, h.2⟩) (run_main_quiescent m ρ hS)

end Cert.ExpertsIdeal.Hand

end
-- ==== Proof.ExpertsIdeal.Sched.lean ====
module

public import proofs.«01_k».proof.Proof.ExpertsIdeal.Setup
public import proofs.«01_k».proof.Proof.Gen.Pre_schedule
public import Idealize.ShloMosaic.Lib.Pipeline.Value

@[expose] public section

noncomputable section

namespace Cert.ExpertsIdeal.Hand

open Idealize.ShloMosaic
open Cert.ExpertsIdeal.Gen

variable {F : FTy → Type} [FloatOps F]
variable {l : Fin 4} (m : (ℓ : Loc nD τ sig) → Buf (Elt F) ℓ)

/-! ## The schedule the precondition grants -/

theorem sel_pos {α : Type} (c : BitVec 1) (a b : α) (h : c = 1#1) : Scalar.select c a b = a := if_pos h
theorem sel_neg {α : Type} (c : BitVec 1) (a b : α) (h : ¬ c = 1#1) : Scalar.select c a b = b := if_neg h

/-- The chunk of the experts' hidden columns that a point loads: its own in a used group, the last one otherwise. -/
def cW (s : Fin 57) (n : ℕ) : BitVec 32 := Scalar.select (Scalar.cmpi .sgt (nW m s) 0#32) (BitVec.ofNat 32 n) 3#32

theorem cW_lt (s : Fin 57) (n : ℕ) (hn : n < 4) : (cW m s n).toNat < 4 := by
  unfold cW Scalar.select
  split
  · rw [WordCmp.toNat_ofNat_of_lt (by omega)]; exact hn
  · decide

theorem cW_used (s : Fin 57) (n : ℕ) (hn : n < 4) (h : used (nW m s) 0) : (cW m s n).toNat = n := by
  have e : Scalar.cmpi .sgt (nW m s) 0#32 = 1#1 := (sgt_iff (nW m s) 0 (by omega)).2 h
  unfold cW
  rw [sel_pos _ _ _ e, WordCmp.toNat_ofNat_of_lt (by omega)]

theorem cW_up (s : Fin 57) (n : ℕ) (hn : n < 4) : (Scalar.addi 4#32 (cW m s n)).toNat = 4 + (cW m s n).toNat := by
  have h := cW_lt m s n hn
  show (4#32 + cW m s n).toNat = _
  rw [BitVec.toNat_add]
  show (4 + (cW m s n).toNat) % 2 ^ 32 = _
  omega

theorem off_i (i : grid0.Coords) : k0_off1 i 0 = (i 0).val := by
  have h : (i 0).val < 57 := (i 0).isLt
  show (Scalar.indexCast (BitVec.ofNat 32 (i 0).val)).toNat = _
  exact WordCmp.toNat_ofNat_of_lt (by omega)

/-- The group of a grid point given by its coordinates. -/
abbrev gi (i : grid0.Coords) : Fin 57 := i 0

theorem at0_i (i : grid0.Coords) : (tbl m).at 0 (Rect.unit (s := S57) (k0_off1 i) S1.size (k0_off1_inb i)) numel1_S1 = eW m (gi i) := by
  refine congrArg (tbl m 0) (funext fun a => Fin.ext ?_)
  fin_cases a
  show k0_off1 i 0 + 1 * 0 = (i 0).val
  rw [off_i]; omega
theorem at1_i (i : grid0.Coords) : (tbl m).at 1 (Rect.unit (s := S57) (k0_off1 i) S1.size (k0_off1_inb i)) numel1_S1 = nW m (gi i) := by
  refine congrArg (tbl m 1) (funext fun a => Fin.ext ?_)
  fin_cases a
  show k0_off1 i 0 + 1 * 0 = (i 0).val
  rw [off_i]; omega
theorem at2_i (i : grid0.Coords) : (tbl m).at 2 (Rect.unit (s := S57) (k0_off1 i) S1.size (k0_off1_inb i)) numel1_S1 = gW m (gi i) := by
  refine congrArg (tbl m 2) (funext fun a => Fin.ext ?_)
  fin_cases a
  show k0_off1 i 0 + 1 * 0 = (i 0).val
  rw [off_i]; omega

theorem tr0 (i : grid0.Coords) : cc0_transform_0 k0_off1_inb numel1_S1 (tbl m) i = ![(gW m (gi i)).toNat, 0] := by rw [← at2_i m i]; rfl
theorem tr1 (i : grid0.Coords) : atL l (cc0_transform_1 k0_off1_inb numel1_S1 (tbl m)) i = ![l.val, (eW m (gi i)).toNat, 0, (cW m (gi i) (i 1).val).toNat] := by
  unfold cW; rw [← at0_i m i, ← at1_i m i]; rfl
theorem tr2 (i : grid0.Coords) : atL l (cc0_transform_2 k0_off1_inb numel1_S1 (tbl m)) i = ![l.val, (eW m (gi i)).toNat, 0, 4 + (cW m (gi i) (i 1).val).toNat] := by
  rw [← cW_up m _ _ (i 1).isLt]
  unfold cW; rw [← at0_i m i, ← at1_i m i]; rfl
theorem tr3 (i : grid0.Coords) : atL l (cc0_transform_3 k0_off1_inb numel1_S1 (tbl m)) i = ![l.val, (eW m (gi i)).toNat, 0, (cW m (gi i) (i 1).val).toNat] := by
  unfold cW; rw [← at0_i m i, ← at1_i m i]; rfl
theorem tr4 (i : grid0.Coords) : atL l (cc0_transform_4 k0_off1_inb numel1_S1 (tbl m)) i = ![l.val, (eW m (gi i)).toNat, 0, 4 + (cW m (gi i) (i 1).val).toNat] := by
  rw [← cW_up m _ _ (i 1).isLt]
  unfold cW; rw [← at0_i m i, ← at1_i m i]; rfl
theorem tr5 (i : grid0.Coords) : atL l (cc0_transform_5 k0_off1_inb numel1_S1 (tbl m)) i = ![l.val, (eW m (gi i)).toNat, (cW m (gi i) (i 1).val).toNat, 0] := by
  unfold cW; rw [← at0_i m i, ← at1_i m i]; rfl
theorem tr6 (i : grid0.Coords) : atL l (cc0_transform_6 k0_off1_inb numel1_S1 (tbl m)) i = ![l.val, (eW m (gi i)).toNat, 0, 0] := by rw [← at0_i m i]; rfl
theorem tr7 (i : grid0.Coords) : cc0_transform_7 k0_off1_inb numel1_S1 (tbl m) i = ![(gW m (gi i)).toNat, 0] := by rw [← at2_i m i]; rfl

/-- Blocks of whole rows, an even number of them and at an even row, take whole words of pairs of rows. -/
theorem words (ix : Fin 2 → ℕ) (h) : (Rect.block (s := S72960x2048) S1280x2048.size ix h).WholeWords (EltTy.packing .bf16) :=
  Rect.PackedRows.wholeWords (.inr ⟨le_refl 2, rfl, .inl ⟨⟨ix 0 * 640, show ix 0 * 1280 = 2 * (ix 0 * 640) by omega⟩, ⟨640, rfl⟩⟩⟩)

theorem ok_of (hg : ∀ s, (gW m s).toNat < 57) (he : ∀ s, (eW m s).toNat < 32) : Ok l m := by
  have hc : ∀ i : grid0.Coords, (cW m (gi i) (i 1).val).toNat < 4 := fun i => cW_lt m _ _ (i 1).isLt
  refine ⟨fun i => ⟨fun a => ?_, .inr (words _ _)⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inr (words _ _)⟩⟩
  · rw [tr0]; have := hg (gi i); fin_cases a
    · show ((gW m (gi i)).toNat + 1) * 1280 ≤ 72960; omega
    · show (0 + 1) * 2048 ≤ 2048; omega
  · rw [tr1]; have := he (gi i); have := hc i; fin_cases a
    · show (l.val + 1) * 1 ≤ 4; omega
    · show ((eW m (gi i)).toNat + 1) * 1 ≤ 32; omega
    · show (0 + 1) * 2048 ≤ 2048; omega
    · show ((cW m (gi i) (i 1).val).toNat + 1) * 512 ≤ 4096; omega
  · rw [tr2]; have := he (gi i); have := hc i; fin_cases a
    · show (l.val + 1) * 1 ≤ 4; omega
    · show ((eW m (gi i)).toNat + 1) * 1 ≤ 32; omega
    · show (0 + 1) * 2048 ≤ 2048; omega
    · show (4 + (cW m (gi i) (i 1).val).toNat + 1) * 512 ≤ 4096; omega
  · rw [tr3]; have := he (gi i); have := hc i; fin_cases a
    · show (l.val + 1) * 1 ≤ 4; omega
    · show ((eW m (gi i)).toNat + 1) * 1 ≤ 32; omega
    · show (0 + 1) * 1 ≤ 1; omega
    · show ((cW m (gi i) (i 1).val).toNat + 1) * 512 ≤ 4096; omega
  · rw [tr4]; have := he (gi i); have := hc i; fin_cases a
    · show (l.val + 1) * 1 ≤ 4; omega
    · show ((eW m (gi i)).toNat + 1) * 1 ≤ 32; omega
    · show (0 + 1) * 1 ≤ 1; omega
    · show (4 + (cW m (gi i) (i 1).val).toNat + 1) * 512 ≤ 4096; omega
  · rw [tr5]; have := he (gi i); have := hc i; fin_cases a
    · show (l.val + 1) * 1 ≤ 4; omega
    · show ((eW m (gi i)).toNat + 1) * 1 ≤ 32; omega
    · show ((cW m (gi i) (i 1).val).toNat + 1) * 512 ≤ 2048; omega
    · show (0 + 1) * 2048 ≤ 2048; omega
  · rw [tr6]; have := he (gi i); fin_cases a
    · show (l.val + 1) * 1 ≤ 4; omega
    · show ((eW m (gi i)).toNat + 1) * 1 ≤ 32; omega
    · show (0 + 1) * 1 ≤ 1; omega
    · show (0 + 1) * 2048 ≤ 2048; omega
  · rw [tr7]; have := hg (gi i); fin_cases a
    · show ((gW m (gi i)).toNat + 1) * 1280 ≤ 72960; omega
    · show (0 + 1) * 2048 ≤ 2048; omega

/-! ### Reading the precondition -/

section
variable [Cert.Pre_schedule.Facts]

/-- The row tile of the group before, as the precondition reads it. -/
def prevW (g : IVec Pre_schedule.S57 32) : IVec Pre_schedule.S57 32 :=
  concatenate Pre_schedule.S57 0 [⟨Pre_schedule.S1, extractStridedSlice Pre_schedule.S1 ![0] g Pre_schedule.Facts.slices_S57_S1_0⟩, ⟨Pre_schedule.S56, extractStridedSlice Pre_schedule.S56 ![0] g Pre_schedule.Facts.slices_S57_S56_0⟩] Pre_schedule.Facts.concatenates_S1_S56_S57_d0

abbrev at57 (s : Fin 57) : S57.Idx := fun a => match a with | ⟨0, _⟩ => s

theorem prevW_eq (g : IVec Pre_schedule.S57 32) (s : Fin 57) (h : 0 < s.val) : prevW g (at57 s) = g (at57 ⟨s.val - 1, by omega⟩) := by
  unfold prevW
  rw [concatenate_pair_apply_right (s₁ := Pre_schedule.S1) (s₂ := Pre_schedule.S56) (0 : Fin Pre_schedule.S57.rank) _ _ Pre_schedule.Facts.concatenates_S1_S56_S57_d0 (at57 s) rfl rfl
    (fun a => match a with | ⟨0, _⟩ => (⟨s.val - 1, by omega⟩ : Fin 56)) (fun b hb => absurd (Subsingleton.elim _ _) hb) (by show s.val - 1 + 1 = s.val; omega)]
  refine congrArg g (funext fun a => Fin.ext ?_)
  fin_cases a
  show 0 + (s.val - 1) = s.val - 1
  omega

theorem sched_of_pre (h : Cert.Pre_schedule.fn (F := F) (m ((0 : Dev nD).tc.loc main_arg0)) (m ((0 : Dev nD).tc.loc main_arg1)) (m ((0 : Dev nD).tc.loc main_arg2)) (m ((0 : Dev nD).tc.loc main_arg3)) (m ((0 : Dev nD).tc.loc main_arg4)) (m ((0 : Dev nD).tc.loc main_arg5)) (m ((0 : Dev nD).tc.loc main_arg6)) (m ((0 : Dev nD).tc.loc main_arg7)) = fun _ => 1#1) : Sched l m := by
  have key : ∀ s : Fin 57, ((IntOp.cmpi .sge (eW m s) 0#32 = 1#1 ∧ IntOp.cmpi .slt (eW m s) 32#32 = 1#1))
      ∧ Scalar.select (IntOp.cmpi .sgt (nW m s) 0#32) (IntOp.cmpi .eq (gW m s) (BitVec.ofNat 32 s.val))
          (IntOp.andi (IntOp.cmpi .eq (gW m s) (prevW (tbl m 2) (at57 s))) (IntOp.cmpi .sgt (BitVec.ofNat 32 s.val) 0#32)) = 1#1 := fun s => by
    have e : IntOp.andi (IntOp.andi (IntOp.cmpi .sge (eW m s) 0#32) (IntOp.cmpi .slt (eW m s) 32#32))
      (Scalar.select (IntOp.cmpi .sgt (nW m s) 0#32) (IntOp.cmpi .eq (gW m s) (BitVec.ofNat 32 s.val))
          (IntOp.andi (IntOp.cmpi .eq (gW m s) (prevW (tbl m 2) (at57 s))) (IntOp.cmpi .sgt (BitVec.ofNat 32 s.val) 0#32))) = 1#1 := congrFun h (at57 s)
    obtain ⟨e1, e2⟩ := (and_iff _ _).1 e
    exact ⟨(and_iff _ _).1 e1, e2⟩
  have own : ∀ s : Fin 57, used (nW m s) 0 → gW m s = BitVec.ofNat 32 s.val := fun s hu => by
    have e := (sel_pos _ _ _ ((sgt_iff (nW m s) 0 (by omega)).2 hu)).symm.trans (key s).2
    exact beq_iff_eq.1 ((ofBool_iff _).1 e)
  have keep : ∀ s : Fin 57, ¬ used (nW m s) 0 → ∃ h : 0 < s.val, gW m s = gW m ⟨s.val - 1, by omega⟩ := fun s hu => by
    have e := (sel_neg _ _ _ (fun h => hu ((sgt_iff (nW m s) 0 (by omega)).1 h))).symm.trans (key s).2
    obtain ⟨e1, e2⟩ := (and_iff _ _).1 e
    have h0 : used (BitVec.ofNat 32 s.val) 0 := (sgt_iff _ 0 (by omega)).1 e2
    unfold used at h0
    rw [WordCmp.toInt_ofNat_of_lt (by omega)] at h0
    have hp : 0 < s.val := by omega
    exact ⟨hp, (beq_iff_eq.1 ((ofBool_iff _).1 e1)).trans (prevW_eq (tbl m 2) s hp)⟩
  have he : ∀ s, (eW m s).toNat < 32 := fun s => by
    obtain ⟨⟨e1, e2⟩, -⟩ := key s
    have h1 : (0 : ℤ) ≤ (eW m s).toInt := by
      have := BitVec.sle_iff_toInt_le.1 ((ofBool_iff _).1 e1)
      simpa using this
    have h2 : (eW m s).toInt < 32 := by
      have := BitVec.slt_iff_toInt_lt.1 ((ofBool_iff _).1 e2)
      simpa using this
    have hlt := (eW m s).isLt
    rw [BitVec.toInt_eq_toNat_cond] at h1 h2
    split at h1 <;> omega
  have hg : ∀ (n : ℕ) (hn : n < 57), (gW m ⟨n, hn⟩).toNat < 57 := fun n => by
    induction n with
    | zero =>
      intro hn
      by_cases hu : used (nW m ⟨0, hn⟩) 0
      · rw [own _ hu]; show (BitVec.ofNat 32 0).toNat < 57; decide
      · exact absurd (keep _ hu).1 (lt_irrefl _)
    | succ n ih =>
      intro hn
      by_cases hu : used (nW m ⟨n + 1, hn⟩) 0
      · rw [own _ hu, WordCmp.toNat_ofNat_of_lt (by show n + 1 < _; omega)]; exact hn
      · obtain ⟨hp, e⟩ := keep _ hu
        rw [e]; exact ih (by omega)
  exact ⟨ok_of m (fun s => hg s.val s.isLt) he, own, keep, he⟩

end

end Cert.ExpertsIdeal.Hand

end
-- ==== Proof.ExpertsIdeal.Array.lean ====
module

public import proofs.«01_k».proof.Proof.ExpertsIdeal.Points
public import proofs.«01_k».proof.Proof.ExpertsIdeal.Frame
public import proofs.«01_k».proof.Proof.ExpertsIdeal.Sched

@[expose] public section

set_option maxRecDepth 16384

noncomputable section

namespace Cert.ExpertsIdeal.Hand

open Idealize.ShloMosaic Idealize.ShloMosaic.TcCoe Idealize.SL Idealize.SL.Sem
open Cert.ExpertsIdeal.Gen Cert.Moe
open Idealize.ShloMosaic.Pipeline (Dat)
open scoped BigOperators

variable {l : Fin 4} (m : (ℓ : Loc nD τ sig) → Buf (Elt Ideal) ℓ)

abbrev xArr (c : Dev nD) : SX.Idx → EReal := m ((c : Thread nD τ).loc main_arg3)
abbrev wuArr (l : Fin 4) (m : (ℓ : Loc nD τ sig) → Buf (Elt Ideal) ℓ) (c : Dev nD) : SWU.Idx → EReal := lay l (m ((c : Thread nD τ).loc main_arg4))
abbrev buArr (l : Fin 4) (m : (ℓ : Loc nD τ sig) → Buf (Elt Ideal) ℓ) (c : Dev nD) : SBU.Idx → EReal := lay l (m ((c : Thread nD τ).loc main_arg5))
abbrev wdArr (l : Fin 4) (m : (ℓ : Loc nD τ sig) → Buf (Elt Ideal) ℓ) (c : Dev nD) : SWD.Idx → EReal := lay l (m ((c : Thread nD τ).loc main_arg6))
abbrev bdArr (l : Fin 4) (m : (ℓ : Loc nD τ sig) → Buf (Elt Ideal) ℓ) (c : Dev nD) : SBD.Idx → EReal := lay l (m ((c : Thread nD τ).loc main_arg7))

/-! ## The blocks a point of a used group reads -/

section Blocks

variable (hS : Sched l m) (c : Dev nD) (t : Fin grid0.N) (hu : used (nW m (grp t)) 0) (e : Fin 32) (he : (eW m (grp t)).toNat = e.val)

theorem gi_eq : gi (grid0.coords t) = grp t := Fin.ext (coord0 t)

include hS hu in
theorem own_nat : (gW m (grp t)).toNat = (grp t).val := by
  rw [hS.own _ hu, WordCmp.toNat_ofNat_of_lt (by have := (grp t).isLt; omega)]

include hu in
theorem chunk_nat : (cW m (gi (grid0.coords t)) (grid0.coords t 1).val).toNat = t.val % 4 := by
  rw [gi_eq, coord1, cW_used m _ _ (Nat.mod_lt _ (by omega)) hu]

theorem index0_at : cc0_transform_0 k0_off1_inb numel1_S1 (tbl m) (grid0.coords t) = ![(gW m (grp t)).toNat, 0] := (tr0 m (grid0.coords t)).trans (by rw [gi_eq])
include hu he in
theorem index1_at : atL l (cc0_transform_1 k0_off1_inb numel1_S1 (tbl m)) (grid0.coords t) = ![l.val, e.val, 0, t.val % 4] := (tr1 m (grid0.coords t)).trans (by rw [chunk_nat m t hu, gi_eq, he])
include hu he in
theorem index2_at : atL l (cc0_transform_2 k0_off1_inb numel1_S1 (tbl m)) (grid0.coords t) = ![l.val, e.val, 0, 4 + t.val % 4] := (tr2 m (grid0.coords t)).trans (by rw [chunk_nat m t hu, gi_eq, he])
include hu he in
theorem index3_at : atL l (cc0_transform_3 k0_off1_inb numel1_S1 (tbl m)) (grid0.coords t) = ![l.val, e.val, 0, t.val % 4] := (tr3 m (grid0.coords t)).trans (by rw [chunk_nat m t hu, gi_eq, he])
include hu he in
theorem index4_at : atL l (cc0_transform_4 k0_off1_inb numel1_S1 (tbl m)) (grid0.coords t) = ![l.val, e.val, 0, 4 + t.val % 4] := (tr4 m (grid0.coords t)).trans (by rw [chunk_nat m t hu, gi_eq, he])
include hu he in
theorem index5_at : atL l (cc0_transform_5 k0_off1_inb numel1_S1 (tbl m)) (grid0.coords t) = ![l.val, e.val, t.val % 4, 0] := (tr5 m (grid0.coords t)).trans (by rw [chunk_nat m t hu, gi_eq, he])
include he in
theorem index6_at : atL l (cc0_transform_6 k0_off1_inb numel1_S1 (tbl m)) (grid0.coords t) = ![l.val, e.val, 0, 0] := (tr6 m (grid0.coords t)).trans (by rw [gi_eq, he])

include hu in
theorem x_apply (p : Fin 1280) (d : Fin 2048) (R : Fin 72960) (hR : R.val = 1280 * (grp t).val + p.val) :
    (xB m hS.ok c t (ix2 p d) : EReal) = xArr m c (ix2 R d) := by
  show V m c main_arg3 _ = _
  refine congrArg (xArr m c) (funext fun a => Fin.ext ?_)
  match a with
  | ⟨0, _⟩ =>
    show cc0_transform_0 k0_off1_inb numel1_S1 (tbl m) (grid0.coords t) 0 * 1280 + 1 * p.val = R.val
    rw [index0_at m t]; show (gW m (grp t)).toNat * 1280 + 1 * p.val = R.val
    rw [own_nat m hS t hu]; omega
  | ⟨1, _⟩ =>
    show cc0_transform_0 k0_off1_inb numel1_S1 (tbl m) (grid0.coords t) 1 * 2048 + 1 * d.val = d.val
    rw [index0_at m t]; show 0 * 2048 + 1 * d.val = d.val; omega

include hu he in
theorem ug_apply (d : Fin 2048) (j : Fin 512) (J : Fin 4096) (hJ : J.val = 512 * (t.val % 4) + j.val) :
    (ugB m hS.ok c t (ix4 0 0 d j) : EReal) = wuArr l m c (ix4 0 e d J) := by
  show V m c main_arg4 _ = V m c main_arg4 _
  refine congrArg (V m c main_arg4) (funext fun a => Fin.ext ?_)
  match a with
  | ⟨0, _⟩ => show atL l (cc0_transform_1 k0_off1_inb numel1_S1 (tbl m)) (grid0.coords t) 0 * 1 + 1 * 0 = l.val; rw [index1_at m t hu e he]; show l.val * 1 + 1 * 0 = l.val; omega
  | ⟨1, _⟩ => show atL l (cc0_transform_1 k0_off1_inb numel1_S1 (tbl m)) (grid0.coords t) 1 * 1 + 1 * 0 = e.val; rw [index1_at m t hu e he]; show e.val * 1 + 1 * 0 = e.val; omega
  | ⟨2, _⟩ => show atL l (cc0_transform_1 k0_off1_inb numel1_S1 (tbl m)) (grid0.coords t) 2 * 2048 + 1 * d.val = d.val; rw [index1_at m t hu e he]; show 0 * 2048 + 1 * d.val = d.val; omega
  | ⟨3, _⟩ => show atL l (cc0_transform_1 k0_off1_inb numel1_S1 (tbl m)) (grid0.coords t) 3 * 512 + 1 * j.val = J.val; rw [index1_at m t hu e he]; show t.val % 4 * 512 + 1 * j.val = J.val; omega

include hu he in
theorem uu_apply (d : Fin 2048) (j : Fin 512) (J : Fin 4096) (hJ : J.val = 2048 + (512 * (t.val % 4) + j.val)) :
    (uuB m hS.ok c t (ix4 0 0 d j) : EReal) = wuArr l m c (ix4 0 e d J) := by
  show V m c main_arg4 _ = V m c main_arg4 _
  refine congrArg (V m c main_arg4) (funext fun a => Fin.ext ?_)
  match a with
  | ⟨0, _⟩ => show atL l (cc0_transform_2 k0_off1_inb numel1_S1 (tbl m)) (grid0.coords t) 0 * 1 + 1 * 0 = l.val; rw [index2_at m t hu e he]; show l.val * 1 + 1 * 0 = l.val; omega
  | ⟨1, _⟩ => show atL l (cc0_transform_2 k0_off1_inb numel1_S1 (tbl m)) (grid0.coords t) 1 * 1 + 1 * 0 = e.val; rw [index2_at m t hu e he]; show e.val * 1 + 1 * 0 = e.val; omega
  | ⟨2, _⟩ => show atL l (cc0_transform_2 k0_off1_inb numel1_S1 (tbl m)) (grid0.coords t) 2 * 2048 + 1 * d.val = d.val; rw [index2_at m t hu e he]; show 0 * 2048 + 1 * d.val = d.val; omega
  | ⟨3, _⟩ => show atL l (cc0_transform_2 k0_off1_inb numel1_S1 (tbl m)) (grid0.coords t) 3 * 512 + 1 * j.val = J.val; rw [index2_at m t hu e he]; show (4 + t.val % 4) * 512 + 1 * j.val = J.val; omega

include hu he in
theorem bg_apply (j : Fin 512) (J : Fin 4096) (hJ : J.val = 512 * (t.val % 4) + j.val) :
    (bgB m hS.ok c t (ix4 0 0 0 j) : EReal) = buArr l m c (ix4 0 e 0 J) := by
  show V m c main_arg5 _ = V m c main_arg5 _
  refine congrArg (V m c main_arg5) (funext fun a => Fin.ext ?_)
  match a with
  | ⟨0, _⟩ => show atL l (cc0_transform_3 k0_off1_inb numel1_S1 (tbl m)) (grid0.coords t) 0 * 1 + 1 * 0 = l.val; rw [index3_at m t hu e he]; show l.val * 1 + 1 * 0 = l.val; omega
  | ⟨1, _⟩ => show atL l (cc0_transform_3 k0_off1_inb numel1_S1 (tbl m)) (grid0.coords t) 1 * 1 + 1 * 0 = e.val; rw [index3_at m t hu e he]; show e.val * 1 + 1 * 0 = e.val; omega
  | ⟨2, _⟩ => show atL l (cc0_transform_3 k0_off1_inb numel1_S1 (tbl m)) (grid0.coords t) 2 * 1 + 1 * 0 = 0; rw [index3_at m t hu e he]; rfl
  | ⟨3, _⟩ => show atL l (cc0_transform_3 k0_off1_inb numel1_S1 (tbl m)) (grid0.coords t) 3 * 512 + 1 * j.val = J.val; rw [index3_at m t hu e he]; show t.val % 4 * 512 + 1 * j.val = J.val; omega

include hu he in
theorem bu_apply (j : Fin 512) (J : Fin 4096) (hJ : J.val = 2048 + (512 * (t.val % 4) + j.val)) :
    (buB m hS.ok c t (ix4 0 0 0 j) : EReal) = buArr l m c (ix4 0 e 0 J) := by
  show V m c main_arg5 _ = V m c main_arg5 _
  refine congrArg (V m c main_arg5) (funext fun a => Fin.ext ?_)
  match a with
  | ⟨0, _⟩ => show atL l (cc0_transform_4 k0_off1_inb numel1_S1 (tbl m)) (grid0.coords t) 0 * 1 + 1 * 0 = l.val; rw [index4_at m t hu e he]; show l.val * 1 + 1 * 0 = l.val; omega
  | ⟨1, _⟩ => show atL l (cc0_transform_4 k0_off1_inb numel1_S1 (tbl m)) (grid0.coords t) 1 * 1 + 1 * 0 = e.val; rw [index4_at m t hu e he]; show e.val * 1 + 1 * 0 = e.val; omega
  | ⟨2, _⟩ => show atL l (cc0_transform_4 k0_off1_inb numel1_S1 (tbl m)) (grid0.coords t) 2 * 1 + 1 * 0 = 0; rw [index4_at m t hu e he]; rfl
  | ⟨3, _⟩ => show atL l (cc0_transform_4 k0_off1_inb numel1_S1 (tbl m)) (grid0.coords t) 3 * 512 + 1 * j.val = J.val; rw [index4_at m t hu e he]; show (4 + t.val % 4) * 512 + 1 * j.val = J.val; omega

include hu he in
theorem ud_apply (j : Fin 512) (q : Fin 2048) (J : Fin 2048) (hJ : J.val = 512 * (t.val % 4) + j.val) :
    (udB m hS.ok c t (ix4 0 0 j q) : EReal) = wdArr l m c (ix4 0 e J q) := by
  show V m c main_arg6 _ = V m c main_arg6 _
  refine congrArg (V m c main_arg6) (funext fun a => Fin.ext ?_)
  match a with
  | ⟨0, _⟩ => show atL l (cc0_transform_5 k0_off1_inb numel1_S1 (tbl m)) (grid0.coords t) 0 * 1 + 1 * 0 = l.val; rw [index5_at m t hu e he]; show l.val * 1 + 1 * 0 = l.val; omega
  | ⟨1, _⟩ => show atL l (cc0_transform_5 k0_off1_inb numel1_S1 (tbl m)) (grid0.coords t) 1 * 1 + 1 * 0 = e.val; rw [index5_at m t hu e he]; show e.val * 1 + 1 * 0 = e.val; omega
  | ⟨2, _⟩ => show atL l (cc0_transform_5 k0_off1_inb numel1_S1 (tbl m)) (grid0.coords t) 2 * 512 + 1 * j.val = J.val; rw [index5_at m t hu e he]; show t.val % 4 * 512 + 1 * j.val = J.val; omega
  | ⟨3, _⟩ => show atL l (cc0_transform_5 k0_off1_inb numel1_S1 (tbl m)) (grid0.coords t) 3 * 2048 + 1 * q.val = q.val; rw [index5_at m t hu e he]; show 0 * 2048 + 1 * q.val = q.val; omega

include he in
theorem bd_apply (q : Fin 2048) : (bdB m hS.ok c t (ix4 0 0 0 q) : EReal) = bdArr l m c (ix4 0 e 0 q) := by
  show V m c main_arg7 _ = V m c main_arg7 _
  refine congrArg (V m c main_arg7) (funext fun a => Fin.ext ?_)
  match a with
  | ⟨0, _⟩ => show atL l (cc0_transform_6 k0_off1_inb numel1_S1 (tbl m)) (grid0.coords t) 0 * 1 + 1 * 0 = l.val; rw [index6_at m t e he]; show l.val * 1 + 1 * 0 = l.val; omega
  | ⟨1, _⟩ => show atL l (cc0_transform_6 k0_off1_inb numel1_S1 (tbl m)) (grid0.coords t) 1 * 1 + 1 * 0 = e.val; rw [index6_at m t e he]; show e.val * 1 + 1 * 0 = e.val; omega
  | ⟨2, _⟩ => show atL l (cc0_transform_6 k0_off1_inb numel1_S1 (tbl m)) (grid0.coords t) 2 * 1 + 1 * 0 = 0; rw [index6_at m t e he]; rfl
  | ⟨3, _⟩ => show atL l (cc0_transform_6 k0_off1_inb numel1_S1 (tbl m)) (grid0.coords t) 3 * 2048 + 1 * q.val = q.val; rw [index6_at m t e he]; show 0 * 2048 + 1 * q.val = q.val; omega

include hu he in
/-- A point's step of a block's sums. -/
theorem ptRows_apply (k : Fin 5) (prev : Vec Ideal S256x2048 .f32) (r : Fin 256) (q : Fin 2048) (R : Fin 72960)
    (hR : R.val = 1280 * (grp t).val + (256 * k.val + r.val)) (ch : Fin 4) (hc : t.val % 4 = ch.val) :
    (ptRows m hS.ok c t k prev (ix2 r q) : EReal)
      = (if t.val % 4 = 0 then bdArr l m c (ix4 0 e 0 q) else (prev (ix2 r q) : EReal)) + part (xArr m c) (wuArr l m c) (buArr l m c) (wdArr l m c) e R q ch := by
  have hp : 256 * k.val + r.val < 1280 := by have := k.isLt; have := r.isLt; omega
  unfold ptRows
  rw [newRows_apply _ k _ _ _ _ _ _ _ prev r q ⟨256 * k.val + r.val, hp⟩ rfl, coord1, bd_apply m hS c t e he]
  refine congrArg ((if t.val % 4 = 0 then bdArr l m c (ix4 0 e 0 q) else (prev (ix2 r q) : EReal)) + ·) ?_
  unfold part
  refine Finset.sum_congr rfl fun j _ => ?_
  have hj := j.isLt
  have hch := ch.isLt
  rw [ud_apply m hS c t hu e he j q ⟨512 * ch.val + j.val, by omega⟩ (by rw [hc]), bg_apply m hS c t hu e he j ⟨512 * ch.val + j.val, by omega⟩ (by rw [hc]),
    bu_apply m hS c t hu e he j ⟨2048 + (512 * ch.val + j.val), by omega⟩ (by rw [hc])]
  refine congrArg (· * _) ?_
  unfold hid up
  refine congrArg₂ (fun a b => act (a + _) (b + _)) (Finset.sum_congr rfl fun d _ => ?_) (Finset.sum_congr rfl fun d _ => ?_)
  · rw [x_apply m hS c t hu _ d R hR, ug_apply m hS c t hu e he d j ⟨512 * ch.val + j.val, by omega⟩ (by rw [hc])]
  · rw [x_apply m hS c t hu _ d R hR, uu_apply m hS c t hu e he d j ⟨2048 + (512 * ch.val + j.val), by omega⟩ (by rw [hc])]

end Blocks

/-! ## A group's sums -/

section Group

variable (hS : Sched l m) (c : Dev nD) (s : Fin 57) (hu : used (nW m s) 0) (e : Fin 32) (he : (eW m s).toNat = e.val)
  (k : Fin 5) (r : Fin 256) (q : Fin 2048) (R : Fin 72960) (hR : R.val = 1280 * s.val + (256 * k.val + r.val))

theorem grp_at (ch : ℕ) (hch : ch < 4) (h : 4 * s.val + ch < grid0.N) : grp ⟨4 * s.val + ch, h⟩ = s := Fin.ext (show (4 * s.val + ch) / 4 = s.val by omega)

include hu he hR in
theorem acc_step (ch : Fin 4) (h : 4 * s.val + ch.val < grid0.N) (prev : Vec Ideal S256x2048 .f32) :
    (ptRows m hS.ok c ⟨4 * s.val + ch.val, h⟩ k prev (ix2 r q) : EReal)
      = (if ch.val = 0 then bdArr l m c (ix4 0 e 0 q) else (prev (ix2 r q) : EReal)) + part (xArr m c) (wuArr l m c) (buArr l m c) (wdArr l m c) e R q ch := by
  have hch := ch.isLt
  have eg := grp_at s ch.val hch h
  have em : (4 * s.val + ch.val) % 4 = ch.val := by omega
  have E := ptRows_apply m hS c ⟨4 * s.val + ch.val, h⟩ (by rw [eg]; exact hu) e (by rw [eg]; exact he) k prev r q R (by rw [eg]; exact hR) ch em
  rw [E]
  show (if (4 * s.val + ch.val) % 4 = 0 then _ else _) + _ = _
  rw [em]

theorem lt_N (n : ℕ) (h : n < 228) : n < grid0.N := lt_of_lt_of_eq h N_0.symm

include hu he hR in
/-- After its four points a group's sums are the expert's result. -/
theorem acc_apply : (accAt m hS.ok c (4 * s.val + 3) (lt_N _ (by have := s.isLt; omega)) k (ix2 r q) : EReal)
    = res (xArr m c) (wuArr l m c) (buArr l m c) (wdArr l m c) (bdArr l m c) e R q := by
  have hs := s.isLt
  have S := acc_step m hS c s hu e he k r q R hR
  have h0 : (accAt m hS.ok c (4 * s.val) (lt_N _ (by omega)) k (ix2 r q) : EReal)
      = bdArr l m c (ix4 0 e 0 q) + part (xArr m c) (wuArr l m c) (buArr l m c) (wdArr l m c) e R q 0 := by
    have A := accAt_eq m hS.ok c ⟨4 * s.val, lt_N _ (by omega)⟩ k (k0_pay4 (bdB m hS.ok c ⟨4 * s.val, lt_N _ (by omega)⟩))
      (fun h => absurd (show 4 * s.val % 4 = 0 by omega) h)
    have B := S 0 (lt_N _ (by show 4 * s.val + 0 < 228; omega)) (k0_pay4 (bdB m hS.ok c ⟨4 * s.val, lt_N _ (by omega)⟩))
    rw [← A]; exact B
  have h1 : (accAt m hS.ok c (4 * s.val + 1) (lt_N _ (by omega)) k (ix2 r q) : EReal) = _ := S 1 (lt_N _ (by show 4 * s.val + 1 < 228; omega)) _
  have h2 : (accAt m hS.ok c (4 * s.val + 2) (lt_N _ (by omega)) k (ix2 r q) : EReal) = _ := S 2 (lt_N _ (by show 4 * s.val + 2 < 228; omega)) _
  have h3 : (accAt m hS.ok c (4 * s.val + 3) (lt_N _ (by omega)) k (ix2 r q) : EReal) = _ := S 3 (lt_N _ (by show 4 * s.val + 3 < 228; omega)) _
  rw [← res_parts, h3]
  refine congrArg (· + _) (h2.trans ?_)
  refine congrArg (· + _) (h1.trans ?_)
  exact congrArg (· + _) h0

end Group

end Cert.ExpertsIdeal.Hand
end
-- ==== Proof.ExpertsIdeal.Result.lean ====
module

public import proofs.«01_k».proof.Proof.ExpertsIdeal.Array

@[expose] public section

set_option maxRecDepth 16384

noncomputable section

namespace Cert.ExpertsIdeal.Hand

open Idealize.ShloMosaic Idealize.ShloMosaic.TcCoe Idealize.SL Idealize.SL.Sem
open Cert.ExpertsIdeal.Gen Cert.Moe
open Idealize.ShloMosaic.Pipeline (Dat)
open scoped BigOperators

variable {l : Fin 4} (m : (ℓ : Loc nD τ sig) → Buf (Elt Ideal) ℓ) (hS : Sched l m) (c : Dev nD)

/-! ## The result array -/

/-- What the output buffer holds belongs to the group whose row tile it names. -/
theorem aft_owner : ∀ (n : ℕ) (h : n < 57), ∃ o : Fin 57, used (nW m o) 0 ∧ gW m ⟨n, h⟩ = BitVec.ofNat 32 o.val ∧ aft m hS.ok c n h = tile m hS.ok c o
  | n, h => by
    induction n with
    | zero =>
      have h0 : used (nW m ⟨0, h⟩) 0 := by
        by_contra hn
        obtain ⟨hlt, -⟩ := hS.keep ⟨0, h⟩ hn
        exact absurd hlt (Nat.lt_irrefl 0)
      exact ⟨⟨0, h⟩, h0, hS.own _ h0, rfl⟩
    | succ n ih =>
      by_cases hu : used (nW m ⟨n + 1, h⟩) 0
      · exact ⟨⟨n + 1, h⟩, hu, hS.own _ hu, aft_used m hS.ok c ⟨n + 1, h⟩ hu⟩
      · obtain ⟨o, ho, hg, ha⟩ := ih (Nat.lt_of_succ_lt h)
        obtain ⟨hlt, hk⟩ := hS.keep ⟨n + 1, h⟩ hu
        exact ⟨o, ho, hk.trans hg, (aft_keep m hS.ok c ⟨n + 1, h⟩ ⟨n, Nat.lt_of_succ_lt h⟩ rfl hu).trans ha⟩

/-- The buffer of the group that names row tile `s` holds tile `s`. -/
theorem aft_of_tile (u s : Fin 57) (h : (gW m u).toNat = s.val) : aft m hS.ok c u.val u.isLt = tile m hS.ok c s := by
  obtain ⟨o, -, hg, ha⟩ := aft_owner m hS c u.val u.isLt
  have hg' : gW m u = BitVec.ofNat 32 o.val := hg
  rw [hg', WordCmp.toNat_ofNat_of_lt (by have := o.isLt; omega)] at h
  rw [ha, Fin.ext h]

/-- Some point from `t` on, with the same row tile, writes the tile back. -/
theorem flush_from (g : ℕ) : ∀ (d : ℕ) (t : Fin grid0.N), grid0.N - t.val = d → (gW m (grp t)).toNat = g →
    ∃ u : Fin grid0.N, (gW m (grp u)).toNat = g ∧ ((cfgM m hS.ok).win 7).flush u = true := by
  intro d
  induction d with
  | zero => intro t h; exact absurd t.isLt (by omega)
  | succ d ih =>
    intro t h hg
    by_cases hf : ((cfgM m hS.ok).win 7).flush t = true
    · exact ⟨t, hg, hf⟩
    · have h1 : ¬ (t.val + 1 = grid0.N) := fun e => hf (by
        unfold Pipeline.Window.flush
        simp only [e, decide_true, Bool.true_or, Bool.and_true]
        rfl)
      have hlt : t.val + 1 < grid0.N := by have := t.isLt; omega
      have h2 : ((cfgM m hS.ok).win 7).index ⟨t.val + 1, hlt⟩ = ((cfgM m hS.ok).win 7).index t := by
        by_contra hne
        have he : ∃ h : t.val + 1 < grid0.N, ((cfgM m hS.ok).win 7).index ⟨t.val + 1, h⟩ ≠ ((cfgM m hS.ok).win 7).index t := ⟨hlt, hne⟩
        refine hf ?_
        unfold Pipeline.Window.flush
        simp only [he, decide_true, Bool.or_true, Bool.and_true]
        rfl
      rw [index7, index7] at h2
      exact ih ⟨t.val + 1, hlt⟩ (by show grid0.N - (t.val + 1) = d; omega) ((congrFun h2 0).trans hg)

/-- The array's place of a place in the block. -/
abbrev emb7 (t : Fin grid0.N) (y : S1280x2048.Idx) : S72960x2048.Idx := (((cfgM m hS.ok).win 7).blk t).view.emb y

theorem emb7_row (t : Fin grid0.N) (y : S1280x2048.Idx) : (emb7 m hS t y 0).val = (gW m (grp t)).toNat * 1280 + (y 0).val := by
  show cc0_transform_7 k0_off1_inb numel1_S1 (tbl m) (grid0.coords t) 0 * 1280 + 1 * (y 0).val = _
  rw [tr7, gi_eq, Nat.one_mul]; rfl
theorem emb7_col (t : Fin grid0.N) (y : S1280x2048.Idx) : (emb7 m hS t y 1).val = (y 1).val := by
  show cc0_transform_7 k0_off1_inb numel1_S1 (tbl m) (grid0.coords t) 1 * 2048 + 1 * (y 1).val = _
  rw [tr7, gi_eq, Nat.one_mul]; show 0 * 2048 + (y 1).val = _; omega

/-- What a write-back carries. -/
theorem flushed7 (t : Fin grid0.N) (y : S1280x2048.Idx) :
    (dats m hS.ok 0 c).flushed 7 t y = aft m hS.ok c (grp t).val (grp t).isLt y := by
  show ((cfgM m hS.ok).win 7).cut _ ((dats m hS.ok 0 c).after 7 t) y = _
  rw [after0_7]
  rfl

/-- The array's rows of a used group are the group's tile. -/
theorem arr_tile (s : Fin 57) (hu : used (nW m s) 0) (p : Fin 1280) (q : Fin 2048) (R : Fin 72960) (hR : R.val = 1280 * s.val + p.val) :
    (dats m hS.ok 0 c).arrAt 7 (cfgM m hS.ok).N (ix2 R q) = tile m hS.ok c s (ix2 p q) := by
  have hs := s.isLt
  have hg : (gW m (grp ⟨4 * s.val, lt_N _ (by omega)⟩)).toNat = s.val := by
    have e : grp ⟨4 * s.val, lt_N _ (by omega)⟩ = s := grp_at s 0 (by omega) _
    rw [e, hS.own s hu, WordCmp.toNat_ofNat_of_lt (by omega)]
  obtain ⟨u, hgu, hf⟩ := flush_from m hS s.val _ ⟨4 * s.val, lt_N _ (by omega)⟩ rfl hg
  have main := Dat.arrAt_forall_of_flushed (dats m hS.ok 0 c) 7
    (fun (i : S72960x2048.Idx) (v : Elt Ideal .bf16) => ∀ (p : Fin 1280) (q : Fin 2048), (i 0).val = 1280 * s.val + p.val → (i 1).val = q.val → v = tile m hS.ok c s (ix2 p q))
    (fun t ht (y : S1280x2048.Idx) p q h0 h1 => by
      have hy0 : (y 0).val < 1280 := (y 0).isLt
      have e0 := (emb7_row m hS t y).symm.trans h0
      have e1 := (emb7_col m hS t y).symm.trans h1
      have hp := p.isLt
      have hgt : (gW m (grp t)).toNat = s.val := by omega
      refine (flushed7 m hS c t y).trans ?_
      rw [aft_of_tile m hS c (grp t) s hgt]
      refine congrArg (tile m hS.ok c s) (funext fun a => Fin.ext ?_)
      match a with
      | ⟨0, _⟩ => show (y 0).val = p.val; omega
      | ⟨1, _⟩ => exact e1)
    (cfgM m hS.ok).N u (ix2 R q) u.isLt hf
    (Finset.mem_map.mpr ⟨ix2 p q, Finset.mem_univ _, show emb7 m hS u (ix2 p q) = ix2 R q from funext fun a => Fin.ext (by
      match a with
      | ⟨0, _⟩ => refine (emb7_row m hS u (ix2 p q)).trans ?_; rw [hgu]; show s.val * 1280 + p.val = R.val; omega
      | ⟨1, _⟩ => exact emb7_col m hS u (ix2 p q))⟩)
  exact main p q hR rfl

/-- The array's entries in a used block are the expert's results. -/
theorem arr_apply (s : Fin 57) (e : Fin 32) (he : (eW m s).toNat = e.val) (k : Fin 5) (hk : used (nW m s) k.val) (r : Fin 256) (q : Fin 2048)
    (R : Fin 72960) (hR : R.val = 1280 * s.val + (256 * k.val + r.val)) :
    ((dats m hS.ok 0 c).arrAt 7 (cfgM m hS.ok).N (ix2 R q) : EReal) = res (xArr m c) (wuArr l m c) (buArr l m c) (wdArr l m c) (bdArr l m c) e R q := by
  have hk5 := k.isLt
  have hr := r.isLt
  have hu : used (nW m s) 0 := lt_of_le_of_lt (show ((0 : ℕ) : ℤ) ≤ (k.val : ℤ) by omega) hk
  refine (arr_tile m hS c s hu ⟨256 * k.val + r.val, by omega⟩ q R hR).trans ?_
  rw [← acc_apply m hS c s hu e he k r q R hR]
  have ek : (⟨(256 * k.val + r.val) / 256, by omega⟩ : Fin 5) = k := Fin.ext (show (256 * k.val + r.val) / 256 = k.val by omega)
  have er : (⟨(256 * k.val + r.val) % 256, Nat.mod_lt _ (by omega)⟩ : Fin 256) = r := Fin.ext (show (256 * k.val + r.val) % 256 = r.val by omega)
  show (if used (nW m s) (⟨(256 * k.val + r.val) / 256, _⟩ : Fin 5).val then k0_pay2 (accAt m hS.ok c (4 * s.val + 3) _ ⟨(256 * k.val + r.val) / 256, _⟩) else k0_pay3 (F := Ideal))
    (at2 ⟨(256 * k.val + r.val) % 256, _⟩ q) = _
  rw [ek, er, if_pos hk]
  have e2 : at2 r q = ix2 r q := funext fun a => match a with | ⟨0, _⟩ => rfl | ⟨1, _⟩ => rfl
  rw [e2]
  rfl

/-- The call ends with its result array what the last step leaves of it, and its operands as they were. -/
theorem run_result (m : (ℓ : Loc nD τ sig) → Buf (Elt Ideal) ℓ) (ρ : Dev nD → PrngReg) (hS : Sched l m) : θ_run (defsL (F := Ideal) l) (onTc (τ := τ) (mainL (F := Ideal) l)) ⟨m, fun _ => 0, ρ⟩ (fun r => ∀ c : Dev nD,
      r.2.mem ((c.tc : Thread nD τ).loc main_v0) = (dats m hS.ok 0 c).arrAt 7 (cfgM m hS.ok).N
    ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defsL l) _ _).mono (fun _ h => fun c => ⟨(h.1 c).1 7,
      (h.1 c).2 main_arg0 (by decide : main_arg0 ∈ Pipeline.restRefs sig spec0),
      (h.1 c).2 main_arg1 (by decide : main_arg1 ∈ Pipeline.restRefs sig spec0),
      (h.1 c).2 main_arg2 (by decide : main_arg2 ∈ Pipeline.restRefs sig spec0),
      ((h.1 c).1 0).trans (((dats m hS.ok 0 c).arrAt_in 0 rfl _).trans (A_eq m hS.ok c 0)),
      ((h.1 c).1 1).trans (((dats m hS.ok 0 c).arrAt_in 1 rfl _).trans (A_eq m hS.ok c 1)),
      ((h.1 c).1 3).trans (((dats m hS.ok 0 c).arrAt_in 3 rfl _).trans (A_eq m hS.ok c 3)),
      ((h.1 c).1 5).trans (((dats m hS.ok 0 c).arrAt_in 5 rfl _).trans (A_eq m hS.ok c 5)),
      ((h.1 c).1 6).trans (((dats m hS.ok 0 c).arrAt_in 6 rfl _).trans (A_eq m hS.ok c 6))⟩) (run_main_quiescent m ρ hS)

end Cert.ExpertsIdeal.Hand
end
-- ==== Proof.Experts.Reference.lean ====
module

public import proofs.«01_k».proof.Proof.Experts.Spec
public import proofs.«01_k».proof.Proof.Gen.ExpertsRefIdeal.Read
public import Idealize.ShloMosaic.Lib.Pipeline.Value
public import Idealize.ShloMosaic.Lib.WordCmp

@[expose] public section

set_option maxRecDepth 16384

noncomputable section

namespace Cert.ExpertsRefIdeal.Entry

open Idealize.ShloMosaic Idealize.ShloMosaic.TcCoe Idealize.SL.Sem
open Cert.ExpertsRefIdeal Cert.ExpertsRefIdeal.Gen Cert.ExpertsRefIdeal.Read Cert.Moe
open scoped BigOperators

/-! ## The gathers' start indices -/

/-- An expert's number is not negative, so indexing leaves it as it is. -/
theorem norm_eq : ∀ n : Fin 32, Scalar.select (IntOp.cmpi .slt (BitVec.ofNat 32 n.val) 0#32) (IntOp.addi (BitVec.ofNat 32 n.val) 32#32) (BitVec.ofNat 32 n.val) = BitVec.ofNat 32 n.val := by
  decide

variable (x0 : (⟨S57, .i32⟩ : BufTy).Contents (Elt Ideal)) (s : Fin 57) (e : Fin 32) (he : x0 (ix1 s) = BitVec.ofNat 32 e.val)

include he in
theorem pick (i : S57.Idx) (hi : i = ix1 s) : Scalar.select (IntOp.cmpi .slt (x0 i) 0#32) (IntOp.addi (x0 i) 32#32) (x0 i) = BitVec.ofNat 32 e.val := by
  rw [hi, he, norm_eq]

theorem one_eq (i : S57.Idx) (h : (i 0).val = s.val) : i = ix1 s := funext fun a => Fin.ext (by match a with | ⟨0, _⟩ => exact h)

/-- Columns side by side, column by column. -/
theorem cols3 (a b d : S57x1.Idx → BitVec 32) (h : Shape.Concatenates [S57x1, S57x1, S57x1] S57x3 1) :
    concatenate S57x3 1 [⟨S57x1, a⟩, ⟨S57x1, b⟩, ⟨S57x1, d⟩] h (ix2 s 0) = a (ix2 s 0)
      ∧ concatenate S57x3 1 [⟨S57x1, a⟩, ⟨S57x1, b⟩, ⟨S57x1, d⟩] h (ix2 s 1) = b (ix2 s 0)
      ∧ concatenate S57x3 1 [⟨S57x1, a⟩, ⟨S57x1, b⟩, ⟨S57x1, d⟩] h (ix2 s 2) = d (ix2 s 0) := by
  refine ⟨?_, ?_, ?_⟩
  · exact concatenate_apply_piece (t := S57x3) 1 [⟨S57x1, a⟩, ⟨S57x1, b⟩, ⟨S57x1, d⟩] h (ix2 s 0) 0 (show 0 < 3 by omega) _ a rfl rfl 0 rfl (ix2 s 0) (fun y hy => by
      match y with
      | ⟨0, _⟩ => rfl
      | ⟨1, _⟩ => exact absurd rfl hy) rfl
  · exact concatenate_apply_piece (t := S57x3) 1 [⟨S57x1, a⟩, ⟨S57x1, b⟩, ⟨S57x1, d⟩] h (ix2 s 1) 1 (show 1 < 3 by omega) _ b rfl rfl 1 rfl (ix2 s 0) (fun y hy => by
      match y with
      | ⟨0, _⟩ => rfl
      | ⟨1, _⟩ => exact absurd rfl hy) rfl
  · exact concatenate_apply_piece (t := S57x3) 1 [⟨S57x1, a⟩, ⟨S57x1, b⟩, ⟨S57x1, d⟩] h (ix2 s 2) 2 (show 2 < 3 by omega) _ d rfl rfl 2 rfl (ix2 s 0) (fun y hy => by
      match y with
      | ⟨0, _⟩ => rfl
      | ⟨1, _⟩ => exact absurd rfl hy) rfl
theorem cols2 (a b : S57x1.Idx → BitVec 32) (h : Shape.Concatenates [S57x1, S57x1] S57x2 1) :
    concatenate S57x2 1 [⟨S57x1, a⟩, ⟨S57x1, b⟩] h (ix2 s 0) = a (ix2 s 0)
      ∧ concatenate S57x2 1 [⟨S57x1, a⟩, ⟨S57x1, b⟩] h (ix2 s 1) = b (ix2 s 0) := by
  refine ⟨?_, ?_⟩
  · exact concatenate_apply_piece (t := S57x2) 1 [⟨S57x1, a⟩, ⟨S57x1, b⟩] h (ix2 s 0) 0 (show 0 < 2 by omega) _ a rfl rfl 0 rfl (ix2 s 0) (fun y hy => by
      match y with
      | ⟨0, _⟩ => rfl
      | ⟨1, _⟩ => exact absurd rfl hy) rfl
  · exact concatenate_apply_piece (t := S57x2) 1 [⟨S57x1, a⟩, ⟨S57x1, b⟩] h (ix2 s 1) 1 (show 1 < 2 by omega) _ b rfl rfl 1 rfl (ix2 s 0) (fun y hy => by
      match y with
      | ⟨0, _⟩ => rfl
      | ⟨1, _⟩ => exact absurd rfl hy) rfl

include he in
theorem starts24 : val_main_v24 (F := Ideal) x0 (ix2 s 0) = BitVec.ofNat 32 e.val ∧ val_main_v24 (F := Ideal) x0 (ix2 s 1) = 0#32 ∧ val_main_v24 (F := Ideal) x0 (ix2 s 2) = 0#32 := by
  unfold val_main_v24
  obtain ⟨h0, h1, h2⟩ := cols3 s (val_main_v21 (F := Ideal) x0) (val_main_v22 (F := Ideal)) (val_main_v23 (F := Ideal)) concatenates_S57x1_S57x1_S57x1_S57x3_d1
  refine ⟨h0.trans ?_, h1.trans ?_, h2.trans ?_⟩
  · rw [val_main_v21_apply]; exact pick x0 s e he _ (one_eq s _ rfl)
  · rw [val_main_v22_apply]; rfl
  · rw [val_main_v23_apply]; rfl
include he in
theorem starts38 : val_main_v38 (F := Ideal) x0 (ix2 s 0) = BitVec.ofNat 32 e.val ∧ val_main_v38 (F := Ideal) x0 (ix2 s 1) = 0#32 := by
  unfold val_main_v38
  obtain ⟨h0, h1⟩ := cols2 s (val_main_v36 (F := Ideal) x0) (val_main_v37 (F := Ideal)) concatenates_S57x1_S57x1_S57x2_d1
  refine ⟨h0.trans ?_, h1.trans ?_⟩
  · rw [val_main_v36_apply]; exact pick x0 s e he _ (one_eq s _ rfl)
  · rw [val_main_v37_apply]; rfl
include he in
theorem starts75 : val_main_v75 (F := Ideal) x0 (ix2 s 0) = BitVec.ofNat 32 e.val ∧ val_main_v75 (F := Ideal) x0 (ix2 s 1) = 0#32 ∧ val_main_v75 (F := Ideal) x0 (ix2 s 2) = 0#32 := by
  unfold val_main_v75
  obtain ⟨h0, h1, h2⟩ := cols3 s (val_main_v72 (F := Ideal) x0) (val_main_v73 (F := Ideal)) (val_main_v74 (F := Ideal)) concatenates_S57x1_S57x1_S57x1_S57x3_d1
  refine ⟨h0.trans ?_, h1.trans ?_, h2.trans ?_⟩
  · rw [val_main_v72_apply]; exact pick x0 s e he _ (one_eq s _ rfl)
  · rw [val_main_v73_apply]; rfl
  · rw [val_main_v74_apply]; rfl
include he in
theorem starts89 : val_main_v89 (F := Ideal) x0 (ix2 s 0) = BitVec.ofNat 32 e.val ∧ val_main_v89 (F := Ideal) x0 (ix2 s 1) = 0#32 := by
  unfold val_main_v89
  obtain ⟨h0, h1⟩ := cols2 s (val_main_v87 (F := Ideal) x0) (val_main_v88 (F := Ideal)) concatenates_S57x1_S57x1_S57x2_d1
  refine ⟨h0.trans ?_, h1.trans ?_⟩
  · rw [val_main_v87_apply]; exact pick x0 s e he _ (one_eq s _ rfl)
  · rw [val_main_v88_apply]; rfl

/-! ## The gathers -/

theorem clamp_e (b : BitVec 32) (n : ℕ) (hn : n < 32) (h : b = BitVec.ofNat 32 n) : min b.toInt.toNat (32 - 1) = n := by
  rw [h, WordCmp.toInt_ofNat_of_lt (by omega)]
  show min n 31 = n
  omega
theorem clamp_0 (b : BitVec 32) (N : ℕ) (h : b = 0#32) : min b.toInt.toNat N = 0 := by
  rw [h]; exact Nat.zero_min N

theorem gatherUp_apply (x : S32x2048x4096.Idx → EReal) (idx : IVec S57x3 32) (h0 : idx (ix2 s 0) = BitVec.ofNat 32 e.val) (h1 : idx (ix2 s 1) = 0#32)
    (h2 : idx (ix2 s 2) = 0#32) (d : Fin 2048) (j : Fin 4096) :
    Host.gather gather_S32x2048x4096_S57x3_S57x1x2048x4096_123_n_n_n_012_1_120484096 x idx (ix4 s 0 d j) = x (ix3 e d j) := by
  have S : ∀ k : Fin 3, gather_S32x2048x4096_S57x3_S57x1x2048x4096_123_n_n_n_012_1_120484096.siIdx (ix4 s 0 d j) k = ix2 s k := fun k => by
    funext b
    refine Fin.ext ?_
    match b with
    | ⟨0, _⟩ => rfl
    | ⟨1, _⟩ => rfl
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) ((dif_pos (show (0 : Fin 3) ∈ ([0, 1, 2] : List (Fin 3)) by decide)).trans <| (congrArg (fun y => min (idx y).toInt.toNat (32 - 1)) (S 0)).trans (clamp_e _ e.val e.isLt h0)) rfl).trans ?_
    rfl
  | ⟨1, _⟩ =>
    refine (congrArg₂ (· + ·) ((dif_pos (show (1 : Fin 3) ∈ ([0, 1, 2] : List (Fin 3)) by decide)).trans <| (congrArg (fun y => min (idx y).toInt.toNat (2048 - 2048)) (S 1)).trans (clamp_0 _ _ h1)) rfl).trans ?_
    exact Nat.zero_add _
  | ⟨2, _⟩ =>
    refine (congrArg₂ (· + ·) ((dif_pos (show (2 : Fin 3) ∈ ([0, 1, 2] : List (Fin 3)) by decide)).trans <| (congrArg (fun y => min (idx y).toInt.toNat (4096 - 4096)) (S 2)).trans (clamp_0 _ _ h2)) rfl).trans ?_
    exact Nat.zero_add _

theorem gatherDown_apply (x : S32x2048x2048.Idx → EReal) (idx : IVec S57x3 32) (h0 : idx (ix2 s 0) = BitVec.ofNat 32 e.val) (h1 : idx (ix2 s 1) = 0#32)
    (h2 : idx (ix2 s 2) = 0#32) (d : Fin 2048) (j : Fin 2048) :
    Host.gather gather_S32x2048x2048_S57x3_S57x1x2048x2048_123_n_n_n_012_1_120482048 x idx (ix4 s 0 d j) = x (ix3 e d j) := by
  have S : ∀ k : Fin 3, gather_S32x2048x2048_S57x3_S57x1x2048x2048_123_n_n_n_012_1_120482048.siIdx (ix4 s 0 d j) k = ix2 s k := fun k => by
    funext b
    refine Fin.ext ?_
    match b with
    | ⟨0, _⟩ => rfl
    | ⟨1, _⟩ => rfl
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) ((dif_pos (show (0 : Fin 3) ∈ ([0, 1, 2] : List (Fin 3)) by decide)).trans <| (congrArg (fun y => min (idx y).toInt.toNat (32 - 1)) (S 0)).trans (clamp_e _ e.val e.isLt h0)) rfl).trans ?_
    rfl
  | ⟨1, _⟩ =>
    refine (congrArg₂ (· + ·) ((dif_pos (show (1 : Fin 3) ∈ ([0, 1, 2] : List (Fin 3)) by decide)).trans <| (congrArg (fun y => min (idx y).toInt.toNat (2048 - 2048)) (S 1)).trans (clamp_0 _ _ h1)) rfl).trans ?_
    exact Nat.zero_add _
  | ⟨2, _⟩ =>
    refine (congrArg₂ (· + ·) ((dif_pos (show (2 : Fin 3) ∈ ([0, 1, 2] : List (Fin 3)) by decide)).trans <| (congrArg (fun y => min (idx y).toInt.toNat (2048 - 2048)) (S 2)).trans (clamp_0 _ _ h2)) rfl).trans ?_
    exact Nat.zero_add _

theorem gatherUpBias_apply (x : S32x4096.Idx → EReal) (idx : IVec S57x2 32) (h0 : idx (ix2 s 0) = BitVec.ofNat 32 e.val) (h1 : idx (ix2 s 1) = 0#32) (j : Fin 4096) :
    Host.gather gather_S32x4096_S57x2_S57x1x4096_12_n_n_n_01_1_14096 x idx (ix3 s 0 j) = x (ix2 e j) := by
  have S : ∀ k : Fin 2, gather_S32x4096_S57x2_S57x1x4096_12_n_n_n_01_1_14096.siIdx (ix3 s 0 j) k = ix2 s k := fun k => by
    funext b
    refine Fin.ext ?_
    match b with
    | ⟨0, _⟩ => rfl
    | ⟨1, _⟩ => rfl
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) ((dif_pos (show (0 : Fin 2) ∈ ([0, 1] : List (Fin 2)) by decide)).trans <| (congrArg (fun y => min (idx y).toInt.toNat (32 - 1)) (S 0)).trans (clamp_e _ e.val e.isLt h0)) rfl).trans ?_
    rfl
  | ⟨1, _⟩ =>
    refine (congrArg₂ (· + ·) ((dif_pos (show (1 : Fin 2) ∈ ([0, 1] : List (Fin 2)) by decide)).trans <| (congrArg (fun y => min (idx y).toInt.toNat (4096 - 4096)) (S 1)).trans (clamp_0 _ _ h1)) rfl).trans ?_
    exact Nat.zero_add _

theorem gatherDownBias_apply (x : S32x2048.Idx → EReal) (idx : IVec S57x2 32) (h0 : idx (ix2 s 0) = BitVec.ofNat 32 e.val) (h1 : idx (ix2 s 1) = 0#32) (j : Fin 2048) :
    Host.gather gather_S32x2048_S57x2_S57x1x2048_12_n_n_n_01_1_12048 x idx (ix3 s 0 j) = x (ix2 e j) := by
  have S : ∀ k : Fin 2, gather_S32x2048_S57x2_S57x1x2048_12_n_n_n_01_1_12048.siIdx (ix3 s 0 j) k = ix2 s k := fun k => by
    funext b
    refine Fin.ext ?_
    match b with
    | ⟨0, _⟩ => rfl
    | ⟨1, _⟩ => rfl
  unfold Host.gather
  refine congrArg x (funext fun a => Fin.ext ?_)
  show GatherDims.start _ _ idx a + GatherDims.batchCoord _ _ a + GatherDims.offCoord _ _ a = _
  rw [GatherDims.batchCoord_eq_zero _ _ _ List.not_mem_nil, Nat.add_zero]
  match a with
  | ⟨0, _⟩ =>
    refine (congrArg₂ (· + ·) ((dif_pos (show (0 : Fin 2) ∈ ([0, 1] : List (Fin 2)) by decide)).trans <| (congrArg (fun y => min (idx y).toInt.toNat (32 - 1)) (S 0)).trans (clamp_e _ e.val e.isLt h0)) rfl).trans ?_
    rfl
  | ⟨1, _⟩ =>
    refine (congrArg₂ (· + ·) ((dif_pos (show (1 : Fin 2) ∈ ([0, 1] : List (Fin 2)) by decide)).trans <| (congrArg (fun y => min (idx y).toInt.toNat (2048 - 2048)) (S 1)).trans (clamp_0 _ _ h1)) rfl).trans ?_
    exact Nat.zero_add _

/-! ## The operands, entry by entry -/

section Operands

variable (x3 : (⟨S72960x2048, .bf16⟩ : BufTy).Contents (Elt Ideal)) (x4 : (⟨S4x32x2048x4096, .f32⟩ : BufTy).Contents (Elt Ideal))
  (x5 : (⟨S4x32x1x4096, .f32⟩ : BufTy).Contents (Elt Ideal)) (x6 : (⟨S4x32x2048x2048, .f32⟩ : BufTy).Contents (Elt Ideal))
  (x7 : (⟨S4x32x1x2048, .f32⟩ : BufTy).Contents (Elt Ideal))

theorem v1_at (d : Fin 2048) (j : Fin 4096) : (val_main_v1 (F := Ideal) x4 (ix3 e d j) : EReal) = x4 (ix4 0 e d j) := by
  rw [val_main_v1_apply, val_main_v0_apply]
  refine congrArg x4 (funext fun a => Fin.ext ?_)
  have h0 := e.isLt; have h1 := d.isLt; have h2 := j.isLt
  match a with
  | ⟨0, _⟩ => rfl
  | ⟨1, _⟩ => show ((e.val * 2048 + d.val) * 4096 + j.val) / 8388608 % 32 = e.val; omega
  | ⟨2, _⟩ => show ((e.val * 2048 + d.val) * 4096 + j.val) / 4096 % 2048 = d.val; omega
  | ⟨3, _⟩ => show ((e.val * 2048 + d.val) * 4096 + j.val) % 4096 = j.val; omega
theorem v5_at (d : Fin 2048) (j : Fin 2048) : (val_main_v5 (F := Ideal) x6 (ix3 e d j) : EReal) = x6 (ix4 0 e d j) := by
  rw [val_main_v5_apply, val_main_v4_apply]
  refine congrArg x6 (funext fun a => Fin.ext ?_)
  have h0 := e.isLt; have h1 := d.isLt; have h2 := j.isLt
  match a with
  | ⟨0, _⟩ => rfl
  | ⟨1, _⟩ => show ((e.val * 2048 + d.val) * 2048 + j.val) / 4194304 % 32 = e.val; omega
  | ⟨2, _⟩ => show ((e.val * 2048 + d.val) * 2048 + j.val) / 2048 % 2048 = d.val; omega
  | ⟨3, _⟩ => show ((e.val * 2048 + d.val) * 2048 + j.val) % 2048 = j.val; omega
theorem v3_at (j : Fin 4096) : (val_main_v3 (F := Ideal) x5 (ix2 e j) : EReal) = x5 (ix4 0 e 0 j) := by
  rw [val_main_v3_apply, val_main_v2_apply]
  refine congrArg x5 (funext fun a => Fin.ext ?_)
  have h0 := e.isLt; have h2 := j.isLt
  match a with
  | ⟨0, _⟩ => rfl
  | ⟨1, _⟩ => show (e.val * 4096 + j.val) / 4096 % 32 = e.val; omega
  | ⟨2, _⟩ => rfl
  | ⟨3, _⟩ => show (e.val * 4096 + j.val) % 4096 = j.val; omega
theorem v7_at (j : Fin 2048) : (val_main_v7 (F := Ideal) x7 (ix2 e j) : EReal) = x7 (ix4 0 e 0 j) := by
  rw [val_main_v7_apply, val_main_v6_apply]
  refine congrArg x7 (funext fun a => Fin.ext ?_)
  have h0 := e.isLt; have h2 := j.isLt
  match a with
  | ⟨0, _⟩ => rfl
  | ⟨1, _⟩ => show (e.val * 2048 + j.val) / 2048 % 32 = e.val; omega
  | ⟨2, _⟩ => rfl
  | ⟨3, _⟩ => show (e.val * 2048 + j.val) % 2048 = j.val; omega

theorem v9_at (p : Fin 1280) (d : Fin 2048) (R : Fin 72960) (hR : R.val = 1280 * s.val + p.val) :
    (val_main_v9 (F := Ideal) x3 (ix3 s p d) : EReal) = x3 (ix2 R d) := by
  rw [val_main_v9_apply]
  show (x3 (idx_main_v9 (ix3 s p d)) : EReal) = _
  refine congrArg x3 (funext fun a => Fin.ext ?_)
  have h0 := s.isLt; have h1 := p.isLt; have h2 := d.isLt
  match a with
  | ⟨0, _⟩ => show ((s.val * 1280 + p.val) * 2048 + d.val) / 2048 = R.val; omega
  | ⟨1, _⟩ => show ((s.val * 1280 + p.val) * 2048 + d.val) % 2048 = d.val; omega

include he in
theorem v26_at (d : Fin 2048) (j : Fin 4096) : (val_main_v26 (F := Ideal) x0 x4 (ix3 s d j) : EReal) = x4 (ix4 0 e d j) := by
  have h0 := s.isLt; have h1 := d.isLt; have h2 := j.isLt
  obtain ⟨t0, t1, t2⟩ := starts24 x0 s e he
  rw [val_main_v26_apply, ← v1_at e x4 d j, ← gatherUp_apply s e (val_main_v1 (F := Ideal) x4) (val_main_v24 (F := Ideal) x0) t0 t1 t2 d j]
  unfold val_main_v25
  refine congrArg _ (funext fun a => Fin.ext ?_)
  match a with
  | ⟨0, _⟩ => show ((s.val * 2048 + d.val) * 4096 + j.val) / 8388608 = s.val; omega
  | ⟨1, _⟩ => rfl
  | ⟨2, _⟩ => show ((s.val * 2048 + d.val) * 4096 + j.val) / 4096 % 2048 = d.val; omega
  | ⟨3, _⟩ => show ((s.val * 2048 + d.val) * 4096 + j.val) % 4096 = j.val; omega
include he in
theorem v77_at (d : Fin 2048) (j : Fin 2048) : (val_main_v77 (F := Ideal) x0 x6 (ix3 s d j) : EReal) = x6 (ix4 0 e d j) := by
  have h0 := s.isLt; have h1 := d.isLt; have h2 := j.isLt
  obtain ⟨t0, t1, t2⟩ := starts75 x0 s e he
  rw [val_main_v77_apply, ← v5_at e x6 d j, ← gatherDown_apply s e (val_main_v5 (F := Ideal) x6) (val_main_v75 (F := Ideal) x0) t0 t1 t2 d j]
  unfold val_main_v76
  refine congrArg _ (funext fun a => Fin.ext ?_)
  match a with
  | ⟨0, _⟩ => show ((s.val * 2048 + d.val) * 2048 + j.val) / 4194304 = s.val; omega
  | ⟨1, _⟩ => rfl
  | ⟨2, _⟩ => show ((s.val * 2048 + d.val) * 2048 + j.val) / 2048 % 2048 = d.val; omega
  | ⟨3, _⟩ => show ((s.val * 2048 + d.val) * 2048 + j.val) % 2048 = j.val; omega
include he in
theorem v42_at (p : Fin 1280) (j : Fin 4096) : (val_main_v42 (F := Ideal) x0 x5 (ix3 s p j) : EReal) = x5 (ix4 0 e 0 j) := by
  have h0 := s.isLt; have h2 := j.isLt
  obtain ⟨t0, t1⟩ := starts38 x0 s e he
  rw [val_main_v42_apply, val_main_v41_apply, val_main_v40_apply, ← v3_at e x5 j, ← gatherUpBias_apply s e (val_main_v3 (F := Ideal) x5) (val_main_v38 (F := Ideal) x0) t0 t1 j]
  unfold val_main_v39
  refine congrArg _ (funext fun a => Fin.ext ?_)
  match a with
  | ⟨0, _⟩ => show (s.val * 4096 + j.val) / 4096 = s.val; omega
  | ⟨1, _⟩ => rfl
  | ⟨2, _⟩ => show (s.val * 4096 + j.val) % 4096 = j.val; omega
include he in
theorem v93_at (p : Fin 1280) (j : Fin 2048) : (val_main_v93 (F := Ideal) x0 x7 (ix3 s p j) : EReal) = x7 (ix4 0 e 0 j) := by
  have h0 := s.isLt; have h2 := j.isLt
  obtain ⟨t0, t1⟩ := starts89 x0 s e he
  rw [val_main_v93_apply, val_main_v92_apply, val_main_v91_apply, ← v7_at e x7 j, ← gatherDownBias_apply s e (val_main_v7 (F := Ideal) x7) (val_main_v89 (F := Ideal) x0) t0 t1 j]
  unfold val_main_v90
  refine congrArg _ (funext fun a => Fin.ext ?_)
  match a with
  | ⟨0, _⟩ => show (s.val * 2048 + j.val) / 2048 = s.val; omega
  | ⟨1, _⟩ => rfl
  | ⟨2, _⟩ => show (s.val * 2048 + j.val) % 2048 = j.val; omega

/-! ## The experts' results -/

variable (p : Fin 1280) (R : Fin 72960) (hR : R.val = 1280 * s.val + p.val)

include he hR in
theorem v43_at (j : Fin 4096) : (val_main_v43 (F := Ideal) x0 x3 x4 x5 (ix3 s p j) : EReal) = up x3 x4 x5 e R j := by
  unfold up
  rw [val_main_v43_apply]
  refine congrArg₂ (· + ·) ?_ (v42_at x0 s e he x5 p j)
  rw [val_main_v27_apply]
  refine Finset.sum_congr rfl fun d _ => ?_
  rw [← v9_at s x3 p d R hR, ← v26_at x0 s e he x4 d j]
  refine congrArg₂ (fun a b => val_main_v9 (F := Ideal) x3 a * val_main_v26 (F := Ideal) x0 x4 b) (funext fun a => ?_) (funext fun a => ?_)
  · match a with
    | ⟨0, _⟩ => rfl
    | ⟨1, _⟩ => rfl
    | ⟨2, _⟩ => rfl
  · match a with
    | ⟨0, _⟩ => rfl
    | ⟨1, _⟩ => rfl
    | ⟨2, _⟩ => rfl

include he hR in
theorem v44_at (j : Fin 2048) : (val_main_v44 (F := Ideal) x0 x3 x4 x5 (ix3 s p j) : EReal) = up x3 x4 x5 e R ⟨j.val, by have := j.isLt; omega⟩ := by
  rw [val_main_v44_apply, ← v43_at x0 s e he x3 x4 x5 p R hR]
  refine congrArg _ (funext fun a => ?_)
  match a with
  | ⟨0, _⟩ => rfl
  | ⟨1, _⟩ => rfl
  | ⟨2, _⟩ => rfl
include he hR in
theorem v47_at (j : Fin 2048) : (val_main_v47 (F := Ideal) x0 x3 x4 x5 (ix3 s p j) : EReal) = up x3 x4 x5 e R ⟨2048 + j.val, by have := j.isLt; omega⟩ := by
  rw [val_main_v47_apply, ← v43_at x0 s e he x3 x4 x5 p R hR]
  refine congrArg _ (funext fun a => ?_)
  match a with
  | ⟨0, _⟩ => rfl
  | ⟨1, _⟩ => rfl
  | ⟨2, _⟩ => rfl

include he hR in
theorem v60_at (j : Fin 2048) : (val_main_v60 (F := Ideal) x0 x3 x4 x5 (ix3 s p j) : EReal) = hid x3 x4 x5 e R j := by
  unfold hid
  rw [← v44_at x0 s e he x3 x4 x5 p R hR, ← v47_at x0 s e he x3 x4 x5 p R hR]
  rw [val_main_v60_apply, val_main_v59_apply, val_main_v57_apply, val_main_v56_apply, val_main_v55_apply, val_main_v54_apply, val_main_v53_apply,
    val_main_v52_apply, val_main_v51_apply, val_main_v50_apply, val_main_v49_apply, val_main_v48_apply, val_main_v46_apply, val_main_v45_apply,
    val_main_call0_v4_apply, val_main_call0_v2_apply, val_main_call0_v1_apply]
  generalize (val_main_v44 (F := Ideal) x0 x3 x4 x5 (ix3 s p j)) = g
  generalize (val_main_v47 (F := Ideal) x0 x3 x4 x5 (ix3 s p j)) = u
  rfl

include he hR in
/-- The reference's result in group `s`'s row `p`. -/
theorem ref_apply (q : Fin 2048) : (val_main_v96 (F := Ideal) x0 x3 x4 x5 x6 x7 (ix2 R q) : EReal) = res x3 x4 x5 x6 x7 e R q := by
  have h0 := s.isLt; have h1 := p.isLt; have h2 := q.isLt
  unfold res
  rw [val_main_v96_apply]
  show (val_main_v95 (F := Ideal) x0 x3 x4 x5 x6 x7 (ix2 R q) : EReal) = _
  rw [val_main_v95_apply]
  have ei : idx_main_v95 (ix2 R q) = ix3 s p q := funext fun a => Fin.ext (by
    match a with
    | ⟨0, _⟩ => show (R.val * 2048 + q.val) / 2621440 = s.val; omega
    | ⟨1, _⟩ => show (R.val * 2048 + q.val) / 2048 % 1280 = p.val; omega
    | ⟨2, _⟩ => show (R.val * 2048 + q.val) % 2048 = q.val; omega)
  rw [ei, val_main_v94_apply]
  refine congrArg₂ (· + ·) ?_ (v93_at x0 s e he x7 p q)
  rw [val_main_v78_apply]
  refine Finset.sum_congr rfl fun j _ => ?_
  rw [← v60_at x0 s e he x3 x4 x5 p R hR, ← v77_at x0 s e he x6 j q]
  refine congrArg₂ (fun a b => val_main_v60 (F := Ideal) x0 x3 x4 x5 a * val_main_v77 (F := Ideal) x0 x6 b) (funext fun a => ?_) (funext fun a => ?_)
  · match a with
    | ⟨0, _⟩ => rfl
    | ⟨1, _⟩ => rfl
    | ⟨2, _⟩ => rfl
  · match a with
    | ⟨0, _⟩ => rfl
    | ⟨1, _⟩ => rfl
    | ⟨2, _⟩ => rfl

end Operands

end Cert.ExpertsRefIdeal.Entry
end
-- ==== Proof.Experts.Rows.lean ====
module

public import proofs.«01_k».proof.Proof.ExpertsIdeal.Result
public import proofs.«01_k».proof.Proof.Experts.Reference
public import proofs.«01_k».proof.Proof.Gen.On_used_rows

@[expose] public section

set_option maxRecDepth 16384

noncomputable section

namespace Cert.Proof.Experts

open Idealize.ShloMosaic Idealize.SL.Sem Idealize.ShloMosaic.TcCoe

/-- The comparison a row's block number makes, read through the reshape. -/
theorem mask_apply [Cert.On_used_rows.Facts] (v : IVec Cert.On_used_rows.S57x5x256x2048 1) (s : Fin 57) (k : Fin 5) (r : Fin 256) (q : Fin 2048) (R : Fin 72960)
    (hR : R.val = 1280 * s.val + (256 * k.val + r.val)) :
    shapeCast Cert.On_used_rows.S72960x2048 v Cert.On_used_rows.Facts.shapeCasts_S57x5x256x2048_S72960x2048 (ix2 R q) = v (ix4 s k r q) := by
  refine shapeCast_apply _ _ _ _ ?_
  rw [Shape.rowMajor_val_four, Shape.rowMajor_val_two]
  show ((s.val * 5 + k.val) * 256 + r.val) * 2048 + q.val = R.val * 2048 + q.val
  omega

/-- A place the mask selects lies in a used block of its group. -/
theorem used_of_mask [Cert.On_used_rows.Facts] (a0 a1 a2 : IVec Cert.On_used_rows.S57 32) (a3 : FVec Ideal Cert.On_used_rows.S72960x2048 .bf16) (a4 : FVec Ideal Cert.On_used_rows.S4x32x2048x4096 .f32)
    (a5 : FVec Ideal Cert.On_used_rows.S4x32x1x4096 .f32) (a6 : FVec Ideal Cert.On_used_rows.S4x32x2048x2048 .f32) (a7 : FVec Ideal Cert.On_used_rows.S4x32x1x2048 .f32)
    (s : Fin 57) (k : Fin 5) (r : Fin 256) (q : Fin 2048) (R : Fin 72960) (hR : R.val = 1280 * s.val + (256 * k.val + r.val))
    (h : Cert.On_used_rows.fn (F := Ideal) a0 a1 a2 a3 a4 a5 a6 a7 (ix2 R q) = 1#1) (b : BitVec 32) (hb : a1 (ix1 s) = b) : Cert.ExpertsIdeal.Hand.used b k.val := by
  have e2 : IntOp.cmpi .slt (BitVec.ofNat 32 k.val) (a1 (ix1 s)) = 1#1 := by
    unfold Cert.On_used_rows.fn at h
    dsimp only at h
    rw [mask_apply _ s k r q R hR] at h
    refine Eq.trans (congrArg (fun y => IntOp.cmpi .slt (BitVec.ofNat 32 k.val) (a1 y)) ?_) h
    funext a
    match a with
    | ⟨0, _⟩ => rfl
  rw [hb] at e2
  exact (Cert.ExpertsIdeal.Hand.slt_iff b k.val k.isLt).1 ((Cert.ExpertsIdeal.Hand.ofBool_iff _).1 e2)

/-- A row's group, its block there and its place in the block. -/
theorem place (R : Fin 72960) : ∃ (s : Fin 57) (k : Fin 5) (r : Fin 256), R.val = 1280 * s.val + (256 * k.val + r.val) ∧ R.val / 1280 = s.val := by
  have h := R.isLt
  refine ⟨⟨R.val / 1280, by omega⟩, ⟨R.val % 1280 / 256, by omega⟩, ⟨R.val % 256, by omega⟩, ?_, rfl⟩
  show R.val = 1280 * (R.val / 1280) + (256 * (R.val % 1280 / 256) + R.val % 256)
  omega

theorem eta2 (i : (⟨2, ![72960, 2048]⟩ : Shape).Idx) : ∃ (R : Fin 72960) (q : Fin 2048), i = ix2 R q :=
  ⟨i 0, i 1, by funext a; match a with | ⟨0, _⟩ => rfl | ⟨1, _⟩ => rfl⟩

theorem at_one (b : IVec (⟨1, ![57]⟩ : Shape) 32) (s : Fin 57) : b (fun a => match a with | ⟨0, _⟩ => s) = b (ix1 s) :=
  congrArg b (funext fun a => match a with | ⟨0, _⟩ => rfl)

section
open Cert.ExpertsIdeal.Hand Cert.Moe

variable {l : Fin 4} (m : (ℓ : Loc Cert.ExpertsIdeal.nD Cert.ExpertsIdeal.τ Cert.ExpertsIdeal.sig) → Buf (Elt Ideal) ℓ) (hS : Cert.ExpertsIdeal.Hand.Sched l m)

/-- The expert of a group of rows. -/
def expertOf (s : Fin 57) : Fin 32 := ⟨(eW m s).toNat, hS.expert s⟩

/-- The group of a row. -/
def groupOf (R : Fin 72960) : Fin 57 := ⟨R.val / 1280, by have := R.isLt; omega⟩

/-- The result both programs leave at a used row: the row's expert applied to it. -/
def rows (c : Dev Cert.ExpertsIdeal.nD) (R : Fin 72960) (q : Fin 2048) : EReal :=
  res (xArr m c) (wuArr l m c) (buArr l m c) (wdArr l m c) (bdArr l m c) (expertOf m hS (groupOf R)) R q

/-- The kernel's result array at a row the mask selects. -/
theorem kernel_at [Cert.On_used_rows.Facts] (c : Dev Cert.ExpertsIdeal.nD) (a0 a2 : IVec Cert.On_used_rows.S57 32) (a3 : FVec Ideal Cert.On_used_rows.S72960x2048 .bf16) (a4 : FVec Ideal Cert.On_used_rows.S4x32x2048x4096 .f32)
    (a5 : FVec Ideal Cert.On_used_rows.S4x32x1x4096 .f32) (a6 : FVec Ideal Cert.On_used_rows.S4x32x2048x2048 .f32) (a7 : FVec Ideal Cert.On_used_rows.S4x32x1x2048 .f32)
    (R : Fin 72960) (q : Fin 2048)
    (h : Cert.On_used_rows.fn (F := Ideal) a0 (tbl m 1) a2 a3 a4 a5 a6 a7 (ix2 R q) = 1#1) :
    ((dats m hS.ok 0 c).arrAt 7 (cfgM m hS.ok).N (ix2 R q) : EReal) = rows m hS c R q := by
  obtain ⟨s, k, r, hR, es⟩ := place R
  have e : groupOf R = s := Fin.ext es
  unfold rows
  rw [e]
  exact arr_apply m hS c s (expertOf m hS s) rfl k (used_of_mask a0 (tbl m 1) a2 a3 a4 a5 a6 a7 s k r q R hR h (nW m s) (at_one (tbl m 1) s).symm) r q R hR

/-- The reference's result at any row, of the same operands. -/
theorem ref_at (c : Dev Cert.ExpertsIdeal.nD) (R : Fin 72960) (q : Fin 2048) :
    Cert.ExpertsRefIdeal.Read.val_main_v96 (F := Ideal) (tbl m 0) (xArr m c) (wuArr l m c) (buArr l m c) (wdArr l m c) (bdArr l m c) (ix2 R q) = rows m hS c R q := by
  obtain ⟨s, k, r, hR, es⟩ := place R
  have hk := k.isLt
  have hr := r.isLt
  have e : groupOf R = s := Fin.ext es
  unfold rows
  rw [e]
  refine Cert.ExpertsRefIdeal.Entry.ref_apply _ s (expertOf m hS s) ((at_one (tbl m 0) s).symm.trans ?_) _ _ _ _ _ ⟨256 * k.val + r.val, by omega⟩ R hR q
  exact BitVec.eq_of_toNat_eq ((BitVec.toNat_ofNat _ _).trans (Nat.mod_eq_of_lt (eW m s).isLt)).symm

end

end Cert.Proof.Experts
end
-- ==== Proof.Experts.Layer0.lean ====
module

public import proofs.«01_k».proof.Proof.ExpertsIdeal.Layer
public import Idealize.ShloMosaic.Machine.Run
public import proofs.«01_k».proof.Proof.Gen.Experts

@[expose] public section

set_option maxRecDepth 100000
set_option maxHeartbeats 1000000

noncomputable section

/-! The printed programs of layer 0 are the instances, at that layer, of the program the proof is about; a run of the one is a run of the other. -/

namespace Cert.Proof.Experts

open Idealize.ShloMosaic Idealize.SL.Sem
open Cert.ExpertsIdeal.Hand

variable {F : FTy → Type} [FloatOps F]

theorem defs0_p0 : Cert.Experts.defs₀ (F := F) = Cert.ExpertsIdeal.defs₀ (F := F) := by
  unfold Cert.Experts.defs₀ Cert.ExpertsIdeal.defs₀
  refine congrArg (Defs.onTc (nD := Cert.Experts.nD) (τ := Cert.Experts.τ)) ?_
  funext k s
  match k, s with
  | 0, (t, s) => rfl
theorem defs_p0 : Cert.Experts.defs (F := F) = defsL 0 := congrArg (Pipeline.defs (pcfgsL 0)) defs0_p0
theorem run_p0 {s : MemSt Cert.Experts.nD Cert.Experts.τ Cert.Experts.sig (Elt F)} {Q : PUnit × MemSt Cert.Experts.nD Cert.Experts.τ Cert.Experts.sig (Elt F) → Prop}
    (H : θ_run (defsL (F := F) 0) (onTc (τ := Cert.ExpertsIdeal.τ) (mainL (F := F) 0)) s Q) : θ_run (Cert.Experts.defs (F := F)) (onTc (τ := Cert.Experts.τ) (Cert.Experts.main (F := F))) s Q :=
  (congrArg (fun D => θ_run D (onTc (τ := Cert.ExpertsIdeal.τ) (mainL (F := F) 0)) s Q) (defs_p0 (F := F))).mpr H

theorem defs_i0 : Cert.ExpertsIdeal.defs (F := F) = defsL 0 := rfl
theorem run_i0 {s : MemSt Cert.ExpertsIdeal.nD Cert.ExpertsIdeal.τ Cert.ExpertsIdeal.sig (Elt F)} {Q : PUnit × MemSt Cert.ExpertsIdeal.nD Cert.ExpertsIdeal.τ Cert.ExpertsIdeal.sig (Elt F) → Prop}
    (H : θ_run (defsL (F := F) 0) (onTc (τ := Cert.ExpertsIdeal.τ) (mainL (F := F) 0)) s Q) : θ_run (Cert.ExpertsIdeal.defs (F := F)) (onTc (τ := Cert.ExpertsIdeal.τ) (Cert.ExpertsIdeal.main (F := F))) s Q :=
  (congrArg (fun D => θ_run D (onTc (τ := Cert.ExpertsIdeal.τ) (mainL (F := F) 0)) s Q) (defs_i0 (F := F))).mpr H

end Cert.Proof.Experts

end
-- ==== Proof.Experts.Reference0.lean ====
module

public import proofs.«01_k».proof.Proof.Experts.Spec
public import proofs.«01_k».proof.Proof.Gen.ExpertsRefIdeal.Read

@[expose] public section

set_option maxRecDepth 16384

noncomputable section

/-! The reference at layer 0 is the reference at the first layer of stacks that hold layer 0's arrays: they differ in the four slices alone. -/

namespace Cert.ExpertsRefIdeal.Entry

open Idealize.ShloMosaic Cert.ExpertsRefIdeal Cert.Moe

variable (x0 : (⟨S57, .i32⟩ : BufTy).Contents (Elt Ideal)) (x3 : (⟨S72960x2048, .bf16⟩ : BufTy).Contents (Elt Ideal)) (x4 : (⟨S4x32x2048x4096, .f32⟩ : BufTy).Contents (Elt Ideal))
  (x5 : (⟨S4x32x1x4096, .f32⟩ : BufTy).Contents (Elt Ideal)) (x6 : (⟨S4x32x2048x2048, .f32⟩ : BufTy).Contents (Elt Ideal))
  (x7 : (⟨S4x32x1x2048, .f32⟩ : BufTy).Contents (Elt Ideal))

theorem slice4 : Cert.ExpertsRefIdeal.Read.val_main_v0 (F := Ideal) x4 = Cert.ExpertsRefIdeal.Read.val_main_v0 (F := Ideal) (lay 0 x4) := by
  funext i
  rw [Cert.ExpertsRefIdeal.Read.val_main_v0_apply, Cert.ExpertsRefIdeal.Read.val_main_v0_apply]
  refine congrArg x4 (funext fun a => ?_)
  match a with
  | ⟨0, _⟩ => exact Fin.ext (by have h : (i 0).val < 1 := (i 0).isLt; show (i 0).val = 0; omega)
  | ⟨1, _⟩ => rfl
  | ⟨2, _⟩ => rfl
  | ⟨3, _⟩ => rfl
theorem flat4 : Cert.ExpertsRefIdeal.Read.val_main_v1 (F := Ideal) x4 = Cert.ExpertsRefIdeal.Read.val_main_v1 (F := Ideal) (lay 0 x4) :=
  congrArg (fun y => shapeCast _ y Cert.ExpertsRefIdeal.Gen.shapeCasts_S1x32x2048x4096_S32x2048x4096) (slice4 x4)

theorem slice5 : Cert.ExpertsRefIdeal.Read.val_main_v2 (F := Ideal) x5 = Cert.ExpertsRefIdeal.Read.val_main_v2 (F := Ideal) (lay 0 x5) := by
  funext i
  rw [Cert.ExpertsRefIdeal.Read.val_main_v2_apply, Cert.ExpertsRefIdeal.Read.val_main_v2_apply]
  refine congrArg x5 (funext fun a => ?_)
  match a with
  | ⟨0, _⟩ => exact Fin.ext (by have h : (i 0).val < 1 := (i 0).isLt; show (i 0).val = 0; omega)
  | ⟨1, _⟩ => rfl
  | ⟨2, _⟩ => rfl
  | ⟨3, _⟩ => rfl
theorem flat5 : Cert.ExpertsRefIdeal.Read.val_main_v3 (F := Ideal) x5 = Cert.ExpertsRefIdeal.Read.val_main_v3 (F := Ideal) (lay 0 x5) :=
  congrArg (fun y => shapeCast _ y Cert.ExpertsRefIdeal.Gen.shapeCasts_S1x32x1x4096_S32x4096) (slice5 x5)

theorem slice6 : Cert.ExpertsRefIdeal.Read.val_main_v4 (F := Ideal) x6 = Cert.ExpertsRefIdeal.Read.val_main_v4 (F := Ideal) (lay 0 x6) := by
  funext i
  rw [Cert.ExpertsRefIdeal.Read.val_main_v4_apply, Cert.ExpertsRefIdeal.Read.val_main_v4_apply]
  refine congrArg x6 (funext fun a => ?_)
  match a with
  | ⟨0, _⟩ => exact Fin.ext (by have h : (i 0).val < 1 := (i 0).isLt; show (i 0).val = 0; omega)
  | ⟨1, _⟩ => rfl
  | ⟨2, _⟩ => rfl
  | ⟨3, _⟩ => rfl
theorem flat6 : Cert.ExpertsRefIdeal.Read.val_main_v5 (F := Ideal) x6 = Cert.ExpertsRefIdeal.Read.val_main_v5 (F := Ideal) (lay 0 x6) :=
  congrArg (fun y => shapeCast _ y Cert.ExpertsRefIdeal.Gen.shapeCasts_S1x32x2048x2048_S32x2048x2048) (slice6 x6)

theorem slice7 : Cert.ExpertsRefIdeal.Read.val_main_v6 (F := Ideal) x7 = Cert.ExpertsRefIdeal.Read.val_main_v6 (F := Ideal) (lay 0 x7) := by
  funext i
  rw [Cert.ExpertsRefIdeal.Read.val_main_v6_apply, Cert.ExpertsRefIdeal.Read.val_main_v6_apply]
  refine congrArg x7 (funext fun a => ?_)
  match a with
  | ⟨0, _⟩ => exact Fin.ext (by have h : (i 0).val < 1 := (i 0).isLt; show (i 0).val = 0; omega)
  | ⟨1, _⟩ => rfl
  | ⟨2, _⟩ => rfl
  | ⟨3, _⟩ => rfl
theorem flat7 : Cert.ExpertsRefIdeal.Read.val_main_v7 (F := Ideal) x7 = Cert.ExpertsRefIdeal.Read.val_main_v7 (F := Ideal) (lay 0 x7) :=
  congrArg (fun y => shapeCast _ y Cert.ExpertsRefIdeal.Gen.shapeCasts_S1x32x1x2048_S32x2048) (slice7 x7)

theorem ref_eq : Cert.ExpertsRefIdeal.Read.val_main_v96 (F := Ideal) x0 x3 x4 x5 x6 x7
    = Cert.ExpertsRefIdeal.Read.val_main_v96 (F := Ideal) x0 x3 (lay 0 x4) (lay 0 x5) (lay 0 x6) (lay 0 x7) := by
  simp only [Cert.ExpertsRefIdeal.Read.val_main_v25, Cert.ExpertsRefIdeal.Read.val_main_v26, Cert.ExpertsRefIdeal.Read.val_main_v27, Cert.ExpertsRefIdeal.Read.val_main_v39, Cert.ExpertsRefIdeal.Read.val_main_v40, Cert.ExpertsRefIdeal.Read.val_main_v41, Cert.ExpertsRefIdeal.Read.val_main_v42, Cert.ExpertsRefIdeal.Read.val_main_v43, Cert.ExpertsRefIdeal.Read.val_main_v44, Cert.ExpertsRefIdeal.Read.val_main_v46, Cert.ExpertsRefIdeal.Read.val_main_v47, Cert.ExpertsRefIdeal.Read.val_main_call0_v2, Cert.ExpertsRefIdeal.Read.val_main_v48, Cert.ExpertsRefIdeal.Read.val_main_v50, Cert.ExpertsRefIdeal.Read.val_main_v51, Cert.ExpertsRefIdeal.Read.val_main_v52, Cert.ExpertsRefIdeal.Read.val_main_v54, Cert.ExpertsRefIdeal.Read.val_main_v56, Cert.ExpertsRefIdeal.Read.val_main_v57, Cert.ExpertsRefIdeal.Read.val_main_v59, Cert.ExpertsRefIdeal.Read.val_main_v60, Cert.ExpertsRefIdeal.Read.val_main_v76, Cert.ExpertsRefIdeal.Read.val_main_v77, Cert.ExpertsRefIdeal.Read.val_main_v78, Cert.ExpertsRefIdeal.Read.val_main_v90, Cert.ExpertsRefIdeal.Read.val_main_v91, Cert.ExpertsRefIdeal.Read.val_main_v92, Cert.ExpertsRefIdeal.Read.val_main_v93, Cert.ExpertsRefIdeal.Read.val_main_v94, Cert.ExpertsRefIdeal.Read.val_main_v95, Cert.ExpertsRefIdeal.Read.val_main_v96]
  rw [flat4 x4, flat5 x5, flat6 x6, flat7 x7]

end Cert.ExpertsRefIdeal.Entry

end
-- ==== Proof.Experts.Claims0.lean ====
module

public import proofs.«01_k».proof.Proof.Experts.Rows
public import proofs.«01_k».proof.Proof.Experts.Layer0
public import proofs.«01_k».proof.Proof.Experts.Reference0
public import proofs.«01_k».proof.Proof.Gen.ExpertsRefIdeal.Run
public import proofs.«01_k».proof.Proof.Gen.Pre_schedule
public import proofs.«01_k».proof.Defs

@[expose] public section

set_option maxRecDepth 16384

noncomputable section

/-! The claims about the experts' call at layer 0. -/

namespace Cert.Proof.Experts.L0

open Idealize.ShloMosaic Idealize.SL.Sem Idealize.ShloMosaic.TcCoe
open Cert.ExpertsIdeal.Hand (Sched sched_of_pre)

/-- What the precondition grants, for the program as printed and for its reading at exact numbers. -/
theorem sched (m : (ℓ : Loc Cert.Experts.nD Cert.Experts.τ Cert.Experts.sig) → Buf (Elt Bits) ℓ) (h : Cert.Pre_Experts m) : Sched (F := Bits) 0 m := sched_of_pre (F := Bits) m (h 0)
theorem schedIdeal (m : (ℓ : Loc Cert.ExpertsIdeal.nD Cert.ExpertsIdeal.τ Cert.ExpertsIdeal.sig) → Buf (Elt Ideal) ℓ) (h : Cert.Pre_ExpertsIdeal m) : Sched (F := Ideal) 0 m := sched_of_pre (F := Ideal) m (h 0)

theorem frame_p : Cert.quiescent_Experts := fun m ρ h => run_p0 (Cert.ExpertsIdeal.Hand.frame (F := Bits) m ρ (sched m h))
theorem frame_pi : Cert.quiescent_ExpertsIdeal := fun m ρ h => run_i0 (Cert.ExpertsIdeal.Hand.frame (F := Ideal) m ρ (schedIdeal m h))
theorem frame_ri : Cert.quiescent_ExpertsRefIdeal := fun m ρ _ =>
  (θ_run Cert.ExpertsRefIdeal.defs _ _).mono (fun r h => ⟨fun c => (h c).2, Idealize.ShloMosaic.sem_eq_zero_of_no_sems (by decide) r.2⟩)
    (Cert.ExpertsRefIdeal.Value.run (F := Ideal) m ρ)
theorem frame_ri_schedule : Cert.quiescent_ExpertsRefIdeal_pre_schedule := fun m ρ _ => frame_ri m ρ trivial

theorem preserves : Cert.preserves_Experts_ExpertsIdeal := trivial

theorem algebraic : Cert.algebraic_ExpertsIdeal_ExpertsRefIdeal_on_used_rows := by
  intro m ρ m' ρ' hpre hagree
  refine ⟨fun c i => rows m (schedIdeal m hpre) c (i 0) (i 1),
    run_i0 ((θ_run (Cert.ExpertsIdeal.Hand.defsL (F := Ideal) 0) _ _).mono (fun r h c => ⟨fun i hi => ?_, (h c).2⟩) (Cert.ExpertsIdeal.Hand.run_result m ρ (schedIdeal m hpre))),
    (θ_run Cert.ExpertsRefIdeal.defs _ _).mono (fun r h c => ⟨fun i hi => ?_, (h c).2⟩) (Cert.ExpertsRefIdeal.Value.run (F := Ideal) m' ρ')⟩
  · obtain ⟨R, q, rfl⟩ := eta2 i
    obtain rfl : c = 0 := Subsingleton.elim _ _
    exact (congrFun (h 0).1 (ix2 R q)).trans (kernel_at m (schedIdeal m hpre) 0 _ _ _ _ _ _ _ R q hi)
  · obtain ⟨R, q, rfl⟩ := eta2 i
    obtain rfl : c = 0 := Subsingleton.elim _ _
    refine (congrFun (h 0).1 _).trans ?_
    rw [Cert.ExpertsRefIdeal.Read.val_main_v96_eq, (hagree 0).1, (hagree 0).2.2.2.1, (hagree 0).2.2.2.2.1, (hagree 0).2.2.2.2.2.1, (hagree 0).2.2.2.2.2.2.1, (hagree 0).2.2.2.2.2.2.2, Cert.ExpertsRefIdeal.Entry.ref_eq]
    exact ref_at m (schedIdeal m hpre) 0 R q

end Cert.Proof.Experts.L0
end
-- ==== Proof.Experts.Layer1.lean ====
module

public import proofs.«01_k».proof.Proof.ExpertsIdeal.Layer
public import Idealize.ShloMosaic.Machine.Run
public import proofs.«01_k».proof.Proof.Gen.Experts1
public import proofs.«01_k».proof.Proof.Gen.Experts1Ideal

@[expose] public section

set_option maxRecDepth 100000
set_option maxHeartbeats 1000000

noncomputable section

/-! The printed programs of layer 1 are the instances, at that layer, of the program the proof is about; a run of the one is a run of the other. -/

namespace Cert.Proof.Experts

open Idealize.ShloMosaic Idealize.SL.Sem
open Cert.ExpertsIdeal.Hand

variable {F : FTy → Type} [FloatOps F]

theorem defs0_p1 : Cert.Experts1.defs₀ (F := F) = Cert.ExpertsIdeal.defs₀ (F := F) := by
  unfold Cert.Experts1.defs₀ Cert.ExpertsIdeal.defs₀
  refine congrArg (Defs.onTc (nD := Cert.Experts1.nD) (τ := Cert.Experts1.τ)) ?_
  funext k s
  match k, s with
  | 0, (t, s) => rfl
theorem defs_p1 : Cert.Experts1.defs (F := F) = defsL 1 := congrArg (Pipeline.defs (pcfgsL 1)) defs0_p1
theorem run_p1 {s : MemSt Cert.Experts1.nD Cert.Experts1.τ Cert.Experts1.sig (Elt F)} {Q : PUnit × MemSt Cert.Experts1.nD Cert.Experts1.τ Cert.Experts1.sig (Elt F) → Prop}
    (H : θ_run (defsL (F := F) 1) (onTc (τ := Cert.ExpertsIdeal.τ) (mainL (F := F) 1)) s Q) : θ_run (Cert.Experts1.defs (F := F)) (onTc (τ := Cert.Experts1.τ) (Cert.Experts1.main (F := F))) s Q :=
  (congrArg (fun D => θ_run D (onTc (τ := Cert.ExpertsIdeal.τ) (mainL (F := F) 1)) s Q) (defs_p1 (F := F))).mpr H

theorem defs0_i1 : Cert.Experts1Ideal.defs₀ (F := F) = Cert.ExpertsIdeal.defs₀ (F := F) := by
  unfold Cert.Experts1Ideal.defs₀ Cert.ExpertsIdeal.defs₀
  refine congrArg (Defs.onTc (nD := Cert.Experts1Ideal.nD) (τ := Cert.Experts1Ideal.τ)) ?_
  funext k s
  match k, s with
  | 0, (t, s) => rfl
theorem defs_i1 : Cert.Experts1Ideal.defs (F := F) = defsL 1 := congrArg (Pipeline.defs (pcfgsL 1)) defs0_i1
theorem run_i1 {s : MemSt Cert.Experts1Ideal.nD Cert.Experts1Ideal.τ Cert.Experts1Ideal.sig (Elt F)} {Q : PUnit × MemSt Cert.Experts1Ideal.nD Cert.Experts1Ideal.τ Cert.Experts1Ideal.sig (Elt F) → Prop}
    (H : θ_run (defsL (F := F) 1) (onTc (τ := Cert.ExpertsIdeal.τ) (mainL (F := F) 1)) s Q) : θ_run (Cert.Experts1Ideal.defs (F := F)) (onTc (τ := Cert.Experts1Ideal.τ) (Cert.Experts1Ideal.main (F := F))) s Q :=
  (congrArg (fun D => θ_run D (onTc (τ := Cert.ExpertsIdeal.τ) (mainL (F := F) 1)) s Q) (defs_i1 (F := F))).mpr H

end Cert.Proof.Experts

end
-- ==== Proof.Experts.Reference1.lean ====
module

public import proofs.«01_k».proof.Proof.Experts.Spec
public import proofs.«01_k».proof.Proof.Gen.ExpertsRefIdeal.Read
public import proofs.«01_k».proof.Proof.Gen.Experts1RefIdeal.Read

@[expose] public section

set_option maxRecDepth 16384

noncomputable section

/-! The reference at layer 1 is the reference at the first layer of stacks that hold layer 1's arrays: they differ in the four slices alone. -/

namespace Cert.Experts1RefIdeal.Entry

open Idealize.ShloMosaic Cert.ExpertsRefIdeal Cert.Moe

variable (x0 : (⟨S57, .i32⟩ : BufTy).Contents (Elt Ideal)) (x3 : (⟨S72960x2048, .bf16⟩ : BufTy).Contents (Elt Ideal)) (x4 : (⟨S4x32x2048x4096, .f32⟩ : BufTy).Contents (Elt Ideal))
  (x5 : (⟨S4x32x1x4096, .f32⟩ : BufTy).Contents (Elt Ideal)) (x6 : (⟨S4x32x2048x2048, .f32⟩ : BufTy).Contents (Elt Ideal))
  (x7 : (⟨S4x32x1x2048, .f32⟩ : BufTy).Contents (Elt Ideal))

theorem slice4 : Cert.Experts1RefIdeal.Read.val_main_v0 (F := Ideal) x4 = Cert.ExpertsRefIdeal.Read.val_main_v0 (F := Ideal) (lay 1 x4) := by
  funext i
  rw [Cert.Experts1RefIdeal.Read.val_main_v0_apply, Cert.ExpertsRefIdeal.Read.val_main_v0_apply]
  refine congrArg x4 (funext fun a => ?_)
  match a with
  | ⟨0, _⟩ => exact Fin.ext (by have h : (i 0).val < 1 := (i 0).isLt; show 1 + (i 0).val = 1; omega)
  | ⟨1, _⟩ => rfl
  | ⟨2, _⟩ => rfl
  | ⟨3, _⟩ => rfl
theorem flat4 : Cert.Experts1RefIdeal.Read.val_main_v1 (F := Ideal) x4 = Cert.ExpertsRefIdeal.Read.val_main_v1 (F := Ideal) (lay 1 x4) :=
  congrArg (fun y => shapeCast _ y Cert.ExpertsRefIdeal.Gen.shapeCasts_S1x32x2048x4096_S32x2048x4096) (slice4 x4)

theorem slice5 : Cert.Experts1RefIdeal.Read.val_main_v2 (F := Ideal) x5 = Cert.ExpertsRefIdeal.Read.val_main_v2 (F := Ideal) (lay 1 x5) := by
  funext i
  rw [Cert.Experts1RefIdeal.Read.val_main_v2_apply, Cert.ExpertsRefIdeal.Read.val_main_v2_apply]
  refine congrArg x5 (funext fun a => ?_)
  match a with
  | ⟨0, _⟩ => exact Fin.ext (by have h : (i 0).val < 1 := (i 0).isLt; show 1 + (i 0).val = 1; omega)
  | ⟨1, _⟩ => rfl
  | ⟨2, _⟩ => rfl
  | ⟨3, _⟩ => rfl
theorem flat5 : Cert.Experts1RefIdeal.Read.val_main_v3 (F := Ideal) x5 = Cert.ExpertsRefIdeal.Read.val_main_v3 (F := Ideal) (lay 1 x5) :=
  congrArg (fun y => shapeCast _ y Cert.ExpertsRefIdeal.Gen.shapeCasts_S1x32x1x4096_S32x4096) (slice5 x5)

theorem slice6 : Cert.Experts1RefIdeal.Read.val_main_v4 (F := Ideal) x6 = Cert.ExpertsRefIdeal.Read.val_main_v4 (F := Ideal) (lay 1 x6) := by
  funext i
  rw [Cert.Experts1RefIdeal.Read.val_main_v4_apply, Cert.ExpertsRefIdeal.Read.val_main_v4_apply]
  refine congrArg x6 (funext fun a => ?_)
  match a with
  | ⟨0, _⟩ => exact Fin.ext (by have h : (i 0).val < 1 := (i 0).isLt; show 1 + (i 0).val = 1; omega)
  | ⟨1, _⟩ => rfl
  | ⟨2, _⟩ => rfl
  | ⟨3, _⟩ => rfl
theorem flat6 : Cert.Experts1RefIdeal.Read.val_main_v5 (F := Ideal) x6 = Cert.ExpertsRefIdeal.Read.val_main_v5 (F := Ideal) (lay 1 x6) :=
  congrArg (fun y => shapeCast _ y Cert.ExpertsRefIdeal.Gen.shapeCasts_S1x32x2048x2048_S32x2048x2048) (slice6 x6)

theorem slice7 : Cert.Experts1RefIdeal.Read.val_main_v6 (F := Ideal) x7 = Cert.ExpertsRefIdeal.Read.val_main_v6 (F := Ideal) (lay 1 x7) := by
  funext i
  rw [Cert.Experts1RefIdeal.Read.val_main_v6_apply, Cert.ExpertsRefIdeal.Read.val_main_v6_apply]
  refine congrArg x7 (funext fun a => ?_)
  match a with
  | ⟨0, _⟩ => exact Fin.ext (by have h : (i 0).val < 1 := (i 0).isLt; show 1 + (i 0).val = 1; omega)
  | ⟨1, _⟩ => rfl
  | ⟨2, _⟩ => rfl
  | ⟨3, _⟩ => rfl
theorem flat7 : Cert.Experts1RefIdeal.Read.val_main_v7 (F := Ideal) x7 = Cert.ExpertsRefIdeal.Read.val_main_v7 (F := Ideal) (lay 1 x7) :=
  congrArg (fun y => shapeCast _ y Cert.ExpertsRefIdeal.Gen.shapeCasts_S1x32x1x2048_S32x2048) (slice7 x7)

theorem ref_eq : Cert.Experts1RefIdeal.Read.val_main_v96 (F := Ideal) x0 x3 x4 x5 x6 x7
    = Cert.ExpertsRefIdeal.Read.val_main_v96 (F := Ideal) x0 x3 (lay 1 x4) (lay 1 x5) (lay 1 x6) (lay 1 x7) := by
  simp only [Cert.Experts1RefIdeal.Read.val_main_v25, Cert.Experts1RefIdeal.Read.val_main_v26, Cert.Experts1RefIdeal.Read.val_main_v27, Cert.Experts1RefIdeal.Read.val_main_v39, Cert.Experts1RefIdeal.Read.val_main_v40, Cert.Experts1RefIdeal.Read.val_main_v41, Cert.Experts1RefIdeal.Read.val_main_v42, Cert.Experts1RefIdeal.Read.val_main_v43, Cert.Experts1RefIdeal.Read.val_main_v44, Cert.Experts1RefIdeal.Read.val_main_v46, Cert.Experts1RefIdeal.Read.val_main_v47, Cert.Experts1RefIdeal.Read.val_main_call0_v2, Cert.Experts1RefIdeal.Read.val_main_v48, Cert.Experts1RefIdeal.Read.val_main_v50, Cert.Experts1RefIdeal.Read.val_main_v51, Cert.Experts1RefIdeal.Read.val_main_v52, Cert.Experts1RefIdeal.Read.val_main_v54, Cert.Experts1RefIdeal.Read.val_main_v56, Cert.Experts1RefIdeal.Read.val_main_v57, Cert.Experts1RefIdeal.Read.val_main_v59, Cert.Experts1RefIdeal.Read.val_main_v60, Cert.Experts1RefIdeal.Read.val_main_v76, Cert.Experts1RefIdeal.Read.val_main_v77, Cert.Experts1RefIdeal.Read.val_main_v78, Cert.Experts1RefIdeal.Read.val_main_v90, Cert.Experts1RefIdeal.Read.val_main_v91, Cert.Experts1RefIdeal.Read.val_main_v92, Cert.Experts1RefIdeal.Read.val_main_v93, Cert.Experts1RefIdeal.Read.val_main_v94, Cert.Experts1RefIdeal.Read.val_main_v95, Cert.Experts1RefIdeal.Read.val_main_v96, Cert.ExpertsRefIdeal.Read.val_main_v25, Cert.ExpertsRefIdeal.Read.val_main_v26, Cert.ExpertsRefIdeal.Read.val_main_v27, Cert.ExpertsRefIdeal.Read.val_main_v39, Cert.ExpertsRefIdeal.Read.val_main_v40, Cert.ExpertsRefIdeal.Read.val_main_v41, Cert.ExpertsRefIdeal.Read.val_main_v42, Cert.ExpertsRefIdeal.Read.val_main_v43, Cert.ExpertsRefIdeal.Read.val_main_v44, Cert.ExpertsRefIdeal.Read.val_main_v46, Cert.ExpertsRefIdeal.Read.val_main_v47, Cert.ExpertsRefIdeal.Read.val_main_call0_v2, Cert.ExpertsRefIdeal.Read.val_main_v48, Cert.ExpertsRefIdeal.Read.val_main_v50, Cert.ExpertsRefIdeal.Read.val_main_v51, Cert.ExpertsRefIdeal.Read.val_main_v52, Cert.ExpertsRefIdeal.Read.val_main_v54, Cert.ExpertsRefIdeal.Read.val_main_v56, Cert.ExpertsRefIdeal.Read.val_main_v57, Cert.ExpertsRefIdeal.Read.val_main_v59, Cert.ExpertsRefIdeal.Read.val_main_v60, Cert.ExpertsRefIdeal.Read.val_main_v76, Cert.ExpertsRefIdeal.Read.val_main_v77, Cert.ExpertsRefIdeal.Read.val_main_v78, Cert.ExpertsRefIdeal.Read.val_main_v90, Cert.ExpertsRefIdeal.Read.val_main_v91, Cert.ExpertsRefIdeal.Read.val_main_v92, Cert.ExpertsRefIdeal.Read.val_main_v93, Cert.ExpertsRefIdeal.Read.val_main_v94, Cert.ExpertsRefIdeal.Read.val_main_v95, Cert.ExpertsRefIdeal.Read.val_main_v96]
  rw [flat4 x4, flat5 x5, flat6 x6, flat7 x7]
  rfl

end Cert.Experts1RefIdeal.Entry

end
-- ==== Proof.Experts.Claims1.lean ====
module

public import proofs.«01_k».proof.Proof.Experts.Rows
public import proofs.«01_k».proof.Proof.Experts.Layer1
public import proofs.«01_k».proof.Proof.Experts.Reference1
public import proofs.«01_k».proof.Proof.Gen.Experts1RefIdeal.Run
public import proofs.«01_k».proof.Proof.Gen.Pre_schedule
public import proofs.«01_k».proof.Defs

@[expose] public section

set_option maxRecDepth 16384

noncomputable section

/-! The claims about the experts' call at layer 1. -/

namespace Cert.Proof.Experts.L1

open Idealize.ShloMosaic Idealize.SL.Sem Idealize.ShloMosaic.TcCoe
open Cert.ExpertsIdeal.Hand (Sched sched_of_pre)

/-- What the precondition grants, for the program as printed and for its reading at exact numbers. -/
theorem sched (m : (ℓ : Loc Cert.Experts1.nD Cert.Experts1.τ Cert.Experts1.sig) → Buf (Elt Bits) ℓ) (h : Cert.Pre_Experts1 m) : Sched (F := Bits) 1 m := sched_of_pre (F := Bits) m (h 0)
theorem schedIdeal (m : (ℓ : Loc Cert.Experts1Ideal.nD Cert.Experts1Ideal.τ Cert.Experts1Ideal.sig) → Buf (Elt Ideal) ℓ) (h : Cert.Pre_Experts1Ideal m) : Sched (F := Ideal) 1 m := sched_of_pre (F := Ideal) m (h 0)

theorem frame_p : Cert.quiescent_Experts1 := fun m ρ h => run_p1 (Cert.ExpertsIdeal.Hand.frame (F := Bits) m ρ (sched m h))
theorem frame_pi : Cert.quiescent_Experts1Ideal := fun m ρ h => run_i1 (Cert.ExpertsIdeal.Hand.frame (F := Ideal) m ρ (schedIdeal m h))
theorem frame_ri : Cert.quiescent_Experts1RefIdeal := fun m ρ _ =>
  (θ_run Cert.Experts1RefIdeal.defs _ _).mono (fun r h => ⟨fun c => (h c).2, Idealize.ShloMosaic.sem_eq_zero_of_no_sems (by decide) r.2⟩)
    (Cert.Experts1RefIdeal.Value.run (F := Ideal) m ρ)
theorem frame_ri_schedule : Cert.quiescent_Experts1RefIdeal_pre_schedule := fun m ρ _ => frame_ri m ρ trivial

theorem preserves : Cert.preserves_Experts1_Experts1Ideal := trivial

theorem algebraic : Cert.algebraic_Experts1Ideal_Experts1RefIdeal_on_used_rows := by
  intro m ρ m' ρ' hpre hagree
  refine ⟨fun c i => rows m (schedIdeal m hpre) c (i 0) (i 1),
    run_i1 ((θ_run (Cert.ExpertsIdeal.Hand.defsL (F := Ideal) 1) _ _).mono (fun r h c => ⟨fun i hi => ?_, (h c).2⟩) (Cert.ExpertsIdeal.Hand.run_result m ρ (schedIdeal m hpre))),
    (θ_run Cert.Experts1RefIdeal.defs _ _).mono (fun r h c => ⟨fun i hi => ?_, (h c).2⟩) (Cert.Experts1RefIdeal.Value.run (F := Ideal) m' ρ')⟩
  · obtain ⟨R, q, rfl⟩ := eta2 i
    obtain rfl : c = 0 := Subsingleton.elim _ _
    exact (congrFun (h 0).1 (ix2 R q)).trans (kernel_at m (schedIdeal m hpre) 0 _ _ _ _ _ _ _ R q hi)
  · obtain ⟨R, q, rfl⟩ := eta2 i
    obtain rfl : c = 0 := Subsingleton.elim _ _
    refine (congrFun (h 0).1 _).trans ?_
    rw [Cert.Experts1RefIdeal.Read.val_main_v96_eq, (hagree 0).1, (hagree 0).2.2.2.1, (hagree 0).2.2.2.2.1, (hagree 0).2.2.2.2.2.1, (hagree 0).2.2.2.2.2.2.1, (hagree 0).2.2.2.2.2.2.2, Cert.Experts1RefIdeal.Entry.ref_eq]
    exact ref_at m (schedIdeal m hpre) 0 R q

end Cert.Proof.Experts.L1
end
-- ==== Proof.Experts.Layer2.lean ====
module

public import proofs.«01_k».proof.Proof.ExpertsIdeal.Layer
public import Idealize.ShloMosaic.Machine.Run
public import proofs.«01_k».proof.Proof.Gen.Experts2
public import proofs.«01_k».proof.Proof.Gen.Experts2Ideal

@[expose] public section

set_option maxRecDepth 100000
set_option maxHeartbeats 1000000

noncomputable section

/-! The printed programs of layer 2 are the instances, at that layer, of the program the proof is about; a run of the one is a run of the other. -/

namespace Cert.Proof.Experts

open Idealize.ShloMosaic Idealize.SL.Sem
open Cert.ExpertsIdeal.Hand

variable {F : FTy → Type} [FloatOps F]

theorem defs0_p2 : Cert.Experts2.defs₀ (F := F) = Cert.ExpertsIdeal.defs₀ (F := F) := by
  unfold Cert.Experts2.defs₀ Cert.ExpertsIdeal.defs₀
  refine congrArg (Defs.onTc (nD := Cert.Experts2.nD) (τ := Cert.Experts2.τ)) ?_
  funext k s
  match k, s with
  | 0, (t, s) => rfl
theorem defs_p2 : Cert.Experts2.defs (F := F) = defsL 2 := congrArg (Pipeline.defs (pcfgsL 2)) defs0_p2
theorem run_p2 {s : MemSt Cert.Experts2.nD Cert.Experts2.τ Cert.Experts2.sig (Elt F)} {Q : PUnit × MemSt Cert.Experts2.nD Cert.Experts2.τ Cert.Experts2.sig (Elt F) → Prop}
    (H : θ_run (defsL (F := F) 2) (onTc (τ := Cert.ExpertsIdeal.τ) (mainL (F := F) 2)) s Q) : θ_run (Cert.Experts2.defs (F := F)) (onTc (τ := Cert.Experts2.τ) (Cert.Experts2.main (F := F))) s Q :=
  (congrArg (fun D => θ_run D (onTc (τ := Cert.ExpertsIdeal.τ) (mainL (F := F) 2)) s Q) (defs_p2 (F := F))).mpr H

theorem defs0_i2 : Cert.Experts2Ideal.defs₀ (F := F) = Cert.ExpertsIdeal.defs₀ (F := F) := by
  unfold Cert.Experts2Ideal.defs₀ Cert.ExpertsIdeal.defs₀
  refine congrArg (Defs.onTc (nD := Cert.Experts2Ideal.nD) (τ := Cert.Experts2Ideal.τ)) ?_
  funext k s
  match k, s with
  | 0, (t, s) => rfl
theorem defs_i2 : Cert.Experts2Ideal.defs (F := F) = defsL 2 := congrArg (Pipeline.defs (pcfgsL 2)) defs0_i2
theorem run_i2 {s : MemSt Cert.Experts2Ideal.nD Cert.Experts2Ideal.τ Cert.Experts2Ideal.sig (Elt F)} {Q : PUnit × MemSt Cert.Experts2Ideal.nD Cert.Experts2Ideal.τ Cert.Experts2Ideal.sig (Elt F) → Prop}
    (H : θ_run (defsL (F := F) 2) (onTc (τ := Cert.ExpertsIdeal.τ) (mainL (F := F) 2)) s Q) : θ_run (Cert.Experts2Ideal.defs (F := F)) (onTc (τ := Cert.Experts2Ideal.τ) (Cert.Experts2Ideal.main (F := F))) s Q :=
  (congrArg (fun D => θ_run D (onTc (τ := Cert.ExpertsIdeal.τ) (mainL (F := F) 2)) s Q) (defs_i2 (F := F))).mpr H

end Cert.Proof.Experts

end
-- ==== Proof.Experts.Reference2.lean ====
module

public import proofs.«01_k».proof.Proof.Experts.Spec
public import proofs.«01_k».proof.Proof.Gen.ExpertsRefIdeal.Read
public import proofs.«01_k».proof.Proof.Gen.Experts2RefIdeal.Read

@[expose] public section

set_option maxRecDepth 16384

noncomputable section

/-! The reference at layer 2 is the reference at the first layer of stacks that hold layer 2's arrays: they differ in the four slices alone. -/

namespace Cert.Experts2RefIdeal.Entry

open Idealize.ShloMosaic Cert.ExpertsRefIdeal Cert.Moe

variable (x0 : (⟨S57, .i32⟩ : BufTy).Contents (Elt Ideal)) (x3 : (⟨S72960x2048, .bf16⟩ : BufTy).Contents (Elt Ideal)) (x4 : (⟨S4x32x2048x4096, .f32⟩ : BufTy).Contents (Elt Ideal))
  (x5 : (⟨S4x32x1x4096, .f32⟩ : BufTy).Contents (Elt Ideal)) (x6 : (⟨S4x32x2048x2048, .f32⟩ : BufTy).Contents (Elt Ideal))
  (x7 : (⟨S4x32x1x2048, .f32⟩ : BufTy).Contents (Elt Ideal))

theorem slice4 : Cert.Experts2RefIdeal.Read.val_main_v0 (F := Ideal) x4 = Cert.ExpertsRefIdeal.Read.val_main_v0 (F := Ideal) (lay 2 x4) := by
  funext i
  rw [Cert.Experts2RefIdeal.Read.val_main_v0_apply, Cert.ExpertsRefIdeal.Read.val_main_v0_apply]
  refine congrArg x4 (funext fun a => ?_)
  match a with
  | ⟨0, _⟩ => exact Fin.ext (by have h : (i 0).val < 1 := (i 0).isLt; show 2 + (i 0).val = 2; omega)
  | ⟨1, _⟩ => rfl
  | ⟨2, _⟩ => rfl
  | ⟨3, _⟩ => rfl
theorem flat4 : Cert.Experts2RefIdeal.Read.val_main_v1 (F := Ideal) x4 = Cert.ExpertsRefIdeal.Read.val_main_v1 (F := Ideal) (lay 2 x4) :=
  congrArg (fun y => shapeCast _ y Cert.ExpertsRefIdeal.Gen.shapeCasts_S1x32x2048x4096_S32x2048x4096) (slice4 x4)

theorem slice5 : Cert.Experts2RefIdeal.Read.val_main_v2 (F := Ideal) x5 = Cert.ExpertsRefIdeal.Read.val_main_v2 (F := Ideal) (lay 2 x5) := by
  funext i
  rw [Cert.Experts2RefIdeal.Read.val_main_v2_apply, Cert.ExpertsRefIdeal.Read.val_main_v2_apply]
  refine congrArg x5 (funext fun a => ?_)
  match a with
  | ⟨0, _⟩ => exact Fin.ext (by have h : (i 0).val < 1 := (i 0).isLt; show 2 + (i 0).val = 2; omega)
  | ⟨1, _⟩ => rfl
  | ⟨2, _⟩ => rfl
  | ⟨3, _⟩ => rfl
theorem flat5 : Cert.Experts2RefIdeal.Read.val_main_v3 (F := Ideal) x5 = Cert.ExpertsRefIdeal.Read.val_main_v3 (F := Ideal) (lay 2 x5) :=
  congrArg (fun y => shapeCast _ y Cert.ExpertsRefIdeal.Gen.shapeCasts_S1x32x1x4096_S32x4096) (slice5 x5)

theorem slice6 : Cert.Experts2RefIdeal.Read.val_main_v4 (F := Ideal) x6 = Cert.ExpertsRefIdeal.Read.val_main_v4 (F := Ideal) (lay 2 x6) := by
  funext i
  rw [Cert.Experts2RefIdeal.Read.val_main_v4_apply, Cert.ExpertsRefIdeal.Read.val_main_v4_apply]
  refine congrArg x6 (funext fun a => ?_)
  match a with
  | ⟨0, _⟩ => exact Fin.ext (by have h : (i 0).val < 1 := (i 0).isLt; show 2 + (i 0).val = 2; omega)
  | ⟨1, _⟩ => rfl
  | ⟨2, _⟩ => rfl
  | ⟨3, _⟩ => rfl
theorem flat6 : Cert.Experts2RefIdeal.Read.val_main_v5 (F := Ideal) x6 = Cert.ExpertsRefIdeal.Read.val_main_v5 (F := Ideal) (lay 2 x6) :=
  congrArg (fun y => shapeCast _ y Cert.ExpertsRefIdeal.Gen.shapeCasts_S1x32x2048x2048_S32x2048x2048) (slice6 x6)

theorem slice7 : Cert.Experts2RefIdeal.Read.val_main_v6 (F := Ideal) x7 = Cert.ExpertsRefIdeal.Read.val_main_v6 (F := Ideal) (lay 2 x7) := by
  funext i
  rw [Cert.Experts2RefIdeal.Read.val_main_v6_apply, Cert.ExpertsRefIdeal.Read.val_main_v6_apply]
  refine congrArg x7 (funext fun a => ?_)
  match a with
  | ⟨0, _⟩ => exact Fin.ext (by have h : (i 0).val < 1 := (i 0).isLt; show 2 + (i 0).val = 2; omega)
  | ⟨1, _⟩ => rfl
  | ⟨2, _⟩ => rfl
  | ⟨3, _⟩ => rfl
theorem flat7 : Cert.Experts2RefIdeal.Read.val_main_v7 (F := Ideal) x7 = Cert.ExpertsRefIdeal.Read.val_main_v7 (F := Ideal) (lay 2 x7) :=
  congrArg (fun y => shapeCast _ y Cert.ExpertsRefIdeal.Gen.shapeCasts_S1x32x1x2048_S32x2048) (slice7 x7)

theorem ref_eq : Cert.Experts2RefIdeal.Read.val_main_v96 (F := Ideal) x0 x3 x4 x5 x6 x7
    = Cert.ExpertsRefIdeal.Read.val_main_v96 (F := Ideal) x0 x3 (lay 2 x4) (lay 2 x5) (lay 2 x6) (lay 2 x7) := by
  simp only [Cert.Experts2RefIdeal.Read.val_main_v25, Cert.Experts2RefIdeal.Read.val_main_v26, Cert.Experts2RefIdeal.Read.val_main_v27, Cert.Experts2RefIdeal.Read.val_main_v39, Cert.Experts2RefIdeal.Read.val_main_v40, Cert.Experts2RefIdeal.Read.val_main_v41, Cert.Experts2RefIdeal.Read.val_main_v42, Cert.Experts2RefIdeal.Read.val_main_v43, Cert.Experts2RefIdeal.Read.val_main_v44, Cert.Experts2RefIdeal.Read.val_main_v46, Cert.Experts2RefIdeal.Read.val_main_v47, Cert.Experts2RefIdeal.Read.val_main_call0_v2, Cert.Experts2RefIdeal.Read.val_main_v48, Cert.Experts2RefIdeal.Read.val_main_v50, Cert.Experts2RefIdeal.Read.val_main_v51, Cert.Experts2RefIdeal.Read.val_main_v52, Cert.Experts2RefIdeal.Read.val_main_v54, Cert.Experts2RefIdeal.Read.val_main_v56, Cert.Experts2RefIdeal.Read.val_main_v57, Cert.Experts2RefIdeal.Read.val_main_v59, Cert.Experts2RefIdeal.Read.val_main_v60, Cert.Experts2RefIdeal.Read.val_main_v76, Cert.Experts2RefIdeal.Read.val_main_v77, Cert.Experts2RefIdeal.Read.val_main_v78, Cert.Experts2RefIdeal.Read.val_main_v90, Cert.Experts2RefIdeal.Read.val_main_v91, Cert.Experts2RefIdeal.Read.val_main_v92, Cert.Experts2RefIdeal.Read.val_main_v93, Cert.Experts2RefIdeal.Read.val_main_v94, Cert.Experts2RefIdeal.Read.val_main_v95, Cert.Experts2RefIdeal.Read.val_main_v96, Cert.ExpertsRefIdeal.Read.val_main_v25, Cert.ExpertsRefIdeal.Read.val_main_v26, Cert.ExpertsRefIdeal.Read.val_main_v27, Cert.ExpertsRefIdeal.Read.val_main_v39, Cert.ExpertsRefIdeal.Read.val_main_v40, Cert.ExpertsRefIdeal.Read.val_main_v41, Cert.ExpertsRefIdeal.Read.val_main_v42, Cert.ExpertsRefIdeal.Read.val_main_v43, Cert.ExpertsRefIdeal.Read.val_main_v44, Cert.ExpertsRefIdeal.Read.val_main_v46, Cert.ExpertsRefIdeal.Read.val_main_v47, Cert.ExpertsRefIdeal.Read.val_main_call0_v2, Cert.ExpertsRefIdeal.Read.val_main_v48, Cert.ExpertsRefIdeal.Read.val_main_v50, Cert.ExpertsRefIdeal.Read.val_main_v51, Cert.ExpertsRefIdeal.Read.val_main_v52, Cert.ExpertsRefIdeal.Read.val_main_v54, Cert.ExpertsRefIdeal.Read.val_main_v56, Cert.ExpertsRefIdeal.Read.val_main_v57, Cert.ExpertsRefIdeal.Read.val_main_v59, Cert.ExpertsRefIdeal.Read.val_main_v60, Cert.ExpertsRefIdeal.Read.val_main_v76, Cert.ExpertsRefIdeal.Read.val_main_v77, Cert.ExpertsRefIdeal.Read.val_main_v78, Cert.ExpertsRefIdeal.Read.val_main_v90, Cert.ExpertsRefIdeal.Read.val_main_v91, Cert.ExpertsRefIdeal.Read.val_main_v92, Cert.ExpertsRefIdeal.Read.val_main_v93, Cert.ExpertsRefIdeal.Read.val_main_v94, Cert.ExpertsRefIdeal.Read.val_main_v95, Cert.ExpertsRefIdeal.Read.val_main_v96]
  rw [flat4 x4, flat5 x5, flat6 x6, flat7 x7]
  rfl

end Cert.Experts2RefIdeal.Entry

end
-- ==== Proof.Experts.Claims2.lean ====
module

public import proofs.«01_k».proof.Proof.Experts.Rows
public import proofs.«01_k».proof.Proof.Experts.Layer2
public import proofs.«01_k».proof.Proof.Experts.Reference2
public import proofs.«01_k».proof.Proof.Gen.Experts2RefIdeal.Run
public import proofs.«01_k».proof.Proof.Gen.Pre_schedule
public import proofs.«01_k».proof.Defs

@[expose] public section

set_option maxRecDepth 16384

noncomputable section

/-! The claims about the experts' call at layer 2. -/

namespace Cert.Proof.Experts.L2

open Idealize.ShloMosaic Idealize.SL.Sem Idealize.ShloMosaic.TcCoe
open Cert.ExpertsIdeal.Hand (Sched sched_of_pre)

/-- What the precondition grants, for the program as printed and for its reading at exact numbers. -/
theorem sched (m : (ℓ : Loc Cert.Experts2.nD Cert.Experts2.τ Cert.Experts2.sig) → Buf (Elt Bits) ℓ) (h : Cert.Pre_Experts2 m) : Sched (F := Bits) 2 m := sched_of_pre (F := Bits) m (h 0)
theorem schedIdeal (m : (ℓ : Loc Cert.Experts2Ideal.nD Cert.Experts2Ideal.τ Cert.Experts2Ideal.sig) → Buf (Elt Ideal) ℓ) (h : Cert.Pre_Experts2Ideal m) : Sched (F := Ideal) 2 m := sched_of_pre (F := Ideal) m (h 0)

theorem frame_p : Cert.quiescent_Experts2 := fun m ρ h => run_p2 (Cert.ExpertsIdeal.Hand.frame (F := Bits) m ρ (sched m h))
theorem frame_pi : Cert.quiescent_Experts2Ideal := fun m ρ h => run_i2 (Cert.ExpertsIdeal.Hand.frame (F := Ideal) m ρ (schedIdeal m h))
theorem frame_ri : Cert.quiescent_Experts2RefIdeal := fun m ρ _ =>
  (θ_run Cert.Experts2RefIdeal.defs _ _).mono (fun r h => ⟨fun c => (h c).2, Idealize.ShloMosaic.sem_eq_zero_of_no_sems (by decide) r.2⟩)
    (Cert.Experts2RefIdeal.Value.run (F := Ideal) m ρ)
theorem frame_ri_schedule : Cert.quiescent_Experts2RefIdeal_pre_schedule := fun m ρ _ => frame_ri m ρ trivial

theorem preserves : Cert.preserves_Experts2_Experts2Ideal := trivial

theorem algebraic : Cert.algebraic_Experts2Ideal_Experts2RefIdeal_on_used_rows := by
  intro m ρ m' ρ' hpre hagree
  refine ⟨fun c i => rows m (schedIdeal m hpre) c (i 0) (i 1),
    run_i2 ((θ_run (Cert.ExpertsIdeal.Hand.defsL (F := Ideal) 2) _ _).mono (fun r h c => ⟨fun i hi => ?_, (h c).2⟩) (Cert.ExpertsIdeal.Hand.run_result m ρ (schedIdeal m hpre))),
    (θ_run Cert.Experts2RefIdeal.defs _ _).mono (fun r h c => ⟨fun i hi => ?_, (h c).2⟩) (Cert.Experts2RefIdeal.Value.run (F := Ideal) m' ρ')⟩
  · obtain ⟨R, q, rfl⟩ := eta2 i
    obtain rfl : c = 0 := Subsingleton.elim _ _
    exact (congrFun (h 0).1 (ix2 R q)).trans (kernel_at m (schedIdeal m hpre) 0 _ _ _ _ _ _ _ R q hi)
  · obtain ⟨R, q, rfl⟩ := eta2 i
    obtain rfl : c = 0 := Subsingleton.elim _ _
    refine (congrFun (h 0).1 _).trans ?_
    rw [Cert.Experts2RefIdeal.Read.val_main_v96_eq, (hagree 0).1, (hagree 0).2.2.2.1, (hagree 0).2.2.2.2.1, (hagree 0).2.2.2.2.2.1, (hagree 0).2.2.2.2.2.2.1, (hagree 0).2.2.2.2.2.2.2, Cert.Experts2RefIdeal.Entry.ref_eq]
    exact ref_at m (schedIdeal m hpre) 0 R q

end Cert.Proof.Experts.L2
end
-- ==== Proof.Experts.Layer3.lean ====
module

public import proofs.«01_k».proof.Proof.ExpertsIdeal.Layer
public import Idealize.ShloMosaic.Machine.Run
public import proofs.«01_k».proof.Proof.Gen.Experts3
public import proofs.«01_k».proof.Proof.Gen.Experts3Ideal

@[expose] public section

set_option maxRecDepth 100000
set_option maxHeartbeats 1000000

noncomputable section

/-! The printed programs of layer 3 are the instances, at that layer, of the program the proof is about; a run of the one is a run of the other. -/

namespace Cert.Proof.Experts

open Idealize.ShloMosaic Idealize.SL.Sem
open Cert.ExpertsIdeal.Hand

variable {F : FTy → Type} [FloatOps F]

theorem defs0_p3 : Cert.Experts3.defs₀ (F := F) = Cert.ExpertsIdeal.defs₀ (F := F) := by
  unfold Cert.Experts3.defs₀ Cert.ExpertsIdeal.defs₀
  refine congrArg (Defs.onTc (nD := Cert.Experts3.nD) (τ := Cert.Experts3.τ)) ?_
  funext k s
  match k, s with
  | 0, (t, s) => rfl
theorem defs_p3 : Cert.Experts3.defs (F := F) = defsL 3 := congrArg (Pipeline.defs (pcfgsL 3)) defs0_p3
theorem run_p3 {s : MemSt Cert.Experts3.nD Cert.Experts3.τ Cert.Experts3.sig (Elt F)} {Q : PUnit × MemSt Cert.Experts3.nD Cert.Experts3.τ Cert.Experts3.sig (Elt F) → Prop}
    (H : θ_run (defsL (F := F) 3) (onTc (τ := Cert.ExpertsIdeal.τ) (mainL (F := F) 3)) s Q) : θ_run (Cert.Experts3.defs (F := F)) (onTc (τ := Cert.Experts3.τ) (Cert.Experts3.main (F := F))) s Q :=
  (congrArg (fun D => θ_run D (onTc (τ := Cert.ExpertsIdeal.τ) (mainL (F := F) 3)) s Q) (defs_p3 (F := F))).mpr H

theorem defs0_i3 : Cert.Experts3Ideal.defs₀ (F := F) = Cert.ExpertsIdeal.defs₀ (F := F) := by
  unfold Cert.Experts3Ideal.defs₀ Cert.ExpertsIdeal.defs₀
  refine congrArg (Defs.onTc (nD := Cert.Experts3Ideal.nD) (τ := Cert.Experts3Ideal.τ)) ?_
  funext k s
  match k, s with
  | 0, (t, s) => rfl
theorem defs_i3 : Cert.Experts3Ideal.defs (F := F) = defsL 3 := congrArg (Pipeline.defs (pcfgsL 3)) defs0_i3
theorem run_i3 {s : MemSt Cert.Experts3Ideal.nD Cert.Experts3Ideal.τ Cert.Experts3Ideal.sig (Elt F)} {Q : PUnit × MemSt Cert.Experts3Ideal.nD Cert.Experts3Ideal.τ Cert.Experts3Ideal.sig (Elt F) → Prop}
    (H : θ_run (defsL (F := F) 3) (onTc (τ := Cert.ExpertsIdeal.τ) (mainL (F := F) 3)) s Q) : θ_run (Cert.Experts3Ideal.defs (F := F)) (onTc (τ := Cert.Experts3Ideal.τ) (Cert.Experts3Ideal.main (F := F))) s Q :=
  (congrArg (fun D => θ_run D (onTc (τ := Cert.ExpertsIdeal.τ) (mainL (F := F) 3)) s Q) (defs_i3 (F := F))).mpr H

end Cert.Proof.Experts

end
-- ==== Proof.Experts.Reference3.lean ====
module

public import proofs.«01_k».proof.Proof.Experts.Spec
public import proofs.«01_k».proof.Proof.Gen.ExpertsRefIdeal.Read
public import proofs.«01_k».proof.Proof.Gen.Experts3RefIdeal.Read

@[expose] public section

set_option maxRecDepth 16384

noncomputable section

/-! The reference at layer 3 is the reference at the first layer of stacks that hold layer 3's arrays: they differ in the four slices alone. -/

namespace Cert.Experts3RefIdeal.Entry

open Idealize.ShloMosaic Cert.ExpertsRefIdeal Cert.Moe

variable (x0 : (⟨S57, .i32⟩ : BufTy).Contents (Elt Ideal)) (x3 : (⟨S72960x2048, .bf16⟩ : BufTy).Contents (Elt Ideal)) (x4 : (⟨S4x32x2048x4096, .f32⟩ : BufTy).Contents (Elt Ideal))
  (x5 : (⟨S4x32x1x4096, .f32⟩ : BufTy).Contents (Elt Ideal)) (x6 : (⟨S4x32x2048x2048, .f32⟩ : BufTy).Contents (Elt Ideal))
  (x7 : (⟨S4x32x1x2048, .f32⟩ : BufTy).Contents (Elt Ideal))

theorem slice4 : Cert.Experts3RefIdeal.Read.val_main_v0 (F := Ideal) x4 = Cert.ExpertsRefIdeal.Read.val_main_v0 (F := Ideal) (lay 3 x4) := by
  funext i
  rw [Cert.Experts3RefIdeal.Read.val_main_v0_apply, Cert.ExpertsRefIdeal.Read.val_main_v0_apply]
  refine congrArg x4 (funext fun a => ?_)
  match a with
  | ⟨0, _⟩ => exact Fin.ext (by have h : (i 0).val < 1 := (i 0).isLt; show 3 + (i 0).val = 3; omega)
  | ⟨1, _⟩ => rfl
  | ⟨2, _⟩ => rfl
  | ⟨3, _⟩ => rfl
theorem flat4 : Cert.Experts3RefIdeal.Read.val_main_v1 (F := Ideal) x4 = Cert.ExpertsRefIdeal.Read.val_main_v1 (F := Ideal) (lay 3 x4) :=
  congrArg (fun y => shapeCast _ y Cert.ExpertsRefIdeal.Gen.shapeCasts_S1x32x2048x4096_S32x2048x4096) (slice4 x4)

theorem slice5 : Cert.Experts3RefIdeal.Read.val_main_v2 (F := Ideal) x5 = Cert.ExpertsRefIdeal.Read.val_main_v2 (F := Ideal) (lay 3 x5) := by
  funext i
  rw [Cert.Experts3RefIdeal.Read.val_main_v2_apply, Cert.ExpertsRefIdeal.Read.val_main_v2_apply]
  refine congrArg x5 (funext fun a => ?_)
  match a with
  | ⟨0, _⟩ => exact Fin.ext (by have h : (i 0).val < 1 := (i 0).isLt; show 3 + (i 0).val = 3; omega)
  | ⟨1, _⟩ => rfl
  | ⟨2, _⟩ => rfl
  | ⟨3, _⟩ => rfl
theorem flat5 : Cert.Experts3RefIdeal.Read.val_main_v3 (F := Ideal) x5 = Cert.ExpertsRefIdeal.Read.val_main_v3 (F := Ideal) (lay 3 x5) :=
  congrArg (fun y => shapeCast _ y Cert.ExpertsRefIdeal.Gen.shapeCasts_S1x32x1x4096_S32x4096) (slice5 x5)

theorem slice6 : Cert.Experts3RefIdeal.Read.val_main_v4 (F := Ideal) x6 = Cert.ExpertsRefIdeal.Read.val_main_v4 (F := Ideal) (lay 3 x6) := by
  funext i
  rw [Cert.Experts3RefIdeal.Read.val_main_v4_apply, Cert.ExpertsRefIdeal.Read.val_main_v4_apply]
  refine congrArg x6 (funext fun a => ?_)
  match a with
  | ⟨0, _⟩ => exact Fin.ext (by have h : (i 0).val < 1 := (i 0).isLt; show 3 + (i 0).val = 3; omega)
  | ⟨1, _⟩ => rfl
  | ⟨2, _⟩ => rfl
  | ⟨3, _⟩ => rfl
theorem flat6 : Cert.Experts3RefIdeal.Read.val_main_v5 (F := Ideal) x6 = Cert.ExpertsRefIdeal.Read.val_main_v5 (F := Ideal) (lay 3 x6) :=
  congrArg (fun y => shapeCast _ y Cert.ExpertsRefIdeal.Gen.shapeCasts_S1x32x2048x2048_S32x2048x2048) (slice6 x6)

theorem slice7 : Cert.Experts3RefIdeal.Read.val_main_v6 (F := Ideal) x7 = Cert.ExpertsRefIdeal.Read.val_main_v6 (F := Ideal) (lay 3 x7) := by
  funext i
  rw [Cert.Experts3RefIdeal.Read.val_main_v6_apply, Cert.ExpertsRefIdeal.Read.val_main_v6_apply]
  refine congrArg x7 (funext fun a => ?_)
  match a with
  | ⟨0, _⟩ => exact Fin.ext (by have h : (i 0).val < 1 := (i 0).isLt; show 3 + (i 0).val = 3; omega)
  | ⟨1, _⟩ => rfl
  | ⟨2, _⟩ => rfl
  | ⟨3, _⟩ => rfl
theorem flat7 : Cert.Experts3RefIdeal.Read.val_main_v7 (F := Ideal) x7 = Cert.ExpertsRefIdeal.Read.val_main_v7 (F := Ideal) (lay 3 x7) :=
  congrArg (fun y => shapeCast _ y Cert.ExpertsRefIdeal.Gen.shapeCasts_S1x32x1x2048_S32x2048) (slice7 x7)

theorem ref_eq : Cert.Experts3RefIdeal.Read.val_main_v96 (F := Ideal) x0 x3 x4 x5 x6 x7
    = Cert.ExpertsRefIdeal.Read.val_main_v96 (F := Ideal) x0 x3 (lay 3 x4) (lay 3 x5) (lay 3 x6) (lay 3 x7) := by
  simp only [Cert.Experts3RefIdeal.Read.val_main_v25, Cert.Experts3RefIdeal.Read.val_main_v26, Cert.Experts3RefIdeal.Read.val_main_v27, Cert.Experts3RefIdeal.Read.val_main_v39, Cert.Experts3RefIdeal.Read.val_main_v40, Cert.Experts3RefIdeal.Read.val_main_v41, Cert.Experts3RefIdeal.Read.val_main_v42, Cert.Experts3RefIdeal.Read.val_main_v43, Cert.Experts3RefIdeal.Read.val_main_v44, Cert.Experts3RefIdeal.Read.val_main_v46, Cert.Experts3RefIdeal.Read.val_main_v47, Cert.Experts3RefIdeal.Read.val_main_call0_v2, Cert.Experts3RefIdeal.Read.val_main_v48, Cert.Experts3RefIdeal.Read.val_main_v50, Cert.Experts3RefIdeal.Read.val_main_v51, Cert.Experts3RefIdeal.Read.val_main_v52, Cert.Experts3RefIdeal.Read.val_main_v54, Cert.Experts3RefIdeal.Read.val_main_v56, Cert.Experts3RefIdeal.Read.val_main_v57, Cert.Experts3RefIdeal.Read.val_main_v59, Cert.Experts3RefIdeal.Read.val_main_v60, Cert.Experts3RefIdeal.Read.val_main_v76, Cert.Experts3RefIdeal.Read.val_main_v77, Cert.Experts3RefIdeal.Read.val_main_v78, Cert.Experts3RefIdeal.Read.val_main_v90, Cert.Experts3RefIdeal.Read.val_main_v91, Cert.Experts3RefIdeal.Read.val_main_v92, Cert.Experts3RefIdeal.Read.val_main_v93, Cert.Experts3RefIdeal.Read.val_main_v94, Cert.Experts3RefIdeal.Read.val_main_v95, Cert.Experts3RefIdeal.Read.val_main_v96, Cert.ExpertsRefIdeal.Read.val_main_v25, Cert.ExpertsRefIdeal.Read.val_main_v26, Cert.ExpertsRefIdeal.Read.val_main_v27, Cert.ExpertsRefIdeal.Read.val_main_v39, Cert.ExpertsRefIdeal.Read.val_main_v40, Cert.ExpertsRefIdeal.Read.val_main_v41, Cert.ExpertsRefIdeal.Read.val_main_v42, Cert.ExpertsRefIdeal.Read.val_main_v43, Cert.ExpertsRefIdeal.Read.val_main_v44, Cert.ExpertsRefIdeal.Read.val_main_v46, Cert.ExpertsRefIdeal.Read.val_main_v47, Cert.ExpertsRefIdeal.Read.val_main_call0_v2, Cert.ExpertsRefIdeal.Read.val_main_v48, Cert.ExpertsRefIdeal.Read.val_main_v50, Cert.ExpertsRefIdeal.Read.val_main_v51, Cert.ExpertsRefIdeal.Read.val_main_v52, Cert.ExpertsRefIdeal.Read.val_main_v54, Cert.ExpertsRefIdeal.Read.val_main_v56, Cert.ExpertsRefIdeal.Read.val_main_v57, Cert.ExpertsRefIdeal.Read.val_main_v59, Cert.ExpertsRefIdeal.Read.val_main_v60, Cert.ExpertsRefIdeal.Read.val_main_v76, Cert.ExpertsRefIdeal.Read.val_main_v77, Cert.ExpertsRefIdeal.Read.val_main_v78, Cert.ExpertsRefIdeal.Read.val_main_v90, Cert.ExpertsRefIdeal.Read.val_main_v91, Cert.ExpertsRefIdeal.Read.val_main_v92, Cert.ExpertsRefIdeal.Read.val_main_v93, Cert.ExpertsRefIdeal.Read.val_main_v94, Cert.ExpertsRefIdeal.Read.val_main_v95, Cert.ExpertsRefIdeal.Read.val_main_v96]
  rw [flat4 x4, flat5 x5, flat6 x6, flat7 x7]
  rfl

end Cert.Experts3RefIdeal.Entry

end
-- ==== Proof.Experts.Claims3.lean ====
module

public import proofs.«01_k».proof.Proof.Experts.Rows
public import proofs.«01_k».proof.Proof.Experts.Layer3
public import proofs.«01_k».proof.Proof.Experts.Reference3
public import proofs.«01_k».proof.Proof.Gen.Experts3RefIdeal.Run
public import proofs.«01_k».proof.Proof.Gen.Pre_schedule
public import proofs.«01_k».proof.Defs

@[expose] public section

set_option maxRecDepth 16384

noncomputable section

/-! The claims about the experts' call at layer 3. -/

namespace Cert.Proof.Experts.L3

open Idealize.ShloMosaic Idealize.SL.Sem Idealize.ShloMosaic.TcCoe
open Cert.ExpertsIdeal.Hand (Sched sched_of_pre)

/-- What the precondition grants, for the program as printed and for its reading at exact numbers. -/
theorem sched (m : (ℓ : Loc Cert.Experts3.nD Cert.Experts3.τ Cert.Experts3.sig) → Buf (Elt Bits) ℓ) (h : Cert.Pre_Experts3 m) : Sched (F := Bits) 3 m := sched_of_pre (F := Bits) m (h 0)
theorem schedIdeal (m : (ℓ : Loc Cert.Experts3Ideal.nD Cert.Experts3Ideal.τ Cert.Experts3Ideal.sig) → Buf (Elt Ideal) ℓ) (h : Cert.Pre_Experts3Ideal m) : Sched (F := Ideal) 3 m := sched_of_pre (F := Ideal) m (h 0)

theorem frame_p : Cert.quiescent_Experts3 := fun m ρ h => run_p3 (Cert.ExpertsIdeal.Hand.frame (F := Bits) m ρ (sched m h))
theorem frame_pi : Cert.quiescent_Experts3Ideal := fun m ρ h => run_i3 (Cert.ExpertsIdeal.Hand.frame (F := Ideal) m ρ (schedIdeal m h))
theorem frame_ri : Cert.quiescent_Experts3RefIdeal := fun m ρ _ =>
  (θ_run Cert.Experts3RefIdeal.defs _ _).mono (fun r h => ⟨fun c => (h c).2, Idealize.ShloMosaic.sem_eq_zero_of_no_sems (by decide) r.2⟩)
    (Cert.Experts3RefIdeal.Value.run (F := Ideal) m ρ)
theorem frame_ri_schedule : Cert.quiescent_Experts3RefIdeal_pre_schedule := fun m ρ _ => frame_ri m ρ trivial

theorem preserves : Cert.preserves_Experts3_Experts3Ideal := trivial

theorem algebraic : Cert.algebraic_Experts3Ideal_Experts3RefIdeal_on_used_rows := by
  intro m ρ m' ρ' hpre hagree
  refine ⟨fun c i => rows m (schedIdeal m hpre) c (i 0) (i 1),
    run_i3 ((θ_run (Cert.ExpertsIdeal.Hand.defsL (F := Ideal) 3) _ _).mono (fun r h c => ⟨fun i hi => ?_, (h c).2⟩) (Cert.ExpertsIdeal.Hand.run_result m ρ (schedIdeal m hpre))),
    (θ_run Cert.Experts3RefIdeal.defs _ _).mono (fun r h c => ⟨fun i hi => ?_, (h c).2⟩) (Cert.Experts3RefIdeal.Value.run (F := Ideal) m' ρ')⟩
  · obtain ⟨R, q, rfl⟩ := eta2 i
    obtain rfl : c = 0 := Subsingleton.elim _ _
    exact (congrFun (h 0).1 (ix2 R q)).trans (kernel_at m (schedIdeal m hpre) 0 _ _ _ _ _ _ _ R q hi)
  · obtain ⟨R, q, rfl⟩ := eta2 i
    obtain rfl : c = 0 := Subsingleton.elim _ _
    refine (congrFun (h 0).1 _).trans ?_
    rw [Cert.Experts3RefIdeal.Read.val_main_v96_eq, (hagree 0).1, (hagree 0).2.2.2.1, (hagree 0).2.2.2.2.1, (hagree 0).2.2.2.2.2.1, (hagree 0).2.2.2.2.2.2.1, (hagree 0).2.2.2.2.2.2.2, Cert.Experts3RefIdeal.Entry.ref_eq]
    exact ref_at m (schedIdeal m hpre) 0 R q

end Cert.Proof.Experts.L3
end
-- ==== Proof.OutProj.Spec.lean ====
module

public import Idealize.ShloMosaic.Lib.Pointwise
public import Idealize.ShloMosaic.PureOps.Ideal

@[expose] public section

noncomputable section

namespace Cert.OutP

open Idealize.ShloMosaic
open scoped BigOperators

abbrev SO : Shape := ⟨2, ![8448, 1024]⟩
abbrev SX : Shape := ⟨2, ![8448, 2048]⟩
abbrev SW : Shape := ⟨2, ![2048, 2048]⟩
abbrev SB : Shape := ⟨1, ![2048]⟩

/-- The width of a row, the small number under the root, and the weight of the residual, as the programs write them. -/
def width : EReal := FloatOps.ofBits (F := Ideal) .f32 0x45000000#32
def eps : EReal := FloatOps.ofBits (F := Ideal) .f32 0x3727C5AC#32
def alpha : EReal := FloatOps.ofBits (F := Ideal) .f32 0x3FD744FD#32

/-- The mean of a row. -/
def mean (h : Fin 2048 → EReal) : EReal := Ideal.div (∑ k : Fin 2048, h k) width

/-- A row with its mean taken off and its spread made one. -/
def norm (h : Fin 2048 → EReal) (j : Fin 2048) : EReal :=
  (h j - mean h) * Ideal.rsqrt (mean (fun k => (h k - mean h) * (h k - mean h)) + eps)

/-- The two heads' rows against the upper and the lower half of the weights. -/
def mix (G S : SO.Idx → EReal) (W : SW.Idx → EReal) (r : Fin 8448) (j : Fin 2048) : EReal :=
  (∑ d : Fin 1024, G (ix2 r d) * W (ix2 (⟨d.val, by omega⟩ : Fin 2048) j)) + ∑ d : Fin 1024, S (ix2 r d) * W (ix2 (⟨1024 + d.val, by omega⟩ : Fin 2048) j)

/-- A row of the sum of the residual and the mixed heads. -/
def hid (G S : SO.Idx → EReal) (X : SX.Idx → EReal) (W : SW.Idx → EReal) (r : Fin 8448) (j : Fin 2048) : EReal :=
  alpha * X (ix2 r j) + mix G S W r j

/-- The result. -/
def out (G S : SO.Idx → EReal) (X : SX.Idx → EReal) (W : SW.Idx → EReal) (A B : SB.Idx → EReal) (r : Fin 8448) (j : Fin 2048) : EReal :=
  norm (hid G S X W r) j * A (ix1 j) + B (ix1 j)

/-- A sum over a row is the sum over its first half and the sum over its second. -/
theorem sum_halves (f : Fin 2048 → EReal) :
    ∑ d : Fin 2048, f d = (∑ d : Fin 1024, f ⟨d.val, by omega⟩) + ∑ d : Fin 1024, f ⟨1024 + d.val, by omega⟩ :=
  Fin.sum_univ_add (a := 1024) (b := 1024) f

end Cert.OutP
end
-- ==== Proof.OutProj.Array.lean ====
module

public import proofs.«01_k».proof.Proof.OutProj.Spec
public import proofs.«01_k».proof.Proof.Gen.OutProjIdeal.Value
public import Idealize.ShloMosaic.Lib.MatmulPlain
public import Idealize.ShloMosaic.Lib.Pipeline.Value
public import Idealize.ShloMosaic.Lib.Tactic
public import Idealize.ShloMosaic.Lib.StableHlo.ReadAt

@[expose] public section

set_option maxRecDepth 16384

noncomputable section

namespace Cert.OutProjIdeal.Value

open Cert.OutProjIdeal Cert.OutProjIdeal.Gen Idealize.ShloMosaic Idealize.ShloMosaic.TcCoe Idealize.SL.Sem Cert.OutP
open Idealize.ShloMosaic.Pipeline (Dat)
open scoped BigOperators

theorem zeros : (![0, 0] : Fin 2 → Nat) = fun _ => 0 := by
  funext a
  match a with
  | ⟨0, _⟩ => rfl
  | ⟨1, _⟩ => rfl

/-- A block of rows: the residual and the two heads' products, summed. -/
def hidT (g s : FVec Ideal S256x1024 .f32) (wg ws : FVec Ideal S1024x2048 .bf16) (x : FVec Ideal S256x2048 .f32) : FVec Ideal S256x2048 .f32 :=
  addf (mulf (broadcast S256x2048 (Scalar.ofBits .f32 0x3FD744FD#32)) x)
    (addf (matmul dot_S256x1024_S1024x2048_S256x2048_1_0_0_1_n_n none (truncf .bf16 g bitsLt_bf16_f32) wg (constant S256x2048 .f32 0x00000000#32))
      (matmul dot_S256x1024_S1024x2048_S256x2048_1_0_0_1_n_n none (truncf .bf16 s bitsLt_bf16_f32) ws (constant S256x2048 .f32 0x00000000#32)))

/-- The means of a block's rows. -/
def meanT (v : FVec Ideal S256x2048 .f32) : FVec Ideal S256x1 .f32 :=
  divf (shapeCast S256x1 (multiReduction .add [1] S256 v 0x00000000#32 reduces_S256x2048_S256 (.inl rfl) rfl) shapeCasts_S256_S256x1)
    (broadcast S256x1 (Scalar.ofBits .f32 0x45000000#32))

/-- A block with the rows' means taken off. -/
def offT (v : FVec Ideal S256x2048 .f32) : FVec Ideal S256x2048 .f32 := subf v (broadcastTo S256x2048 (meanT v) broadcasts_S256x1_S256x2048)

/-- A block with its rows made even. -/
def normT (v : FVec Ideal S256x2048 .f32) : FVec Ideal S256x2048 .f32 :=
  mulf (offT v) (broadcastTo S256x2048 (rsqrt (addf (meanT (mulf (offT v) (offT v))) (broadcast S256x1 (Scalar.ofBits .f32 0x3727C5AC#32)))) broadcasts_S256x1_S256x2048)

theorem pay5_eq (g s : FVec Ideal S256x1024 .f32) (wg ws : FVec Ideal S1024x2048 .bf16) (x : FVec Ideal S256x2048 .f32) (a : FVec Ideal S1x2048 .f32) :
    k0_pay5 (F := Ideal) g wg s ws x a = mulf (normT (hidT g s wg ws x)) (broadcastTo S256x2048 a broadcasts_S1x2048_S256x2048) := by
  unfold k0_pay5
  rw [shapeCast_self, shapeCast_self, shapeCast_self]
  rfl

theorem hidT_apply (g s : FVec Ideal S256x1024 .f32) (wg ws : FVec Ideal S1024x2048 .bf16) (x : FVec Ideal S256x2048 .f32) (r : Fin 256) (j : Fin 2048) :
    hidT g s wg ws x (ix2 r j) = alpha * x (ix2 r j) + ((∑ d : Fin 1024, g (ix2 r d) * wg (ix2 d j)) + ∑ d : Fin 1024, s (ix2 r d) * ws (ix2 d j)) := by
  refine congrArg (alpha * x (ix2 r j) + ·) (congrArg₂ (· + ·) ?_ ?_)
  · refine (Ideal.matmul_plain_apply (M := 256) (K := 1024) (N := 2048) none g wg (constant (F := Ideal) S256x2048 .f32 0x00000000#32) r j).trans ?_
    exact (congrArg (· + _) Ideal.ofBits_zero_f32).trans (zero_add _)
  · refine (Ideal.matmul_plain_apply (M := 256) (K := 1024) (N := 2048) none s ws (constant (F := Ideal) S256x2048 .f32 0x00000000#32) r j).trans ?_
    exact (congrArg (· + _) Ideal.ofBits_zero_f32).trans (zero_add _)

theorem meanT_apply (v : FVec Ideal S256x2048 .f32) (r : Fin 256) : meanT v (ix2 r 0) = mean (fun k => v (ix2 r k)) := by
  refine congrArg (Ideal.div · width) ?_
  refine (shapeCast_apply _ shapeCasts_S256_S256x1 (ix2 r 0) (ix1 r) ?_).trans ?_
  · rw [Shape.rowMajor_val_one, Shape.rowMajor_val_two]
    show r.val = r.val * 1 + 0
    omega
  · refine (Ideal.multiReduction_add_single v 0x00000000#32 reduces_S256x2048_S256 (.inl rfl) rfl (ix1 r)).trans ?_
    refine Finset.sum_congr rfl fun k _ => congrArg v (funext fun a => Fin.ext ?_)
    match a with
    | ⟨0, _⟩ => rfl
    | ⟨1, _⟩ => rfl

/-- A column spread over a block's rows. -/
theorem column_apply (u : FVec Ideal S256x1 .f32) (r : Fin 256) (j : Fin 2048) :
    broadcastTo S256x2048 u broadcasts_S256x1_S256x2048 (ix2 r j) = u (ix2 r 0) := by
  refine congrArg u (funext fun a => Fin.ext ?_)
  match a with
  | ⟨0, _⟩ => rfl
  | ⟨1, _⟩ => rfl

/-- A row spread over a block's rows. -/
theorem row_apply (u : FVec Ideal S1x2048 .f32) (r : Fin 256) (j : Fin 2048) :
    broadcastTo S256x2048 u broadcasts_S1x2048_S256x2048 (ix2 r j) = u (ix2 0 j) := by
  refine congrArg u (funext fun a => Fin.ext ?_)
  match a with
  | ⟨0, _⟩ => rfl
  | ⟨1, _⟩ => rfl

theorem offT_apply (v : FVec Ideal S256x2048 .f32) (r : Fin 256) (j : Fin 2048) : offT v (ix2 r j) = v (ix2 r j) - mean (fun k => v (ix2 r k)) :=
  congrArg (v (ix2 r j) - ·) ((column_apply _ r j).trans (meanT_apply v r))

theorem normT_apply (v : FVec Ideal S256x2048 .f32) (r : Fin 256) (j : Fin 2048) : normT v (ix2 r j) = norm (fun k => v (ix2 r k)) j := by
  refine congrArg₂ (· * ·) (offT_apply v r j) ((column_apply _ r j).trans (congrArg (fun e => Ideal.rsqrt (e + eps)) ((meanT_apply _ r).trans ?_)))
  refine congrArg mean (funext fun k => ?_)
  exact congrArg₂ (· * ·) (offT_apply v r k) (offT_apply v r k)

theorem out_eq (x0 x1 : FVec Ideal S256x1024 .f32) (x2 : FVec Ideal S256x2048 .f32) (x3 : FVec Ideal S2048x2048 .bf16) (x4 x5 : FVec Ideal S1x2048 .f32)
    (x6 : FVec Ideal S2048x256 .bf16) (x7 : FVec Ideal S1x128 .f32) :
    out0_8 (F := Ideal) x0 x1 x2 x3 x4 x5 x6 x7 =
      addf (mulf (normT (hidT x0 x1 (View.ld (Val := Elt Ideal) (e' := .bf16) x3 r0_1) (View.ld (Val := Elt Ideal) (e' := .bf16) x3 r0_2) x2)) (broadcastTo S256x2048 x4 broadcasts_S1x2048_S256x2048))
        (broadcastTo S256x2048 x5 broadcasts_S1x2048_S256x2048) := by
  unfold out0_8 k0_pay7 k0_pay6
  rw [View.canon_unit_zero zeros, View.ld_unit_zero zeros, View.ld_unit_zero zeros, View.ld_unit_zero zeros, View.ld_unit_zero zeros, View.ld_unit_zero zeros, pay5_eq]
  unfold k0_pay1 k0_pay4
  rw [shapeCast_self]

theorem out_apply (x0 x1 : FVec Ideal S256x1024 .f32) (x2 : FVec Ideal S256x2048 .f32) (x3 : FVec Ideal S2048x2048 .bf16) (x4 x5 : FVec Ideal S1x2048 .f32)
    (x6 : FVec Ideal S2048x256 .bf16) (x7 : FVec Ideal S1x128 .f32) (r : Fin 256) (j : Fin 2048) :
    out0_8 (F := Ideal) x0 x1 x2 x3 x4 x5 x6 x7 (ix2 r j) =
      norm (fun k => alpha * x2 (ix2 r k) + ((∑ d : Fin 1024, x0 (ix2 r d) * x3 (ix2 (⟨d.val, by omega⟩ : Fin 2048) k))
        + ∑ d : Fin 1024, x1 (ix2 r d) * x3 (ix2 (⟨1024 + d.val, by omega⟩ : Fin 2048) k))) j * x4 (ix2 0 j) + x5 (ix2 0 j) := by
  rw [out_eq]
  refine congrArg₂ (· + ·) (congrArg₂ (· * ·) ((normT_apply _ r j).trans (congrArg (norm · j) (funext fun k => (hidT_apply _ _ _ _ _ r k).trans ?_))) (row_apply x4 r j)) (row_apply x5 r j)
  refine congrArg (alpha * x2 (ix2 r k) + ·) (congrArg₂ (· + ·) (Finset.sum_congr rfl fun d _ => congrArg (_ * ·) (congrArg x3 (funext fun a => Fin.ext ?_)))
    (Finset.sum_congr rfl fun d _ => congrArg (_ * ·) (congrArg x3 (funext fun a => Fin.ext ?_))))
  · match a with
    | ⟨0, _⟩ => show 0 + 1 * d.val = d.val; omega
    | ⟨1, _⟩ => show 0 + 1 * k.val = k.val; omega
  · match a with
    | ⟨0, _⟩ => show 1024 + 1 * d.val = 1024 + d.val; omega
    | ⟨1, _⟩ => show 0 + 1 * k.val = k.val; omega

theorem index0_0 : ∀ t : Fin cfg0.N, win0_0.index t = ![t.val, 0] := (by decide +kernel : ∀ t : Fin grid0.N, win0_0.index t = ![t.val, 0])
theorem index0_1 : ∀ t : Fin cfg0.N, win0_1.index t = ![t.val, 0] := (by decide +kernel : ∀ t : Fin grid0.N, win0_1.index t = ![t.val, 0])
theorem index0_2 : ∀ t : Fin cfg0.N, win0_2.index t = ![t.val, 0] := (by decide +kernel : ∀ t : Fin grid0.N, win0_2.index t = ![t.val, 0])
theorem index0_3 : ∀ t : Fin cfg0.N, win0_3.index t = ![0, 0] := (by decide +kernel : ∀ t : Fin grid0.N, win0_3.index t = ![0, 0])
theorem index0_4 : ∀ t : Fin cfg0.N, win0_4.index t = ![0, 0] := (by decide +kernel : ∀ t : Fin grid0.N, win0_4.index t = ![0, 0])
theorem index0_5 : ∀ t : Fin cfg0.N, win0_5.index t = ![0, 0] := (by decide +kernel : ∀ t : Fin grid0.N, win0_5.index t = ![0, 0])
theorem index0_8 : ∀ t : Fin cfg0.N, win0_8.index t = ![t.val, 0] := (by decide +kernel : ∀ t : Fin grid0.N, win0_8.index t = ![t.val, 0])

variable (m : (ℓ : Loc nD τ sig) → Buf (Elt Ideal) ℓ)

abbrev gmat (c : Dev nD) : SO.Idx → EReal := m ((c : Thread nD τ).loc main_arg0)
abbrev smat (c : Dev nD) : SO.Idx → EReal := m ((c : Thread nD τ).loc main_arg1)
abbrev xmat (c : Dev nD) : SX.Idx → EReal := m ((c : Thread nD τ).loc main_arg2)
abbrev wmat (c : Dev nD) : SW.Idx → EReal := m ((c : Thread nD τ).loc main_arg3)
abbrev avec (c : Dev nD) : SB.Idx → EReal := m ((c : Thread nD τ).loc main_arg4)
abbrev bvec (c : Dev nD) : SB.Idx → EReal := m ((c : Thread nD τ).loc main_arg5)

/-- What the host code leaves in the weights' arrays. -/
theorem w_eq (c : Dev nD) : (V m c main_v8 : SW.Idx → EReal) = wmat m c := by
  unfold V
  after_reads_simp
  rfl

theorem a_eq (c : Dev nD) : (V m c main_v9 : S1x2048.Idx → EReal) = shapeCast S1x2048 (avec m c) shapeCasts_S2048_S1x2048 := by
  unfold V
  after_reads_simp
  rfl

theorem b_eq (c : Dev nD) : (V m c main_v10 : S1x2048.Idx → EReal) = shapeCast S1x2048 (bvec m c) shapeCasts_S2048_S1x2048 := by
  unfold V
  after_reads_simp
  rfl

/-- A vector laid as one row. -/
theorem lay_apply (u : SB.Idx → EReal) (j : Fin 2048) : shapeCast S1x2048 u shapeCasts_S2048_S1x2048 (ix2 0 j) = u (ix1 j) := by
  refine shapeCast_apply u shapeCasts_S2048_S1x2048 (ix2 0 j) (ix1 j) ?_
  rw [Shape.rowMajor_val_one, Shape.rowMajor_val_two]
  show j.val = 0 * 2048 + j.val
  omega

variable (c : Dev nD) (t : Fin cfg0.N)

theorem g_apply (r : Fin 256) (d : Fin 1024) (R : Fin 8448) (hR : R.val = t.val * 256 + r.val) : iblk m c 0 t (ix2 r d) = gmat m c (ix2 R d) := by
  show V m c main_arg0 _ = _
  rw [V_main_arg0]
  refine congrArg (gmat m c) (funext fun a => Fin.ext ?_)
  match a with
  | ⟨0, _⟩ => show win0_0.index t 0 * 256 + 1 * r.val = R.val; rw [index0_0, hR, Nat.one_mul]; rfl
  | ⟨1, _⟩ => show win0_0.index t 1 * 1024 + 1 * d.val = d.val; rw [index0_0]; show 0 * 1024 + 1 * d.val = d.val; omega

theorem s_apply (r : Fin 256) (d : Fin 1024) (R : Fin 8448) (hR : R.val = t.val * 256 + r.val) : iblk m c 1 t (ix2 r d) = smat m c (ix2 R d) := by
  show V m c main_arg1 _ = _
  rw [V_main_arg1]
  refine congrArg (smat m c) (funext fun a => Fin.ext ?_)
  match a with
  | ⟨0, _⟩ => show win0_1.index t 0 * 256 + 1 * r.val = R.val; rw [index0_1, hR, Nat.one_mul]; rfl
  | ⟨1, _⟩ => show win0_1.index t 1 * 1024 + 1 * d.val = d.val; rw [index0_1]; show 0 * 1024 + 1 * d.val = d.val; omega

theorem x_apply (r : Fin 256) (d : Fin 2048) (R : Fin 8448) (hR : R.val = t.val * 256 + r.val) : iblk m c 2 t (ix2 r d) = xmat m c (ix2 R d) := by
  show V m c main_arg2 _ = _
  rw [V_main_arg2]
  refine congrArg (xmat m c) (funext fun a => Fin.ext ?_)
  match a with
  | ⟨0, _⟩ => show win0_2.index t 0 * 256 + 1 * r.val = R.val; rw [index0_2, hR, Nat.one_mul]; rfl
  | ⟨1, _⟩ => show win0_2.index t 1 * 2048 + 1 * d.val = d.val; rw [index0_2]; show 0 * 2048 + 1 * d.val = d.val; omega

theorem w_apply (d j : Fin 2048) : iblk m c 3 t (ix2 d j) = wmat m c (ix2 d j) := by
  rw [← w_eq]
  refine congrArg (V m c main_v8 : SW.Idx → EReal) (funext fun a => Fin.ext ?_)
  match a with
  | ⟨0, _⟩ => show win0_3.index t 0 * 2048 + 1 * d.val = d.val; rw [index0_3]; show 0 * 2048 + 1 * d.val = d.val; omega
  | ⟨1, _⟩ => show win0_3.index t 1 * 2048 + 1 * j.val = j.val; rw [index0_3]; show 0 * 2048 + 1 * j.val = j.val; omega

theorem a_apply (j : Fin 2048) : iblk m c 4 t (ix2 0 j) = avec m c (ix1 j) := by
  rw [← lay_apply (avec m c) j, ← a_eq]
  refine congrArg (V m c main_v9 : S1x2048.Idx → EReal) (funext fun a => Fin.ext ?_)
  match a with
  | ⟨0, _⟩ => show win0_4.index t 0 * 1 + 1 * 0 = 0; rw [index0_4]; rfl
  | ⟨1, _⟩ => show win0_4.index t 1 * 2048 + 1 * j.val = j.val; rw [index0_4]; show 0 * 2048 + 1 * j.val = j.val; omega

theorem b_apply (j : Fin 2048) : iblk m c 5 t (ix2 0 j) = bvec m c (ix1 j) := by
  rw [← lay_apply (bvec m c) j, ← b_eq]
  refine congrArg (V m c main_v10 : S1x2048.Idx → EReal) (funext fun a => Fin.ext ?_)
  match a with
  | ⟨0, _⟩ => show win0_5.index t 0 * 1 + 1 * 0 = 0; rw [index0_5]; rfl
  | ⟨1, _⟩ => show win0_5.index t 1 * 2048 + 1 * j.val = j.val; rw [index0_5]; show 0 * 2048 + 1 * j.val = j.val; omega

omit t in
/-- The kernel's result array. -/
theorem result_apply (R : Fin 8448) (j : Fin 2048) :
    (dats m 0 c).arrAt 8 cfg0.N (ix2 R j) = out (gmat m c) (smat m c) (xmat m c) (wmat m c) (avec m c) (bvec m c) R j := by
  have hR := R.isLt
  let t : Fin cfg0.N := ⟨R.val / 256, lt_of_lt_of_eq (by omega) N_0.symm⟩
  let r : Fin 256 := ⟨R.val % 256, by omega⟩
  have hr : R.val = t.val * 256 + r.val := by show R.val = R.val / 256 * 256 + R.val % 256; omega
  have hb := congrFun ((blocks8 m c t (flush0_8 t)).trans (flushed8 m c t)) (ix2 r j)
  have he : ((cfg0.win 8).blk t).view.emb (ix2 r j) = ix2 R j := by
    funext a
    refine Fin.ext ?_
    match a with
    | ⟨0, _⟩ => show win0_8.index t 0 * 256 + 1 * r.val = R.val; rw [index0_8, hr, Nat.one_mul]; rfl
    | ⟨1, _⟩ => show win0_8.index t 1 * 2048 + 1 * j.val = j.val; rw [index0_8]; show 0 * 2048 + 1 * j.val = j.val; omega
  rw [← he]
  refine hb.trans ((out_apply _ _ _ _ _ _ _ _ r j).trans ?_)
  refine congrArg₂ (· + ·) (congrArg₂ (· * ·) (congrArg (norm · j) (funext fun k => ?_)) (a_apply m c t j)) (b_apply m c t j)
  refine congrArg₂ (· + ·) (congrArg (alpha * ·) (x_apply m c t r k R hr)) (congrArg₂ (· + ·) (Finset.sum_congr rfl fun d _ => ?_) (Finset.sum_congr rfl fun d _ => ?_))
  · exact congrArg₂ (· * ·) (g_apply m c t r d R hr) (w_apply m c t _ k)
  · exact congrArg₂ (· * ·) (s_apply m c t r d R hr) (w_apply m c t _ k)

end Cert.OutProjIdeal.Value
end
-- ==== Proof.OutProj.Reference.lean ====
module

public import proofs.«01_k».proof.Proof.OutProj.Spec
public import proofs.«01_k».proof.Proof.Gen.OutProjRefIdeal.Read
public import Idealize.ShloMosaic.Lib.Pipeline.Value

@[expose] public section

set_option maxRecDepth 16384

noncomputable section

namespace Cert.OutProjRefIdeal.Read

open Cert.OutProjRefIdeal Cert.OutProjRefIdeal.Gen Idealize.ShloMosaic Idealize.ShloMosaic.TcCoe Cert.OutP
open scoped BigOperators

variable (G S : SO.Idx → EReal) (X : SX.Idx → EReal) (W : SW.Idx → EReal) (A B : SB.Idx → EReal)

/-- The pieces the reference lays side by side. -/
abbrev pieces : List ((s : Shape) × (s.Idx → EReal)) := [⟨S8448x1024, G⟩, ⟨S8448x1024, S⟩]

theorem piece_apply (k : ℕ) (hk : k < (pieces G S).length) (x : S8448x1024.Idx → EReal) (hx : (pieces G S)[k] = ⟨S8448x1024, x⟩) (pre : ℕ)
    (hpre : ((((pieces G S).take k).map (·.1)).map fun s => if h : s.rank = S8448x2048.rank then s.size ((1 : Fin S8448x2048.rank).cast h.symm) else 0).sum = pre)
    (r : Fin 8448) (c : Fin 2048) (e : Fin 1024) (he : pre + e.val = c.val) :
    val_main_v0 (F := Ideal) G S (ix2 r c) = x (ix2 r e) :=
  concatenate_apply_piece (t := S8448x2048) 1 (pieces G S) _ (ix2 r c) k hk _ x hx rfl pre hpre (ix2 r e) (fun b hb => by
    match b with
    | ⟨0, _⟩ => rfl
    | ⟨1, _⟩ => exact absurd rfl hb) he

theorem mix_apply (r : Fin 8448) (j : Fin 2048) : val_main_v1 (F := Ideal) G S W (ix2 r j) = mix G S W r j := by
  have hl : ∀ k : Fin 2048, lidx_main_v1 (ix2 r j) k = ix2 r k := fun k => funext fun a => by
    match a with
    | ⟨0, _⟩ => rfl
    | ⟨1, _⟩ => rfl
  have hr : ∀ k : Fin 2048, ridx_main_v1 (ix2 r j) k = ix2 k j := fun k => funext fun a => by
    match a with
    | ⟨0, _⟩ => rfl
    | ⟨1, _⟩ => rfl
  rw [val_main_v1_apply]
  simp only [hl, hr]
  rw [sum_halves]
  refine congrArg₂ (· + ·) (Finset.sum_congr rfl fun d _ => congrArg (· * _) ?_) (Finset.sum_congr rfl fun d _ => congrArg (· * _) ?_)
  · exact piece_apply G S 0 (show 0 < 2 by omega) G rfl 0 rfl r _ d (Nat.zero_add _)
  · exact piece_apply G S 1 (show 1 < 2 by omega) S rfl 1024 rfl r _ d rfl

theorem hid_apply (r : Fin 8448) (j : Fin 2048) : val_main_v4 (F := Ideal) G S X W (ix2 r j) = hid G S X W r j := by
  rw [val_main_v4_apply, val_main_v3_apply, val_main_v2_apply, val_main_cst_apply, mix_apply]
  rfl

/-- A sum over a row, started at zero. -/
theorem start_zero (e : EReal) : FloatOps.ofBits (F := Ideal) .f32 0x00000000#32 + e = e :=
  (congrArg (· + e) Ideal.ofBits_zero_f32).trans (zero_add e)

theorem mean_apply (r : Fin 8448) (i : S8448x1.Idx) (hi : (i 0).val = r.val) : val_main_v8 (F := Ideal) G S X W i = mean (hid G S X W r) := by
  rw [val_main_v8_apply, val_main_v7_apply, val_main_cst_1_apply, val_main_v6_apply, val_main_v5_apply, val_main_cst_0_apply, start_zero]
  refine congrArg (Ideal.div · width) (Finset.sum_congr rfl fun k _ => ?_)
  refine Eq.trans (congrArg _ (funext fun a => Fin.ext ?_)) (hid_apply G S X W r k)
  match a with
  | ⟨0, _⟩ => exact hi
  | ⟨1, _⟩ => rfl

theorem off_apply (r : Fin 8448) (k : Fin 2048) : val_main_v10 (F := Ideal) G S X W (ix2 r k) = hid G S X W r k - mean (hid G S X W r) := by
  rw [val_main_v10_apply, hid_apply, val_main_v9_apply, mean_apply G S X W r _ rfl]
  rfl

theorem var_apply (r : Fin 8448) (i : S8448x1.Idx) (hi : (i 0).val = r.val) :
    val_main_v15 (F := Ideal) G S X W i = mean (fun k => (hid G S X W r k - mean (hid G S X W r)) * (hid G S X W r k - mean (hid G S X W r))) := by
  rw [val_main_v15_apply, val_main_v14_apply, val_main_cst_3_apply, val_main_v13_apply, val_main_v12_apply, val_main_cst_2_apply, start_zero]
  refine congrArg (Ideal.div · width) (Finset.sum_congr rfl fun k _ => ?_)
  have hk : val_main_v11 (F := Ideal) G S X W (ix2 r k) = (hid G S X W r k - mean (hid G S X W r)) * (hid G S X W r k - mean (hid G S X W r)) := by
    rw [val_main_v11_apply, off_apply]
    rfl
  refine Eq.trans (congrArg _ (funext fun a => Fin.ext ?_)) hk
  match a with
  | ⟨0, _⟩ => exact hi
  | ⟨1, _⟩ => rfl

theorem norm_apply (r : Fin 8448) (j : Fin 2048) : val_main_v22 (F := Ideal) G S X W (ix2 r j) = norm (hid G S X W r) j := by
  rw [val_main_v22_apply, val_main_v17_apply, val_main_v16_apply, val_main_v21_apply, val_main_v20_apply, val_main_v19_apply, val_main_v18_apply, val_main_cst_4_apply,
    hid_apply, mean_apply G S X W r _ rfl, var_apply G S X W r _ rfl]
  rfl

/-- The reference's result. -/
theorem result_apply (r : Fin 8448) (j : Fin 2048) : val_main_v28 (F := Ideal) G S X W A B (ix2 r j) = out G S X W A B r j := by
  rw [val_main_v28_apply, val_main_v25_apply, norm_apply, val_main_v24_apply, val_main_v23_apply, val_main_v27_apply, val_main_v26_apply]
  refine congrArg₂ (fun a b => norm (hid G S X W r) j * a + b) (congrArg A (funext fun a => Fin.ext ?_)) (congrArg B (funext fun a => Fin.ext ?_))
  · match a with
    | ⟨0, _⟩ => rfl
  · match a with
    | ⟨0, _⟩ => rfl

end Cert.OutProjRefIdeal.Read
end
-- ==== Proof.OutProj.Claims.lean ====
module

public import proofs.«01_k».proof.Proof.OutProj.Array
public import proofs.«01_k».proof.Proof.OutProj.Reference
public import proofs.«01_k».proof.Proof.Gen.OutProj.Frame
public import proofs.«01_k».proof.Proof.Gen.OutProjRefIdeal.Run
public import proofs.«01_k».proof.Defs

@[expose] public section

set_option maxRecDepth 16384

noncomputable section

namespace Cert.Proof.OutProj

open Idealize.ShloMosaic Idealize.SL.Sem Cert.OutP Idealize.ShloMosaic.TcCoe

theorem frame_p : Cert.quiescent_OutProj := fun m ρ _ => Cert.OutProj.Gen.frame m ρ
theorem frame_pi : Cert.quiescent_OutProjIdeal := fun m ρ _ => Cert.OutProjIdeal.Gen.frame m ρ
theorem frame_ri : Cert.quiescent_OutProjRefIdeal := fun m ρ _ =>
  (θ_run Cert.OutProjRefIdeal.defs _ _).mono (fun r h => ⟨fun c => (h c).2, Idealize.ShloMosaic.sem_eq_zero_of_no_sems (by decide) r.2⟩)
    (Cert.OutProjRefIdeal.Value.run (F := Ideal) m ρ)

theorem preserves : Cert.preserves_OutProj_OutProjIdeal := trivial

/-- The kernel's first result and the reference's agree everywhere. -/
theorem algebraic : Cert.algebraic_OutProjIdeal_OutProjRefIdeal := by
  intro m ρ m' ρ' hpre hagree
  refine ⟨fun c i => out (Cert.OutProjIdeal.Value.gmat m c) (Cert.OutProjIdeal.Value.smat m c) (Cert.OutProjIdeal.Value.xmat m c) (Cert.OutProjIdeal.Value.wmat m c)
      (Cert.OutProjIdeal.Value.avec m c) (Cert.OutProjIdeal.Value.bvec m c) (i 0) (i 1),
    (θ_run Cert.OutProjIdeal.defs _ _).mono (fun r h c => ⟨(h c).1.trans (funext fun i => ?_), (h c).2.2.2⟩) (Cert.OutProjIdeal.Value.run_blocks (F := Ideal) m ρ),
    (θ_run Cert.OutProjRefIdeal.defs _ _).mono (fun r h c => ⟨(h c).1.trans (funext fun i => ?_), (h c).2⟩) (Cert.OutProjRefIdeal.Value.run (F := Ideal) m' ρ')⟩
  · obtain ⟨R, K, rfl⟩ : ∃ (R : Fin 8448) (K : Fin 2048), i = ix2 R K := ⟨i 0, i 1, by funext a; match a with | ⟨0, _⟩ => rfl | ⟨1, _⟩ => rfl⟩
    exact Cert.OutProjIdeal.Value.result_apply m c R K
  · obtain ⟨R, K, rfl⟩ : ∃ (R : Fin 8448) (K : Fin 2048), i = ix2 R K := ⟨i 0, i 1, by funext a; match a with | ⟨0, _⟩ => rfl | ⟨1, _⟩ => rfl⟩
    rw [Cert.OutProjRefIdeal.Read.val_main_v28_eq, (hagree c).1, (hagree c).2.1, (hagree c).2.2.1, (hagree c).2.2.2.1, (hagree c).2.2.2.2.1, (hagree c).2.2.2.2.2.1]
    exact Cert.OutProjRefIdeal.Read.result_apply _ _ _ _ _ _ R K

end Cert.Proof.OutProj
end
-- ==== Proof.Router.Spec.lean ====
module

public import proofs.«01_k».proof.Proof.OutProj.Spec
public import Idealize.ShloMosaic.Lib.KernelVsHost

@[expose] public section

set_option maxRecDepth 16384

noncomputable section

/-! The router's logits of a row, and their padding to the width of the result. -/

namespace Cert.RouterP

open Idealize.ShloMosaic Cert.OutP
open scoped BigOperators

abbrev SE : Shape := ⟨2, ![2048, 32]⟩
abbrev SC : Shape := ⟨1, ![32]⟩
abbrev SF : Shape := ⟨2, ![2048, 128]⟩
abbrev SD : Shape := ⟨1, ![128]⟩

/-- A number that is neither of the two infinities. -/
def Tame (x : EReal) : Prop := x ≠ ⊤ ∧ x ≠ ⊥

theorem Tame.sub_self {x : EReal} (h : Tame x) : x - x = 0 := EReal.sub_self h.1 h.2

theorem tame_zero : Tame 0 := ⟨EReal.zero_ne_top, EReal.zero_ne_bot⟩

/-- A number whose size is below infinity is neither of the two. -/
theorem tame_of_size {x : EReal} (h : BitVec.ofBool (decide (max x (-x) < Ideal.ofBits .f32 0x7F800000#32)) = 1#1) : Tame x := by
  have top : Ideal.ofBits .f32 0x7F800000#32 = ⊤ := by simp [Ideal.ofBits, Ideal.ieee]
  rw [top] at h
  have hlt : max x (-x) < ⊤ := by
    by_contra hn
    rw [decide_eq_false hn] at h
    exact absurd h (by decide)
  refine ⟨fun e => ?_, fun e => ?_⟩
  · rw [e] at hlt; exact absurd hlt (by simp)
  · rw [e] at hlt; exact absurd hlt (by simp)

/-- The weights with columns of zeros after the last. -/
def wide (E : SE.Idx → EReal) (d : Fin 2048) (e : Fin 128) : EReal := if h : e.val < 32 then E (ix2 d (⟨e.val, h⟩ : Fin 32)) else 0

/-- The offsets with zeros after the last. -/
def long (C : SC.Idx → EReal) (e : Fin 128) : EReal := if h : e.val < 32 then C (ix1 (⟨e.val, h⟩ : Fin 32)) else 0

/-- The logits of a row. -/
def logit (x : Fin 2048 → EReal) (E : SE.Idx → EReal) (C : SC.Idx → EReal) (e : Fin 128) : EReal := (∑ d : Fin 2048, x d * wide E d e) + long C e

theorem wide_tame {E : SE.Idx → EReal} (hE : ∀ i, Tame (E i)) (d : Fin 2048) (e : Fin 128) : Tame (wide E d e) := by
  unfold wide
  split
  · exact hE _
  · exact tame_zero

/-- The remainders of tame rows and tame weights add nothing. -/
theorem split_logit (x : Fin 2048 → EReal) (w : Fin 2048 → EReal) (b : EReal) (hx : ∀ d, Tame (x d)) (hw : ∀ d, Tame (w d)) :
    (((∑ d : Fin 2048, x d * w d) + ∑ d : Fin 2048, x d * (w d - w d)) + ∑ d : Fin 2048, (x d - x d) * w d) + b = (∑ d : Fin 2048, x d * w d) + b := by
  have h1 : ∑ d : Fin 2048, x d * (w d - w d) = 0 := Finset.sum_eq_zero fun d _ => by rw [(hw d).sub_self, mul_zero]
  have h2 : ∑ d : Fin 2048, (x d - x d) * w d = 0 := Finset.sum_eq_zero fun d _ => by rw [(hx d).sub_self, zero_mul]
  rw [h1, h2, add_zero, add_zero]

/-- The padding of a matrix on the right, read at an index. -/
theorem pad_columns {M : ℕ} (x : (⟨2, ![M, 32]⟩ : Shape).Idx → EReal) (v : (⟨0, ![]⟩ : Shape).Idx → EReal) (hv : v (Shape.Idx.first (by decide)) = 0)
    (h : (⟨2, ![M, 32]⟩ : Shape).Pads (![0, 0] : Fin 2 → ℕ) ![0, 96] ![0, 0] ⟨2, ![M, 128]⟩) (hu : 0 < (⟨0, ![]⟩ : Shape).numel) (r : Fin M) (e : Fin 128) :
    pad (⟨2, ![M, 128]⟩ : Shape) (![0, 0] : Fin 2 → ℕ) ![0, 96] ![0, 0] x v h hu (ix2 r e) = if k : e.val < 32 then x (ix2 r (⟨e.val, k⟩ : Fin 32)) else 0 := by
  split
  · rename_i k
    refine pad_apply_of_inside _ _ _ x v h hu _ (ix2 r (⟨e.val, k⟩ : Fin 32)) fun a => ?_
    match a with
    | ⟨0, _⟩ => show r.val = 0 + r.val * (0 + 1); omega
    | ⟨1, _⟩ => show e.val = 0 + e.val * (0 + 1); omega
  · rename_i k
    refine (pad_apply_of_not_inside _ _ _ x v h hu _ 1 fun hn => k ?_).trans hv
    have := hn.2.2
    change (e.val - 0) / (0 + 1) < 32 at this
    omega

/-- The padding of a vector, read at an index. -/
theorem pad_tail (x : SC.Idx → EReal) (v : (⟨0, ![]⟩ : Shape).Idx → EReal) (hv : v (Shape.Idx.first (by decide)) = 0)
    (h : SC.Pads (![0] : Fin 1 → ℕ) ![96] ![0] SD) (hu : 0 < (⟨0, ![]⟩ : Shape).numel) (e : Fin 128) :
    pad SD (![0] : Fin 1 → ℕ) ![96] ![0] x v h hu (ix1 e) = long x e := by
  unfold long
  split
  · rename_i k
    refine pad_apply_of_inside _ _ _ x v h hu _ (ix1 (⟨e.val, k⟩ : Fin 32)) fun a => ?_
    match a with
    | ⟨0, _⟩ => show e.val = 0 + e.val * (0 + 1); omega
  · rename_i k
    refine (pad_apply_of_not_inside _ _ _ x v h hu _ 0 fun hn => k ?_).trans hv
    have := hn.2.2
    change (e.val - 0) / (0 + 1) < 32 at this
    omega

end Cert.RouterP
end
-- ==== Proof.Router.Array.lean ====
module

public import proofs.«01_k».proof.Proof.Router.Spec
public import proofs.«01_k».proof.Proof.OutProj.Array

@[expose] public section

set_option maxRecDepth 16384

noncomputable section

/-! The kernel's third result: the router's logits of the rows its first result holds. -/

namespace Cert.OutProjIdeal.Router

open Cert.OutProjIdeal Cert.OutProjIdeal.Gen Cert.OutProjIdeal.Value Idealize.ShloMosaic Idealize.ShloMosaic.TcCoe Idealize.SL.Sem Cert.OutP Cert.RouterP
open Idealize.ShloMosaic.Pipeline (Dat)
open scoped BigOperators

/-- A block of rows against both halves of the weights. -/
def productT (z : FVec Ideal S256x2048 .f32) (u : FVec Ideal S2048x256 .bf16) : FVec Ideal S256x256 .f32 :=
  matmul dot_S256x2048_S2048x256_S256x256_1_0_0_1_n_n none (truncf .bf16 z bitsLt_bf16_f32) u (constant S256x256 .f32 0x00000000#32)

/-- The logits of a block of rows: their high parts against both halves of the weights, their remainders against the first. -/
def logitT (z : FVec Ideal S256x2048 .f32) (u : FVec Ideal S2048x256 .bf16) (v : FVec Ideal S2048x128 .bf16) (b : FVec Ideal S1x128 .f32) : FVec Ideal S256x128 .f32 :=
  addf (addf (addf
      (extractStridedSlice S256x128 ![0, 0] (productT z u) slices_S256x256_o0_0_S256x128)
      (extractStridedSlice S256x128 ![0, 128] (productT z u) slices_S256x256_o0_128_S256x128))
      (matmul dot_S256x2048_S2048x128_S256x128_1_0_0_1_n_n none (truncf .bf16 (subf z z) bitsLt_bf16_f32) v (constant S256x128 .f32 0x00000000#32)))
    (broadcastTo S256x128 b broadcasts_S1x128_S256x128)

theorem pay3_eq (s : FVec Ideal S1x2048 .f32) (p : FVec Ideal S256x2048 .f32) (u : FVec Ideal S2048x256 .bf16) (v : FVec Ideal S2048x128 .bf16) (b : FVec Ideal S1x128 .f32) :
    k0_pay3 (F := Ideal) s p u v b = logitT (k0_pay1 (F := Ideal) s p) u v b := by
  unfold k0_pay3
  rw [shapeCast_self, shapeCast_self, shapeCast_self]
  rfl

theorem product_apply (z : FVec Ideal S256x2048 .f32) (u : FVec Ideal S2048x256 .bf16) (r : Fin 256) (e : Fin 256) :
    productT z u (ix2 r e)
      = ∑ d : Fin 2048, z (ix2 r d) * u (ix2 d e) := by
  refine (Ideal.matmul_plain_apply (M := 256) (K := 2048) (N := 256) none z u (constant (F := Ideal) S256x256 .f32 0x00000000#32) r e).trans ?_
  exact (congrArg (· + _) Ideal.ofBits_zero_f32).trans (zero_add _)

theorem logitT_apply (z : FVec Ideal S256x2048 .f32) (u : FVec Ideal S2048x256 .bf16) (v : FVec Ideal S2048x128 .bf16) (b : FVec Ideal S1x128 .f32) (r : Fin 256) (e : Fin 128) :
    logitT z u v b (ix2 r e) = (((∑ d : Fin 2048, z (ix2 r d) * u (ix2 d (⟨e.val, by omega⟩ : Fin 256))) + ∑ d : Fin 2048, z (ix2 r d) * u (ix2 d (⟨128 + e.val, by omega⟩ : Fin 256)))
      + ∑ d : Fin 2048, (z (ix2 r d) - z (ix2 r d)) * v (ix2 d e)) + b (ix2 0 e) := by
  refine congrArg₂ (· + ·) (congrArg₂ (· + ·) (congrArg₂ (· + ·) (Eq.trans ?_ (product_apply z u r ⟨e.val, by omega⟩)) (Eq.trans ?_ (product_apply z u r ⟨128 + e.val, by omega⟩))) ?_) ?_
  · refine congrArg (productT z u) (funext fun a => Fin.ext ?_)
    match a with
    | ⟨0, _⟩ => show 0 + r.val = r.val; omega
    | ⟨1, _⟩ => show 0 + e.val = e.val; omega
  · refine congrArg (productT z u) (funext fun a => Fin.ext ?_)
    match a with
    | ⟨0, _⟩ => show 0 + r.val = r.val; omega
    | ⟨1, _⟩ => rfl
  · refine (Ideal.matmul_plain_apply (M := 256) (K := 2048) (N := 128) none (subf z z) v (constant (F := Ideal) S256x128 .f32 0x00000000#32) r e).trans ?_
    exact (congrArg (· + _) Ideal.ofBits_zero_f32).trans (zero_add _)
  · refine congrArg b (funext fun a => Fin.ext ?_)
    match a with
    | ⟨0, _⟩ => rfl
    | ⟨1, _⟩ => rfl

/-- The third result's block, of the block its first result holds. -/
theorem logits_eq (x0 x1 : FVec Ideal S256x1024 .f32) (x2 : FVec Ideal S256x2048 .f32) (x3 : FVec Ideal S2048x2048 .bf16) (x4 x5 : FVec Ideal S1x2048 .f32)
    (x6 : FVec Ideal S2048x256 .bf16) (x7 : FVec Ideal S1x128 .f32) :
    out0_10 (F := Ideal) x0 x1 x2 x3 x4 x5 x6 x7 = logitT (out0_8 (F := Ideal) x0 x1 x2 x3 x4 x5 x6 x7) x6 (View.ld (Val := Elt Ideal) (e' := .bf16) x6 r0_6) x7 := by
  unfold out0_10 out0_8
  rw [View.canon_unit_zero zeros, View.canon_unit_zero zeros, pay3_eq, View.ld_unit_zero zeros, View.ld_unit_zero zeros]

theorem index0_6 : ∀ t : Fin cfg0.N, win0_6.index t = ![0, 0] := (by decide +kernel : ∀ t : Fin grid0.N, win0_6.index t = ![0, 0])
theorem index0_7 : ∀ t : Fin cfg0.N, win0_7.index t = ![0, 0] := (by decide +kernel : ∀ t : Fin grid0.N, win0_7.index t = ![0, 0])
theorem index0_10 : ∀ t : Fin cfg0.N, win0_10.index t = ![t.val, 0] := (by decide +kernel : ∀ t : Fin grid0.N, win0_10.index t = ![t.val, 0])

variable (m : (ℓ : Loc nD τ sig) → Buf (Elt Ideal) ℓ)

abbrev emat (c : Dev nD) : SE.Idx → EReal := m ((c : Thread nD τ).loc main_arg6)
abbrev cvec (c : Dev nD) : SC.Idx → EReal := m ((c : Thread nD τ).loc main_arg7)

/-- The zero the host code pads with. -/
def fill : S_.Idx → EReal := sitofp (F := Ideal) .f32 (constantI S_ 32 0#32)

theorem fill_apply (i : S_.Idx) : fill i = 0 := by
  show (((0#32 : BitVec 32).toInt : ℝ) : EReal) = 0
  simp

/-- The weights and the offsets with zeros after them. -/
def wideT (E : SE.Idx → EReal) : S2048x128.Idx → EReal := pad S2048x128 ![0, 0] ![0, 96] ![0, 0] E fill pads_S2048x32_S2048x128_000_0960 h_S_
def longT (C : SC.Idx → EReal) : S128.Idx → EReal := pad S128 ![0] ![96] ![0] C fill pads_S32_S128_0960 h_S_

theorem wideT_apply (E : SE.Idx → EReal) (d : Fin 2048) (e : Fin 128) : wideT E (ix2 d e) = wide E d e :=
  pad_columns E fill (fill_apply _) pads_S2048x32_S2048x128_000_0960 h_S_ d e

theorem longT_apply (C : SC.Idx → EReal) (e : Fin 128) : longT C (ix1 e) = long C e :=
  pad_tail C fill (fill_apply _) pads_S32_S128_0960 h_S_ e

/-- The high parts of the weights beside their remainders. -/
def bothT (p : FVec Ideal S2048x128 .f32) : S2048x256.Idx → EReal :=
  concatenate S2048x256 1 [⟨S2048x128, p⟩, ⟨S2048x128, subf p p⟩] concatenates_S2048x128_S2048x128_S2048x256_d1

theorem both_left (p : FVec Ideal S2048x128 .f32) (d : Fin 2048) (e : Fin 128) : bothT p (ix2 d (⟨e.val, by omega⟩ : Fin 256)) = p (ix2 d e) :=
  concatenate_pair_apply_left (t := S2048x256) 1 p (subf p p) _ _ rfl (ix2 d e) fun b => by
    match b with
    | ⟨0, _⟩ => rfl
    | ⟨1, _⟩ => rfl

theorem both_right (p : FVec Ideal S2048x128 .f32) (d : Fin 2048) (e : Fin 128) : bothT p (ix2 d (⟨128 + e.val, by omega⟩ : Fin 256)) = p (ix2 d e) - p (ix2 d e) :=
  concatenate_pair_apply_right (t := S2048x256) 1 p (subf p p) _ _ rfl rfl (ix2 d e) (fun b hb => by
    match b with
    | ⟨0, _⟩ => rfl
    | ⟨1, _⟩ => exact absurd rfl hb) (by show e.val + 128 = 128 + e.val; omega)

theorem e_eq (c : Dev nD) : (V m c main_v7 : S2048x256.Idx → EReal) = bothT (wideT (emat m c)) := by
  unfold V
  after_reads_simp
  rfl

theorem c_eq (c : Dev nD) : (V m c main_v6 : S1x128.Idx → EReal) = shapeCast S1x128 (longT (cvec m c)) shapeCasts_S128_S1x128 := by
  unfold V
  after_reads_simp
  rfl

variable (c : Dev nD) (t : Fin cfg0.N)

theorem e_apply (d : Fin 2048) (e : Fin 256) : iblk m c 6 t (ix2 d e) = bothT (wideT (emat m c)) (ix2 d e) := by
  rw [← e_eq]
  refine congrArg (V m c main_v7 : S2048x256.Idx → EReal) (funext fun a => Fin.ext ?_)
  match a with
  | ⟨0, _⟩ => show win0_6.index t 0 * 2048 + 1 * d.val = d.val; rw [index0_6]; show 0 * 2048 + 1 * d.val = d.val; omega
  | ⟨1, _⟩ => show win0_6.index t 1 * 256 + 1 * e.val = e.val; rw [index0_6]; show 0 * 256 + 1 * e.val = e.val; omega

theorem c_apply (e : Fin 128) : iblk m c 7 t (ix2 0 e) = long (cvec m c) e := by
  have hl : shapeCast S1x128 (longT (cvec m c)) shapeCasts_S128_S1x128 (ix2 0 e) = long (cvec m c) e := by
    refine (shapeCast_apply (longT (cvec m c)) shapeCasts_S128_S1x128 (ix2 0 e) (ix1 e) ?_).trans (longT_apply _ e)
    rw [Shape.rowMajor_val_one, Shape.rowMajor_val_two]
    show e.val = 0 * 128 + e.val
    omega
  rw [← hl, ← c_eq]
  refine congrArg (V m c main_v6 : S1x128.Idx → EReal) (funext fun a => Fin.ext ?_)
  match a with
  | ⟨0, _⟩ => show win0_7.index t 0 * 1 + 1 * 0 = 0; rw [index0_7]; rfl
  | ⟨1, _⟩ => show win0_7.index t 1 * 128 + 1 * e.val = e.val; rw [index0_7]; show 0 * 128 + 1 * e.val = e.val; omega

/-- A block of the first result. -/
theorem row_block (r : Fin 256) (j : Fin 2048) (R : Fin 8448) (hr : R.val = t.val * 256 + r.val) :
    out0_8 (F := Ideal) (iblk m c 0 t) (iblk m c 1 t) (iblk m c 2 t) (iblk m c 3 t) (iblk m c 4 t) (iblk m c 5 t) (iblk m c 6 t) (iblk m c 7 t) (ix2 r j)
      = out (gmat m c) (smat m c) (xmat m c) (wmat m c) (avec m c) (bvec m c) R j := by
  have hb := congrFun ((blocks8 m c t (flush0_8 t)).trans (flushed8 m c t)) (ix2 r j)
  have he : ((cfg0.win 8).blk t).view.emb (ix2 r j) = ix2 R j := by
    funext a
    refine Fin.ext ?_
    match a with
    | ⟨0, _⟩ => show win0_8.index t 0 * 256 + 1 * r.val = R.val; rw [index0_8, hr, Nat.one_mul]; rfl
    | ⟨1, _⟩ => show win0_8.index t 1 * 2048 + 1 * j.val = j.val; rw [index0_8]; show 0 * 2048 + 1 * j.val = j.val; omega
  rw [← Cert.OutProjIdeal.Value.result_apply m c R j, ← he]
  exact hb.symm

omit t in
/-- The kernel's third result. -/
theorem result_apply (hx : ∀ R j, Tame (out (gmat m c) (smat m c) (xmat m c) (wmat m c) (avec m c) (bvec m c) R j)) (hw : ∀ i, Tame (emat m c i)) (R : Fin 8448) (e : Fin 128) :
    (dats m 0 c).arrAt 10 cfg0.N (ix2 R e) = logit (out (gmat m c) (smat m c) (xmat m c) (wmat m c) (avec m c) (bvec m c) R) (emat m c) (cvec m c) e := by
  have hR := R.isLt
  let t : Fin cfg0.N := ⟨R.val / 256, lt_of_lt_of_eq (by omega) N_0.symm⟩
  let r : Fin 256 := ⟨R.val % 256, by omega⟩
  have hr : R.val = t.val * 256 + r.val := by show R.val = R.val / 256 * 256 + R.val % 256; omega
  have hb := congrFun ((blocks10 m c t (flush0_10 t)).trans (flushed10 m c t)) (ix2 r e)
  have he : ((cfg0.win 10).blk t).view.emb (ix2 r e) = ix2 R e := by
    funext a
    refine Fin.ext ?_
    match a with
    | ⟨0, _⟩ => show win0_10.index t 0 * 256 + 1 * r.val = R.val; rw [index0_10, hr, Nat.one_mul]; rfl
    | ⟨1, _⟩ => show win0_10.index t 1 * 128 + 1 * e.val = e.val; rw [index0_10]; show 0 * 128 + 1 * e.val = e.val; omega
  rw [← he]
  refine hb.trans ((congrFun (logits_eq _ _ _ _ _ _ _ _) (ix2 r e)).trans ((logitT_apply _ _ _ _ r e).trans (Eq.trans ?_
    (split_logit (out (gmat m c) (smat m c) (xmat m c) (wmat m c) (avec m c) (bvec m c) R) (fun d => wide (emat m c) d e) (long (cvec m c) e) (hx R) fun d => wide_tame hw d e))))
  refine congrArg₂ (· + ·) (congrArg₂ (· + ·) (congrArg₂ (· + ·) (Finset.sum_congr rfl fun d _ => congrArg₂ (· * ·) (row_block m c t r d R hr) ?_)
    (Finset.sum_congr rfl fun d _ => congrArg₂ (· * ·) (row_block m c t r d R hr) ?_)) (Finset.sum_congr rfl fun d _ => congrArg₂ (· * ·) (congrArg₂ (· - ·) (row_block m c t r d R hr) (row_block m c t r d R hr)) ?_)) (c_apply m c t e)
  · exact (e_apply m c t d _).trans ((both_left _ d e).trans (wideT_apply _ d e))
  · exact (e_apply m c t d _).trans ((both_right _ d e).trans (congrArg₂ (· - ·) (wideT_apply _ d e) (wideT_apply _ d e)))
  · refine Eq.trans (congrArg (iblk m c 6 t) (funext fun a => Fin.ext ?_)) ((e_apply m c t d (⟨e.val, by omega⟩ : Fin 256)).trans ((both_left _ d e).trans (wideT_apply _ d e)))
    match a with
    | ⟨0, _⟩ => show 0 + 1 * d.val = d.val; omega
    | ⟨1, _⟩ => show 0 + 1 * e.val = e.val; omega

end Cert.OutProjIdeal.Router
end
-- ==== Proof.Router.Reference.lean ====
module

public import proofs.«01_k».proof.Proof.Router.Spec
public import proofs.«01_k».proof.Proof.OutProj.Reference
public import proofs.«01_k».proof.Proof.Gen.RouterRefIdeal.Read
public import proofs.«01_k».proof.Proof.Gen.Pre_finite_rows

@[expose] public section

set_option maxRecDepth 16384

noncomputable section

/-! The reference's logits, and what the precondition grants. -/

namespace Cert.RouterRefIdeal.Read

open Cert.RouterRefIdeal Cert.RouterRefIdeal.Gen Idealize.ShloMosaic Idealize.ShloMosaic.TcCoe Idealize.SL.Sem Cert.OutP Cert.RouterP
open scoped BigOperators

variable (G S : SO.Idx → EReal) (X : SX.Idx → EReal) (W : SW.Idx → EReal) (A B : SB.Idx → EReal) (E : SE.Idx → EReal) (C : SC.Idx → EReal)

theorem rows_apply (r : Fin 8448) (j : Fin 2048) : val_main_v28 (F := Ideal) G S X W A B (ix2 r j) = out G S X W A B r j :=
  (congrFun (rfl : val_main_v28 (F := Ideal) G S X W A B = Cert.OutProjRefIdeal.Read.val_main_v28 (F := Ideal) G S X W A B) (ix2 r j)).trans
    (Cert.OutProjRefIdeal.Read.result_apply G S X W A B r j)

theorem logits_apply (r : Fin 8448) (e : Fin 32) :
    val_main_v32 (F := Ideal) G S X W A B E C (ix2 r e) = (∑ d : Fin 2048, out G S X W A B r d * E (ix2 d e)) + C (ix1 e) := by
  rw [val_main_v32_apply, val_main_v29_apply, val_main_v31_apply, val_main_v30_apply]
  refine congrArg₂ (· + ·) (Finset.sum_congr rfl fun d _ => congrArg₂ (· * ·) (Eq.trans (congrArg _ (funext fun a => ?_)) (rows_apply G S X W A B r d)) (congrArg E (funext fun a => ?_))) (congrArg C (funext fun a => ?_))
  · match a with
    | ⟨0, _⟩ => rfl
    | ⟨1, _⟩ => rfl
  · match a with
    | ⟨0, _⟩ => rfl
    | ⟨1, _⟩ => rfl
  · match a with
    | ⟨0, _⟩ => rfl

theorem fill_apply (i : S_.Idx) : val_main_call0_v0 (F := Ideal) i = (0 : EReal) := by
  show (((0#32 : BitVec 32).toInt : ℝ) : EReal) = 0
  simp

theorem result_apply (r : Fin 8448) (e : Fin 128) : val_main_v33 (F := Ideal) G S X W A B E C (ix2 r e) = logit (out G S X W A B r) E C e := by
  refine (pad_columns (M := 8448) (val_main_v32 (F := Ideal) G S X W A B E C) (val_main_call0_v0 (F := Ideal)) (fill_apply _) pads_S8448x32_S8448x128_000_0960 h_S_ r e).trans ?_
  unfold logit wide long
  by_cases h : e.val < 32
  · simp only [dif_pos h]
    exact logits_apply G S X W A B E C r ⟨e.val, h⟩
  · simp only [dif_neg h, mul_zero, Finset.sum_const_zero, add_zero]

/-- The reference's result on arrays that agree with the kernel's. -/
theorem result_of_agree {G' S' : SO.Idx → EReal} {X' : SX.Idx → EReal} {W' : SW.Idx → EReal} {A' B' : SB.Idx → EReal} {E' : SE.Idx → EReal} {C' : SC.Idx → EReal}
    (h : G' = G ∧ S' = S ∧ X' = X ∧ W' = W ∧ A' = A ∧ B' = B ∧ E' = E ∧ C' = C) (r : Fin 8448) (e : Fin 128) :
    val_main_v33 (F := Ideal) G' S' X' W' A' B' E' C' (ix2 r e) = logit (out G S X W A B r) E C e := by
  obtain ⟨rfl, rfl, rfl, rfl, rfl, rfl, rfl, rfl⟩ := h
  exact result_apply _ _ _ _ _ _ _ _ r e

/-- The rows and the weights the precondition speaks of are tame. -/
theorem tame_rows (h : (Cert.Pre_finite_rows.fn (F := Ideal) G S X W A B E C).1 = fun _ => 1#1) (r : Fin 8448) (j : Fin 2048) : Tame (out G S X W A B r j) := by
  rw [← rows_apply]
  exact tame_of_size (congrFun h (ix2 r j))

theorem tame_weights (h : (Cert.Pre_finite_rows.fn (F := Ideal) G S X W A B E C).2 = fun _ => 1#1) (i : SE.Idx) : Tame (E i) :=
  tame_of_size (congrFun h i)

end Cert.RouterRefIdeal.Read
end
-- ==== Proof.Router.Claims.lean ====
module

public import proofs.«01_k».proof.Proof.Router.Array
public import proofs.«01_k».proof.Proof.Router.Reference
public import proofs.«01_k».proof.Proof.Gen.Router.Frame
public import proofs.«01_k».proof.Proof.Gen.RouterIdeal.Frame
public import proofs.«01_k».proof.Proof.Gen.RouterRefIdeal.Run
public import proofs.«01_k».proof.Defs

@[expose] public section

set_option maxRecDepth 16384

noncomputable section

/-! The claims about the router's logits. -/

namespace Cert.Proof.Router

open Idealize.ShloMosaic Idealize.SL.Sem Cert.OutP Cert.RouterP Idealize.ShloMosaic.TcCoe
open Cert.OutProjIdeal.Value (gmat smat xmat wmat avec bvec)
open Cert.OutProjIdeal.Router (emat cvec)

theorem frame_p : Cert.quiescent_Router := fun m ρ _ => Cert.Router.Gen.frame m ρ
theorem frame_pi : Cert.quiescent_RouterIdeal := fun m ρ _ => Cert.RouterIdeal.Gen.frame m ρ
theorem frame_pi_finite : Cert.quiescent_RouterIdeal_pre_finite_rows := fun m ρ _ => Cert.RouterIdeal.Gen.frame m ρ
theorem frame_ri : Cert.quiescent_RouterRefIdeal := fun m ρ _ =>
  (θ_run Cert.RouterRefIdeal.defs _ _).mono (fun r h => ⟨fun c => (h c).2, Idealize.ShloMosaic.sem_eq_zero_of_no_sems (by decide) r.2⟩)
    (Cert.RouterRefIdeal.Value.run (F := Ideal) m ρ)
theorem frame_ri_finite : Cert.quiescent_RouterRefIdeal_pre_finite_rows := fun m ρ _ => frame_ri m ρ trivial

theorem preserves : Cert.preserves_Router_RouterIdeal := trivial

/-- The kernels of the first result's program and of the third's are the same. -/
theorem same_kernels : Cert.RouterIdeal.defs₀ (F := Ideal) = Cert.OutProjIdeal.defs₀ (F := Ideal) := by
  unfold Cert.RouterIdeal.defs₀ Cert.OutProjIdeal.defs₀
  refine congrArg (Defs.onTc (nD := Cert.RouterIdeal.nD) (τ := Cert.RouterIdeal.τ)) ?_
  funext k s
  match k, s with
  | 0, (t, s) => rfl

theorem same_table : Cert.RouterIdeal.defs (F := Ideal) = Cert.OutProjIdeal.defs (F := Ideal) := congrArg (Pipeline.defs (Cert.OutProjIdeal.pcfgs (F := Ideal))) same_kernels

/-- A run of the first result's program is a run of the third's. -/
theorem same_run {s : MemSt Cert.OutProjIdeal.nD Cert.OutProjIdeal.τ Cert.OutProjIdeal.sig (Elt Ideal)} {Q : PUnit × MemSt Cert.OutProjIdeal.nD Cert.OutProjIdeal.τ Cert.OutProjIdeal.sig (Elt Ideal) → Prop}
    (h : θ_run (Cert.OutProjIdeal.defs (F := Ideal)) (onTc (τ := Cert.OutProjIdeal.τ) (Cert.OutProjIdeal.main (F := Ideal))) s Q) :
    θ_run (Cert.RouterIdeal.defs (F := Ideal)) (onTc (τ := Cert.RouterIdeal.τ) (Cert.RouterIdeal.main (F := Ideal))) s Q :=
  (congrArg (fun D => θ_run D (onTc (τ := Cert.OutProjIdeal.τ) (Cert.OutProjIdeal.main (F := Ideal))) s Q) same_table).mpr h

/-- The kernel's third result and the reference's agree everywhere. -/
theorem algebraic : Cert.algebraic_RouterIdeal_RouterRefIdeal_pre_finite_rows := by
  intro m ρ m' ρ' hpre hagree
  refine ⟨fun c i => logit (out (gmat m c) (smat m c) (xmat m c) (wmat m c) (avec m c) (bvec m c) (i 0)) (emat m c) (cvec m c) (i 1),
    same_run ((θ_run Cert.OutProjIdeal.defs _ _).mono (fun r h c => ⟨(h c).2.2.1.trans (funext fun i => ?_), (h c).2.2.2⟩) (Cert.OutProjIdeal.Value.run_blocks (F := Ideal) m ρ)),
    (θ_run Cert.RouterRefIdeal.defs _ _).mono (fun r h c => ⟨(h c).1.trans (funext fun i => ?_), (h c).2⟩) (Cert.RouterRefIdeal.Value.run (F := Ideal) m' ρ')⟩
  · obtain ⟨R, K, rfl⟩ : ∃ (R : Fin 8448) (K : Fin 128), i = ix2 R K := ⟨i 0, i 1, by funext a; match a with | ⟨0, _⟩ => rfl | ⟨1, _⟩ => rfl⟩
    exact Cert.OutProjIdeal.Router.result_apply m c (fun R j => Cert.RouterRefIdeal.Read.tame_rows _ _ _ _ _ _ _ _ (hpre c).1 R j)
      (fun i => Cert.RouterRefIdeal.Read.tame_weights _ _ _ _ _ _ _ _ (hpre c).2 i) R K
  · obtain ⟨R, K, rfl⟩ : ∃ (R : Fin 8448) (K : Fin 128), i = ix2 R K := ⟨i 0, i 1, by funext a; match a with | ⟨0, _⟩ => rfl | ⟨1, _⟩ => rfl⟩
    exact (congrFun (Cert.RouterRefIdeal.Read.val_main_v33_eq m' c) (ix2 R K)).trans (Cert.RouterRefIdeal.Read.result_of_agree (gmat m c) (smat m c) (xmat m c) (wmat m c) (avec m c) (bvec m c) (emat m c) (cvec m c) (hagree c) R K)

end Cert.Proof.Router
end
-- ==== Proof.RowsCopy.Array.lean ====
module

public import proofs.«01_k».proof.Proof.Router.Array

@[expose] public section

set_option maxRecDepth 16384

noncomputable section

/-! The kernel's second result: in the rows it writes, the rows of its first. -/

namespace Cert.OutProjIdeal.RowsCopy

open Cert.OutProjIdeal Cert.OutProjIdeal.Gen Cert.OutProjIdeal.Value Idealize.ShloMosaic Idealize.ShloMosaic.TcCoe Idealize.SL.Sem Cert.OutP

/-- The two results' blocks hold the same numbers. -/
theorem copy_eq (x0 x1 : FVec Ideal S256x1024 .f32) (x2 : FVec Ideal S256x2048 .f32) (x3 : FVec Ideal S2048x2048 .bf16) (x4 x5 : FVec Ideal S1x2048 .f32)
    (x6 : FVec Ideal S2048x256 .bf16) (x7 : FVec Ideal S1x128 .f32) (i : S256x2048.Idx) :
    (out0_9 (F := Ideal) x0 x1 x2 x3 x4 x5 x6 x7 i : EReal) = out0_8 (F := Ideal) x0 x1 x2 x3 x4 x5 x6 x7 i := by
  unfold out0_9 out0_8
  rw [View.canon_unit_zero zeros, View.canon_unit_zero zeros]
  rfl

theorem index0_9 : ∀ t : Fin cfg0.N, win0_9.index t = ![t.val, 0] := (by decide +kernel : ∀ t : Fin grid0.N, win0_9.index t = ![t.val, 0])

variable (m : (ℓ : Loc nD τ sig) → Buf (Elt Ideal) ℓ) (c : Dev nD)

/-- The kernel's second result, in the rows it writes. -/
theorem result_apply (R : Fin 8448) (j : Fin 2048) :
    (dats m 0 c).arrAt 9 cfg0.N (ix2 (⟨R.val, by omega⟩ : Fin 16896) j) = out (gmat m c) (smat m c) (xmat m c) (wmat m c) (avec m c) (bvec m c) R j := by
  have hR := R.isLt
  let t : Fin cfg0.N := ⟨R.val / 256, lt_of_lt_of_eq (by omega) N_0.symm⟩
  let r : Fin 256 := ⟨R.val % 256, by omega⟩
  have hr : R.val = t.val * 256 + r.val := by show R.val = R.val / 256 * 256 + R.val % 256; omega
  have hb := congrFun ((blocks9 m c t (flush0_9 t)).trans (flushed9 m c t)) (ix2 r j)
  have he : ((cfg0.win 9).blk t).view.emb (ix2 r j) = ix2 (⟨R.val, by omega⟩ : Fin 16896) j := by
    funext a
    refine Fin.ext ?_
    match a with
    | ⟨0, _⟩ => show win0_9.index t 0 * 256 + 1 * r.val = R.val; rw [index0_9, hr, Nat.one_mul]; rfl
    | ⟨1, _⟩ => show win0_9.index t 1 * 2048 + 1 * j.val = j.val; rw [index0_9]; show 0 * 2048 + 1 * j.val = j.val; omega
  rw [← he]
  exact hb.trans ((copy_eq _ _ _ _ _ _ _ _ (ix2 r j)).trans (Cert.OutProjIdeal.Router.row_block m c t r j R hr))

end Cert.OutProjIdeal.RowsCopy
end
-- ==== Proof.RowsCopy.Reference.lean ====
module

public import proofs.«01_k».proof.Proof.OutProj.Reference
public import proofs.«01_k».proof.Proof.Gen.RowsCopyRefIdeal.Read
public import proofs.«01_k».proof.Proof.Gen.On_written_rows
public import Idealize.ShloMosaic.Lib.KernelVsHost
public import Idealize.ShloMosaic.Lib.WordCmp

@[expose] public section

set_option maxRecDepth 16384

noncomputable section

/-! The reference's rows, and the rows the mask keeps. -/

namespace Cert.RowsCopyRefIdeal.Read

open Cert.RowsCopyRefIdeal Cert.RowsCopyRefIdeal.Gen Idealize.ShloMosaic Idealize.ShloMosaic.TcCoe Idealize.SL.Sem Cert.OutP

variable (G S : SO.Idx → EReal) (X : SX.Idx → EReal) (W : SW.Idx → EReal) (A B : SB.Idx → EReal)

theorem rows_apply (r : Fin 8448) (j : Fin 2048) : val_main_v29 (F := Ideal) G S X W A B (ix2 r j) = out G S X W A B r j :=
  (congrFun (rfl : val_main_v29 (F := Ideal) G S X W A B = Cert.OutProjRefIdeal.Read.val_main_v28 (F := Ideal) G S X W A B) (ix2 r j)).trans
    (Cert.OutProjRefIdeal.Read.result_apply G S X W A B r j)

theorem result_apply (r : Fin 8448) (j : Fin 2048) : val_main_v30 (F := Ideal) G S X W A B (ix2 (⟨r.val, by omega⟩ : Fin 16896) j) = out G S X W A B r j := by
  refine (pad_apply_of_inside _ _ _ (val_main_v29 (F := Ideal) G S X W A B) (val_main_call0_v0 (F := Ideal)) pads_S8448x2048_S16896x2048_084480_000 h_S_ _ (ix2 r j) fun a => ?_).trans (rows_apply G S X W A B r j)
  match a with
  | ⟨0, _⟩ => show r.val = 0 + r.val * (0 + 1); omega
  | ⟨1, _⟩ => show j.val = 0 + j.val * (0 + 1); omega

/-- The reference's result on arrays that agree with the kernel's. -/
theorem result_of_agree {G' S' : SO.Idx → EReal} {X' : SX.Idx → EReal} {W' : SW.Idx → EReal} {A' B' : SB.Idx → EReal}
    (hG : G' = G) (hS : S' = S) (hX : X' = X) (hW : W' = W) (hA : A' = A) (hB : B' = B) (r : Fin 8448) (j : Fin 2048) :
    val_main_v30 (F := Ideal) G' S' X' W' A' B' (ix2 (⟨r.val, by omega⟩ : Fin 16896) j) = out G S X W A B r j := by
  subst hG hS hX hW hA hB
  exact result_apply _ _ _ _ _ _ r j

/-- Rows with zeros after them. -/
def filled (f : Fin 8448 → Fin 2048 → EReal) (R : Fin 16896) (j : Fin 2048) : EReal := if h : R.val < 8448 then f ⟨R.val, h⟩ j else 0

theorem filled_of_lt (f : Fin 8448 → Fin 2048 → EReal) (R : Fin 16896) (j : Fin 2048) (h : R.val < 8448) : filled f R j = f ⟨R.val, h⟩ j := dif_pos h

/-- The mask keeps the first 8448 rows. -/
theorem kept_lt (E : (⟨2, ![2048, 32]⟩ : Shape).Idx → EReal) (C : (⟨1, ![32]⟩ : Shape).Idx → EReal) (R : Fin 16896) (j : Fin 2048)
    (h : Cert.On_written_rows.fn (F := Ideal) G S X W A B E C (ix2 R j) = 1#1) : R.val < 8448 := by
  have e : IntOp.cmpi .slt (BitVec.ofNat 32 R.val) (BitVec.ofNat 32 8448) = 1#1 := h
  rw [WordCmp.cmpi_slt_ofNat (w := 32) (by omega) (by omega)] at e
  by_contra hn
  rw [decide_eq_false hn] at e
  exact absurd e (by decide)

end Cert.RowsCopyRefIdeal.Read
end
-- ==== Proof.RowsCopy.Claims.lean ====
module

public import proofs.«01_k».proof.Proof.RowsCopy.Array
public import proofs.«01_k».proof.Proof.RowsCopy.Reference
public import proofs.«01_k».proof.Proof.Gen.RowsCopy.Frame
public import proofs.«01_k».proof.Proof.Gen.RowsCopyIdeal.Frame
public import proofs.«01_k».proof.Proof.Gen.RowsCopyRefIdeal.Run
public import proofs.«01_k».proof.Defs

@[expose] public section

set_option maxRecDepth 16384

noncomputable section

/-! The claims about the copy of the normalized rows. -/

namespace Cert.Proof.RowsCopy

open Idealize.ShloMosaic Idealize.SL.Sem Cert.OutP Idealize.ShloMosaic.TcCoe
open Cert.OutProjIdeal.Value (gmat smat xmat wmat avec bvec)

theorem frame_p : Cert.quiescent_RowsCopy := fun m ρ _ => Cert.RowsCopy.Gen.frame m ρ
theorem frame_pi : Cert.quiescent_RowsCopyIdeal := fun m ρ _ => Cert.RowsCopyIdeal.Gen.frame m ρ
theorem frame_ri : Cert.quiescent_RowsCopyRefIdeal := fun m ρ _ =>
  (θ_run Cert.RowsCopyRefIdeal.defs _ _).mono (fun r h => ⟨fun c => (h c).2, Idealize.ShloMosaic.sem_eq_zero_of_no_sems (by decide) r.2⟩)
    (Cert.RowsCopyRefIdeal.Value.run (F := Ideal) m ρ)

theorem preserves : Cert.preserves_RowsCopy_RowsCopyIdeal := trivial

/-- The kernels of the first result's program and of the second's are the same. -/
theorem same_kernels : Cert.RowsCopyIdeal.defs₀ (F := Ideal) = Cert.OutProjIdeal.defs₀ (F := Ideal) := by
  unfold Cert.RowsCopyIdeal.defs₀ Cert.OutProjIdeal.defs₀
  refine congrArg (Defs.onTc (nD := Cert.RowsCopyIdeal.nD) (τ := Cert.RowsCopyIdeal.τ)) ?_
  funext k s
  match k, s with
  | 0, (t, s) => rfl

theorem same_table : Cert.RowsCopyIdeal.defs (F := Ideal) = Cert.OutProjIdeal.defs (F := Ideal) := congrArg (Pipeline.defs (Cert.OutProjIdeal.pcfgs (F := Ideal))) same_kernels

/-- A run of the first result's program is a run of the second's. -/
theorem same_run {s : MemSt Cert.OutProjIdeal.nD Cert.OutProjIdeal.τ Cert.OutProjIdeal.sig (Elt Ideal)} {Q : PUnit × MemSt Cert.OutProjIdeal.nD Cert.OutProjIdeal.τ Cert.OutProjIdeal.sig (Elt Ideal) → Prop}
    (h : θ_run (Cert.OutProjIdeal.defs (F := Ideal)) (onTc (τ := Cert.OutProjIdeal.τ) (Cert.OutProjIdeal.main (F := Ideal))) s Q) :
    θ_run (Cert.RowsCopyIdeal.defs (F := Ideal)) (onTc (τ := Cert.RowsCopyIdeal.τ) (Cert.RowsCopyIdeal.main (F := Ideal))) s Q :=
  (congrArg (fun D => θ_run D (onTc (τ := Cert.OutProjIdeal.τ) (Cert.OutProjIdeal.main (F := Ideal))) s Q) same_table).mpr h

/-- The kernel's second result and the reference's agree in the rows the kernel writes. -/
theorem algebraic : Cert.algebraic_RowsCopyIdeal_RowsCopyRefIdeal_on_written_rows := by
  intro m ρ m' ρ' hpre hagree
  refine ⟨fun c i => Cert.RowsCopyRefIdeal.Read.filled (out (gmat m c) (smat m c) (xmat m c) (wmat m c) (avec m c) (bvec m c)) (i 0) (i 1),
    same_run ((θ_run Cert.OutProjIdeal.defs _ _).mono (fun r h c => ⟨fun i hi => (congrFun (h c).2.1 i).trans ?_, (h c).2.2.2⟩) (Cert.OutProjIdeal.Value.run_blocks (F := Ideal) m ρ)),
    (θ_run Cert.RowsCopyRefIdeal.defs _ _).mono (fun r h c => ⟨fun i hi => (congrFun (h c).1 i).trans ?_, (h c).2⟩) (Cert.RowsCopyRefIdeal.Value.run (F := Ideal) m' ρ')⟩
  · obtain ⟨R, K, rfl⟩ : ∃ (R : Fin 16896) (K : Fin 2048), i = ix2 R K := ⟨i 0, i 1, by funext a; match a with | ⟨0, _⟩ => rfl | ⟨1, _⟩ => rfl⟩
    have hR : R.val < 8448 := Cert.RowsCopyRefIdeal.Read.kept_lt _ _ _ _ _ _ _ _ R K hi
    exact (Cert.OutProjIdeal.RowsCopy.result_apply m c ⟨R.val, hR⟩ K).trans (Cert.RowsCopyRefIdeal.Read.filled_of_lt _ R K hR).symm
  · obtain ⟨R, K, rfl⟩ : ∃ (R : Fin 16896) (K : Fin 2048), i = ix2 R K := ⟨i 0, i 1, by funext a; match a with | ⟨0, _⟩ => rfl | ⟨1, _⟩ => rfl⟩
    have hR : R.val < 8448 := Cert.RowsCopyRefIdeal.Read.kept_lt _ _ _ _ _ _ _ _ R K hi
    refine (congrFun (Cert.RowsCopyRefIdeal.Read.val_main_v30_eq m' c) (ix2 R K)).trans (Eq.trans ?_ (Cert.RowsCopyRefIdeal.Read.filled_of_lt _ R K hR).symm)
    exact Cert.RowsCopyRefIdeal.Read.result_of_agree (gmat m c) (smat m c) (xmat m c) (wmat m c) (avec m c) (bvec m c) (hagree c).1 (hagree c).2.1 (hagree c).2.2.1 (hagree c).2.2.2.1
      (hagree c).2.2.2.2.1 (hagree c).2.2.2.2.2.1 ⟨R.val, hR⟩ K

end Cert.Proof.RowsCopy
end
-- ==== Proof.Attention.Body.lean ====
module

public import proofs.«01_k».proof.Proof.Gen.AttentionIdeal.Value
public import Idealize.ShloMosaic.Lib.Tactic

@[expose] public section

set_option maxRecDepth 16384

noncomputable section

namespace Cert.AttentionIdeal.Value

open Cert.AttentionIdeal Cert.AttentionIdeal.Gen Idealize.ShloMosaic Idealize.ShloMosaic.TcCoe Idealize.SL.Sem

variable {F : FTy → Type} [FloatOps F]

/-- What the loop carries: for each of the two heads its running sum and its output rows. -/
abbrev Carry (F : FTy → Type) [FloatOps F] := FVec F S256x1 .f32 × FVec F S256x128 .f32 × FVec F S256x1 .f32 × FVec F S256x128 .f32

/-- The 256 rows of a key or value array that start at `off`. -/
abbrev rows (K : Vec F S4096x256 .bf16) (off : Fin 2 → Nat) (h : ∀ a, off a + S256x128.size a ≤ S4096x256.size a) : Vec F S256x128 .bf16 :=
  View.ld K (Rect.unit (s := S4096x256) off S256x128.size h)

/-- One trip of the loop over key tiles, as a function of the key and value arrays. -/
def tripV (i : grid0.Coords) (v6 v10 : FVec F S256x128 .bf16) (v17 : FVec F S256x256 .bf16) (K V : Vec F S4096x256 .bf16)
    (k : Fin (k0_t1_loop i).trips) (acc : Carry F) : Carry F :=
  (k0_pay11 v6 v17 acc.1 (rows K (k0_off3 i k) (k0_off3_inb i k)),
   k0_pay12 v6 v17 acc.1 acc.2.1 (rows K (k0_off3 i k) (k0_off3_inb i k)) (rows V (k0_off3 i k) (k0_off3_inb i k)),
   k0_pay4 v17 acc.2.2.1 (k0_pay14 v10 (rows K (k0_off4 i k) (k0_off4_inb i k))) (k0_pay15 v10 (rows K (k0_off4 i k) (k0_off4_inb i k))),
   k0_pay5 v17 acc.2.2.1 acc.2.2.2 (k0_pay13 v10 (rows K (k0_off4 i k) (k0_off4_inb i k))) (k0_pay14 v10 (rows K (k0_off4 i k) (k0_off4_inb i k)))
     (k0_pay15 v10 (rows K (k0_off4 i k) (k0_off4_inb i k))) (rows V (k0_off4 i k) (k0_off4_inb i k)))

/-- The trip the run found is that function of what the two scratch arrays hold. -/
theorem tripR_eq (𝒱 : Variants) (c : Dev nD) (bd : Option 𝒱.V) (i : grid0.Coords) (a3 : Memref sig .tc .vmem S256x256 .f32) (h3 : a3.IsWhole) (a4 : Memref sig .tc .vmem S4096x256 .f32) (h4 : a4.IsWhole) (a5 : Memref sig .tc .vmem S4096x256 .f32) (h5 : a5.IsWhole) (a6 : Memref sig .tc .vmem S256x256 .f32) (h6 : a6.IsWhole) (a7 : Memref sig .tc .vmem S4096x256 .bf16) (h7 : a7.IsWhole) (a8 : Memref sig .tc .vmem S4096x256 .bf16) (h8 : a8.IsWhole)
    (v2 : BitVec 32) (v6 v10 : FVec F S256x128 .bf16) (v17 : FVec F S256x256 .bf16) (X7 : BufTy.Contents (Elt F) a7.view.ty) (X8 : BufTy.Contents (Elt F) a8.view.ty)
    (k : Fin (k0_t1_loop i).trips) (acc : Carry F) :
    tripR_k0_t1 (F := F) 𝒱 c bd i a3 h3 a4 h4 a5 h5 a6 h6 a7 h7 a8 h8 v2 v6 v10 v17 X7 X8 k acc
      = tripV i v6 v10 v17 (View.read (Elt F) a7.view X7) (View.read (Elt F) a8.view X8) k acc := by
  unfold tripR_k0_t1 trip_k0_t1 tripV
  dsimp only
  sl_unfold_words
  simp only [View.readAt_eq_ld]

/-- The state before each trip. -/
def stV (i : grid0.Coords) (v6 v10 : FVec F S256x128 .bf16) (v17 : FVec F S256x256 .bf16) (K V : Vec F S4096x256 .bf16) (init : Carry F) : ℕ → Carry F
  | 0 => init
  | k + 1 => if h : k < (k0_t1_loop i).trips then tripV i v6 v10 v17 K V ⟨k, h⟩ (stV i v6 v10 v17 K V init k) else stV i v6 v10 v17 K V init k

theorem st_eq (𝒱 : Variants) (c : Dev nD) (bd : Option 𝒱.V) (i : grid0.Coords) (a3 : Memref sig .tc .vmem S256x256 .f32) (h3 : a3.IsWhole) (a4 : Memref sig .tc .vmem S4096x256 .f32) (h4 : a4.IsWhole) (a5 : Memref sig .tc .vmem S4096x256 .f32) (h5 : a5.IsWhole) (a6 : Memref sig .tc .vmem S256x256 .f32) (h6 : a6.IsWhole) (a7 : Memref sig .tc .vmem S4096x256 .bf16) (h7 : a7.IsWhole) (a8 : Memref sig .tc .vmem S4096x256 .bf16) (h8 : a8.IsWhole)
    (v2 : BitVec 32) (v6 v10 : FVec F S256x128 .bf16) (v17 : FVec F S256x256 .bf16) (X7 : BufTy.Contents (Elt F) a7.view.ty) (X8 : BufTy.Contents (Elt F) a8.view.ty)
    (init : Carry F) (n : ℕ) (hn : n ≤ (k0_t1_loop i).trips) :
    st_k0_t1 (F := F) 𝒱 c bd i a3 h3 a4 h4 a5 h5 a6 h6 a7 h7 a8 h8 v2 v6 v10 v17 X7 X8 init n
      = stV i v6 v10 v17 (View.read (Elt F) a7.view X7) (View.read (Elt F) a8.view X8) init n := by
  induction n with
  | zero => rfl
  | succ n ih =>
    have hlt : n < (k0_t1_loop i).trips := hn
    rw [st_k0_t1_succ (F := F) 𝒱 c bd i a3 h3 a4 h4 a5 h5 a6 h6 a7 h7 a8 h8 v2 v6 v10 v17 X7 X8 init ⟨n, hlt⟩, tripR_eq, ih (Nat.le_of_lt hlt), stV, dif_pos hlt]

/-- No trip is left over after the first loop. -/
theorem trips2 : ∀ i : grid0.Coords, (k0_t2_loop i).trips = 0 := by decide +kernel

/-- As many trips as there are key tiles before the diagonal one. -/
theorem trips1 : ∀ i : grid0.Coords, (k0_t1_loop i).trips = (i 2).val := by decide +kernel

/-- The state after the diagonal tile, from which the loop over the earlier tiles starts. -/
def diag (i : grid0.Coords) (q : Vec F S256x256 .f32) (K V : Vec F S4096x256 .bf16) : Carry F :=
  let q0 : Vec F S256x128 .f32 := View.ld q (Rect.unit (s := S256x256) ![0, 0] S256x128.size inb_S256x256_S256x128_0_0)
  let q1 : Vec F S256x128 .f32 := View.ld q (Rect.unit (s := S256x256) ![0, 128] S256x128.size inb_S256x256_S256x128_0_128)
  let k0 := rows K (k0_off1 i) (k0_off1_inb i)
  let k1 := rows K (k0_off2 i) (k0_off2_inb i)
  (k0_pay34 k0_pay27 k0_pay28 k0_pay30 (k0_pay32 q0 k0),
   k0_pay35 k0_pay27 k0_pay28 k0_pay29 k0_pay30 (k0_pay31 q0 k0) (k0_pay32 q0 k0) (rows V (k0_off1 i) (k0_off1_inb i)),
   k0_pay1 k0_pay28 (k0_pay37 (k0_pay26 q1) k0_pay27 k0_pay30 k1),
   k0_pay2 k0_pay29 k0_pay30 (k0_pay36 (k0_pay26 q1) k1) (k0_pay38 (k0_pay26 q1) k0_pay27 k0_pay28 k0_pay30 k1) (rows V (k0_off2 i) (k0_off2_inb i)))

/-- The state after every tile. -/
def final (i : grid0.Coords) (q : Vec F S256x256 .f32) (K V : Vec F S4096x256 .bf16) : Carry F :=
  stV i (k0_pay25 (View.ld q (Rect.unit (s := S256x256) ![0, 0] S256x128.size inb_S256x256_S256x128_0_0)))
    (k0_pay26 (View.ld q (Rect.unit (s := S256x256) ![0, 128] S256x128.size inb_S256x256_S256x128_0_128))) k0_pay27 K V
    (diag i q K V) (k0_t1_loop i).trips

/-- The block a grid point leaves: the two heads' rows side by side. -/
def blockV (i : grid0.Coords) (q : Vec F S256x256 .f32) (K V : Vec F S4096x256 .bf16) : Vec F S256x256 .f32 :=
  View.canon [⟨Rect.unit (s := S256x256) ![0, 128] S256x128.size inb_S256x256_S256x128_0_128, (final i q K V).2.2.2⟩,
    ⟨Rect.unit (s := S256x256) ![0, 0] S256x128.size inb_S256x256_S256x128_0_0, (final i q K V).2.1⟩]

theorem zeros : (![0, 0] : Fin 2 → Nat) = fun _ => 0 := by
  funext a
  match a with
  | ⟨0, _⟩ => rfl
  | ⟨1, _⟩ => rfl

/-- A scratch array read after one store over all of it holds what was stored. -/
theorem read_whole (a : Memref sig .tc .vmem S4096x256 .bf16) (w : Vec F S4096x256 .bf16) :
    View.read (Elt F) a.view (a.view.writes (Elt F) a.view.junk [⟨Rect.unit ![0, 0] S4096x256.size inb_S4096x256_S4096x256_0_0, w⟩]) = w := by
  rw [View.read_writes_eq_canon _ _ _ fun y => ⟨_, List.mem_singleton_self _, View.mem_set_unit_zero zeros inb_S4096x256_S4096x256_0_0 y⟩,
    View.canon_unit_zero zeros]

theorem soutA0_eq (c : Dev nD) (i : grid0.Coords) (a3 : Memref sig .tc .vmem S256x256 .f32) (h3 : a3.IsWhole) (a4 : Memref sig .tc .vmem S4096x256 .f32) (h4 : a4.IsWhole) (a5 : Memref sig .tc .vmem S4096x256 .f32) (h5 : a5.IsWhole) (a6 : Memref sig .tc .vmem S256x256 .f32) (h6 : a6.IsWhole) (a7 : Memref sig .tc .vmem S4096x256 .bf16) (h7 : a7.IsWhole) (a8 : Memref sig .tc .vmem S4096x256 .bf16) (h8 : a8.IsWhole) (hc0 : cond0_0 i)
    (x0 : Vec F S256x256 .f32) (x1 : Vec F S4096x256 .f32) (x2 : Vec F S4096x256 .f32) :
    sout0_A_0 c i a3 h3 a4 h4 a5 h5 a6 h6 a7 h7 a8 h8 hc0 x0 x1 x2 = k0_pay23 x1 := by
  unfold sout0_A_0
  rw [View.read_writes_eq_canon _ _ _ (scover0_A_0 c i a3 h3 a4 h4 a5 h5 a6 h6 a7 h7 a8 h8 hc0 x0 x1 x2)]
  unfold kernelRun0_A
  dsimp only
  sl_unfold_words
  simp only [View.readAt_eq_ld, h3.read_unread, h4.read_unread, h5.read_unread]
  rw [View.canon_unit_zero zeros, View.ld_unit_zero zeros]

theorem soutA1_eq (c : Dev nD) (i : grid0.Coords) (a3 : Memref sig .tc .vmem S256x256 .f32) (h3 : a3.IsWhole) (a4 : Memref sig .tc .vmem S4096x256 .f32) (h4 : a4.IsWhole) (a5 : Memref sig .tc .vmem S4096x256 .f32) (h5 : a5.IsWhole) (a6 : Memref sig .tc .vmem S256x256 .f32) (h6 : a6.IsWhole) (a7 : Memref sig .tc .vmem S4096x256 .bf16) (h7 : a7.IsWhole) (a8 : Memref sig .tc .vmem S4096x256 .bf16) (h8 : a8.IsWhole) (hc0 : cond0_0 i)
    (x0 : Vec F S256x256 .f32) (x1 : Vec F S4096x256 .f32) (x2 : Vec F S4096x256 .f32) :
    sout0_A_1 c i a3 h3 a4 h4 a5 h5 a6 h6 a7 h7 a8 h8 hc0 x0 x1 x2 = k0_pay24 x2 := by
  unfold sout0_A_1
  rw [View.read_writes_eq_canon _ _ _ (scover0_A_1 c i a3 h3 a4 h4 a5 h5 a6 h6 a7 h7 a8 h8 hc0 x0 x1 x2)]
  unfold kernelRun0_A
  dsimp only
  sl_unfold_words
  simp only [View.readAt_eq_ld, h3.read_unread, h4.read_unread, h5.read_unread]
  rw [View.canon_unit_zero zeros, View.ld_unit_zero zeros]

theorem outB_eq (c : Dev nD) (i : grid0.Coords) (a3 : Memref sig .tc .vmem S256x256 .f32) (h3 : a3.IsWhole) (a4 : Memref sig .tc .vmem S4096x256 .f32) (h4 : a4.IsWhole) (a5 : Memref sig .tc .vmem S4096x256 .f32) (h5 : a5.IsWhole) (a6 : Memref sig .tc .vmem S256x256 .f32) (h6 : a6.IsWhole) (a7 : Memref sig .tc .vmem S4096x256 .bf16) (h7 : a7.IsWhole) (a8 : Memref sig .tc .vmem S4096x256 .bf16) (h8 : a8.IsWhole) (hc0 : ¬cond0_0 i)
    (x0 : Vec F S256x256 .f32) (x1 : Vec F S4096x256 .f32) (x2 : Vec F S4096x256 .f32) (xs0 xs1 : Vec F S4096x256 .bf16) :
    out0_B_3 c i a3 h3 a4 h4 a5 h5 a6 h6 a7 h7 a8 h8 hc0 x0 x1 x2 xs0 xs1 = blockV i x0 xs0 xs1 := by
  unfold out0_B_3
  rw [View.read_writes_eq_canon _ _ _ (cover0_B_3 c i a3 h3 a4 h4 a5 h5 a6 h6 a7 h7 a8 h8 hc0 x0 x1 x2 xs0 xs1)]
  unfold kernelRun0_B
  dsimp only
  sl_unfold_words
  simp only [View.readAt_eq_ld, h3.read_unread, h4.read_unread, h5.read_unread, h7.read_unread, h8.read_unread]
  have e2 : ∀ v6 v10 v17 X7 X8 v99 init, st_k0_t2 (F := F) Variants.none c none i a3 h3 a4 h4 a5 h5 a6 h6 a7 h7 a8 h8 (BitVec.ofNat 32 (i 2).val) v6 v10 v17 v99 X7 X8 init
      (k0_t2_loop i).trips = init := fun v6 v10 v17 X7 X8 v99 init => by rw [trips2 i]; rfl
  have e1 : ∀ v6 v10 v17 X7 X8 init, st_k0_t1 (F := F) Variants.none c none i a3 h3 a4 h4 a5 h5 a6 h6 a7 h7 a8 h8 (BitVec.ofNat 32 (i 2).val) v6 v10 v17 X7 X8 init
      (k0_t1_loop i).trips = stV i v6 v10 v17 (View.read (Elt F) a7.view X7) (View.read (Elt F) a8.view X8) init (k0_t1_loop i).trips :=
    fun v6 v10 v17 X7 X8 init => st_eq _ _ _ _ _ _ _ _ _ _ _ _ _ _ _ _ _ _ _ _ _ _ _ _ (le_refl _)
  unfold blockV final

  erw [e2]
  erw [e1]
  rw [h7.read_unread, h8.read_unread]
  rfl

theorem outA_eq (c : Dev nD) (i : grid0.Coords) (a3 : Memref sig .tc .vmem S256x256 .f32) (h3 : a3.IsWhole) (a4 : Memref sig .tc .vmem S4096x256 .f32) (h4 : a4.IsWhole) (a5 : Memref sig .tc .vmem S4096x256 .f32) (h5 : a5.IsWhole) (a6 : Memref sig .tc .vmem S256x256 .f32) (h6 : a6.IsWhole) (a7 : Memref sig .tc .vmem S4096x256 .bf16) (h7 : a7.IsWhole) (a8 : Memref sig .tc .vmem S4096x256 .bf16) (h8 : a8.IsWhole) (hc0 : cond0_0 i)
    (x0 : Vec F S256x256 .f32) (x1 : Vec F S4096x256 .f32) (x2 : Vec F S4096x256 .f32) :
    out0_A_3 c i a3 h3 a4 h4 a5 h5 a6 h6 a7 h7 a8 h8 hc0 x0 x1 x2 = blockV i x0 (k0_pay23 x1) (k0_pay24 x2) := by
  unfold out0_A_3
  rw [View.read_writes_eq_canon _ _ _ (cover0_A_3 c i a3 h3 a4 h4 a5 h5 a6 h6 a7 h7 a8 h8 hc0 x0 x1 x2)]
  unfold kernelRun0_A
  dsimp only
  sl_unfold_words
  simp only [View.readAt_eq_ld, h3.read_unread, h4.read_unread, h5.read_unread]
  have e2 : ∀ v6 v10 v17 X7 X8 v99 init, st_k0_t2 (F := F) Variants.none c none i a3 h3 a4 h4 a5 h5 a6 h6 a7 h7 a8 h8 (BitVec.ofNat 32 (i 2).val) v6 v10 v17 v99 X7 X8 init
      (k0_t2_loop i).trips = init := fun v6 v10 v17 X7 X8 v99 init => by rw [trips2 i]; rfl
  have e1 : ∀ v6 v10 v17 X7 X8 init, st_k0_t1 (F := F) Variants.none c none i a3 h3 a4 h4 a5 h5 a6 h6 a7 h7 a8 h8 (BitVec.ofNat 32 (i 2).val) v6 v10 v17 X7 X8 init
      (k0_t1_loop i).trips = stV i v6 v10 v17 (View.read (Elt F) a7.view X7) (View.read (Elt F) a8.view X8) init (k0_t1_loop i).trips :=
    fun v6 v10 v17 X7 X8 init => st_eq _ _ _ _ _ _ _ _ _ _ _ _ _ _ _ _ _ _ _ _ _ _ _ _ (le_refl _)
  unfold blockV final

  erw [e2]
  erw [e1]
  rw [read_whole, read_whole, View.ld_unit_zero zeros, View.ld_unit_zero zeros]
  rfl

end Cert.AttentionIdeal.Value
end
-- ==== Proof.Attention.Sums.lean ====
module

public import Idealize.ShloMosaic.PureOps.Ideal
public import Mathlib.Algebra.BigOperators.Intervals

@[expose] public section

noncomputable section

namespace Cert.Sb

open Idealize.ShloMosaic
open scoped BigOperators

/-- `log (1 + exp z)`, in the form that does not overflow. -/
def sp (z : ℝ) : ℝ := max z 0 + Real.log (1 + Real.exp (-|z|))

/-- The stick taken by the keys from `lo` up to `t`. -/
def C (z : ℕ → ℝ) (lo t : ℕ) : ℝ := ∑ j ∈ Finset.Ico lo t, sp (z j)

/-- The weighted sum of the values at the keys from `lo` up to `t`. -/
def A (z : ℕ → ℝ) (v : ℕ → EReal) (lo t : ℕ) : EReal :=
  ∑ j ∈ Finset.Ico lo t, ((Real.exp (z j - C z j t) : ℝ) : EReal) * v j

/-- The kernel's softplus on a real number. -/
theorem sp_coe (z : ℝ) : max (z : EReal) 0 + Ideal.log (1 + Ideal.exp (0 - max (z : EReal) (-(z : EReal)))) = (sp z : EReal) := by
  have h0 : (0 : EReal) = ((0 : ℝ) : EReal) := rfl
  have h1 : (1 : EReal) = ((1 : ℝ) : EReal) := rfl
  have hmax : ∀ a b : ℝ, max (a : EReal) (b : EReal) = ((max a b : ℝ) : EReal) := fun a b =>
    ((EReal.coe_strictMono.monotone).map_max).symm
  have hpos : ¬ (1 + Real.exp (-|z|) ≤ 0) := by
    have := Real.exp_pos (-|z|); linarith
  rw [h0, h1, ← EReal.coe_neg, hmax, hmax, ← EReal.coe_sub, Ideal.exp_coe, ← EReal.coe_add, Ideal.log_coe, zero_sub]
  change _ + (if 1 + Real.exp (-|z|) ≤ 0 then ⊥ else _) = _
  rw [if_neg hpos, ← EReal.coe_add]
  rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over one tile of 256 keys. -/
theorem sum_tile {M : Type*} [AddCommMonoid M] (f : ℕ → M) (lo : ℕ) : ∑ s : Fin 256, f (lo + s.val) = ∑ j ∈ Finset.Ico lo (lo + 256), f j := by
  rw [Fin.sum_univ_eq_sum_range (fun s => f (lo + s)) 256, Finset.sum_Ico_eq_sum_range]
  simp

/-- The suffix sum inside a tile, over the keys before `t`. -/
theorem suffix_tile (z : ℕ → ℝ) (lo t : ℕ) (s : ℕ) (hs : s < 256) :
    ∑ j : Fin 256, (if lo + j.val < t then sp (z (lo + j.val)) else 0) * (if s ≤ j.val then 1 else 0) = C z (lo + s) (min t (lo + 256)) := by
  have e : ∀ j : Fin 256, (if lo + j.val < t then sp (z (lo + j.val)) else 0) * (if s ≤ j.val then (1 : ℝ) else 0)
      = (fun n => if lo + s ≤ n ∧ n < t then sp (z n) else 0) (lo + j.val) := fun j => by
    dsimp only
    by_cases h1 : lo + j.val < t <;> by_cases h2 : s ≤ j.val <;> simp [h1, h2]
  rw [Finset.sum_congr rfl fun j _ => e j, sum_tile (fun n => if lo + s ≤ n ∧ n < t then sp (z n) else 0) lo, ← Finset.sum_filter]
  unfold C
  refine Finset.sum_congr ?_ fun _ _ => rfl
  ext n
  simp only [Finset.mem_filter, Finset.mem_Ico, lt_min_iff]
  omega

theorem C_split (z : ℕ → ℝ) {lo mid t : ℕ} (h1 : lo ≤ mid) (h2 : mid ≤ t) : C z lo mid + C z mid t = C z lo t :=
  Finset.sum_Ico_consecutive _ h1 h2

theorem A_split (z : ℕ → ℝ) (v : ℕ → EReal) {lo mid t : ℕ} (h1 : lo ≤ mid) (h2 : mid ≤ t) :
    (∑ j ∈ Finset.Ico lo mid, ((Real.exp (z j - C z j t) : ℝ) : EReal) * v j) + A z v mid t = A z v lo t :=
  Finset.sum_Ico_consecutive _ h1 h2

end Cert.Sb
end
-- ==== Proof.Attention.Tile.lean ====
module

public import proofs.«01_k».proof.Proof.Attention.Body
public import proofs.«01_k».proof.Proof.Attention.Sums
public import Idealize.ShloMosaic.Lib.MatmulPlain
public import Idealize.ShloMosaic.Lib.Pointwise
public import Idealize.ShloMosaic.Lib.ValueIdx
public import Idealize.ShloMosaic.Lib.WordCmp

@[expose] public section

set_option maxRecDepth 16384

noncomputable section

namespace Cert.AttentionIdeal.Value

open Cert.AttentionIdeal Cert.AttentionIdeal.Gen Idealize.ShloMosaic Cert.Sb
open scoped BigOperators

/-- Scores of a query tile against a key tile. -/
def zT (q k : FVec Ideal S256x128 .bf16) : FVec Ideal S256x256 .f32 :=
  matmul dot_S256x128_S256x128_S256x256_1_1_0_0_n_n none q k (constant S256x256 .f32 0x00000000#32)

/-- Softplus of the scores. -/
def spT (z : FVec Ideal S256x256 .f32) : FVec Ideal S256x256 .f32 :=
  addf (maximumf z (broadcast S256x256 (Scalar.ofBits .f32 0x00000000#32)))
    (log (addf (broadcast S256x256 (Scalar.ofBits .f32 0x3F800000#32)) (exp (subf (broadcast S256x256 (Scalar.ofBits .f32 0x00000000#32)) (absf z)))))

/-- A tile kept where the mask holds, zero elsewhere. -/
def keepT (m : IVec S256x256 1) (x : FVec Ideal S256x256 .f32) : FVec Ideal S256x256 .f32 :=
  select m x (broadcast S256x256 (Scalar.ofBits .f32 0x00000000#32))

/-- The suffix sums inside a tile, by the product with the triangle of ones in two parts. -/
def rinT (m : FVec Ideal S256x256 .bf16) (x : FVec Ideal S256x256 .f32) : FVec Ideal S256x256 .f32 :=
  addf (matmul dot_S256x256_S256x256_S256x256_1_0_0_1_n_n none (truncf .bf16 x bitsLt_bf16_f32) m (constant S256x256 .f32 0x00000000#32))
    (matmul dot_S256x256_S256x256_S256x256_1_0_0_1_n_n none (truncf .bf16 (subf x (extf .f32 (truncf .bf16 x bitsLt_bf16_f32) bitsLt_bf16_f32)) bitsLt_bf16_f32) m
      (constant S256x256 .f32 0x00000000#32))

/-- The running sum after a tile. -/
def carT (c : FVec Ideal S256x1 .f32) (r : FVec Ideal S256x256 .f32) : FVec Ideal S256x1 .f32 :=
  addf c (extractStridedSlice S256x1 ![0, 0] r slices_S256x256_o0_0_S256x1)

/-- The weights of a tile. -/
def wT (z r : FVec Ideal S256x256 .f32) (c : FVec Ideal S256x1 .f32) : FVec Ideal S256x256 .f32 :=
  exp (subf z (addf r (broadcastTo S256x256 c broadcasts_S256x1_S256x256)))

/-- The output rows after a tile. -/
def accT (a : FVec Ideal S256x128 .f32) (w : FVec Ideal S256x256 .f32) (v : FVec Ideal S256x128 .bf16) : FVec Ideal S256x128 .f32 :=
  addf a (matmul dot_S256x256_S256x128_S256x128_1_0_0_1_n_n none (truncf .bf16 w bitsLt_bf16_f32) v (constant S256x128 .f32 0x00000000#32))

theorem tripV_eq (i : grid0.Coords) (v6 v10 : FVec Ideal S256x128 .bf16) (v17 : FVec Ideal S256x256 .bf16) (K V : Vec Ideal S4096x256 .bf16)
    (k : Fin (k0_t1_loop i).trips) (acc : Carry Ideal) :
    tripV i v6 v10 v17 K V k acc =
      (carT acc.1 (rinT v17 (spT (zT v6 (rows K (k0_off3 i k) (k0_off3_inb i k))))),
       accT acc.2.1 (wT (zT v6 (rows K (k0_off3 i k) (k0_off3_inb i k))) (rinT v17 (spT (zT v6 (rows K (k0_off3 i k) (k0_off3_inb i k))))) acc.1) (rows V (k0_off3 i k) (k0_off3_inb i k)),
       carT acc.2.2.1 (rinT v17 (spT (zT v10 (rows K (k0_off4 i k) (k0_off4_inb i k))))),
       accT acc.2.2.2 (wT (zT v10 (rows K (k0_off4 i k) (k0_off4_inb i k))) (rinT v17 (spT (zT v10 (rows K (k0_off4 i k) (k0_off4_inb i k))))) acc.2.2.1) (rows V (k0_off4 i k) (k0_off4_inb i k))) := rfl

theorem diag_eq (i : grid0.Coords) (q : Vec Ideal S256x256 .f32) (K V : Vec Ideal S4096x256 .bf16) :
    diag i q K V =
      let q0 := k0_pay25 (F := Ideal) (View.ld q (Rect.unit (s := S256x256) ![0, 0] S256x128.size inb_S256x256_S256x128_0_0))
      let q1 := k0_pay26 (F := Ideal) (View.ld q (Rect.unit (s := S256x256) ![0, 128] S256x128.size inb_S256x256_S256x128_0_128))
      let z0 := zT q0 (rows K (k0_off1 i) (k0_off1_inb i))
      let z1 := zT q1 (rows K (k0_off2 i) (k0_off2_inb i))
      (carT k0_pay28 (rinT k0_pay27 (keepT k0_pay30 (spT z0))),
       accT k0_pay29 (keepT k0_pay30 (wT z0 (rinT k0_pay27 (keepT k0_pay30 (spT z0))) k0_pay28)) (rows V (k0_off1 i) (k0_off1_inb i)),
       carT k0_pay28 (rinT k0_pay27 (keepT k0_pay30 (spT z1))),
       accT k0_pay29 (keepT k0_pay30 (wT z1 (rinT k0_pay27 (keepT k0_pay30 (spT z1))) k0_pay28)) (rows V (k0_off2 i) (k0_off2_inb i))) := rfl

/-! ## Each of them at an index -/

theorem const0 {s : Shape} (i : s.Idx) : (constant (F := Ideal) s .f32 0x00000000#32) i = (0 : EReal) := by
  show Ideal.ofBits .f32 0x00000000#32 = 0
  simp

theorem lit0 : (Scalar.ofBits (F := Ideal) .f32 0x00000000#32) = (0 : EReal) := by
  show Ideal.ofBits .f32 _ = _
  simp

theorem lit1 : (Scalar.ofBits (F := Ideal) .f32 0x3F800000#32) = (1 : EReal) := by
  show Ideal.ofBits .f32 _ = _
  simp

theorem zT_apply (q k : FVec Ideal S256x128 .bf16) (r s : Fin 256) : zT q k (ix2 r s) = ∑ d : Fin 128, q (ix2 r d) * k (ix2 s d) := by
  have h := Ideal.matmul_transposedRhs_apply (M := 256) (K := 128) (N := 256) none q k (constant S256x256 .f32 0x00000000#32) r s
  rw [const0, zero_add] at h
  exact h

theorem mm_apply (x m : FVec Ideal S256x256 .bf16) (r s : Fin 256) :
    matmul dot_S256x256_S256x256_S256x256_1_0_0_1_n_n none x m (constant S256x256 .f32 0x00000000#32) (ix2 r s) = ∑ j : Fin 256, x (ix2 r j) * m (ix2 j s) := by
  have h := Ideal.matmul_plain_apply (M := 256) (K := 256) (N := 256) none x m (constant S256x256 .f32 0x00000000#32) r s
  rw [const0, zero_add] at h
  exact h

theorem accT_apply (a : FVec Ideal S256x128 .f32) (w : FVec Ideal S256x256 .f32) (v : FVec Ideal S256x128 .bf16) (r : Fin 256) (d : Fin 128) :
    accT a w v (ix2 r d) = a (ix2 r d) + ∑ j : Fin 256, w (ix2 r j) * v (ix2 j d) := by
  have h := Ideal.matmul_plain_apply (M := 256) (K := 256) (N := 128) none (truncf .bf16 w bitsLt_bf16_f32) v (constant S256x128 .f32 0x00000000#32) r d
  rw [const0, zero_add] at h
  exact congrArg (a (ix2 r d) + ·) h

theorem spT_apply (z : FVec Ideal S256x256 .f32) (i : S256x256.Idx) (x : ℝ) (h : z i = (x : EReal)) : spT z i = (sp x : EReal) := by
  rw [← sp_coe, ← h]
  show max (z i) (Scalar.ofBits (F := Ideal) .f32 0x00000000#32) + Ideal.log ((Scalar.ofBits (F := Ideal) .f32 0x3F800000#32) + Ideal.exp ((Scalar.ofBits (F := Ideal) .f32 0x00000000#32) - max (z i) (-(z i)))) = _
  rw [lit0, lit1]

theorem carT_apply (c : FVec Ideal S256x1 .f32) (x : FVec Ideal S256x256 .f32) (r : Fin 256) : carT c x (ix2 r 0) = c (ix2 r 0) + x (ix2 r 0) := by
  refine congrArg (c (ix2 r 0) + ·) (congrArg x (funext fun a => Fin.ext ?_))
  match a with
  | ⟨0, _⟩ => exact Nat.zero_add _
  | ⟨1, _⟩ => rfl

theorem wT_apply (z x : FVec Ideal S256x256 .f32) (c : FVec Ideal S256x1 .f32) (r s : Fin 256) :
    wT z x c (ix2 r s) = Ideal.exp (z (ix2 r s) - (x (ix2 r s) + c (ix2 r 0))) := by
  have e : broadcastTo S256x256 c broadcasts_S256x1_S256x256 (ix2 r s) = c (ix2 r 0) := by
    refine congrArg c (funext fun a => Fin.ext ?_)
    match a with
    | ⟨0, _⟩ => rfl
    | ⟨1, _⟩ => rfl
  show Ideal.exp (z (ix2 r s) - (x (ix2 r s) + broadcastTo S256x256 c broadcasts_S256x1_S256x256 (ix2 r s))) = _
  rw [e]

theorem tri_apply (j s : Fin 256) : (k0_pay27 (F := Ideal)) (ix2 j s) = (((if s.val ≤ j.val then 1 else 0 : ℝ)) : EReal) := by
  have e : cmpi .sge (iota .tc S256x256 32 [0] iota_S256x256_d0_w32) (iota .tc S256x256 32 [1] iota_S256x256_d1_w32) (ix2 j s) = BitVec.ofBool (decide (s.val ≤ j.val)) := by
    show IntOp.cmpi .sge (BitVec.ofNat 32 _) (BitVec.ofNat 32 _) = _
    have := WordCmp.cmpi_sge_ofNat (w := 32) (a := j.val) (b := s.val) (by omega) (by omega)
    simpa using this
  show Scalar.select (cmpi .sge (iota .tc S256x256 32 [0] iota_S256x256_d0_w32) (iota .tc S256x256 32 [1] iota_S256x256_d1_w32) (ix2 j s)) (Scalar.ofBits (F := Ideal) .f32 0x3F800000#32) (Scalar.ofBits (F := Ideal) .f32 0x00000000#32) = _
  rw [e, lit0, lit1]
  by_cases h : s.val ≤ j.val <;> simp [h, Scalar.select]

theorem live_apply (r s : Fin 256) : k0_pay30 (ix2 r s) = BitVec.ofBool (decide (s.val < r.val)) := by
  show cmpi .slt (iota .tc S256x256 32 [1] iota_S256x256_d1_w32) (iota .tc S256x256 32 [0] iota_S256x256_d0_w32) (ix2 r s) = _
  show IntOp.cmpi .slt (BitVec.ofNat 32 _) (BitVec.ofNat 32 _) = _
  have := WordCmp.cmpi_slt_ofNat (w := 32) (a := s.val) (b := r.val) (by omega) (by omega)
  simpa using this

theorem keepT_apply (x : FVec Ideal S256x256 .f32) (r s : Fin 256) : keepT k0_pay30 x (ix2 r s) = if s.val < r.val then x (ix2 r s) else (0 : EReal) := by
  show Scalar.select (k0_pay30 (ix2 r s)) (x (ix2 r s)) (Scalar.ofBits (F := Ideal) .f32 0x00000000#32) = _
  rw [live_apply, lit0]
  by_cases h : s.val < r.val <;> simp [h, Scalar.select]

/-- The suffix sums of a tile: the second part of the product is that of a zero. -/
theorem rinT_apply (x : FVec Ideal S256x256 .f32) (z : ℕ → ℝ) (lo t : ℕ) (r : Fin 256)
    (hx : ∀ j : Fin 256, x (ix2 r j) = ((if lo + j.val < t then sp (z (lo + j.val)) else 0 : ℝ) : EReal)) (s : Fin 256) :
    rinT k0_pay27 x (ix2 r s) = (C z (lo + s.val) (min t (lo + 256)) : EReal) := by
  show matmul dot_S256x256_S256x256_S256x256_1_0_0_1_n_n none (truncf .bf16 x bitsLt_bf16_f32) k0_pay27 (constant S256x256 .f32 0x00000000#32) (ix2 r s)
    + matmul dot_S256x256_S256x256_S256x256_1_0_0_1_n_n none (truncf .bf16 (subf x (extf .f32 (truncf .bf16 x bitsLt_bf16_f32) bitsLt_bf16_f32)) bitsLt_bf16_f32) k0_pay27
      (constant S256x256 .f32 0x00000000#32) (ix2 r s) = _
  rw [mm_apply, mm_apply, ← suffix_tile z lo t s.val s.isLt]
  have e1 : ∀ j : Fin 256, (truncf .bf16 x bitsLt_bf16_f32 : FVec Ideal S256x256 .bf16) (ix2 r j) * k0_pay27 (F := Ideal) (ix2 j s)
      = (((if lo + j.val < t then sp (z (lo + j.val)) else 0) * (if s.val ≤ j.val then 1 else 0) : ℝ) : EReal) := fun j => by
    show x (ix2 r j) * k0_pay27 (F := Ideal) (ix2 j s) = _
    rw [hx, tri_apply, EReal.coe_mul]
  have e2 : ∀ j : Fin 256, (truncf .bf16 (subf x (extf .f32 (truncf .bf16 x bitsLt_bf16_f32) bitsLt_bf16_f32)) bitsLt_bf16_f32 : FVec Ideal S256x256 .bf16) (ix2 r j) * k0_pay27 (F := Ideal) (ix2 j s) = 0 := fun j => by
    show (x (ix2 r j) - x (ix2 r j)) * k0_pay27 (F := Ideal) (ix2 j s) = _
    rw [hx, ← EReal.coe_sub, sub_self, EReal.coe_zero, zero_mul]
  rw [Finset.sum_congr rfl fun j _ => e1 j, Finset.sum_congr rfl fun j _ => e2 j, Finset.sum_const_zero, add_zero, coe_sum]

/-- A head's running sum and rows, after the keys from `lo` on: `Z r` are the scores of query row `T + r`, `W d` column `d` of the values. -/
structure HeadOk (Z : Fin 256 → ℕ → ℝ) (W : Fin 128 → ℕ → EReal) (T lo : ℕ) (c : FVec Ideal S256x1 .f32) (a : FVec Ideal S256x128 .f32) : Prop where
  car : ∀ r : Fin 256, c (ix2 r 0) = (C (Z r) lo (T + r.val) : EReal)
  acc : ∀ (r : Fin 256) (d : Fin 128), a (ix2 r d) = A (Z r) (W d) lo (T + r.val)

/-- One key tile before the queries' own. -/
theorem HeadOk.step {Z : Fin 256 → ℕ → ℝ} {W : Fin 128 → ℕ → EReal} {T lo : ℕ} {c : FVec Ideal S256x1 .f32} {a : FVec Ideal S256x128 .f32}
    (h : HeadOk Z W T (lo + 256) c a) (hlo : lo + 256 ≤ T) (z : FVec Ideal S256x256 .f32) (v : FVec Ideal S256x128 .bf16)
    (hz : ∀ r s : Fin 256, z (ix2 r s) = (Z r (lo + s.val) : EReal)) (hv : ∀ (s : Fin 256) (d : Fin 128), v (ix2 s d) = W d (lo + s.val)) :
    HeadOk Z W T lo (carT c (rinT k0_pay27 (spT z))) (accT a (wT z (rinT k0_pay27 (spT z)) c) v) := by
  have hr : ∀ r s : Fin 256, rinT k0_pay27 (spT z) (ix2 r s) = (C (Z r) (lo + s.val) (lo + 256) : EReal) := fun r s => by
    rw [rinT_apply (spT z) (Z r) lo (T + r.val) r (fun j => by rw [if_pos (by omega)]; exact spT_apply z _ _ (hz r j)) s, Nat.min_eq_right (by omega)]
  refine ⟨fun r => ?_, fun r d => ?_⟩
  · rw [carT_apply, h.car, hr, ← EReal.coe_add]
    congr 1
    rw [add_comm]
    exact C_split _ (by simp) (by omega)
  · rw [accT_apply, h.acc, ← A_split (Z r) (W d) (Nat.le_add_right lo 256) (by omega : lo + 256 ≤ T + r.val), add_comm, ← sum_tile]
    congr 1
    refine Finset.sum_congr rfl fun s _ => ?_
    rw [wT_apply, hz, hr, h.car, hv, ← EReal.coe_add, C_split _ (by omega) (by omega), ← EReal.coe_sub, Ideal.exp_coe]

/-- The queries' own key tile, masked. -/
theorem HeadOk.first {Z : Fin 256 → ℕ → ℝ} {W : Fin 128 → ℕ → EReal} {T : ℕ}
    (z : FVec Ideal S256x256 .f32) (v : FVec Ideal S256x128 .bf16)
    (hz : ∀ r s : Fin 256, z (ix2 r s) = (Z r (T + s.val) : EReal)) (hv : ∀ (s : Fin 256) (d : Fin 128), v (ix2 s d) = W d (T + s.val)) :
    HeadOk Z W T T (carT k0_pay28 (rinT k0_pay27 (keepT k0_pay30 (spT z)))) (accT k0_pay29 (keepT k0_pay30 (wT z (rinT k0_pay27 (keepT k0_pay30 (spT z))) k0_pay28)) v) := by
  have hr : ∀ r s : Fin 256, rinT k0_pay27 (keepT k0_pay30 (spT z)) (ix2 r s) = (C (Z r) (T + s.val) (T + r.val) : EReal) := fun r s => by
    rw [rinT_apply (keepT k0_pay30 (spT z)) (Z r) T (T + r.val) r (fun j => by
      rw [keepT_apply]
      by_cases h : j.val < r.val
      · rw [if_pos h, if_pos (by omega)]; exact spT_apply z _ _ (hz r j)
      · rw [if_neg h, if_neg (by omega)]; rfl) s, Nat.min_eq_left (by omega)]
  have c0 : ∀ r : Fin 256, (k0_pay28 (F := Ideal)) (ix2 r 0) = (0 : EReal) := fun r => by
    exact lit0
  have a0 : ∀ (r : Fin 256) (d : Fin 128), (k0_pay29 (F := Ideal)) (ix2 r d) = (0 : EReal) := fun r d => by
    exact lit0
  refine ⟨fun r => ?_, fun r d => ?_⟩
  · rw [carT_apply, c0, hr, zero_add]; simp
  · rw [accT_apply, a0, zero_add]
    have e : ∀ s : Fin 256, keepT k0_pay30 (wT z (rinT k0_pay27 (keepT k0_pay30 (spT z))) k0_pay28) (ix2 r s) * v (ix2 s d)
        = (fun n => if n < T + r.val then ((Real.exp (Z r n - C (Z r) n (T + r.val)) : ℝ) : EReal) * W d n else 0) (T + s.val) := fun s => by
      dsimp only
      rw [keepT_apply]
      by_cases h : s.val < r.val
      · rw [if_pos h, if_pos (by omega), wT_apply, hz, hr, c0, add_zero, hv, ← EReal.coe_sub, Ideal.exp_coe]
      · rw [if_neg h, if_neg (by omega), zero_mul]
    rw [Finset.sum_congr rfl fun s _ => e s, sum_tile (fun n => if n < T + r.val then ((Real.exp (Z r n - C (Z r) n (T + r.val)) : ℝ) : EReal) * W d n else 0) T,
      ← Finset.sum_filter]
    unfold A
    refine Finset.sum_congr ?_ fun _ _ => rfl
    ext n
    simp only [Finset.mem_filter, Finset.mem_Ico]
    omega

end Cert.AttentionIdeal.Value
end
-- ==== Proof.Attention.Spec.lean ====
module

public import proofs.«01_k».proof.Proof.Attention.Sums
public import Idealize.ShloMosaic.Lib.Pointwise
public import Idealize.ShloMosaic.PureOps.Ideal.Laws

@[expose] public section

noncomputable section

namespace Cert.Sb

open Idealize.ShloMosaic
open scoped BigOperators

/-- The projections of the layer's input. -/
abbrev SH : Shape := ⟨2, ![8448, 6272]⟩

/-- An entry of the projections, zero outside them. -/
def at2 (H : SH.Idx → EReal) (r c : ℕ) : EReal := if h : r < 8448 ∧ c < 6272 then H (ix2 ⟨r, h.1⟩ ⟨c, h.2⟩) else 0

theorem at2_eq (H : SH.Idx → EReal) (r : Fin 8448) (c : Fin 6272) : H (ix2 r c) = at2 H r.val c.val := by
  unfold at2
  rw [dif_pos ⟨r.isLt, c.isLt⟩]

/-- The scale of the scores, `128 ^ (-1/2)` as a 32-bit literal. -/
def scale : EReal := Ideal.ofBits .f32 0x3DB504F3#32

theorem scale_real : ∃ s : ℝ, scale = (s : EReal) := by
  unfold scale
  simp only [Ideal.ofBits, Ideal.ieee]
  rw [if_neg (by decide), if_neg (by decide)]
  exact ⟨_, rfl⟩

/-- Every query and key entry of the prompts is a real number. -/
def Reals (H : SH.Idx → EReal) : Prop := ∀ r c : ℕ, r < 8192 → c < 2048 → ∃ x : ℝ, at2 H r c = (x : EReal)

/-- The score of query `t` against key `n`, in prompt `b` and head `g`. -/
def score (H : SH.Idx → EReal) (b g t n : ℕ) : ℝ :=
  ((∑ d : Fin 128, at2 H (4096 * b + t) (128 * g + d.val) * at2 H (4096 * b + n) (1024 + (128 * g + d.val))) * scale).toReal

/-- The attention's output: row `r` of the prompts, column `c`. -/
def attn (H : SH.Idx → EReal) (r c : ℕ) : EReal :=
  A (score H (r / 4096) (c / 128) (r % 4096)) (fun n => at2 H (4096 * (r / 4096) + n) (2048 + c)) 0 (r % 4096)

/-- A score with the scale outside the sum. -/
theorem score_coe {H : SH.Idx → EReal} (hH : Reals H) (b g t n : ℕ) (hb : b < 2) (hg : g < 8) (ht : t < 4096) (hn : n < 4096) :
    (∑ d : Fin 128, at2 H (4096 * b + t) (128 * g + d.val) * at2 H (4096 * b + n) (1024 + (128 * g + d.val))) * scale = (score H b g t n : EReal) := by
  obtain ⟨s, hs⟩ := scale_real
  choose q hq using fun d : Fin 128 => hH (4096 * b + t) (128 * g + d.val) (by omega) (by omega)
  choose k hk using fun d : Fin 128 => hH (4096 * b + n) (1024 + (128 * g + d.val)) (by omega) (by omega)
  unfold score
  have e : (∑ d : Fin 128, at2 H (4096 * b + t) (128 * g + d.val) * at2 H (4096 * b + n) (1024 + (128 * g + d.val))) * scale
      = (((∑ d : Fin 128, q d * k d) * s : ℝ) : EReal) := by
    rw [Finset.sum_congr rfl fun d _ => show _ = ((q d * k d : ℝ) : EReal) by rw [hq, hk, EReal.coe_mul], ← coe_sum, hs, EReal.coe_mul]
  rw [e, EReal.toReal_coe]

/-- A score with the queries scaled. -/
theorem score_scaled {H : SH.Idx → EReal} (hH : Reals H) (b g t n : ℕ) (hb : b < 2) (hg : g < 8) (ht : t < 4096) (hn : n < 4096) :
    ∑ d : Fin 128, (at2 H (4096 * b + t) (128 * g + d.val) * scale) * at2 H (4096 * b + n) (1024 + (128 * g + d.val)) = (score H b g t n : EReal) := by
  rw [← score_coe hH b g t n hb hg ht hn]
  obtain ⟨s, hs⟩ := scale_real
  choose q hq using fun d : Fin 128 => hH (4096 * b + t) (128 * g + d.val) (by omega) (by omega)
  choose k hk using fun d : Fin 128 => hH (4096 * b + n) (1024 + (128 * g + d.val)) (by omega) (by omega)
  rw [Finset.sum_congr rfl fun d _ => show _ = ((q d * s * k d : ℝ) : EReal) by rw [hq, hk, hs, EReal.coe_mul, EReal.coe_mul],
    Finset.sum_congr rfl fun d _ => show at2 H (4096 * b + t) (128 * g + d.val) * at2 H (4096 * b + n) (1024 + (128 * g + d.val)) = ((q d * k d : ℝ) : EReal) by rw [hq, hk, EReal.coe_mul],
    ← coe_sum, ← coe_sum, hs, ← EReal.coe_mul, Finset.sum_mul]
  congr 1
  exact Finset.sum_congr rfl fun d _ => by ring

end Cert.Sb
end
-- ==== Proof.Attention.Block.lean ====
module

public import proofs.«01_k».proof.Proof.Attention.Tile
public import proofs.«01_k».proof.Proof.Attention.Spec

@[expose] public section

set_option maxRecDepth 16384

noncomputable section

namespace Cert.AttentionIdeal.Value

open Cert.AttentionIdeal Cert.AttentionIdeal.Gen Idealize.ShloMosaic Cert.Sb
open scoped BigOperators

/-- Column `d` of head `h` of a pair of heads. -/
def col (h : Fin 2) (d : Fin 128) : Fin 256 := ⟨128 * h.val + d.val, by omega⟩

theorem rows_apply (K : Vec Ideal S4096x256 .bf16) (off : Fin 2 → Nat) (inb : ∀ a, off a + S256x128.size a ≤ S4096x256.size a) (h : Fin 2) (lo : ℕ)
    (h0 : off 0 = lo) (h1 : off 1 = 128 * h.val) (s : Fin 256) (d : Fin 128) (hs : lo + s.val < 4096) :
    rows K off inb (ix2 s d) = K (ix2 ⟨lo + s.val, hs⟩ (col h d)) := by
  refine congrArg K (funext fun a => Fin.ext ?_)
  match a with
  | ⟨0, _⟩ => show off 0 + 1 * s.val = lo + s.val; rw [h0, Nat.one_mul]
  | ⟨1, _⟩ => show off 1 + 1 * d.val = 128 * h.val + d.val; rw [h1, Nat.one_mul]

theorem off1_0 : ∀ i : grid0.Coords, k0_off1 i 0 = (i 2).val * 256 := by decide +kernel
theorem off1_1 : ∀ i : grid0.Coords, k0_off1 i 1 = 128 * (0 : Fin 2).val := by decide +kernel
theorem off2_0 : ∀ i : grid0.Coords, k0_off2 i 0 = (i 2).val * 256 := by decide +kernel
theorem off2_1 : ∀ i : grid0.Coords, k0_off2 i 1 = 128 * (1 : Fin 2).val := by decide +kernel
theorem off3_0 : ∀ (i : grid0.Coords) (k : Fin (k0_t1_loop i).trips), k0_off3 i k 0 = ((i 2).val - (k.val + 1)) * 256 := by decide +kernel
theorem off3_1 : ∀ (i : grid0.Coords) (k : Fin (k0_t1_loop i).trips), k0_off3 i k 1 = 128 * (0 : Fin 2).val := by decide +kernel
theorem off4_0 : ∀ (i : grid0.Coords) (k : Fin (k0_t1_loop i).trips), k0_off4 i k 0 = ((i 2).val - (k.val + 1)) * 256 := by decide +kernel
theorem off4_1 : ∀ (i : grid0.Coords) (k : Fin (k0_t1_loop i).trips), k0_off4 i k 1 = 128 * (1 : Fin 2).val := by decide +kernel
theorem coord2_lt : ∀ i : grid0.Coords, (i 2).val < 16 := fun i => (i 2).isLt

/-- The scaled scores of a head's query rows against the keys, and the head's values: what the loops read. -/
structure Reads (x0 : Vec Ideal S256x256 .f32) (K V : Vec Ideal S4096x256 .bf16) (Z : Fin 2 → Fin 256 → ℕ → ℝ) (W : Fin 2 → Fin 128 → ℕ → EReal) : Prop where
  score : ∀ (h : Fin 2) (r : Fin 256) (n : Fin 4096), ∑ d : Fin 128, (x0 (ix2 r (col h d)) * scale) * K (ix2 n (col h d)) = (Z h r n.val : EReal)
  value : ∀ (h : Fin 2) (d : Fin 128) (n : Fin 4096), V (ix2 n (col h d)) = W h d n.val

section

variable {x0 : Vec Ideal S256x256 .f32} {K V : Vec Ideal S4096x256 .bf16} {Z : Fin 2 → Fin 256 → ℕ → ℝ} {W : Fin 2 → Fin 128 → ℕ → EReal}

theorem q0_apply (r : Fin 256) (d : Fin 128) :
    k0_pay25 (F := Ideal) (View.ld x0 (Rect.unit (s := S256x256) ![0, 0] S256x128.size inb_S256x256_S256x128_0_0)) (ix2 r d) = x0 (ix2 r (col 0 d)) * scale := by
  refine congrArg (· * scale) (congrArg x0 (funext fun a => Fin.ext ?_))
  match a with
  | ⟨0, _⟩ => show 0 + 1 * r.val = r.val; omega
  | ⟨1, _⟩ => show 0 + 1 * d.val = 128 * 0 + d.val; omega

theorem q1_apply (r : Fin 256) (d : Fin 128) :
    k0_pay26 (F := Ideal) (View.ld x0 (Rect.unit (s := S256x256) ![0, 128] S256x128.size inb_S256x256_S256x128_0_128)) (ix2 r d) = x0 (ix2 r (col 1 d)) * scale := by
  refine congrArg (· * scale) (congrArg x0 (funext fun a => Fin.ext ?_))
  match a with
  | ⟨0, _⟩ => show 0 + 1 * r.val = r.val; omega
  | ⟨1, _⟩ => show 128 + 1 * d.val = 128 * 1 + d.val; omega

theorem Reads.tile (R : Reads x0 K V Z W) (q : FVec Ideal S256x128 .bf16) (h : Fin 2) (hq : ∀ r d, q (ix2 r d) = x0 (ix2 r (col h d)) * scale)
    (off : Fin 2 → Nat) (inb : ∀ a, off a + S256x128.size a ≤ S4096x256.size a) (lo : ℕ) (h0 : off 0 = lo) (h1 : off 1 = 128 * h.val) (hlo : lo + 256 ≤ 4096)
    (r s : Fin 256) : zT q (rows K off inb) (ix2 r s) = (Z h r (lo + s.val) : EReal) := by
  rw [zT_apply, ← R.score h r ⟨lo + s.val, by omega⟩]
  refine Finset.sum_congr rfl fun d _ => ?_
  rw [hq, rows_apply K off inb h lo h0 h1 s d (by omega)]

theorem Reads.val (R : Reads x0 K V Z W) (h : Fin 2) (off : Fin 2 → Nat) (inb : ∀ a, off a + S256x128.size a ≤ S4096x256.size a) (lo : ℕ) (h0 : off 0 = lo) (h1 : off 1 = 128 * h.val)
    (hlo : lo + 256 ≤ 4096) (s : Fin 256) (d : Fin 128) : rows V off inb (ix2 s d) = W h d (lo + s.val) := by
  rw [rows_apply V off inb h lo h0 h1 s d (by omega), R.value]

/-- Both heads, after the keys from `lo` on. -/
def BothOk (Z : Fin 2 → Fin 256 → ℕ → ℝ) (W : Fin 2 → Fin 128 → ℕ → EReal) (T lo : ℕ) (s : Carry Ideal) : Prop :=
  HeadOk (Z 0) (W 0) T lo s.1 s.2.1 ∧ HeadOk (Z 1) (W 1) T lo s.2.2.1 s.2.2.2

theorem diag_ok (R : Reads x0 K V Z W) (i : grid0.Coords) : BothOk Z W ((i 2).val * 256) ((i 2).val * 256) (diag i x0 K V) := by
  have hi := coord2_lt i
  rw [diag_eq]
  exact ⟨HeadOk.first _ _ (R.tile _ 0 q0_apply _ _ _ (off1_0 i) (off1_1 i) (by omega)) (R.val 0 _ _ _ (off1_0 i) (off1_1 i) (by omega)),
    HeadOk.first _ _ (R.tile _ 1 q1_apply _ _ _ (off2_0 i) (off2_1 i) (by omega)) (R.val 1 _ _ _ (off2_0 i) (off2_1 i) (by omega))⟩

theorem stV_ok (R : Reads x0 K V Z W) (i : grid0.Coords) (n : ℕ) (hn : n ≤ (i 2).val) :
    BothOk Z W ((i 2).val * 256) (((i 2).val - n) * 256)
      (stV i (k0_pay25 (View.ld x0 (Rect.unit (s := S256x256) ![0, 0] S256x128.size inb_S256x256_S256x128_0_0)))
        (k0_pay26 (View.ld x0 (Rect.unit (s := S256x256) ![0, 128] S256x128.size inb_S256x256_S256x128_0_128))) k0_pay27 K V (diag i x0 K V) n) := by
  have hi := coord2_lt i
  induction n with
  | zero => exact diag_ok R i
  | succ n ih =>
    have hlt : n < (k0_t1_loop i).trips := by rw [trips1 i]; omega
    have e : ((i 2).val - n) * 256 = ((i 2).val - (n + 1)) * 256 + 256 := by omega
    have ih' := ih (by omega)
    rw [e] at ih'
    rw [stV, dif_pos hlt, tripV_eq]
    exact ⟨ih'.1.step (by omega) _ _ (R.tile _ 0 q0_apply _ _ _ (off3_0 i ⟨n, hlt⟩) (off3_1 i ⟨n, hlt⟩) (by dsimp only; omega)) (R.val 0 _ _ _ (off3_0 i ⟨n, hlt⟩) (off3_1 i ⟨n, hlt⟩) (by dsimp only; omega)),
      ih'.2.step (by omega) _ _ (R.tile _ 1 q1_apply _ _ _ (off4_0 i ⟨n, hlt⟩) (off4_1 i ⟨n, hlt⟩) (by dsimp only; omega)) (R.val 1 _ _ _ (off4_0 i ⟨n, hlt⟩) (off4_1 i ⟨n, hlt⟩) (by dsimp only; omega))⟩

theorem final_ok (R : Reads x0 K V Z W) (i : grid0.Coords) : BothOk Z W ((i 2).val * 256) 0 (final i x0 K V) := by
  have h := stV_ok R i (i 2).val (le_refl _)
  rw [Nat.sub_self, Nat.zero_mul] at h
  unfold final
  rw [trips1 i]
  exact h

/-- An entry of the block a grid point leaves. -/
theorem blockV_apply (R : Reads x0 K V Z W) (i : grid0.Coords) (h : Fin 2) (r : Fin 256) (d : Fin 128) :
    blockV i x0 K V (ix2 r (col h d)) = A (Z h r) (W h d) 0 ((i 2).val * 256 + r.val) := by
  have F := final_ok R i
  have e0 : (Rect.unit (s := S256x256) ![0, 0] S256x128.size inb_S256x256_S256x128_0_0).emb (ix2 r d) = ix2 r (col 0 d) := by
    refine funext fun a => Fin.ext ?_
    match a with
    | ⟨0, _⟩ => show 0 + 1 * r.val = r.val; omega
    | ⟨1, _⟩ => show 0 + 1 * d.val = 128 * 0 + d.val; omega
  have e1 : (Rect.unit (s := S256x256) ![0, 128] S256x128.size inb_S256x256_S256x128_0_128).emb (ix2 r d) = ix2 r (col 1 d) := by
    refine funext fun a => Fin.ext ?_
    match a with
    | ⟨0, _⟩ => show 0 + 1 * r.val = r.val; omega
    | ⟨1, _⟩ => show 128 + 1 * d.val = 128 * 1 + d.val; omega
  unfold blockV
  match h with
  | 0 =>
    rw [View.canon_cons_of_not_mem, ← e0]
    · exact (View.canon_cons_emb _ _ _ _).trans (F.1.acc r d)
    · rw [Rect.mem_set_unit]
      intro hm
      have := (hm 1).1
      have : 128 ≤ 128 * 0 + d.val := this
      omega
  | 1 =>
    rw [← e1]
    exact (View.canon_cons_emb _ _ _ _).trans (F.2.acc r d)

end

end Cert.AttentionIdeal.Value
end
-- ==== Proof.Attention.Array.lean ====
module

public import proofs.«01_k».proof.Proof.Attention.Block
public import proofs.«01_k».proof.Proof.Gen.AttentionIdeal.Value

@[expose] public section

set_option maxRecDepth 16384

noncomputable section

namespace Cert.AttentionIdeal.Value

open Cert.AttentionIdeal Cert.AttentionIdeal.Gen Idealize.ShloMosaic Idealize.ShloMosaic.TcCoe Cert.Sb
open Idealize.ShloMosaic.Pipeline (Dat)

theorem index0_0 : ∀ t : Fin cfg0.N, win0_0.index t 0 = t.val / 64 * 16 + t.val % 16 := (by decide +kernel : ∀ t : Fin grid0.N, win0_0.index t 0 = t.val / 64 * 16 + t.val % 16)
theorem index0_1 : ∀ t : Fin cfg0.N, win0_0.index t 1 = t.val / 16 % 4 := (by decide +kernel : ∀ t : Fin grid0.N, win0_0.index t 1 = t.val / 16 % 4)
theorem index1_0 : ∀ t : Fin cfg0.N, win0_1.index t 0 = t.val / 64 := (by decide +kernel : ∀ t : Fin grid0.N, win0_1.index t 0 = t.val / 64)
theorem index1_1 : ∀ t : Fin cfg0.N, win0_1.index t 1 = 4 + t.val / 16 % 4 := (by decide +kernel : ∀ t : Fin grid0.N, win0_1.index t 1 = 4 + t.val / 16 % 4)
theorem index2_0 : ∀ t : Fin cfg0.N, win0_2.index t 0 = t.val / 64 := (by decide +kernel : ∀ t : Fin grid0.N, win0_2.index t 0 = t.val / 64)
theorem index2_1 : ∀ t : Fin cfg0.N, win0_2.index t 1 = 8 + t.val / 16 % 4 := (by decide +kernel : ∀ t : Fin grid0.N, win0_2.index t 1 = 8 + t.val / 16 % 4)
theorem index3_0 : ∀ t : Fin cfg0.N, win0_3.index t 0 = t.val / 64 * 16 + t.val % 16 := (by decide +kernel : ∀ t : Fin grid0.N, win0_3.index t 0 = t.val / 64 * 16 + t.val % 16)
theorem index3_1 : ∀ t : Fin cfg0.N, win0_3.index t 1 = t.val / 16 % 4 := (by decide +kernel : ∀ t : Fin grid0.N, win0_3.index t 1 = t.val / 16 % 4)
theorem coords_2 : ∀ t : Fin cfg0.N, (grid0.coords t 2).val = t.val % 16 := (by decide +kernel : ∀ t : Fin grid0.N, (grid0.coords t 2).val = t.val % 16)

variable (m : (ℓ : Loc nD τ sig) → Buf (Elt Ideal) ℓ)

/-- The kernel's argument on a device. -/
abbrev hmat (c : Dev nD) : SH.Idx → EReal := m ((c : Thread nD τ).loc main_arg0)

theorem X0_0_apply (c : Dev nD) (t : Fin cfg0.N) (r e : Fin 256) :
    X0_0 m c t (ix2 r e) = at2 (hmat m c) ((t.val / 64 * 16 + t.val % 16) * 256 + r.val) (t.val / 16 % 4 * 256 + e.val) := by
  have ht : t.val < 128 := lt_of_lt_of_eq t.isLt N_0
  rw [← at2_eq (hmat m c) ⟨(t.val / 64 * 16 + t.val % 16) * 256 + r.val, by omega⟩ ⟨t.val / 16 % 4 * 256 + e.val, by omega⟩]
  unfold X0_0 Pipeline.Window.fill
  rw [dif_pos (moved0_0 t _)]
  refine congrArg (hmat m c) (funext fun a => Fin.ext ?_)
  match a with
  | ⟨0, _⟩ => show win0_0.index t 0 * 256 + 1 * r.val = _; rw [index0_0, Nat.one_mul]; rfl
  | ⟨1, _⟩ => show win0_0.index t 1 * 256 + 1 * e.val = _; rw [index0_1, Nat.one_mul]; rfl

theorem X0_1_apply (c : Dev nD) (t : Fin cfg0.N) (r : Fin 4096) (e : Fin 256) :
    X0_1 m c t (ix2 r e) = at2 (hmat m c) (t.val / 64 * 4096 + r.val) ((4 + t.val / 16 % 4) * 256 + e.val) := by
  have ht : t.val < 128 := lt_of_lt_of_eq t.isLt N_0
  rw [← at2_eq (hmat m c) ⟨t.val / 64 * 4096 + r.val, by omega⟩ ⟨(4 + t.val / 16 % 4) * 256 + e.val, by omega⟩]
  unfold X0_1 Pipeline.Window.fill
  rw [dif_pos (moved0_1 t _)]
  refine congrArg (hmat m c) (funext fun a => Fin.ext ?_)
  match a with
  | ⟨0, _⟩ => show win0_1.index t 0 * 4096 + 1 * r.val = _; rw [index1_0, Nat.one_mul]; rfl
  | ⟨1, _⟩ => show win0_1.index t 1 * 256 + 1 * e.val = _; rw [index1_1, Nat.one_mul]; rfl

theorem X0_2_apply (c : Dev nD) (t : Fin cfg0.N) (r : Fin 4096) (e : Fin 256) :
    X0_2 m c t (ix2 r e) = at2 (hmat m c) (t.val / 64 * 4096 + r.val) ((8 + t.val / 16 % 4) * 256 + e.val) := by
  have ht : t.val < 128 := lt_of_lt_of_eq t.isLt N_0
  rw [← at2_eq (hmat m c) ⟨t.val / 64 * 4096 + r.val, by omega⟩ ⟨(8 + t.val / 16 % 4) * 256 + e.val, by omega⟩]
  unfold X0_2 Pipeline.Window.fill
  rw [dif_pos (moved0_2 t _)]
  refine congrArg (hmat m c) (funext fun a => Fin.ext ?_)
  match a with
  | ⟨0, _⟩ => show win0_2.index t 0 * 4096 + 1 * r.val = _; rw [index2_0, Nat.one_mul]; rfl
  | ⟨1, _⟩ => show win0_2.index t 1 * 256 + 1 * e.val = _; rw [index2_1, Nat.one_mul]; rfl

/-- The key block is the same through a pair of heads' query blocks. -/
theorem X0_1_pred (c : Dev nD) (n : ℕ) (h : n + 1 < cfg0.N) (hn : ¬(n + 1) % 16 = 0) : X0_1 m c ⟨n + 1, h⟩ = X0_1 m c ⟨n, Nat.lt_of_succ_lt h⟩ := by
  funext y
  obtain ⟨r, e, rfl⟩ : ∃ (r : Fin 4096) (e : Fin 256), y = ix2 r e := ⟨y 0, y 1, funext fun a => by match a with | ⟨0, _⟩ => rfl | ⟨1, _⟩ => rfl⟩
  have e1 : (n + 1) / 64 = n / 64 := by omega
  have e2 : (n + 1) / 16 = n / 16 := by omega
  rw [X0_1_apply, X0_1_apply]
  dsimp only
  rw [e1, e2]

/-- The value block is the same through a pair of heads' query blocks. -/
theorem X0_2_pred (c : Dev nD) (n : ℕ) (h : n + 1 < cfg0.N) (hn : ¬(n + 1) % 16 = 0) : X0_2 m c ⟨n + 1, h⟩ = X0_2 m c ⟨n, Nat.lt_of_succ_lt h⟩ := by
  funext y
  obtain ⟨r, e, rfl⟩ : ∃ (r : Fin 4096) (e : Fin 256), y = ix2 r e := ⟨y 0, y 1, funext fun a => by match a with | ⟨0, _⟩ => rfl | ⟨1, _⟩ => rfl⟩
  have e1 : (n + 1) / 64 = n / 64 := by omega
  have e2 : (n + 1) / 16 = n / 16 := by omega
  rw [X0_2_apply, X0_2_apply]
  dsimp only
  rw [e1, e2]

theorem scratch_first (c : Dev nD) (t : Fin cfg0.N) (h : t.val % 16 = 0) :
    (outsAt0 m c t.val t.isLt).2 = (k0_pay23 (X0_1 m c t), k0_pay24 (X0_2 m c t)) := by
  rw [outsAt0_A m c t h, soutA0_eq, soutA1_eq]

theorem scratch_later (c : Dev nD) (t : Fin cfg0.N) (h : ¬t.val % 16 = 0) :
    (outsAt0 m c t.val t.isLt).2 = (outsAt0 m c (t.val - 1) (Nat.lt_of_le_of_lt (Nat.sub_le _ _) t.isLt)).2 := by
  rw [outsAt0_B m c t h]
  rfl

/-- What the scratch arrays hold after a point: the keys and the values of its heads. -/
theorem scratch_eq (c : Dev nD) (n : ℕ) (hn : n < cfg0.N) :
    (outsAt0 m c n hn).2 = (k0_pay23 (X0_1 m c ⟨n, hn⟩), k0_pay24 (X0_2 m c ⟨n, hn⟩)) := by
  induction n with
  | zero => exact scratch_first m c ⟨0, hn⟩ rfl
  | succ n ih =>
    by_cases h : (n + 1) % 16 = 0
    · exact scratch_first m c ⟨n + 1, hn⟩ h
    · rw [X0_1_pred m c n hn h, X0_2_pred m c n hn h, ← ih (Nat.lt_of_succ_lt hn)]
      exact scratch_later m c ⟨n + 1, hn⟩ h

/-- The block every grid point writes back. -/
theorem flushed_eq (c : Dev nD) (t : Fin cfg0.N) :
    (dats m 0 c).flushed 3 t = (cfg0.win 3).cut (grid0.coords t) (blockV (grid0.coords t) (X0_0 m c t) (k0_pay23 (X0_1 m c t)) (k0_pay24 (X0_2 m c t))) := by
  by_cases h : t.val % 16 = 0
  · rw [flushed3_A m c t h, outA_eq]
  · rw [flushed3_B m c t h, outB_eq]
    obtain ⟨n, hn⟩ := t
    match n, hn, h with
    | 0, _, h => exact absurd rfl h
    | n + 1, hn, h =>
      have S := scratch_eq m c n (Nat.lt_of_succ_lt hn)
      rw [← X0_1_pred m c n hn h, ← X0_2_pred m c n hn h] at S
      show (cfg0.win 3).cut _ (blockV _ _ (outsAt0 m c n _).2.1 (outsAt0 m c n _).2.2) = _
      rw [S]

/-- What the loops of point `t` read. -/
theorem reads (c : Dev nD) (hH : Reals (hmat m c)) (t : Fin cfg0.N) :
    Reads (X0_0 m c t) (k0_pay23 (X0_1 m c t)) (k0_pay24 (X0_2 m c t))
      (fun h r => score (hmat m c) (t.val / 64) (2 * (t.val / 16 % 4) + h.val) (t.val % 16 * 256 + r.val))
      (fun h d n => at2 (hmat m c) (4096 * (t.val / 64) + n) (2048 + (128 * (2 * (t.val / 16 % 4) + h.val) + d.val))) := by
  have ht : t.val < 128 := lt_of_lt_of_eq t.isLt N_0
  refine ⟨fun h r n => ?_, fun h d n => ?_⟩
  · rw [← score_scaled hH (t.val / 64) (2 * (t.val / 16 % 4) + h.val) (t.val % 16 * 256 + r.val) n.val (by omega) (by omega) (by omega) n.isLt]
    refine Finset.sum_congr rfl fun d _ => ?_
    have e1 : k0_pay23 (X0_1 m c t) (ix2 n (col h d)) = X0_1 m c t (ix2 n (col h d)) := by
      unfold k0_pay23
      rw [shapeCast_self]
      rfl
    rw [e1, X0_0_apply, X0_1_apply]
    unfold col
    dsimp only
    exact congrArg₂ (· * ·) (congrArg (· * scale) (congrArg₂ (at2 _) (by omega) (by omega))) (congrArg₂ (at2 _) (by omega) (by omega))
  · have e1 : k0_pay24 (X0_2 m c t) (ix2 n (col h d)) = X0_2 m c t (ix2 n (col h d)) := by
      unfold k0_pay24
      rw [shapeCast_self]
      rfl
    rw [e1, X0_2_apply]
    unfold col
    dsimp only
    exact congrArg₂ (at2 _) (by omega) (by omega)

/-- The result array on the prompts' rows. -/
theorem arr_apply (c : Dev nD) (hH : Reals (hmat m c)) (R : Fin 8448) (hR : R.val < 8192) (K : Fin 1024) :
    (dats m 0 c).arrAt 3 cfg0.N (ix2 R K) = attn (hmat m c) R.val K.val := by
  obtain ⟨t, ht⟩ : ∃ t : Fin cfg0.N, t.val = R.val / 4096 * 64 + K.val / 256 * 16 + R.val / 256 % 16 :=
    ⟨⟨R.val / 4096 * 64 + K.val / 256 * 16 + R.val / 256 % 16, by rw [show cfg0.N = 128 from N_0]; omega⟩, rfl⟩
  have hb := blocks3 m c t (flush0_3 t)
  rw [flushed_eq] at hb
  have hb' := congrFun hb (ix2 ⟨R.val % 256, by omega⟩ ⟨K.val % 256, by omega⟩)
  have e : ((cfg0.win 3).blk t).view.emb (ix2 ⟨R.val % 256, by omega⟩ ⟨K.val % 256, by omega⟩) = ix2 R K := by
    refine funext fun a => Fin.ext ?_
    match a with
    | ⟨0, _⟩ => show win0_3.index t 0 * 256 + 1 * (R.val % 256) = R.val; rw [index3_0]; omega
    | ⟨1, _⟩ => show win0_3.index t 1 * 256 + 1 * (K.val % 256) = K.val; rw [index3_1]; omega
  have hl : (dats m 0 c).arrAt 3 cfg0.N (ix2 R K) = ((cfg0.win 3).blk t).view.read (Elt Ideal) ((dats m 0 c).arrAt 3 cfg0.N) (ix2 ⟨R.val % 256, by omega⟩ ⟨K.val % 256, by omega⟩) :=
    congrArg ((dats m 0 c).arrAt 3 cfg0.N) e.symm
  rw [hl, hb']
  have hk : (ix2 ⟨R.val % 256, by omega⟩ ⟨K.val % 256, by omega⟩ : S256x256.Idx) = ix2 ⟨R.val % 256, by omega⟩ (col ⟨K.val / 128 % 2, by omega⟩ ⟨K.val % 128, by omega⟩) := by
    unfold col
    congr 2
    dsimp only
    omega
  refine Eq.trans (congrArg (blockV (grid0.coords t) (X0_0 m c t) (k0_pay23 (X0_1 m c t)) (k0_pay24 (X0_2 m c t))) hk) ?_
  rw [blockV_apply (reads m c hH t), coords_2]
  unfold attn
  dsimp only
  have h1 : t.val / 64 = R.val / 4096 := by omega
  have h2 : 2 * (t.val / 16 % 4) + K.val / 128 % 2 = K.val / 128 := by omega
  have h3 : t.val % 16 * 256 + R.val % 256 = R.val % 4096 := by omega
  have h4 : 128 * (K.val / 128) + K.val % 128 = K.val := by omega
  rw [h1, h2, h3, h4]

end Cert.AttentionIdeal.Value
end
-- ==== Proof.Attention.Reference.lean ====
module

public import proofs.«01_k».proof.Proof.Attention.Spec
public import proofs.«01_k».proof.Proof.Gen.AttentionRefIdeal.Read
public import Idealize.ShloMosaic.Lib.Pipeline.Value
public import Idealize.ShloMosaic.Lib.WordCmp

@[expose] public section

set_option maxRecDepth 16384

noncomputable section

namespace Cert.AttentionRefIdeal.Read

open Cert.AttentionRefIdeal Cert.AttentionRefIdeal.Gen Idealize.ShloMosaic Idealize.ShloMosaic.TcCoe Cert.Sb
open scoped BigOperators

theorem foldl_add {ι : Type*} (g : ι → EReal) (l : List ι) (v : EReal) : l.foldl (fun r n => r + g n) v = v + (l.map g).sum := by
  induction l generalizing v with
  | nil => simp
  | cons a l ih => rw [List.foldl_cons, ih, List.map_cons, List.sum_cons, add_assoc]

/-- A host window sum from zero, over the window's positions. -/
theorem window_sum {s t u : Shape} (window strides lo hi : Fin s.rank → Nat) (x : FVec Ideal s .f32) (init : u.Idx → Ideal .f32)
    (h : s.ReduceWindows window strides lo hi t) (hu : 0 < u.numel) (hv : init (Shape.Idx.first hu) = (0 : EReal)) (j : t.Idx) :
    Host.reduceWindowAdd (F := Ideal) window strides lo hi x init h hu j
      = ∑ y : (⟨s.rank, window⟩ : Shape).Idx,
        if hin : ∀ a, lo a ≤ (j (a.cast h.1.symm)).val * strides a + (y a).val ∧ (j (a.cast h.1.symm)).val * strides a + (y a).val - lo a < s.size a
          then x (fun a => ⟨(j (a.cast h.1.symm)).val * strides a + (y a).val - lo a, (hin a).2⟩) else 0 := by
  show Ideal.hostReduceWindowAdd window strides lo hi h x (init (Shape.Idx.first hu)) j = _
  rw [hv]
  rw [← Equiv.sum_comp (⟨s.rank, window⟩ : Shape).rowMajor.symm, Fin.sum_univ_def]
  refine (foldl_add _ _ _).trans ?_
  rw [zero_add]
  refine congrArg List.sum (List.map_congr_left fun n _ => ?_)
  dsimp only
  split <;> rfl

variable (H : SH.Idx → EReal)

theorem q_apply (y : S2x4096x8x128.Idx) : val_main_v1 (F := Ideal) H y = at2 H (4096 * (y 0).val + (y 1).val) (128 * (y 2).val + (y 3).val) := by
  have h0 : (y 0).val < 2 := (y 0).isLt
  have h1 : (y 1).val < 4096 := (y 1).isLt
  have h2 : (y 2).val < 8 := (y 2).isLt
  have h3 : (y 3).val < 128 := (y 3).isLt
  rw [val_main_v1_apply, val_main_v0_apply, ← at2_eq H ⟨4096 * (y 0).val + (y 1).val, by omega⟩ ⟨128 * (y 2).val + (y 3).val, by omega⟩]
  refine congrArg H (funext fun a => Fin.ext ?_)
  match a with
  | ⟨0, _⟩ => show ((((y 0).val * 4096 + (y 1).val) * 8 + (y 2).val) * 128 + (y 3).val) / 1024 = 4096 * (y 0).val + (y 1).val; omega
  | ⟨1, _⟩ => show ((((y 0).val * 4096 + (y 1).val) * 8 + (y 2).val) * 128 + (y 3).val) % 1024 = 128 * (y 2).val + (y 3).val; omega

theorem k_apply (y : S2x4096x8x128.Idx) : val_main_v3 (F := Ideal) H y = at2 H (4096 * (y 0).val + (y 1).val) (1024 + (128 * (y 2).val + (y 3).val)) := by
  have h0 : (y 0).val < 2 := (y 0).isLt
  have h1 : (y 1).val < 4096 := (y 1).isLt
  have h2 : (y 2).val < 8 := (y 2).isLt
  have h3 : (y 3).val < 128 := (y 3).isLt
  rw [val_main_v3_apply, val_main_v2_apply, ← at2_eq H ⟨4096 * (y 0).val + (y 1).val, by omega⟩ ⟨1024 + (128 * (y 2).val + (y 3).val), by omega⟩]
  refine congrArg H (funext fun a => Fin.ext ?_)
  match a with
  | ⟨0, _⟩ => show ((((y 0).val * 4096 + (y 1).val) * 8 + (y 2).val) * 128 + (y 3).val) / 1024 = 4096 * (y 0).val + (y 1).val; omega
  | ⟨1, _⟩ => show 1024 + ((((y 0).val * 4096 + (y 1).val) * 8 + (y 2).val) * 128 + (y 3).val) % 1024 = 1024 + (128 * (y 2).val + (y 3).val); omega

theorem v_apply (y : S2x4096x8x128.Idx) : val_main_v5 (F := Ideal) H y = at2 H (4096 * (y 0).val + (y 1).val) (2048 + (128 * (y 2).val + (y 3).val)) := by
  have h0 : (y 0).val < 2 := (y 0).isLt
  have h1 : (y 1).val < 4096 := (y 1).isLt
  have h2 : (y 2).val < 8 := (y 2).isLt
  have h3 : (y 3).val < 128 := (y 3).isLt
  rw [val_main_v5_apply, val_main_v4_apply, ← at2_eq H ⟨4096 * (y 0).val + (y 1).val, by omega⟩ ⟨2048 + (128 * (y 2).val + (y 3).val), by omega⟩]
  refine congrArg H (funext fun a => Fin.ext ?_)
  match a with
  | ⟨0, _⟩ => show ((((y 0).val * 4096 + (y 1).val) * 8 + (y 2).val) * 128 + (y 3).val) / 1024 = 4096 * (y 0).val + (y 1).val; omega
  | ⟨1, _⟩ => show 2048 + ((((y 0).val * 4096 + (y 1).val) * 8 + (y 2).val) * 128 + (y 3).val) % 1024 = 2048 + (128 * (y 2).val + (y 3).val); omega

/-- The masks: a key before the query. -/
theorem mask1_apply (b : Fin 2) (g : Fin 8) (t n : Fin 4096) : val_main_call1_v1 (F := Ideal) (ix4 b g t n) = BitVec.ofBool (decide (n.val < t.val)) := by
  rw [val_main_call1_v1_apply, val_main_v14_apply, val_main_v12_apply, val_main_v10_apply, val_main_v6_apply, val_main_v13_apply, val_main_v11_apply, val_main_v6_apply]
  exact WordCmp.cmpi_slt_ofNat (w := 32) (a := n.val) (b := t.val) (by omega) (by omega)

theorem mask3_apply (b : Fin 2) (g : Fin 8) (t n : Fin 4096) : val_main_call3_v1 (F := Ideal) (ix4 b g t n) = BitVec.ofBool (decide (n.val < t.val)) := by
  rw [val_main_call3_v1_apply, val_main_v14_apply, val_main_v12_apply, val_main_v10_apply, val_main_v6_apply, val_main_v13_apply, val_main_v11_apply, val_main_v6_apply]
  exact WordCmp.cmpi_slt_ofNat (w := 32) (a := n.val) (b := t.val) (by omega) (by omega)

variable {H} (hH : Reals H)

include hH

theorem score_apply (b : Fin 2) (g : Fin 8) (t n : Fin 4096) : val_main_v9 (F := Ideal) H (ix4 b g t n) = (score H b.val g.val t.val n.val : EReal) := by
  rw [val_main_v9_apply, val_main_v7_apply, val_main_v8_apply, val_main_cst_apply, ← score_coe hH b.val g.val t.val n.val b.isLt g.isLt t.isLt n.isLt]
  refine congrArg (· * scale) (Finset.sum_congr rfl fun d _ => ?_)
  rw [q_apply, k_apply]
  rfl

theorem softplus_apply (b : Fin 2) (g : Fin 8) (t n : Fin 4096) : val_main_v15 (F := Ideal) H (ix4 b g t n) = (sp (score H b.val g.val t.val n.val) : EReal) := by
  have hs := score_apply hH b g t n
  have z0 : Ideal.ofBits .f32 0x00000000#32 = 0 := by simp
  have e3 : val_main_call0_v3 (F := Ideal) H (ix4 b g t n) = (score H b.val g.val t.val n.val : EReal) := by
    rw [val_main_call0_v3_apply, val_main_call0_v2_apply, val_main_call0_cst_apply, hs]
    show _ - Ideal.ofBits .f32 0x00000000#32 = _
    rw [z0, sub_zero]
  have e4 : val_main_call0_v4 (F := Ideal) H (ix4 b g t n) = 0#1 := by
    rw [val_main_call0_v4_apply]
    generalize val_main_call0_v3 (F := Ideal) H (ix4 b g t n) = y
    show BitVec.ofBool (decide (y ≠ y)) = 0#1
    simp
  rw [val_main_v15_apply, e4]
  show val_main_call0_v11 (F := Ideal) H (ix4 b g t n) = _
  rw [val_main_call0_v11_apply, val_main_call0_v1_apply, val_main_call0_v0_apply, val_main_call0_cst_apply, val_main_call0_v10_apply, val_main_call0_v9_apply,
    val_main_call0_v8_apply, val_main_call0_v7_apply, e3, hs, ← sp_coe]
  generalize (score H b.val g.val t.val n.val : EReal) = z
  rw [zero_sub]
  show max z (Ideal.ofBits .f32 0x00000000#32) + Ideal.log (1 + Ideal.exp (-(max z (-z)))) = _
  rw [z0]

theorem masked_apply (b : Fin 2) (g : Fin 8) (t n : Fin 4096) :
    val_main_v16 (F := Ideal) H (ix4 b g t n) = ((if n.val < t.val then sp (score H b.val g.val t.val n.val) else 0 : ℝ) : EReal) := by
  have z0 : Ideal.ofBits .f32 0x00000000#32 = 0 := by simp
  rw [val_main_v16_apply, mask1_apply, softplus_apply hH, val_main_call1_v2_apply, val_main_call1_v0_apply, val_main_cst_0_apply]
  show Scalar.select _ _ (Ideal.ofBits .f32 0x00000000#32) = _
  rw [z0]
  by_cases h : n.val < t.val <;> simp [h, Scalar.select]

/-- The stick taken by the keys from `n` on: the host's suffix sum. -/
theorem taken_apply (b : Fin 2) (g : Fin 8) (t n : Fin 4096) :
    val_main_v17 (F := Ideal) H (ix4 b g t n) = (C (score H b.val g.val t.val) n.val t.val : EReal) := by
  have z0 : Ideal.ofBits .f32 0x00000000#32 = 0 := by simp
  have i0 : val_main_call2_v0 (F := Ideal) (Shape.Idx.first h_S_) = (0 : EReal) := by
    rw [val_main_call2_v0_apply, val_main_call2_cst_apply]
    exact z0
  unfold val_main_v17
  rw [window_sum _ _ _ _ _ _ _ _ i0]
  let e : Fin 4096 ≃ (⟨4, ![1, 1, 1, 4096]⟩ : Shape).Idx :=
    { toFun := fun k => ix4 (0 : Fin 1) (0 : Fin 1) (0 : Fin 1) k
      invFun := fun y => y 3
      left_inv := fun k => rfl
      right_inv := fun y => funext fun a => by
        match a with
        | ⟨0, _⟩ => exact (Subsingleton.elim (α := Fin 1) _ _)
        | ⟨1, _⟩ => exact (Subsingleton.elim (α := Fin 1) _ _)
        | ⟨2, _⟩ => exact (Subsingleton.elim (α := Fin 1) _ _)
        | ⟨3, _⟩ => rfl }
  rw [← Equiv.sum_comp e]
  have hk : ∀ k : Fin 4096, (if hin : ∀ a : Fin 4, (![0, 0, 0, 0] : Fin 4 → ℕ) a ≤ ((ix4 b g t n : S2x8x4096x4096.Idx) a).val * (![1, 1, 1, 1] : Fin 4 → ℕ) a + (e k a).val ∧ ((ix4 b g t n : S2x8x4096x4096.Idx) a).val * (![1, 1, 1, 1] : Fin 4 → ℕ) a + (e k a).val - (![0, 0, 0, 0] : Fin 4 → ℕ) a < S2x8x4096x4096.size a
      then val_main_v16 (F := Ideal) H (fun a => ⟨((ix4 b g t n : S2x8x4096x4096.Idx) a).val * (![1, 1, 1, 1] : Fin 4 → ℕ) a + (e k a).val - (![0, 0, 0, 0] : Fin 4 → ℕ) a, (hin a).2⟩) else (0 : EReal))
      = (((fun j => if n.val + j < t.val then sp (score H b.val g.val t.val (n.val + j)) else 0) k.val : ℝ) : EReal) := fun k => by
    dsimp only
    by_cases h : n.val + k.val < 4096
    · rw [dif_pos fun a => by
        match a with
        | ⟨0, _⟩ => exact ⟨Nat.zero_le _, by show b.val * 1 + 0 - 0 < 2; omega⟩
        | ⟨1, _⟩ => exact ⟨Nat.zero_le _, by show g.val * 1 + 0 - 0 < 8; omega⟩
        | ⟨2, _⟩ => exact ⟨Nat.zero_le _, by show t.val * 1 + 0 - 0 < 4096; omega⟩
        | ⟨3, _⟩ => exact ⟨Nat.zero_le _, by show n.val * 1 + k.val - 0 < 4096; omega⟩]
      rw [← masked_apply hH b g t ⟨n.val + k.val, h⟩]
      refine congrArg (val_main_v16 (F := Ideal) H) (funext fun a => Fin.ext ?_)
      match a with
      | ⟨0, _⟩ => show b.val * 1 + 0 - 0 = b.val; omega
      | ⟨1, _⟩ => show g.val * 1 + 0 - 0 = g.val; omega
      | ⟨2, _⟩ => show t.val * 1 + 0 - 0 = t.val; omega
      | ⟨3, _⟩ => show n.val * 1 + k.val - 0 = n.val + k.val; omega
    · rw [dif_neg fun hin => h (by
        have := (hin 3).2
        have : n.val * 1 + k.val - 0 < 4096 := this
        omega), if_neg (by omega)]
      rfl
  refine (Finset.sum_congr rfl fun k _ => hk k).trans ?_
  rw [← coe_sum, Fin.sum_univ_eq_sum_range (fun j => if n.val + j < t.val then sp (score H b.val g.val t.val (n.val + j)) else 0) 4096, ← Finset.sum_filter]
  unfold C
  rw [Finset.sum_Ico_eq_sum_range]
  congr 1
  refine Finset.sum_congr ?_ fun _ _ => rfl
  ext j
  simp only [Finset.mem_filter, Finset.mem_range]
  omega

theorem weight_apply (b : Fin 2) (g : Fin 8) (t n : Fin 4096) :
    val_main_v20 (F := Ideal) H (ix4 b g t n)
      = if n.val < t.val then ((Real.exp (score H b.val g.val t.val n.val - C (score H b.val g.val t.val) n.val t.val) : ℝ) : EReal) else 0 := by
  have zb : Ideal.ofBits .f32 0xFF800000#32 = ⊥ := by simp [Ideal.ofBits, Ideal.ieee]
  rw [val_main_v20_apply, val_main_v19_apply, mask3_apply, val_main_v18_apply, score_apply hH, taken_apply hH, val_main_call3_v2_apply, val_main_call3_v0_apply, val_main_cst_1_apply]
  show Ideal.exp (Scalar.select _ ((score H b.val g.val t.val n.val : EReal) - (C (score H b.val g.val t.val) n.val t.val : EReal)) (Ideal.ofBits .f32 0xFF800000#32)) = _
  rw [zb, ← EReal.coe_sub]
  by_cases h : n.val < t.val
  · simp only [h, decide_true, Scalar.select, BitVec.ofBool_true, if_true]
    exact Ideal.exp_coe _
  · simp [h, Scalar.select]

theorem rows_apply (b : Fin 2) (t : Fin 4096) (g : Fin 8) (d : Fin 128) :
    val_main_v22 (F := Ideal) H (ix4 b t g d)
      = A (score H b.val g.val t.val) (fun n => at2 H (4096 * b.val + n) (2048 + (128 * g.val + d.val))) 0 t.val := by
  rw [val_main_v22_apply, val_main_v21_apply]
  have e : ∀ k : Fin 4096, val_main_v5 (F := Ideal) H (lidx_main_v21 (idx_main_v22 (ix4 b t g d)) k) * val_main_v20 (F := Ideal) H (ridx_main_v21 (idx_main_v22 (ix4 b t g d)) k)
      = (fun n => if n < t.val then ((Real.exp (score H b.val g.val t.val n - C (score H b.val g.val t.val) n t.val) : ℝ) : EReal) * at2 H (4096 * b.val + n) (2048 + (128 * g.val + d.val)) else 0) k.val := fun k => by
    have er : ridx_main_v21 (idx_main_v22 (ix4 b t g d)) k = ix4 b g t k := funext fun a => by
      match a with
      | ⟨0, _⟩ => rfl
      | ⟨1, _⟩ => rfl
      | ⟨2, _⟩ => rfl
      | ⟨3, _⟩ => rfl
    rw [er, weight_apply hH, v_apply]
    dsimp only
    by_cases h : k.val < t.val
    · rw [if_pos h, if_pos h, mul_comm]
      rfl
    · rw [if_neg h, if_neg h, mul_zero]
  rw [Finset.sum_congr rfl fun k _ => e k, Fin.sum_univ_eq_sum_range (fun n => if n < t.val then ((Real.exp (score H b.val g.val t.val n - C (score H b.val g.val t.val) n t.val) : ℝ) : EReal) * at2 H (4096 * b.val + n) (2048 + (128 * g.val + d.val)) else 0) 4096,
    ← Finset.sum_filter]
  unfold A
  refine Finset.sum_congr ?_ fun _ _ => rfl
  ext n
  simp only [Finset.mem_filter, Finset.mem_range, Finset.mem_Ico]
  omega

/-- The reference's result on the prompts' rows. -/
theorem result_apply (R : Fin 8448) (hR : R.val < 8192) (K : Fin 1024) : val_main_v25 (F := Ideal) H (ix2 R K) = attn H R.val K.val := by
  unfold val_main_v25
  rw [concatenate_pair_apply_left (s₁ := S8192x1024) (s₂ := S256x1024) (0 : Fin S8448x1024.rank) (val_main_v23 (F := Ideal) H) (val_main_v24 (F := Ideal))
    concatenates_S8192x1024_S256x1024_S8448x1024_d0 (ix2 R K) rfl (ix2 (⟨R.val, hR⟩ : Fin 8192) K) (fun a => by
      match a with
      | ⟨0, _⟩ => rfl
      | ⟨1, _⟩ => rfl), val_main_v23_apply]
  have e : idx_main_v23 (ix2 (⟨R.val, hR⟩ : Fin 8192) K) = ix4 (⟨R.val / 4096, by omega⟩ : Fin 2) (⟨R.val % 4096, by omega⟩ : Fin 4096) (⟨K.val / 128, by omega⟩ : Fin 8) (⟨K.val % 128, by omega⟩ : Fin 128) := funext fun a => Fin.ext (by
    match a with
    | ⟨0, _⟩ => show (R.val * 1024 + K.val) / 4194304 = R.val / 4096; omega
    | ⟨1, _⟩ => show (R.val * 1024 + K.val) / 1024 % 4096 = R.val % 4096; omega
    | ⟨2, _⟩ => show (R.val * 1024 + K.val) / 128 % 8 = K.val / 128; omega
    | ⟨3, _⟩ => show (R.val * 1024 + K.val) % 128 = K.val % 128; omega)
  rw [e, rows_apply hH]
  unfold attn
  dsimp only
  have h4 : 128 * (K.val / 128) + K.val % 128 = K.val := by omega
  rw [h4]

end Cert.AttentionRefIdeal.Read
end
-- ==== Proof.Attention.Claims.lean ====
module

public import proofs.«01_k».proof.Defs
public import proofs.«01_k».proof.Proof.Attention.Array
public import proofs.«01_k».proof.Proof.Attention.Reference
public import proofs.«01_k».proof.Proof.Gen.Attention.Frame
public import proofs.«01_k».proof.Proof.Gen.AttentionIdeal.Frame
public import proofs.«01_k».proof.Proof.Gen.AttentionIdeal.Value
public import proofs.«01_k».proof.Proof.Gen.AttentionRefIdeal.Run
public import proofs.«01_k».proof.Proof.Gen.Pre_finite
public import proofs.«01_k».proof.Proof.Gen.On_prompt_rows
public import Idealize.ShloMosaic.Adequacy
public import Idealize.ShloMosaic.Init

@[expose] public section

set_option maxRecDepth 16384

noncomputable section

namespace Cert.Proof.Attention

open Idealize.ShloMosaic Idealize.SL.Sem Cert.Sb Idealize.ShloMosaic.TcCoe

/-- The precondition, read entry by entry: the prompts' queries and keys are reals. -/
theorem reals_of_finite (H : SH.Idx → EReal) (h : Cert.Pre_finite.fn (F := Ideal) H = fun _ => 1#1) : Reals H := fun r c hr hc => by
  have e := congrFun h (ix2 (⟨r, hr⟩ : Fin 8192) (⟨c, hc⟩ : Fin 2048))
  have a2 := at2_eq H ⟨r, by omega⟩ ⟨c, by omega⟩
  dsimp only at a2
  have top : Ideal.ofBits .f32 0x7F800000#32 = ⊤ := by simp [Ideal.ofBits, Ideal.ieee]
  have e' : BitVec.ofBool (decide (max (H (ix2 (⟨r, by omega⟩ : Fin 8448) (⟨c, by omega⟩ : Fin 6272))) (-H (ix2 (⟨r, by omega⟩ : Fin 8448) (⟨c, by omega⟩ : Fin 6272))) < Ideal.ofBits .f32 0x7F800000#32)) = 1#1 := by
    refine Eq.trans ?_ e
    show _ = BitVec.ofBool (decide (max (H _) (-H _) < Ideal.ofBits .f32 0x7F800000#32))
    have ei : (ix2 (⟨r, by omega⟩ : Fin 8448) (⟨c, by omega⟩ : Fin 6272) : SH.Idx) = fun a => ⟨(![0, 0] : Fin 2 → ℕ) a + ((ix2 (⟨r, hr⟩ : Fin 8192) (⟨c, hc⟩ : Fin 2048) : (⟨2, ![8192, 2048]⟩ : Shape).Idx) a).val, by
        match a with
        | ⟨0, _⟩ => show 0 + r < 8448; omega
        | ⟨1, _⟩ => show 0 + c < 6272; omega⟩ := funext fun a => Fin.ext (by
      match a with
      | ⟨0, _⟩ => show r = 0 + r; omega
      | ⟨1, _⟩ => show c = 0 + c; omega)
    rw [ei]
    rfl
  rw [a2, top] at e'
  have lt : max (at2 H r c) (-at2 H r c) < ⊤ := by
    by_contra hn
    rw [decide_eq_false hn] at e'
    exact absurd e' (by decide)
  obtain ⟨l1, l2⟩ := max_lt_iff.1 lt
  refine ⟨(at2 H r c).toReal, (EReal.coe_toReal l1.ne fun hb => ?_).symm⟩
  rw [hb] at l2
  exact absurd l2 (by simp)

/-- The entries the claim compares: the prompts' rows. -/
theorem row_lt (H : SH.Idx → EReal) (R : Fin 8448) (K : Fin 1024) (h : Cert.On_prompt_rows.fn (F := Ideal) H (ix2 R K) = 1#1) : R.val < 8192 := by
  have e : IntOp.cmpi .slt (BitVec.ofNat 32 R.val) (BitVec.ofNat 32 8192) = 1#1 := h
  rw [WordCmp.cmpi_slt_ofNat (w := 32) (by omega) (by omega)] at e
  by_contra hn
  rw [decide_eq_false hn] at e
  exact absurd e (by decide)

theorem frame_p : Cert.quiescent_Attention := fun m ρ _ => Cert.Attention.Gen.frame m ρ
theorem frame_pi : Cert.quiescent_AttentionIdeal := fun m ρ _ => Cert.AttentionIdeal.Gen.frame m ρ
theorem frame_pi_finite : Cert.quiescent_AttentionIdeal_pre_finite := fun m ρ _ => Cert.AttentionIdeal.Gen.frame m ρ
theorem frame_ri : Cert.quiescent_AttentionRefIdeal := fun m ρ _ =>
  (θ_run Cert.AttentionRefIdeal.defs _ _).mono (fun r h => ⟨fun c => (h c).2, Idealize.ShloMosaic.sem_eq_zero_of_no_sems (by decide) r.2⟩)
    (Cert.AttentionRefIdeal.Value.run (F := Ideal) m ρ)
theorem frame_ri_finite : Cert.quiescent_AttentionRefIdeal_pre_finite := fun m ρ _ => frame_ri m ρ trivial

theorem preserves : Cert.preserves_Attention_AttentionIdeal := trivial

/-- The kernel's result array and the reference's agree on every prompt row. -/
theorem algebraic : Cert.algebraic_AttentionIdeal_AttentionRefIdeal_on_prompt_rows_pre_finite := by
  intro m ρ m' ρ' hpre hagree
  refine ⟨fun c i => attn (Cert.AttentionIdeal.Value.hmat m c) (i 0).val (i 1).val,
    (θ_run Cert.AttentionIdeal.defs _ _).mono (fun r h c => ⟨fun i hi => ?_, (h c).2⟩) (Cert.AttentionIdeal.Value.run_blocks (F := Ideal) m ρ),
    (θ_run Cert.AttentionRefIdeal.defs _ _).mono (fun r h c => ⟨fun i hi => ?_, (h c).2⟩) (Cert.AttentionRefIdeal.Value.run (F := Ideal) m' ρ')⟩
  · obtain ⟨R, K, rfl⟩ : ∃ (R : Fin 8448) (K : Fin 1024), i = ix2 R K := ⟨i 0, i 1, by funext a; match a with | ⟨0, _⟩ => rfl | ⟨1, _⟩ => rfl⟩
    exact (congrFun (h c).1 _).trans (Cert.AttentionIdeal.Value.arr_apply m c (reals_of_finite _ (hpre c)) R (row_lt _ R K hi) K)
  · obtain ⟨R, K, rfl⟩ : ∃ (R : Fin 8448) (K : Fin 1024), i = ix2 R K := ⟨i 0, i 1, by funext a; match a with | ⟨0, _⟩ => rfl | ⟨1, _⟩ => rfl⟩
    refine (congrFun (h c).1 _).trans ?_
    rw [Cert.AttentionRefIdeal.Read.val_main_v25_eq, hagree c]
    exact Cert.AttentionRefIdeal.Read.result_apply (reals_of_finite _ (hpre c)) R (row_lt _ R K hi) K

end Cert.Proof.Attention
end
-- ==== Proof.Projection.Spec.lean ====
module

public import Idealize.ShloMosaic.Lib.Pointwise
public import Idealize.ShloMosaic.PureOps.Ideal

@[expose] public section

noncomputable section

namespace Cert.Proj

open Idealize.ShloMosaic
open scoped BigOperators

abbrev SX : Shape := ⟨2, ![8448, 2048]⟩
abbrev SW : Shape := ⟨2, ![2048, 6160]⟩
abbrev SB : Shape := ⟨1, ![2048]⟩

/-- Column `c` of the hidden matrix takes this column of the weights: the attention's columns first, then the others, then zeros. -/
def wcol (W : SW.Idx → EReal) (d : Fin 2048) (c : ℕ) : EReal :=
  if h : c < 3072 then W (ix2 d ⟨3088 + c, by omega⟩) else if h : c < 6160 then W (ix2 d ⟨c - 3072, by omega⟩) else 0

/-- The bias of column `c`: only queries and keys have one. -/
def bcol (B : SB.Idx → EReal) (c : ℕ) : EReal := if h : c < 2048 then B (ix1 ⟨c, h⟩) else 0

/-- The hidden matrix. -/
def proj (X : SX.Idx → EReal) (W : SW.Idx → EReal) (B : SB.Idx → EReal) (r : Fin 8448) (c : ℕ) : EReal :=
  (∑ d : Fin 2048, X (ix2 r d) * wcol W d c) + bcol B c

end Cert.Proj
end
-- ==== Proof.Projection.Array.lean ====
module

public import proofs.«01_k».proof.Proof.Attention.Tile
public import proofs.«01_k».proof.Proof.Projection.Spec
public import proofs.«01_k».proof.Proof.Gen.ProjectionIdeal.Value
public import Idealize.ShloMosaic.Lib.Tactic
public import Idealize.ShloMosaic.Lib.StableHlo.ReadAt

@[expose] public section

set_option maxRecDepth 16384

noncomputable section

namespace Cert.ProjectionIdeal.Value

open Cert.ProjectionIdeal Cert.ProjectionIdeal.Gen Idealize.ShloMosaic Idealize.ShloMosaic.TcCoe Idealize.SL.Sem Cert.Proj
open Idealize.ShloMosaic.Pipeline (Dat)
open scoped BigOperators

section Body

variable {F : FTy → Type} [FloatOps F]

theorem zeros : (![0, 0] : Fin 2 → Nat) = fun _ => 0 := by
  funext a
  match a with
  | ⟨0, _⟩ => rfl
  | ⟨1, _⟩ => rfl

/-- The scratch array read after one store over all of it holds what was stored. -/
theorem read_whole (a : Memref sig .tc .vmem S768x2048 .bf16) (w : Vec F S768x2048 .bf16) :
    View.read (Elt F) a.view (a.view.writes (Elt F) a.view.junk [⟨Rect.unit ![0, 0] S768x2048.size inb_S768x2048_S768x2048_0_0, w⟩]) = w := by
  rw [View.read_writes_eq_canon _ _ _ fun y => ⟨_, List.mem_singleton_self _, View.mem_set_unit_zero zeros inb_S768x2048_S768x2048_0_0 y⟩,
    View.canon_unit_zero zeros]

variable (c : Dev nD) (i : grid0.Coords) (a2 : Memref sig .tc .vmem S768x2048 .f32) (h2 : a2.IsWhole) (a3 : Memref sig .tc .vmem S2048x896 .bf16) (h3 : a3.IsWhole) (a4 : Memref sig .tc .vmem S1x896 .f32) (h4 : a4.IsWhole) (a5 : Memref sig .tc .vmem S768x896 .f32) (h5 : a5.IsWhole) (a6 : Memref sig .tc .vmem S768x2048 .bf16) (h6 : a6.IsWhole)
  (x0 : Vec F S768x2048 .f32) (x1 : Vec F S2048x896 .bf16) (x2 : Vec F S1x896 .f32)

theorem soutA_eq (hc0 : cond0_0 i) : sout0_A_0 c i a2 h2 a3 h3 a4 h4 a5 h5 a6 h6 hc0 x0 x1 x2 = k0_pay1 x0 := by
  unfold sout0_A_0
  rw [View.read_writes_eq_canon _ _ _ (scover0_A_0 c i a2 h2 a3 h3 a4 h4 a5 h5 a6 h6 hc0 x0 x1 x2)]
  unfold kernelRun0_A
  dsimp only
  sl_unfold_words
  simp only [View.readAt_eq_ld, h2.read_unread, h3.read_unread, h4.read_unread]
  rw [View.canon_unit_zero zeros, View.ld_unit_zero zeros]

theorem outA_eq (hc0 : cond0_0 i) : out0_A_3 c i a2 h2 a3 h3 a4 h4 a5 h5 a6 h6 hc0 x0 x1 x2 = k0_pay2 (k0_pay1 x0) x1 x2 := by
  unfold out0_A_3
  rw [View.read_writes_eq_canon _ _ _ (cover0_A_3 c i a2 h2 a3 h3 a4 h4 a5 h5 a6 h6 hc0 x0 x1 x2)]
  unfold kernelRun0_A
  dsimp only
  sl_unfold_words
  simp only [View.readAt_eq_ld, h2.read_unread, h3.read_unread, h4.read_unread, read_whole]
  rw [View.canon_unit_zero zeros, View.readCov_cons_toLoadRect, View.ld_unit_zero zeros, View.ld_unit_zero zeros, View.ld_unit_zero zeros]

theorem outB_eq (hc0 : ¬cond0_0 i) (s : Vec F S768x2048 .bf16) : out0_B_3 c i a2 h2 a3 h3 a4 h4 a5 h5 a6 h6 hc0 x0 x1 x2 s = k0_pay2 s x1 x2 := by
  unfold out0_B_3
  rw [View.read_writes_eq_canon _ _ _ (cover0_B_3 c i a2 h2 a3 h3 a4 h4 a5 h5 a6 h6 hc0 x0 x1 x2 s)]
  unfold kernelRun0_B
  dsimp only
  sl_unfold_words
  simp only [View.readAt_eq_ld, h2.read_unread, h3.read_unread, h4.read_unread, h6.read_unread]
  rw [View.canon_unit_zero zeros, View.ld_unit_zero zeros, View.ld_unit_zero zeros, View.ld_unit_zero zeros]

end Body

theorem index0_0 : ∀ t : Fin cfg0.N, win0_0.index t 0 = t.val / 7 := (by decide +kernel : ∀ t : Fin grid0.N, win0_0.index t 0 = t.val / 7)
theorem index0_1 : ∀ t : Fin cfg0.N, win0_0.index t 1 = 0 := (by decide +kernel : ∀ t : Fin grid0.N, win0_0.index t 1 = 0)
theorem index1_0 : ∀ t : Fin cfg0.N, win0_1.index t 0 = 0 := (by decide +kernel : ∀ t : Fin grid0.N, win0_1.index t 0 = 0)
theorem index1_1 : ∀ t : Fin cfg0.N, win0_1.index t 1 = t.val % 7 := (by decide +kernel : ∀ t : Fin grid0.N, win0_1.index t 1 = t.val % 7)
theorem index2_0 : ∀ t : Fin cfg0.N, win0_2.index t 0 = 0 := (by decide +kernel : ∀ t : Fin grid0.N, win0_2.index t 0 = 0)
theorem index2_1 : ∀ t : Fin cfg0.N, win0_2.index t 1 = t.val % 7 := (by decide +kernel : ∀ t : Fin grid0.N, win0_2.index t 1 = t.val % 7)
theorem index3_0 : ∀ t : Fin cfg0.N, win0_3.index t 0 = t.val / 7 := (by decide +kernel : ∀ t : Fin grid0.N, win0_3.index t 0 = t.val / 7)
theorem index3_1 : ∀ t : Fin cfg0.N, win0_3.index t 1 = t.val % 7 := (by decide +kernel : ∀ t : Fin grid0.N, win0_3.index t 1 = t.val % 7)

variable (m : (ℓ : Loc nD τ sig) → Buf (Elt Ideal) ℓ)

abbrev xmat (c : Dev nD) : SX.Idx → EReal := m ((c : Thread nD τ).loc main_arg0)
abbrev wmat (c : Dev nD) : SW.Idx → EReal := m ((c : Thread nD τ).loc main_arg1)
abbrev bvec (c : Dev nD) : SB.Idx → EReal := m ((c : Thread nD τ).loc main_arg2)

/-- The weights and the bias as the host code lays them out. -/
abbrev wall (c : Dev nD) : S2048x6272.Idx → EReal := V m c main_v9
abbrev ball (c : Dev nD) : S1x6272.Idx → EReal := V m c main_v12

/-- The blocks a grid point reads. -/
abbrev xblk (c : Dev nD) (t : Fin cfg0.N) : FVec Ideal S768x2048 .f32 := iblk m c 0 t
abbrev wblk (c : Dev nD) (t : Fin cfg0.N) : FVec Ideal S2048x896 .bf16 := iblk m c 1 t
abbrev bblk (c : Dev nD) (t : Fin cfg0.N) : FVec Ideal S1x896 .f32 := iblk m c 2 t

theorem x_apply (c : Dev nD) (t : Fin cfg0.N) (r : Fin 768) (d : Fin 2048) (R : Fin 8448) (hR : R.val = t.val / 7 * 768 + r.val) :
    xblk m c t (ix2 r d) = xmat m c (ix2 R d) := by
  show V m c main_arg0 _ = _
  rw [V_main_arg0]
  refine congrArg (xmat m c) (funext fun a => Fin.ext ?_)
  match a with
  | ⟨0, _⟩ => show win0_0.index t 0 * 768 + 1 * r.val = R.val; rw [index0_0, hR, Nat.one_mul]
  | ⟨1, _⟩ => show win0_0.index t 1 * 2048 + 1 * d.val = d.val; rw [index0_1]; omega

theorem w_apply (c : Dev nD) (t : Fin cfg0.N) (d : Fin 2048) (e : Fin 896) (K : Fin 6272) (hK : K.val = t.val % 7 * 896 + e.val) :
    wblk m c t (ix2 d e) = wall m c (ix2 d K) := by
  show V m c main_v9 _ = _
  refine congrArg (wall m c) (funext fun a => Fin.ext ?_)
  match a with
  | ⟨0, _⟩ => show win0_1.index t 0 * 2048 + 1 * d.val = d.val; rw [index1_0]; omega
  | ⟨1, _⟩ => show win0_1.index t 1 * 896 + 1 * e.val = K.val; rw [index1_1, hK, Nat.one_mul]

theorem b_apply (c : Dev nD) (t : Fin cfg0.N) (z : Fin 1) (e : Fin 896) (K : Fin 6272) (hK : K.val = t.val % 7 * 896 + e.val) :
    bblk m c t (ix2 z e) = ball m c (ix2 z K) := by
  show V m c main_v12 _ = _
  refine congrArg (ball m c) (funext fun a => Fin.ext ?_)
  match a with
  | ⟨0, _⟩ => show win0_2.index t 0 * 1 + 1 * z.val = z.val; rw [index2_0]; omega
  | ⟨1, _⟩ => show win0_2.index t 1 * 896 + 1 * e.val = K.val; rw [index2_1, hK, Nat.one_mul]

/-- The block of activations is the same through a row of the grid. -/
theorem x_pred (c : Dev nD) (n : ℕ) (h : n + 1 < cfg0.N) (hn : ¬(n + 1) % 7 = 0) : xblk m c ⟨n + 1, h⟩ = xblk m c ⟨n, Nat.lt_of_succ_lt h⟩ := by
  have hN : n + 1 < 77 := lt_of_lt_of_eq h N_0
  have e1 : (n + 1) / 7 = n / 7 := by omega
  funext y
  obtain ⟨r, e, rfl⟩ : ∃ (r : Fin 768) (e : Fin 2048), y = ix2 r e := ⟨y 0, y 1, funext fun a => by match a with | ⟨0, _⟩ => rfl | ⟨1, _⟩ => rfl⟩
  have hR : n / 7 * 768 + r.val < 8448 := by omega
  exact (x_apply m c ⟨n + 1, h⟩ r e ⟨n / 7 * 768 + r.val, hR⟩ (congrArg (· * 768 + r.val) e1.symm)).trans (x_apply m c ⟨n, Nat.lt_of_succ_lt h⟩ r e ⟨n / 7 * 768 + r.val, hR⟩ rfl).symm

theorem scratch_first (c : Dev nD) (t : Fin cfg0.N) (h : t.val % 7 = 0) : (outsAt0 m c t.val t.isLt).2 = k0_pay1 (F := Ideal) (xblk m c t) := by
  rw [outsAt0_A m c t h, soutA_eq]

theorem scratch_later (c : Dev nD) (t : Fin cfg0.N) (h : ¬t.val % 7 = 0) :
    (outsAt0 m c t.val t.isLt).2 = (outsAt0 m c (t.val - 1) (Nat.lt_of_le_of_lt (Nat.sub_le _ _) t.isLt)).2 := by
  rw [outsAt0_B m c t h]
  rfl

/-- What the scratch array holds after a point: its rows of activations. -/
theorem scratch_eq (c : Dev nD) (n : ℕ) (hn : n < cfg0.N) : (outsAt0 m c n hn).2 = k0_pay1 (F := Ideal) (xblk m c ⟨n, hn⟩) := by
  induction n with
  | zero => exact scratch_first m c ⟨0, hn⟩ rfl
  | succ n ih =>
    by_cases h : (n + 1) % 7 = 0
    · exact scratch_first m c ⟨n + 1, hn⟩ h
    · rw [x_pred m c n hn h, ← ih (Nat.lt_of_succ_lt hn)]
      exact scratch_later m c ⟨n + 1, hn⟩ h

/-- The block every grid point writes back. -/
theorem flushed_eq (c : Dev nD) (t : Fin cfg0.N) :
    (dats m 0 c).flushed 3 t = (cfg0.win 3).cut (grid0.coords t) (k0_pay2 (F := Ideal) (k0_pay1 (F := Ideal) (xblk m c t)) (wblk m c t) (bblk m c t)) := by
  by_cases h : t.val % 7 = 0
  · rw [flushed3_A m c t h, outA_eq]
  · rw [flushed3_B m c t h, outB_eq]
    obtain ⟨n, hn⟩ := t
    match n, hn, h with
    | 0, _, h => exact absurd rfl h
    | n + 1, hn, h =>
      have S := scratch_eq m c n (Nat.lt_of_succ_lt hn)
      rw [← x_pred m c n hn h] at S
      show (cfg0.win 3).cut _ (k0_pay2 (F := Ideal) (outsAt0 m c n _).2 _ _) = _
      rw [S]

/-- The block's entries. -/
theorem block_apply (x : FVec Ideal S768x2048 .f32) (w : FVec Ideal S2048x896 .bf16) (b : FVec Ideal S1x896 .f32) (r : Fin 768) (e : Fin 896) :
    k0_pay2 (F := Ideal) (k0_pay1 (F := Ideal) x) w b (ix2 r e) = (∑ d : Fin 2048, x (ix2 r d) * w (ix2 d e)) + b (ix2 0 e) := by
  have e1 : k0_pay1 (F := Ideal) x = x := by
    unfold k0_pay1
    dsimp only
    rw [shapeCast_self]
    rfl
  rw [e1]
  unfold k0_pay2
  rw [shapeCast_self, shapeCast_self]
  show matmul (F := Ideal) dot_S768x2048_S2048x896_S768x896_1_0_0_1_n_n none x w (constant (F := Ideal) S768x896 .f32 0x00000000#32) (ix2 r e) + b _ = _
  refine congrArg₂ (· + ·) ?_ (congrArg b (funext fun a => Fin.ext ?_))
  · refine (Ideal.matmul_plain_apply (M := 768) (K := 2048) (N := 896) none x w (constant (F := Ideal) S768x896 .f32 0x00000000#32) r e).trans ?_
    exact (congrArg (· + _) Ideal.ofBits_zero_f32).trans (zero_add _)
  · match a with
    | ⟨0, _⟩ => rfl
    | ⟨1, _⟩ => rfl

/-- The result array over the weights and the bias as laid out. -/
theorem arr_apply (c : Dev nD) (R : Fin 8448) (K : Fin 6272) :
    (dats m 0 c).arrAt 3 cfg0.N (ix2 R K) = (∑ d : Fin 2048, xmat m c (ix2 R d) * wall m c (ix2 d K)) + ball m c (ix2 0 K) := by
  have hR := R.isLt
  have hK := K.isLt
  let t : Fin cfg0.N := ⟨R.val / 768 * 7 + K.val / 896, lt_of_lt_of_eq (by omega) N_0.symm⟩
  have ht : t.val = R.val / 768 * 7 + K.val / 896 := rfl
  have hb := congrFun ((blocks3 m c t (flush0_3 t)).trans (flushed_eq m c t)) (ix2 (⟨R.val % 768, by omega⟩ : Fin 768) (⟨K.val % 896, by omega⟩ : Fin 896))
  have he : ((cfg0.win 3).blk t).view.emb (ix2 (⟨R.val % 768, by omega⟩ : Fin 768) (⟨K.val % 896, by omega⟩ : Fin 896)) = ix2 R K := by
    funext a
    refine Fin.ext ?_
    match a with
    | ⟨0, _⟩ => show win0_3.index t 0 * 768 + 1 * (R.val % 768) = R.val; rw [index3_0]; omega
    | ⟨1, _⟩ => show win0_3.index t 1 * 896 + 1 * (K.val % 896) = K.val; rw [index3_1]; omega
  rw [← he]
  refine hb.trans ?_
  show k0_pay2 (F := Ideal) (k0_pay1 (F := Ideal) (xblk m c t)) (wblk m c t) (bblk m c t) (ix2 (⟨R.val % 768, by omega⟩ : Fin 768) (⟨K.val % 896, by omega⟩ : Fin 896)) = _
  rw [block_apply, b_apply m c t 0 _ K (by dsimp only; omega)]
  refine congrArg (· + _) (Finset.sum_congr rfl fun d _ => ?_)
  rw [x_apply m c t _ d R (by dsimp only; omega), w_apply m c t d _ K (by dsimp only; omega)]

end Cert.ProjectionIdeal.Value
end
-- ==== Proof.Projection.Layout.lean ====
module

public import proofs.«01_k».proof.Proof.Projection.Array

@[expose] public section

set_option maxRecDepth 16384

noncomputable section

namespace Cert.ProjectionIdeal.Value

open Cert.ProjectionIdeal Cert.ProjectionIdeal.Gen Idealize.ShloMosaic Idealize.ShloMosaic.TcCoe Idealize.SL.Sem Cert.Proj
open scoped BigOperators

variable (m : (ℓ : Loc nD τ sig) → Buf (Elt Ideal) ℓ)

/-- The pieces of the weights in the order the host code lays them. -/
abbrev pieces (W : SW.Idx → EReal) : List ((s : Shape) × (s.Idx → EReal)) :=
  [⟨S2048x1024, extractStridedSlice S2048x1024 ![0, 3088] W slices_S2048x6160_S2048x1024_0_3088⟩,
    ⟨S2048x1024, extractStridedSlice S2048x1024 ![0, 4112] W slices_S2048x6160_S2048x1024_0_4112⟩,
    ⟨S2048x1024, extractStridedSlice S2048x1024 ![0, 5136] W slices_S2048x6160_S2048x1024_0_5136⟩,
    ⟨S2048x1024, extractStridedSlice S2048x1024 ![0, 0] W slices_S2048x6160_S2048x1024_0_0⟩,
    ⟨S2048x1024, extractStridedSlice S2048x1024 ![0, 1024] W slices_S2048x6160_S2048x1024_0_1024⟩,
    ⟨S2048x1024, extractStridedSlice S2048x1024 ![0, 2048] W slices_S2048x6160_S2048x1024_0_2048⟩,
    ⟨S2048x16, extractStridedSlice S2048x16 ![0, 3072] W slices_S2048x6160_S2048x16_0_3072⟩,
    ⟨S2048x112, broadcastInDim S2048x112 ![] bcast_S_S2048x112 (constant (F := Ideal) S_ .f32 0x00000000#32)⟩]

theorem wall_eq (c : Dev nD) :
    wall m c = concatenate S2048x6272 1 (pieces (wmat m c)) concatenates_S2048x1024_S2048x1024_S2048x1024_S2048x1024_S2048x1024_S2048x1024_S2048x16_S2048x112_S2048x6272_d1 := by
  unfold wall V
  after_reads_simp
  rfl

theorem piece_apply (W : SW.Idx → EReal) (k : ℕ) (hk : k < (pieces W).length) (n : ℕ) (x : (⟨2, ![2048, n]⟩ : Shape).Idx → EReal) (hx : (pieces W)[k] = ⟨⟨2, ![2048, n]⟩, x⟩) (pre : ℕ)
    (hpre : ((((pieces W).take k).map (·.1)).map fun s => if h : s.rank = S2048x6272.rank then s.size ((1 : Fin S2048x6272.rank).cast h.symm) else 0).sum = pre)
    (r : Fin 2048) (c : Fin 6272) (e : Fin n) (he : pre + e.val = c.val) :
    concatenate S2048x6272 1 (pieces W) concatenates_S2048x1024_S2048x1024_S2048x1024_S2048x1024_S2048x1024_S2048x1024_S2048x16_S2048x112_S2048x6272_d1 (ix2 r c) = x (ix2 r e) :=
  concatenate_apply_piece (t := S2048x6272) 1 (pieces W) _ (ix2 r c) k hk _ x hx rfl pre hpre (ix2 r e) (fun b hb => by
    match b with
    | ⟨0, _⟩ => rfl
    | ⟨1, _⟩ => exact absurd rfl hb) he

/-- A slice of whole columns. -/
theorem slice_apply (W : SW.Idx → EReal) (n o : ℕ) (h : SW.Slices ![0, o] (⟨2, ![2048, n]⟩ : Shape)) (d : Fin 2048) (e : Fin n) (K : Fin 6160) (hK : K.val = o + e.val) :
    extractStridedSlice (⟨2, ![2048, n]⟩ : Shape) ![0, o] W h (ix2 d e) = W (ix2 d K) := by
  refine congrArg W (funext fun a => Fin.ext ?_)
  match a with
  | ⟨0, _⟩ => show 0 + d.val = d.val; omega
  | ⟨1, _⟩ => exact hK.symm

theorem wall_apply (c : Dev nD) (d : Fin 2048) (K : Fin 6272) : wall m c (ix2 d K) = wcol (wmat m c) d K.val := by
  have hK := K.isLt
  rw [wall_eq]
  unfold wcol
  by_cases h1 : K.val < 1024
  · rw [piece_apply _ 0 (show 0 < 8 by omega) 1024 _ rfl 0 rfl d K ⟨K.val, h1⟩ (Nat.zero_add _), dif_pos (by omega)]
    exact slice_apply _ _ _ _ _ _ _ rfl
  by_cases h2 : K.val < 2048
  · rw [piece_apply _ 1 (show 1 < 8 by omega) 1024 _ rfl 1024 rfl d K ⟨K.val - 1024, by omega⟩ (by dsimp only; omega), dif_pos (by omega)]
    exact slice_apply _ _ _ _ _ _ _ (by dsimp only; omega)
  by_cases h3 : K.val < 3072
  · rw [piece_apply _ 2 (show 2 < 8 by omega) 1024 _ rfl 2048 rfl d K ⟨K.val - 2048, by omega⟩ (by dsimp only; omega), dif_pos (by omega)]
    exact slice_apply _ _ _ _ _ _ _ (by dsimp only; omega)
  rw [dif_neg h3]
  by_cases h4 : K.val < 4096
  · rw [piece_apply _ 3 (show 3 < 8 by omega) 1024 _ rfl 3072 rfl d K ⟨K.val - 3072, by omega⟩ (by dsimp only; omega), dif_pos (by omega)]
    exact slice_apply _ _ _ _ _ _ _ (by dsimp only; omega)
  by_cases h5 : K.val < 5120
  · rw [piece_apply _ 4 (show 4 < 8 by omega) 1024 _ rfl 4096 rfl d K ⟨K.val - 4096, by omega⟩ (by dsimp only; omega), dif_pos (by omega)]
    exact slice_apply _ _ _ _ _ _ _ (by dsimp only; omega)
  by_cases h6 : K.val < 6144
  · rw [piece_apply _ 5 (show 5 < 8 by omega) 1024 _ rfl 5120 rfl d K ⟨K.val - 5120, by omega⟩ (by dsimp only; omega), dif_pos (by omega)]
    exact slice_apply _ _ _ _ _ _ _ (by dsimp only; omega)
  by_cases h7 : K.val < 6160
  · rw [piece_apply _ 6 (show 6 < 8 by omega) 16 _ rfl 6144 rfl d K ⟨K.val - 6144, by omega⟩ (by dsimp only; omega), dif_pos h7]
    exact slice_apply _ _ _ _ _ _ _ (by dsimp only; omega)
  · rw [piece_apply _ 7 (show 7 < 8 by omega) 112 _ rfl 6160 rfl d K ⟨K.val - 6160, by omega⟩ (by dsimp only; omega), dif_neg h7]
    exact Ideal.ofBits_zero_f32

theorem ball_apply (c : Dev nD) (K : Fin 6272) : ball m c (ix2 0 K) = bcol (bvec m c) K.val := by
  unfold ball V
  after_reads_at
  unfold bcol
  split
  · rfl
  · exact Ideal.ofBits_zero_f32

/-- The kernel's result array. -/
theorem result_apply (c : Dev nD) (R : Fin 8448) (K : Fin 6272) :
    (dats m 0 c).arrAt 3 cfg0.N (ix2 R K) = proj (xmat m c) (wmat m c) (bvec m c) R K.val := by
  rw [arr_apply, ball_apply]
  exact congrArg (· + _) (Finset.sum_congr rfl fun d _ => congrArg (_ * ·) (wall_apply m c d K))

end Cert.ProjectionIdeal.Value
end
-- ==== Proof.Projection.Reference.lean ====
module

public import proofs.«01_k».proof.Proof.Projection.Spec
public import proofs.«01_k».proof.Proof.Gen.ProjectionRefIdeal.Read
public import Idealize.ShloMosaic.Lib.Pipeline.Value

@[expose] public section

set_option maxRecDepth 16384

noncomputable section

namespace Cert.ProjectionRefIdeal.Read

open Cert.ProjectionRefIdeal Cert.ProjectionRefIdeal.Gen Idealize.ShloMosaic Idealize.ShloMosaic.TcCoe Cert.Proj
open scoped BigOperators

variable (X : SX.Idx → EReal) (W : SW.Idx → EReal) (B : SB.Idx → EReal)

theorem product_apply (r : Fin 8448) (e : Fin 6160) (i : S8448x6160.Idx) (h0 : (i 0).val = r.val) (h1 : (i 1).val = e.val) :
    val_main_v0 (F := Ideal) X W i = ∑ d : Fin 2048, X (ix2 r d) * W (ix2 d e) := by
  rw [val_main_v0_apply]
  refine Finset.sum_congr rfl fun d _ => congrArg₂ (· * ·) (congrArg X (funext fun a => Fin.ext ?_)) (congrArg W (funext fun a => Fin.ext ?_))
  · match a with
    | ⟨0, _⟩ => exact h0
    | ⟨1, _⟩ => rfl
  · match a with
    | ⟨0, _⟩ => rfl
    | ⟨1, _⟩ => exact h1

/-- The pieces the reference lays side by side. -/
abbrev pieces : List ((s : Shape) × (s.Idx → EReal)) :=
  [⟨S8448x1024, val_main_v9 (F := Ideal) X W B⟩, ⟨S8448x1024, val_main_v13 (F := Ideal) X W B⟩, ⟨S8448x1024, val_main_v5 (F := Ideal) X W⟩,
    ⟨S8448x3072, val_main_v1 (F := Ideal) X W⟩, ⟨S8448x16, val_main_v2 (F := Ideal) X W⟩, ⟨S8448x112, val_main_v14 (F := Ideal)⟩]

theorem piece_apply (k : ℕ) (hk : k < (pieces X W B).length) (n : ℕ) (x : (⟨2, ![8448, n]⟩ : Shape).Idx → EReal) (hx : (pieces X W B)[k] = ⟨⟨2, ![8448, n]⟩, x⟩) (pre : ℕ)
    (hpre : ((((pieces X W B).take k).map (·.1)).map fun s => if h : s.rank = S8448x6272.rank then s.size ((1 : Fin S8448x6272.rank).cast h.symm) else 0).sum = pre)
    (r : Fin 8448) (c : Fin 6272) (e : Fin n) (he : pre + e.val = c.val) :
    val_main_v15 (F := Ideal) X W B (ix2 r c) = x (ix2 r e) :=
  concatenate_apply_piece (t := S8448x6272) 1 (pieces X W B) _ (ix2 r c) k hk _ x hx rfl pre hpre (ix2 r e) (fun b hb => by
    match b with
    | ⟨0, _⟩ => rfl
    | ⟨1, _⟩ => exact absurd rfl hb) he

/-- The reference's hidden matrix. -/
theorem result_apply (r : Fin 8448) (c : Fin 6272) : val_main_v15 (F := Ideal) X W B (ix2 r c) = proj X W B r c.val := by
  have hc := c.isLt
  unfold proj wcol bcol
  by_cases h1 : c.val < 1024
  · rw [piece_apply X W B 0 (show 0 < 6 by omega) 1024 _ rfl 0 rfl r c ⟨c.val, h1⟩ (by simp), val_main_v9_apply, val_main_v3_apply, val_main_v8_apply, val_main_v7_apply, val_main_v6_apply,
      product_apply X W r ⟨3088 + c.val, by omega⟩ _ rfl rfl]
    simp only [dif_pos (show c.val < 3072 by omega), dif_pos (show c.val < 2048 by omega)]
    refine congrArg _ (congrArg B (funext fun a => Fin.ext ?_))
    match a with
    | ⟨0, _⟩ => rfl
  by_cases h2 : c.val < 2048
  · rw [piece_apply X W B 1 (show 1 < 6 by omega) 1024 _ rfl 1024 rfl r c ⟨c.val - 1024, by omega⟩ (by dsimp only; omega), val_main_v13_apply, val_main_v4_apply, val_main_v12_apply, val_main_v11_apply, val_main_v10_apply,
      product_apply X W r ⟨3088 + c.val, by omega⟩ _ rfl (by show 4112 + (c.val - 1024) = 3088 + c.val; omega)]
    simp only [dif_pos (show c.val < 3072 by omega), dif_pos h2]
    refine congrArg _ (congrArg B (funext fun a => Fin.ext ?_))
    match a with
    | ⟨0, _⟩ => show 1024 + (c.val - 1024) = c.val; omega
  simp only [dif_neg h2, add_zero]
  by_cases h3 : c.val < 3072
  · rw [piece_apply X W B 2 (show 2 < 6 by omega) 1024 _ rfl 2048 rfl r c ⟨c.val - 2048, by omega⟩ (by dsimp only; omega), val_main_v5_apply,
      product_apply X W r ⟨3088 + c.val, by omega⟩ _ rfl (by show 5136 + (c.val - 2048) = 3088 + c.val; omega)]
    simp only [dif_pos h3]
  simp only [dif_neg h3]
  by_cases h4 : c.val < 6144
  · rw [piece_apply X W B 3 (show 3 < 6 by omega) 3072 _ rfl 3072 rfl r c ⟨c.val - 3072, by omega⟩ (by dsimp only; omega), val_main_v1_apply,
      product_apply X W r ⟨c.val - 3072, by omega⟩ _ rfl rfl]
    simp only [dif_pos (show c.val < 6160 by omega)]
  by_cases h5 : c.val < 6160
  · rw [piece_apply X W B 4 (show 4 < 6 by omega) 16 _ rfl 6144 rfl r c ⟨c.val - 6144, by omega⟩ (by dsimp only; omega), val_main_v2_apply,
      product_apply X W r ⟨c.val - 3072, by omega⟩ _ rfl (by show 3072 + (c.val - 6144) = c.val - 3072; omega)]
    simp only [dif_pos h5]
  · rw [piece_apply X W B 5 (show 5 < 6 by omega) 112 _ rfl 6160 rfl r c ⟨c.val - 6160, by omega⟩ (by dsimp only; omega), val_main_v14_apply, val_main_cst_apply]
    simp only [dif_neg h5, mul_zero, Finset.sum_const_zero]
    simp

end Cert.ProjectionRefIdeal.Read
end
-- ==== Proof.Projection.Claims.lean ====
module

public import proofs.«01_k».proof.Proof.Projection.Layout
public import proofs.«01_k».proof.Proof.Projection.Reference
public import proofs.«01_k».proof.Proof.Gen.Projection.Frame
public import proofs.«01_k».proof.Proof.Gen.ProjectionRefIdeal.Run
public import proofs.«01_k».proof.Defs

@[expose] public section

set_option maxRecDepth 16384

noncomputable section

namespace Cert.Proof.Projection

open Idealize.ShloMosaic Idealize.SL.Sem Cert.Proj Idealize.ShloMosaic.TcCoe

theorem frame_p : Cert.quiescent_Projection := fun m ρ _ => Cert.Projection.Gen.frame m ρ
theorem frame_pi : Cert.quiescent_ProjectionIdeal := fun m ρ _ => Cert.ProjectionIdeal.Gen.frame m ρ
theorem frame_ri : Cert.quiescent_ProjectionRefIdeal := fun m ρ _ =>
  (θ_run Cert.ProjectionRefIdeal.defs _ _).mono (fun r h => ⟨fun c => (h c).2, Idealize.ShloMosaic.sem_eq_zero_of_no_sems (by decide) r.2⟩)
    (Cert.ProjectionRefIdeal.Value.run (F := Ideal) m ρ)

theorem preserves : Cert.preserves_Projection_ProjectionIdeal := trivial

/-- The kernel's result array and the reference's agree everywhere. -/
theorem algebraic : Cert.algebraic_ProjectionIdeal_ProjectionRefIdeal := by
  intro m ρ m' ρ' hpre hagree
  refine ⟨fun c i => proj (Cert.ProjectionIdeal.Value.xmat m c) (Cert.ProjectionIdeal.Value.wmat m c) (Cert.ProjectionIdeal.Value.bvec m c) (i 0) (i 1).val,
    (θ_run Cert.ProjectionIdeal.defs _ _).mono (fun r h c => ⟨(h c).1.trans (funext fun i => ?_), (h c).2⟩) (Cert.ProjectionIdeal.Value.run_blocks (F := Ideal) m ρ),
    (θ_run Cert.ProjectionRefIdeal.defs _ _).mono (fun r h c => ⟨(h c).1.trans (funext fun i => ?_), (h c).2⟩) (Cert.ProjectionRefIdeal.Value.run (F := Ideal) m' ρ')⟩
  · obtain ⟨R, K, rfl⟩ : ∃ (R : Fin 8448) (K : Fin 6272), i = ix2 R K := ⟨i 0, i 1, by funext a; match a with | ⟨0, _⟩ => rfl | ⟨1, _⟩ => rfl⟩
    exact Cert.ProjectionIdeal.Value.result_apply m c R K
  · obtain ⟨R, K, rfl⟩ : ∃ (R : Fin 8448) (K : Fin 6272), i = ix2 R K := ⟨i 0, i 1, by funext a; match a with | ⟨0, _⟩ => rfl | ⟨1, _⟩ => rfl⟩
    rw [Cert.ProjectionRefIdeal.Read.val_main_v15_eq, (hagree c).1, (hagree c).2.1, (hagree c).2.2]
    exact Cert.ProjectionRefIdeal.Read.result_apply _ _ _ R K

end Cert.Proof.Projection
end
-- ==== Proof.lean ====
module

public import proofs.«01_k».proof.Defs
public import proofs.«01_k».proof.Proof.Experts.Claims0
public import proofs.«01_k».proof.Proof.Experts.Claims1
public import proofs.«01_k».proof.Proof.Experts.Claims2
public import proofs.«01_k».proof.Proof.Experts.Claims3
public import proofs.«01_k».proof.Proof.OutProj.Claims
public import proofs.«01_k».proof.Proof.Router.Claims
public import proofs.«01_k».proof.Proof.RowsCopy.Claims
public import proofs.«01_k».proof.Proof.Gen.RowsCopy.Frame
public import proofs.«01_k».proof.Proof.Gen.On_written_rows
public import proofs.«01_k».proof.Proof.Gen.RowsCopyIdeal.Frame
public import proofs.«01_k».proof.Proof.Gen.RowsCopyRefIdeal.Run
public import proofs.«01_k».proof.Proof.Gen.RowsCopyRefIdeal.Read
public import proofs.«01_k».proof.Proof.Gen.Router.Frame
public import proofs.«01_k».proof.Proof.Gen.RouterIdeal.Frame
public import proofs.«01_k».proof.Proof.Gen.RouterRefIdeal.Run
public import proofs.«01_k».proof.Proof.Gen.RouterRefIdeal.Read
public import proofs.«01_k».proof.Proof.Gen.Pre_finite_rows
public import proofs.«01_k».proof.Proof.Gen.Experts
public import proofs.«01_k».proof.Proof.Gen.ExpertsIdeal
public import proofs.«01_k».proof.Proof.Gen.ExpertsRefIdeal
public import proofs.«01_k».proof.Proof.Gen.Experts1
public import proofs.«01_k».proof.Proof.Gen.Experts1Ideal
public import proofs.«01_k».proof.Proof.Gen.Experts1RefIdeal
public import proofs.«01_k».proof.Proof.Gen.Experts1RefIdeal.Run
public import proofs.«01_k».proof.Proof.Gen.Experts1RefIdeal.Read
public import proofs.«01_k».proof.Proof.Gen.Experts2
public import proofs.«01_k».proof.Proof.Gen.Experts2Ideal
public import proofs.«01_k».proof.Proof.Gen.Experts2RefIdeal
public import proofs.«01_k».proof.Proof.Gen.Experts2RefIdeal.Run
public import proofs.«01_k».proof.Proof.Gen.Experts2RefIdeal.Read
public import proofs.«01_k».proof.Proof.Gen.Experts3
public import proofs.«01_k».proof.Proof.Gen.Experts3Ideal
public import proofs.«01_k».proof.Proof.Gen.Experts3RefIdeal
public import proofs.«01_k».proof.Proof.Gen.Experts3RefIdeal.Run
public import proofs.«01_k».proof.Proof.Gen.Experts3RefIdeal.Read
public import proofs.«01_k».proof.Proof.Gen.Pre_schedule
public import proofs.«01_k».proof.Proof.Gen.On_used_rows
public import proofs.«01_k».proof.Proof.Gen.AttentionIdeal.Value
public import proofs.«01_k».proof.Proof.Gen.AttentionRefIdeal.Run
public import proofs.«01_k».proof.Proof.Gen.AttentionRefIdeal.Read
public import proofs.«01_k».proof.Proof.Gen.Attention.Frame
public import proofs.«01_k».proof.Proof.Gen.Attention
public import proofs.«01_k».proof.Proof.Gen.Attention.Skeleton
public import proofs.«01_k».proof.Proof.Gen.Attention.Loops
public import proofs.«01_k».proof.Proof.Gen.Attention.Launch
public import proofs.«01_k».proof.Proof.Gen.Attention.Points
public import proofs.«01_k».proof.Proof.Gen.Attention.Frame
public import proofs.«01_k».proof.Proof.Gen.AttentionIdeal
public import proofs.«01_k».proof.Proof.Gen.AttentionIdeal.Skeleton
public import proofs.«01_k».proof.Proof.Gen.AttentionIdeal.Loops
public import proofs.«01_k».proof.Proof.Gen.AttentionIdeal.Launch
public import proofs.«01_k».proof.Proof.Gen.AttentionIdeal.Points
public import proofs.«01_k».proof.Proof.Gen.AttentionIdeal.Frame
public import proofs.«01_k».proof.Proof.Gen.AttentionRefIdeal
public import proofs.«01_k».proof.Proof.Gen.Pre_finite
public import proofs.«01_k».proof.Proof.Gen.On_prompt_rows
public import proofs.«01_k».proof.Proof.Attention.Claims
public import proofs.«01_k».proof.Proof.Projection.Claims
public import proofs.«01_k».proof.Proof.Gen.OutProj.Frame
public import proofs.«01_k».proof.Proof.Gen.OutProj
public import proofs.«01_k».proof.Proof.Gen.OutProjIdeal
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Projection.Frame
public import proofs.«01_k».proof.Proof.Gen.ProjectionIdeal.Value
public import proofs.«01_k».proof.Proof.Gen.ProjectionRefIdeal.Run
public import proofs.«01_k».proof.Proof.Gen.ProjectionRefIdeal.Read
public import Idealize.ShloMosaic.Adequacy
public import Idealize.ShloMosaic.Init

@[expose] public section

noncomputable section

namespace Cert.Proof

open Idealize.ShloMosaic Idealize.SL.Sem Cert.Attention

theorem claim : Cert.Claim := ⟨Cert.Attention.Gen.facts, Cert.AttentionIdeal.Gen.facts, Cert.AttentionRefIdeal.Gen.facts,
  Cert.Projection.Gen.facts, Cert.ProjectionIdeal.Gen.facts, Cert.ProjectionRefIdeal.Gen.facts,
  Cert.Experts.Gen.facts, Cert.ExpertsIdeal.Gen.facts, Cert.ExpertsRefIdeal.Gen.facts,
  Cert.Experts1.Gen.facts, Cert.Experts1Ideal.Gen.facts, Cert.Experts1RefIdeal.Gen.facts,
  Cert.Experts2.Gen.facts, Cert.Experts2Ideal.Gen.facts, Cert.Experts2RefIdeal.Gen.facts,
  Cert.Experts3.Gen.facts, Cert.Experts3Ideal.Gen.facts, Cert.Experts3RefIdeal.Gen.facts,
  Cert.OutProj.Gen.facts, Cert.OutProjIdeal.Gen.facts, Cert.OutProjRefIdeal.Gen.facts,
  Cert.Router.Gen.facts, Cert.RouterIdeal.Gen.facts, Cert.RouterRefIdeal.Gen.facts,
  Cert.RowsCopy.Gen.facts, Cert.RowsCopyIdeal.Gen.facts, Cert.RowsCopyRefIdeal.Gen.facts,
  Cert.Pre_finite.Gen.facts, Cert.Pre_schedule.Gen.facts, Cert.Pre_finite_rows.Gen.facts, Cert.On_prompt_rows.Gen.facts, Cert.On_used_rows.Gen.facts, Cert.On_written_rows.Gen.facts,
  Attention.frame_p, Attention.frame_pi, Attention.frame_pi_finite, Attention.frame_ri, Attention.frame_ri_finite,
  Projection.frame_p, Projection.frame_pi, Projection.frame_ri,
  Proof.Experts.L0.frame_p, Proof.Experts.L0.frame_pi, Proof.Experts.L0.frame_ri, Proof.Experts.L0.frame_ri_schedule,
  Proof.Experts.L1.frame_p, Proof.Experts.L1.frame_pi, Proof.Experts.L1.frame_ri, Proof.Experts.L1.frame_ri_schedule,
  Proof.Experts.L2.frame_p, Proof.Experts.L2.frame_pi, Proof.Experts.L2.frame_ri, Proof.Experts.L2.frame_ri_schedule,
  Proof.Experts.L3.frame_p, Proof.Experts.L3.frame_pi, Proof.Experts.L3.frame_ri, Proof.Experts.L3.frame_ri_schedule,
  Proof.OutProj.frame_p, Proof.OutProj.frame_pi, Proof.OutProj.frame_ri,
  Proof.Router.frame_p, Proof.Router.frame_pi, Proof.Router.frame_pi_finite, Proof.Router.frame_ri, Proof.Router.frame_ri_finite,
  Proof.RowsCopy.frame_p, Proof.RowsCopy.frame_pi, Proof.RowsCopy.frame_ri,
  Attention.preserves, Attention.algebraic, Projection.preserves, Projection.algebraic,
  Proof.Experts.L0.preserves, Proof.Experts.L0.algebraic,
  Proof.Experts.L1.preserves, Proof.Experts.L1.algebraic,
  Proof.Experts.L2.preserves, Proof.Experts.L2.algebraic,
  Proof.Experts.L3.preserves, Proof.Experts.L3.algebraic,
  Proof.OutProj.preserves, Proof.OutProj.algebraic,
  Proof.Router.preserves, Proof.Router.algebraic,
  Proof.RowsCopy.preserves, Proof.RowsCopy.algebraic⟩

end Cert.Proof

end
